-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2.2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2.2.2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))).2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7))).1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7))).2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7))).1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v171) = v0 c
          ∧ r.2.mem ((c.tc : Thread Cert.Reference2Ideal.nD Cert.Reference2Ideal.τ).loc Cert.Reference2Ideal.main_v99) = v1 c
          ∧ r.2.mem ((c.tc : Thread Cert.Reference2Ideal.nD Cert.Reference2Ideal.τ).loc Cert.Reference2Ideal.main_v93) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)) (v1 : (c : Dev Cert.Kernel4Ideal.nD) → Buf (Elt Ideal) ((c.tc : Thread Cert.Kernel4Ideal.nD Cert.Kernel4Ideal.τ).loc Cert.Kernel4Ideal.main_v1_0)) (v2 : (c : Dev Cert.Kernel4Ideal.nD) → Buf (Elt Ideal) ((c.tc : Thread Cert.Kernel4Ideal.nD Cert.Kernel4Ideal.τ).loc Cert.Kernel4Ideal.main_v1_1)) (v3 : (c : Dev Cert.Kernel4Ideal.nD) → Buf (Elt Ideal) ((c.tc : Thread Cert.Kernel4Ideal.nD Cert.Kernel4Ideal.τ).loc Cert.Kernel4Ideal.main_v1_2)) (v4 : (c : Dev Cert.Kernel4Ideal.nD) → Buf (Elt Ideal) ((c.tc : Thread Cert.Kernel4Ideal.nD Cert.Kernel4Ideal.τ).loc Cert.Kernel4Ideal.main_v1_5)) (v5 : (c : Dev Cert.Kernel4Ideal.nD) → Buf (Elt Ideal) ((c.tc : Thread Cert.Kernel4Ideal.nD Cert.Kernel4Ideal.τ).loc Cert.Kernel4Ideal.main_v1_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_v1_0) = v1 c
          ∧ r.2.mem ((c.tc : Thread Cert.Kernel4Ideal.nD Cert.Kernel4Ideal.τ).loc Cert.Kernel4Ideal.main_v1_1) = v2 c
          ∧ r.2.mem ((c.tc : Thread Cert.Kernel4Ideal.nD Cert.Kernel4Ideal.τ).loc Cert.Kernel4Ideal.main_v1_2) = v3 c
          ∧ r.2.mem ((c.tc : Thread Cert.Kernel4Ideal.nD Cert.Kernel4Ideal.τ).loc Cert.Kernel4Ideal.main_v1_5) = v4 c
          ∧ r.2.mem ((c.tc : Thread Cert.Kernel4Ideal.nD Cert.Kernel4Ideal.τ).loc Cert.Kernel4Ideal.main_v1_4) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v105) = v2 c
          ∧ r.2.mem ((c.tc : Thread Cert.Reference4Ideal.nD Cert.Reference4Ideal.τ).loc Cert.Reference4Ideal.main_v106) = v3 c
          ∧ r.2.mem ((c.tc : Thread Cert.Reference4Ideal.nD Cert.Reference4Ideal.τ).loc Cert.Reference4Ideal.main_v103) = v4 c
          ∧ r.2.mem ((c.tc : Thread Cert.Reference4Ideal.nD Cert.Reference4Ideal.τ).loc Cert.Reference4Ideal.main_v107) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_v47) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v59) = v0 c
          ∧ r.2.mem ((c.tc : Thread Cert.Reference7Ideal.nD Cert.Reference7Ideal.τ).loc Cert.Reference7Ideal.main_v63) = v1 c
          ∧ r.2.mem ((c.tc : Thread Cert.Reference7Ideal.nD Cert.Reference7Ideal.τ).loc Cert.Reference7Ideal.main_v60) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v60) = v0 c
          ∧ r.2.mem ((c.tc : Thread Cert.Reference9Ideal.nD Cert.Reference9Ideal.τ).loc Cert.Reference9Ideal.main_v62) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v20) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v18) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v6_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6_2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v81) = v0 c
          ∧ r.2.mem ((c.tc : Thread Cert.Reference16Ideal.nD Cert.Reference16Ideal.τ).loc Cert.Reference16Ideal.main_v82) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  IdealRules.named_const.Statement Cert.Kernel19Ideal.κ "inv_bias1" .f32 0x3FC48605#32 (((5463681 / 8388608)⁻¹ : ℝ) : EReal)
  ∧ IdealRules.named_const.Statement Cert.Kernel19Ideal.κ "inv_bias2" .f32 0x42C8E6D3#32 (((2672307 / 268435456)⁻¹ : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)) (v3 : (c : Dev Cert.Kernel19Ideal.nD) → Buf (Elt Ideal) ((c.tc : Thread Cert.Kernel19Ideal.nD Cert.Kernel19Ideal.τ).loc Cert.Kernel19Ideal.main_v3_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_v3_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v14) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "inv_bias1" .f32 0x3FC48605#32 (((5463681 / 8388608)⁻¹ : ℝ) : EReal)
  ∧ IdealRules.named_const.Statement Cert.Kernel20Ideal.κ "inv_bias2" .f32 0x42C8E6D3#32 (((2672307 / 268435456)⁻¹ : ℝ) : EReal)

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)) (v4 : (c : Dev Cert.Kernel20Ideal.nD) → Buf (Elt Ideal) ((c.tc : Thread Cert.Kernel20Ideal.nD Cert.Kernel20Ideal.τ).loc Cert.Kernel20Ideal.main_v0_4)) (v5 : (c : Dev Cert.Kernel20Ideal.nD) → Buf (Elt Ideal) ((c.tc : Thread Cert.Kernel20Ideal.nD Cert.Kernel20Ideal.τ).loc Cert.Kernel20Ideal.main_v0_5)) (v6 : (c : Dev Cert.Kernel20Ideal.nD) → Buf (Elt Ideal) ((c.tc : Thread Cert.Kernel20Ideal.nD Cert.Kernel20Ideal.τ).loc Cert.Kernel20Ideal.main_v0_6)) (v7 : (c : Dev Cert.Kernel20Ideal.nD) → Buf (Elt Ideal) ((c.tc : Thread Cert.Kernel20Ideal.nD Cert.Kernel20Ideal.τ).loc Cert.Kernel20Ideal.main_v0_7)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_v0_4) = v4 c
          ∧ r.2.mem ((c.tc : Thread Cert.Kernel20Ideal.nD Cert.Kernel20Ideal.τ).loc Cert.Kernel20Ideal.main_v0_5) = v5 c
          ∧ r.2.mem ((c.tc : Thread Cert.Kernel20Ideal.nD Cert.Kernel20Ideal.τ).loc Cert.Kernel20Ideal.main_v0_6) = v6 c
          ∧ r.2.mem ((c.tc : Thread Cert.Kernel20Ideal.nD Cert.Kernel20Ideal.τ).loc Cert.Kernel20Ideal.main_v0_7) = v7 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v69) = v1 c
          ∧ r.2.mem ((c.tc : Thread Cert.Reference20Ideal.nD Cert.Reference20Ideal.τ).loc Cert.Reference20Ideal.main_v24) = v2 c
          ∧ r.2.mem ((c.tc : Thread Cert.Reference20Ideal.nD Cert.Reference20Ideal.τ).loc Cert.Reference20Ideal.main_v93) = v3 c
          ∧ r.2.mem ((c.tc : Thread Cert.Reference20Ideal.nD Cert.Reference20Ideal.τ).loc Cert.Reference20Ideal.main_v5) = v4 c
          ∧ r.2.mem ((c.tc : Thread Cert.Reference20Ideal.nD Cert.Reference20Ideal.τ).loc Cert.Reference20Ideal.main_v74) = v5 c
          ∧ r.2.mem ((c.tc : Thread Cert.Reference20Ideal.nD Cert.Reference20Ideal.τ).loc Cert.Reference20Ideal.main_v11) = v6 c
          ∧ r.2.mem ((c.tc : Thread Cert.Reference20Ideal.nD Cert.Reference20Ideal.τ).loc Cert.Reference20Ideal.main_v80) = v7 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite8 : Cert.Pre_finite8.Facts) (hPre_finite9 : Cert.Pre_finite9.Facts) (hPre_finite16 : Cert.Pre_finite16.Facts) (hPre_finite20 : Cert.Pre_finite20.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite16.lean ====
abbrev S8192x6656 : Shape := ⟨2, ![8192, 6656]⟩
abbrev S1x4x128x128 : Shape := ⟨4, ![1, 4, 128, 128]⟩
abbrev S1x512 : Shape := ⟨2, ![1, 512]⟩
abbrev S8192x512 : Shape := ⟨2, ![8192, 512]⟩
abbrev S_ : Shape := ⟨0, ![]⟩

class Facts : Prop where
  slices_S8192x6656_S8192x512_0_4096 : S8192x6656.Slices ![0, 4096] S8192x512
  bitsLt_bf16_f32 : FTy.bits .bf16 < FTy.bits .f32
  bcast_S_S8192x512 : S_.BroadcastsInDim S8192x512 (![] : Fin 0 → Fin S8192x512.rank)

variable [Facts]

def fn {F : FTy → Type} [FloatOps F] (main_arg0 : FVec F S8192x6656 .bf16) (main_arg1 : FVec F S1x4x128x128 .f32) (main_arg2 : FVec F S1x512 .f32) : IVec S8192x512 1 :=
  let main_v0 : FVec F S8192x512 .bf16 := (extractStridedSlice S8192x512 ![0, 4096] · slices_S8192x6656_S8192x512_0_4096) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  main_v4
-- ==== Pre_finite2.lean ====
abbrev S8192x512 : Shape := ⟨2, ![8192, 512]⟩
abbrev S8192x6656 : Shape := ⟨2, ![8192, 6656]⟩
abbrev S1x4x128x128 : Shape := ⟨4, ![1, 4, 128, 128]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  slices_S8192x6656_S8192x512_0_4096 : S8192x6656.Slices ![0, 4096] S8192x512
  bitsLt_bf16_f32 : FTy.bits .bf16 < FTy.bits .f32
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S8192x512 .f32) (main_arg1 : FVec F S8192x6656 .bf16) (main_arg2 : FVec F S1x4x128x128 .f32) (main_arg3 : FVec F S1x512 .f32) : IVec S8192x512 1 × IVec S8192x512 1 × IVec S1x4x128x128 1 × IVec S1x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .bf16 := (extractStridedSlice S8192x512 ![0, 4096] · slices_S8192x6656_S8192x512_0_4096) main_arg1
  let main_v4 : FVec F S8192x512 .f32 := (extf .f32 · bitsLt_bf16_f32) main_v3
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S1x4x128x128 .f32 := Host.absf main_arg2
  let main_cst_1 : FVec F S_ .f32 := constant S_ .f32 0x7F800000#32
  let main_v9 : FVec F S1x4x128x128 .f32 := broadcastInDim S1x4x128x128 ![] bcast_S_S1x4x128x128 main_cst_1
  let main_v10 : IVec S1x4x128x128 1 := cmpf .olt main_v8 main_v9
  let main_v11 : FVec F S1x512 .f32 := Host.absf main_arg3
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  (main_v2, main_v7, main_v10, main_v13)
-- ==== Pre_finite20.lean ====
abbrev S8x1x1024 : Shape := ⟨3, ![8, 1, 1024]⟩
abbrev S1x1024 : Shape := ⟨2, ![1, 1024]⟩
abbrev S2x1024 : Shape := ⟨2, ![2, 1024]⟩
abbrev S_ : Shape := ⟨0, ![]⟩

class Facts : Prop where
  bcast_S_S8x1x1024 : S_.BroadcastsInDim S8x1x1024 (![] : Fin 0 → Fin S8x1x1024.rank)
  bcast_S_S2x1024 : S_.BroadcastsInDim S2x1024 (![] : Fin 0 → Fin S2x1024.rank)

variable [Facts]

def fn {F : FTy → Type} [FloatOps F] (main_arg0 : FVec F S8x1x1024 .f32) (main_arg1 : FVec F S8x1x1024 .f32) (main_arg2 : FVec F S1x1024 .f32) (main_arg3 : FVec F S2x1024 .f32) (main_arg4 : FVec F S1x1024 .f32) (main_arg5 : FVec F S2x1024 .f32) (main_arg6 : FVec F S1x1024 .f32) (main_arg7 : FVec F S2x1024 .f32) : IVec S8x1x1024 1 × IVec S2x1024 1 :=
  let main_v0 : FVec F S8x1x1024 .f32 := Host.absf main_arg1
  let main_cst : FVec F S_ .f32 := constant S_ .f32 0x7F800000#32
  let main_v1 : FVec F S8x1x1024 .f32 := broadcastInDim S8x1x1024 ![] bcast_S_S8x1x1024 main_cst
  let main_v2 : IVec S8x1x1024 1 := cmpf .olt main_v0 main_v1
  let main_v3 : FVec F S2x1024 .f32 := Host.absf main_arg3
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  (main_v2, main_v5)
-- ==== Pre_finite3.lean ====
abbrev S8192x1024 : Shape := ⟨2, ![8192, 1024]⟩
abbrev S8192x6656 : Shape := ⟨2, ![8192, 6656]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  slices_S8192x6656_S8192x1024_0_3072 : S8192x6656.Slices ![0, 3072] S8192x1024
  bcast_S_S1x1024 : S_.BroadcastsInDim S1x1024 (![] : Fin 0 → Fin S1x1024.rank)

variable [Facts]

def fn {F : FTy → Type} [FloatOps F] (main_arg0 : FVec F S8192x1024 .bf16) (main_arg1 : FVec F S8192x1024 .bf16) (main_arg2 : FVec F S8192x6656 .bf16) (main_arg3 : FVec F S1x1024 .f32) : IVec S8192x1024 1 × IVec S8192x1024 1 × IVec S8192x1024 1 × IVec S1x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x1024 .bf16 := (extractStridedSlice S8192x1024 ![0, 3072] · slices_S8192x6656_S8192x1024_0_3072) main_arg2
  let main_v9 : FVec F S8192x1024 .f32 := (extf .f32 · bitsLt_bf16_f32) main_v8
  let main_v10 : FVec F S8192x1024 .f32 := Host.absf main_v9
  let main_cst_1 : FVec F S_ .f32 := constant S_ .f32 0x7F800000#32
  let main_v11 : FVec F S8192x1024 .f32 := broadcastInDim S8192x1024 ![] bcast_S_S8192x1024 main_cst_1
  let main_v12 : IVec S8192x1024 1 := cmpf .olt main_v10 main_v11
  let main_v13 : FVec F S1x1024 .f32 := Host.absf main_arg3
  let main_cst_2 : FVec F S_ .f32 := constant S_ .f32 0x7F800000#32
  let main_v14 : FVec F S1x1024 .f32 := broadcastInDim S1x1024 ![] bcast_S_S1x1024 main_cst_2
  let main_v15 : IVec S1x1024 1 := cmpf .olt main_v13 main_v14
  (main_v3, main_v7, main_v12, main_v15)
-- ==== Pre_finite4.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S1x1024 : S_.BroadcastsInDim S1x1024 (![] : Fin 0 → Fin S1x1024.rank)
  bcast_S_S1024 : S_.BroadcastsInDim S1024 (![] : Fin 0 → Fin S1024.rank)

variable [Facts]

def fn_part1 {F : FTy → Type} [FloatOps F] (main_v2 : IVec S8192x1024 1) (main_v6 : IVec S8192x1024 1) (main_v10 : IVec S8192x1024 1) (main_v13 : IVec S8192x1024 1) (main_v16 : IVec S1x1024 1) (main_v17 : FVec F S1024 .f32) (main_cst_4 : FVec F S_ .f32) : IVec S8192x1024 1 × IVec S8192x1024 1 × IVec S8192x1024 1 × IVec S8192x1024 1 × IVec S1x1024 1 × IVec S1024 1 :=
  let main_v18 : FVec F S1024 .f32 := broadcastInDim S1024 ![] bcast_S_S1024 main_cst_4
  let main_v19 : IVec S1024 1 := cmpf .olt main_v17 main_v18
  (main_v2, main_v6, main_v10, main_v13, main_v16, main_v19)

def fn {F : FTy → Type} [FloatOps F] (main_arg0 : FVec F S8192x1024 .f32) (main_arg1 : FVec F S8192x1024 .bf16) (main_arg2 : FVec F S8192x1024 .bf16) (main_arg3 : FVec F S8192x1024 .f32) (main_arg4 : FVec F S1x1024 .f32) (main_arg5 : FVec F S1024 .f32) : IVec S8192x1024 1 × IVec S8192x1024 1 × IVec S8192x1024 1 × IVec S8192x1024 1 × IVec S1x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extf .f32 · bitsLt_bf16_f32) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := (extf .f32 · bitsLt_bf16_f32) main_arg2
  let main_v8 : FVec F S8192x1024 .f32 := Host.absf main_v7
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1024 .f32 := Host.absf main_arg5
  let main_cst_4 : FVec F S_ .f32 := constant S_ .f32 0x7F800000#32
  fn_part1 (F := F) main_v2 main_v6 main_v10 main_v13 main_v16 main_v17 main_cst_4
-- ==== Pre_finite5.lean ====
abbrev S8192x1024 : Shape := ⟨2, ![8192, 1024]⟩
abbrev S1x1024x1024 : Shape := ⟨3, ![1, 1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S1x1024x1024 .f32) (main_arg2 : FVec F S8192x1024 .f32) (main_arg3 : FVec F S8192x1024 .f32) (main_arg4 : FVec F S1x1024 .f32) : IVec S8192x1024 1 × IVec S1x1024x1024 1 × IVec S8192x1024 1 × IVec S8192x1024 1 × IVec S1x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S8192x1024 .f32 := Host.absf main_arg3
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  (main_v3, main_v6, main_v9, main_v12, main_v15)
-- ==== Pre_finite6.lean ====
abbrev S8192x2816 : Shape := ⟨2, ![8192, 2816]⟩
abbrev S1x1024x2816 : Shape := ⟨3, ![1, 1024, 2816]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S1x1024x2816 : S_.BroadcastsInDim S1x1024x2816 (![] : Fin 0 → Fin S1x1024x2816.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S1x1024 .f32) (main_v3 : IVec S8192x2816 1) (main_v7 : IVec S8192x2816 1) (main_v10 : IVec S1x1024x2816 1) (main_v13 : IVec S1x1024x2816 1) (main_v16 : IVec S8192x1024 1) (main_v17 : FVec F S8192x1024 .f32) (main_cst_4 : FVec F S_ .f32) : IVec S8192x2816 1 × IVec S8192x2816 1 × IVec S1x1024x2816 1 × IVec S1x1024x2816 1 × IVec S8192x1024 1 × IVec S8192x1024 1 × IVec S1x1024 1 :=
  let main_v18 : FVec F S8192x1024 .f32 := broadcastInDim S8192x1024 ![] bcast_S_S8192x1024 main_cst_4
  let main_v19 : IVec S8192x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  (main_v3, main_v7, main_v10, main_v13, main_v16, main_v19, main_v22)

def fn {F : FTy → Type} [FloatOps F] (main_arg0 : FVec F S8192x2816 .bf16) (main_arg1 : FVec F S8192x2816 .bf16) (main_arg2 : FVec F S1x1024x2816 .f32) (main_arg3 : FVec F S1x1024x2816 .f32) (main_arg4 : FVec F S8192x1024 .f32) (main_arg5 : FVec F S8192x1024 .f32) (main_arg6 : FVec F S1x1024 .f32) : IVec S8192x2816 1 × IVec S8192x2816 1 × IVec S1x1024x2816 1 × IVec S1x1024x2816 1 × IVec S8192x1024 1 × IVec S8192x1024 1 × IVec S1x1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_v8 : FVec F S1x1024x2816 .f32 := Host.absf main_arg2
  let main_cst_1 : FVec F S_ .f32 := constant S_ .f32 0x7F800000#32
  let main_v9 : FVec F S1x1024x2816 .f32 := broadcastInDim S1x1024x2816 ![] bcast_S_S1x1024x2816 main_cst_1
  let main_v10 : IVec S1x1024x2816 1 := cmpf .olt main_v8 main_v9
  let main_v11 : FVec F S1x1024x2816 .f32 := Host.absf main_arg3
  let main_cst_2 : FVec F S_ .f32 := constant S_ .f32 0x7F800000#32
  let main_v12 : FVec F S1x1024x2816 .f32 := broadcastInDim S1x1024x2816 ![] bcast_S_S1x1024x2816 main_cst_2
  let main_v13 : IVec S1x1024x2816 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  let main_v17 : FVec F S8192x1024 .f32 := Host.absf main_arg5
  let main_cst_4 : FVec F S_ .f32 := constant S_ .f32 0x7F800000#32
  fn_part1 (F := F) main_arg6 main_v3 main_v7 main_v10 main_v13 main_v16 main_v17 main_cst_4
-- ==== Pre_finite7.lean ====
abbrev S8192x3072 : Shape := ⟨2, ![8192, 3072]⟩
abbrev S8192x1024 : Shape := ⟨2, ![8192, 1024]⟩
abbrev S8192x512 : Shape := ⟨2, ![8192, 512]⟩
abbrev S1x1024x6656 : Shape := ⟨3, ![1, 1024, 6656]⟩
abbrev S1x1024 : Shape := ⟨2, ![1, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1x1024x6656 : S_.BroadcastsInDim S1x1024x6656 (![] : Fin 0 → Fin S1x1024x6656.rank)
  bcast_S_S1x1024 : S_.BroadcastsInDim S1x1024 (![] : Fin 0 → Fin S1x1024.rank)

variable [Facts]

def fn_part1 {F : FTy → Type} [FloatOps F] (main_arg5 : FVec F S1x1024x6656 .f32) (main_arg6 : FVec F S8192x1024 .f32) (main_arg7 : FVec F S8192x1024 .f32) (main_arg8 : FVec F S1x1024 .f32) (main_v3 : IVec S8192x3072 1) (main_v7 : IVec S8192x1024 1) (main_v11 : IVec S8192x512 1) (main_v15 : IVec S8192x1024 1) (main_v17 : FVec F S8192x1024 .f32) (main_v18 : FVec F S8192x1024 .f32) : IVec S8192x3072 1 × IVec S8192x1024 1 × IVec S8192x512 1 × IVec S8192x1024 1 × IVec S8192x1024 1 × IVec S1x1024x6656 1 × IVec S8192x1024 1 × IVec S8192x1024 1 × IVec S1x1024 1 :=
  let main_v19 : IVec S8192x1024 1 := cmpf .olt main_v17 main_v18
  let main_v20 : FVec F S1x1024x6656 .f32 := Host.absf main_arg5
  let main_cst_4 : FVec F S_ .f32 := constant S_ .f32 0x7F800000#32
  let main_v21 : FVec F S1x1024x6656 .f32 := broadcastInDim S1x1024x6656 ![] bcast_S_S1x1024x6656 main_cst_4
  let main_v22 : IVec S1x1024x6656 1 := cmpf .olt main_v20 main_v21
  let main_v23 : FVec F S8192x1024 .f32 := Host.absf main_arg6
  let main_cst_5 : FVec F S_ .f32 := constant S_ .f32 0x7F800000#32
  let main_v24 : FVec F S8192x1024 .f32 := broadcastInDim S8192x1024 ![] bcast_S_S8192x1024 main_cst_5
  let main_v25 : IVec S8192x1024 1 := cmpf .olt main_v23 main_v24
  let main_v26 : FVec F S8192x1024 .f32 := Host.absf main_arg7
  let main_cst_6 : FVec F S_ .f32 := constant S_ .f32 0x7F800000#32
  let main_v27 : FVec F S8192x1024 .f32 := broadcastInDim S8192x1024 ![] bcast_S_S8192x1024 main_cst_6
  let main_v28 : IVec S8192x1024 1 := cmpf .olt main_v26 main_v27
  let main_v29 : FVec F S1x1024 .f32 := Host.absf main_arg8
  let main_cst_7 : FVec F S_ .f32 := constant S_ .f32 0x7F800000#32
  let main_v30 : FVec F S1x1024 .f32 := broadcastInDim S1x1024 ![] bcast_S_S1x1024 main_cst_7
  let main_v31 : IVec S1x1024 1 := cmpf .olt main_v29 main_v30
  (main_v3, main_v7, main_v11, main_v15, main_v19, main_v22, main_v25, main_v28, main_v31)

def fn {F : FTy → Type} [FloatOps F] (main_arg0 : FVec F S8192x3072 .bf16) (main_arg1 : FVec F S8192x1024 .bf16) (main_arg2 : FVec F S8192x512 .bf16) (main_arg3 : FVec F S8192x1024 .bf16) (main_arg4 : FVec F S8192x1024 .bf16) (main_arg5 : FVec F S1x1024x6656 .f32) (main_arg6 : FVec F S8192x1024 .f32) (main_arg7 : FVec F S8192x1024 .f32) (main_arg8 : FVec F S1x1024 .f32) : IVec S8192x3072 1 × IVec S8192x1024 1 × IVec S8192x512 1 × IVec S8192x1024 1 × IVec S8192x1024 1 × IVec S1x1024x6656 1 × IVec S8192x1024 1 × IVec S8192x1024 1 × IVec S1x1024 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x1024 .f32 := (extf .f32 · bitsLt_bf16_f32) main_arg3
  let main_v13 : FVec F S8192x1024 .f32 := Host.absf main_v12
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  let main_v16 : FVec F S8192x1024 .f32 := (extf .f32 · bitsLt_bf16_f32) main_arg4
  let main_v17 : FVec F S8192x1024 .f32 := Host.absf main_v16
  let main_cst_3 : FVec F S_ .f32 := constant S_ .f32 0x7F800000#32
  let main_v18 : FVec F S8192x1024 .f32 := broadcastInDim S8192x1024 ![] bcast_S_S8192x1024 main_cst_3
  fn_part1 (F := F) main_arg5 main_arg6 main_arg7 main_arg8 main_v3 main_v7 main_v11 main_v15 main_v17 main_v18
-- ==== Pre_finite8.lean ====
abbrev S8192x1024 : Shape := ⟨2, ![8192, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S8192x1024 .bf16) (main_arg1 : FVec F S1x1024x2816 .f32) (main_arg2 : FVec F S1x1024x2816 .f32) (main_arg3 : FVec F S1x2816x1024 .f32) (main_arg4 : FVec F S8192x1024 .bf16) : IVec S8192x1024 1 × IVec S1x1024x2816 1 × IVec S1x1024x2816 1 × IVec S1x2816x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1x1024x2816 .f32 := Host.absf main_arg1
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_v7 : FVec F S1x1024x2816 .f32 := Host.absf main_arg2
  let main_cst_1 : FVec F S_ .f32 := constant S_ .f32 0x7F800000#32
  let main_v8 : FVec F S1x1024x2816 .f32 := broadcastInDim S1x1024x2816 ![] bcast_S_S1x1024x2816 main_cst_1
  let main_v9 : IVec S1x1024x2816 1 := cmpf .olt main_v7 main_v8
  let main_v10 : FVec F S1x2816x1024 .f32 := Host.absf main_arg3
  let main_cst_2 : FVec F S_ .f32 := constant S_ .f32 0x7F800000#32
  let main_v11 : FVec F S1x2816x1024 .f32 := broadcastInDim S1x2816x1024 ![] bcast_S_S1x2816x1024 main_cst_2
  let main_v12 : IVec S1x2816x1024 1 := cmpf .olt main_v10 main_v11
  let main_v13 : FVec F S8192x1024 .f32 := (extf .f32 · bitsLt_bf16_f32) main_arg4
  let main_v14 : FVec F S8192x1024 .f32 := Host.absf main_v13
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v6, main_v9, main_v12, main_v16)
-- ==== Pre_finite9.lean ====
abbrev S8192x6656 : Shape := ⟨2, ![8192, 6656]⟩
abbrev S2x1024 : Shape := ⟨2, ![2, 1024]⟩
abbrev S8192x3072 : Shape := ⟨2, ![8192, 3072]⟩
abbrev S_ : Shape := ⟨0, ![]⟩

class Facts : Prop where
  slices_S8192x6656_S8192x3072_0_0 : S8192x6656.Slices ![0, 0] S8192x3072
  bitsLt_bf16_f32 : FTy.bits .bf16 < FTy.bits .f32
  bcast_S_S8192x3072 : S_.BroadcastsInDim S8192x3072 (![] : Fin 0 → Fin S8192x3072.rank)
  bcast_S_S2x1024 : S_.BroadcastsInDim S2x1024 (![] : Fin 0 → Fin S2x1024.rank)

variable [Facts]

def fn {F : FTy → Type} [FloatOps F] (main_arg0 : FVec F S8192x6656 .bf16) (main_arg1 : FVec F S2x1024 .f32) : IVec S8192x3072 1 × IVec S2x1024 1 :=
  let main_v0 : FVec F S8192x3072 .bf16 := (extractStridedSlice S8192x3072 ![0, 0] · slices_S8192x6656_S8192x3072_0_0) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_v5 : FVec F S2x1024 .f32 := Host.absf main_arg1
  let main_cst_0 : FVec F S_ .f32 := constant S_ .f32 0x7F800000#32
  let main_v6 : FVec F S2x1024 .f32 := broadcastInDim S2x1024 ![] bcast_S_S2x1024 main_cst_0
  let main_v7 : IVec S2x1024 1 := cmpf .olt main_v5 main_v6
  (main_v4, main_v7)
-- ==== Kernel.lean ====
abbrev S8192x1024 : Shape := ⟨2, ![8192, 1024]⟩
abbrev S8192x6656 : Shape := ⟨2, ![8192, 6656]⟩
abbrev S2048x512 : Shape := ⟨2, ![2048, 512]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x1024 : Shape := ⟨2, ![8192, 1024]⟩
abbrev S8192x6656 : Shape := ⟨2, ![8192, 6656]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x6656, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S8192x1024, .bf16⟩
  | .hbm, ⟨45, _⟩ => ⟨S8192x1024, .bf16⟩
  | .hbm, ⟨46, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel2.lean ====
abbrev S8192x512 : Shape := ⟨2, ![8192, 512]⟩
abbrev S8192x6656 : Shape := ⟨2, ![8192, 6656]⟩
abbrev S1x4x128x128 : Shape := ⟨4, ![1, 4, 128, 128]⟩
abbrev S1x512 : Shape := ⟨2, ![1, 512]⟩
abbrev S4x128x128 : Shape := ⟨3, ![4, 128, 128]⟩
abbrev S1024x512 : Shape := ⟨2, ![1024, 512]⟩
abbrev S16x512 : Shape := ⟨2, ![16, 512]⟩
abbrev S1040x512 : Shape := ⟨2, ![1040, 512]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16x128 : Shape := ⟨2, ![16, 128]⟩

abbrev nBuf : Space → Nat
  | .hbm => 11
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x6656, .bf16⟩
  | .hbm, ⟨2, _⟩ => ⟨S1x4x128x128, .f32⟩
  | .hbm, ⟨3, _⟩ => ⟨S1x512, .f32⟩
  | .hbm, ⟨4, _⟩ => ⟨S4x128x128, .f32⟩
  | .hbm, ⟨5, _⟩ => ⟨S8192x512, .bf16⟩
  | .hbm, ⟨6, _⟩ => ⟨S8192x512, .bf16⟩
  | .hbm, ⟨7, _⟩ => ⟨S4x128x128, .f32⟩
  | .hbm, ⟨8, _⟩ => ⟨S8192x512, .bf16⟩
  | .hbm, ⟨9, _⟩ => ⟨S4x128x128, .f32⟩
  | .hbm, ⟨10, _⟩ => ⟨S1x512, .f32⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S4x128x128, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1040x512, .f32⟩
  | .local _ .vmem, ⟨11, _⟩ => ⟨S1024x512, .f32⟩
  | .local _ .vmem, ⟨12, _⟩ => ⟨S1024x512, .f32⟩
  | .local _ .vmem, ⟨13, _⟩ => ⟨S16x512, .f32⟩
  | .local _ .vmem, ⟨14, _⟩ => ⟨S16x512, .f32⟩
  | .local _ .vmem, ⟨15, _⟩ => ⟨S1024x512, .bf16⟩
  | .local _ .vmem, ⟨16, _⟩ => ⟨S1024x512, .bf16⟩
  | .local _ .vmem, ⟨17, _⟩ => ⟨S4x128x128, .f32⟩
  | .local _ .vmem, ⟨18, _⟩ => ⟨S1x512, .f32⟩
  | .local _ .vmem, ⟨19, _⟩ => ⟨S1024x512, .bf16⟩
  | .local _ .vmem, ⟨20, _⟩ => ⟨S1024x512, .bf16⟩
  | .local _ .vmem, ⟨21, _⟩ => ⟨S4x128x128, .f32⟩
  | .local _ .vmem, ⟨22, _⟩ => ⟨S1x512, .f32⟩
  | .local _ .vmem, ⟨23, _⟩ => ⟨S1040x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg7_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S4x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== Reference2Ideal.lean ====
abbrev S8192x512 : Shape := ⟨2, ![8192, 512]⟩
abbrev S8192x6656 : Shape := ⟨2, ![8192, 6656]⟩
abbrev S1x4x128x128 : Shape := ⟨4, ![1, 4, 128, 128]⟩
abbrev S1x512 : Shape := ⟨2, ![1, 512]⟩
abbrev S4x128x128 : Shape := ⟨3, ![4, 128, 128]⟩
abbrev S1x8192x4x128 : Shape := ⟨4, ![1, 8192, 4, 128]⟩
abbrev S_ : Shape := ⟨0, ![]⟩
abbrev S1x1x4x128 : Shape := ⟨4, ![1, 1, 4, 128]⟩
abbrev S1x8193x4x128 : Shape := ⟨4, ![1, 8193, 4, 128]⟩
abbrev S8192 : Shape := ⟨1, ![8192]⟩
abbrev S1x8193x1x128 : Shape := ⟨4, ![1, 8193, 1, 128]⟩
abbrev S1x8193x128 : Shape := ⟨3, ![1, 8193, 128]⟩
abbrev S1x8192x128 : Shape := ⟨3, ![1, 8192, 128]⟩
abbrev S1x1x128 : Shape := ⟨3, ![1, 1, 128]⟩
abbrev S1x8191x128 : Shape := ⟨3, ![1, 8191, 128]⟩
abbrev S1x8192x1 : Shape := ⟨3, ![1, 8192, 1]⟩
abbrev S1x8192x1x128 : Shape := ⟨4, ![1, 8192, 1, 128]⟩
abbrev S1x3x128 : Shape := ⟨3, ![1, 3, 128]⟩
abbrev S1x8189x128 : Shape := ⟨3, ![1, 8189, 128]⟩
abbrev S1x7x128 : Shape := ⟨3, ![1, 7, 128]⟩
abbrev S1x8185x128 : Shape := ⟨3, ![1, 8185, 128]⟩
abbrev S1x15x128 : Shape := ⟨3, ![1, 15, 128]⟩
abbrev S1x8177x128 : Shape := ⟨3, ![1, 8177, 128]⟩
abbrev S4x128x1x8192 : Shape := ⟨4, ![4, 128, 1, 8192]⟩
abbrev S1x8192x512 : Shape := ⟨3, ![1, 8192, 512]⟩
abbrev S1x1x512 : Shape := ⟨3, ![1, 1, 512]⟩
abbrev S512 : Shape := ⟨1, ![512]⟩
abbrev S4x1x8192x128 : Shape := ⟨4, ![4, 1, 8192, 128]⟩

abbrev nBuf : Space → Nat
  | .hbm => 213
  | .vmem => 0
  | .smem => 0
  | _ => 0

abbrev hbmTy0_0 (i : Nat) : BufTy := match i % 128 with
  | 0 => ⟨S8192x512, .f32⟩
  | 1 => ⟨S8192x6656, .bf16⟩
  | 2 => ⟨S1x4x128x128, .f32⟩
  | 3 => ⟨S1x512, .f32⟩
  | 4 => ⟨S8192x512, .bf16⟩
  | 5 => ⟨S8192x512, .f32⟩
  | 6 => ⟨S4x128x128, .f32⟩
  | 7 => ⟨S1x8192x4x128, .f32⟩
  | 8 => ⟨S_, .f32⟩
  | 9 => ⟨S1x1x4x128, .f32⟩
  | 10 => ⟨S_, .f32⟩
  | 11 => ⟨S_, .f32⟩
  | 12 => ⟨S1x8192x4x128, .f32⟩
  | 13 => ⟨S1x8193x4x128, .f32⟩
  | 14 => ⟨S_, .f32⟩
  | 15 => ⟨S1x1x4x128, .f32⟩
  | 16 => ⟨S8192, .f32⟩
  | 17 => ⟨S_, .f32⟩
  | 18 => ⟨S8192, .f32⟩
  | 19 => ⟨S8192, .f32⟩
  | 20 => ⟨S1x8193x1x128, .f32⟩
  | 21 => ⟨S1x8193x128, .f32⟩
  | 22 => ⟨S1x8192x128, .f32⟩
  | 23 => ⟨S_, .f32⟩
  | 24 => ⟨S1x1x128, .f32⟩
  | 25 => ⟨S1x8191x128, .f32⟩
  | 26 => ⟨S1x8192x128, .f32⟩
  | 27 => ⟨S_, .f32⟩
  | 28 => ⟨S1x1x128, .f32⟩
  | 29 => ⟨S_, .f32⟩
  | 30 => ⟨S8192, .f32⟩
  | 31 => ⟨S8192, .f32⟩
  | 32 => ⟨S1x8192x1, .f32⟩
  | 33 => ⟨S1x8192x128, .f32⟩
  | 34 => ⟨S1x8192x128, .f32⟩
  | 35 => ⟨S1x8192x128, .f32⟩
  | 36 => ⟨S1x8192x1x128, .f32⟩
  | 37 => ⟨S1x8192x128, .f32⟩
  | 38 => ⟨S1x8192x128, .f32⟩
  | 39 => ⟨S1x8193x1x128, .f32⟩
  | 40 => ⟨S1x8193x128, .f32⟩
  | 41 => ⟨S1x8192x128, .f32⟩
  | 42 => ⟨S_, .f32⟩
  | 43 => ⟨S1x3x128, .f32⟩
  | 44 => ⟨S1x8189x128, .f32⟩
  | 45 => ⟨S1x8192x128, .f32⟩
  | 46 => ⟨S_, .f32⟩
  | 47 => ⟨S1x3x128, .f32⟩
  | 48 => ⟨S_, .f32⟩
  | 49 => ⟨S8192, .f32⟩
  | 50 => ⟨S8192, .f32⟩
  | 51 => ⟨S1x8192x1, .f32⟩
  | 52 => ⟨S1x8192x128, .f32⟩
  | 53 => ⟨S1x8192x128, .f32⟩
  | 54 => ⟨S1x8192x128, .f32⟩
  | 55 => ⟨S1x8192x1x128, .f32⟩
  | 56 => ⟨S1x8192x128, .f32⟩
  | 57 => ⟨S1x8192x128, .f32⟩
  | 58 => ⟨S1x8193x1x128, .f32⟩
  | 59 => ⟨S1x8193x128, .f32⟩
  | 60 => ⟨S1x8192x128, .f32⟩
  | 61 => ⟨S_, .f32⟩
  | 62 => ⟨S1x7x128, .f32⟩
  | 63 => ⟨S1x8185x128, .f32⟩
  | 64 => ⟨S1x8192x128, .f32⟩
  | 65 => ⟨S_, .f32⟩
  | 66 => ⟨S1x7x128, .f32⟩
  | 67 => ⟨S_, .f32⟩
  | 68 => ⟨S8192, .f32⟩
  | 69 => ⟨S8192, .f32⟩
  | 70 => ⟨S1x8192x1, .f32⟩
  | 71 => ⟨S1x8192x128, .f32⟩
  | 72 => ⟨S1x8192x128, .f32⟩
  | 73 => ⟨S1x8192x128, .f32⟩
  | 74 => ⟨S1x8192x1x128, .f32⟩
  | 75 => ⟨S1x8192x128, .f32⟩
  | 76 => ⟨S1x8192x128, .f32⟩
  | 77 => ⟨S1x8193x1x128, .f32⟩
  | 78 => ⟨S1x8193x128, .f32⟩
  | 79 => ⟨S1x8192x128, .f32⟩
  | 80 => ⟨S_, .f32⟩
  | 81 => ⟨S1x15x128, .f32⟩
  | 82 => ⟨S1x8177x128, .f32⟩
  | 83 => ⟨S1x8192x128, .f32⟩
  | 84 => ⟨S_, .f32⟩
  | 85 => ⟨S1x15x128, .f32⟩
  | 86 => ⟨S_, .f32⟩
  | 87 => ⟨S8192, .f32⟩
  | 88 => ⟨S8192, .f32⟩
  | 89 => ⟨S1x8192x1, .f32⟩
  | 90 => ⟨S1x8192x128, .f32⟩
  | 91 => ⟨S1x8192x128, .f32⟩
  | 92 => ⟨S1x8192x128, .f32⟩
  | 93 => ⟨S1x8192x1x128, .f32⟩
  | 94 => ⟨S1x8192x128, .f32⟩
  | 95 => ⟨S1x8192x128, .f32⟩
  | 96 => ⟨S1x8192x1x128, .f32⟩
  | 97 => ⟨S1x8192x1x128, .f32⟩
  | 98 => ⟨S1x8192x1x128, .f32⟩
  | 99 => ⟨S1x8192x1x128, .f32⟩
  | 100 => ⟨S1x8192x4x128, .f32⟩
  | 101 => ⟨S4x128x1x8192, .f32⟩
  | 102 => ⟨S1x8192x4x128, .f32⟩
  | 103 => ⟨S1x8192x512, .f32⟩
  | 104 => ⟨S1x1x512, .f32⟩
  | 105 => ⟨S1x8192x512, .f32⟩
  | 106 => ⟨S1x8192x512, .f32⟩
  | 107 => ⟨S1x8192x512, .f32⟩
  | 108 => ⟨S1x8192x512, .f32⟩
  | 109 => ⟨S_, .f32⟩
  | 110 => ⟨S1x512, .f32⟩
  | 111 => ⟨S1x1x512, .f32⟩
  | 112 => ⟨S1x8192x512, .f32⟩
  | 113 => ⟨S1x8192x512, .f32⟩
  | 114 => ⟨S_, .f32⟩
  | 115 => ⟨S512, .f32⟩
  | 116 => ⟨S1x512, .f32⟩
  | 117 => ⟨S1x8192x4x128, .f32⟩
  | 118 => ⟨S4x128x1x8192, .f32⟩
  | 119 => ⟨S4x1x8192x128, .f32⟩
  | 120 => ⟨S1x8192x4x128, .f32⟩
  | 121 => ⟨S4x128x128, .f32⟩
  | 122 => ⟨S4x128x128, .f32⟩
  | 123 => ⟨S1x8192x1x128, .f32⟩
  | 124 => ⟨S1x8192x128, .f32⟩
  | 125 => ⟨S1x8192x1x128, .f32⟩
  | 126 => ⟨S1x8192x128, .f32⟩
  | 127 => ⟨S1x8192x1x128, .f32⟩
  | _ => ⟨S8192x512, .f32⟩

abbrev hbmTy0_1 (i : Nat) : BufTy := match i % 128 with
  | 0 => ⟨S1x8192x128, .f32⟩
  | 1 => ⟨S1x8192x1x128, .f32⟩
  | 2 => ⟨S1x8192x128, .f32⟩
  | 3 => ⟨S1x8192x128, .f32⟩
  | 4 => ⟨S1x8192x1x128, .f32⟩
  | 5 => ⟨S_, .f32⟩
  | 6 => ⟨S1x8192x4x128, .f32⟩
  | 7 => ⟨S1x8192x128, .f32⟩
  | 8 => ⟨S1x8192x128, .f32⟩
  | 9 => ⟨S1x8192x128, .f32⟩
  | 10 => ⟨S1x15x128, .f32⟩
  | 11 => ⟨S1x8177x128, .f32⟩
  | 12 => ⟨S_, .f32⟩
  | 13 => ⟨S1x8193x128, .f32⟩
  | 14 => ⟨S_, .f32⟩
  | 15 => ⟨S1x8193x128, .f32⟩
  | 16 => ⟨S1x8193x128, .f32⟩
  | 17 => ⟨S1x8193x1x128, .f32⟩
  | 18 => ⟨S_, .f32⟩
  | 19 => ⟨S1x8193x4x128, .f32⟩
  | 20 => ⟨S1x8192x128, .f32⟩
  | 21 => ⟨S1x8192x1x128, .f32⟩
  | 22 => ⟨S_, .f32⟩
  | 23 => ⟨S1x8192x4x128, .f32⟩
  | 24 => ⟨S1x8192x4x128, .f32⟩
  | 25 => ⟨S1x8192x128, .f32⟩
  | 26 => ⟨S1x8192x128, .f32⟩
  | 27 => ⟨S1x8192x128, .f32⟩
  | 28 => ⟨S1x7x128, .f32⟩
  | 29 => ⟨S1x8185x128, .f32⟩
  | 30 => ⟨S_, .f32⟩
  | 31 => ⟨S1x8193x128, .f32⟩
  | 32 => ⟨S_, .f32⟩
  | 33 => ⟨S1x8193x128, .f32⟩
  | 34 => ⟨S1x8193x128, .f32⟩
  | 35 => ⟨S1x8193x1x128, .f32⟩
  | 36 => ⟨S_, .f32⟩
  | 37 => ⟨S1x8193x4x128, .f32⟩
  | 38 => ⟨S1x8193x4x128, .f32⟩
  | 39 => ⟨S1x8192x128, .f32⟩
  | 40 => ⟨S1x8192x1x128, .f32⟩
  | 41 => ⟨S_, .f32⟩
  | 42 => ⟨S1x8192x4x128, .f32⟩
  | 43 => ⟨S1x8192x4x128, .f32⟩
  | 44 => ⟨S1x8192x128, .f32⟩
  | 45 => ⟨S1x8192x128, .f32⟩
  | 46 => ⟨S1x8192x128, .f32⟩
  | 47 => ⟨S1x3x128, .f32⟩
  | 48 => ⟨S1x8189x128, .f32⟩
  | 49 => ⟨S_, .f32⟩
  | 50 => ⟨S1x8193x128, .f32⟩
  | 51 => ⟨S_, .f32⟩
  | 52 => ⟨S1x8193x128, .f32⟩
  | 53 => ⟨S1x8193x128, .f32⟩
  | 54 => ⟨S1x8193x1x128, .f32⟩
  | 55 => ⟨S_, .f32⟩
  | 56 => ⟨S1x8193x4x128, .f32⟩
  | 57 => ⟨S1x8193x4x128, .f32⟩
  | 58 => ⟨S1x8192x128, .f32⟩
  | 59 => ⟨S1x8192x1x128, .f32⟩
  | 60 => ⟨S_, .f32⟩
  | 61 => ⟨S1x8192x4x128, .f32⟩
  | 62 => ⟨S1x8192x4x128, .f32⟩
  | 63 => ⟨S1x8192x128, .f32⟩
  | 64 => ⟨S1x8192x128, .f32⟩
  | 65 => ⟨S1x8192x128, .f32⟩
  | 66 => ⟨S1x1x128, .f32⟩
  | 67 => ⟨S1x8191x128, .f32⟩
  | 68 => ⟨S_, .f32⟩
  | 69 => ⟨S1x8193x128, .f32⟩
  | 70 => ⟨S_, .f32⟩
  | 71 => ⟨S1x8193x128, .f32⟩
  | 72 => ⟨S1x8193x128, .f32⟩
  | 73 => ⟨S1x8193x1x128, .f32⟩
  | 74 => ⟨S_, .f32⟩
  | 75 => ⟨S1x8193x4x128, .f32⟩
  | 76 => ⟨S1x8193x4x128, .f32⟩
  | 77 => ⟨S1x1x4x128, .f32⟩
  | 78 => ⟨S1x8192x4x128, .f32⟩
  | 79 => ⟨S_, .f32⟩
  | 80 => ⟨S_, .f32⟩
  | 81 => ⟨S1x8192x4x128, .f32⟩
  | 82 => ⟨S1x8192x4x128, .f32⟩
  | 83 => ⟨S8192x512, .f32⟩
  | 84 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_14 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_15 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_16 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_17 : Ref sig .tc := ⟨.hbm, 140, rfl⟩
abbrev main_v116 : Ref sig .tc := ⟨.hbm, 141, rfl⟩
abbrev main_cst_18 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_19 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_20 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_cst_21 : Ref sig .tc := ⟨.hbm, 158, rfl⟩
abbrev main_v130 : Ref sig .tc := ⟨.hbm, 159, rfl⟩
abbrev main_cst_22 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_23 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_24 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_25 : Ref sig .tc := ⟨.hbm, 177, rfl⟩
abbrev main_v145 : Ref sig .tc := ⟨.hbm, 178, rfl⟩
abbrev main_cst_26 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_27 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_28 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_29 : Ref sig .tc := ⟨.hbm, 196, rfl⟩
abbrev main_v160 : Ref sig .tc := ⟨.hbm, 197, rfl⟩
abbrev main_cst_30 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_31 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_call1_call0_cst : Ref sig .tc := ⟨.hbm, 207, rfl⟩
abbrev main_call1_call0_v0 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩

abbrev nD : Nat := 1
abbrev τ : Topo := Topo.v7x

variable {F : FTy → Type} [FloatOps F]
-- ==== Kernel3.lean ====
abbrev S8192x1024 : Shape := ⟨2, ![8192, 1024]⟩
abbrev S8192x6656 : Shape := ⟨2, ![8192, 6656]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x6656, .bf16⟩
  | .hbm, ⟨3, _⟩ => ⟨S1x1024, .f32⟩
  | .hbm, ⟨4, _⟩ => ⟨S8192x1024, .bf16⟩
  | .hbm, ⟨5, _⟩ => ⟨S8192x1024, .bf16⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference3Ideal.lean ====
abbrev S8192x1024 : Shape := ⟨2, ![8192, 1024]⟩
abbrev S8192x6656 : Shape := ⟨2, ![8192, 6656]⟩
abbrev S1x1024 : Shape := ⟨2, ![1, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S8x128 : Shape := ⟨2, ![8, 128]⟩
abbrev S1x8x128 : Shape := ⟨3, ![1, 8, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x6656, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x6656, .f32⟩
  | .hbm, ⟨7, _⟩ => ⟨S8192x1024, .f32⟩
  | .hbm, ⟨8, _⟩ => ⟨S8192x8x128, .f32⟩
  | .hbm, ⟨9, _⟩ => ⟨S8192x8x128, .f32⟩
  | .hbm, ⟨10, _⟩ => ⟨S_, .f32⟩
  | .hbm, ⟨11, _⟩ => ⟨S8192x8, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S_, .f32⟩
  | .hbm, ⟨22, _⟩ => ⟨S8192x8x1, .f32⟩
  | .hbm, ⟨23, _⟩ => ⟨S8192x8x1, .f32⟩
  | .hbm, ⟨24, _⟩ => ⟨S8192x8x128, .f32⟩
  | .hbm, ⟨25, _⟩ => ⟨S8192x8x128, .f32⟩
  | .hbm, ⟨26, _⟩ => ⟨S8x128, .f32⟩
  | .hbm, ⟨27, _⟩ => ⟨S1x8x128, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x8x128, .f32⟩
  | .hbm, ⟨33, _⟩ => ⟨S_, .f32⟩
  | .hbm, ⟨34, _⟩ => ⟨S8192x8x128, .f32⟩
  | .hbm, ⟨35, _⟩ => ⟨S8192x8x128, .f32⟩
  | .hbm, ⟨36, _⟩ => ⟨S_, .f32⟩
  | .hbm, ⟨37, _⟩ => ⟨S8192x8x128, .f32⟩
  | .hbm, ⟨38, _⟩ => ⟨S8192x8x128, .f32⟩
  | .hbm, ⟨39, _⟩ => ⟨S_, .f32⟩
  | .hbm, ⟨40, _⟩ => ⟨S8192x8x128, .f32⟩
  | .hbm, ⟨41, _⟩ => ⟨S8192x8x128, .f32⟩
  | .hbm, ⟨42, _⟩ => ⟨S8192x8x128, .f32⟩
  | .hbm, ⟨43, _⟩ => ⟨S8192x8x128, .f32⟩
  | .hbm, ⟨44, _⟩ => ⟨S8192x8x128, .f32⟩
  | .hbm, ⟨45, _⟩ => ⟨S8192x1024, .f32⟩
  | .hbm, ⟨46, _⟩ => ⟨S8192x8x128, .f32⟩
  | .hbm, ⟨47, _⟩ => ⟨S8192x8x128, .f32⟩
  | .hbm, ⟨48, _⟩ => ⟨S8192x8x128, .f32⟩
  | .hbm, ⟨49, _⟩ => ⟨S8192x8x128, .f32⟩
  | .hbm, ⟨50, _⟩ => ⟨S8192x8x128, .f32⟩
  | .hbm, ⟨51, _⟩ => ⟨S8192x8x128, .f32⟩
  | .hbm, ⟨52, _⟩ => ⟨S8192x8x128, .f32⟩
  | .hbm, ⟨53, _⟩ => ⟨S8192x1024, .f32⟩
  | .hbm, ⟨54, _⟩ => ⟨S8192x8x128, .f32⟩
  | .hbm, ⟨55, _⟩ => ⟨S_, .f32⟩
  | .hbm, ⟨56, _⟩ => ⟨S8x128, .f32⟩
  | .hbm, ⟨57, _⟩ => ⟨S1x8x128, .f32⟩
  | .hbm, ⟨58, _⟩ => ⟨S8192x8x128, .f32⟩
  | .hbm, ⟨59, _⟩ => ⟨S8192x8x128, .f32⟩
  | .hbm, ⟨60, _⟩ => ⟨S_, .f32⟩
  | .hbm, ⟨61, _⟩ => ⟨S8x128, .f32⟩
  | .hbm, ⟨62, _⟩ => ⟨S1x1024, .f32⟩
  | .hbm, ⟨63, _⟩ => ⟨S8192x8x128, .f32⟩
  | .hbm, ⟨64, _⟩ => ⟨S_, .f32⟩
  | .hbm, ⟨65, _⟩ => ⟨S8192x8, .f32⟩
  | .hbm, ⟨66, _⟩ => ⟨S8192x8x1, .f32⟩
  | .hbm, ⟨67, _⟩ => ⟨S8192x8x128, .f32⟩
  | .hbm, ⟨68, _⟩ => ⟨S8192x8x128, .f32⟩
  | .hbm, ⟨69, _⟩ => ⟨S8192x8x1, .f32⟩
  | .hbm, ⟨70, _⟩ => ⟨S_, .f32⟩
  | .hbm, ⟨71, _⟩ => ⟨S8192x8x1, .f32⟩
  | .hbm, ⟨72, _⟩ => ⟨S8192x8x1, .f32⟩
  | .hbm, ⟨73, _⟩ => ⟨S_, .f32⟩
  | .hbm, ⟨74, _⟩ => ⟨S8192x8, .f32⟩
  | .hbm, ⟨75, _⟩ => ⟨S8192x8x128, .f32⟩
  | .hbm, ⟨76, _⟩ => ⟨S8192x8x128, .f32⟩
  | .hbm, ⟨77, _⟩ => ⟨S8192x8x128, .f32⟩
  | .hbm, ⟨78, _⟩ => ⟨S8192x8x128, .f32⟩
  | .hbm, ⟨79, _⟩ => ⟨S8192x8x128, .f32⟩
  | .hbm, ⟨80, _⟩ => ⟨S8192x1024, .f32⟩
  | .hbm, ⟨81, _⟩ => ⟨S8192x1024, .bf16⟩
  | .hbm, ⟨82, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 15
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_cst : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== Reference4Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .bf16⟩
  | 3 => ⟨S8192x1024, .f32⟩
  | 4 => ⟨S1x1024, .f32⟩
  | 5 => ⟨S1024, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192, .f32⟩
  | 81 => ⟨S_, .f32⟩
  | 82 => ⟨S8192, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S_, .f32⟩
  | 93 => ⟨S1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S1x1024, .f32⟩
  | 11 => ⟨S8192x1024, .f32⟩
  | 12 => ⟨S8192x1024, .bf16⟩
  | 13 => ⟨S8192x1024, .bf16⟩
  | 14 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_cst_15 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_19 : Ref sig .tc := ⟨.hbm, 92, rfl⟩
abbrev main_v66 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_21 : Ref sig .tc := ⟨.hbm, 101, rfl⟩
abbrev main_v73 : Ref sig .tc := ⟨.hbm, 102, rfl⟩
abbrev main_v74 : Ref sig .tc := ⟨.hbm, 103, rfl⟩
abbrev main_cst_22 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_23 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_24 : Ref sig .tc := ⟨.hbm, 119, rfl⟩
abbrev main_v88 : Ref sig .tc := ⟨.hbm, 120, rfl⟩
abbrev main_v89 : Ref sig .tc := ⟨.hbm, 121, rfl⟩
abbrev main_cst_25 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_26 : Ref sig .tc := ⟨.hbm, 128, rfl⟩
abbrev main_v95 : Ref sig .tc := ⟨.hbm, 129, rfl⟩
abbrev main_v96 : Ref sig .tc := ⟨.hbm, 130, rfl⟩
abbrev main_cst_27 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]
-- ==== Kernel5.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S8192x1024 : Shape := ⟨2, ![8192, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel6.lean ====
abbrev S8192x2816 : Shape := ⟨2, ![8192, 2816]⟩
abbrev S1x1024x2816 : Shape := ⟨3, ![1, 1024, 2816]⟩
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1x1024x2816, .f32⟩
  | .hbm, ⟨3, _⟩ => ⟨S1x1024x2816, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S8192x1024, .f32⟩
  | .hbm, ⟨14, _⟩ => ⟨S8192x1024, .bf16⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S8192x2816 : Shape := ⟨2, ![8192, 2816]⟩
abbrev S1x1024x2816 : Shape := ⟨3, ![1, 1024, 2816]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩

abbrev nBuf : Space → Nat
  | .hbm => 65
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1x1024x2816, .f32⟩
  | .hbm, ⟨3, _⟩ => ⟨S1x1024x2816, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S8192x2816, .f32⟩
  | .hbm, ⟨30, _⟩ => ⟨S1024x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel7.lean ====
abbrev S8192x3072 : Shape := ⟨2, ![8192, 3072]⟩
abbrev S8192x1024 : Shape := ⟨2, ![8192, 1024]⟩
abbrev S8192x512 : Shape := ⟨2, ![8192, 512]⟩
abbrev S1x1024x6656 : Shape := ⟨3, ![1, 1024, 6656]⟩
abbrev S1x1024 : Shape := ⟨2, ![1, 1024]⟩
abbrev S1024x6656 : Shape := ⟨2, ![1024, 6656]⟩
abbrev S6656x1024 : Shape := ⟨2, ![6656, 1024]⟩
abbrev S512x3072 : Shape := ⟨2, ![512, 3072]⟩
abbrev S512x1024 : Shape := ⟨2, ![512, 1024]⟩
abbrev S512x512 : Shape := ⟨2, ![512, 512]⟩
abbrev S3072x1024 : Shape := ⟨2, ![3072, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x512, .bf16⟩
  | .hbm, ⟨3, _⟩ => ⟨S8192x1024, .bf16⟩
  | .hbm, ⟨4, _⟩ => ⟨S8192x1024, .bf16⟩
  | .hbm, ⟨5, _⟩ => ⟨S1x1024x6656, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1024x6656, .f32⟩
  | .hbm, ⟨10, _⟩ => ⟨S6656x1024, .f32⟩
  | .hbm, ⟨11, _⟩ => ⟨S6656x1024, .bf16⟩
  | .hbm, ⟨12, _⟩ => ⟨S8192x1024, .f32⟩
  | .hbm, ⟨13, _⟩ => ⟨S8192x1024, .bf16⟩
  | .hbm, ⟨14, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S6656x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6656x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S8192x3072 : Shape := ⟨2, ![8192, 3072]⟩
abbrev S8192x1024 : Shape := ⟨2, ![8192, 1024]⟩
abbrev S8192x512 : Shape := ⟨2, ![8192, 512]⟩
abbrev S1x1024x6656 : Shape := ⟨3, ![1, 1024, 6656]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x6656 : Shape := ⟨2, ![1024, 6656]⟩
abbrev S8192x6656 : Shape := ⟨2, ![8192, 6656]⟩

abbrev nBuf : Space → Nat
  | .hbm => 88
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x512, .bf16⟩
  | .hbm, ⟨3, _⟩ => ⟨S8192x1024, .bf16⟩
  | .hbm, ⟨4, _⟩ => ⟨S8192x1024, .bf16⟩
  | .hbm, ⟨5, _⟩ => ⟨S1x1024x6656, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1024x6656, .f32⟩
  | .hbm, ⟨31, _⟩ => ⟨S8192x6656, .f32⟩
  | .hbm, ⟨32, _⟩ => ⟨S8192x3072, .f32⟩
  | .hbm, ⟨33, _⟩ => ⟨S8192x1024, .f32⟩
  | .hbm, ⟨34, _⟩ => ⟨S8192x512, .f32⟩
  | .hbm, ⟨35, _⟩ => ⟨S8192x1024, .f32⟩
  | .hbm, ⟨36, _⟩ => ⟨S8192x1024, .f32⟩
  | .hbm, ⟨37, _⟩ => ⟨S8192x3072, .f32⟩
  | .hbm, ⟨38, _⟩ => ⟨S8192x1024, .f32⟩
  | .hbm, ⟨39, _⟩ => ⟨S8192x512, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x6656, .f32⟩
  | .hbm, ⟨44, _⟩ => ⟨S_, .f32⟩
  | .hbm, ⟨45, _⟩ => ⟨S8192x6656, .f32⟩
  | .hbm, ⟨46, _⟩ => ⟨S8192x6656, .f32⟩
  | .hbm, ⟨47, _⟩ => ⟨S_, .f32⟩
  | .hbm, ⟨48, _⟩ => ⟨S8192x6656, .f32⟩
  | .hbm, ⟨49, _⟩ => ⟨S8192x6656, .f32⟩
  | .hbm, ⟨50, _⟩ => ⟨S_, .f32⟩
  | .hbm, ⟨51, _⟩ => ⟨S8192x6656, .f32⟩
  | .hbm, ⟨52, _⟩ => ⟨S8192x6656, .f32⟩
  | .hbm, ⟨53, _⟩ => ⟨S_, .f32⟩
  | .hbm, ⟨54, _⟩ => ⟨S8192x6656, .f32⟩
  | .hbm, ⟨55, _⟩ => ⟨S8192x6656, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S1x1024, .f32⟩
  | .hbm, ⟨84, _⟩ => ⟨S_, .f32⟩
  | .hbm, ⟨85, _⟩ => ⟨S8192x1024, .f32⟩
  | .hbm, ⟨86, _⟩ => ⟨S8192x1024, .f32⟩
  | .hbm, ⟨87, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel8.lean ====
abbrev S8192x1024 : Shape := ⟨2, ![8192, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S8192x1024, .bf16⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .hbm, ⟨14, _⟩ => ⟨S2816x1024, .f32⟩
  | .hbm, ⟨15, _⟩ => ⟨S2816x1024, .bf16⟩
  | .hbm, ⟨16, _⟩ => ⟨S8192x2816, .bf16⟩
  | .hbm, ⟨17, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x1024, .bf16⟩
  | .local _ .vmem, ⟨11, _⟩ => ⟨S512x1024, .bf16⟩
  | .local _ .vmem, ⟨12, _⟩ => ⟨S2816x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference8Ideal.lean ====
abbrev S8192x1024 : Shape := ⟨2, ![8192, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S8192x2816 : Shape := ⟨2, ![8192, 2816]⟩
abbrev S_ : Shape := ⟨0, ![]⟩
abbrev S2816x1024 : Shape := ⟨2, ![2816, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S8192x2816, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S2816x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel9.lean ====
abbrev S8192x6656 : Shape := ⟨2, ![8192, 6656]⟩
abbrev S2x1024 : Shape := ⟨2, ![2, 1024]⟩
abbrev S8192x1024 : Shape := ⟨2, ![8192, 1024]⟩
abbrev S8x128x128x128 : Shape := ⟨4, ![8, 128, 128, 128]⟩
abbrev S512x1024 : Shape := ⟨2, ![512, 1024]⟩
abbrev S8x8x128x128 : Shape := ⟨4, ![8, 8, 128, 128]⟩
abbrev S8x128x128 : Shape := ⟨3, ![8, 128, 128]⟩
abbrev S64x1024 : Shape := ⟨2, ![64, 1024]⟩
abbrev S8x64x64 : Shape := ⟨3, ![8, 64, 64]⟩
abbrev S1x1024 : Shape := ⟨2, ![1, 1024]⟩
abbrev S64x64 : Shape := ⟨2, ![64, 64]⟩
abbrev S1x128x128 : Shape := ⟨3, ![1, 128, 128]⟩
abbrev S128x128 : Shape := ⟨2, ![128, 128]⟩
abbrev S1x1x128x128 : Shape := ⟨4, ![1, 1, 128, 128]⟩
abbrev S32x1024 : Shape := ⟨2, ![32, 1024]⟩
abbrev S32x128 : Shape := ⟨2, ![32, 128]⟩
abbrev S64x128 : Shape := ⟨2, ![64, 128]⟩
abbrev S32x64 : Shape := ⟨2, ![32, 64]⟩
abbrev S1x32x64 : Shape := ⟨3, ![1, 32, 64]⟩
abbrev S1x64x64 : Shape := ⟨3, ![1, 64, 64]⟩
abbrev S1x128 : Shape := ⟨2, ![1, 128]⟩

abbrev nBuf : Space → Nat
  | .hbm => 4
  | .vmem => 14
  | .smem => 0
  | _ => 0

abbrev bufTy : (tb : Table) → Fin (tcTables nBuf tb) → BufTy
  | .hbm, ⟨0, _⟩ => ⟨S8192x6656, .bf16⟩
  | .hbm, ⟨1, _⟩ => ⟨S2x1024, .f32⟩
  | .hbm, ⟨2, _⟩ => ⟨S8192x1024, .bf16⟩
  | .hbm, ⟨3, _⟩ => ⟨S8x128x128x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2x1024, .f32⟩
  | .local _ .vmem, ⟨7, _⟩ => ⟨S512x1024, .bf16⟩
  | .local _ .vmem, ⟨8, _⟩ => ⟨S512x1024, .bf16⟩
  | .local _ .vmem, ⟨9, _⟩ => ⟨S8x8x128x128, .f32⟩
  | .local _ .vmem, ⟨10, _⟩ => ⟨S8x8x128x128, .f32⟩
  | .local _ .vmem, ⟨11, _⟩ => ⟨S8x128x128, .f32⟩
  | .local _ .vmem, ⟨12, _⟩ => ⟨S64x1024, .f32⟩
  | .local _ .vmem, ⟨13, _⟩ => ⟨S8x64x64, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_6 : BitVec 32 := 0#32
  let c8_i32 : BitVec 32 := 8#32
  let v19 : BitVec 32 := Scalar.addi c0_i32_6 c8_i32
  let c1_i32 : BitVec 32 := 1#32
  ⟨c0_i32_6, v19, c1_i32⟩
def k0_mult1 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c64_i32 : BitVec 32 := 64#32
  let v20 : BitVec 32 := Scalar.muli arg11 c64_i32
  v20
def k0_off1 (k0_t1 : Fin k0_t1_loop.trips) : Fin 2 → Nat :=
  let c0_i32_6 : BitVec 32 := 0#32
  let c1_i32 : BitVec 32 := 1#32
  let arg11 : BitVec 32 := Scf.iv c0_i32_6 c1_i32 k0_t1
  let c64_i32 : BitVec 32 := 64#32
  let v20 : BitVec 32 := Scalar.muli arg11 c64_i32
  let v21 : BitVec 32 := v20
  let v22 : Index := Scalar.indexCast v21
  let c0_8 : Index := 0#32
  ![v22.toNat, 0]
def k0_off2 (k0_t1 : Fin k0_t1_loop.trips) : Fin 4 → Nat :=
  let c0_41 : Index := 0#32
  let c0_i32_6 : BitVec 32 := 0#32
  let c1_i32 : BitVec 32 := 1#32
  let arg11 : BitVec 32 := Scf.iv c0_i32_6 c1_i32 k0_t1
  let v81 : Index := Scalar.indexCast arg11
  let c0_42 : Index := 0#32
  let c0_43 : Index := 0#32
  ![0, v81.toNat, 0, 0]
def k0_off3 (k0_t1 : Fin k0_t1_loop.trips) : Fin 4 → Nat :=
  let c1_44 : Index := 1#32
  let c0_i32_6 : BitVec 32 := 0#32
  let c1_i32 : BitVec 32 := 1#32
  let arg11 : BitVec 32 := Scf.iv c0_i32_6 c1_i32 k0_t1
  let v85 : Index := Scalar.indexCast arg11
  let c0_45 : Index := 0#32
  let c0_46 : Index := 0#32
  ![1, v85.toNat, 0, 0]
def k0_off4 (k0_t1 : Fin k0_t1_loop.trips) : Fin 4 → Nat :=
  let c2_47 : Index := 2#32
  let c0_i32_6 : BitVec 32 := 0#32
  let c1_i32 : BitVec 32 := 1#32
  let arg11 : BitVec 32 := Scf.iv c0_i32_6 c1_i32 k0_t1
  let v89 : Index := Scalar.indexCast arg11
  let c0_48 : Index := 0#32
  let c0_49 : Index := 0#32
  ![2, v89.toNat, 0, 0]
def k0_off5 (k0_t1 : Fin k0_t1_loop.trips) : Fin 4 → Nat :=
  let c3_50 : Index := 3#32
  let c0_i32_6 : BitVec 32 := 0#32
  let c1_i32 : BitVec 32 := 1#32
  let arg11 : BitVec 32 := Scf.iv c0_i32_6 c1_i32 k0_t1
  let v93 : Index := Scalar.indexCast arg11
  let c0_51 : Index := 0#32
  let c0_52 : Index := 0#32
  ![3, v93.toNat, 0, 0]
def k0_off6 (k0_t1 : Fin k0_t1_loop.trips) : Fin 4 → Nat :=
  let c4_53 : Index := 4#32
  let c0_i32_6 : BitVec 32 := 0#32
  let c1_i32 : BitVec 32 := 1#32
  let arg11 : BitVec 32 := Scf.iv c0_i32_6 c1_i32 k0_t1
  let v97 : Index := Scalar.indexCast arg11
  let c0_54 : Index := 0#32
  let c0_55 : Index := 0#32
  ![4, v97.toNat, 0, 0]
def k0_off7 (k0_t1 : Fin k0_t1_loop.trips) : Fin 4 → Nat :=
  let c5_56 : Index := 5#32
  let c0_i32_6 : BitVec 32 := 0#32
  let c1_i32 : BitVec 32 := 1#32
  let arg11 : BitVec 32 := Scf.iv c0_i32_6 c1_i32 k0_t1
  let v101 : Index := Scalar.indexCast arg11
  let c0_57 : Index := 0#32
  let c0_58 : Index := 0#32
  ![5, v101.toNat, 0, 0]
def k0_off8 (k0_t1 : Fin k0_t1_loop.trips) : Fin 4 → Nat :=
  let c6_59 : Index := 6#32
  let c0_i32_6 : BitVec 32 := 0#32
  let c1_i32 : BitVec 32 := 1#32
  let arg11 : BitVec 32 := Scf.iv c0_i32_6 c1_i32 k0_t1
  let v105 : Index := Scalar.indexCast arg11
  let c0_60 : Index := 0#32
  let c0_61 : Index := 0#32
  ![6, v105.toNat, 0, 0]
def k0_off9 (k0_t1 : Fin k0_t1_loop.trips) : Fin 4 → Nat :=
  let c7_62 : Index := 7#32
  let c0_i32_6 : BitVec 32 := 0#32
  let c1_i32 : BitVec 32 := 1#32
  let arg11 : BitVec 32 := Scf.iv c0_i32_6 c1_i32 k0_t1
  let v109 : Index := Scalar.indexCast arg11
  let c0_63 : Index := 0#32
  let c0_64 : Index := 0#32
  ![7, v109.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8192x6656 : Shape := ⟨2, ![8192, 6656]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S8192x1024 : Shape := ⟨2, ![8192, 1024]⟩
abbrev S1x8192x8x128 : Shape := ⟨4, ![1, 8192, 8, 128]⟩
abbrev S1x128x64x8x128 : Shape := ⟨5, ![1, 128, 64, 8, 128]⟩
abbrev S128x1x8x64x128 : Shape := ⟨5, ![128, 1, 8, 64, 128]⟩
abbrev S64x64 : Shape := ⟨2, ![64, 64]⟩
abbrev S64x64x1 : Shape := ⟨3, ![64, 64, 1]⟩
abbrev S1x8x128x128 : Shape := ⟨4, ![1, 8, 128, 128]⟩
abbrev S128x1x8x128x128 : Shape := ⟨5, ![128, 1, 8, 128, 128]⟩
abbrev S1x1x8x64x128 : Shape := ⟨5, ![1, 1, 8, 64, 128]⟩
abbrev S1x8x64x128 : Shape := ⟨4, ![1, 8, 64, 128]⟩
abbrev S1x8x64x1x128 : Shape := ⟨5, ![1, 8, 64, 1, 128]⟩
abbrev S1x8x1x64x128 : Shape := ⟨5, ![1, 8, 1, 64, 128]⟩
abbrev S1x8x64x64x128 : Shape := ⟨5, ![1, 8, 64, 64, 128]⟩
abbrev S1x8x64x64 : Shape := ⟨4, ![1, 8, 64, 64]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S128x8x128x128 : Shape := ⟨4, ![128, 8, 128, 128]⟩
abbrev S8x128x128x128 : Shape := ⟨4, ![8, 128, 128, 128]⟩

abbrev nBuf : Space → Nat
  | .hbm => 182
  | .vmem => 0
  | .smem => 0
  | _ => 0

abbrev hbmTy0_0 (i : Nat) : BufTy := match i % 128 with
  | 0 => ⟨S8192x6656, .bf16⟩
  | 1 => ⟨S2x1024, .f32⟩
  | 2 => ⟨S_, .f32⟩
  | 3 => ⟨S1024, .f32⟩
  | 4 => ⟨S_, .f32⟩
  | 5 => ⟨S1024, .f32⟩
  | 6 => ⟨S1024, .f32⟩
  | 7 => ⟨S1x1024, .f32⟩
  | 8 => ⟨S2x1024, .f32⟩
  | 9 => ⟨S2x1024, .f32⟩
  | 10 => ⟨S2x1024, .f32⟩
  | 11 => ⟨S_, .f32⟩
  | 12 => ⟨S1024, .f32⟩
  | 13 => ⟨S1x1024, .f32⟩
  | 14 => ⟨S2x1024, .f32⟩
  | 15 => ⟨S2x1024, .f32⟩
  | 16 => ⟨S_, .f32⟩
  | 17 => ⟨S_, .f32⟩
  | 18 => ⟨S2x1024, .f32⟩
  | 19 => ⟨S1x1024, .f32⟩
  | 20 => ⟨S1024, .f32⟩
  | 21 => ⟨S8192x1024, .bf16⟩
  | 22 => ⟨S8192x1024, .f32⟩
  | 23 => ⟨S8192x1024, .bf16⟩
  | 24 => ⟨S8192x1024, .f32⟩
  | 25 => ⟨S8192x1024, .bf16⟩
  | 26 => ⟨S8192x1024, .f32⟩
  | 27 => ⟨S_, .f32⟩
  | 28 => ⟨S1024, .f32⟩
  | 29 => ⟨S1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S8192x1024, .f32⟩
  | 45 => ⟨S1x8192x8x128, .f32⟩
  | 46 => ⟨S_, .f32⟩
  | 47 => ⟨S8192x1024, .f32⟩
  | 48 => ⟨S8192x1024, .f32⟩
  | 49 => ⟨S1x8192x8x128, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S1x8192x8x128, .f32⟩
  | 60 => ⟨S1x8192x8x128, .f32⟩
  | 61 => ⟨S1x128x64x8x128, .f32⟩
  | 62 => ⟨S128x1x8x64x128, .f32⟩
  | 63 => ⟨S1x128x64x8x128, .f32⟩
  | 64 => ⟨S128x1x8x64x128, .f32⟩
  | 65 => ⟨S1x128x64x8x128, .f32⟩
  | 66 => ⟨S128x1x8x64x128, .f32⟩
  | 67 => ⟨S1x128x64x8x128, .f32⟩
  | 68 => ⟨S128x1x8x64x128, .f32⟩
  | 69 => ⟨S_, .i1⟩
  | 70 => ⟨S64x64, .i1⟩
  | 71 => ⟨S64x64, .i32⟩
  | 72 => ⟨S_, .i32⟩
  | 73 => ⟨S64x64, .i32⟩
  | 74 => ⟨S64x64, .i32⟩
  | 75 => ⟨S64x64, .i32⟩
  | 76 => ⟨S64x64, .i1⟩
  | 77 => ⟨S_, .i1⟩
  | 78 => ⟨S64x64, .i1⟩
  | 79 => ⟨S64x64, .i1⟩
  | 80 => ⟨S64x64x1, .i1⟩
  | 81 => ⟨S_, .f32⟩
  | 82 => ⟨S1x8x128x128, .f32⟩
  | 83 => ⟨S_, .f32⟩
  | 84 => ⟨S128x1x8x128x128, .f32⟩
  | 85 => ⟨S_, .f32⟩
  | 86 => ⟨S128x1x8x64x128, .f32⟩
  | 87 => ⟨S_, .i32⟩
  | 88 => ⟨S128x1x8x64x128, .f32⟩
  | 89 => ⟨S128x1x8x64x128, .f32⟩
  | 90 => ⟨S128x1x8x64x128, .f32⟩
  | 91 => ⟨S128x1x8x64x128, .f32⟩
  | 92 => ⟨S64x64x1, .i1⟩
  | 93 => ⟨S_, .i32⟩
  | 94 => ⟨S1x8x128x128, .f32⟩
  | 95 => ⟨S128x1x8x128x128, .f32⟩
  | 96 => ⟨S128x1x8x64x128, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1x1x8x64x128, .f32⟩
  | 104 => ⟨S1x8x64x128, .f32⟩
  | 105 => ⟨S_, .i32⟩
  | 106 => ⟨S_, .i32⟩
  | 107 => ⟨S_, .i32⟩
  | 108 => ⟨S_, .i32⟩
  | 109 => ⟨S1x1x8x64x128, .f32⟩
  | 110 => ⟨S1x8x64x128, .f32⟩
  | 111 => ⟨S_, .i32⟩
  | 112 => ⟨S_, .i32⟩
  | 113 => ⟨S_, .i32⟩
  | 114 => ⟨S_, .i32⟩
  | 115 => ⟨S1x1x8x64x128, .f32⟩
  | 116 => ⟨S1x8x64x128, .f32⟩
  | 117 => ⟨S_, .i32⟩
  | 118 => ⟨S_, .i32⟩
  | 119 => ⟨S_, .i32⟩
  | 120 => ⟨S_, .i32⟩
  | 121 => ⟨S1x1x8x64x128, .f32⟩
  | 122 => ⟨S1x8x64x128, .f32⟩
  | 123 => ⟨S_, .f32⟩
  | 124 => ⟨S_, .f32⟩
  | 125 => ⟨S1x8x64x128, .f32⟩
  | 126 => ⟨S1x8x64x1x128, .f32⟩
  | 127 => ⟨S1x8x1x64x128, .f32⟩
  | _ => ⟨S8192x6656, .bf16⟩

abbrev hbmTy0_1 (i : Nat) : BufTy := match i % 128 with
  | 0 => ⟨S1x8x64x64x128, .f32⟩
  | 1 => ⟨S1x8x64x64x128, .f32⟩
  | 2 => ⟨S1x8x64x64x128, .f32⟩
  | 3 => ⟨S_, .f32⟩
  | 4 => ⟨S_, .f32⟩
  | 5 => ⟨S1x8x64x64x128, .i1⟩
  | 6 => ⟨S1x8x64x64x128, .f32⟩
  | 7 => ⟨S1x8x64x64x128, .f32⟩
  | 8 => ⟨S1x8x64x64x128, .f32⟩
  | 9 => ⟨S1x8x64x1x128, .f32⟩
  | 10 => ⟨S1x8x1x64x128, .f32⟩
  | 11 => ⟨S1x8x64x64x128, .f32⟩
  | 12 => ⟨S1x8x64x64x128, .f32⟩
  | 13 => ⟨S1x8x64x64x128, .f32⟩
  | 14 => ⟨S1x8x64x64x128, .f32⟩
  | 15 => ⟨S_, .f32⟩
  | 16 => ⟨S1x8x64x64, .f32⟩
  | 17 => ⟨S1x8x64x128, .f32⟩
  | 18 => ⟨S1x8x64x128, .f32⟩
  | 19 => ⟨S1x8x64x128, .f32⟩
  | 20 => ⟨S1x8x64x128, .f32⟩
  | 21 => ⟨S1x8x1x128, .f32⟩
  | 22 => ⟨S1x8x64x128, .f32⟩
  | 23 => ⟨S1x8x64x128, .f32⟩
  | 24 => ⟨S1x8x64x128, .f32⟩
  | 25 => ⟨S1x8x64x128, .f32⟩
  | 26 => ⟨S1x8x128, .f32⟩
  | 27 => ⟨S1x8x128, .f32⟩
  | 28 => ⟨S1x8x128x1, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x64x128, .f32⟩
  | 34 => ⟨S1x1x8x128x128, .f32⟩
  | 35 => ⟨S_, .i32⟩
  | 36 => ⟨S_, .i32⟩
  | 37 => ⟨S_, .i32⟩
  | 38 => ⟨S_, .i32⟩
  | 39 => ⟨S128x1x8x128x128, .f32⟩
  | 40 => ⟨S1x1x8x64x128, .f32⟩
  | 41 => ⟨S_, .i32⟩
  | 42 => ⟨S_, .i32⟩
  | 43 => ⟨S_, .i32⟩
  | 44 => ⟨S_, .i32⟩
  | 45 => ⟨S128x1x8x64x128, .f32⟩
  | 46 => ⟨S_, .i32⟩
  | 47 => ⟨S_, .i32⟩
  | 48 => ⟨S1x128x64x8x128, .f32⟩
  | 49 => ⟨S1x8192x8x128, .f32⟩
  | 50 => ⟨S8192x1024, .f32⟩
  | 51 => ⟨S8192x1024, .bf16⟩
  | 52 => ⟨S128x8x128x128, .f32⟩
  | 53 => ⟨S8x128x128x128, .f32⟩
  | _ => ⟨S8192x6656, .bf16⟩

abbrev hbmTy (i : Nat) : BufTy := match i / 128 with
  | 0 => hbmTy0_0 i
  | 1 => hbmTy0_1 i
  | _ => ⟨S8192x6656, .bf16⟩

abbrev bufTy : (tb : Table) → Fin (tcTables nBuf tb) → BufTy
  | .hbm, ⟨i, _⟩ => hbmTy i
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_v50 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_0 : Ref sig .tc := ⟨.hbm, 77, rfl⟩
abbrev main_call2_v5 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_c_9 : Ref sig .tc := ⟨.hbm, 87, rfl⟩
abbrev main_v56_0 : Ref sig .tc := ⟨.hbm, 88, rfl⟩
abbrev main_v56_1 : Ref sig .tc := ⟨.hbm, 89, rfl⟩
abbrev main_v56_2 : Ref sig .tc := ⟨.hbm, 90, rfl⟩
abbrev main_v56_3 : Ref sig .tc := ⟨.hbm, 91, rfl⟩
abbrev main_v56_4 : Ref sig .tc := ⟨.hbm, 92, rfl⟩
abbrev main_v56_5 : Ref sig .tc := ⟨.hbm, 93, rfl⟩
abbrev main_v56_6 : Ref sig .tc := ⟨.hbm, 94, rfl⟩
abbrev main_v56_7 : Ref sig .tc := ⟨.hbm, 95, rfl⟩
abbrev main_v56_8 : Ref sig .tc := ⟨.hbm, 96, rfl⟩
abbrev main_while0c_c_18 : Ref sig .tc := ⟨.hbm, 97, rfl⟩
abbrev main_while0c_v63 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_call3_v0 : Ref sig .tc := ⟨.hbm, 103, rfl⟩
abbrev main_while0b_v63 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_c_1 : Ref sig .tc := ⟨.hbm, 107, rfl⟩
abbrev main_while0b_call4_c_2 : Ref sig .tc := ⟨.hbm, 108, rfl⟩
abbrev main_while0b_call4_v0 : Ref sig .tc := ⟨.hbm, 109, rfl⟩
abbrev main_while0b_v64 : Ref sig .tc := ⟨.hbm, 110, rfl⟩
abbrev main_while0b_call5_c : Ref sig .tc := ⟨.hbm, 111, rfl⟩
abbrev main_while0b_call5_c_0 : Ref sig .tc := ⟨.hbm, 112, rfl⟩
abbrev main_while0b_call5_c_1 : Ref sig .tc := ⟨.hbm, 113, rfl⟩
abbrev main_while0b_call5_c_2 : Ref sig .tc := ⟨.hbm, 114, rfl⟩
abbrev main_while0b_call5_v0 : Ref sig .tc := ⟨.hbm, 115, rfl⟩
abbrev main_while0b_v65 : Ref sig .tc := ⟨.hbm, 116, rfl⟩
abbrev main_while0b_call6_c : Ref sig .tc := ⟨.hbm, 117, rfl⟩
abbrev main_while0b_call6_c_0 : Ref sig .tc := ⟨.hbm, 118, rfl⟩
abbrev main_while0b_call6_c_1 : Ref sig .tc := ⟨.hbm, 119, rfl⟩
abbrev main_while0b_call6_c_2 : Ref sig .tc := ⟨.hbm, 120, rfl⟩
abbrev main_while0b_call6_v0 : Ref sig .tc := ⟨.hbm, 121, rfl⟩
abbrev main_while0b_v66 : Ref sig .tc := ⟨.hbm, 122, rfl⟩
abbrev main_while0b_call7_call0_cst : Ref sig .tc := ⟨.hbm, 123, rfl⟩
abbrev main_while0b_call7_call0_v0 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_v72 : Ref sig .tc := ⟨.hbm, 130, rfl⟩
abbrev main_while0b_cst_18 : Ref sig .tc := ⟨.hbm, 131, rfl⟩
abbrev main_while0b_call8_v0 : Ref sig .tc := ⟨.hbm, 132, rfl⟩
abbrev main_while0b_call8_v1 : Ref sig .tc := ⟨.hbm, 133, rfl⟩
abbrev main_while0b_call8_v2 : Ref sig .tc := ⟨.hbm, 134, rfl⟩
abbrev main_while0b_v73 : Ref sig .tc := ⟨.hbm, 135, rfl⟩
abbrev main_while0b_v74 : Ref sig .tc := ⟨.hbm, 136, rfl⟩
abbrev main_while0b_v75 : Ref sig .tc := ⟨.hbm, 137, rfl⟩
abbrev main_while0b_v76 : Ref sig .tc := ⟨.hbm, 138, rfl⟩
abbrev main_while0b_v77 : Ref sig .tc := ⟨.hbm, 139, rfl⟩
abbrev main_while0b_v78 : Ref sig .tc := ⟨.hbm, 140, rfl⟩
abbrev main_while0b_v79 : Ref sig .tc := ⟨.hbm, 141, rfl⟩
abbrev main_while0b_v80 : Ref sig .tc := ⟨.hbm, 142, rfl⟩
abbrev main_while0b_cst_19 : Ref sig .tc := ⟨.hbm, 143, rfl⟩
abbrev main_while0b_v81 : Ref sig .tc := ⟨.hbm, 144, rfl⟩
abbrev main_while0b_v82 : Ref sig .tc := ⟨.hbm, 145, rfl⟩
abbrev main_while0b_v83 : Ref sig .tc := ⟨.hbm, 146, rfl⟩
abbrev main_while0b_v84 : Ref sig .tc := ⟨.hbm, 147, rfl⟩
abbrev main_while0b_v85 : Ref sig .tc := ⟨.hbm, 148, rfl⟩
abbrev main_while0b_v86 : Ref sig .tc := ⟨.hbm, 149, rfl⟩
abbrev main_while0b_v87 : Ref sig .tc := ⟨.hbm, 150, rfl⟩
abbrev main_while0b_v88 : Ref sig .tc := ⟨.hbm, 151, rfl⟩
abbrev main_while0b_v89 : Ref sig .tc := ⟨.hbm, 152, rfl⟩
abbrev main_while0b_v90 : Ref sig .tc := ⟨.hbm, 153, rfl⟩
abbrev main_while0b_v91 : Ref sig .tc := ⟨.hbm, 154, rfl⟩
abbrev main_while0b_v92 : Ref sig .tc := ⟨.hbm, 155, rfl⟩
abbrev main_while0b_v93 : Ref sig .tc := ⟨.hbm, 156, rfl⟩
abbrev main_while0b_v94 : Ref sig .tc := ⟨.hbm, 157, rfl⟩
abbrev main_while0b_v95 : Ref sig .tc := ⟨.hbm, 158, rfl⟩
abbrev main_while0b_v96 : Ref sig .tc := ⟨.hbm, 159, rfl⟩
abbrev main_while0b_v97 : Ref sig .tc := ⟨.hbm, 160, rfl⟩
abbrev main_while0b_v98 : Ref sig .tc := ⟨.hbm, 161, rfl⟩
abbrev main_while0b_call9_v0 : Ref sig .tc := ⟨.hbm, 162, rfl⟩
abbrev main_while0b_call9_c : Ref sig .tc := ⟨.hbm, 163, rfl⟩
abbrev main_while0b_call9_c_0 : Ref sig .tc := ⟨.hbm, 164, rfl⟩
abbrev main_while0b_call9_c_1 : Ref sig .tc := ⟨.hbm, 165, rfl⟩
abbrev main_while0b_call9_c_2 : Ref sig .tc := ⟨.hbm, 166, rfl⟩
abbrev main_while0b_v99 : Ref sig .tc := ⟨.hbm, 167, rfl⟩
abbrev main_while0b_call10_v0 : Ref sig .tc := ⟨.hbm, 168, rfl⟩
abbrev main_while0b_call10_c : Ref sig .tc := ⟨.hbm, 169, rfl⟩
abbrev main_while0b_call10_c_0 : Ref sig .tc := ⟨.hbm, 170, rfl⟩
abbrev main_while0b_call10_c_1 : Ref sig .tc := ⟨.hbm, 171, rfl⟩
abbrev main_while0b_call10_c_2 : Ref sig .tc := ⟨.hbm, 172, rfl⟩
abbrev main_while0b_v100 : Ref sig .tc := ⟨.hbm, 173, rfl⟩
abbrev main_while0b_c_20 : Ref sig .tc := ⟨.hbm, 174, rfl⟩
abbrev main_while0b_v101 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_v61 : Ref sig .tc := ⟨.hbm, 180, rfl⟩
abbrev main_v62 : Ref sig .tc := ⟨.hbm, 181, rfl⟩

abbrev nD : Nat := 1
abbrev τ : Topo := Topo.v7x

variable {F : FTy → Type} [FloatOps F]

abbrev main_while0_count : Scf.Loop 32 := ⟨0#32, 128#32, 1#32⟩
-- ==== Kernel10.lean ====
abbrev S8192x6656 : Shape := ⟨2, ![8192, 6656]⟩
abbrev S8192x1024 : Shape := ⟨2, ![8192, 1024]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8192x6656 : Shape := ⟨2, ![8192, 6656]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S8192x1024, .bf16⟩
  | .hbm, ⟨3, _⟩ => ⟨S8192x6656, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel11.lean ====
abbrev S8192x1024 : Shape := ⟨2, ![8192, 1024]⟩
abbrev S8192x6656 : Shape := ⟨2, ![8192, 6656]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S1x1024, .f32⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x1024 : Shape := ⟨2, ![8192, 1024]⟩
abbrev S8192x6656 : Shape := ⟨2, ![8192, 6656]⟩
abbrev S1x1024 : Shape := ⟨2, ![1, 1024]⟩
abbrev S8192x8x128 : Shape := ⟨3, ![8192, 8, 128]⟩
abbrev S8x128 : Shape := ⟨2, ![8, 128]⟩
abbrev S_ : Shape := ⟨0, ![]⟩
abbrev S8192x8 : Shape := ⟨2, ![8192, 8]⟩
abbrev S8192x8x1 : Shape := ⟨3, ![8192, 8, 1]⟩
abbrev S1x8x128 : Shape := ⟨3, ![1, 8, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S1x1024, .f32⟩
  | .hbm, ⟨3, _⟩ => ⟨S8192x1024, .f32⟩
  | .hbm, ⟨4, _⟩ => ⟨S8192x6656, .f32⟩
  | .hbm, ⟨5, _⟩ => ⟨S8192x1024, .f32⟩
  | .hbm, ⟨6, _⟩ => ⟨S8192x8x128, .f32⟩
  | .hbm, ⟨7, _⟩ => ⟨S8x128, .f32⟩
  | .hbm, ⟨8, _⟩ => ⟨S8192x8x128, .f32⟩
  | .hbm, ⟨9, _⟩ => ⟨S_, .f32⟩
  | .hbm, ⟨10, _⟩ => ⟨S8192x8, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S_, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S8192x8x128, .f32⟩
  | .hbm, ⟨20, _⟩ => ⟨S8192x8x128, .f32⟩
  | .hbm, ⟨21, _⟩ => ⟨S1x8x128, .f32⟩
  | .hbm, ⟨22, _⟩ => ⟨S8192x8x128, .f32⟩
  | .hbm, ⟨23, _⟩ => ⟨S8192x8x128, .f32⟩
  | .hbm, ⟨24, _⟩ => ⟨S8192x8x128, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S_, .f32⟩
  | .hbm, ⟨31, _⟩ => ⟨S8192x8x128, .f32⟩
  | .hbm, ⟨32, _⟩ => ⟨S8192x8x128, .f32⟩
  | .hbm, ⟨33, _⟩ => ⟨S8192x8x128, .f32⟩
  | .hbm, ⟨34, _⟩ => ⟨S8192x8x128, .f32⟩
  | .hbm, ⟨35, _⟩ => ⟨S8192x1024, .f32⟩
  | .hbm, ⟨36, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel13.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S1024x1024 : Shape := ⟨2, ![1024, 1024]⟩
abbrev S1024x256 : Shape := ⟨2, ![1024, 256]⟩
abbrev S2816x256 : Shape := ⟨2, ![2816, 256]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .f32⟩
  | .hbm, ⟨2, _⟩ => ⟨S8192x1024, .f32⟩
  | .hbm, ⟨3, _⟩ => ⟨S1x1024, .f32⟩
  | .hbm, ⟨4, _⟩ => ⟨S2816x1024, .f32⟩
  | .hbm, ⟨5, _⟩ => ⟨S2816x1024, .bf16⟩
  | .hbm, ⟨6, _⟩ => ⟨S8192x1024, .f32⟩
  | .hbm, ⟨7, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .f32⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel14.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel15.lean ====
abbrev S8192x1024 : Shape := ⟨2, ![8192, 1024]⟩
abbrev S1x1024x2816 : Shape := ⟨3, ![1, 1024, 2816]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x2816, .f32⟩
  | .hbm, ⟨2, _⟩ => ⟨S1x1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S8192x1024 : Shape := ⟨2, ![8192, 1024]⟩
abbrev S1x1024x2816 : Shape := ⟨3, ![1, 1024, 2816]⟩
abbrev S1024x2816 : Shape := ⟨2, ![1024, 2816]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x2816, .f32⟩
  | .hbm, ⟨2, _⟩ => ⟨S1x1024x2816, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S1024x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel16.lean ====
abbrev S8192x6656 : Shape := ⟨2, ![8192, 6656]⟩
abbrev S1x4x128x128 : Shape := ⟨4, ![1, 4, 128, 128]⟩
abbrev S1x512 : Shape := ⟨2, ![1, 512]⟩
abbrev S4x128x128 : Shape := ⟨3, ![4, 128, 128]⟩
abbrev S8192x512 : Shape := ⟨2, ![8192, 512]⟩
abbrev S1024x512 : Shape := ⟨2, ![1024, 512]⟩
abbrev S16x512 : Shape := ⟨2, ![16, 512]⟩
abbrev S1040x512 : Shape := ⟨2, ![1040, 512]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 11
  | .smem => 0
  | _ => 0

abbrev bufTy : (tb : Table) → Fin (tcTables nBuf tb) → BufTy
  | .hbm, ⟨0, _⟩ => ⟨S8192x6656, .bf16⟩
  | .hbm, ⟨1, _⟩ => ⟨S1x4x128x128, .f32⟩
  | .hbm, ⟨2, _⟩ => ⟨S1x512, .f32⟩
  | .hbm, ⟨3, _⟩ => ⟨S4x128x128, .f32⟩
  | .hbm, ⟨4, _⟩ => ⟨S8192x512, .bf16⟩
  | .hbm, ⟨5, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S4x128x128, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1040x512, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S8192x6656 : Shape := ⟨2, ![8192, 6656]⟩
abbrev S1x4x128x128 : Shape := ⟨4, ![1, 4, 128, 128]⟩
abbrev S1x512 : Shape := ⟨2, ![1, 512]⟩
abbrev S8192x512 : Shape := ⟨2, ![8192, 512]⟩
abbrev S1x8192x4x128 : Shape := ⟨4, ![1, 8192, 4, 128]⟩
abbrev S_ : Shape := ⟨0, ![]⟩
abbrev S1x1x4x128 : Shape := ⟨4, ![1, 1, 4, 128]⟩
abbrev S1x8193x4x128 : Shape := ⟨4, ![1, 8193, 4, 128]⟩
abbrev S8192 : Shape := ⟨1, ![8192]⟩
abbrev S1x8193x1x128 : Shape := ⟨4, ![1, 8193, 1, 128]⟩
abbrev S1x8193x128 : Shape := ⟨3, ![1, 8193, 128]⟩
abbrev S1x8192x128 : Shape := ⟨3, ![1, 8192, 128]⟩
abbrev S1x1x128 : Shape := ⟨3, ![1, 1, 128]⟩
abbrev S1x8191x128 : Shape := ⟨3, ![1, 8191, 128]⟩
abbrev S1x8192x1 : Shape := ⟨3, ![1, 8192, 1]⟩
abbrev S1x8192x1x128 : Shape := ⟨4, ![1, 8192, 1, 128]⟩
abbrev S1x3x128 : Shape := ⟨3, ![1, 3, 128]⟩
abbrev S1x8189x128 : Shape := ⟨3, ![1, 8189, 128]⟩
abbrev S1x7x128 : Shape := ⟨3, ![1, 7, 128]⟩
abbrev S1x8185x128 : Shape := ⟨3, ![1, 8185, 128]⟩
abbrev S1x15x128 : Shape := ⟨3, ![1, 15, 128]⟩
abbrev S1x8177x128 : Shape := ⟨3, ![1, 8177, 128]⟩
abbrev S4x128x128 : Shape := ⟨3, ![4, 128, 128]⟩
abbrev S4x128x1x8192 : Shape := ⟨4, ![4, 128, 1, 8192]⟩

abbrev nBuf : Space → Nat
  | .hbm => 98
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S1x4x128x128, .f32⟩
  | .hbm, ⟨2, _⟩ => ⟨S1x512, .f32⟩
  | .hbm, ⟨3, _⟩ => ⟨S8192x512, .bf16⟩
  | .hbm, ⟨4, _⟩ => ⟨S8192x512, .f32⟩
  | .hbm, ⟨5, _⟩ => ⟨S1x8192x4x128, .f32⟩
  | .hbm, ⟨6, _⟩ => ⟨S_, .f32⟩
  | .hbm, ⟨7, _⟩ => ⟨S1x1x4x128, .f32⟩
  | .hbm, ⟨8, _⟩ => ⟨S_, .f32⟩
  | .hbm, ⟨9, _⟩ => ⟨S_, .f32⟩
  | .hbm, ⟨10, _⟩ => ⟨S1x8192x4x128, .f32⟩
  | .hbm, ⟨11, _⟩ => ⟨S1x8193x4x128, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S1x8193x1x128, .f32⟩
  | .hbm, ⟨17, _⟩ => ⟨S1x8193x128, .f32⟩
  | .hbm, ⟨18, _⟩ => ⟨S1x8192x128, .f32⟩
  | .hbm, ⟨19, _⟩ => ⟨S_, .f32⟩
  | .hbm, ⟨20, _⟩ => ⟨S1x1x128, .f32⟩
  | .hbm, ⟨21, _⟩ => ⟨S1x8191x128, .f32⟩
  | .hbm, ⟨22, _⟩ => ⟨S1x8192x128, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S1x8192x1, .f32⟩
  | .hbm, ⟨27, _⟩ => ⟨S1x8192x128, .f32⟩
  | .hbm, ⟨28, _⟩ => ⟨S1x8192x128, .f32⟩
  | .hbm, ⟨29, _⟩ => ⟨S1x8192x128, .f32⟩
  | .hbm, ⟨30, _⟩ => ⟨S1x8192x1x128, .f32⟩
  | .hbm, ⟨31, _⟩ => ⟨S1x8192x128, .f32⟩
  | .hbm, ⟨32, _⟩ => ⟨S1x8192x128, .f32⟩
  | .hbm, ⟨33, _⟩ => ⟨S1x8193x1x128, .f32⟩
  | .hbm, ⟨34, _⟩ => ⟨S1x8193x128, .f32⟩
  | .hbm, ⟨35, _⟩ => ⟨S1x8192x128, .f32⟩
  | .hbm, ⟨36, _⟩ => ⟨S_, .f32⟩
  | .hbm, ⟨37, _⟩ => ⟨S1x3x128, .f32⟩
  | .hbm, ⟨38, _⟩ => ⟨S1x8189x128, .f32⟩
  | .hbm, ⟨39, _⟩ => ⟨S1x8192x128, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S1x8192x1, .f32⟩
  | .hbm, ⟨44, _⟩ => ⟨S1x8192x128, .f32⟩
  | .hbm, ⟨45, _⟩ => ⟨S1x8192x128, .f32⟩
  | .hbm, ⟨46, _⟩ => ⟨S1x8192x128, .f32⟩
  | .hbm, ⟨47, _⟩ => ⟨S1x8192x1x128, .f32⟩
  | .hbm, ⟨48, _⟩ => ⟨S1x8192x128, .f32⟩
  | .hbm, ⟨49, _⟩ => ⟨S1x8192x128, .f32⟩
  | .hbm, ⟨50, _⟩ => ⟨S1x8193x1x128, .f32⟩
  | .hbm, ⟨51, _⟩ => ⟨S1x8193x128, .f32⟩
  | .hbm, ⟨52, _⟩ => ⟨S1x8192x128, .f32⟩
  | .hbm, ⟨53, _⟩ => ⟨S_, .f32⟩
  | .hbm, ⟨54, _⟩ => ⟨S1x7x128, .f32⟩
  | .hbm, ⟨55, _⟩ => ⟨S1x8185x128, .f32⟩
  | .hbm, ⟨56, _⟩ => ⟨S1x8192x128, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S1x8192x1, .f32⟩
  | .hbm, ⟨61, _⟩ => ⟨S1x8192x128, .f32⟩
  | .hbm, ⟨62, _⟩ => ⟨S1x8192x128, .f32⟩
  | .hbm, ⟨63, _⟩ => ⟨S1x8192x128, .f32⟩
  | .hbm, ⟨64, _⟩ => ⟨S1x8192x1x128, .f32⟩
  | .hbm, ⟨65, _⟩ => ⟨S1x8192x128, .f32⟩
  | .hbm, ⟨66, _⟩ => ⟨S1x8192x128, .f32⟩
  | .hbm, ⟨67, _⟩ => ⟨S1x8193x1x128, .f32⟩
  | .hbm, ⟨68, _⟩ => ⟨S1x8193x128, .f32⟩
  | .hbm, ⟨69, _⟩ => ⟨S1x8192x128, .f32⟩
  | .hbm, ⟨70, _⟩ => ⟨S_, .f32⟩
  | .hbm, ⟨71, _⟩ => ⟨S1x15x128, .f32⟩
  | .hbm, ⟨72, _⟩ => ⟨S1x8177x128, .f32⟩
  | .hbm, ⟨73, _⟩ => ⟨S1x8192x128, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S1x8192x1, .f32⟩
  | .hbm, ⟨78, _⟩ => ⟨S1x8192x128, .f32⟩
  | .hbm, ⟨79, _⟩ => ⟨S1x8192x128, .f32⟩
  | .hbm, ⟨80, _⟩ => ⟨S1x8192x128, .f32⟩
  | .hbm, ⟨81, _⟩ => ⟨S1x8192x1x128, .f32⟩
  | .hbm, ⟨82, _⟩ => ⟨S1x8192x128, .f32⟩
  | .hbm, ⟨83, _⟩ => ⟨S1x8192x128, .f32⟩
  | .hbm, ⟨84, _⟩ => ⟨S1x8192x1x128, .f32⟩
  | .hbm, ⟨85, _⟩ => ⟨S1x8192x1x128, .f32⟩
  | .hbm, ⟨86, _⟩ => ⟨S1x8192x1x128, .f32⟩
  | .hbm, ⟨87, _⟩ => ⟨S1x8192x1x128, .f32⟩
  | .hbm, ⟨88, _⟩ => ⟨S1x8192x4x128, .f32⟩
  | .hbm, ⟨89, _⟩ => ⟨S4x128x128, .f32⟩
  | .hbm, ⟨90, _⟩ => ⟨S4x128x1x8192, .f32⟩
  | .hbm, ⟨91, _⟩ => ⟨S1x8192x4x128, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .bf16⟩
  | .hbm, ⟨97, _⟩ => ⟨S8192x512, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩

abbrev nD : Nat := 1
abbrev τ : Topo := Topo.v7x

variable {F : FTy → Type} [FloatOps F]
-- ==== Kernel17.lean ====
abbrev S8192x1024 : Shape := ⟨2, ![8192, 1024]⟩
abbrev S1x1024x6656 : Shape := ⟨3, ![1, 1024, 6656]⟩
abbrev S1024x6656 : Shape := ⟨2, ![1024, 6656]⟩
abbrev S6656x1024 : Shape := ⟨2, ![6656, 1024]⟩
abbrev S8192x6656 : Shape := ⟨2, ![8192, 6656]⟩
abbrev S512x1024 : Shape := ⟨2, ![512, 1024]⟩
abbrev S512x6656 : Shape := ⟨2, ![512, 6656]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x6656, .f32⟩
  | .hbm, ⟨2, _⟩ => ⟨S1024x6656, .f32⟩
  | .hbm, ⟨3, _⟩ => ⟨S6656x1024, .f32⟩
  | .hbm, ⟨4, _⟩ => ⟨S6656x1024, .bf16⟩
  | .hbm, ⟨5, _⟩ => ⟨S8192x6656, .bf16⟩
  | .local _ .vmem, ⟨0, _⟩ => ⟨S512x1024, .bf16⟩
  | .local _ .vmem, ⟨1, _⟩ => ⟨S512x1024, .bf16⟩
  | .local _ .vmem, ⟨2, _⟩ => ⟨S6656x1024, .bf16⟩
  | .local _ .vmem, ⟨3, _⟩ => ⟨S512x6656, .bf16⟩
  | .local _ .vmem, ⟨4, _⟩ => ⟨S512x6656, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6656x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6656 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S8192x1024 : Shape := ⟨2, ![8192, 1024]⟩
abbrev S1x1024x6656 : Shape := ⟨3, ![1, 1024, 6656]⟩
abbrev S1024x6656 : Shape := ⟨2, ![1024, 6656]⟩
abbrev S8192x6656 : Shape := ⟨2, ![8192, 6656]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x6656, .f32⟩
  | .hbm, ⟨2, _⟩ => ⟨S8192x1024, .f32⟩
  | .hbm, ⟨3, _⟩ => ⟨S1024x6656, .f32⟩
  | .hbm, ⟨4, _⟩ => ⟨S8192x6656, .f32⟩
  | .hbm, ⟨5, _⟩ => ⟨S8192x6656, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x1024 : Shape := ⟨2, ![8192, 1024]⟩
abbrev S8192x3072 : Shape := ⟨2, ![8192, 3072]⟩
abbrev S3072x1024 : Shape := ⟨2, ![3072, 1024]⟩
abbrev S1024x1024 : Shape := ⟨2, ![1024, 1024]⟩
abbrev S1024x3072 : Shape := ⟨2, ![1024, 3072]⟩
abbrev S1024x256 : Shape := ⟨2, ![1024, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S3072x1024, .bf16⟩
  | .local _ .vmem, ⟨5, _⟩ => ⟨S1024x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference18Ideal.lean ====
abbrev S8192x1024 : Shape := ⟨2, ![8192, 1024]⟩
abbrev S8192x3072 : Shape := ⟨2, ![8192, 3072]⟩
abbrev S3072x8192 : Shape := ⟨2, ![3072, 8192]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x3072, .f32⟩
  | .hbm, ⟨3, _⟩ => ⟨S3072x8192, .f32⟩
  | .hbm, ⟨4, _⟩ => ⟨S8192x1024, .f32⟩
  | .hbm, ⟨5, _⟩ => ⟨S3072x1024, .f32⟩
  | .hbm, ⟨6, _⟩ => ⟨S3072x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S8x352x1024 : Shape := ⟨3, ![8, 352, 1024]⟩
abbrev S1x352x1024 : Shape := ⟨3, ![1, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== Reference19Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel20.lean ====
abbrev S8x1x1024 : Shape := ⟨3, ![8, 1, 1024]⟩
abbrev S1x1024 : Shape := ⟨2, ![1, 1024]⟩
abbrev S2x1024 : Shape := ⟨2, ![2, 1024]⟩
abbrev S1x1x1024 : Shape := ⟨3, ![1, 1, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8x1x1024, .f32⟩
  | .hbm, ⟨1, _⟩ => ⟨S8x1x1024, .f32⟩
  | .hbm, ⟨2, _⟩ => ⟨S1x1024, .f32⟩
  | .hbm, ⟨3, _⟩ => ⟨S2x1024, .f32⟩
  | .hbm, ⟨4, _⟩ => ⟨S1x1024, .f32⟩
  | .hbm, ⟨5, _⟩ => ⟨S2x1024, .f32⟩
  | .hbm, ⟨6, _⟩ => ⟨S1x1024, .f32⟩
  | .hbm, ⟨7, _⟩ => ⟨S2x1024, .f32⟩
  | .hbm, ⟨8, _⟩ => ⟨S1x1024, .f32⟩
  | .hbm, ⟨9, _⟩ => ⟨S2x1024, .f32⟩
  | .hbm, ⟨10, _⟩ => ⟨S1x1024, .f32⟩
  | .hbm, ⟨11, _⟩ => ⟨S2x1024, .f32⟩
  | .hbm, ⟨12, _⟩ => ⟨S1x1024, .f32⟩
  | .hbm, ⟨13, _⟩ => ⟨S2x1024, .f32⟩
  | .hbm, ⟨14, _⟩ => ⟨S1x1024, .f32⟩
  | .hbm, ⟨15, _⟩ => ⟨S2x1024, .f32⟩
  | .local _ .vmem, ⟨0, _⟩ => ⟨S8x1x1024, .f32⟩
  | .local _ .vmem, ⟨1, _⟩ => ⟨S8x1x1024, .f32⟩
  | .local _ .vmem, ⟨2, _⟩ => ⟨S1x1024, .f32⟩
  | .local _ .vmem, ⟨3, _⟩ => ⟨S2x1024, .f32⟩
  | .local _ .vmem, ⟨4, _⟩ => ⟨S1x1024, .f32⟩
  | .local _ .vmem, ⟨5, _⟩ => ⟨S2x1024, .f32⟩
  | .local _ .vmem, ⟨6, _⟩ => ⟨S1x1024, .f32⟩
  | .local _ .vmem, ⟨7, _⟩ => ⟨S2x1024, .f32⟩
  | .local _ .vmem, ⟨8, _⟩ => ⟨S1x1024, .f32⟩
  | .local _ .vmem, ⟨9, _⟩ => ⟨S2x1024, .f32⟩
  | .local _ .vmem, ⟨10, _⟩ => ⟨S1x1024, .f32⟩
  | .local _ .vmem, ⟨11, _⟩ => ⟨S2x1024, .f32⟩
  | .local _ .vmem, ⟨12, _⟩ => ⟨S1x1024, .f32⟩
  | .local _ .vmem, ⟨13, _⟩ => ⟨S2x1024, .f32⟩
  | .local _ .vmem, ⟨14, _⟩ => ⟨S1x1024, .f32⟩
  | .local _ .vmem, ⟨15, _⟩ => ⟨S2x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Kernel20Ideal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== Reference20Ideal.lean ====
abbrev S8x1x1024 : Shape := ⟨3, ![8, 1, 1024]⟩
abbrev S1x1024 : Shape := ⟨2, ![1, 1024]⟩
abbrev S2x1024 : Shape := ⟨2, ![2, 1024]⟩
abbrev S_ : Shape := ⟨0, ![]⟩
abbrev S1024 : Shape := ⟨1, ![1024]⟩

abbrev nBuf : Space → Nat
  | .hbm => 139
  | .vmem => 0
  | .smem => 0
  | _ => 0

abbrev hbmTy0_0 (i : Nat) : BufTy := match i % 128 with
  | 0 => ⟨S8x1x1024, .f32⟩
  | 1 => ⟨S8x1x1024, .f32⟩
  | 2 => ⟨S1x1024, .f32⟩
  | 3 => ⟨S2x1024, .f32⟩
  | 4 => ⟨S1x1024, .f32⟩
  | 5 => ⟨S2x1024, .f32⟩
  | 6 => ⟨S1x1024, .f32⟩
  | 7 => ⟨S2x1024, .f32⟩
  | 8 => ⟨S_, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S_, .f32⟩
  | 46 => ⟨S1024, .f32⟩
  | 47 => ⟨S1x1024, .f32⟩
  | 48 => ⟨S2x1024, .f32⟩
  | 49 => ⟨S2x1024, .i1⟩
  | 50 => ⟨S2x1024, .f32⟩
  | 51 => ⟨S_, .f32⟩
  | 52 => ⟨S1024, .f32⟩
  | 53 => ⟨S_, .f32⟩
  | 54 => ⟨S1024, .f32⟩
  | 55 => ⟨S1024, .f32⟩
  | 56 => ⟨S_, .f32⟩
  | 57 => ⟨S1024, .f32⟩
  | 58 => ⟨S1024, .i1⟩
  | 59 => ⟨S_, .f32⟩
  | 60 => ⟨S1024, .f32⟩
  | 61 => ⟨S1024, .i1⟩
  | 62 => ⟨S_, .f32⟩
  | 63 => ⟨S1024, .f32⟩
  | 64 => ⟨S_, .f32⟩
  | 65 => ⟨S1024, .f32⟩
  | 66 => ⟨S_, .f32⟩
  | 67 => ⟨S1024, .f32⟩
  | 68 => ⟨S1024, .f32⟩
  | 69 => ⟨S1024, .f32⟩
  | 70 => ⟨S1x1024, .f32⟩
  | 71 => ⟨S2x1024, .f32⟩
  | 72 => ⟨S2x1024, .f32⟩
  | 73 => ⟨S2x1024, .f32⟩
  | 74 => ⟨S_, .f32⟩
  | 75 => ⟨S1024, .f32⟩
  | 76 => ⟨S1x1024, .f32⟩
  | 77 => ⟨S2x1024, .f32⟩
  | 78 => ⟨S2x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S_, .f32⟩
  | 85 => ⟨S2x1024, .f32⟩
  | 86 => ⟨S1x1024, .f32⟩
  | 87 => ⟨S_, .f32⟩
  | 88 => ⟨S2x1024, .f32⟩
  | 89 => ⟨S_, .f32⟩
  | 90 => ⟨S_, .f32⟩
  | 91 => ⟨S2x1024, .f32⟩
  | 92 => ⟨S2x1024, .f32⟩
  | 93 => ⟨S2x1024, .f32⟩
  | 94 => ⟨S2x1024, .f32⟩
  | 95 => ⟨S_, .f32⟩
  | 96 => ⟨S1024, .f32⟩
  | 97 => ⟨S1x1024, .f32⟩
  | 98 => ⟨S1x1024, .f32⟩
  | 99 => ⟨S2x1024, .f32⟩
  | 100 => ⟨S2x1024, .f32⟩
  | 101 => ⟨S_, .f32⟩
  | 102 => ⟨S1024, .f32⟩
  | 103 => ⟨S2x1024, .f32⟩
  | 104 => ⟨S2x1024, .f32⟩
  | 105 => ⟨S2x1024, .f32⟩
  | 106 => ⟨S_, .f32⟩
  | 107 => ⟨S2x1024, .f32⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S2x1024, .f32⟩
  | _ => ⟨S8x1x1024, .f32⟩

abbrev hbmTy0_1 (i : Nat) : BufTy := match i % 128 with
  | 0 => ⟨S_, .f32⟩
  | 1 => ⟨S2x1024, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S2x1024, .f32⟩
  | 8 => ⟨S_, .f32⟩
  | 9 => ⟨S2x1024, .f32⟩
  | 10 => ⟨S2x1024, .f32⟩
  | _ => ⟨S8x1x1024, .f32⟩

abbrev hbmTy (i : Nat) : BufTy := match i / 128 with
  | 0 => hbmTy0_0 i
  | 1 => hbmTy0_1 i
  | _ => ⟨S8x1x1024, .f32⟩

abbrev bufTy : (tb : Table) → Fin (tcTables nBuf tb) → BufTy
  | .hbm, ⟨i, _⟩ => hbmTy i
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_cst_12 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_v34 : Ref sig .tc := ⟨.hbm, 57, rfl⟩
abbrev main_v35 : Ref sig .tc := ⟨.hbm, 58, rfl⟩
abbrev main_cst_14 : Ref sig .tc := ⟨.hbm, 59, rfl⟩
abbrev main_v36 : Ref sig .tc := ⟨.hbm, 60, rfl⟩
abbrev main_v37 : Ref sig .tc := ⟨.hbm, 61, rfl⟩
abbrev main_cst_15 : Ref sig .tc := ⟨.hbm, 62, rfl⟩
abbrev main_v38 : Ref sig .tc := ⟨.hbm, 63, rfl⟩
abbrev main_cst_16 : Ref sig .tc := ⟨.hbm, 64, rfl⟩
abbrev main_v39 : Ref sig .tc := ⟨.hbm, 65, rfl⟩
abbrev main_cst_17 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_18 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_19 : Ref sig .tc := ⟨.hbm, 80, rfl⟩
abbrev main_v52 : Ref sig .tc := ⟨.hbm, 81, rfl⟩
abbrev main_v53 : Ref sig .tc := ⟨.hbm, 82, rfl⟩
abbrev main_call0_call0_cst : Ref sig .tc := ⟨.hbm, 83, rfl⟩
abbrev main_call0_call0_v0 : Ref sig .tc := ⟨.hbm, 84, rfl⟩
abbrev main_v54 : Ref sig .tc := ⟨.hbm, 85, rfl⟩
abbrev main_v55 : Ref sig .tc := ⟨.hbm, 86, rfl⟩
abbrev main_cst_20 : Ref sig .tc := ⟨.hbm, 87, rfl⟩
abbrev main_v56 : Ref sig .tc := ⟨.hbm, 88, rfl⟩
abbrev main_call1_call0_cst : Ref sig .tc := ⟨.hbm, 89, rfl⟩
abbrev main_call1_call0_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_21 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_22 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_23 : Ref sig .tc := ⟨.hbm, 106, rfl⟩
abbrev main_v70 : Ref sig .tc := ⟨.hbm, 107, rfl⟩
abbrev main_v71 : Ref sig .tc := ⟨.hbm, 108, rfl⟩
abbrev main_cst_24 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_25 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_26 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_27 : Ref sig .tc := ⟨.hbm, 121, rfl⟩
abbrev main_v81 : Ref sig .tc := ⟨.hbm, 122, rfl⟩
abbrev main_v82 : Ref sig .tc := ⟨.hbm, 123, rfl⟩
abbrev main_cst_28 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_29 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_30 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_31 : Ref sig .tc := ⟨.hbm, 136, rfl⟩
abbrev main_v92 : Ref sig .tc := ⟨.hbm, 137, rfl⟩
abbrev main_v93 : Ref sig .tc := ⟨.hbm, 138, rfl⟩

abbrev nD : Nat := 1
abbrev τ : Topo := Topo.v7x

variable {F : FTy → Type} [FloatOps F]
-- ==== Proof.Sigmoid.lean ====
/- The logistic function on the extended reals, in the two spellings the programs use. -/
module

public import Idealize.ShloMosaic.PureOps.Ideal
public import Idealize.ShloMosaic.Lib.IdealHost
public import Idealize.ShloMosaic.Lib.Pointwise

@[expose] public section

noncomputable section

namespace Cert.Math

open Idealize.ShloMosaic

/-- The single-precision word `0x3F000000` is one half. -/
theorem half_f32 : Ideal.ofBits .f32 0x3F000000#32 = ((1 / 2 : ℝ) : EReal) := by
  have e1 : (0x3F000000#32).extractLsb' 31 1 = 0#1 := by decide
  have e2 : ((0x3F000000#32).extractLsb' 23 8).toNat = 126 := by decide
  have e3 : ((0x3F000000#32).extractLsb' 0 23).toNat = 0 := by decide
  simp only [Ideal.ofBits, Ideal.ieee, e1, e2, e3]
  norm_num [zpow_neg]

/-- `tanh` of half a real, halved and lifted by one half, is the logistic function of that real. -/
theorem tanh_half_real (r : ℝ) :
    1 / 2 * Real.tanh (1 / 2 * r) + 1 / 2 = (1 + Real.exp (-r))⁻¹ := by
  have h1 : Real.exp (1 / 2 * r) * Real.exp (-(1 / 2 * r)) = 1 := by
    rw [← Real.exp_add]; simp
  have h2 : Real.exp (-r) = Real.exp (-(1 / 2 * r)) * Real.exp (-(1 / 2 * r)) := by
    rw [← Real.exp_add]; ring_nf
  have p1 := Real.exp_pos (1 / 2 * r)
  have p2 := Real.exp_pos (-(1 / 2 * r))
  rw [Real.tanh_eq_sinh_div_cosh, Real.sinh_eq, Real.cosh_eq, h2]
  generalize Real.exp (1 / 2 * r) = a at *
  generalize Real.exp (-(1 / 2 * r)) = b at *
  have hs : a + b ≠ 0 := by positivity
  have hb : 1 + b * b ≠ 0 := by positivity
  field_simp
  nlinarith

/-- The kernel's sigmoid, `tanh (x / 2) / 2 + 1 / 2`, is the logistic function at every extended real. -/
theorem sigmoid_eq (x : EReal) :
    Ideal.ofBits .f32 0x3F000000#32 * Ideal.tanh (Ideal.ofBits .f32 0x3F000000#32 * x)
      + Ideal.ofBits .f32 0x3F000000#32 = Ideal.div 1 (1 + Ideal.exp (-x)) := by
  change _ = Ideal.logistic x
  rw [half_f32]
  induction x with
  | bot =>
    rw [EReal.coe_mul_bot_of_pos (by norm_num), Ideal.logistic_bot]
    show ((1 / 2 : ℝ) : EReal) * (-1) + ((1 / 2 : ℝ) : EReal) = 0
    rw [show (-1 : EReal) = ((-1 : ℝ) : EReal) from rfl, ← EReal.coe_mul, ← EReal.coe_add]
    norm_num
  | top =>
    rw [EReal.coe_mul_top_of_pos (by norm_num), Ideal.logistic_top]
    show ((1 / 2 : ℝ) : EReal) * 1 + ((1 / 2 : ℝ) : EReal) = 1
    rw [mul_one, ← EReal.coe_add]
    norm_num
  | coe r =>
    rw [← EReal.coe_mul, Ideal.tanh_coe, ← EReal.coe_mul, ← EReal.coe_add, tanh_half_real,
      Ideal.logistic_coe]

end Cert.Math

end
-- ==== Proof.Merge.lean ====
/- The gates' backward call: the gradients of `sigmoid ga * ya + sigmoid gb * yb`. -/
module

public import proofs.«01_k».proof.Proof.Gen.KernelIdeal.Value
public import proofs.«01_k».proof.Proof.Gen.ReferenceIdeal.Run
public import proofs.«01_k».proof.Proof.Sigmoid
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeValue

open Cert.KernelIdeal Cert.KernelIdeal.Gen

variable (m : (ℓ : Loc nD τ sig) → Buf (Elt Ideal) ℓ)

/-- The logistic function of the gate that starts at column `o`. -/
def gate (o : ℕ) (ho : o + 1024 ≤ 6656) (P : FVec Ideal S8192x6656 .bf16) (r : Fin 8192) (l : Fin 1024) : EReal :=
  Ideal.div 1 (1 + Ideal.exp (-P (ix2 r ⟨o + l, by omega⟩)))

/-- Gradient of one branch: the cotangent times the branch's gate. -/
def dBranch (o : ℕ) (ho : o + 1024 ≤ 6656) (D : FVec Ideal S8192x1024 .bf16) (P : FVec Ideal S8192x6656 .bf16) :
    FVec Ideal S8192x1024 .bf16 := fun i => gate o ho P (i 0) (i 1) * D i

/-- Gradient of one gate: the cotangent times the branch times the logistic function's derivative. -/
def dGate (o : ℕ) (ho : o + 1024 ≤ 6656) (D : FVec Ideal S8192x1024 .bf16) (P : FVec Ideal S8192x6656 .bf16)
    (Y : FVec Ideal S8192x1024 .bf16) : FVec Ideal S8192x1024 .bf16 :=
  fun i => D i * Y i * (gate o ho P (i 0) (i 1) * (1 - gate o ho P (i 0) (i 1)))

/-- The windows' block indices at each point of the grid. -/
theorem idx : ∀ t : Fin cfg0.N, win0_0.index t = ![t.val % 4, t.val / 4] ∧ win0_1.index t = ![t.val % 4, 9 + t.val / 4]
    ∧ win0_2.index t = ![t.val % 4, 11 + t.val / 4] ∧ win0_3.index t = ![t.val % 4, t.val / 4]
    ∧ win0_4.index t = ![t.val % 4, t.val / 4] ∧ win0_5.index t = ![t.val % 4, t.val / 4]
    ∧ win0_6.index t = ![t.val % 4, t.val / 4] ∧ win0_7.index t = ![t.val % 4, t.val / 4]
    ∧ win0_8.index t = ![t.val % 4, t.val / 4] :=
  (by decide +kernel : ∀ t : Fin grid0.N, _)

/-- What the call stores for the first branch is its gradient. -/
theorem final5 (c : Dev nD) : (dats m 0 c).arrAt 5 (cfgs 0).N
    = dBranch 4608 (by decide) (m ((c : Thread nD τ).loc main_arg0)) (m ((c : Thread nD τ).loc main_arg1)) := by
  refine (dats m 0 c).arrAt_eq_of_covers 5 _ (by decide +kernel) fun t _ y => ?_
  blk_simp
  rw [after0_5]; frame_out
  pointwise [k0_pay10, k0_pay4, k0_pay5, dBranch, gate, Cert.Math.sigmoid_eq]
  rw [mul_comm]
  blk_point [iblk, V, idx t]

/-- What the call stores for the second branch is its gradient. -/
theorem final6 (c : Dev nD) : (dats m 0 c).arrAt 6 (cfgs 0).N
    = dBranch 5632 (by decide) (m ((c : Thread nD τ).loc main_arg0)) (m ((c : Thread nD τ).loc main_arg1)) := by
  refine (dats m 0 c).arrAt_eq_of_covers 6 _ (by decide +kernel) fun t _ y => ?_
  blk_simp
  rw [after0_6]; frame_out
  pointwise [k0_pay1, k0_pay7, k0_pay4, k0_pay6, dBranch, gate, Cert.Math.sigmoid_eq]
  rw [mul_comm]
  blk_point [iblk, V, idx t]

/-- What the call stores for the first gate is its gradient. -/
theorem final7 (c : Dev nD) : (dats m 0 c).arrAt 7 (cfgs 0).N
    = dGate 4608 (by decide) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]; frame_out
  pointwise [k0_pay2, k0_pay8, k0_pay4, k0_pay5, dGate, gate, Cert.Math.sigmoid_eq]
  rw [mul_assoc]
  blk_point [iblk, V, idx t]

/-- What the call stores for the second gate is its gradient. -/
theorem final8 (c : Dev nD) : (dats m 0 c).arrAt 8 (cfgs 0).N
    = dGate 5632 (by decide) (m ((c : Thread nD τ).loc main_arg0)) (m ((c : Thread nD τ).loc main_arg1))
        (m ((c : Thread nD τ).loc main_arg3)) := by
  refine (dats m 0 c).arrAt_eq_of_covers 8 _ (by decide +kernel) fun t _ y => ?_
  blk_simp
  rw [after0_8]; frame_out
  pointwise [k0_pay3, k0_pay9, k0_pay4, k0_pay6, dGate, gate, Cert.Math.sigmoid_eq]
  rw [mul_assoc]
  blk_point [iblk, V, idx t]

end Cert.MergeValue

namespace Cert.Proof

/-- The plain gated sum's gradients run to the end and leave the arguments unchanged. -/
theorem frameRef1 : Cert.quiescent_ReferenceIdeal (hReferenceIdeal := Cert.ReferenceIdeal.Gen.facts) := by
  intro m g _
  exact (θ_run Cert.ReferenceIdeal.defs _ _).mono
    (fun r h => ⟨fun c => (h c).2.2.2.2, sem_eq_zero_of_no_sems (by decide) r.2⟩)
    (Cert.ReferenceIdeal.Value.run (F := Ideal) m g)

/-- The kernel's four gradients are those of the plain gated sum, whatever the arguments. -/
theorem algebraic1 : Cert.algebraic_KernelIdeal_ReferenceIdeal
    (hKernelIdeal := Cert.KernelIdeal.Gen.facts) (hReferenceIdeal := Cert.ReferenceIdeal.Gen.facts) := by
  pair_intro
  · run_from Cert.KernelIdeal.Gen.run_main m g
  · run_from Cert.ReferenceIdeal.Value.run m' g'
    · refine Eq.trans ?_ (MergeValue.final5 m c).symm
      funext i; pointwise [MergeValue.dBranch, MergeValue.gate]
    · refine Eq.trans ?_ (MergeValue.final6 m c).symm
      funext i; pointwise [MergeValue.dBranch, MergeValue.gate]
    · refine Eq.trans ?_ (MergeValue.final7 m c).symm
      funext i; pointwise [MergeValue.dGate, MergeValue.gate]
    · refine Eq.trans ?_ (MergeValue.final8 m c).symm
      funext i; pointwise [MergeValue.dGate, MergeValue.gate]

end Cert.Proof

end
-- ==== Proof.PoolMath.lean ====
/- Trailing and leading window sums as differences of running sums, and the host's running sums as finite sums. -/
module

public import proofs.«01_k».proof.Reference2Ideal
public import Idealize.ShloMosaic.Lib.Pipeline.ValueKit
public import Idealize.ShloMosaic.Lib.Claim

@[expose] public section

set_option maxRecDepth 16384

noncomputable section

open Idealize.ShloMosaic

namespace Cert.PoolMath

/-- A left fold of additions is the initial value plus the sum. -/
theorem foldl_add {α : Type} (f : α → EReal) : ∀ (l : List α) (v : EReal),
    l.foldl (fun r n => r + f n) v = v + (l.map f).sum
  | [], v => by simp
  | a :: l, v => by rw [List.foldl_cons, foldl_add f l, List.map_cons, List.sum_cons, add_assoc]

/-- A window that is long along the second of four axes alone is indexed by its second coordinate. -/
def winEquiv (n : ℕ) : (⟨4, ![1, n, 1, 1]⟩ : Shape).Idx ≃ Fin n where
  toFun k := k 1
  invFun s := ix4 (0 : Fin 1) s (0 : Fin 1) (0 : Fin 1)
  left_inv k := by
    funext a
    fin_cases a
    · exact Subsingleton.elim (α := Fin 1) _ _
    · rfl
    · exact Subsingleton.elim (α := Fin 1) _ _
    · exact Subsingleton.elim (α := Fin 1) _ _
  right_inv s := rfl

/-- The host's window sum is a finite sum over the window's positions. -/
theorem window_sum {s t : Shape} (window strides lo hi : Fin s.rank → ℕ) (h : s.ReduceWindows window strides lo hi t)
    (x : s.Idx → EReal) (v : EReal) (j : t.Idx) :
    Ideal.hostReduceWindowAdd window strides lo hi h x v j
      = v + ∑ k : (⟨s.rank, window⟩ : Shape).Idx,
          if hin : ∀ a, lo a ≤ (j (a.cast h.1.symm)).val * strides a + (k a).val
              ∧ (j (a.cast h.1.symm)).val * strides a + (k a).val - lo a < s.size a
          then x (fun a => ⟨(j (a.cast h.1.symm)).val * strides a + (k a).val - lo a, (hin a).2⟩) else v := by
  unfold Ideal.hostReduceWindowAdd Host.reduceWindow
  dsimp only
  rw [foldl_add, ← Fin.sum_univ_def,
    ← Equiv.sum_comp (⟨s.rank, window⟩ : Shape).rowMajor.symm]
  refine congrArg _ (Finset.sum_congr rfl fun k _ => ?_)
  congr

/-- The window of a running sum along the second axis, position by position. -/
theorem window_at {n : ℕ} (lo hi : ℕ) (h : (⟨4, ![1, n, 4, 128]⟩ : Shape).ReduceWindows ![1, n, 1, 1] ![1, 1, 1, 1] ![0, lo, 0, 0] ![0, hi, 0, 0] ⟨4, ![1, n, 4, 128]⟩)
    (x : (⟨4, ![1, n, 4, 128]⟩ : Shape).Idx → EReal) (a : Fin 1) (r : Fin n) (g : Fin 4) (l : Fin 128) :
    Ideal.hostReduceWindowAdd ![1, n, 1, 1] ![1, 1, 1, 1] ![0, lo, 0, 0] ![0, hi, 0, 0] h x 0 (ix4 a r g l)
      = ∑ s : Fin n, if hs : lo ≤ r.val + s.val ∧ r.val + s.val - lo < n then x (ix4 a ⟨r.val + s.val - lo, hs.2⟩ g l) else 0 := by
  rw [window_sum, zero_add, ← Equiv.sum_comp (winEquiv n).symm]
  refine Finset.sum_congr rfl fun s _ => ?_
  rw [show (winEquiv n).symm s = ix4 (0 : Fin 1) s (0 : Fin 1) (0 : Fin 1) from rfl]
  by_cases hs : lo ≤ r.val + s.val ∧ r.val + s.val - lo < n
  · rw [dif_pos hs, dif_pos]
    · congr 1
      funext b
      fin_cases b <;> apply Fin.ext <;> simp [ix4]
    · intro b
      fin_cases b <;> simp [ix4] <;> omega
  · rw [dif_neg hs, dif_neg]
    intro hin
    have := hin 1
    simp [ix4] at this
    exact hs ⟨this.1, this.2⟩

/-- The running sum from the front: at row `r`, the rows up to `r`. -/
theorem cum_front {n : ℕ} (h : (⟨4, ![1, n, 4, 128]⟩ : Shape).ReduceWindows ![1, n, 1, 1] ![1, 1, 1, 1] ![0, n - 1, 0, 0] ![0, 0, 0, 0] ⟨4, ![1, n, 4, 128]⟩)
    (x : (⟨4, ![1, n, 4, 128]⟩ : Shape).Idx → EReal) (a : Fin 1) (r : Fin n) (g : Fin 4) (l : Fin 128) :
    Ideal.hostReduceWindowAdd ![1, n, 1, 1] ![1, 1, 1, 1] ![0, n - 1, 0, 0] ![0, 0, 0, 0] h x 0 (ix4 a r g l)
      = ∑ k ∈ Finset.range (r.val + 1), if hk : k < n then x (ix4 a ⟨k, hk⟩ g l) else 0 := by
  rw [window_at]
  have hr := r.isLt
  refine Finset.sum_bij_ne_zero (fun s _ _ => r.val + s.val - (n - 1)) ?_ ?_ ?_ ?_
  · intro s _ hs
    have := s.isLt
    by_cases hc : n - 1 ≤ r.val + s.val ∧ r.val + s.val - (n - 1) < n
    · exact Finset.mem_range.mpr (by omega)
    · exact absurd (dif_neg hc) hs
  · intro s _ hs s' _ hs' e
    by_cases hc : n - 1 ≤ r.val + s.val ∧ r.val + s.val - (n - 1) < n
    · by_cases hc' : n - 1 ≤ r.val + s'.val ∧ r.val + s'.val - (n - 1) < n
      · exact Fin.ext (by omega)
      · exact absurd (dif_neg hc') hs'
    · exact absurd (dif_neg hc) hs
  · intro k hk hne
    have hk' := Finset.mem_range.mp hk
    have hs : k + (n - 1) - r.val < n := by omega
    have e : r.val + (k + (n - 1) - r.val) - (n - 1) = k := by omega
    refine ⟨⟨k + (n - 1) - r.val, hs⟩, Finset.mem_univ _, ?_, e⟩
    rw [dif_pos ⟨by simp only []; omega, by simp only []; omega⟩]
    rw [dif_pos (by omega)] at hne
    convert hne using 4
  · intro s _ hs
    by_cases hc : n - 1 ≤ r.val + s.val ∧ r.val + s.val - (n - 1) < n
    · rw [dif_pos hc, dif_pos hc.2]
    · exact absurd (dif_neg hc) hs

/-- The running sum from the back: at row `r`, the rows from `r` on. -/
theorem cum_back {n : ℕ} (h : (⟨4, ![1, n, 4, 128]⟩ : Shape).ReduceWindows ![1, n, 1, 1] ![1, 1, 1, 1] ![0, 0, 0, 0] ![0, n - 1, 0, 0] ⟨4, ![1, n, 4, 128]⟩)
    (x : (⟨4, ![1, n, 4, 128]⟩ : Shape).Idx → EReal) (a : Fin 1) (r : Fin n) (g : Fin 4) (l : Fin 128) :
    Ideal.hostReduceWindowAdd ![1, n, 1, 1] ![1, 1, 1, 1] ![0, 0, 0, 0] ![0, n - 1, 0, 0] h x 0 (ix4 a r g l)
      = ∑ k ∈ Finset.Ico r.val n, if hk : k < n then x (ix4 a ⟨k, hk⟩ g l) else 0 := by
  rw [window_at]
  have hr := r.isLt
  refine Finset.sum_bij_ne_zero (fun s _ _ => r.val + s.val) ?_ ?_ ?_ ?_
  · intro s _ hs
    by_cases hc : 0 ≤ r.val + s.val ∧ r.val + s.val - 0 < n
    · exact Finset.mem_Ico.mpr (by omega)
    · exact absurd (dif_neg hc) hs
  · intro s _ _ s' _ _ e
    exact Fin.ext (by omega)
  · intro k hk hne
    have hk' := Finset.mem_Ico.mp hk
    have hs : k - r.val < n := by omega
    have e : r.val + (k - r.val) = k := by omega
    refine ⟨⟨k - r.val, hs⟩, Finset.mem_univ _, ?_, e⟩
    rw [dif_pos ⟨by omega, by simp only []; omega⟩]
    rw [dif_pos hk'.2] at hne
    convert hne using 4
    exact e
  · intro s _ hs
    by_cases hc : 0 ≤ r.val + s.val ∧ r.val + s.val - 0 < n
    · rw [dif_pos hc, dif_pos (by omega)]
      rfl
    · exact absurd (dif_neg hc) hs

/-- A finite sum of reals, read among the extended reals. -/
theorem coe_sum {α : Type} (s : Finset α) (f : α → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_ite (p : Prop) [Decidable p] (x : ℝ) : (if p then (x : EReal) else 0) = ((if p then x else 0 : ℝ) : EReal) := by
  split_ifs <;> rfl

/-- A trailing window is the difference of two prefixes, among the reals. -/
theorem trailing_real (x : ℕ → ℝ) (r : ℕ) : ∀ w : ℕ,
    ∑ k ∈ Finset.range (r + 1), x k - ∑ k ∈ Finset.range (r + 1 - w), x k = ∑ j ∈ Finset.range w, if j ≤ r then x (r - j) else 0
  | 0 => by simp
  | w + 1 => by
    rw [Finset.sum_range_succ _ w, ← trailing_real x r w]
    by_cases h : w ≤ r
    · rw [if_pos h, show r + 1 - w = (r - w) + 1 by omega, show r + 1 - (w + 1) = r - w by omega, Finset.sum_range_succ _ (r - w)]
      ring
    · rw [if_neg h, show r + 1 - w = 0 by omega, show r + 1 - (w + 1) = 0 by omega, add_zero]

/-- A trailing window of finite values is the difference of two prefixes. -/
theorem trailing (x : ℕ → ℝ) (r w : ℕ) :
    ∑ k ∈ Finset.range (r + 1), (x k : EReal) - ∑ k ∈ Finset.range (r + 1 - w), (x k : EReal)
      = ∑ j ∈ Finset.range w, if j ≤ r then (x (r - j) : EReal) else 0 := by
  simp only [coe_ite, coe_sum]
  rw [← EReal.coe_sub, trailing_real]

/-- A leading window is what is left of a suffix sum when each row's value is taken off `w` rows later. -/
theorem leading_real (q : ℕ → ℝ) (n r : ℕ) (hr : r ≤ n) (hq : ∀ k, n ≤ k → q k = 0) (w : ℕ) :
    ∑ k ∈ Finset.Ico r n, (q k - q (k + w)) = ∑ j ∈ Finset.range w, q (r + j) := by
  rw [Finset.sum_sub_distrib, Finset.sum_Ico_add' q r n w]
  have h1 := Finset.sum_Ico_consecutive q (show r ≤ r + w by omega) (show r + w ≤ n + w by omega)
  have h2 := Finset.sum_Ico_consecutive q hr (show n ≤ n + w by omega)
  have h3 : ∑ k ∈ Finset.Ico n (n + w), q k = 0 := Finset.sum_eq_zero fun k hk => hq k (Finset.mem_Ico.mp hk).1
  have h4 : ∑ k ∈ Finset.Ico r (r + w), q k = ∑ j ∈ Finset.range w, q (r + j) := by
    rw [Finset.sum_Ico_eq_sum_range, Nat.add_sub_cancel_left]
  linarith

/-- The same for finite values: what the reverse running sum of the two cotangents of a window leaves. -/
theorem leading (q : ℕ → ℝ) (n r w : ℕ) (hr : r ≤ n) :
    ∑ k ∈ Finset.Ico r n, ((if k + w < n then -(q (k + w) : EReal) else 0) + (q k : EReal))
      = ∑ j ∈ Finset.range w, if r + j < n then (q (r + j) : EReal) else 0 := by
  have h := leading_real (fun k => if k < n then q k else 0) n r hr (fun k hk => if_neg (by omega)) w
  simp only [coe_ite, coe_sum, ← EReal.coe_neg, ← EReal.coe_add]
  rw [← h]
  refine congrArg _ (Finset.sum_congr rfl fun k hk => ?_)
  rw [if_pos (Finset.mem_Ico.mp hk).2]
  split_ifs <;> ring

end Cert.PoolMath
end
-- ==== Proof.PoolA.lean ====
/- The multi-scale pool's forward call: the trailing means, read off the tiles of the first launch. -/
module

public import proofs.«01_k».proof.Proof.Gen.Kernel2Ideal.Frame
public import proofs.«01_k».proof.Proof.PoolMath
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolValue

open Cert.Kernel2Ideal Cert.Kernel2Ideal.Gen

/-- The number of rows in the trailing window of a column's group. -/
def win (l : ℕ) : ℕ := 2 * 2 ^ (l / 128)

/-- The number of rows the window of row `r` really holds. -/
def cnt (r l : ℕ) : EReal := ((min (r + 1) (win l) : ℕ) : ℝ)

/-- The pool's input with sixteen rows of zeros before it: row `k` is the input's row `k - 16`. -/
def Uz (P : FVec Ideal S8192x6656 .bf16) (k l : ℕ) : EReal :=
  if h : 16 ≤ k ∧ k - 16 < 8192 ∧ l < 512 then P (ix2 ⟨k - 16, h.2.1⟩ ⟨4096 + l, by omega⟩) else 0

/-- The pooled value of row `r` and column `l`: the mean over the trailing window less the row itself. -/
def pooledAt (P : FVec Ideal S8192x6656 .bf16) (r l : ℕ) : EReal :=
  Ideal.div (∑ j ∈ Finset.range (win l), Uz P (r + (16 - j)) l) (cnt r l) - Uz P (r + 16) l

def pooled (P : FVec Ideal S8192x6656 .bf16) : FVec Ideal S8192x512 .bf16 := fun i => pooledAt P (i 0).val (i 1).val

/-- The word a row's window size is read from. -/
theorem cnt_word (t x w : ℕ) (ht : t < 8) (hx : x < 1024) (hw : w ≤ 16) :
    (FloatOps.sitofp .f32 (IntOp.minsi (IntOp.addi (IntOp.addi (Scalar.muli (BitVec.ofNat 32 t) 1024#32) (BitVec.ofNat 32 x)) 1#32)
      (BitVec.ofNat 32 w)) : Ideal .f32) = ((min (1024 * t + x + 1) w : ℕ) : ℝ) := by
  have e : IntOp.addi (IntOp.addi (Scalar.muli (BitVec.ofNat 32 t) 1024#32) (BitVec.ofNat 32 x)) 1#32
      = BitVec.ofNat 32 (1024 * t + x + 1) := by
    show BitVec.ofNat 32 t * 1024#32 + BitVec.ofNat 32 x + 1#32 = _
    apply BitVec.eq_of_toNat_eq
    simp only [BitVec.toNat_add, BitVec.toNat_mul, BitVec.toNat_ofNat]
    omega
  rw [e]
  have h1 : (Scalar.minsi (BitVec.ofNat 32 (1024 * t + x + 1)) (BitVec.ofNat 32 w)).toInt = ((min (1024 * t + x + 1) w : ℕ) : ℤ) := by
    have i1 : (BitVec.ofNat 32 (1024 * t + x + 1)).toInt = ((1024 * t + x + 1 : ℕ) : ℤ) := by
      rw [BitVec.toInt_ofNat', Int.bmod_eq_of_le] <;> omega
    have i2 : (BitVec.ofNat 32 w).toInt = ((w : ℕ) : ℤ) := by
      rw [BitVec.toInt_ofNat', Int.bmod_eq_of_le] <;> omega
    show (IntOp.minsi _ _ : BitVec 32).toInt = _
    unfold IntOp.minsi
    split_ifs with h <;> rw [BitVec.slt_iff_toInt_lt] at h <;> omega
  show (((IntOp.minsi _ _ : BitVec 32).toInt : ℝ) : EReal) = _
  rw [show (IntOp.minsi (BitVec.ofNat 32 (1024 * t + x + 1)) (BitVec.ofNat 32 w) : BitVec 32).toInt = _ from h1]
  norm_cast

/-- A load of the scratch after its halo and its body were stored reads the function both are blocks of. -/
theorem read_ext (G : ℕ → ℕ → EReal) (H : S16x512.Idx → EReal) (B : S1024x512.Idx → EReal)
    (hH : ∀ x : S16x512.Idx, H x = G (x 0).val (x 1).val) (hB : ∀ x : S1024x512.Idx, B x = G (16 + (x 0).val) (x 1).val)
    (v : View sig .tc .vmem S1040x512 .f32) (i1 i2) (o cc : ℕ) (ho : o + 1024 ≤ 1040) (i3) (x : S1024x128.Idx) :
    v.readCov (Val := Elt Ideal) [⟨Rect.unit ![0, 0] ![16, 512] i1, H⟩, ⟨Rect.unit ![16, 0] ![1024, 512] i2, B⟩]
      (Rect.unit (s := S1040x512) ![o, cc] ![1024, 128] i3).toLoadRect x = G (o + (x 0).val) (cc + (x 1).val) := by
  rw [View.readCov_eq_canon']
  dsimp only
  rw [View.canon_apply_of_pieces (fun y : S1040x512.Idx => G (y 0).val (y 1).val)]
  · simp [LoadRect.idx_apply]
  · intro p hp y
    simp only [List.mem_cons, List.not_mem_nil, or_false] at hp
    rcases hp with rfl | rfl
    · refine (hH y).trans ?_
      simp [Rect.emb_apply]
    · refine (hB y).trans ?_
      simp [Rect.emb_apply]
  · have h0 := (x 0).isLt
    have h1 := (x 1).isLt
    have h3 := i3 1
    by_cases h : o + (x 0).val < 16
    · refine ⟨_, List.mem_cons_self, ?_⟩
      rw [Rect.mem_set_unit]
      intro a
      fin_cases a <;> simp [LoadRect.idx_apply] at h0 h1 h3 ⊢ <;> omega
    · refine ⟨_, List.mem_cons_of_mem _ List.mem_cons_self, ?_⟩
      rw [Rect.mem_set_unit]
      intro a
      fin_cases a <;> simp [LoadRect.idx_apply] at h0 h1 h3 ⊢ <;> omega

variable (V : (c : Dev nD) → (b : Ref sig .tc) → Buf (Elt Ideal) ((c : Thread nD τ).loc b))

theorem coord0 : ∀ t : Fin cfg0.N, (grid0.coords t 0).val = t.val := (by decide +kernel : ∀ t : Fin grid0.N, _)

/-- The windows' block indices of the first launch. -/
theorem idx0 : ∀ t : Fin cfg0.N, win0_0.index t = ![t.val, 8] ∧ win0_1.index t = ![t.val * 64 - 1, 8]
    ∧ win0_2.index t = ![0, 0, 0] ∧ win0_3.index t = ![0, 0]
    ∧ win0_4.index t = ![t.val, 0] ∧ win0_5.index t = ![t.val, 0] :=
  (by decide +kernel : ∀ t : Fin grid0.N, _)

/-- What the first launch puts before a tile in its scratch: the last sixteen rows of the tile before, zeros at the first. -/
theorem halo0 (c : Dev nD) (t : Fin cfg0.N) (x : S16x512.Idx) :
    k0_pay4 (F := Ideal) (grid0.coords t) (iblk0 V c 1 t) x = Uz (V c main_arg1) (1024 * t.val + (x 0).val) (x 1).val := by
  pointwise [k0_pay4]
  have h0 : (x 0).val < 16 := (x 0).isLt
  have h1 : (x 1).val < 512 := (x 1).isLt
  have ht : t.val < 8 := t.isLt
  rw [coord0 t]
  by_cases h : t.val = 0
  · rw [show Scalar.cmpi .sgt (BitVec.ofNat 32 t.val) 0#32 = 0#1 by rw [h]; rfl, ValueIdx.select_zero, Uz, dif_neg (by omega)]
  · have hc : ∀ n : Fin 8, n.val ≠ 0 → Scalar.cmpi .sgt (BitVec.ofNat 32 n.val) 0#32 = 1#1 := by decide
    rw [hc ⟨t.val, ht⟩ h, ValueIdx.select_one, Uz, dif_pos (by omega)]
    blk_point [iblk0, idx0 t]

/-- The tile itself in the scratch. -/
theorem body0 (c : Dev nD) (t : Fin cfg0.N) (x : S1024x512.Idx) :
    k0_pay3 (F := Ideal) (iblk0 V c 0 t) x = Uz (V c main_arg1) (1024 * t.val + (16 + (x 0).val)) (x 1).val := by
  pointwise [k0_pay3, k0_pay2]
  have h0 : (x 0).val < 1024 := (x 0).isLt
  have h1 : (x 1).val < 512 := (x 1).isLt
  have ht : t.val < 8 := t.isLt
  rw [Uz, dif_pos (by omega)]
  blk_point [iblk0, idx0 t]

theorem win_eq (o l n : ℕ) (h : l < 128) (hn : 2 * 2 ^ (o / 128) = n) (ho : o % 128 = 0) : win (o + l) = n := by
  rw [win, ← hn, show (o + l) / 128 = o / 128 by omega]

theorem pooled_emb (P : FVec Ideal S8192x6656 .bf16) (t : Fin cfg0.N) (y : ((cfg0.win 4).xblock (cfg0.grid.coords t)).Idx) :
    pooled P (((View.whole main_v1_0).slice (win0_4.rect t)).emb y) = pooledAt P (1024 * t.val + (y 0).val) (y 1).val := by
  have e0 : ((((View.whole main_v1_0).slice (win0_4.rect t)).emb y) 0).val = 1024 * t.val + (y 0).val := by
    blk_simp [idx0 t]
    omega
  have e1 : ((((View.whole main_v1_0).slice (win0_4.rect t)).emb y) 1).val = (y 1).val := by blk_simp [idx0 t]
  rw [pooled, e0, e1]

/-- The first launch's first output is the pooled values. -/
theorem final0_4 (c : Dev nD) : (dat0 V c).arrAt 4 cfg0.N = pooled (V c main_arg1) := by
  refine (dat0 V c).arrAt_eq_of_covers 4 _ (by decide +kernel) fun t _ y => ?_
  blk_simp
  rw [after0_4]; dsimp only [outsAt0]; frame_out
  have hr := fun o cc ho i3 x => read_ext (fun k l => Uz (V c main_arg1) (1024 * t.val + k) l) _ _ (halo0 V c t) (body0 V c t)
    (View.whole cc0_scratch0) inb_S1040x512_S16x512_0_0 inb_S1040x512_S1024x512_16_0 o cc ho i3 x
  have ht : t.val < 8 := t.isLt
  have hb : ∀ z : S1024x512.Idx, iblk0 V c 0 t z = Uz (V c main_arg1) (1024 * t.val + (16 + (z 0).val)) (z 1).val := fun z => by
    have h := body0 V c t z
    rw [← h]; pointwise [k0_pay3, k0_pay2]
  have hp := fun x hx w hw => cnt_word t.val x w ht hx hw
  refine Eq.trans ?_ (pooled_emb _ t y).symm
  have hk := fun x n : ℕ => show 1024 * t.val + (n + x) = 1024 * t.val + x + n by omega
  canon_tiles x h
  · pointwise [k0_pay15, k0_pay14, k0_pay2, k0_pay5, hr, h0, h1, hb, coord0 t]
    rw [hp _ x0_lt 16 (by decide)]
    simp only [pooledAt, cnt, win_eq 384 (x 1).val 16 x1_lt rfl rfl, Finset.sum_range_succ, Finset.sum_range_zero, zero_add, hk,
      Nat.reduceSub]
  · pointwise [k0_pay12, k0_pay11, k0_pay2, k0_pay5, hr, h0, h1, hb, coord0 t]
    rw [hp _ x0_lt 8 (by decide)]
    simp only [pooledAt, cnt, win_eq 256 (x 1).val 8 x1_lt rfl rfl, Finset.sum_range_succ, Finset.sum_range_zero, zero_add, hk,
      Nat.reduceSub]
  · pointwise [k0_pay9, k0_pay2, k0_pay5, hr, h0, h1, hb, coord0 t]
    rw [hp _ x0_lt 4 (by decide)]
    simp only [pooledAt, cnt, win_eq 128 (x 1).val 4 x1_lt rfl rfl, Finset.sum_range_succ, Finset.sum_range_zero, zero_add, hk,
      Nat.reduceSub]
  · pointwise [k0_pay6, k0_pay2, k0_pay5, hr, h0, h1, hb, coord0 t]
    rw [hp _ x0_lt 2 (by decide)]
    have hw := win_eq 0 (x 1).val 2 x1_lt rfl rfl
    rw [Nat.zero_add] at hw
    simp only [pooledAt, cnt, hw, Finset.sum_range_succ, Finset.sum_range_zero, zero_add, hk,
      Nat.reduceSub]

end Cert.PoolValue

end
-- ==== Proof.PoolB.lean ====
module

public import proofs.«01_k».proof.Proof.PoolA

/-!
# The pooling step backward: the second region, block by block

The gradient entering the pooling is `dpoolAt`; divided by its row's count it is `qAt`, and the region keeps
`qAt` of its own rows and of the sixteen rows after them in one scratch buffer.
-/

@[expose] public section

set_option maxRecDepth 16384

noncomputable section

open Idealize.ShloMosaic Idealize.ShloMosaic.TcCoe Idealize.SL.Sem
open Idealize.ShloMosaic.Pipeline (Dat)

namespace Cert.PoolValue

open Cert.Kernel2Ideal Cert.Kernel2Ideal.Gen

variable (V : (c : Dev nD) → (b : Ref sig .tc) → Buf (Elt Ideal) ((c : Thread nD τ).loc b))

/-- A matrix read at two numbers, zero off it. -/
def at2 {n m : ℕ} (X : (⟨2, ![n, m]⟩ : Shape).Idx → EReal) (r l : ℕ) : EReal :=
  if h : r < n ∧ l < m then X (ix2 ⟨r, h.1⟩ ⟨l, h.2⟩) else 0

/-- A stack of matrices read at three numbers, zero off it. -/
def at3 {p n m : ℕ} (X : (⟨3, ![p, n, m]⟩ : Shape).Idx → EReal) (g r l : ℕ) : EReal :=
  if h : g < p ∧ r < n ∧ l < m then X (ix3 ⟨g, h.1⟩ ⟨r, h.2.1⟩ ⟨l, h.2.2⟩) else 0

/-- The gradient of the pooled value in row `r`, group `g`, lane `k`. -/
def dp (A : FVec Ideal S8192x512 .f32) (S : FVec Ideal S1x512 .f32) (W : FVec Ideal S4x128x128 .f32) (r g k : ℕ) : EReal :=
  ∑ d : Fin 128, at2 A r (128 * g + d.val) * at2 S 0 (128 * g + d.val) * at3 W g k d.val

/-- The gradient of the mean in row `r`, column `l`, zero below the last row. -/
def qAt (A : FVec Ideal S8192x512 .f32) (S : FVec Ideal S1x512 .f32) (W : FVec Ideal S4x128x128 .f32) (r l : ℕ) : EReal :=
  if r < 8192 then Ideal.div (dp A S W r (l / 128) (l % 128)) (cnt r l) else 0

/-- The gradient of the pooling's input in row `r`, column `l`. -/
def duAt (A : FVec Ideal S8192x512 .f32) (S : FVec Ideal S1x512 .f32) (W : FVec Ideal S4x128x128 .f32) (r l : ℕ) : EReal :=
  (0 - dp A S W r (l / 128) (l % 128)) + ∑ j ∈ Finset.range (win l), qAt A S W (r + j) l

/-- The region's coordinate at a grid point is the point's number. -/
theorem coord1 : ∀ t : Fin cfg1.N, (grid1.coords t 0).val = t.val := (by decide +kernel : ∀ t : Fin grid1.N, _)

/-- Which block each window shows at a grid point. -/
theorem idx1 : ∀ t : Fin cfg1.N, win1_0.index t = ![t.val, 0] ∧ win1_1.index t = ![min ((t.val + 1) * 64) 511, 0]
    ∧ win1_2.index t = ![t.val, 0] ∧ win1_3.index t = ![0, 0, 0] ∧ win1_4.index t = ![0, 0]
    ∧ win1_5.index t = ![t.val, 0] ∧ win1_6.index t = ![0, 0, 0] ∧ win1_7.index t = ![0, 0] :=
  (by decide +kernel : ∀ t : Fin grid1.N, _)

/-- The incoming gradient's block. -/
theorem blk0 (c : Dev nD) (t : Fin cfg1.N) (z : S1024x512.Idx) :
    iblk1 V c 0 t z = at2 (V c main_arg0) (1024 * t.val + (z 0).val) (z 1).val := by
  have h0 : (z 0).val < 1024 := (z 0).isLt
  have h1 : (z 1).val < 512 := (z 1).isLt
  have ht : t.val < 8 := t.isLt
  rw [at2, dif_pos (by omega)]
  blk_point [iblk1, idx1 t]

/-- The sixteen rows after it. -/
theorem blk1 (c : Dev nD) (t : Fin cfg1.N) (ht : t.val < 7) (z : S16x512.Idx) :
    iblk1 V c 1 t z = at2 (V c main_arg0) (1024 * t.val + (1024 + (z 0).val)) (z 1).val := by
  have h0 : (z 0).val < 16 := (z 0).isLt
  have h1 : (z 1).val < 512 := (z 1).isLt
  rw [at2, dif_pos (by omega)]
  blk_point [iblk1, idx1 t]

/-- The pooled value's block. -/
theorem blk2 (c : Dev nD) (t : Fin cfg1.N) (z : S1024x512.Idx) :
    iblk1 V c 2 t z = at2 (V c main_v1_0) (1024 * t.val + (z 0).val) (z 1).val := by
  have h0 : (z 0).val < 1024 := (z 0).isLt
  have h1 : (z 1).val < 512 := (z 1).isLt
  have ht : t.val < 8 := t.isLt
  rw [at2, dif_pos (by omega)]
  blk_point [iblk1, idx1 t]

/-- The weights' block. -/
theorem blk3 (c : Dev nD) (t : Fin cfg1.N) (z : S4x128x128.Idx) :
    iblk1 V c 3 t z = at3 (V c main_v2) (z 0).val (z 1).val (z 2).val := by
  rw [at3, dif_pos ⟨(z 0).isLt, (z 1).isLt, (z 2).isLt⟩]
  blk_point [iblk1, idx1 t]

/-- The scale's block. -/
theorem blk4 (c : Dev nD) (t : Fin cfg1.N) (z : S1x512.Idx) :
    iblk1 V c 4 t z = at2 (V c main_arg3) 0 (z 1).val := by
  have h0 : (z 0).val < 1 := (z 0).isLt
  rw [at2, dif_pos ⟨by omega, (z 1).isLt⟩]
  blk_point [iblk1, idx1 t]

/-- One group's weights. -/
abbrev wl (c : Dev nD) (t : Fin cfg1.N) (g : ℕ) (i : ∀ a, (![g, 0, 0] : Fin 3 → ℕ) a + ![1, 128, 128] a ≤ S4x128x128.size a) : Vec Ideal S1x128x128 .f32 :=
  @View.ld (Elt Ideal) S4x128x128 .f32 (iblk1 V c 3 t) (Rect.unit (s := S4x128x128) ![g, 0, 0] ![1, 128, 128] i)

/-- One group's scale. -/
abbrev sl (c : Dev nD) (t : Fin cfg1.N) (o : ℕ) (i : ∀ a, (![0, o] : Fin 2 → ℕ) a + ![1, 128] a ≤ S1x512.size a) : Vec Ideal S1x128 .f32 :=
  @View.ld (Elt Ideal) S1x512 .f32 (iblk1 V c 4 t) (Rect.unit (s := S1x512) ![0, o] ![1, 128] i)

/-- One group's pooled values. -/
abbrev ql (c : Dev nD) (t : Fin cfg1.N) (o : ℕ) (i : ∀ a, (![0, o] : Fin 2 → ℕ) a + ![1024, 128] a ≤ S1024x512.size a) : Vec Ideal S1024x128 .bf16 :=
  @View.ld (Elt Ideal) S1024x512 .bf16 (iblk1 V c 2 t) (Rect.unit (s := S1024x512) ![0, o] ![1024, 128] i)

/-- The gradient of the mean inside the matrix, from the row's count. -/
theorem q_in (A : FVec Ideal S8192x512 .f32) (S : FVec Ideal S1x512 .f32) (W : FVec Ideal S4x128x128 .f32) (r o l w : ℕ)
    (hr : r < 8192) (hl : l < 128) (ho : o % 128 = 0) (hw : 2 * 2 ^ (o / 128) = w) :
    Ideal.div (dp A S W r (o / 128) l) ((min (r + 1) w : ℕ) : ℝ) = qAt A S W r (o + l) := by
  rw [qAt, if_pos hr, cnt, win_eq o l w hl hw ho, show (o + l) / 128 = o / 128 by omega, show (o + l) % 128 = l by omega]

/-- The gradient of the mean in the rows after a block: past the first block of rows every window is full. -/
theorem q_halo (A : FVec Ideal S8192x512 .f32) (S : FVec Ideal S1x512 .f32) (W : FVec Ideal S4x128x128 .f32) (t x o l w : ℕ)
    (z k : EReal) (ht : t < 8) (hx : x < 16) (hl : l < 128) (ho : o % 128 = 0) (hw : 2 * 2 ^ (o / 128) = w) (hw0 : 0 < w)
    (hw1 : w ≤ 16) (hk : k = (((w : ℝ)⁻¹ : ℝ) : EReal)) (hz : t < 7 → z = dp A S W (1024 * t + (1024 + x)) (o / 128) l) :
    Scalar.select (Scalar.cmpi .slt (BitVec.ofNat 32 t) 7#32) (z * k) 0 = qAt A S W (1024 * t + (1024 + x)) (o + l) := by
  by_cases h : t < 7
  · have hc : ∀ n : Fin 8, n.val < 7 → Scalar.cmpi .slt (BitVec.ofNat 32 n.val) 7#32 = 1#1 := by decide
    rw [hc ⟨t, ht⟩ h, ValueIdx.select_one, hz h, ← q_in A S W _ o l w (by omega) hl ho hw, Ideal.div, hk,
      show min (1024 * t + (1024 + x) + 1) w = w by omega, if_neg, ← EReal.coe_inv]
    · exact_mod_cast hw0.ne'
  · rw [show t = 7 by omega, show Scalar.cmpi .slt (BitVec.ofNat 32 7) 7#32 = 0#1 by decide, ValueIdx.select_zero, qAt,
      if_neg (by omega)]

/-- A float word of a power of two below one. -/
theorem word_pow (w : BitVec 32) (e : ℕ) (he : e ≤ 4) (h1 : w.extractLsb' 31 1 = 0#1) (h2 : (w.extractLsb' 23 8).toNat = 127 - e)
    (h3 : (w.extractLsb' 0 23).toNat = 0) : Ideal.ofBits .f32 w = ((((2 ^ e : ℕ) : ℝ)⁻¹ : ℝ) : EReal) := by
  simp only [Ideal.ofBits, Ideal.ieee, h1, h2, h3]
  interval_cases e <;> norm_num [zpow_neg]

/-- Group 0: the gradient of the pooled value. -/
theorem dpool_0 (c : Dev nD) (t : Fin cfg1.N) (i j) (x : S1024x128.Idx) :
    k1_pay11 (k1_pay5 (wl V c t 0 i)) (k1_pay8 (iblk1 V c 0 t) (sl V c t 0 j)) x
      = dp (V c main_arg0) (V c main_arg3) (V c main_v2) (1024 * t.val + (x 0).val) 0 (x 1).val := by
  pointwise [k1_pay11, k1_pay5, k1_pay8, blk0, blk3, blk4, dp]

/-- Group 0: the gradient of the mean in the block's own rows. -/
theorem body_0 (c : Dev nD) (t : Fin cfg1.N) (i j) (x : S1024x128.Idx) :
    k1_pay12 (k1_pay4 (grid1.coords t)) (k1_pay5 (wl V c t 0 i)) (k1_pay8 (iblk1 V c 0 t) (sl V c t 0 j)) x
      = qAt (V c main_arg0) (V c main_arg3) (V c main_v2) (1024 * t.val + (x 0).val) (0 + (x 1).val) := by
  have h0 : (x 0).val < 1024 := (x 0).isLt
  have ht : t.val < 8 := t.isLt
  pointwise [k1_pay12, k1_pay4, dpool_0, coord1 t]
  rw [cnt_word t.val _ 2 ht h0 (by decide)]
  refine Eq.trans ?_ (congrArg (qAt _ _ _ _) (Nat.zero_add (x 1).val))
  exact q_in _ _ _ (1024 * t.val + (x 0).val) 0 (x 1).val 2 (by omega) (x 1).isLt rfl rfl

/-- Group 0: the gradient of the mean in the rows after the block. -/
theorem halo_0 (c : Dev nD) (t : Fin cfg1.N) (i j) (a : ℕ) (ha : a = t.val) (x : S16x128.Idx) :
    k1_pay13 (BitVec.ofNat 32 a) (iblk1 V c 1 t) (k1_pay5 (wl V c t 0 i)) (sl V c t 0 j) x
      = qAt (V c main_arg0) (V c main_arg3) (V c main_v2) (1024 * t.val + (1024 + (x 0).val)) (0 + (x 1).val) := by
  pointwise [k1_pay13, k1_pay5, blk3, blk4, ha]
  refine Eq.trans ?_ (congrArg (qAt _ _ _ _) (Nat.zero_add (x 1).val))
  refine q_halo _ _ _ t.val (x 0).val 0 (x 1).val 2 _ _ t.isLt (x 0).isLt (x 1).isLt rfl rfl (by decide) (by decide)
    (word_pow 0x3F000000#32 1 (by decide) (by decide) (by decide) (by decide)) fun ht => ?_
  pointwise [blk1 V c t ht, dp]

/-- Group 1: the gradient of the pooled value. -/
theorem dpool_1 (c : Dev nD) (t : Fin cfg1.N) (i j) (x : S1024x128.Idx) :
    k1_pay20 (iblk1 V c 0 t) (wl V c t 1 i) (sl V c t 128 j) x
      = dp (V c main_arg0) (V c main_arg3) (V c main_v2) (1024 * t.val + (x 0).val) 1 (x 1).val := by
  pointwise [k1_pay20, k1_pay18, k1_pay15, blk0, blk3, blk4, dp]

/-- Group 1: the gradient of the mean in the block's own rows. -/
theorem body_1 (c : Dev nD) (t : Fin cfg1.N) (i j) (x : S1024x128.Idx) :
    k1_pay23 (k1_pay22 (iblk1 V c 0 t) (k1_pay4 (grid1.coords t)) (wl V c t 1 i) (sl V c t 128 j)) x
      = qAt (V c main_arg0) (V c main_arg3) (V c main_v2) (1024 * t.val + (x 0).val) (128 + (x 1).val) := by
  have h0 : (x 0).val < 1024 := (x 0).isLt
  have ht : t.val < 8 := t.isLt
  pointwise [k1_pay23, k1_pay22, k1_pay4, dpool_1, coord1 t]
  rw [cnt_word t.val _ 4 ht h0 (by decide)]
  exact q_in _ _ _ (1024 * t.val + (x 0).val) 128 (x 1).val 4 (by omega) (x 1).isLt rfl rfl

/-- Group 1: the gradient of the mean in the rows after the block. -/
theorem halo_1 (c : Dev nD) (t : Fin cfg1.N) (i j) (a : ℕ) (ha : a = t.val) (x : S16x128.Idx) :
    k1_pay24 (BitVec.ofNat 32 a) (k1_pay21 (iblk1 V c 1 t) (wl V c t 1 i) (sl V c t 128 j)) x
      = qAt (V c main_arg0) (V c main_arg3) (V c main_v2) (1024 * t.val + (1024 + (x 0).val)) (128 + (x 1).val) := by
  pointwise [k1_pay24, k1_pay21, k1_pay15, blk3, blk4, ha]
  refine q_halo _ _ _ t.val (x 0).val 128 (x 1).val 4 _ _ t.isLt (x 0).isLt (x 1).isLt rfl rfl (by decide) (by decide)
    (word_pow 0x3E800000#32 2 (by decide) (by decide) (by decide) (by decide)) fun ht => ?_
  pointwise [blk1 V c t ht, dp]

/-- Group 2: the gradient of the pooled value. -/
theorem dpool_2 (c : Dev nD) (t : Fin cfg1.N) (i j) (x : S1024x128.Idx) :
    k1_pay32 (iblk1 V c 0 t) (k1_pay26 (wl V c t 2 i)) (sl V c t 256 j) x
      = dp (V c main_arg0) (V c main_arg3) (V c main_v2) (1024 * t.val + (x 0).val) 2 (x 1).val := by
  pointwise [k1_pay32, k1_pay30, k1_pay26, blk0, blk3, blk4, dp]

/-- Group 2: the gradient of the mean in the block's own rows. -/
theorem body_2 (c : Dev nD) (t : Fin cfg1.N) (i j) (x : S1024x128.Idx) :
    k1_pay33 (iblk1 V c 0 t) (k1_pay4 (grid1.coords t)) (k1_pay26 (wl V c t 2 i)) (sl V c t 256 j) x
      = qAt (V c main_arg0) (V c main_arg3) (V c main_v2) (1024 * t.val + (x 0).val) (256 + (x 1).val) := by
  have h0 : (x 0).val < 1024 := (x 0).isLt
  have ht : t.val < 8 := t.isLt
  pointwise [k1_pay33, k1_pay4, dpool_2, coord1 t]
  rw [cnt_word t.val _ 8 ht h0 (by decide)]
  exact q_in _ _ _ (1024 * t.val + (x 0).val) 256 (x 1).val 8 (by omega) (x 1).isLt rfl rfl

/-- Group 2: the gradient of the mean in the rows after the block. -/
theorem halo_2 (c : Dev nD) (t : Fin cfg1.N) (i j) (a : ℕ) (ha : a = t.val) (x : S16x128.Idx) :
    k1_pay35 (k1_pay34 (BitVec.ofNat 32 a) (iblk1 V c 1 t) (k1_pay26 (wl V c t 2 i)) (sl V c t 256 j)) x
      = qAt (V c main_arg0) (V c main_arg3) (V c main_v2) (1024 * t.val + (1024 + (x 0).val)) (256 + (x 1).val) := by
  pointwise [k1_pay35, k1_pay34, k1_pay26, blk3, blk4, ha]
  refine q_halo _ _ _ t.val (x 0).val 256 (x 1).val 8 _ _ t.isLt (x 0).isLt (x 1).isLt rfl rfl (by decide) (by decide)
    (word_pow 0x3E000000#32 3 (by decide) (by decide) (by decide) (by decide)) fun ht => ?_
  pointwise [blk1 V c t ht, dp]

/-- Group 3: the gradient of the pooled value. -/
theorem dpool_3 (c : Dev nD) (t : Fin cfg1.N) (i j) (x : S1024x128.Idx) :
    k1_pay42 (iblk1 V c 0 t) (k1_pay37 (wl V c t 3 i)) (sl V c t 384 j) x
      = dp (V c main_arg0) (V c main_arg3) (V c main_v2) (1024 * t.val + (x 0).val) 3 (x 1).val := by
  pointwise [k1_pay42, k1_pay40, k1_pay37, blk0, blk3, blk4, dp]

/-- Group 3: the gradient of the mean in the block's own rows. -/
theorem body_3 (c : Dev nD) (t : Fin cfg1.N) (i j) (x : S1024x128.Idx) :
    k1_pay43 (iblk1 V c 0 t) (k1_pay4 (grid1.coords t)) (k1_pay37 (wl V c t 3 i)) (sl V c t 384 j) x
      = qAt (V c main_arg0) (V c main_arg3) (V c main_v2) (1024 * t.val + (x 0).val) (384 + (x 1).val) := by
  have h0 : (x 0).val < 1024 := (x 0).isLt
  have ht : t.val < 8 := t.isLt
  pointwise [k1_pay43, k1_pay4, dpool_3, coord1 t]
  rw [cnt_word t.val _ 16 ht h0 (by decide)]
  exact q_in _ _ _ (1024 * t.val + (x 0).val) 384 (x 1).val 16 (by omega) (x 1).isLt rfl rfl

/-- Group 3: the gradient of the mean in the rows after the block. -/
theorem halo_3 (c : Dev nD) (t : Fin cfg1.N) (i j) (a : ℕ) (ha : a = t.val) (x : S16x128.Idx) :
    k1_pay45 (k1_pay44 (BitVec.ofNat 32 a) (iblk1 V c 1 t) (k1_pay37 (wl V c t 3 i)) (sl V c t 384 j)) x
      = qAt (V c main_arg0) (V c main_arg3) (V c main_v2) (1024 * t.val + (1024 + (x 0).val)) (384 + (x 1).val) := by
  pointwise [k1_pay45, k1_pay44, k1_pay37, blk3, blk4, ha]
  refine q_halo _ _ _ t.val (x 0).val 384 (x 1).val 16 _ _ t.isLt (x 0).isLt (x 1).isLt rfl rfl (by decide) (by decide)
    (word_pow 0x3D800000#32 4 (by decide) (by decide) (by decide) (by decide)) fun ht => ?_
  pointwise [blk1 V c t ht, dp]

/-- A load of the scratch buffer, one group of lanes from row `o` on: the rows before 1024 are the block's own, the
sixteen after them the next block's. -/
theorem read_ext1 (G : ℕ → ℕ → EReal) (H : S16x128.Idx → EReal) (B : S1024x128.Idx → EReal) (cc : ℕ)
    (hH : ∀ x : S16x128.Idx, H x = G (1024 + (x 0).val) (cc + (x 1).val))
    (hB : ∀ x : S1024x128.Idx, B x = G (x 0).val (cc + (x 1).val))
    (v : View sig .tc .vmem S1040x512 .f32) (i1 i2) (L : List (View.Piece (Elt Ideal) S1040x512 .f32)) (o : ℕ) (ho : o + 1024 ≤ 1040) (i3)
    (x : S1024x128.Idx) :
    v.readCov (Val := Elt Ideal) (⟨Rect.unit ![1024, cc] ![16, 128] i1, H⟩ :: ⟨Rect.unit ![0, cc] ![1024, 128] i2, B⟩ :: L)
      (Rect.unit (s := S1040x512) ![o, cc] ![1024, 128] i3).toLoadRect x = G (o + (x 0).val) (cc + (x 1).val) := by
  rw [View.readCov_eq_canon']
  dsimp only
  have h0 : (x 0).val < 1024 := (x 0).isLt
  have h1 : (x 1).val < 128 := (x 1).isLt
  refine (View.canon_append_of_pieces (fun y : S1040x512.Idx => G (y 0).val (y 1).val) L [_, _] ?_ _ ?_).trans ?_
  · intro p hp y
    simp only [List.mem_cons, List.not_mem_nil, or_false] at hp
    rcases hp with rfl | rfl
    · refine (hH y).trans ?_
      simp [Rect.emb_apply]
    · refine (hB y).trans ?_
      simp [Rect.emb_apply]
  · by_cases h : o + (x 0).val < 1024
    · refine ⟨_, List.mem_cons_of_mem _ List.mem_cons_self, ?_⟩
      rw [Rect.mem_set_unit]
      intro a
      fin_cases a <;> simp [LoadRect.idx_apply] <;> omega
    · refine ⟨_, List.mem_cons_self, ?_⟩
      rw [Rect.mem_set_unit]
      intro a
      fin_cases a <;> simp [LoadRect.idx_apply] <;> omega
  · simp [LoadRect.idx_apply]

/-- The input's gradient in one group, its window's length spelled out. -/
theorem du_in (A : FVec Ideal S8192x512 .f32) (S : FVec Ideal S1x512 .f32) (W : FVec Ideal S4x128x128 .f32) (r o l w : ℕ)
    (hl : l < 128) (ho : o % 128 = 0) (hw : 2 * 2 ^ (o / 128) = w) :
    duAt A S W r (o + l) = (0 - dp A S W r (o / 128) l) + ∑ j ∈ Finset.range w, qAt A S W (r + j) (o + l) := by
  rw [duAt, win_eq o l w hl hw ho, show (o + l) / 128 = o / 128 by omega, show (o + l) % 128 = l by omega]

/-- The gradient of the pooling's input as an array. -/
def du (A : FVec Ideal S8192x512 .f32) (S : FVec Ideal S1x512 .f32) (W : FVec Ideal S4x128x128 .f32) : FVec Ideal S8192x512 .bf16 :=
  fun i => duAt A S W (i 0).val (i 1).val

theorem du_emb (A : FVec Ideal S8192x512 .f32) (S : FVec Ideal S1x512 .f32) (W : FVec Ideal S4x128x128 .f32) (t : Fin cfg1.N)
    (y : ((cfg1.win 5).xblock (cfg1.grid.coords t)).Idx) :
    du A S W (((View.whole main_v3_0).slice (win1_5.rect t)).emb y) = duAt A S W (1024 * t.val + (y 0).val) (y 1).val := by
  have e0 : ((((View.whole main_v3_0).slice (win1_5.rect t)).emb y) 0).val = 1024 * t.val + (y 0).val := by
    blk_simp [idx1 t]
    omega
  have e1 : ((((View.whole main_v3_0).slice (win1_5.rect t)).emb y) 1).val = (y 1).val := by blk_simp [idx1 t]
  rw [du, e0, e1]

/-- The first result of the second region: the gradient of the pooling's input. -/
theorem final1_5 (c : Dev nD) :
    (dat1 V c).arrAt 5 cfg1.N = du (V c main_arg0) (V c main_arg3) (V c main_v2) := by
  refine (dat1 V c).arrAt_eq_of_covers 5 _ (by decide +kernel) fun t _ y => ?_
  blk_simp
  rw [after1_5]
  have hr0 := fun (a : ℕ) (ha : a = t.val) L o ho i3 x => read_ext1 (fun k l => qAt (V c main_arg0) (V c main_arg3) (V c main_v2) (1024 * t.val + k) l) _ _ 0
    (halo_0 V c t inb_S4x128x128_S1x128x128_0_0_0 inb_S1x512_S1x128_0_0 a ha) (body_0 V c t inb_S4x128x128_S1x128x128_0_0_0 inb_S1x512_S1x128_0_0)
    (View.whole cc1_scratch0) inb_S1040x512_S16x128_1024_0 inb_S1040x512_S1024x128_0_0 L o ho i3 x
  have hr1 := fun (a : ℕ) (ha : a = t.val) L o ho i3 x => read_ext1 (fun k l => qAt (V c main_arg0) (V c main_arg3) (V c main_v2) (1024 * t.val + k) l) _ _ 128
    (halo_1 V c t inb_S4x128x128_S1x128x128_1_0_0 inb_S1x512_S1x128_0_128 a ha) (body_1 V c t inb_S4x128x128_S1x128x128_1_0_0 inb_S1x512_S1x128_0_128)
    (View.whole cc1_scratch0) inb_S1040x512_S16x128_1024_128 inb_S1040x512_S1024x128_0_128 L o ho i3 x
  have hr2 := fun (a : ℕ) (ha : a = t.val) L o ho i3 x => read_ext1 (fun k l => qAt (V c main_arg0) (V c main_arg3) (V c main_v2) (1024 * t.val + k) l) _ _ 256
    (halo_2 V c t inb_S4x128x128_S1x128x128_2_0_0 inb_S1x512_S1x128_0_256 a ha) (body_2 V c t inb_S4x128x128_S1x128x128_2_0_0 inb_S1x512_S1x128_0_256)
    (View.whole cc1_scratch0) inb_S1040x512_S16x128_1024_256 inb_S1040x512_S1024x128_0_256 L o ho i3 x
  have hr3 := fun (a : ℕ) (ha : a = t.val) L o ho i3 x => read_ext1 (fun k l => qAt (V c main_arg0) (V c main_arg3) (V c main_v2) (1024 * t.val + k) l) _ _ 384
    (halo_3 V c t inb_S4x128x128_S1x128x128_3_0_0 inb_S1x512_S1x128_0_384 a ha) (body_3 V c t inb_S4x128x128_S1x128x128_3_0_0 inb_S1x512_S1x128_0_384)
    (View.whole cc1_scratch0) inb_S1040x512_S16x128_1024_384 inb_S1040x512_S1024x128_0_384 L o ho i3 x
  have hk := fun x n : ℕ => show 1024 * t.val + (n + x) = 1024 * t.val + x + n by omega
  dsimp only [wl, sl] at hr0 hr1 hr2 hr3
  have h0 : t.val % 8 = 0 ∨ t.val % 8 ≠ 0 := by omega
  refine Eq.trans ?_ (du_emb _ _ _ t y).symm
  rcases h0 with h0 | h0
  on_goal 1 => rw [outsAt1_A V c t h0]
  on_goal 2 => rw [outsAt1_B V c t h0]
  all_goals
    frame_out
    generalize ha : (grid1.coords t 0).val = a
    replace ha := ha.symm.trans (coord1 t)
    canon_tiles x h
    · pointwise [k1_pay1, k1_pay46, hr3 a ha, dpool_3, h0, h1]
      rw [du_in _ _ _ _ 384 (x 1).val 16 x1_lt rfl rfl]
      simp only [Finset.sum_range_succ, Finset.sum_range_zero, zero_add, add_zero, Nat.reduceDiv, hk, ← add_assoc]
    · pointwise [k1_pay36, hr2 a ha, dpool_2, h0, h1]
      rw [du_in _ _ _ _ 256 (x 1).val 8 x1_lt rfl rfl]
      simp only [Finset.sum_range_succ, Finset.sum_range_zero, zero_add, add_zero, Nat.reduceDiv, hk, ← add_assoc]
    · pointwise [k1_pay25, hr1 a ha, dpool_1, h0, h1]
      rw [du_in _ _ _ _ 128 (x 1).val 4 x1_lt rfl rfl]
      simp only [Finset.sum_range_succ, Finset.sum_range_zero, zero_add, add_zero, Nat.reduceDiv, hk, ← add_assoc]
    · pointwise [k1_pay14, hr0 a ha, dpool_0, h0, h1]
      refine Eq.trans ?_ (congrArg (duAt _ _ _ _) (Nat.zero_add (x 1).val))
      rw [du_in _ _ _ _ 0 (x 1).val 2 x1_lt rfl rfl]
      simp only [Finset.sum_range_succ, Finset.sum_range_zero, zero_add, add_zero, Nat.reduceDiv, hk, ← add_assoc]

/-- One block's part of the weights' gradient. -/
def dwTerm (A : FVec Ideal S8192x512 .f32) (Q : FVec Ideal S8192x512 .bf16) (S : FVec Ideal S1x512 .f32) (n g k d : ℕ) : EReal :=
  ∑ r : Fin 1024, at2 Q (1024 * n + r.val) (128 * g + k) * (at2 A (1024 * n + r.val) (128 * g + d) * at2 S 0 (128 * g + d))

/-- One block's part of the scale's gradient. -/
def dsTerm (A : FVec Ideal S8192x512 .f32) (Q : FVec Ideal S8192x512 .bf16) (W : FVec Ideal S4x128x128 .f32) (n g d : ℕ) : EReal :=
  ∑ r : Fin 1024, at2 A (1024 * n + r.val) (128 * g + d) * ∑ k : Fin 128, at2 Q (1024 * n + r.val) (128 * g + k.val) * at3 W g k.val d

/-- Group 0: the weights' gradient grows by the block's part. -/
theorem dwpay_0 (c : Dev nD) (t : Fin cfg1.N) (i j) (P : Vec Ideal S1x128x128 .f32) (x : S1x128x128.Idx) :
    k1_pay10 (k1_pay6 (ql V c t 0 i)) (k1_pay8 (iblk1 V c 0 t) (sl V c t 0 j)) (k1_pay9 P) (constant S128x128 FTy.f32 0#32) x
      = P x + dwTerm (V c main_arg0) (V c main_v1_0) (V c main_arg3) t.val 0 (x 1).val (x 2).val := by
  pointwise [k1_pay10, k1_pay6, k1_pay8, k1_pay9, blk0, blk2, blk4, dwTerm]

/-- Group 0: the scale's gradient grows by the block's part. -/
theorem dspay_0 (c : Dev nD) (t : Fin cfg1.N) (i j) (P : Vec Ideal S1x128 .f32) (x : S1x128.Idx) :
    k1_pay7 (iblk1 V c 0 t) (wl V c t 0 j) (ql V c t 0 i) P x
      = P x + dsTerm (V c main_arg0) (V c main_v1_0) (V c main_v2) t.val 0 (x 1).val := by
  pointwise [k1_pay7, k1_pay6, k1_pay5, blk0, blk2, blk3, dsTerm]

/-- Group 1: the weights' gradient grows by the block's part. -/
theorem dwpay_1 (c : Dev nD) (t : Fin cfg1.N) (i j) (P : Vec Ideal S1x128x128 .f32) (x : S1x128x128.Idx) :
    k1_pay19 (iblk1 V c 0 t) (ql V c t 128 i) (sl V c t 128 j) P x
      = P x + dwTerm (V c main_arg0) (V c main_v1_0) (V c main_arg3) t.val 1 (x 1).val (x 2).val := by
  pointwise [k1_pay19, k1_pay16, k1_pay18, blk0, blk2, blk4, dwTerm]

/-- Group 1: the scale's gradient grows by the block's part. -/
theorem dspay_1 (c : Dev nD) (t : Fin cfg1.N) (i j) (P : Vec Ideal S1x128 .f32) (x : S1x128.Idx) :
    k1_pay17 (iblk1 V c 0 t) (wl V c t 1 j) (ql V c t 128 i) P x
      = P x + dsTerm (V c main_arg0) (V c main_v1_0) (V c main_v2) t.val 1 (x 1).val := by
  pointwise [k1_pay17, k1_pay16, k1_pay15, blk0, blk2, blk3, dsTerm]

/-- Group 2: the weights' gradient grows by the block's part. -/
theorem dwpay_2 (c : Dev nD) (t : Fin cfg1.N) (i j) (P : Vec Ideal S1x128x128 .f32) (x : S1x128x128.Idx) :
    k1_pay31 (iblk1 V c 0 t) (k1_pay27 (ql V c t 256 i)) (sl V c t 256 j) P x
      = P x + dwTerm (V c main_arg0) (V c main_v1_0) (V c main_arg3) t.val 2 (x 1).val (x 2).val := by
  pointwise [k1_pay31, k1_pay27, k1_pay30, blk0, blk2, blk4, dwTerm]

/-- Group 2: the scale's gradient grows by the block's part. -/
theorem dspay_2 (c : Dev nD) (t : Fin cfg1.N) (i j) (P : Vec Ideal S1x128 .f32) (x : S1x128.Idx) :
    k1_pay29 (iblk1 V c 0 t) (k1_pay26 (wl V c t 2 j)) (k1_pay27 (ql V c t 256 i)) (k1_pay28 P) x
      = P x + dsTerm (V c main_arg0) (V c main_v1_0) (V c main_v2) t.val 2 (x 1).val := by
  pointwise [k1_pay29, k1_pay27, k1_pay26, k1_pay28, blk0, blk2, blk3, dsTerm]

/-- Group 3: the weights' gradient grows by the block's part. -/
theorem dwpay_3 (c : Dev nD) (t : Fin cfg1.N) (i j) (P : Vec Ideal S1x128x128 .f32) (x : S1x128x128.Idx) :
    k1_pay41 (iblk1 V c 0 t) (k1_pay38 (ql V c t 384 i)) (sl V c t 384 j) P x
      = P x + dwTerm (V c main_arg0) (V c main_v1_0) (V c main_arg3) t.val 3 (x 1).val (x 2).val := by
  pointwise [k1_pay41, k1_pay38, k1_pay40, blk0, blk2, blk4, dwTerm]

/-- Group 3: the scale's gradient grows by the block's part. -/
theorem dspay_3 (c : Dev nD) (t : Fin cfg1.N) (i j) (P : Vec Ideal S1x128 .f32) (x : S1x128.Idx) :
    k1_pay39 (iblk1 V c 0 t) (k1_pay37 (wl V c t 3 j)) (k1_pay38 (ql V c t 384 i)) P x
      = P x + dsTerm (V c main_arg0) (V c main_v1_0) (V c main_v2) t.val 3 (x 1).val := by
  pointwise [k1_pay39, k1_pay38, k1_pay37, blk0, blk2, blk3, dsTerm]

/-- Earlier stores do not show where later ones cover. -/
theorem canon_drop {S : Shape} {e : EltTy} (L L' : List (View.Piece (Elt Ideal) S e)) (y : S.Idx) (h : ∃ p ∈ L, y ∈ p.1.set) :
    View.canon (Val := Elt Ideal) (L ++ L') y = View.canon (Val := Elt Ideal) L y := by
  induction L with
  | nil => obtain ⟨p, hp, _⟩ := h; exact absurd hp List.not_mem_nil
  | cons p L ih =>
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine ih ?_
      obtain ⟨q, hq, hyq⟩ := h
      rcases List.mem_cons.mp hq with rfl | hq'
      · exact absurd hyq hm
      · exact ⟨q, hq', hyq⟩

/-- The weights' gradient after a grid point: zero, or what the point before left, and the block's part. -/
theorem dw_step (c : Dev nD) (t : Fin cfg1.N) (y : S4x128x128.Idx) (z : EReal)
    (hz : (t.val % 8 = 0 ∧ z = 0) ∨
      (¬ t.val % 8 = 0 ∧ z = (outsAt1 V c (t.val - 1) (Nat.lt_of_le_of_lt (Nat.sub_le _ _) t.isLt)).2.1 y)) :
    (outsAt1 V c t.val t.isLt).2.1 y = z + dwTerm (V c main_arg0) (V c main_v1_0) (V c main_arg3) t.val (y 0).val (y 1).val (y 2).val := by
  rcases hz with ⟨ht, rfl⟩ | ⟨ht, rfl⟩
  · rw [outsAt1_A V c t ht]
    dsimp only
    frame_open
    simp (disch := decide) only [↓ View.readCov_skip, ↓ View.readCov_cons_toLoadRect, ↓ View.readCov_fill]
    frame_out
    refine (canon_drop [_, _, _, _] [_] y (View.cover_of_tiled_head _ _ _ (by rfl) _)).trans ?_
    canon_tiles x h
    · refine (dwpay_3 V c t _ _ _ x).trans ?_
      rw [show (y 0).val = 3 by omega, h1, h2]
      congr 1
      pointwise [k1_pay2]
    · refine (dwpay_2 V c t _ _ _ x).trans ?_
      rw [show (y 0).val = 2 by omega, h1, h2]
      congr 1
      pointwise [k1_pay2]
    · refine (dwpay_1 V c t _ _ _ x).trans ?_
      rw [show (y 0).val = 1 by omega, h1, h2]
      congr 1
      pointwise [k1_pay2]
    · refine (dwpay_0 V c t _ _ _ x).trans ?_
      rw [show (y 0).val = 0 by omega, h1, h2]
      congr 1
      pointwise [k1_pay2]
  · rw [outsAt1_B V c t ht]
    dsimp only
    frame_out
    canon_tiles x h
    · refine (dwpay_3 V c t _ _ _ x).trans ?_
      rw [show (y 0).val = 3 by omega, h1, h2]
      congr 1
      pointwise [h0]
      exact congrArg _ (by funext a; apply Fin.ext; fin_cases a <;> simp [ix3] <;> omega)
    · refine (dwpay_2 V c t _ _ _ x).trans ?_
      rw [show (y 0).val = 2 by omega, h1, h2]
      congr 1
      pointwise [h0]
      exact congrArg _ (by funext a; apply Fin.ext; fin_cases a <;> simp [ix3] <;> omega)
    · refine (dwpay_1 V c t _ _ _ x).trans ?_
      rw [show (y 0).val = 1 by omega, h1, h2]
      congr 1
      pointwise [h0]
      exact congrArg _ (by funext a; apply Fin.ext; fin_cases a <;> simp [ix3] <;> omega)
    · refine (dwpay_0 V c t _ _ _ x).trans ?_
      rw [show (y 0).val = 0 by omega, h1, h2]
      congr 1
      pointwise [h0]
      exact congrArg _ (by funext a; apply Fin.ext; fin_cases a <;> simp [ix3] <;> omega)

/-- The scale's gradient after a grid point: zero, or what the point before left, and the block's part. -/
theorem ds_step (c : Dev nD) (t : Fin cfg1.N) (y : S1x512.Idx) (z : EReal)
    (hz : (t.val % 8 = 0 ∧ z = 0) ∨
      (¬ t.val % 8 = 0 ∧ z = (outsAt1 V c (t.val - 1) (Nat.lt_of_le_of_lt (Nat.sub_le _ _) t.isLt)).2.2 y)) :
    (outsAt1 V c t.val t.isLt).2.2 y = z + dsTerm (V c main_arg0) (V c main_v1_0) (V c main_v2) t.val ((y 1).val / 128) ((y 1).val % 128) := by
  rcases hz with ⟨ht, rfl⟩ | ⟨ht, rfl⟩
  · rw [outsAt1_A V c t ht]
    dsimp only
    frame_open
    simp (disch := decide) only [↓ View.readCov_skip, ↓ View.readCov_cons_toLoadRect, ↓ View.readCov_fill]
    frame_out
    refine (canon_drop [_, _, _, _] [_] y (View.cover_of_tiled_head _ _ _ (by rfl) _)).trans ?_
    canon_tiles x h
    · refine (dspay_3 V c t _ _ _ x).trans ?_
      rw [show (y 1).val / 128 = 3 by omega, show (y 1).val % 128 = (x 1).val by omega]
      congr 1
      pointwise [k1_pay3]
    · refine (dspay_2 V c t _ _ _ x).trans ?_
      rw [show (y 1).val / 128 = 2 by omega, show (y 1).val % 128 = (x 1).val by omega]
      congr 1
      pointwise [k1_pay3]
    · refine (dspay_1 V c t _ _ _ x).trans ?_
      rw [show (y 1).val / 128 = 1 by omega, show (y 1).val % 128 = (x 1).val by omega]
      congr 1
      pointwise [k1_pay3]
    · refine (dspay_0 V c t _ _ _ x).trans ?_
      rw [show (y 1).val / 128 = 0 by omega, show (y 1).val % 128 = (x 1).val by omega]
      congr 1
      pointwise [k1_pay3]
  · rw [outsAt1_B V c t ht]
    dsimp only
    frame_out
    canon_tiles x h
    · refine (dspay_3 V c t _ _ _ x).trans ?_
      rw [show (y 1).val / 128 = 3 by omega, show (y 1).val % 128 = (x 1).val by omega]
      congr 1
      pointwise [h0]
      exact congrArg _ (by funext a; apply Fin.ext; fin_cases a <;> simp [ix2] <;> omega)
    · refine (dspay_2 V c t _ _ _ x).trans ?_
      rw [show (y 1).val / 128 = 2 by omega, show (y 1).val % 128 = (x 1).val by omega]
      congr 1
      pointwise [h0]
      exact congrArg _ (by funext a; apply Fin.ext; fin_cases a <;> simp [ix2] <;> omega)
    · refine (dspay_1 V c t _ _ _ x).trans ?_
      rw [show (y 1).val / 128 = 1 by omega, show (y 1).val % 128 = (x 1).val by omega]
      congr 1
      pointwise [h0]
      exact congrArg _ (by funext a; apply Fin.ext; fin_cases a <;> simp [ix2] <;> omega)
    · refine (dspay_0 V c t _ _ _ x).trans ?_
      rw [show (y 1).val / 128 = 0 by omega, show (y 1).val % 128 = (x 1).val by omega]
      congr 1
      pointwise [h0]
      exact congrArg _ (by funext a; apply Fin.ext; fin_cases a <;> simp [ix2] <;> omega)

/-- Eight blocks of 1024 rows are all the rows. -/
theorem sum_blocks (f : ℕ → EReal) : ∑ p : Fin 8, ∑ r : Fin 1024, f (1024 * p.val + r.val) = ∑ r : Fin 8192, f r.val := by
  have h := Fin.sum_univ_univ_mul_add 8 1024 f
  simp only [Nat.mul_comm _ 1024] at h
  exact h

/-- The gradient of the weights as an array. -/
def dw (A : FVec Ideal S8192x512 .f32) (Q : FVec Ideal S8192x512 .bf16) (S : FVec Ideal S1x512 .f32) : FVec Ideal S4x128x128 .f32 :=
  fun i => ∑ r : Fin 8192, at2 Q r.val (128 * (i 0).val + (i 1).val)
    * (at2 A r.val (128 * (i 0).val + (i 2).val) * at2 S 0 (128 * (i 0).val + (i 2).val))

/-- The gradient of the scale as an array. -/
def ds (A : FVec Ideal S8192x512 .f32) (Q : FVec Ideal S8192x512 .bf16) (W : FVec Ideal S4x128x128 .f32) : FVec Ideal S1x512 .f32 :=
  fun i => ∑ r : Fin 8192, at2 A r.val (128 * ((i 1).val / 128) + (i 1).val % 128)
    * ∑ k : Fin 128, at2 Q r.val (128 * ((i 1).val / 128) + k.val) * at3 W ((i 1).val / 128) k.val ((i 1).val % 128)

/-- The second result of the second region: the gradient of the weights. -/
theorem final1_6 (c : Dev nD) : (dat1 V c).arrAt 6 cfg1.N = dw (V c main_arg0) (V c main_v1_0) (V c main_arg3) := by
  refine (dat1 V c).arrAt_eq_of_after_last 6 t1_7 (by decide +kernel) _ fun j => ?_
  rw [after1_6, Pipeline.eq_sum_fin_of_reset_step_apply_last (fun n h => (outsAt1 V c n h).2.1) 8 (fun _ => 0)
    (fun t y => dwTerm (V c main_arg0) (V c main_v1_0) (V c main_arg3) t.val (y 0).val (y 1).val (y 2).val)
    (fun t h y => dw_step V c t y 0 (.inl ⟨h, rfl⟩)) (fun t h y => dw_step V c t y _ (.inr ⟨h, rfl⟩)) (le_of_eq N_1) t1_7 rfl]
  rw [zero_add]
  exact sum_blocks fun r => at2 (V c main_v1_0) r (128 * (j 0).val + (j 1).val)
    * (at2 (V c main_arg0) r (128 * (j 0).val + (j 2).val) * at2 (V c main_arg3) 0 (128 * (j 0).val + (j 2).val))

/-- The third result of the second region: the gradient of the scale. -/
theorem final1_7 (c : Dev nD) : (dat1 V c).arrAt 7 cfg1.N = ds (V c main_arg0) (V c main_v1_0) (V c main_v2) := by
  refine (dat1 V c).arrAt_eq_of_after_last 7 t1_7 (by decide +kernel) _ fun j => ?_
  rw [after1_7, Pipeline.eq_sum_fin_of_reset_step_apply_last (fun n h => (outsAt1 V c n h).2.2) 8 (fun _ => 0)
    (fun t y => dsTerm (V c main_arg0) (V c main_v1_0) (V c main_v2) t.val ((y 1).val / 128) ((y 1).val % 128))
    (fun t h y => ds_step V c t y 0 (.inl ⟨h, rfl⟩)) (fun t h y => ds_step V c t y _ (.inr ⟨h, rfl⟩)) (le_of_eq N_1) t1_7 rfl]
  rw [zero_add]
  exact sum_blocks fun r => at2 (V c main_arg0) r (128 * ((j 1).val / 128) + (j 1).val % 128)
    * ∑ k : Fin 128, at2 (V c main_v1_0) r (128 * ((j 1).val / 128) + k.val) * at3 (V c main_v2) ((j 1).val / 128) k.val ((j 1).val % 128)

end Cert.PoolValue
-- ==== Proof.PoolRun.lean ====
/- What the pool's backward call leaves at its end: its three gradients, of the arguments at launch. -/
module

public import proofs.«01_k».proof.Proof.PoolA
public import proofs.«01_k».proof.Proof.PoolB
public import proofs.«01_k».proof.Proof.Gen.Kernel2Ideal.Frame

@[expose] public section

set_option maxRecDepth 16384

noncomputable section

namespace Cert.PoolValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

/-- The stack of group matrices without its leading unit axis. -/
def stack (W : FVec Ideal S1x4x128x128 .f32) : FVec Ideal S4x128x128 .f32 :=
  shapeCast S4x128x128 W shapeCasts_S1x4x128x128_S4x128x128

/-- The pooled array at the backward region's entry is the one the forward region wrote. -/
theorem entry_pooled (c : Dev nD) : V3 m ρ c main_v1_0 = pooled (m ((c : Thread nD τ).loc main_arg1)) :=
  (W3_of m ρ c main_v1_0 (by decide)).trans ((W2_arr m ρ c 4).trans
    ((final0_4 (V1 m ρ) c).trans (congrArg pooled (W1_args m ρ c main_arg1 (by decide)))))

/-- The group matrices at the backward region's entry. -/
theorem entry_stack (c : Dev nD) : V3 m ρ c main_v2 = stack (m ((c : Thread nD τ).loc main_arg2)) := by
  refine Eq.trans ?_ (congrArg stack (W2_args m ρ c main_arg2 (by decide)))
  show StableHlo.after hostOps1 (W2 m ρ c) _ = _
  rw [StableHlo.after_cons, StableHlo.after_nil, StableHlo.reshape_result]
  rfl

theorem entry_dm (c : Dev nD) : V3 m ρ c main_arg0 = m ((c : Thread nD τ).loc main_arg0) :=
  W3_args m ρ c main_arg0 (by decide)

theorem entry_scale (c : Dev nD) : V3 m ρ c main_arg3 = m ((c : Thread nD τ).loc main_arg3) :=
  W3_args m ρ c main_arg3 (by decide)

set_option backward.isDefEq.respectTransparency.types false in
/-- The backward call ends with the three gradients in its result arrays and its arguments unchanged. -/
theorem run2 : θ_run defs (onTc (τ := τ) (main (F := Ideal))) ⟨m, fun _ => 0, ρ⟩ (fun r => (∀ c : Dev nD,
      r.2.mem ((c.tc : Thread nD τ).loc main_v3_0)
        = du (m ((c : Thread nD τ).loc main_arg0)) (m ((c : Thread nD τ).loc main_arg3)) (stack (m ((c : Thread nD τ).loc main_arg2)))
      ∧ r.2.mem ((c.tc : Thread nD τ).loc main_v3_1)
        = dw (m ((c : Thread nD τ).loc main_arg0)) (pooled (m ((c : Thread nD τ).loc main_arg1))) (m ((c : Thread nD τ).loc main_arg3))
      ∧ r.2.mem ((c.tc : Thread nD τ).loc main_v3_2)
        = ds (m ((c : Thread nD τ).loc main_arg0)) (pooled (m ((c : Thread nD τ).loc main_arg1))) (stack (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c =>
      ⟨(h c _ (mem_uc main_v3_0 (by decide))).trans ((W4_arr m ρ c 5).trans
          ((final1_5 (V3 m ρ) c).trans (by rw [entry_dm, entry_scale, entry_stack]))),
       (h c _ (mem_uc main_v3_1 (by decide))).trans ((W4_arr m ρ c 6).trans
          ((final1_6 (V3 m ρ) c).trans (by rw [entry_dm, entry_scale, entry_pooled]))),
       (h c _ (mem_uc main_v3_2 (by decide))).trans ((W4_arr m ρ c 7).trans
          ((final1_7 (V3 m ρ) c).trans (by rw [entry_dm, entry_stack, entry_pooled]))),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩, funext fun g => hz g (.inr (no_unscoped g.2))⟩)

end Cert.PoolValue

end
-- ==== Proof.PoolRef.lean ====
/- The pool's reference gradients at a point: the prefix sums, the windows, and the products. -/
module

public import proofs.«01_k».proof.Proof.PoolA
public import proofs.«01_k».proof.Proof.PoolB
public import proofs.«01_k».proof.Proof.PoolMath
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PoolRef

open Cert.Reference2Ideal Cert.Reference2Ideal.Gen Cert.Reference2Ideal.Value Cert.PoolValue Cert.PoolMath

variable (V : Valuation τ sig (Elt Ideal))

/-- The cotangent. -/
abbrev aA : FVec Ideal S8192x512 .f32 := V (Proc.devRef .tc main_arg0)
/-- The projections. -/
abbrev aP : FVec Ideal S8192x6656 .bf16 := V (Proc.devRef .tc main_arg1)
/-- The stack of group matrices. -/
abbrev aW : FVec Ideal S4x128x128 .f32 := res_main_v2 V
/-- The scale. -/
abbrev aS : FVec Ideal S1x512 .f32 := V (Proc.devRef .tc main_arg3)

/-- The pool's input, split into its groups. -/
theorem v3_at (a : Fin 1) (r : Fin 8192) (g : Fin 4) (l : Fin 128) :
    res_main_v3 V (ix4 a r g l) = Uz (aP V) (r.val + 16) (128 * g.val + l.val) := by
  have h : 16 ≤ r.val + 16 ∧ r.val + 16 - 16 < 8192 ∧ 128 * g.val + l.val < 512 := by omega
  refine Eq.trans ?_ (dif_pos h).symm
  pointwise [res_main_v3]
  blk_point []

/-- The host's windowed sum from zero, at an index. -/
theorem host_window {s t z : Shape} (window strides lo hi : Fin s.rank → ℕ) (x : FVec Ideal s .f32) (v : FVec Ideal z .f32)
    (h : s.ReduceWindows window strides lo hi t) (hu : 0 < z.numel) (e : EReal) (he : v (Shape.Idx.first hu) = e) (j : t.Idx) :
    Host.reduceWindowAdd window strides lo hi x v h hu j = Ideal.hostReduceWindowAdd window strides lo hi h x e j := by
  rw [← he]; rfl

/-- The prefix sums: row `k` holds the sum of the rows before it. -/
theorem v6_at (a : Fin 1) (k : Fin 8193) (g : Fin 4) (l : Fin 128) :
    res_main_v6 V (ix4 a k g l) = ∑ i ∈ Finset.range k.val, Uz (aP V) (i + 16) (128 * g.val + l.val) := by
  have h := fun r : Fin 8192 => cum_front Cert.Reference2Ideal.Facts₀.reduceWindows_S1x8192x4x128_S1x8192x4x128_w1s1p0_0_w8192s1p8191_0_w1s1p0_0_w1s1p0_0
    (res_main_v3 V) 0 r g l
  pointwise [res_main_v6]
  split
  · next h0 => rw [show k.val = 0 by omega, Finset.range_zero, Finset.sum_empty]
  · next h0 =>
    have hk : k.val - 1 < 8192 := by omega
    refine (host_window _ _ _ _ _ _ _ _ 0 (by pointwise []) _).trans ?_
    refine (h ⟨k.val - 1, hk⟩).trans ?_
    show ∑ i ∈ Finset.range (k.val - 1 + 1), _ = _
    rw [show k.val - 1 + 1 = k.val by omega]
    refine Finset.sum_congr rfl fun i hi => ?_
    have hi' := Finset.mem_range.mp hi
    rw [dif_pos (by omega), v3_at]

/-- A float word of a power of two. -/
theorem word_up (w : BitVec 32) (e : ℕ) (he : e ≤ 4) (h1 : w.extractLsb' 31 1 = 0#1) (h2 : (w.extractLsb' 23 8).toNat = 127 + e)
    (h3 : (w.extractLsb' 0 23).toNat = 0) : Ideal.ofBits .f32 w = (((2 ^ e : ℕ) : ℝ) : EReal) := by
  simp only [Ideal.ofBits, Ideal.ieee, h1, h2, h3]
  interval_cases e <;> norm_num

/-- A row's number counted from one, capped at the window. -/
theorem count_eq (r w : ℕ) (hr : r < 8192) :
    min (1 + (FloatOps.sitofp .f32 (BitVec.ofNat 32 r) : Ideal .f32)) ((w : ℝ) : EReal) = ((min (r + 1) w : ℕ) : ℝ) := by
  have h : (FloatOps.sitofp .f32 (BitVec.ofNat 32 r) : Ideal .f32) = ((r : ℝ) : EReal) := by
    show (((BitVec.ofNat 32 r).toInt : ℝ) : EReal) = _
    rw [show (BitVec.ofNat 32 r).toInt = (r : ℤ) by rw [BitVec.toInt_ofNat', Int.bmod_eq_of_le] <;> omega]
    norm_cast
  rw [h, show (1 : EReal) = ((1 : ℝ) : EReal) from rfl, ← EReal.coe_add]
  refine (Monotone.map_min EReal.coe_strictMono.monotone).symm.trans ?_
  push_cast
  rw [add_comm]

/-- Group 0's row counts. -/
theorem v20_at (a : Fin 1) (r : Fin 8192) (b : Fin 1) : res_main_v20 V (ix3 a r b) = (((min (r.val + 1) 2 : ℕ) : ℝ) : EReal) := by
  pointwise [res_main_v20, res_main_v10]
  rw [word_up 0x40000000#32 1 (by decide) (by decide) (by decide) (by decide)]
  exact count_eq r.val 2 r.isLt

theorem v12_at (a : Fin 1) (k : Fin 8193) (l : Fin 128) :
    res_main_v12 V (ix3 a k l) = ∑ i ∈ Finset.range k.val, Uz (aP V) (i + 16) (0 + l.val) := by
  pointwise [res_main_v12, v6_at]

/-- Group 1's row counts. -/
theorem v36_at (a : Fin 1) (r : Fin 8192) (b : Fin 1) : res_main_v36 V (ix3 a r b) = (((min (r.val + 1) 4 : ℕ) : ℝ) : EReal) := by
  pointwise [res_main_v36, res_main_v10]
  rw [word_up 0x40800000#32 2 (by decide) (by decide) (by decide) (by decide)]
  exact count_eq r.val 4 r.isLt

theorem v28_at (a : Fin 1) (k : Fin 8193) (l : Fin 128) :
    res_main_v28 V (ix3 a k l) = ∑ i ∈ Finset.range k.val, Uz (aP V) (i + 16) (128 + l.val) := by
  pointwise [res_main_v28, v6_at]

/-- Group 2's row counts. -/
theorem v52_at (a : Fin 1) (r : Fin 8192) (b : Fin 1) : res_main_v52 V (ix3 a r b) = (((min (r.val + 1) 8 : ℕ) : ℝ) : EReal) := by
  pointwise [res_main_v52, res_main_v10]
  rw [word_up 0x41000000#32 3 (by decide) (by decide) (by decide) (by decide)]
  exact count_eq r.val 8 r.isLt

theorem v44_at (a : Fin 1) (k : Fin 8193) (l : Fin 128) :
    res_main_v44 V (ix3 a k l) = ∑ i ∈ Finset.range k.val, Uz (aP V) (i + 16) (256 + l.val) := by
  pointwise [res_main_v44, v6_at]

/-- Group 3's row counts. -/
theorem v68_at (a : Fin 1) (r : Fin 8192) (b : Fin 1) : res_main_v68 V (ix3 a r b) = (((min (r.val + 1) 16 : ℕ) : ℝ) : EReal) := by
  pointwise [res_main_v68, res_main_v10]
  rw [word_up 0x41800000#32 4 (by decide) (by decide) (by decide) (by decide)]
  exact count_eq r.val 16 r.isLt

theorem v60_at (a : Fin 1) (k : Fin 8193) (l : Fin 128) :
    res_main_v60 V (ix3 a k l) = ∑ i ∈ Finset.range k.val, Uz (aP V) (i + 16) (384 + l.val) := by
  pointwise [res_main_v60, v6_at]

/-- The gradient of the pooled value. -/
theorem v97_at (a : Fin 1) (r : Fin 8192) (g : Fin 4) (l : Fin 128) :
    res_main_v97 V (ix4 a r g l) = dp (aA V) (aS V) (aW V) r.val g.val l.val := by
  pointwise [res_main_v97, res_main_v95, res_main_v86, res_main_v83, dp]
  refine Fintype.sum_congr (M := EReal) _ _ fun d => ?_
  have hr := r.isLt
  rw [at2, dif_pos (by omega), at2, dif_pos (by omega), at3, dif_pos ⟨g.isLt, l.isLt, d.isLt⟩]
  simp only [mul_comm 128]
  rfl

theorem v101_at (a : Fin 1) (r : Fin 8192) (l : Fin 128) :
    res_main_v101 V (ix3 a r l) = dp (aA V) (aS V) (aW V) r.val 0 l.val := by
  pointwise [res_main_v101, v97_at]

/-- Group 0's gradient of the mean. -/
theorem v156_at (a : Fin 1) (r : Fin 8192) (l : Fin 128) :
    res_main_v156 V (ix3 a r l) = qAt (aA V) (aS V) (aW V) r.val (0 + l.val) := by
  have hr := r.isLt
  have hl := l.isLt
  pointwise [res_main_v156, v101_at, v20_at]
  refine Eq.trans ?_ (congrArg (qAt _ _ _ _) (Nat.zero_add l.val))
  exact q_in _ _ _ r.val 0 l.val 2 hr hl rfl rfl

theorem v103_at (a : Fin 1) (r : Fin 8192) (l : Fin 128) :
    res_main_v103 V (ix3 a r l) = dp (aA V) (aS V) (aW V) r.val 1 l.val := by
  pointwise [res_main_v103, v97_at]

/-- Group 1's gradient of the mean. -/
theorem v141_at (a : Fin 1) (r : Fin 8192) (l : Fin 128) :
    res_main_v141 V (ix3 a r l) = qAt (aA V) (aS V) (aW V) r.val (128 + l.val) := by
  have hr := r.isLt
  have hl := l.isLt
  pointwise [res_main_v141, v103_at, v36_at]
  exact q_in _ _ _ r.val 128 l.val 4 hr hl rfl rfl

theorem v105_at (a : Fin 1) (r : Fin 8192) (l : Fin 128) :
    res_main_v105 V (ix3 a r l) = dp (aA V) (aS V) (aW V) r.val 2 l.val := by
  pointwise [res_main_v105, v97_at]

/-- Group 2's gradient of the mean. -/
theorem v126_at (a : Fin 1) (r : Fin 8192) (l : Fin 128) :
    res_main_v126 V (ix3 a r l) = qAt (aA V) (aS V) (aW V) r.val (256 + l.val) := by
  have hr := r.isLt
  have hl := l.isLt
  pointwise [res_main_v126, v105_at, v52_at]
  exact q_in _ _ _ r.val 256 l.val 8 hr hl rfl rfl

theorem v107_at (a : Fin 1) (r : Fin 8192) (l : Fin 128) :
    res_main_v107 V (ix3 a r l) = dp (aA V) (aS V) (aW V) r.val 3 l.val := by
  pointwise [res_main_v107, v97_at]

/-- Group 3's gradient of the mean. -/
theorem v112_at (a : Fin 1) (r : Fin 8192) (l : Fin 128) :
    res_main_v112 V (ix3 a r l) = qAt (aA V) (aS V) (aW V) r.val (384 + l.val) := by
  have hr := r.isLt
  have hl := l.isLt
  pointwise [res_main_v112, v107_at, v68_at]
  exact q_in _ _ _ r.val 384 l.val 16 hr hl rfl rfl

/-- Among finite rows the mean's numerator, a difference of prefix sums, is the window's sum. -/
theorem window_eq (P : FVec Ideal S8192x6656 .bf16) (l : ℕ) (x : ℕ → ℝ) (hx : ∀ k, Uz P (k + 16) l = (x k : EReal)) (r w : ℕ) (hw : w ≤ 16) :
    ∑ k ∈ Finset.range (r + 1), Uz P (k + 16) l - ∑ k ∈ Finset.range (r + 1 - w), Uz P (k + 16) l
      = ∑ j ∈ Finset.range w, Uz P (r + (16 - j)) l := by
  simp only [hx]
  rw [trailing]
  refine Finset.sum_congr rfl fun j hj => ?_
  have hj' := Finset.mem_range.mp hj
  split_ifs with h
  · rw [← hx, show r - j + 16 = r + (16 - j) by omega]
  · rw [Uz, dif_neg (by omega)]

/-- The prefix sum at a window's far end, as the reference lays it out. -/
theorem far_end (f : ℕ → EReal) (r w : ℕ) (hw : 0 < w) :
    (if r < w - 1 then 0 else ∑ k ∈ Finset.range (r - (w - 1)), f k) = ∑ k ∈ Finset.range (r + 1 - w), f k := by
  split_ifs with h
  · rw [show r + 1 - w = 0 by omega, Finset.range_zero, Finset.sum_empty]
  · rw [show r - (w - 1) = r + 1 - w by omega]

/-- The pooled value of one group. -/
theorem pooled_eq (P : FVec Ideal S8192x6656 .bf16) (hP : ∀ l, ∃ x : ℕ → ℝ, ∀ k, Uz P (k + 16) l = (x k : EReal)) (r o l w : ℕ)
    (hl : l < 128) (ho : o % 128 = 0) (hw : 2 * 2 ^ (o / 128) = w) (hw' : w ≤ 16) (hw0 : 0 < w) :
    Ideal.div (∑ k ∈ Finset.range (r + 1), Uz P (k + 16) (o + l)
      - (if r < w - 1 then 0 else ∑ k ∈ Finset.range (r - (w - 1)), Uz P (k + 16) (o + l))) ((min (r + 1) w : ℕ) : ℝ)
      - Uz P (r + 16) (o + l) = pooledAt P r (o + l) := by
  obtain ⟨x, hx⟩ := hP (o + l)
  rw [far_end _ r w hw0, window_eq P (o + l) x hx r w hw', pooledAt, cnt, win_eq o l w hl hw ho]

/-- The pooled array of the reference. -/
theorem v79_at (hP : ∀ l, ∃ x : ℕ → ℝ, ∀ k, Uz (aP V) (k + 16) l = (x k : EReal)) (a : Fin 1) (r : Fin 8192) (g : Fin 4) (l : Fin 128) :
    res_main_v79 V (ix4 a r g l) = pooledAt (aP V) r.val (128 * g.val + l.val) := by
  have h0 := pooled_eq (aP V) hP r.val 0 l.val 2 l.isLt rfl rfl (by decide) (by decide)
  have h1 := pooled_eq (aP V) hP r.val 128 l.val 4 l.isLt rfl rfl (by decide) (by decide)
  have h2 := pooled_eq (aP V) hP r.val 256 l.val 8 l.isLt rfl rfl (by decide) (by decide)
  have h3 := pooled_eq (aP V) hP r.val 384 l.val 16 l.isLt rfl rfl (by decide) (by decide)
  rw [Nat.zero_add] at h0
  fin_vals g with hg
  · pointwise [res_main_v79, hg, v12_at, v20_at, v3_at]
    rw [dite_eq_ite, Nat.add_comm 1 r.val]
    exact h0
  · pointwise [res_main_v79, hg, v28_at, v36_at, v3_at]
    rw [dite_eq_ite, Nat.add_comm 1 r.val]
    exact h1
  · pointwise [res_main_v79, hg, v44_at, v52_at, v3_at]
    rw [dite_eq_ite, Nat.add_comm 1 r.val]
    exact h2
  · pointwise [res_main_v79, hg, v60_at, v68_at, v3_at]
    rw [dite_eq_ite, Nat.add_comm 1 r.val]
    exact h3

/-- The cotangents of the prefix sums, of the four groups' gradients of the mean and their negatives. -/
def stackSum (Q0 Q1 Q2 Q3 N0 N1 N2 N3 : FVec Ideal S1x8192x128 .f32) : FVec Ideal S1x8193x4x128 .f32 :=
  addf (addf (addf (pad S1x8193x4x128 ![0, 0, 3, 0] ![0, 0, 0, 0] ![0, 0, 0, 0] (broadcastInDim S1x8193x1x128 ![0, 1, 3] bcast_S1x8193x128_S1x8193x1x128_0_1_3 (addf (pad S1x8193x128 ![0, 0, 0] ![0, 16, 0] ![0, 0, 0] (extractStridedSlice S1x8177x128 ![0, 15, 0] N3 slices_S1x8192x128_S1x8177x128_0_15_0) (constant S_ .f32 0x00000000#32) pads_S1x8177x128_S1x8193x128_000_0160_000 h_S_) (pad S1x8193x128 ![0, 1, 0] ![0, 0, 0] ![0, 0, 0] Q3 (constant S_ .f32 0x00000000#32) pads_S1x8192x128_S1x8193x128_000_100_000 h_S_))) (constant S_ .f32 0x00000000#32) pads_S1x8193x1x128_S1x8193x4x128_000_000_300_000 h_S_) (pad S1x8193x4x128 ![0, 0, 2, 0] ![0, 0, 1, 0] ![0, 0, 0, 0] (broadcastInDim S1x8193x1x128 ![0, 1, 3] bcast_S1x8193x128_S1x8193x1x128_0_1_3 (addf (pad S1x8193x128 ![0, 0, 0] ![0, 8, 0] ![0, 0, 0] (extractStridedSlice S1x8185x128 ![0, 7, 0] N2 slices_S1x8192x128_S1x8185x128_0_7_0) (constant S_ .f32 0x00000000#32) pads_S1x8185x128_S1x8193x128_000_080_000 h_S_) (pad S1x8193x128 ![0, 1, 0] ![0, 0, 0] ![0, 0, 0] Q2 (constant S_ .f32 0x00000000#32) pads_S1x8192x128_S1x8193x128_000_100_000 h_S_))) (constant S_ .f32 0x00000000#32) pads_S1x8193x1x128_S1x8193x4x128_000_000_210_000 h_S_)) (pad S1x8193x4x128 ![0, 0, 1, 0] ![0, 0, 2, 0] ![0, 0, 0, 0] (broadcastInDim S1x8193x1x128 ![0, 1, 3] bcast_S1x8193x128_S1x8193x1x128_0_1_3 (addf (pad S1x8193x128 ![0, 0, 0] ![0, 4, 0] ![0, 0, 0] (extractStridedSlice S1x8189x128 ![0, 3, 0] N1 slices_S1x8192x128_S1x8189x128_0_3_0) (constant S_ .f32 0x00000000#32) pads_S1x8189x128_S1x8193x128_000_040_000 h_S_) (pad S1x8193x128 ![0, 1, 0] ![0, 0, 0] ![0, 0, 0] Q1 (constant S_ .f32 0x00000000#32) pads_S1x8192x128_S1x8193x128_000_100_000 h_S_))) (constant S_ .f32 0x00000000#32) pads_S1x8193x1x128_S1x8193x4x128_000_000_120_000 h_S_)) (pad S1x8193x4x128 ![0, 0, 0, 0] ![0, 0, 3, 0] ![0, 0, 0, 0] (broadcastInDim S1x8193x1x128 ![0, 1, 3] bcast_S1x8193x128_S1x8193x1x128_0_1_3 (addf (pad S1x8193x128 ![0, 0, 0] ![0, 2, 0] ![0, 0, 0] (extractStridedSlice S1x8191x128 ![0, 1, 0] N0 slices_S1x8192x128_S1x8191x128_0_1_0) (constant S_ .f32 0x00000000#32) pads_S1x8191x128_S1x8193x128_000_020_000 h_S_) (pad S1x8193x128 ![0, 1, 0] ![0, 0, 0] ![0, 0, 0] Q0 (constant S_ .f32 0x00000000#32) pads_S1x8192x128_S1x8193x128_000_100_000 h_S_))) (constant S_ .f32 0x00000000#32) pads_S1x8193x1x128_S1x8193x4x128_000_000_030_000 h_S_)

theorem v165_eq : res_main_v165 V = stackSum (res_main_v156 V) (res_main_v141 V) (res_main_v126 V) (res_main_v112 V)
    (Host.negf (F := Ideal) (φ := .f32) (s := S1x8192x128) (res_main_v156 V)) (Host.negf (F := Ideal) (φ := .f32) (s := S1x8192x128) (res_main_v141 V))
    (Host.negf (F := Ideal) (φ := .f32) (s := S1x8192x128) (res_main_v126 V)) (Host.negf (F := Ideal) (φ := .f32) (s := S1x8192x128) (res_main_v112 V)) := rfl

/-- The four groups' negated gradients, each padded to its place. -/
def padGroups (D0 D1 D2 D3 : FVec Ideal S1x8192x128 .f32) : FVec Ideal S1x8192x4x128 .f32 :=
  (addf (addf (addf (pad S1x8192x4x128 ![0, 0, 3, 0] ![0, 0, 0, 0] ![0, 0, 0, 0] (broadcastInDim S1x8192x1x128 ![0, 1, 3] bcast_S1x8192x128_S1x8192x1x128_0_1_3 (Host.negf D3)) (constant S_ .f32 0x00000000#32) pads_S1x8192x1x128_S1x8192x4x128_000_000_300_000 h_S_) (pad S1x8192x4x128 ![0, 0, 2, 0] ![0, 0, 1, 0] ![0, 0, 0, 0] (broadcastInDim S1x8192x1x128 ![0, 1, 3] bcast_S1x8192x128_S1x8192x1x128_0_1_3 (Host.negf D2)) (constant S_ .f32 0x00000000#32) pads_S1x8192x1x128_S1x8192x4x128_000_000_210_000 h_S_)) (pad S1x8192x4x128 ![0, 0, 1, 0] ![0, 0, 2, 0] ![0, 0, 0, 0] (broadcastInDim S1x8192x1x128 ![0, 1, 3] bcast_S1x8192x128_S1x8192x1x128_0_1_3 (Host.negf D1)) (constant S_ .f32 0x00000000#32) pads_S1x8192x1x128_S1x8192x4x128_000_000_120_000 h_S_)) (pad S1x8192x4x128 ![0, 0, 0, 0] ![0, 0, 3, 0] ![0, 0, 0, 0] (broadcastInDim S1x8192x1x128 ![0, 1, 3] bcast_S1x8192x128_S1x8192x1x128_0_1_3 (Host.negf D0)) (constant S_ .f32 0x00000000#32) pads_S1x8192x1x128_S1x8192x4x128_000_000_030_000 h_S_))

theorem padGroups_at (D0 D1 D2 D3 : FVec Ideal S1x8192x128 .f32)
    (d : ℕ → ℕ → ℕ → EReal) (h0 : ∀ r l, D0 (ix3 0 r l) = d r.val 0 l.val) (h1 : ∀ r l, D1 (ix3 0 r l) = d r.val 1 l.val)
    (h2 : ∀ r l, D2 (ix3 0 r l) = d r.val 2 l.val) (h3 : ∀ r l, D3 (ix3 0 r l) = d r.val 3 l.val)
    (r : Fin 8192) (g : Fin 4) (l : Fin 128) : padGroups D0 D1 D2 D3 (ix4 0 r g l) = - d r.val g.val l.val := by
  fin_vals g with hg
  · pointwise [padGroups, hg, h0]
  · pointwise [padGroups, hg, h1]
  · pointwise [padGroups, hg, h2]
  · pointwise [padGroups, hg, h3]

/-- The gradient of the pool's input: the negatives of the pooled value's gradient, and the suffix sums. -/
def inputGrad (D0 D1 D2 D3 : FVec Ideal S1x8192x128 .f32) (C : FVec Ideal S1x8193x4x128 .f32) : FVec Ideal S8192x512 .bf16 :=
  truncf .bf16 (shapeCast _ (addf (padGroups D0 D1 D2 D3) (Host.reduceWindowAdd ![1, 8192, 1, 1] ![1, 1, 1, 1] ![0, 0, 0, 0] ![0, 8191, 0, 0] (extractStridedSlice S1x8192x4x128 ![0, 1, 0, 0] C slices_S1x8193x4x128_S1x8192x4x128_0_1_0_0) (broadcastInDim S_ ![] bcast_S_S_ (constant S_ .f32 0x00000000#32)) reduceWindows_S1x8192x4x128_S1x8192x4x128_w1s1p0_0_w8192s1p0_8191_w1s1p0_0_w1s1p0_0 h_S_)) shapeCasts_S1x8192x4x128_S8192x512) bitsLt_bf16_f32

/-- One group's two parts of the cotangent, as the padded arrays lay them out. -/
theorem near_far (q : ℕ → EReal) (k r w : ℕ) (hk : k = r + 1) (hr : r < 8192) (hw : 0 < w) (h : w ≤ 8192) :
    (if k < 8193 - w then - q ((w - 1) + k) else 0) + (if 1 ≤ k ∧ k - 1 < 8192 then q (k - 1) else 0)
      = (if r + w < 8192 then - q (r + w) else 0) + q r := by
  subst hk
  rw [if_pos (show 1 ≤ r + 1 ∧ r + 1 - 1 < 8192 by omega), Nat.add_sub_cancel]
  congr 1
  by_cases h1 : r + 1 < 8193 - w
  · rw [if_pos h1, if_pos (by omega), show (w - 1) + (r + 1) = r + w by omega]
  · rw [if_neg h1, if_neg (by omega)]

/-- The cotangents of the prefix sums, read from the second row on. -/
theorem v165_at (r : Fin 8192) (k : Fin 8193) (hk : k.val = r.val + 1) (g : Fin 4) (l : Fin 128) :
    res_main_v165 V (ix4 0 k g l)
      = ((if r.val + win (128 * g.val) < 8192 then - qAt (aA V) (aS V) (aW V) (r.val + win (128 * g.val)) (128 * g.val + l.val) else 0)
        + qAt (aA V) (aS V) (aW V) r.val (128 * g.val + l.val) : EReal) := by
  rw [v165_eq]
  have hr := r.isLt
  have h0 := near_far (fun k => qAt (aA V) (aS V) (aW V) k l.val) k.val r.val 2 hk hr (by decide) (by decide)
  have h1 := near_far (fun k => qAt (aA V) (aS V) (aW V) k (128 + l.val)) k.val r.val 4 hk hr (by decide) (by decide)
  have h2 := near_far (fun k => qAt (aA V) (aS V) (aW V) k (256 + l.val)) k.val r.val 8 hk hr (by decide) (by decide)
  have h3 := near_far (fun k => qAt (aA V) (aS V) (aW V) k (384 + l.val)) k.val r.val 16 hk hr (by decide) (by decide)
  have e0 := fun a r l => (v156_at V a r l).trans (congrArg (qAt _ _ _ _) (Nat.zero_add l.val))
  have e1 := v141_at V
  have e2 := v126_at V
  have e3 := v112_at V
  generalize res_main_v156 V = Q0 at *
  generalize res_main_v141 V = Q1 at *
  generalize res_main_v126 V = Q2 at *
  generalize res_main_v112 V = Q3 at *
  fin_vals g with hg
  · pointwise [stackSum, hg, e0]
    exact h0
  · pointwise [stackSum, hg, e1]
    exact h1
  · pointwise [stackSum, hg, e2]
    exact h2
  · pointwise [stackSum, hg, e3]
    exact h3

/-- The suffix sums of a group's cotangents are its leading windows' sums. -/
theorem suffix_eq (A : FVec Ideal S8192x512 .f32) (S : FVec Ideal S1x512 .f32) (W : FVec Ideal S4x128x128 .f32) (l w : ℕ)
    (q : ℕ → ℝ) (hq : ∀ k, qAt A S W k l = (q k : EReal)) (r : ℕ) (hr : r < 8192) :
    ∑ k ∈ Finset.Ico r 8192, ((if k + w < 8192 then - qAt A S W (k + w) l else 0) + qAt A S W k l)
      = ∑ j ∈ Finset.range w, qAt A S W (r + j) l := by
  refine Eq.trans ?_ ((leading q 8192 r w hr.le).trans ?_)
  · simp only [hq]
  · refine Finset.sum_congr rfl fun j _ => ?_
    by_cases h : r + j < 8192
    · rw [if_pos h, hq]
    · rw [if_neg h, qAt, if_neg h]

/-- The reference's gradient of the pool's input at a point. -/
theorem inputGrad_at (D0 D1 D2 D3 : FVec Ideal S1x8192x128 .f32) (C : FVec Ideal S1x8193x4x128 .f32)
    (d : ℕ → ℕ → ℕ → EReal) (h0 : ∀ r l, D0 (ix3 0 r l) = d r.val 0 l.val) (h1 : ∀ r l, D1 (ix3 0 r l) = d r.val 1 l.val)
    (h2 : ∀ r l, D2 (ix3 0 r l) = d r.val 2 l.val) (h3 : ∀ r l, D3 (ix3 0 r l) = d r.val 3 l.val)
    (c : ℕ → ℕ → EReal) (hc : ∀ (r : Fin 8192) (k : Fin 8193), k.val = r.val + 1 → ∀ (g : Fin 4) (l : Fin 128), C (ix4 0 k g l) = c r.val (128 * g.val + l.val))
    (r : Fin 8192) (g : Fin 4) (l : Fin 128) (i : S8192x512.Idx) (hi0 : i 0 = r) (hi1 : (i 1).val = 128 * g.val + l.val) :
    inputGrad D0 D1 D2 D3 C i = - d r.val g.val l.val + ∑ k ∈ Finset.Ico r.val 8192, c k (128 * g.val + l.val) := by
  have hb512 : 128 * g.val + l.val < 512 := by omega
  have ei : i = ix2 r (⟨128 * g.val + l.val, hb512⟩ : Fin 512) := by
    funext b; match b with | 0 => exact hi0 | 1 => exact Fin.ext hi1
  subst ei
  have eg : (128 * g.val + l.val) / 128 = g.val := by omega
  have el : (128 * g.val + l.val) % 128 = l.val := by omega
  have hb := cum_back reduceWindows_S1x8192x4x128_S1x8192x4x128_w1s1p0_0_w8192s1p0_8191_w1s1p0_0_w1s1p0_0
    (extractStridedSlice S1x8192x4x128 ![0, 1, 0, 0] C slices_S1x8193x4x128_S1x8192x4x128_0_1_0_0) 0 r g l
  have hp := padGroups_at D0 D1 D2 D3 d h0 h1 h2 h3 r g l
  pointwise [inputGrad]
  refine congrArg₂ (· + ·) hp ?_
  refine (host_window _ _ _ _ _ _ _ _ 0 (by pointwise []) _).trans (hb.trans ?_)
  refine Finset.sum_congr rfl fun k hk => ?_
  have hk' := (Finset.mem_Ico.mp hk).2
  rw [dif_pos hk']
  refine Eq.trans ?_ (hc ⟨k, hk'⟩ ⟨k + 1, by omega⟩ rfl g l)
  pointwise [Nat.add_comm 1 k]

/-- The gradient of the pool's input agrees. -/
theorem du_eq (hq : ∀ l, ∃ q : ℕ → ℝ, ∀ k, qAt (aA V) (aS V) (aW V) k l = (q k : EReal)) :
    inputGrad (res_main_v101 V) (res_main_v103 V) (res_main_v105 V) (res_main_v107 V) (res_main_v165 V) = du (aA V) (aS V) (aW V) := by
  funext i
  have h1 : (i 1).val < 512 := (i 1).isLt
  have e : (i 1).val = 128 * ((i 1).val / 128) + (i 1).val % 128 := by omega
  have ew : win (128 * ((i 1).val / 128)) = win (i 1).val := by rw [win, win, Nat.mul_div_cancel_left _ (by decide)]
  obtain ⟨q, hq⟩ := hq (i 1).val
  refine (inputGrad_at _ _ _ _ _ (fun r g l => dp (aA V) (aS V) (aW V) r g l) (v101_at V 0) (v103_at V 0) (v105_at V 0) (v107_at V 0)
    (fun r l => (if r + win (128 * (l / 128)) < 8192 then - qAt (aA V) (aS V) (aW V) (r + win (128 * (l / 128))) l else 0)
      + qAt (aA V) (aS V) (aW V) r l) (fun r k hk g l => ?_) (i 0) ⟨(i 1).val / 128, by omega⟩ ⟨(i 1).val % 128, by omega⟩ i rfl e).trans ?_
  · have eg : (128 * g.val + l.val) / 128 = g.val := by omega
    simp only [eg]
    exact v165_at V r k hk g l
  · simp only [← e, ew]
    rw [suffix_eq _ _ _ _ _ q hq _ (i 0).isLt]
    show _ = duAt _ _ _ _ _
    rw [duAt, zero_sub]

theorem v95_at (g : Fin 4) (d : Fin 128) (a : Fin 1) (r : Fin 8192) :
    res_main_v95 V (ix4 g d a r) = (at2 (aA V) r.val (128 * g.val + d.val) * at2 (aS V) 0 (128 * g.val + d.val) : EReal) := by
  have hr := r.isLt
  pointwise [res_main_v95, res_main_v86, res_main_v83]
  rw [at2, dif_pos (by omega), at2, dif_pos (by omega)]
  simp only [mul_comm 128]
  rfl

theorem pooled_at2 (P : FVec Ideal S8192x6656 .bf16) (r l : ℕ) (hr : r < 8192) (hl : l < 512) : at2 (pooled P) r l = pooledAt P r l := by
  rw [at2, dif_pos ⟨hr, hl⟩]
  rfl

/-- The gradient of the group matrices agrees. -/
theorem dw_eq (hP : ∀ l, ∃ x : ℕ → ℝ, ∀ k, Uz (aP V) (k + 16) l = (x k : EReal)) :
    (transpose S4x128x128 [0, 2, 1] (Host.dotGeneral (φ₁ := .f32) (φ₂ := .f32) dot_S4x128x1x8192_S1x8192x4x128_S4x128x128_23_01_1_3_0_2 none (res_main_v95 V) (res_main_v79 V))
      transposes_S4x128x128_S4x128x128_0_2_1 : FVec Ideal S4x128x128 .f32) = dw (aA V) (pooled (aP V)) (aS V) := by
  funext i
  have h79 := v79_at V hP
  have h0 : (i 0).val < 4 := (i 0).isLt
  have h1 : (i 1).val < 128 := (i 1).isLt
  pointwise [dw, v95_at, h79]
  rw [Fin.sum_univ_one]
  refine Fintype.sum_congr _ _ fun r => ?_
  rw [pooled_at2 _ _ _ r.isLt (by omega), mul_comm]

theorem v82_at (hP : ∀ l, ∃ x : ℕ → ℝ, ∀ k, Uz (aP V) (k + 16) l = (x k : EReal)) (r : Fin 8192) (l : Fin 512) :
    res_main_v82 V (ix3 0 r l) = (∑ k : Fin 128, at2 (pooled (aP V)) r.val (128 * (l.val / 128) + k.val) * at3 (aW V) (l.val / 128) k.val (l.val % 128) : EReal) := by
  have h79 := v79_at V hP
  have hl := l.isLt
  pointwise [res_main_v82, h79]
  refine Fintype.sum_congr (M := EReal) _ _ fun k => ?_
  rw [pooled_at2 _ _ _ r.isLt (by omega), at3, dif_pos (by omega), mul_comm]

/-- The host's sum over two leading axes of one entry each. -/
theorem only_one {m t : Shape} {dims : List (Fin m.rank)} (h : m.ReducesTo dims t) (v : m.Idx → EReal) (e : EReal) (j : t.Idx) (i0 : m.Idx)
    (h0 : h.drop i0 = j) (h1 : ∀ i, h.drop i = j → i = i0) : Ideal.hostReduceAdd h v e j = e + v i0 := by
  unfold Ideal.hostReduceAdd
  refine congrArg (e + ·) ?_
  refine Finset.sum_eq_single_of_mem i0 ?_ ?_
  · simp only [Finset.mem_filter, Finset.mem_univ, true_and]
    exact h0
  · intro i hi hne
    simp only [Finset.mem_filter, Finset.mem_univ, true_and] at hi
    exact absurd (h1 i hi) hne

/-- A sum over two leading unit axes is its only term. -/
theorem lead_units {n : ℕ} (h : (⟨3, ![1, 1, n]⟩ : Shape).ReducesTo [0, 1] ⟨1, ![n]⟩) (v : (⟨3, ![1, 1, n]⟩ : Shape).Idx → EReal) (e : EReal)
    (j : (⟨1, ![n]⟩ : Shape).Idx) : Ideal.hostReduceAdd h v e j = e + v (ix3 (0 : Fin 1) (0 : Fin 1) (j 0)) := by
  refine only_one h v e j _ ?_ ?_
  · funext b
    match b with
    | 0 => rfl
  · intro i hi
    have hj := congrFun hi 0
    funext a
    match a with
    | 0 => exact Subsingleton.elim (α := Fin 1) _ _
    | 1 => exact Subsingleton.elim (α := Fin 1) _ _
    | 2 => exact hj

/-- The gradient of the scale agrees. -/
theorem ds_eq (hP : ∀ l, ∃ x : ℕ → ℝ, ∀ k, Uz (aP V) (k + 16) l = (x k : EReal)) :
    (broadcastInDim S1x512 ![1] bcast_S512_S1x512_1 (Host.reduceAdd (shapeCast _ (Host.reduceAdd (mulf (res_main_v82 V) (res_main_v86 V)) (constant S_ .f32 0x00000000#32) reducesTo_S1x8192x512_S1x512_d1 h_S_) shapeCasts_S1x512_S1x1x512) (constant S_ .f32 0x00000000#32) reducesTo_S1x1x512_S512_d0_1 h_S_) : FVec Ideal S1x512 .f32) = ds (aA V) (pooled (aP V)) (aW V) := by
  funext i
  have h82 := v82_at V hP
  have h1 : (i 1).val < 512 := (i 1).isLt
  pointwise [ds, lead_units, h82, res_main_v86]
  refine Fintype.sum_congr (M := EReal) _ _ fun r => ?_
  have hr := r.isLt
  rw [at2, dif_pos (by omega), mul_comm]
  have e1 : (⟨128 * ((i 1).val / 128) + (i 1).val % 128, by omega⟩ : Fin 512) = i 1 := Fin.ext (show 128 * ((i 1).val / 128) + (i 1).val % 128 = (i 1).val by omega)
  rw [e1]

/-- A value below infinity in magnitude is a real number. -/
theorem real_of_abs (x : EReal) (h : max x (-x) < ⊤) : ∃ y : ℝ, x = (y : EReal) := by
  have h1 : x ≠ ⊤ := ne_of_lt (lt_of_le_of_lt (le_max_left _ _) h)
  have h2 : x ≠ ⊥ := fun e => by
    rw [e, EReal.neg_bot] at h
    exact absurd (lt_of_le_of_lt (le_max_right _ _) h) (lt_irrefl _)
  exact ⟨x.toReal, (EReal.coe_toReal h1 h2).symm⟩

/-- Where the cotangent, the scale and the matrices are finite, so is the gradient of the mean. -/
theorem q_real (A : FVec Ideal S8192x512 .f32) (S : FVec Ideal S1x512 .f32) (W : FVec Ideal S4x128x128 .f32)
    (hA : ∀ i, ∃ y : ℝ, A i = (y : EReal)) (hS : ∀ i, ∃ y : ℝ, S i = (y : EReal)) (hW : ∀ i, ∃ y : ℝ, W i = (y : EReal)) (l : ℕ) :
    ∃ q : ℕ → ℝ, ∀ k, qAt A S W k l = (q k : EReal) := by
  choose a ha using hA
  choose s hs using hS
  choose w hw using hW
  have r2 : ∀ {n m : ℕ} (X : (⟨2, ![n, m]⟩ : Shape).Idx → EReal) (x : (⟨2, ![n, m]⟩ : Shape).Idx → ℝ) (hx : ∀ i, X i = (x i : EReal)) (r c : ℕ),
      ∃ y : ℝ, at2 X r c = (y : EReal) := fun X x hx r c => by
    unfold at2
    split_ifs with h
    · exact ⟨_, hx _⟩
    · exact ⟨0, rfl⟩
  have r3 : ∀ g r c : ℕ, ∃ y : ℝ, at3 W g r c = (y : EReal) := fun g r c => by
    unfold at3
    split_ifs with h
    · exact ⟨_, hw _⟩
    · exact ⟨0, rfl⟩
  choose fa hfa using r2 A a ha
  choose fs hfs using r2 S s hs
  choose fw hfw using r3
  have hd : ∀ r g k, dp A S W r g k = ((∑ d : Fin 128, fa r (128 * g + d.val) * fs 0 (128 * g + d.val) * fw g k d.val : ℝ) : EReal) := fun r g k => by
    unfold dp
    simp only [hfa, hfs, hfw, ← EReal.coe_mul]
    exact coe_sum _ _
  refine ⟨fun k => if k < 8192 then (∑ d : Fin 128, fa k (128 * (l / 128) + d.val) * fs 0 (128 * (l / 128) + d.val) * fw (l / 128) (l % 128) d.val)
    * (1 / ((min (k + 1) (win l) : ℕ) : ℝ)) else 0, fun k => ?_⟩
  have hc : ((min (k + 1) (win l) : ℕ) : ℝ) ≠ 0 := by
    have h2 : 0 < win l := by unfold win; positivity
    exact Nat.cast_ne_zero.mpr (by omega)
  unfold qAt
  split_ifs with h
  · rw [hd, cnt, Ideal.div_coe hc, ← EReal.coe_mul]
    exact congrArg _ (if_pos h).symm
  · exact (congrArg (fun x : ℝ => (x : EReal)) (if_neg h)).symm

/-- Where the pool's columns are finite, its padded input is a row of reals. -/
theorem u_real (P : FVec Ideal S8192x6656 .bf16) (hP : ∀ (r : Fin 8192) (l : ℕ) (h : l < 512), ∃ y : ℝ, P (ix2 r ⟨4096 + l, by omega⟩) = (y : EReal)) (l : ℕ) :
    ∃ x : ℕ → ℝ, ∀ k, Uz P (k + 16) l = (x k : EReal) := by
  have h : ∀ k, ∃ y : ℝ, Uz P (k + 16) l = (y : EReal) := fun k => by
    unfold Uz
    split_ifs with h
    · exact hP _ _ h.2.2
    · exact ⟨0, rfl⟩
  choose x hx using h
  exact ⟨x, hx⟩

end Cert.PoolRef

end
-- ==== Proof.Pool.lean ====
/- The causal multi-scale pool's backward call: its three gradients against the transpose of the plain forward pass. -/
module

public import proofs.«01_k».proof.Proof.PoolRun
public import proofs.«01_k».proof.Proof.PoolRef
public import proofs.«01_k».proof.Proof.Gen.Pre_finite2
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PoolRef

open Cert.Reference2Ideal Cert.Reference2Ideal.Gen Cert.Reference2Ideal.Value Cert.PoolValue

/-- The word the predicate compares with is infinity. -/
theorem word_top : (Ideal.ofBits .f32 0x7F800000#32 : EReal) = ⊤ := by
  simp [Ideal.ofBits, Ideal.ieee]

/-- A comparison that came out true, as the order. -/
theorem below_top (x : EReal) (h : FloatOps.cmpf (F := Ideal) (φ := .f32) .olt x (Ideal.ofBits .f32 0x7F800000#32) = 1#1) : x < ⊤ := by
  rw [← word_top]
  by_contra hn
  simp [FloatOps.cmpf, Ideal.cmp, hn] at h

/-- What the finiteness precondition says: the cotangent, the pool's columns, the matrices and the scale are real. -/
theorem pre_real (A : FVec Ideal S8192x512 .f32) (P : FVec Ideal S8192x6656 .bf16) (W : FVec Ideal S1x4x128x128 .f32) (S : FVec Ideal S1x512 .f32)
    (h : (Cert.Pre_finite2.fn (F := Ideal) A P W S).1 = (fun _ => 1#1) ∧ (Cert.Pre_finite2.fn (F := Ideal) A P W S).2.1 = (fun _ => 1#1)
      ∧ (Cert.Pre_finite2.fn (F := Ideal) A P W S).2.2.1 = (fun _ => 1#1) ∧ (Cert.Pre_finite2.fn (F := Ideal) A P W S).2.2.2 = (fun _ => 1#1)) :
    (∀ i, ∃ y : ℝ, A i = (y : EReal)) ∧ (∀ l, ∃ x : ℕ → ℝ, ∀ k, Uz P (k + 16) l = (x k : EReal))
      ∧ (∀ i, ∃ y : ℝ, W i = (y : EReal)) ∧ (∀ i, ∃ y : ℝ, S i = (y : EReal)) := by
  obtain ⟨hA, hP, hW, hS⟩ := h
  refine ⟨fun i => real_of_abs _ ?_, u_real P fun r l hl => real_of_abs _ ?_, fun i => real_of_abs _ ?_, fun i => real_of_abs _ ?_⟩
  · exact below_top _ (congrFun hA i)
  · refine below_top _ (Eq.trans (congrArg (fun i => FloatOps.cmpf (F := Ideal) (φ := .f32) .olt (max (P i) (-(P i))) (Ideal.ofBits .f32 0x7F800000#32)) ?_)
      (congrFun hP (ix2 r ⟨l, hl⟩)))
    funext a
    match a with
    | 0 => exact Fin.ext (Nat.zero_add _).symm
    | 1 => exact Fin.ext rfl
  · exact below_top _ (congrFun hW i)
  · exact below_top _ (congrFun hS i)

end Cert.PoolRef

namespace Cert.Proof

open Cert.PoolRef Cert.PoolValue

/-- The pool's reference runs, leaves its arguments, and ends quiet. -/
theorem frameRef2 : Cert.quiescent_Reference2Ideal (hReference2Ideal := Cert.Reference2Ideal.Gen.facts) := by
  intro m g _
  exact (θ_run Cert.Reference2Ideal.defs _ _).mono
    (fun r h => ⟨fun c => (h c).2.2.2, sem_eq_zero_of_no_sems (by decide) r.2⟩)
    (Cert.Reference2Ideal.Value.run (F := Ideal) m g)

/-- The kernel's three gradients are those of the plain pool, where its arguments are finite. -/
theorem algebraic2 : Cert.algebraic_Kernel2Ideal_Reference2Ideal_pre_finite2
    (hKernel2Ideal := Cert.Kernel2Ideal.Gen.facts) (hReference2Ideal := Cert.Reference2Ideal.Gen.facts) (hPre_finite2 := Cert.Pre_finite2.Gen.facts) := by
  pair_intro
  · run_from Cert.PoolValue.run2 m g
  · run_from Cert.Reference2Ideal.Value.run m' g'
    all_goals
      have hA : aA (StableHlo.launchContents m' c) = m (c.tc.loc Kernel2Ideal.main_arg0) := (hagree c).1
      have hP : aP (StableHlo.launchContents m' c) = m (c.tc.loc Kernel2Ideal.main_arg1) := (hagree c).2.1
      have hW : aW (StableHlo.launchContents m' c) = stack (m (c.tc.loc Kernel2Ideal.main_arg2)) := congrArg stack (hagree c).2.2.1
      have hS : aS (StableHlo.launchContents m' c) = m (c.tc.loc Kernel2Ideal.main_arg3) := (hagree c).2.2.2
      obtain ⟨rA, rP, rW, rS⟩ := pre_real _ _ _ _ (hpre c)
      rw [← hA, ← hS] at *
    · rw [← hW]
      refine du_eq (StableHlo.launchContents m' c) (q_real _ _ _ rA rS ?_)
      rw [hW]
      exact fun i => rW _
    · rw [← hP] at rP ⊢
      exact dw_eq (StableHlo.launchContents m' c) rP
    · rw [← hW]
      rw [← hP] at rP ⊢
      exact ds_eq (StableHlo.launchContents m' c) rP

end Cert.Proof

end
-- ==== Proof.Post.lean ====
/-
# The head norm's backward call: the kernel's values
-/
module

public import proofs.«01_k».proof.Proof.Gen.Kernel3Ideal.Value
public import proofs.«01_k».proof.Proof.PoolB

@[expose] public section

set_option maxRecDepth 16384

noncomputable section

open Idealize.ShloMosaic Idealize.ShloMosaic.TcCoe Idealize.SL.Sem
open Idealize.ShloMosaic.Pipeline (Dat)
open Cert.PoolValue (at2)

namespace Cert.PostValue

open Cert.Kernel3Ideal Cert.Kernel3Ideal.Gen

variable (m : (ℓ : Loc nD τ sig) → Buf (Elt Ideal) ℓ)

/-- The mean over the head of column `l`. -/
def hm (f : ℕ → EReal) (l : ℕ) : EReal :=
  Ideal.div (∑ k : Fin 128, f (l / 128 * 128 + k.val)) (Ideal.ofBits .f32 0x43000000#32)

/-- The root mean square's reciprocal in row `r`, over the head of column `l`. -/
def rAt (X : ℕ → ℕ → EReal) (r l : ℕ) : EReal :=
  Ideal.rsqrt (hm (fun l => X r l * X r l) l + Ideal.ofBits .f32 0x358637BD#32)

/-- The logistic function as the kernel writes it. -/
def sg (x : EReal) : EReal :=
  Ideal.ofBits .f32 0x3F000000#32 * Ideal.tanh (Ideal.ofBits .f32 0x3F000000#32 * x) + Ideal.ofBits .f32 0x3F000000#32

/-- The incoming gradient through the gate and the norm's scale. -/
def dAt (D P : ℕ → ℕ → EReal) (G : ℕ → EReal) (r l : ℕ) : EReal := D r l * (P r l * sg (P r l)) * G l

/-- The gate's gradient. -/
def dogAt (D O P : ℕ → ℕ → EReal) (G : ℕ → EReal) (r l : ℕ) : EReal :=
  D r l * (O r l * rAt O r l) * G l * (sg (P r l) * (Ideal.ofBits .f32 0x3F800000#32 + P r l * (Ideal.ofBits .f32 0x3F800000#32 - sg (P r l))))

/-- The gradient of the norm's input. -/
def doAt (D O P : ℕ → ℕ → EReal) (G : ℕ → EReal) (r l : ℕ) : EReal :=
  rAt O r l * (dAt D P G r l - O r l * rAt O r l * hm (fun l => dAt D P G r l * (O r l * rAt O r l)) l)

/-- One row's part of the gradient of the norm's scale. -/
def dgAt (D O P : ℕ → ℕ → EReal) (r l : ℕ) : EReal :=
  D r l * (P r l * sg (P r l)) * (O r l * rAt O r l)

/-- The eight heads in turn. -/
theorem heads (S : ℕ → EReal) (n : ℕ) (hn : n < 1024) :
    (if n < 128 then S 0 else if n - 128 < 128 then S 128 else if n - 128 - 128 < 128 then S 256
      else if n - 128 - 128 - 128 < 128 then S 384 else if n - 128 - 128 - 128 - 128 < 128 then S 512
      else if n - 128 - 128 - 128 - 128 - 128 < 128 then S 640
      else if n - 128 - 128 - 128 - 128 - 128 - 128 < 128 then S 768 else S 896) = S (n / 128 * 128) := by
  split_ifs <;> exact congrArg S (by omega)

/-- A block read at numbers that lie in it. -/
theorem at2_of {n k : ℕ} (X : (⟨2, ![n, k]⟩ : Shape).Idx → EReal) (r : Fin n) (l : ℕ) (h : l < k) : at2 X r.val l = X (ix2 r ⟨l, h⟩) := by
  rw [at2, dif_pos ⟨r.isLt, h⟩]

/-- The reciprocal root mean squares of a block. -/
theorem pay14_at (X : FVec Ideal S512x1024 .bf16) (x0 : Fin 512) (x1 : Fin 1024) :
    (k0_pay14 (F := Ideal) (k0_pay8 X) (k0_pay9 X) (k0_pay10 X) (k0_pay11 X) (k0_pay12 X) (k0_pay13 X) (ix2 x0 x1) : EReal)
      = rAt (at2 X) x0.val x1.val := by
  rw [rAt, hm, ← heads (fun b => Ideal.div (∑ k : Fin 128, at2 X x0.val (b + k.val) * at2 X x0.val (b + k.val)) (Ideal.ofBits .f32 0x43000000#32)) x1.val x1.isLt]
  pointwise [k0_pay14, k0_pay8, k0_pay9, k0_pay10, k0_pay11, k0_pay12, k0_pay13, k0_pay6]
  refine congrArg (fun z => Ideal.rsqrt (z + _)) ?_
  split_ifs <;> refine congrArg (fun z => Ideal.div z _) (Fintype.sum_congr (M := EReal) _ _ fun k => ?_) <;>
    (rw [at2_of X x0 _ (by omega)]; try simp only [Nat.zero_add])

/-- The normalised block. -/
theorem pay15_at (X : FVec Ideal S512x1024 .bf16) (x0 : Fin 512) (x1 : Fin 1024) :
    (k0_pay15 (F := Ideal) (k0_pay6 X) (k0_pay8 X) (k0_pay9 X) (k0_pay10 X) (k0_pay11 X) (k0_pay12 X) (k0_pay13 X) (ix2 x0 x1) : EReal)
      = at2 X x0.val x1.val * rAt (at2 X) x0.val x1.val := by
  rw [at2_of X x0 _ x1.isLt, ← pay14_at]
  pointwise [k0_pay15, k0_pay6]

/-- The block's gate gradient. -/
theorem pay1_at (D X P : FVec Ideal S512x1024 .bf16) (G : FVec Ideal S1x1024 .f32) (x0 : Fin 512) (x1 : Fin 1024) :
    (k0_pay1 (F := Ideal) (k0_pay17 (k0_pay5 D) (k0_pay6 X) (k0_pay7 P) G (k0_pay8 X) (k0_pay9 X) (k0_pay10 X) (k0_pay11 X) (k0_pay12 X) (k0_pay13 X)) (ix2 x0 x1) : EReal)
      = dogAt (at2 D) (at2 X) (at2 P) (at2 G 0) x0.val x1.val := by
  rw [dogAt, at2_of D x0 _ x1.isLt, at2_of P x0 _ x1.isLt, ← pay15_at, show (0 : ℕ) = (0 : Fin 1).val from rfl, at2_of G 0 _ x1.isLt]
  pointwise [k0_pay1, k0_pay17, k0_pay16, k0_pay5, k0_pay7, sg]

/-- The block's gradient into the norm. -/
theorem pay19_at (D P : FVec Ideal S512x1024 .bf16) (G : FVec Ideal S1x1024 .f32) (x0 : Fin 512) (x1 : Fin 1024) :
    (k0_pay19 (F := Ideal) (k0_pay5 D) (k0_pay7 P) G (k0_pay16 (k0_pay7 P)) (ix2 x0 x1) : EReal)
      = dAt (at2 D) (at2 P) (at2 G 0) x0.val x1.val := by
  rw [dAt, at2_of D x0 _ x1.isLt, at2_of P x0 _ x1.isLt, show (0 : ℕ) = (0 : Fin 1).val from rfl, at2_of G 0 _ x1.isLt]
  pointwise [k0_pay19, k0_pay18, k0_pay16, k0_pay5, k0_pay7, sg]

/-- The product whose head means the gradient takes. -/
theorem pay20_at (D X P : FVec Ideal S512x1024 .bf16) (G : FVec Ideal S1x1024 .f32) (x0 : Fin 512) (x1 : Fin 1024) :
    (k0_pay20 (F := Ideal) (k0_pay5 D) (k0_pay7 P) G
      (k0_pay15 (k0_pay6 X) (k0_pay8 X) (k0_pay9 X) (k0_pay10 X) (k0_pay11 X) (k0_pay12 X) (k0_pay13 X)) (k0_pay16 (k0_pay7 P)) (ix2 x0 x1) : EReal)
      = dAt (at2 D) (at2 P) (at2 G 0) x0.val x1.val * (at2 X x0.val x1.val * rAt (at2 X) x0.val x1.val) := by
  rw [← pay19_at, ← pay15_at]
  pointwise [k0_pay20]

/-- The gradient of the norm's input from its parts. -/
theorem pay2_at (D P : FVec Ideal S512x1024 .bf16) (G : FVec Ideal S1x1024 .f32) (A B C : FVec Ideal S512x1024 .f32) (x0 : Fin 512) (x1 : Fin 1024) :
    (k0_pay2 (F := Ideal) A B C (k0_pay20 (k0_pay5 D) (k0_pay7 P) G B (k0_pay16 (k0_pay7 P)))
      (k0_pay21 (k0_pay5 D) (k0_pay7 P) G B (k0_pay16 (k0_pay7 P))) (k0_pay22 (k0_pay5 D) (k0_pay7 P) G B (k0_pay16 (k0_pay7 P)))
      (k0_pay23 (k0_pay5 D) (k0_pay7 P) G B (k0_pay16 (k0_pay7 P))) (k0_pay24 (k0_pay5 D) (k0_pay7 P) G B (k0_pay16 (k0_pay7 P)))
      (k0_pay25 (k0_pay5 D) (k0_pay7 P) G B (k0_pay16 (k0_pay7 P))) (k0_pay26 (k0_pay5 D) (k0_pay7 P) G B (k0_pay16 (k0_pay7 P)))
      (k0_pay27 (k0_pay5 D) (k0_pay7 P) G B (k0_pay16 (k0_pay7 P))) (ix2 x0 x1) : EReal)
      = A (ix2 x0 x1) * (C (ix2 x0 x1) - B (ix2 x0 x1) * hm (at2 (k0_pay20 (F := Ideal) (k0_pay5 D) (k0_pay7 P) G B (k0_pay16 (k0_pay7 P))) x0.val) x1.val) := by
  rw [hm, ← heads (fun b => Ideal.div (∑ k : Fin 128, at2 (k0_pay20 (F := Ideal) (k0_pay5 D) (k0_pay7 P) G B (k0_pay16 (k0_pay7 P))) x0.val (b + k.val)) (Ideal.ofBits .f32 0x43000000#32)) x1.val x1.isLt]
  pointwise [k0_pay2, k0_pay21, k0_pay22, k0_pay23, k0_pay24, k0_pay25, k0_pay26, k0_pay27]
  refine congrArg (fun z : EReal => (_ : EReal) * ((_ : EReal) - (_ : EReal) * z)) ?_
  split_ifs <;> refine congrArg (fun z => Ideal.div z _) (Fintype.sum_congr (M := EReal) _ _ fun k => ?_) <;>
    (rw [at2_of _ x0 _ (by omega)]; try simp only [Nat.zero_add])

/-- The normalised block, from the block. -/
abbrev normed (X : FVec Ideal S512x1024 .bf16) : FVec Ideal S512x1024 .f32 :=
  k0_pay15 (k0_pay6 X) (k0_pay8 X) (k0_pay9 X) (k0_pay10 X) (k0_pay11 X) (k0_pay12 X) (k0_pay13 X)

/-- The block's gradient of the norm's input. -/
theorem pay2_all (D X P : FVec Ideal S512x1024 .bf16) (G : FVec Ideal S1x1024 .f32) (x0 : Fin 512) (x1 : Fin 1024) :
    (k0_pay2 (F := Ideal) (k0_pay14 (k0_pay8 X) (k0_pay9 X) (k0_pay10 X) (k0_pay11 X) (k0_pay12 X) (k0_pay13 X)) (normed X)
      (k0_pay19 (k0_pay5 D) (k0_pay7 P) G (k0_pay16 (k0_pay7 P)))
      (k0_pay20 (k0_pay5 D) (k0_pay7 P) G (normed X) (k0_pay16 (k0_pay7 P)))
      (k0_pay21 (k0_pay5 D) (k0_pay7 P) G (normed X) (k0_pay16 (k0_pay7 P))) (k0_pay22 (k0_pay5 D) (k0_pay7 P) G (normed X) (k0_pay16 (k0_pay7 P)))
      (k0_pay23 (k0_pay5 D) (k0_pay7 P) G (normed X) (k0_pay16 (k0_pay7 P))) (k0_pay24 (k0_pay5 D) (k0_pay7 P) G (normed X) (k0_pay16 (k0_pay7 P)))
      (k0_pay25 (k0_pay5 D) (k0_pay7 P) G (normed X) (k0_pay16 (k0_pay7 P))) (k0_pay26 (k0_pay5 D) (k0_pay7 P) G (normed X) (k0_pay16 (k0_pay7 P)))
      (k0_pay27 (k0_pay5 D) (k0_pay7 P) G (normed X) (k0_pay16 (k0_pay7 P))) (ix2 x0 x1) : EReal)
      = doAt (at2 D) (at2 X) (at2 P) (at2 G 0) x0.val x1.val := by
  have hl := x1.isLt
  have e : hm (at2 (k0_pay20 (F := Ideal) (k0_pay5 D) (k0_pay7 P) G (normed X) (k0_pay16 (k0_pay7 P))) x0.val) x1.val
      = hm (fun l => dAt (at2 D) (at2 P) (at2 G 0) x0.val l * (at2 X x0.val l * rAt (at2 X) x0.val l)) x1.val :=
    congrArg (fun z => Ideal.div z _) (Fintype.sum_congr (M := EReal) _ _ fun k =>
      (at2_of _ x0 _ (by omega)).trans (pay20_at D X P G x0 ⟨x1.val / 128 * 128 + k.val, by omega⟩))
  refine (pay2_at _ _ _ _ _ _ _ _).trans ?_
  rw [e, normed, pay14_at, pay15_at, pay19_at, doAt]

/-- The accumulator after a block. -/
theorem pay4_at (D X P : FVec Ideal S512x1024 .bf16) (A : FVec Ideal S1x1024 .f32) (x0 : Fin 1) (x1 : Fin 1024) :
    (k0_pay4 (F := Ideal) (k0_pay15 (k0_pay6 X) (k0_pay8 X) (k0_pay9 X) (k0_pay10 X) (k0_pay11 X) (k0_pay12 X) (k0_pay13 X))
      (k0_pay18 (k0_pay5 D) (k0_pay7 P) (k0_pay16 (k0_pay7 P))) A (ix2 x0 x1) : EReal)
      = A (ix2 x0 x1) + ∑ k : Fin 512, dgAt (at2 D) (at2 X) (at2 P) k.val x1.val := by
  simp only [dgAt, at2_of D _ _ x1.isLt, at2_of P _ _ x1.isLt, ← pay15_at]
  pointwise [k0_pay4, k0_pay18, k0_pay16, k0_pay5, k0_pay7, sg]
/-- Which block each window shows at a grid point. -/
theorem idx : ∀ t : Fin cfg0.N, win0_0.index t = ![t.val, 0] ∧ win0_1.index t = ![t.val, 0] ∧ win0_2.index t = ![t.val, 3]
    ∧ win0_3.index t = ![0, 0] ∧ win0_4.index t = ![t.val, 0] ∧ win0_5.index t = ![t.val, 0] ∧ win0_6.index t = ![0, 0] :=
  (by decide +kernel : ∀ t : Fin grid0.N, _)

/-- The gate's rows: the columns of the projection from 3072 on. -/
def gate (P : FVec Ideal S8192x6656 .bf16) (r l : ℕ) : EReal := if l < 1024 then at2 P r (3072 + l) else 0

/-- A row of the incoming gradient's block. -/
theorem row0 (c : Dev nD) (t : Fin cfg0.N) (r : ℕ) (hr : r < 512) :
    at2 (n := 512) (m := 1024) (iblk m c 0 t) r = at2 (m (c.tc.loc main_arg0)) (512 * t.val + r) := by
  have ht : t.val < 16 := t.isLt
  funext l
  by_cases hl : l < 1024
  · rw [at2, at2, dif_pos ⟨hr, hl⟩, dif_pos ⟨by omega, hl⟩]
    blk_point [iblk, V, idx t]
  · rw [at2, at2, dif_neg (fun h => hl h.2), dif_neg (fun h => hl h.2)]

/-- A row of the norm's input's block. -/
theorem row1 (c : Dev nD) (t : Fin cfg0.N) (r : ℕ) (hr : r < 512) :
    at2 (n := 512) (m := 1024) (iblk m c 1 t) r = at2 (m (c.tc.loc main_arg1)) (512 * t.val + r) := by
  have ht : t.val < 16 := t.isLt
  funext l
  by_cases hl : l < 1024
  · rw [at2, at2, dif_pos ⟨hr, hl⟩, dif_pos ⟨by omega, hl⟩]
    blk_point [iblk, V, idx t]
  · rw [at2, at2, dif_neg (fun h => hl h.2), dif_neg (fun h => hl h.2)]

/-- A row of the gate's block. -/
theorem row2 (c : Dev nD) (t : Fin cfg0.N) (r : ℕ) (hr : r < 512) :
    at2 (n := 512) (m := 1024) (X0_2 m c t) r = gate (m (c.tc.loc main_arg2)) (512 * t.val + r) := by
  have ht : t.val < 16 := t.isLt
  funext l
  by_cases hl : l < 1024
  · rw [at2, gate, if_pos hl, at2, dif_pos ⟨hr, hl⟩, dif_pos ⟨by omega, by omega⟩, X0_2]
    unfold Pipeline.Window.fill
    rw [dif_pos (moved0_2 t _)]
    blk_point [iblk, V, idx t]
  · rw [at2, gate, dif_neg (fun h => hl h.2), if_neg hl]

/-- The norm's scale. -/
theorem row3 (c : Dev nD) (t : Fin cfg0.N) :
    at2 (n := 1) (m := 1024) (iblk m c 3 t) 0 = at2 (m (c.tc.loc main_arg3)) 0 := by
  funext l
  by_cases hl : l < 1024
  · rw [at2, at2, dif_pos ⟨Nat.one_pos, hl⟩, dif_pos ⟨Nat.one_pos, hl⟩]
    blk_point [iblk, V, idx t]
  · rw [at2, at2, dif_neg (fun h => hl h.2), dif_neg (fun h => hl h.2)]

/-- What the body leaves in the gate gradient's block. -/
theorem out4 (c : Dev nD) (t : Fin cfg0.N) (x0 : Fin 512) (x1 : Fin 1024) :
    ((outsAt0 m c t.val t.isLt).1 (ix2 x0 x1) : EReal)
      = dogAt (at2 (m (c.tc.loc main_arg0))) (at2 (m (c.tc.loc main_arg1))) (gate (m (c.tc.loc main_arg2))) (at2 (m (c.tc.loc main_arg3)) 0)
          (512 * t.val + x0.val) x1.val := by
  have h : ((outsAt0 m c t.val t.isLt).1 (ix2 x0 x1) : EReal)
      = dogAt (at2 (n := 512) (m := 1024) (iblk m c 0 t)) (at2 (n := 512) (m := 1024) (iblk m c 1 t)) (at2 (n := 512) (m := 1024) (X0_2 m c t))
          (at2 (n := 1) (m := 1024) (iblk m c 3 t) 0) x0.val x1.val := by
    by_cases h0 : t.val % 16 = 0
    · rw [outsAt0_A m c t h0]
      frame_out
      exact pay1_at _ _ _ _ _ _
    · rw [outsAt0_B m c t h0]
      frame_out
      exact pay1_at _ _ _ _ _ _
  rw [h]
  simp only [dogAt, rAt, hm, row0 m c t _ x0.isLt, row1 m c t _ x0.isLt, row2 m c t _ x0.isLt, row3]

/-- What the body leaves in the block of the gradient of the norm's input. -/
theorem out5 (c : Dev nD) (t : Fin cfg0.N) (x0 : Fin 512) (x1 : Fin 1024) :
    ((outsAt0 m c t.val t.isLt).2.1 (ix2 x0 x1) : EReal)
      = doAt (at2 (m (c.tc.loc main_arg0))) (at2 (m (c.tc.loc main_arg1))) (gate (m (c.tc.loc main_arg2))) (at2 (m (c.tc.loc main_arg3)) 0)
          (512 * t.val + x0.val) x1.val := by
  have h : ((outsAt0 m c t.val t.isLt).2.1 (ix2 x0 x1) : EReal)
      = doAt (at2 (n := 512) (m := 1024) (iblk m c 0 t)) (at2 (n := 512) (m := 1024) (iblk m c 1 t)) (at2 (n := 512) (m := 1024) (X0_2 m c t))
          (at2 (n := 1) (m := 1024) (iblk m c 3 t) 0) x0.val x1.val := by
    by_cases h0 : t.val % 16 = 0
    · rw [outsAt0_A m c t h0]
      dsimp only
      frame_out
      exact pay2_all _ _ _ _ _ _
    · rw [outsAt0_B m c t h0]
      dsimp only
      frame_out
      exact pay2_all _ _ _ _ _ _
  rw [h]
  simp only [doAt, dAt, rAt, hm, row0 m c t _ x0.isLt, row1 m c t _ x0.isLt, row2 m c t _ x0.isLt, row3]

/-- What a point adds to the accumulated gradient of the norm's scale. -/
theorem step6 (c : Dev nD) (t : Fin cfg0.N) (x0 : Fin 1) (x1 : Fin 1024) (A : EReal)
    (hc : (t.val % 16 = 0 ∧ A = 0) ∨ (¬ t.val % 16 = 0 ∧ A = (outsAt0 m c (t.val - 1) (Nat.lt_of_le_of_lt (Nat.sub_le _ _) t.isLt)).2.2 (ix2 x0 x1))) :
    ((outsAt0 m c t.val t.isLt).2.2 (ix2 x0 x1) : EReal)
      = A + ∑ k : Fin 512, dgAt (at2 (m (c.tc.loc main_arg0))) (at2 (m (c.tc.loc main_arg1))) (gate (m (c.tc.loc main_arg2))) (512 * t.val + k.val) x1.val := by
  have e : (∑ k : Fin 512, dgAt (at2 (n := 512) (m := 1024) (iblk m c 0 t)) (at2 (n := 512) (m := 1024) (iblk m c 1 t)) (at2 (n := 512) (m := 1024) (X0_2 m c t)) k.val x1.val : EReal)
      = ∑ k : Fin 512, dgAt (at2 (m (c.tc.loc main_arg0))) (at2 (m (c.tc.loc main_arg1))) (gate (m (c.tc.loc main_arg2))) (512 * t.val + k.val) x1.val :=
    Fintype.sum_congr (M := EReal) _ _ fun k => by
      simp only [dgAt, rAt, hm, row0 m c t _ k.isLt, row1 m c t _ k.isLt, row2 m c t _ k.isLt]
  rw [← e]
  rcases hc with ⟨h0, rfl⟩ | ⟨h0, rfl⟩
  · rw [outsAt0_A m c t h0]
    dsimp only
    frame_open
    simp (disch := decide) only [↓ View.readCov_skip, ↓ View.readCov_cons_toLoadRect, ↓ View.readCov_fill]
    frame_out
    refine (pay4_at (iblk m c 0 t) (iblk m c 1 t) (X0_2 m c t) _ x0 x1).trans ?_
    refine congrArg (· + _) ?_
    pointwise [k0_pay3]
  · rw [outsAt0_B m c t h0]
    dsimp only
    frame_out
    exact pay4_at (iblk m c 0 t) (iblk m c 1 t) (X0_2 m c t) _ x0 x1

/-- The gate's gradient as the kernel leaves it. -/
theorem final4 (c : Dev nD) : ((dats m 0 c).arrAt 4 cfg0.N : S8192x1024.Idx → Elt Ideal _)
    = fun i => dogAt (at2 (m (c.tc.loc main_arg0))) (at2 (m (c.tc.loc main_arg1))) (gate (m (c.tc.loc main_arg2))) (at2 (m (c.tc.loc main_arg3)) 0) (i 0).val (i 1).val := by
  refine (dats m 0 c).arrAt_eq_of_covers 4 _ (by decide +kernel) fun t _ y => ?_
  blk_simp
  rw [after0_4]
  refine (congrArg (outsAt0 m c t.val t.isLt).1 (eq_ix2 y)).trans ((out4 m c t (y 0) (y 1)).trans ?_)
  refine congrArg₂ (dogAt _ _ _ _) ?_ ?_
  · blk_point [idx t]
    exact Nat.mul_comm _ _
  · blk_point [idx t]

/-- The gradient of the norm's input as the kernel leaves it. -/
theorem final5 (c : Dev nD) : ((dats m 0 c).arrAt 5 cfg0.N : S8192x1024.Idx → Elt Ideal _)
    = fun i => doAt (at2 (m (c.tc.loc main_arg0))) (at2 (m (c.tc.loc main_arg1))) (gate (m (c.tc.loc main_arg2))) (at2 (m (c.tc.loc main_arg3)) 0) (i 0).val (i 1).val := by
  refine (dats m 0 c).arrAt_eq_of_covers 5 _ (by decide +kernel) fun t _ y => ?_
  blk_simp
  rw [after0_5]
  refine (congrArg (outsAt0 m c t.val t.isLt).2.1 (eq_ix2 y)).trans ((out5 m c t (y 0) (y 1)).trans ?_)
  refine congrArg₂ (doAt _ _ _ _) ?_ ?_
  · blk_point [idx t]
    exact Nat.mul_comm _ _
  · blk_point [idx t]

/-- The same at an index. -/
theorem step6' (c : Dev nD) (t : Fin cfg0.N) (y : S1x1024.Idx) (A : EReal)
    (hc : (t.val % 16 = 0 ∧ A = 0) ∨ (¬ t.val % 16 = 0 ∧ A = (outsAt0 m c (t.val - 1) (Nat.lt_of_le_of_lt (Nat.sub_le _ _) t.isLt)).2.2 y)) :
    ((outsAt0 m c t.val t.isLt).2.2 y : EReal)
      = A + ∑ k : Fin 512, dgAt (at2 (m (c.tc.loc main_arg0))) (at2 (m (c.tc.loc main_arg1))) (gate (m (c.tc.loc main_arg2))) (512 * t.val + k.val) (y 1).val := by
  have h := step6 m c t (y 0) (y 1) A
  rw [ix2_eta] at h
  exact h hc

/-- The sixteen blocks of 512 rows make the 8192 rows. -/
theorem sum_blocks (f : ℕ → EReal) : ∑ p : Fin 16, ∑ r : Fin 512, f (512 * p.val + r.val) = ∑ r : Fin 8192, f r.val := by
  have h := Fin.sum_univ_univ_mul_add 16 512 f
  simp only [Nat.mul_comm _ 512] at h
  exact h

/-- The last grid point. -/
abbrev t0_15 : Fin cfg0.N := ⟨15, by decide +kernel⟩

/-- The gradient of the norm's scale as the kernel leaves it. -/
theorem final6 (c : Dev nD) : ((dats m 0 c).arrAt 6 cfg0.N : S1x1024.Idx → Elt Ideal _)
    = fun i => ∑ r : Fin 8192, dgAt (at2 (m (c.tc.loc main_arg0))) (at2 (m (c.tc.loc main_arg1))) (gate (m (c.tc.loc main_arg2))) r.val (i 1).val := by
  refine (dats m 0 c).arrAt_eq_of_after_last 6 t0_15 (by decide +kernel) _ fun j => ?_
  rw [after0_6, Pipeline.eq_sum_fin_of_reset_step_apply_last (fun n h => (outsAt0 m c n h).2.2) 16 (fun _ => 0)
    (fun t j => ∑ k : Fin 512, dgAt (at2 (m (c.tc.loc main_arg0))) (at2 (m (c.tc.loc main_arg1))) (gate (m (c.tc.loc main_arg2))) (512 * t.val + k.val) (j 1).val)
    (fun t h y => step6' m c t y 0 (.inl ⟨h, rfl⟩)) (fun t h y => step6' m c t y _ (.inr ⟨h, rfl⟩)) (le_of_eq N_0) t0_15 rfl]
  rw [zero_add]
  exact sum_blocks fun r => dgAt (at2 (m (c.tc.loc main_arg0))) (at2 (m (c.tc.loc main_arg1))) (gate (m (c.tc.loc main_arg2))) r (j 1).val

end Cert.PostValue
end
-- ==== Proof.NormMath.lean ====
/-
# Norms backward over the reals

What the norm kernels share: words read as reals, a matrix of reals read at two numbers, and the one identity that
turns a norm's backward formula into the transpose of the plain norm.
-/
module

public import proofs.«01_k».proof.Proof.PoolB
public import proofs.«01_k».proof.Proof.PoolRef

@[expose] public section

set_option maxRecDepth 16384

noncomputable section

open Idealize.ShloMosaic Idealize.ShloMosaic.TcCoe Idealize.SL.Sem
open Cert.PoolValue (at2)

namespace Cert.NormMath

/-- The small term under the root is a positive real. -/
theorem eps_word : ∃ e : ℝ, 0 < e ∧ Ideal.ofBits .f32 0x358637BD#32 = (e : EReal) := by
  have e1 : (0x358637BD#32).extractLsb' 31 1 = 0#1 := by decide
  have e2 : ((0x358637BD#32).extractLsb' 23 8).toNat = 107 := by decide
  have e3 : ((0x358637BD#32).extractLsb' 0 23).toNat = 407485 := by decide
  simp only [Ideal.ofBits, Ideal.ieee, e1, e2, e3]
  norm_num

/-- The word of minus one half. -/
theorem neg_half_word : Ideal.ofBits .f32 0xBF000000#32 = ((-(1 / 2) : ℝ) : EReal) := by
  have e1 : (0xBF000000#32).extractLsb' 31 1 = 1#1 := by decide
  have e2 : ((0xBF000000#32).extractLsb' 23 8).toNat = 126 := by decide
  have e3 : ((0xBF000000#32).extractLsb' 0 23).toNat = 0 := by decide
  simp only [Ideal.ofBits, Ideal.ieee, e1, e2, e3]
  norm_num

/-- The word of 128. -/
theorem word_128 : Ideal.ofBits .f32 0x43000000#32 = ((128 : ℝ) : EReal) := by
  have e1 : (0x43000000#32).extractLsb' 31 1 = 0#1 := by decide
  have e2 : ((0x43000000#32).extractLsb' 23 8).toNat = 134 := by decide
  have e3 : ((0x43000000#32).extractLsb' 0 23).toNat = 0 := by decide
  simp only [Ideal.ofBits, Ideal.ieee, e1, e2, e3]
  norm_num

/-- The word of 1024. -/
theorem word_1024 : Ideal.ofBits .f32 0x44800000#32 = ((1024 : ℝ) : EReal) := by
  have e1 : (0x44800000#32).extractLsb' 31 1 = 0#1 := by decide
  have e2 : ((0x44800000#32).extractLsb' 23 8).toNat = 137 := by decide
  have e3 : ((0x44800000#32).extractLsb' 0 23).toNat = 0 := by decide
  simp only [Ideal.ofBits, Ideal.ieee, e1, e2, e3]
  norm_num

/-- The word of one. -/
theorem word_1 : Ideal.ofBits .f32 0x3F800000#32 = ((1 : ℝ) : EReal) :=
  Ideal.ofBits_one_f32.trans EReal.coe_one.symm

/-- A matrix of reals, read at two numbers. -/
theorem at2_real {n k : ℕ} (X : (⟨2, ![n, k]⟩ : Shape).Idx → EReal) (h : ∀ i, ∃ y : ℝ, X i = (y : EReal)) :
    ∃ x : ℕ → ℕ → ℝ, ∀ r l, at2 X r l = (x r l : EReal) := by
  choose y hy using h
  refine ⟨fun r l => if h : r < n ∧ l < k then y (ix2 ⟨r, h.1⟩ ⟨l, h.2⟩) else 0, fun r l => ?_⟩
  dsimp only
  unfold at2
  split_ifs with hh
  · exact hy _
  · exact EReal.coe_zero.symm

/-- The reciprocal root of a mean of squares plus a positive term is real, and squares to the reciprocal. -/
theorem rsqrt_mean {ι : Type} [Fintype ι] (x : ι → ℝ) (n e : ℝ) (hn : 0 < n) (he : 0 < e) :
    ∃ ρ μ : ℝ, μ ≠ 0 ∧ ρ * ρ * μ = 1
      ∧ Ideal.div (∑ k, (x k : EReal) * (x k : EReal)) (n : EReal) + (e : EReal) = (μ : EReal)
      ∧ Ideal.rsqrt (Ideal.div (∑ k, (x k : EReal) * (x k : EReal)) (n : EReal) + (e : EReal)) = (ρ : EReal) := by
  have hs : (0 : ℝ) ≤ ∑ k, x k * x k := Finset.sum_nonneg fun k _ => mul_self_nonneg _
  have hm : 0 < (∑ k, x k * x k) * (1 / n) + e := by positivity
  have e1 : Ideal.div (∑ k, (x k : EReal) * (x k : EReal)) (n : EReal) + (e : EReal) = (((∑ k, x k * x k) * (1 / n) + e : ℝ) : EReal) := by
    rw [Ideal.div_coe hn.ne']
    simp only [← EReal.coe_mul]
    rw [PoolMath.coe_sum, ← EReal.coe_mul, ← EReal.coe_add]
  refine ⟨(Real.sqrt ((∑ k, x k * x k) * (1 / n) + e))⁻¹, _, hm.ne', ?_, e1, ?_⟩
  · rw [← mul_inv, Real.mul_self_sqrt hm.le, inv_mul_cancel₀ hm.ne']
  · rw [e1, Ideal.rsqrt_coe, if_neg (not_lt.mpr hm.le), if_neg hm.ne']

/-- The norm's backward formula against the transpose of the plain norm. -/
theorem norm_back {ι : Type} [Fintype ι] (x d : ι → ℝ) (xl dl ρ μ n : ℝ) (hn : n ≠ 0) (hμ : μ ≠ 0) (h : ρ * ρ * μ = 1) :
    (ρ : EReal) * ((dl : EReal) - (xl : EReal) * (ρ : EReal) * Ideal.div (∑ k, (d k : EReal) * ((x k : EReal) * (ρ : EReal))) (n : EReal))
      = (dl : EReal) * (ρ : EReal)
        + (xl : EReal) * Ideal.div ((∑ k, (x k : EReal) * (d k : EReal)) * (((-(1 / 2) : ℝ) : EReal) * Ideal.div (ρ : EReal) (μ : EReal))) (n : EReal)
        + Ideal.div ((∑ k, (x k : EReal) * (d k : EReal)) * (((-(1 / 2) : ℝ) : EReal) * Ideal.div (ρ : EReal) (μ : EReal))) (n : EReal) * (xl : EReal) := by
  simp only [Ideal.div_coe hn, Ideal.div_coe hμ, ← EReal.coe_mul, PoolMath.coe_sum, ← EReal.coe_sub, ← EReal.coe_add]
  have e : ∑ k, d k * (x k * ρ) = (∑ k, x k * d k) * ρ := by
    rw [Finset.sum_mul]; exact Finset.sum_congr rfl fun k _ => by ring
  rw [e]
  generalize (∑ k, x k * d k) = S
  refine congrArg _ ?_
  have hm : 1 / μ = ρ * ρ := by field_simp; linarith
  rw [hm]
  ring

end Cert.NormMath
end
-- ==== Proof.PostEq.lean ====
/-
# The head norm's backward call: the reference's values, and the two sides' agreement
-/
module

public import proofs.«01_k».proof.Proof.Post
public import proofs.«01_k».proof.Proof.Pool
public import proofs.«01_k».proof.Proof.NormMath
public import proofs.«01_k».proof.Proof.Sigmoid
public import proofs.«01_k».proof.Proof.Gen.Reference3Ideal.Run
public import proofs.«01_k».proof.Proof.Gen.Pre_finite3
public import proofs.«01_k».proof.Defs

@[expose] public section

set_option maxRecDepth 16384

noncomputable section

open Idealize.ShloMosaic Idealize.ShloMosaic.TcCoe Idealize.SL.Sem
open Cert.PoolValue (at2)

namespace Cert.PostRef

open Cert.Reference3Ideal Cert.Reference3Ideal.Gen Cert.Reference3Ideal.Value Cert.PostValue

/-- Intermediate value 4 of the reference. -/
def v4 (a1 : FVec Ideal S8192x1024 .bf16) : FVec Ideal S8192x8x128 .f32 :=
  shapeCast _ (extf .f32 a1 bitsLt_bf16_f32) shapeCasts_S8192x1024_S8192x8x128

/-- Intermediate value 12 of the reference. -/
def v12 (a1 : FVec Ideal S8192x1024 .bf16) : FVec Ideal S8192x8x1 .f32 :=
  Host.rsqrt (addf (Host.divf (broadcastInDim S8192x8x1 ![0, 1] bcast_S8192x8_S8192x8x1_0_1 (Host.reduceAdd (mulf (v4 a1) (v4 a1)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))

/-- Intermediate value 15 of the reference. -/
def v15 (a1 : FVec Ideal S8192x1024 .bf16) : FVec Ideal S8192x8x1 .f32 :=
  mulf (broadcastInDim S8192x8x1 ![] bcast_S_S8192x8x1 (constant S_ .f32 0xBF000000#32)) (Host.divf (v12 a1) (addf (Host.divf (broadcastInDim S8192x8x1 ![0, 1] bcast_S8192x8_S8192x8x1_0_1 (Host.reduceAdd (mulf (v4 a1) (v4 a1)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32))))

/-- Intermediate value 18 of the reference. -/
def v18 (a3 : FVec Ideal S1x1024 .f32) : FVec Ideal S8x128 .f32 :=
  shapeCast _ a3 shapeCasts_S1x1024_S8x128

/-- Intermediate value 22 of the reference. -/
def v22 (a2 : FVec Ideal S8192x6656 .bf16) : FVec Ideal S8192x8x128 .f32 :=
  shapeCast _ (extractStridedSlice S8192x1024 ![0, 3072] (extf .f32 a2 bitsLt_bf16_f32) slices_S8192x6656_S8192x1024_0_3072) shapeCasts_S8192x1024_S8192x8x128

/-- Intermediate value 23_2 of the reference. -/
def v23_2 (a2 : FVec Ideal S8192x6656 .bf16) : FVec Ideal S8192x8x128 .f32 :=
  Host.divf ((broadcastInDim S8192x8x128 ![] bcast_S_S8192x8x128) (constant S_ .f32 0x3F800000#32)) (addf ((broadcastInDim S8192x8x128 ![] bcast_S_S8192x8x128) (constant S_ .f32 0x3F800000#32)) (Host.exp (Host.negf (v22 a2))))

/-- Intermediate value 28 of the reference. -/
def v28 (a0 : FVec Ideal S8192x1024 .bf16) (a2 : FVec Ideal S8192x6656 .bf16) : FVec Ideal S8192x8x128 .f32 :=
  mulf (shapeCast _ (extf .f32 a0 bitsLt_bf16_f32) shapeCasts_S8192x1024_S8192x8x128) (mulf (v22 a2) (v23_2 a2))

/-- Intermediate value 35 of the reference. -/
def v35 (a0 : FVec Ideal S8192x1024 .bf16) (a2 : FVec Ideal S8192x6656 .bf16) (a3 : FVec Ideal S1x1024 .f32) : FVec Ideal S8192x8x128 .f32 :=
  mulf (v28 a0 a2) (broadcastInDim S8192x8x128 ![0, 1, 2] bcast_S1x8x128_S8192x8x128_0_1_2 (broadcastInDim S1x8x128 ![1, 2] bcast_S8x128_S1x8x128_1_2 (v18 a3)))

/-- Intermediate value 37 of the reference. -/
def v37 (a0 : FVec Ideal S8192x1024 .bf16) (a1 : FVec Ideal S8192x1024 .bf16) (a2 : FVec Ideal S8192x6656 .bf16) : FVec Ideal S1x1024 .f32 :=
  shapeCast _ (Host.reduceAdd (shapeCast _ (Host.reduceAdd (mulf (mulf (v4 a1) (broadcastInDim S8192x8x128 ![0, 1, 2] bcast_S8192x8x1_S8192x8x128_0_1_2 (v12 a1))) (v28 a0 a2)) (constant S_ .f32 0x00000000#32) reducesTo_S8192x8x128_S8x128_d0 h_S_) shapeCasts_S8x128_S1x8x128) (constant S_ .f32 0x00000000#32) reducesTo_S1x8x128_S8x128_d0 h_S_) shapeCasts_S8x128_S1x1024

/-- Intermediate value 40 of the reference. -/
def v40 (a0 : FVec Ideal S8192x1024 .bf16) (a1 : FVec Ideal S8192x1024 .bf16) (a2 : FVec Ideal S8192x6656 .bf16) (a3 : FVec Ideal S1x1024 .f32) : FVec Ideal S8192x8x1 .f32 :=
  shapeCast _ (Host.reduceAdd (mulf (v4 a1) (v35 a0 a2 a3)) (constant S_ .f32 0x00000000#32) reducesTo_S8192x8x128_S8192x8_d2 h_S_) shapeCasts_S8192x8_S8192x8x1

/-- Intermediate value 46 of the reference. -/
def v46 (a0 : FVec Ideal S8192x1024 .bf16) (a1 : FVec Ideal S8192x1024 .bf16) (a2 : FVec Ideal S8192x6656 .bf16) (a3 : FVec Ideal S1x1024 .f32) : FVec Ideal S8192x8 .f32 :=
  Host.reduceAdd (Host.divf (mulf (v40 a0 a1 a2 a3) (v15 a1)) (broadcastInDim S8192x8x1 ![] bcast_S_S8192x8x1 (constant S_ .f32 0x43000000#32))) (constant S_ .f32 0x00000000#32) reducesTo_S8192x8x1_S8192x8_d2 h_S_

/-- Intermediate value 53 of the reference. -/
def v53 (a0 : FVec Ideal S8192x1024 .bf16) (a1 : FVec Ideal S8192x1024 .bf16) (a2 : FVec Ideal S8192x6656 .bf16) (a3 : FVec Ideal S1x1024 .f32) : FVec Ideal S8192x1024 .bf16 :=
  truncf .bf16 (shapeCast _ (addf (mulf (mulf (mulf (mulf (v4 a1) (broadcastInDim S8192x8x128 ![0, 1, 2] bcast_S8192x8x1_S8192x8x128_0_1_2 (v12 a1))) (broadcastInDim S8192x8x128 ![0, 1, 2] bcast_S1x8x128_S8192x8x128_0_1_2 (broadcastInDim S1x8x128 ![1, 2] bcast_S8x128_S1x8x128_1_2 (v18 a3)))) (shapeCast _ (extf .f32 a0 bitsLt_bf16_f32) shapeCasts_S8192x1024_S8192x8x128)) (v23_2 a2)) (mulf (mulf (v22 a2) (mulf (mulf (mulf (v4 a1) (broadcastInDim S8192x8x128 ![0, 1, 2] bcast_S8192x8x1_S8192x8x128_0_1_2 (v12 a1))) (broadcastInDim S8192x8x128 ![0, 1, 2] bcast_S1x8x128_S8192x8x128_0_1_2 (broadcastInDim S1x8x128 ![1, 2] bcast_S8x128_S1x8x128_1_2 (v18 a3)))) (shapeCast _ (extf .f32 a0 bitsLt_bf16_f32) shapeCasts_S8192x1024_S8192x8x128))) (mulf (v23_2 a2) (subf ((broadcastInDim S8192x8x128 ![] bcast_S_S8192x8x128) (constant S_ .f32 0x3F800000#32)) (v23_2 a2))))) shapeCasts_S8192x8x128_S8192x1024) bitsLt_bf16_f32

/-- Intermediate value 54 of the reference. -/
def v54 (a0 : FVec Ideal S8192x1024 .bf16) (a1 : FVec Ideal S8192x1024 .bf16) (a2 : FVec Ideal S8192x6656 .bf16) (a3 : FVec Ideal S1x1024 .f32) : FVec Ideal S8192x1024 .bf16 :=
  truncf .bf16 (shapeCast _ (addf (addf (mulf (v35 a0 a2 a3) (broadcastInDim S8192x8x128 ![0, 1, 2] bcast_S8192x8x1_S8192x8x128_0_1_2 (v12 a1))) (mulf (v4 a1) (broadcastInDim S8192x8x128 ![0, 1] bcast_S8192x8_S8192x8x128_0_1 (v46 a0 a1 a2 a3)))) (mulf (broadcastInDim S8192x8x128 ![0, 1] bcast_S8192x8_S8192x8x128_0_1 (v46 a0 a1 a2 a3)) (v4 a1))) shapeCasts_S8192x8x128_S8192x1024) bitsLt_bf16_f32

/-- The norm's input, head by head. -/
theorem v4_at (a1 : FVec Ideal S8192x1024 .bf16) (r : Fin 8192) (h : Fin 8) (k : Fin 128) :
    (v4 a1 (ix3 r h k) : EReal) = at2 a1 r.val (h.val * 128 + k.val) := by
  rw [at2_of a1 r _ (by omega)]
  pointwise [v4]

/-- The gate, head by head. -/
theorem v22_at (a2 : FVec Ideal S8192x6656 .bf16) (r : Fin 8192) (h : Fin 8) (k : Fin 128) :
    (v22 a2 (ix3 r h k) : EReal) = gate a2 r.val (h.val * 128 + k.val) := by
  rw [gate, if_pos (by omega), at2_of a2 r _ (by omega)]
  pointwise [v22]

/-- The gate's logistic. -/
theorem v23_at (a2 : FVec Ideal S8192x6656 .bf16) (r : Fin 8192) (h : Fin 8) (k : Fin 128) :
    (v23_2 a2 (ix3 r h k) : EReal) = sg (gate a2 r.val (h.val * 128 + k.val)) := by
  rw [sg, Cert.Math.sigmoid_eq, ← v22_at, ← Ideal.ofBits_one_f32]
  pointwise [v23_2]

/-- The reciprocal root mean square of a head. -/
theorem v12_at (a1 : FVec Ideal S8192x1024 .bf16) (r : Fin 8192) (h : Fin 8) (z : Fin 1) :
    (v12 a1 (ix3 r h z) : EReal) = Ideal.rsqrt (Ideal.div (∑ k : Fin 128, at2 a1 r.val (h.val * 128 + k.val) * at2 a1 r.val (h.val * 128 + k.val)) (Ideal.ofBits .f32 0x43000000#32) + Ideal.ofBits .f32 0x358637BD#32) := by
  simp only [← v4_at]
  pointwise [v12]

/-- The derivative of that reciprocal. -/
theorem v15_at (a1 : FVec Ideal S8192x1024 .bf16) (r : Fin 8192) (h : Fin 8) (z : Fin 1) :
    (v15 a1 (ix3 r h z) : EReal) = Ideal.ofBits .f32 0xBF000000#32 * Ideal.div (v12 a1 (ix3 r h z))
      (Ideal.div (∑ k : Fin 128, at2 a1 r.val (h.val * 128 + k.val) * at2 a1 r.val (h.val * 128 + k.val)) (Ideal.ofBits .f32 0x43000000#32) + Ideal.ofBits .f32 0x358637BD#32) := by
  simp only [← v4_at]
  pointwise [v15]

/-- The gradient through the gate. -/
theorem v28_at (a0 : FVec Ideal S8192x1024 .bf16) (a2 : FVec Ideal S8192x6656 .bf16) (r : Fin 8192) (h : Fin 8) (k : Fin 128) :
    (v28 a0 a2 (ix3 r h k) : EReal) = at2 a0 r.val (h.val * 128 + k.val) * (gate a2 r.val (h.val * 128 + k.val) * sg (gate a2 r.val (h.val * 128 + k.val))) := by
  rw [at2_of a0 r _ (by omega), ← v23_at, ← v22_at]
  pointwise [v28]

/-- The gradient through the gate and the scale. -/
theorem v35_at (a0 : FVec Ideal S8192x1024 .bf16) (a2 : FVec Ideal S8192x6656 .bf16) (a3 : FVec Ideal S1x1024 .f32) (r : Fin 8192) (h : Fin 8) (k : Fin 128) :
    (v35 a0 a2 a3 (ix3 r h k) : EReal) = dAt (at2 a0) (gate a2) (at2 a3 0) r.val (h.val * 128 + k.val) := by
  rw [dAt, ← v28_at, show (0 : ℕ) = (0 : Fin 1).val from rfl, at2_of a3 0 _ (by omega)]
  pointwise [v35, v18]

/-- The reference's correction term of a head. -/
theorem v46_at (a0 a1 : FVec Ideal S8192x1024 .bf16) (a2 : FVec Ideal S8192x6656 .bf16) (a3 : FVec Ideal S1x1024 .f32) (r : Fin 8192) (h : Fin 8) :
    (v46 a0 a1 a2 a3 (ix2 r h) : EReal)
      = Ideal.div ((∑ k : Fin 128, at2 a1 r.val (h.val * 128 + k.val) * dAt (at2 a0) (gate a2) (at2 a3 0) r.val (h.val * 128 + k.val)) * v15 a1 (ix3 r h 0))
          (Ideal.ofBits .f32 0x43000000#32) := by
  simp only [← v4_at, ← v35_at]
  pointwise [v46, v40]
  rw [Fin.sum_univ_one]

/-- The reference's gradient of the norm's input. -/
theorem v54_at (a0 a1 : FVec Ideal S8192x1024 .bf16) (a2 : FVec Ideal S8192x6656 .bf16) (a3 : FVec Ideal S1x1024 .f32) (r : Fin 8192) (l : Fin 1024) :
    (v54 a0 a1 a2 a3 (ix2 r l) : EReal)
      = dAt (at2 a0) (gate a2) (at2 a3 0) r.val l.val * v12 a1 (ix3 r (⟨l.val / 128, by omega⟩ : Fin 8) 0) + at2 a1 r.val l.val * v46 a0 a1 a2 a3 (ix2 r (⟨l.val / 128, by omega⟩ : Fin 8))
        + v46 a0 a1 a2 a3 (ix2 r (⟨l.val / 128, by omega⟩ : Fin 8)) * at2 a1 r.val l.val := by
  pointwise [v54, v35_at, v4_at]
  simp only [Nat.div_add_mod']

/-- The reference's gate gradient. -/
theorem v53_at (a0 a1 : FVec Ideal S8192x1024 .bf16) (a2 : FVec Ideal S8192x6656 .bf16) (a3 : FVec Ideal S1x1024 .f32) (r : Fin 8192) (l : Fin 1024) :
    (v53 a0 a1 a2 a3 (ix2 r l) : EReal)
      = at2 a1 r.val l.val * v12 a1 (ix3 r (⟨l.val / 128, by omega⟩ : Fin 8) 0) * at2 a3 0 l.val * at2 a0 r.val l.val * sg (gate a2 r.val l.val)
        + gate a2 r.val l.val * (at2 a1 r.val l.val * v12 a1 (ix3 r (⟨l.val / 128, by omega⟩ : Fin 8) 0) * at2 a3 0 l.val * at2 a0 r.val l.val)
          * (sg (gate a2 r.val l.val) * (Ideal.ofBits .f32 0x3F800000#32 - sg (gate a2 r.val l.val))) := by
  rw [at2_of a0 r _ l.isLt, show at2 a3 0 l.val = a3 (ix2 0 l) from at2_of a3 0 _ l.isLt]
  pointwise [v53, v18, v23_at, v4_at, v22_at]
  simp only [Nat.div_add_mod']

/-- The reference's gradient of the norm's scale. -/
theorem v37_at (a0 a1 : FVec Ideal S8192x1024 .bf16) (a2 : FVec Ideal S8192x6656 .bf16) (z : Fin 1) (l : Fin 1024) :
    (v37 a0 a1 a2 (ix2 z l) : EReal)
      = ∑ r : Fin 8192, at2 a1 r.val l.val * v12 a1 (ix3 r (⟨l.val / 128, by omega⟩ : Fin 8) 0) * (at2 a0 r.val l.val * (gate a2 r.val l.val * sg (gate a2 r.val l.val))) := by
  pointwise [v37, v28_at, v4_at]
  simp only [Nat.div_add_mod']
  rw [Fin.sum_univ_one]

/-- A head's columns share their reciprocal. -/
theorem rAt_head (X : ℕ → ℕ → EReal) (r l : ℕ) (k : Fin 128) : rAt X r (l / 128 * 128 + k.val) = rAt X r l := by
  rw [rAt, rAt, hm, hm, show (l / 128 * 128 + k.val) / 128 = l / 128 by omega]

/-- The logistic of a real is real. -/
theorem sg_real (x : ℝ) : ∃ s : ℝ, sg (x : EReal) = (s : EReal) := by
  rw [sg, Cert.Math.half_f32, ← EReal.coe_mul, Ideal.tanh_coe, ← EReal.coe_mul, ← EReal.coe_add]
  exact ⟨_, rfl⟩

/-- The gradient entering the norm is real. -/
theorem d_real (D P : ℕ → ℕ → EReal) (G : ℕ → EReal) (d p : ℕ → ℕ → ℝ) (g : ℕ → ℝ) (hD : ∀ r l, D r l = (d r l : EReal))
    (hP : ∀ r l, P r l = (p r l : EReal)) (hG : ∀ l, G l = (g l : EReal)) : ∃ δ : ℕ → ℕ → ℝ, ∀ r l, dAt D P G r l = (δ r l : EReal) := by
  choose s hs using sg_real
  refine ⟨fun r l => d r l * (p r l * s (p r l)) * g l, fun r l => ?_⟩
  simp only [dAt, hD, hP, hG, hs, ← EReal.coe_mul]

/-- The gradient of the norm's input: the kernel's is the reference's. -/
theorem do_eq (a0 a1 : FVec Ideal S8192x1024 .bf16) (a2 : FVec Ideal S8192x6656 .bf16) (a3 : FVec Ideal S1x1024 .f32)
    (h1 : ∃ o : ℕ → ℕ → ℝ, ∀ r l, at2 a1 r l = (o r l : EReal))
    (hd : ∃ δ : ℕ → ℕ → ℝ, ∀ r l, dAt (at2 a0) (gate a2) (at2 a3 0) r l = (δ r l : EReal)) (r : Fin 8192) (l : Fin 1024) :
    (v54 a0 a1 a2 a3 (ix2 r l) : EReal) = doAt (at2 a0) (at2 a1) (gate a2) (at2 a3 0) r.val l.val := by
  obtain ⟨o, ho⟩ := h1
  obtain ⟨δ, hδ⟩ := hd
  obtain ⟨e, he, hw⟩ := NormMath.eps_word
  obtain ⟨ρ, μ, hμ, hρ, e1, e2⟩ := NormMath.rsqrt_mean (fun k : Fin 128 => o r.val (l.val / 128 * 128 + k.val)) 128 e (by norm_num) he
  have hr : rAt (at2 a1) r.val l.val = (ρ : EReal) := by simp only [rAt, hm, ho, hw, NormMath.word_128]; exact e2
  have hc : (v12 a1 (ix3 r (⟨l.val / 128, by omega⟩ : Fin 8) 0) : EReal) = (ρ : EReal) := by
    rw [v12_at]; exact hr
  rw [v54_at, v46_at, v15_at, hc, doAt, hr, hm]
  simp only [ho, hδ, rAt_head, hr, hw, NormMath.word_128, e1, NormMath.neg_half_word]
  exact (NormMath.norm_back _ _ _ _ ρ μ 128 (by norm_num) hμ hρ).symm

/-- The gate's gradient: the kernel's is the reference's. -/
theorem dog_eq (a0 a1 : FVec Ideal S8192x1024 .bf16) (a2 : FVec Ideal S8192x6656 .bf16) (a3 : FVec Ideal S1x1024 .f32)
    (h0 : ∃ o : ℕ → ℕ → ℝ, ∀ r l, at2 a0 r l = (o r l : EReal)) (h1 : ∃ o : ℕ → ℕ → ℝ, ∀ r l, at2 a1 r l = (o r l : EReal))
    (h2 : ∃ o : ℕ → ℕ → ℝ, ∀ r l, gate a2 r l = (o r l : EReal)) (h3 : ∃ o : ℕ → ℕ → ℝ, ∀ r l, at2 a3 r l = (o r l : EReal))
    (r : Fin 8192) (l : Fin 1024) :
    (v53 a0 a1 a2 a3 (ix2 r l) : EReal) = dogAt (at2 a0) (at2 a1) (gate a2) (at2 a3 0) r.val l.val := by
  obtain ⟨d, hd⟩ := h0
  obtain ⟨o, ho⟩ := h1
  obtain ⟨p, hp⟩ := h2
  obtain ⟨g, hg⟩ := h3
  obtain ⟨s, hs⟩ := sg_real (p r.val l.val)
  obtain ⟨e, he, hw⟩ := NormMath.eps_word
  obtain ⟨ρ, μ, hμ, hρ, e1, e2⟩ := NormMath.rsqrt_mean (fun k : Fin 128 => o r.val (l.val / 128 * 128 + k.val)) 128 e (by norm_num) he
  have hr : rAt (at2 a1) r.val l.val = (ρ : EReal) := by simp only [rAt, hm, ho, hw, NormMath.word_128]; exact e2
  have hc : (v12 a1 (ix3 r (⟨l.val / 128, by omega⟩ : Fin 8) 0) : EReal) = (ρ : EReal) := by
    rw [v12_at]; exact hr
  rw [v53_at, hc, dogAt, hr, hd, ho, hp, hg, hs, NormMath.word_1]
  simp only [← EReal.coe_mul, ← EReal.coe_add, ← EReal.coe_sub]
  refine congrArg _ ?_
  ring

/-- The gradient of the norm's scale: the kernel's is the reference's. -/
theorem dg_eq (a0 a1 : FVec Ideal S8192x1024 .bf16) (a2 : FVec Ideal S8192x6656 .bf16) (z : Fin 1) (l : Fin 1024) :
    (v37 a0 a1 a2 (ix2 z l) : EReal) = ∑ r : Fin 8192, dgAt (at2 a0) (at2 a1) (gate a2) r.val l.val := by
  rw [v37_at]
  refine Fintype.sum_congr (M := EReal) _ _ fun r => ?_
  rw [dgAt, v12_at, mul_comm]
  rfl

/-- What the finiteness precondition says: the cotangent, the norm's input, the gate's columns and the scale are real. -/
theorem pre_real (a0 a1 : FVec Ideal S8192x1024 .bf16) (a2 : FVec Ideal S8192x6656 .bf16) (a3 : FVec Ideal S1x1024 .f32)
    (h : (Cert.Pre_finite3.fn (F := Ideal) a0 a1 a2 a3).1 = (fun _ => 1#1) ∧ (Cert.Pre_finite3.fn (F := Ideal) a0 a1 a2 a3).2.1 = (fun _ => 1#1)
      ∧ (Cert.Pre_finite3.fn (F := Ideal) a0 a1 a2 a3).2.2.1 = (fun _ => 1#1) ∧ (Cert.Pre_finite3.fn (F := Ideal) a0 a1 a2 a3).2.2.2 = (fun _ => 1#1)) :
    (∃ o : ℕ → ℕ → ℝ, ∀ r l, at2 a0 r l = (o r l : EReal)) ∧ (∃ o : ℕ → ℕ → ℝ, ∀ r l, at2 a1 r l = (o r l : EReal))
      ∧ (∃ o : ℕ → ℕ → ℝ, ∀ r l, gate a2 r l = (o r l : EReal)) ∧ (∃ o : ℕ → ℕ → ℝ, ∀ r l, at2 a3 r l = (o r l : EReal)) := by
  obtain ⟨hA, hO, hP, hG⟩ := h
  refine ⟨NormMath.at2_real _ fun i => Cert.PoolRef.real_of_abs _ (Cert.PoolRef.below_top _ (congrFun hA i)),
    NormMath.at2_real _ fun i => Cert.PoolRef.real_of_abs _ (Cert.PoolRef.below_top _ (congrFun hO i)), ?_,
    NormMath.at2_real _ fun i => Cert.PoolRef.real_of_abs _ (Cert.PoolRef.below_top _ (congrFun hG i))⟩
  have hr : ∀ r l, ∃ y : ℝ, gate a2 r l = (y : EReal) := by
    intro r l
    by_cases hh : r < 8192 ∧ l < 1024
    · rw [gate, if_pos hh.2, at2, dif_pos ⟨hh.1, by omega⟩]
      refine Cert.PoolRef.real_of_abs _ (Cert.PoolRef.below_top _ (Eq.trans (congrArg (fun i => FloatOps.cmpf (F := Ideal) (φ := .f32) .olt (max (a2 i) (-(a2 i))) (Ideal.ofBits .f32 0x7F800000#32)) ?_)
        (congrFun hP (ix2 ⟨r, hh.1⟩ ⟨l, hh.2⟩))))
      funext a
      match a with
      | 0 => exact Fin.ext (Nat.zero_add _).symm
      | 1 => exact Fin.ext rfl
    · refine ⟨0, ?_⟩
      unfold gate at2
      split_ifs with h1 h2
      · exact absurd ⟨h2.1, h1⟩ hh
      · rfl
      · rfl
  choose y hy using hr
  exact ⟨y, hy⟩

end Cert.PostRef

namespace Cert.Proof

open Cert.PostRef Cert.PostValue

/-- The head norm's reference runs, leaves its arguments, and ends quiet. -/
theorem frameRef3 : Cert.quiescent_Reference3Ideal (hReference3Ideal := Cert.Reference3Ideal.Gen.facts) := by
  intro m g _
  exact (θ_run Cert.Reference3Ideal.defs _ _).mono
    (fun r h => ⟨fun c => (h c).2.2.2, sem_eq_zero_of_no_sems (by decide) r.2⟩)
    (Cert.Reference3Ideal.Value.run (F := Ideal) m g)

/-- From finite arguments the head norm's backward call returns what the transpose of the plain forward pass returns. -/
theorem algebraic3 : Cert.algebraic_Kernel3Ideal_Reference3Ideal_pre_finite3
    (hKernel3Ideal := Cert.Kernel3Ideal.Gen.facts) (hReference3Ideal := Cert.Reference3Ideal.Gen.facts) (hPre_finite3 := Cert.Pre_finite3.Gen.facts) := by
  pair_intro
  · run_from Cert.Kernel3Ideal.Gen.run_main m g
  · run_from Cert.Reference3Ideal.Value.run m' g'
    all_goals
      have h0 := (hagree c).1
      have h1 := (hagree c).2.1
      have h2 := (hagree c).2.2.1
      have h3 := (hagree c).2.2.2
      obtain ⟨r0, r1, r2, r3⟩ := pre_real _ _ _ _ (hpre c)
      rw [← h0] at r0
      rw [← h1] at r1
      rw [← h2] at r2
      rw [← h3] at r3
    · refine Eq.trans ?_ (final4 m c).symm
      rw [← h0, ← h1, ← h2, ← h3]
      funext i
      rw [eq_ix2 i]
      exact dog_eq _ _ _ _ r0 r1 r2 r3 (i 0) (i 1)
    · refine Eq.trans ?_ (final5 m c).symm
      rw [← h0, ← h1, ← h2, ← h3]
      funext i
      rw [eq_ix2 i]
      obtain ⟨d, hd⟩ := r0
      obtain ⟨p, hp⟩ := r2
      obtain ⟨g, hg⟩ := r3
      exact do_eq _ _ _ _ r1 (d_real _ _ _ d p (g 0) hd hp fun l => hg 0 l) (i 0) (i 1)
    · refine Eq.trans ?_ (final6 m c).symm
      rw [← h0, ← h1, ← h2]
      funext i
      rw [eq_ix2 i]
      exact dg_eq _ _ _ (i 0) (i 1)

end Cert.Proof
end
-- ==== Proof.RmsNorm.lean ====
/-
# The RMS norms' backward: both sides' common form

The three calls that carry a gradient through a plain product into an RMS norm share everything but the product:
`rW` is a row's reciprocal root mean square, `dxA` the gradient of the norm's input with the residual's gradient added,
`dgA` a row's part of the scale's gradient. The reference's side is stated here once, over the gradient `H` leaving the product.
-/
module

public import proofs.«01_k».proof.Proof.Pool
public import proofs.«01_k».proof.Proof.NormMath
public import proofs.«01_k».proof.Proof.Gen.Reference5Ideal.Run

@[expose] public section

set_option maxRecDepth 16384

noncomputable section

open Idealize.ShloMosaic Idealize.ShloMosaic.TcCoe Idealize.SL.Sem
open Cert.PoolValue (at2)

namespace Cert.RmsNorm

open Cert.Reference5Ideal Cert.Reference5Ideal.Gen

/-- The mean over a row of 1024. -/
def rm (f : ℕ → EReal) : EReal := Ideal.div (∑ k : Fin 1024, f k.val) (Ideal.ofBits .f32 0x44800000#32)

/-- The root mean square's reciprocal of row `r`. -/
def rW (X : ℕ → ℕ → EReal) (r : ℕ) : EReal := Ideal.rsqrt (rm (fun l => X r l * X r l) + Ideal.ofBits .f32 0x358637BD#32)

/-- The gradient of the norm's input, the residual's gradient added. -/
def dxA (H X E : ℕ → ℕ → EReal) (G : ℕ → EReal) (r l : ℕ) : EReal :=
  E r l + rW X r * (H r l * G l - X r l * rW X r * rm (fun l => H r l * G l * (X r l * rW X r)))

/-- One row's part of the gradient of the norm's scale. -/
def dgA (H X : ℕ → ℕ → EReal) (r l : ℕ) : EReal := H r l * (X r l * rW X r)

/-- A matrix read at numbers that lie in it. -/
theorem at2_of {n k : ℕ} (X : (⟨2, ![n, k]⟩ : Shape).Idx → EReal) (r : Fin n) (l : Fin k) : at2 X r.val l.val = X (ix2 r l) := by
  rw [at2, dif_pos ⟨r.isLt, l.isLt⟩]

/-- The reference's mean square plus the small term. -/
def refMs (X : FVec Ideal S8192x1024 .f32) : FVec Ideal S8192x1 .f32 :=
  addf (Host.divf (broadcastInDim S8192x1 ![0] bcast_S8192_S8192x1_0 (Host.reduceAdd (mulf X X) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The scale, broadcast over the rows. -/
def refG (G : FVec Ideal S1x1024 .f32) : FVec Ideal S8192x1024 .f32 :=
  broadcastInDim S8192x1024 ![0, 1] bcast_S1x1024_S8192x1024_0_1 (broadcastInDim S1x1024 ![1] bcast_S1024_S1x1024_1 (shapeCast _ G shapeCasts_S1x1024_S1024))

/-- The reference's correction of a row. -/
def refM (H X : FVec Ideal S8192x1024 .f32) (G : FVec Ideal S1x1024 .f32) : FVec Ideal S8192 .f32 :=
  Host.reduceAdd (Host.divf (mulf (shapeCast _ (Host.reduceAdd (mulf X (mulf H (refG G))) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (refMs X)) (refMs X))))
    (broadcastInDim S8192x1 ![] bcast_S_S8192x1 (constant S_ .f32 0x44800000#32))) (constant S_ .f32 0x00000000#32) reducesTo_S8192x1_S8192_d1 h_S_

/-- The reference's gradient of the norm's input. -/
def refDx (H X E : FVec Ideal S8192x1024 .f32) (G : FVec Ideal S1x1024 .f32) : FVec Ideal S8192x1024 .f32 :=
  addf (addf (addf E (mulf (mulf H (refG G)) (broadcastInDim S8192x1024 ![0, 1] bcast_S8192x1_S8192x1024_0_1 (Host.rsqrt (refMs X)))))
    (mulf X (broadcastInDim S8192x1024 ![0] bcast_S8192_S8192x1024_0 (refM H X G)))) (mulf (broadcastInDim S8192x1024 ![0] bcast_S8192_S8192x1024_0 (refM H X G)) X)

/-- The reference's gradient of the norm's scale. -/
def refDg (H X : FVec Ideal S8192x1024 .f32) : FVec Ideal S1x1024 .f32 :=
  broadcastInDim S1x1024 ![1] bcast_S1024_S1x1024_1 (Host.reduceAdd (shapeCast _ (Host.reduceAdd (mulf (mulf X (broadcastInDim S8192x1024 ![0, 1] bcast_S8192x1_S8192x1024_0_1 (Host.rsqrt (refMs X)))) H)
    (constant S_ .f32 0x00000000#32) reducesTo_S8192x1024_S1024_d0 h_S_) shapeCasts_S1024_S1x1024) (constant S_ .f32 0x00000000#32) reducesTo_S1x1024_S1024_d0 h_S_)

/-- That mean square, read at a row. -/
theorem refMs_at (X : FVec Ideal S8192x1024 .f32) (r : Fin 8192) (z : Fin 1) :
    (refMs X (ix2 r z) : EReal) = rm (fun l => at2 X r.val l * at2 X r.val l) + Ideal.ofBits .f32 0x358637BD#32 := by
  simp only [rm, at2_of]
  pointwise [refMs]

/-- The scale, read. -/
theorem refG_at (G : FVec Ideal S1x1024 .f32) (r : Fin 8192) (l : Fin 1024) : (refG G (ix2 r l) : EReal) = at2 G 0 l.val := by
  rw [show at2 G 0 l.val = G (ix2 0 l) from at2_of G 0 l]
  pointwise [refG]

/-- The correction of a row, read. -/
theorem refM_at (H X : FVec Ideal S8192x1024 .f32) (G : FVec Ideal S1x1024 .f32) (r : Fin 8192) :
    (refM H X G (ix1 r) : EReal) = Ideal.div ((∑ k : Fin 1024, at2 X r.val k.val * (at2 H r.val k.val * at2 G 0 k.val))
      * (Ideal.ofBits .f32 0xBF000000#32 * Ideal.div (rW (at2 X) r.val) (rm (fun l => at2 X r.val l * at2 X r.val l) + Ideal.ofBits .f32 0x358637BD#32)))
        (Ideal.ofBits .f32 0x44800000#32) := by
  simp only [← refG_at G r, at2_of, rW, ← refMs_at X r 0]
  pointwise [refM]
  rw [Fin.sum_univ_one]

/-- The gradient of the norm's input: the reference's is the kernel's form, over reals. -/
theorem refDx_at (H X E : FVec Ideal S8192x1024 .f32) (G : FVec Ideal S1x1024 .f32)
    (hH : ∃ o : ℕ → ℕ → ℝ, ∀ r l, at2 H r l = (o r l : EReal)) (hX : ∃ o : ℕ → ℕ → ℝ, ∀ r l, at2 X r l = (o r l : EReal))
    (hG : ∃ o : ℕ → ℕ → ℝ, ∀ r l, at2 G r l = (o r l : EReal)) (r : Fin 8192) (l : Fin 1024) :
    (refDx H X E G (ix2 r l) : EReal) = dxA (at2 H) (at2 X) (at2 E) (at2 G 0) r.val l.val := by
  obtain ⟨h, hh⟩ := hH
  obtain ⟨x, hx⟩ := hX
  obtain ⟨g, hg⟩ := hG
  obtain ⟨e, he, hw⟩ := NormMath.eps_word
  obtain ⟨ρ, μ, hμ, hρ, e1, e2⟩ := NormMath.rsqrt_mean (fun k : Fin 1024 => x r.val k.val) 1024 e (by norm_num) he
  have hr : rW (at2 X) r.val = (ρ : EReal) := by simp only [rW, rm, hx, hw, NormMath.word_1024]; exact e2
  have hs : (refDx H X E G (ix2 r l) : EReal) = at2 E r.val l.val + at2 H r.val l.val * at2 G 0 l.val * rW (at2 X) r.val
      + at2 X r.val l.val * refM H X G (ix1 r) + refM H X G (ix1 r) * at2 X r.val l.val := by
    rw [rW, ← refMs_at X r 0, ← refG_at G r, at2_of, at2_of, at2_of]
    pointwise [refDx]
  rw [hs, refM_at, dxA, hr, rm, rm]
  simp only [hh, hx, hg, ← EReal.coe_mul (h _ _), hw, NormMath.word_1024, e1, NormMath.neg_half_word]
  rw [add_assoc (at2 E r.val l.val), add_assoc (at2 E r.val l.val)]
  exact congrArg _ (NormMath.norm_back _ (fun k : Fin 1024 => h r.val k.val * g 0 k.val) _ _ ρ μ 1024 (by norm_num) hμ hρ).symm

/-- The gradient of the norm's scale: the reference's is the kernel's form. -/
theorem refDg_at (H X : FVec Ideal S8192x1024 .f32) (z : Fin 1) (l : Fin 1024) :
    (refDg H X (ix2 z l) : EReal) = ∑ r : Fin 8192, dgA (at2 H) (at2 X) r.val l.val := by
  simp only [dgA, rW, ← refMs_at X _ 0, at2_of]
  pointwise [refDg]
  rw [Fin.sum_univ_one]
  exact Fintype.sum_congr (M := EReal) _ _ fun r => mul_comm _ _

/-- Sums of products of reals are real. -/
theorem dot_real (A B : ℕ → ℕ → EReal) (n : ℕ) (hA : ∃ o : ℕ → ℕ → ℝ, ∀ r l, A r l = (o r l : EReal))
    (hB : ∃ o : ℕ → ℕ → ℝ, ∀ r l, B r l = (o r l : EReal)) :
    ∃ o : ℕ → ℕ → ℝ, ∀ r l, ∑ k : Fin n, A r k.val * B l k.val = (o r l : EReal) := by
  obtain ⟨a, ha⟩ := hA
  obtain ⟨b, hb⟩ := hB
  refine ⟨fun r l => ∑ k : Fin n, a r k.val * b l k.val, fun r l => ?_⟩
  simp only [ha, hb, ← EReal.coe_mul]
  exact PoolMath.coe_sum _ _

/-- A row of a block that starts at row `o` of the matrix. -/
theorem row_of {n b k : ℕ} (A : (⟨2, ![n, k]⟩ : Shape).Idx → EReal) (B : (⟨2, ![b, k]⟩ : Shape).Idx → EReal) (o r : ℕ) (hr : r < b) (ho : o + b ≤ n)
    (h : ∀ (x0 : Fin b) (x1 : Fin k), B (ix2 x0 x1) = A (ix2 ⟨o + x0.val, by omega⟩ x1)) : at2 B r = at2 A (o + r) := by
  funext l
  by_cases hl : l < k
  · rw [at2, at2, dif_pos ⟨hr, hl⟩, dif_pos ⟨by omega, hl⟩]
    exact h ⟨r, hr⟩ ⟨l, hl⟩
  · rw [at2, at2, dif_neg (fun h => hl h.2), dif_neg (fun h => hl h.2)]

/-- A row of the reference's gradient of the norm's input, from any reading `K` of the gradient that enters the norm. -/
theorem dx_eq (H X E : FVec Ideal S8192x1024 .f32) (G : FVec Ideal S1x1024 .f32) (K : ℕ → ℕ → EReal)
    (hK : ∀ (r : Fin 8192) (l : Fin 1024), (H (ix2 r l) : EReal) = K r.val l.val) (hR : ∃ o : ℕ → ℕ → ℝ, ∀ r l, K r l = (o r l : EReal))
    (hX : ∃ o : ℕ → ℕ → ℝ, ∀ r l, at2 X r l = (o r l : EReal)) (hG : ∃ o : ℕ → ℕ → ℝ, ∀ r l, at2 G r l = (o r l : EReal)) :
    refDx H X E G = fun i => dxA K (at2 X) (at2 E) (at2 G 0) (i 0).val (i 1).val := by
  have hH : ∀ (r : Fin 8192) (l : Fin 1024), at2 H r.val l.val = K r.val l.val := fun r l => (at2_of H r l).trans (hK r l)
  funext i
  refine (congrArg (refDx H X E G) (eq_ix2 i)).trans ((refDx_at H X E G (NormMath.at2_real _ fun j => ?_) hX hG (i 0) (i 1)).trans ?_)
  · obtain ⟨o, ho⟩ := hR
    exact ⟨o (j 0).val (j 1).val, (congrArg H (eq_ix2 j)).trans ((hK _ _).trans (ho _ _))⟩
  · have e : at2 H (i 0).val (i 1).val = K (i 0).val (i 1).val := hH (i 0) (i 1)
    have f : ∀ k : Fin 1024, at2 H (i 0).val k.val = K (i 0).val k.val := hH (i 0)
    simp only [dxA, rm, e, f]

/-- The reference's gradient of the norm's scale, from any such reading. -/
theorem dg_eq (H X : FVec Ideal S8192x1024 .f32) (K : ℕ → ℕ → EReal) (hK : ∀ (r : Fin 8192) (l : Fin 1024), (H (ix2 r l) : EReal) = K r.val l.val) :
    refDg H X = fun i => ∑ r : Fin 8192, dgA K (at2 X) r.val (i 1).val := by
  funext i
  refine (congrArg (refDg H X) (eq_ix2 i)).trans ((refDg_at H X (i 0) (i 1)).trans ?_)
  refine Fintype.sum_congr (M := EReal) _ _ fun r => ?_
  have e : at2 H r.val (i 1).val = K r.val (i 1).val := (at2_of H r (i 1)).trans (hK r (i 1))
  simp only [dgA, e]

/-- Half an array, rounded to the narrow format. -/
def refHalf (D : FVec Ideal S8192x1024 .f32) : FVec Ideal S8192x1024 .bf16 :=
  truncf .bf16 (mulf (broadcastInDim S8192x1024 ![] bcast_S_S8192x1024 (constant S_ .f32 0x3F000000#32)) D) bitsLt_bf16_f32

/-- That half, read. -/
theorem refHalf_at (D : FVec Ideal S8192x1024 .f32) (i : S8192x1024.Idx) : (refHalf D i : EReal) = D i * Ideal.ofBits .f32 0x3F000000#32 := by
  obtain ⟨x0, x1, rfl⟩ : ∃ (x0 : Fin 8192) (x1 : Fin 1024), i = ix2 x0 x1 := ⟨i 0, i 1, eq_ix2 i⟩
  refine Eq.trans ?_ (mul_comm _ _)
  pointwise [refHalf]

/-- A matrix that is the transpose of another one, read. -/
theorem at2_flip {n k : ℕ} (A : (⟨2, ![n, k]⟩ : Shape).Idx → EReal) (B : (⟨2, ![k, n]⟩ : Shape).Idx → EReal)
    (h : ∀ (x0 : Fin n) (x1 : Fin k), B (ix2 x1 x0) = A (ix2 x0 x1)) : (fun r l => at2 B l r) = at2 A := by
  funext r l
  by_cases hr : r < n
  · by_cases hl : l < k
    · rw [at2, at2, dif_pos ⟨hl, hr⟩, dif_pos ⟨hr, hl⟩]
      exact h ⟨r, hr⟩ ⟨l, hl⟩
    · rw [at2, at2, dif_neg (fun h => hl h.1), dif_neg (fun h => hl h.2)]
  · rw [at2, at2, dif_neg (fun h => hr h.2), dif_neg (fun h => hr h.1)]

/-- A sum of two real functions is real. -/
theorem add_real (A B : ℕ → ℕ → EReal) (hA : ∃ o : ℕ → ℕ → ℝ, ∀ r l, A r l = (o r l : EReal))
    (hB : ∃ o : ℕ → ℕ → ℝ, ∀ r l, B r l = (o r l : EReal)) : ∃ o : ℕ → ℕ → ℝ, ∀ r l, A r l + B r l = (o r l : EReal) := by
  obtain ⟨a, ha⟩ := hA
  obtain ⟨b, hb⟩ := hB
  exact ⟨fun r l => a r l + b r l, fun r l => by rw [ha, hb, EReal.coe_add]⟩

/-- A copy in the narrow format, read. -/
theorem copy_at (D : FVec Ideal S8192x1024 .f32) (i : S8192x1024.Idx) : (truncf (F := Ideal) .bf16 D bitsLt_bf16_f32 i : EReal) = D i := rfl

/-- A sum over sixteen blocks of 512 rows. -/
theorem sum_blocks16 (f : ℕ → EReal) : ∑ p : Fin 16, ∑ r : Fin 512, f (512 * p.val + r.val) = ∑ r : Fin 8192, f r.val := by
  have h := Fin.sum_univ_univ_mul_add 16 512 f
  simp only [Nat.mul_comm _ 512] at h
  exact h

end Cert.RmsNorm
end
-- ==== Proof.Ple.lean ====
/-
# The per-layer embedding's backward with the head's loss: the kernel's values
-/
module

public import proofs.«01_k».proof.Proof.Gen.Kernel4Ideal.Frame
public import proofs.«01_k».proof.Proof.RmsNorm

@[expose] public section

set_option maxRecDepth 16384

noncomputable section

open Idealize.ShloMosaic Idealize.ShloMosaic.TcCoe Idealize.SL.Sem
open Idealize.ShloMosaic.Pipeline (Dat)
open Cert.PoolValue (at2)
open Cert.RmsNorm (rm at2_of row_of sum_blocks16)

namespace Cert.PleValue

/-- A row's reciprocal root mean square. -/
def nrm (x : ℕ → EReal) : EReal := Ideal.rsqrt (rm (fun l => x l * x l) + Ideal.ofBits .f32 0x358637BD#32)

/-- The gradient of a row's plain norm, from the gradient `h` of the normed row. -/
def back (x h : ℕ → EReal) (l : ℕ) : EReal := nrm x * (h l - x l * nrm x * rm (fun l => h l * (x l * nrm x)))

/-- The gate. -/
def gate (a : EReal) : EReal := Ideal.ofBits .f32 0x3F000000#32 * Ideal.tanh (Ideal.ofBits .f32 0x3F000000#32 * a) + Ideal.ofBits .f32 0x3F000000#32

/-- The residual stream after the embedding. -/
def x4 (X P Z p : ℕ → EReal) (l : ℕ) : EReal := X l + gate (P l) * (Z l * nrm Z * p l)

/-- The prediction's error. -/
def err (x T f : ℕ → EReal) (l : ℕ) : EReal := x l * nrm x * f l - T l

/-- The loss's gradient at the head. -/
def dhead (x T f : ℕ → EReal) (l : ℕ) : EReal := err x T f l * Ideal.ofBits .f32 0x3A800000#32

/-- The gradient of the residual stream. -/
def dx (x T f : ℕ → EReal) (l : ℕ) : EReal := back x (fun l => dhead x T f l * f l) l

/-- The gradient of the normed embedding times its scale. -/
def dpn (x T f P : ℕ → EReal) (l : ℕ) : EReal := dx x T f l * gate (P l)

/-- The gradient of the gate's input. -/
def dpre (x T f P Z p : ℕ → EReal) (l : ℕ) : EReal :=
  dx x T f l * (Z l * nrm Z * p l) * gate (P l) * (Ideal.ofBits .f32 0x3F800000#32 - gate (P l))

/-- The gradient of the embedding before its norm. -/
def dz (x T f P Z p : ℕ → EReal) (l : ℕ) : EReal := back Z (fun l => dpn x T f P l * p l) l

open Cert.Kernel4Ideal Cert.Kernel4Ideal.Gen

variable (m : (ℓ : Loc nD τ sig) → Buf (Elt Ideal) ℓ)

/-- The residual stream's row of a block. -/
abbrev xB (X : FVec Ideal S512x1024 .f32) (P Z : FVec Ideal S512x1024 .bf16) (p : FVec Ideal S1x1024 .f32) (r : ℕ) : ℕ → EReal :=
  x4 (at2 X r) (at2 P r) (at2 Z r) (at2 p 0)

theorem pay11_at (P : FVec Ideal S512x1024 .bf16) (x0 : Fin 512) (x1 : Fin 1024) :
    (k0_pay11 (F := Ideal) P (ix2 x0 x1) : EReal) = gate (at2 P x0.val x1.val) := by
  simp only [gate, at2_of]
  pointwise [k0_pay11]

theorem pay12_at (Z : FVec Ideal S512x1024 .bf16) (x0 : Fin 512) (z : Fin 1) : (k0_pay12 (F := Ideal) Z (ix2 x0 z) : EReal) = nrm (at2 Z x0.val) := by
  simp only [nrm, rm, at2_of]
  pointwise [k0_pay12, k0_pay9]

theorem pay13_at (Z : FVec Ideal S512x1024 .bf16) (x0 : Fin 512) (x1 : Fin 1024) :
    (k0_pay13 (F := Ideal) Z (ix2 x0 x1) : EReal) = at2 Z x0.val x1.val * nrm (at2 Z x0.val) := by
  simp only [← pay12_at Z x0 0, at2_of]
  pointwise [k0_pay13, k0_pay9]

theorem pay14_at (Z : FVec Ideal S512x1024 .bf16) (p : FVec Ideal S1x1024 .f32) (x0 : Fin 512) (x1 : Fin 1024) :
    (k0_pay14 (F := Ideal) Z p (ix2 x0 x1) : EReal) = at2 Z x0.val x1.val * nrm (at2 Z x0.val) * at2 p 0 x1.val := by
  simp only [← pay13_at, show ∀ l : Fin 1024, at2 p 0 l.val = p (ix2 0 l) from at2_of p 0]
  pointwise [k0_pay14]

/-- The block of the residual stream after the embedding. -/
theorem pay15_at (X : FVec Ideal S512x1024 .f32) (P Z : FVec Ideal S512x1024 .bf16) (p : FVec Ideal S1x1024 .f32) (x0 : Fin 512) (x1 : Fin 1024) :
    (k0_pay15 (F := Ideal) X P Z p (ix2 x0 x1) : EReal) = xB X P Z p x0.val x1.val := by
  simp only [x4, ← pay14_at, ← pay11_at]
  simp only [at2_of]
  pointwise [k0_pay15]

/-- The reciprocal root mean squares of it. -/
theorem pay17_at (X : FVec Ideal S512x1024 .f32) (P Z : FVec Ideal S512x1024 .bf16) (p : FVec Ideal S1x1024 .f32) (x0 : Fin 512) (z : Fin 1) :
    (k0_pay17 (F := Ideal) (k0_pay16 X P Z p) (Ideal.ofBits .f32 0x358637BD#32) (ix2 x0 z) : EReal) = nrm (xB X P Z p x0.val) := by
  simp only [nrm, rm, ← pay15_at]
  pointwise [k0_pay17, k0_pay16]

/-- It normed. -/
theorem pay18_at (X : FVec Ideal S512x1024 .f32) (P Z : FVec Ideal S512x1024 .bf16) (p : FVec Ideal S1x1024 .f32) (x0 : Fin 512) (x1 : Fin 1024) :
    (k0_pay18 (F := Ideal) (k0_pay15 X P Z p) (k0_pay16 X P Z p) (Ideal.ofBits .f32 0x358637BD#32) (ix2 x0 x1) : EReal)
      = xB X P Z p x0.val x1.val * nrm (xB X P Z p x0.val) := by
  simp only [← pay15_at, ← pay17_at X P Z p x0 0]
  pointwise [k0_pay18]

/-- The block of errors. -/
theorem pay19_at (T X : FVec Ideal S512x1024 .f32) (P Z : FVec Ideal S512x1024 .bf16) (p f : FVec Ideal S1x1024 .f32) (x0 : Fin 512) (x1 : Fin 1024) :
    (k0_pay19 (F := Ideal) T (k0_pay10 f) (k0_pay15 X P Z p) (k0_pay16 X P Z p) (Ideal.ofBits .f32 0x358637BD#32) (ix2 x0 x1) : EReal)
      = err (xB X P Z p x0.val) (at2 T x0.val) (at2 f 0) x1.val := by
  simp only [err, ← pay18_at, at2_of, show ∀ l : Fin 1024, at2 f 0 l.val = f (ix2 0 l) from at2_of f 0]
  pointwise [k0_pay19, k0_pay10]

/-- The block of the loss's gradient at the head. -/
theorem pay20_at (T X : FVec Ideal S512x1024 .f32) (P Z : FVec Ideal S512x1024 .bf16) (p f : FVec Ideal S1x1024 .f32) (x0 : Fin 512) (x1 : Fin 1024) :
    (k0_pay20 (F := Ideal) T (k0_pay10 f) (k0_pay15 X P Z p) (k0_pay16 X P Z p) (Ideal.ofBits .f32 0x358637BD#32) (ix2 x0 x1) : EReal)
      = dhead (xB X P Z p x0.val) (at2 T x0.val) (at2 f 0) x1.val := by
  simp only [dhead, ← pay19_at]
  pointwise [k0_pay20]

/-- The block of the residual stream's gradient. -/
theorem pay21_at (T X : FVec Ideal S512x1024 .f32) (P Z : FVec Ideal S512x1024 .bf16) (p f : FVec Ideal S1x1024 .f32) (x0 : Fin 512) (x1 : Fin 1024) :
    (k0_pay21 (F := Ideal) T (k0_pay10 f) (k0_pay15 X P Z p) (k0_pay16 X P Z p) (Ideal.ofBits .f32 0x358637BD#32) (ix2 x0 x1) : EReal)
      = dx (xB X P Z p x0.val) (at2 T x0.val) (at2 f 0) x1.val := by
  simp only [dx, back, rm, ← pay18_at]
  simp only [← pay20_at, ← pay17_at X P Z p x0 0, show ∀ l : Fin 1024, at2 f 0 l.val = f (ix2 0 l) from at2_of f 0]
  pointwise [k0_pay21, k0_pay10]

/-- The block of the gate's input's gradient. -/
theorem pay22_at (T X : FVec Ideal S512x1024 .f32) (P Z : FVec Ideal S512x1024 .bf16) (p f : FVec Ideal S1x1024 .f32) (x0 : Fin 512) (x1 : Fin 1024) :
    (k0_pay1 (k0_pay22 (F := Ideal) T (k0_pay10 f) (k0_pay11 P) (k0_pay14 Z p) (k0_pay15 X P Z p) (k0_pay16 X P Z p) (Ideal.ofBits .f32 0x358637BD#32)) (ix2 x0 x1) : EReal)
      = dpre (xB X P Z p x0.val) (at2 T x0.val) (at2 f 0) (at2 P x0.val) (at2 Z x0.val) (at2 p 0) x1.val := by
  simp only [dpre, ← pay21_at, ← pay14_at, ← pay11_at]
  pointwise [k0_pay22, k0_pay1]

/-- The block of the gradient reaching the embedding's scaled norm. -/
theorem pay23_at (T X : FVec Ideal S512x1024 .f32) (P Z : FVec Ideal S512x1024 .bf16) (p f : FVec Ideal S1x1024 .f32) (x0 : Fin 512) (x1 : Fin 1024) :
    (k0_pay23 (F := Ideal) T (k0_pay10 f) (k0_pay11 P) (k0_pay15 X P Z p) (k0_pay16 X P Z p) (Ideal.ofBits .f32 0x358637BD#32) (ix2 x0 x1) : EReal)
      = dpn (xB X P Z p x0.val) (at2 T x0.val) (at2 f 0) (at2 P x0.val) x1.val := by
  simp only [dpn, ← pay21_at, ← pay11_at]
  pointwise [k0_pay23]

/-- The block of the embedding's gradient. -/
theorem pay24_at (T X : FVec Ideal S512x1024 .f32) (P Z : FVec Ideal S512x1024 .bf16) (p f : FVec Ideal S1x1024 .f32) (x0 : Fin 512) (x1 : Fin 1024) :
    (k0_pay2 (k0_pay24 (F := Ideal) T p (k0_pay10 f) (k0_pay11 P) (k0_pay12 Z) (k0_pay13 Z) (k0_pay15 X P Z p) (k0_pay16 X P Z p) (Ideal.ofBits .f32 0x358637BD#32)) (ix2 x0 x1) : EReal)
      = dz (xB X P Z p x0.val) (at2 T x0.val) (at2 f 0) (at2 P x0.val) (at2 Z x0.val) (at2 p 0) x1.val := by
  simp only [dz, back, rm, ← pay13_at]
  simp only [← pay23_at, ← pay12_at Z x0 0, show ∀ l : Fin 1024, at2 p 0 l.val = p (ix2 0 l) from at2_of p 0]
  pointwise [k0_pay24, k0_pay2]

/-- The loss's accumulator after a block. -/
theorem pay25_at (T X : FVec Ideal S512x1024 .f32) (P Z : FVec Ideal S512x1024 .bf16) (p f A : FVec Ideal S1x1024 .f32) (x0 : Fin 1) (x1 : Fin 1024) :
    (k0_pay4 (k0_pay25 (F := Ideal) T (k0_pay10 f) (k0_pay15 X P Z p) (k0_pay16 X P Z p) (Ideal.ofBits .f32 0x358637BD#32)) A (ix2 x0 x1) : EReal)
      = A (ix2 x0 x1) + (∑ r : Fin 512, err (xB X P Z p r.val) (at2 T r.val) (at2 f 0) x1.val * err (xB X P Z p r.val) (at2 T r.val) (at2 f 0) x1.val)
        * Ideal.ofBits .f32 0x3A000000#32 := by
  simp only [← pay19_at]
  pointwise [k0_pay4, k0_pay25]

/-- The accumulator of the final scale's gradient after a block. -/
theorem pay26_at (T X : FVec Ideal S512x1024 .f32) (P Z : FVec Ideal S512x1024 .bf16) (p f A : FVec Ideal S1x1024 .f32) (x0 : Fin 1) (x1 : Fin 1024) :
    (k0_pay6 (k0_pay26 (F := Ideal) T (k0_pay10 f) (k0_pay15 X P Z p) (k0_pay16 X P Z p) (Ideal.ofBits .f32 0x358637BD#32)) A (ix2 x0 x1) : EReal)
      = A (ix2 x0 x1) + ∑ r : Fin 512, dhead (xB X P Z p r.val) (at2 T r.val) (at2 f 0) x1.val * (xB X P Z p r.val x1.val * nrm (xB X P Z p r.val)) := by
  simp only [← pay20_at, ← pay18_at]
  pointwise [k0_pay6, k0_pay26]

/-- The accumulator of the embedding's scale's gradient after a block. -/
theorem pay27_at (T X : FVec Ideal S512x1024 .f32) (P Z : FVec Ideal S512x1024 .bf16) (p f A : FVec Ideal S1x1024 .f32) (x0 : Fin 1) (x1 : Fin 1024) :
    (k0_pay8 (k0_pay27 (F := Ideal) T (k0_pay10 f) (k0_pay11 P) (k0_pay13 Z) (k0_pay15 X P Z p) (k0_pay16 X P Z p) (Ideal.ofBits .f32 0x358637BD#32)) A (ix2 x0 x1) : EReal)
      = A (ix2 x0 x1) + ∑ r : Fin 512, dpn (xB X P Z p r.val) (at2 T r.val) (at2 f 0) (at2 P r.val) x1.val * (at2 Z r.val x1.val * nrm (at2 Z r.val)) := by
  simp only [← pay23_at, ← pay13_at]
  pointwise [k0_pay8, k0_pay27]

/-- Which block each window shows at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] ∧ win0_7.index t = ![t.val, 0]
    ∧ win0_8.index t = ![t.val, 0] ∧ win0_9.index t = ![0, 0] ∧ win0_10.index t = ![0, 0] ∧ win0_11.index t = ![0, 0] :=
  (by decide +kernel : ∀ t : Fin grid0.N, _)

/-- A row of the residual stream's block. -/
theorem row0 (c : Dev nD) (t : Fin cfg0.N) (r : ℕ) (hr : r < 512) :
    at2 (n := 512) (m := 1024) (iblk m c 0 t) r = at2 (n := 8192) (m := 1024) (V m c main_arg0) (512 * t.val + r) :=
  row_of _ _ _ _ hr (by have := lt_of_lt_of_eq t.isLt N_0; omega) fun x0 x1 => by blk_point [iblk, idx t]

/-- A row of the gate's input's block. -/
theorem row1 (c : Dev nD) (t : Fin cfg0.N) (r : ℕ) (hr : r < 512) :
    at2 (n := 512) (m := 1024) (iblk m c 1 t) r = at2 (n := 8192) (m := 1024) (V m c main_arg1) (512 * t.val + r) :=
  row_of _ _ _ _ hr (by have := lt_of_lt_of_eq t.isLt N_0; omega) fun x0 x1 => by blk_point [iblk, idx t]

/-- A row of the embedding's block. -/
theorem row2 (c : Dev nD) (t : Fin cfg0.N) (r : ℕ) (hr : r < 512) :
    at2 (n := 512) (m := 1024) (iblk m c 2 t) r = at2 (n := 8192) (m := 1024) (V m c main_arg2) (512 * t.val + r) :=
  row_of _ _ _ _ hr (by have := lt_of_lt_of_eq t.isLt N_0; omega) fun x0 x1 => by blk_point [iblk, idx t]

/-- A row of the targets' block. -/
theorem row3 (c : Dev nD) (t : Fin cfg0.N) (r : ℕ) (hr : r < 512) :
    at2 (n := 512) (m := 1024) (iblk m c 3 t) r = at2 (n := 8192) (m := 1024) (V m c main_arg3) (512 * t.val + r) :=
  row_of _ _ _ _ hr (by have := lt_of_lt_of_eq t.isLt N_0; omega) fun x0 x1 => by blk_point [iblk, idx t]

/-- The embedding's scale. -/
theorem row4 (c : Dev nD) (t : Fin cfg0.N) : at2 (n := 1) (m := 1024) (iblk m c 4 t) = at2 (n := 1) (m := 1024) (V m c main_arg4) :=
  congrArg at2 (funext fun z => by blk_point [iblk, idx t])

/-- The final scale. -/
theorem row5 (c : Dev nD) (t : Fin cfg0.N) : at2 (n := 1) (m := 1024) (iblk m c 5 t) = at2 (n := 1) (m := 1024) (V m c main_v0) :=
  congrArg at2 (funext fun z => by blk_point [iblk, idx t])

/-- The rows of the whole arrays, and the two scales. -/
abbrev pV (c : Dev nD) (r : ℕ) : ℕ → EReal := at2 (n := 8192) (m := 1024) (V m c main_arg1) r
abbrev zV (c : Dev nD) (r : ℕ) : ℕ → EReal := at2 (n := 8192) (m := 1024) (V m c main_arg2) r
abbrev tV (c : Dev nD) (r : ℕ) : ℕ → EReal := at2 (n := 8192) (m := 1024) (V m c main_arg3) r
abbrev sV (c : Dev nD) : ℕ → EReal := at2 (n := 1) (m := 1024) (V m c main_arg4) 0
abbrev fV (c : Dev nD) : ℕ → EReal := at2 (n := 1) (m := 1024) (V m c main_v0) 0
abbrev xV (c : Dev nD) (r : ℕ) : ℕ → EReal := x4 (at2 (n := 8192) (m := 1024) (V m c main_arg0) r) (pV m c r) (zV m c r) (sV m c)

/-- What the body leaves in the block of the residual stream's gradient. -/
theorem out6 (c : Dev nD) (t : Fin cfg0.N) (x0 : Fin 512) (x1 : Fin 1024) :
    ((outsAt0 m c t.val t.isLt).1 (ix2 x0 x1) : EReal) = dx (xV m c (512 * t.val + x0.val)) (tV m c (512 * t.val + x0.val)) (fV m c) x1.val := by
  simp only [xV, pV, zV, tV, sV, fV, ← row0 m c t _ x0.isLt, ← row1 m c t _ x0.isLt, ← row2 m c t _ x0.isLt, ← row3 m c t _ x0.isLt, ← row4 m c t, ← row5 m c t]
  by_cases h0 : t.val % 16 = 0
  · rw [outsAt0_A m c t h0 h0 h0]
    frame_out
    exact pay21_at _ _ _ _ _ _ _ _
  · rw [outsAt0_B m c t h0 h0 h0]
    frame_out
    exact pay21_at _ _ _ _ _ _ _ _

/-- What the body leaves in the block of the gate's input's gradient. -/
theorem out7 (c : Dev nD) (t : Fin cfg0.N) (x0 : Fin 512) (x1 : Fin 1024) :
    ((outsAt0 m c t.val t.isLt).2.1 (ix2 x0 x1) : EReal) = dpre (xV m c (512 * t.val + x0.val)) (tV m c (512 * t.val + x0.val)) (fV m c)
      (pV m c (512 * t.val + x0.val)) (zV m c (512 * t.val + x0.val)) (sV m c) x1.val := by
  simp only [xV, pV, zV, tV, sV, fV, ← row0 m c t _ x0.isLt, ← row1 m c t _ x0.isLt, ← row2 m c t _ x0.isLt, ← row3 m c t _ x0.isLt, ← row4 m c t, ← row5 m c t]
  by_cases h0 : t.val % 16 = 0
  · rw [outsAt0_A m c t h0 h0 h0]
    dsimp only
    frame_out
    exact pay22_at _ _ _ _ _ _ _ _
  · rw [outsAt0_B m c t h0 h0 h0]
    dsimp only
    frame_out
    exact pay22_at _ _ _ _ _ _ _ _

/-- What the body leaves in the block of the embedding's gradient. -/
theorem out8 (c : Dev nD) (t : Fin cfg0.N) (x0 : Fin 512) (x1 : Fin 1024) :
    ((outsAt0 m c t.val t.isLt).2.2.1 (ix2 x0 x1) : EReal) = dz (xV m c (512 * t.val + x0.val)) (tV m c (512 * t.val + x0.val)) (fV m c)
      (pV m c (512 * t.val + x0.val)) (zV m c (512 * t.val + x0.val)) (sV m c) x1.val := by
  simp only [xV, pV, zV, tV, sV, fV, ← row0 m c t _ x0.isLt, ← row1 m c t _ x0.isLt, ← row2 m c t _ x0.isLt, ← row3 m c t _ x0.isLt, ← row4 m c t, ← row5 m c t]
  by_cases h0 : t.val % 16 = 0
  · rw [outsAt0_A m c t h0 h0 h0]
    dsimp only
    frame_out
    exact pay24_at _ _ _ _ _ _ _ _
  · rw [outsAt0_B m c t h0 h0 h0]
    dsimp only
    frame_out
    exact pay24_at _ _ _ _ _ _ _ _

/-- A row's part of the loss, before its constant. -/
abbrev lossRow (c : Dev nD) (r l : ℕ) : EReal := err (xV m c r) (tV m c r) (fV m c) l * err (xV m c r) (tV m c r) (fV m c) l

/-- A row's part of the final scale's gradient. -/
abbrev finRow (c : Dev nD) (r l : ℕ) : EReal := dhead (xV m c r) (tV m c r) (fV m c) l * (xV m c r l * nrm (xV m c r))

/-- A row's part of the embedding's scale's gradient. -/
abbrev postRow (c : Dev nD) (r l : ℕ) : EReal := dpn (xV m c r) (tV m c r) (fV m c) (pV m c r) l * (zV m c r l * nrm (zV m c r))

/-- What a point adds to the loss. -/
theorem step9 (c : Dev nD) (t : Fin cfg0.N) (y : S1x1024.Idx) (A : EReal)
    (hc : (t.val % 16 = 0 ∧ A = 0) ∨ (¬ t.val % 16 = 0 ∧ A = (outsAt0 m c (t.val - 1) (Nat.lt_of_le_of_lt (Nat.sub_le _ _) t.isLt)).2.2.2.1 y)) :
    ((outsAt0 m c t.val t.isLt).2.2.2.1 y : EReal) = A + (∑ k : Fin 512, lossRow m c (512 * t.val + k.val) (y 1).val) * Ideal.ofBits .f32 0x3A000000#32 := by
  have e : ∀ k : Fin 512, lossRow m c (512 * t.val + k.val) (y 1).val
      = err (xB (iblk m c 0 t) (iblk m c 1 t) (iblk m c 2 t) (iblk m c 4 t) k.val) (at2 (n := 512) (m := 1024) (iblk m c 3 t) k.val) (at2 (n := 1) (m := 1024) (iblk m c 5 t) 0) (y 1).val
        * err (xB (iblk m c 0 t) (iblk m c 1 t) (iblk m c 2 t) (iblk m c 4 t) k.val) (at2 (n := 512) (m := 1024) (iblk m c 3 t) k.val) (at2 (n := 1) (m := 1024) (iblk m c 5 t) 0) (y 1).val :=
    fun k => by simp only [xB, lossRow, xV, pV, zV, tV, sV, fV, row0 m c t _ k.isLt, row1 m c t _ k.isLt, row2 m c t _ k.isLt, row3 m c t _ k.isLt, row4, row5]
  simp only [e]
  obtain ⟨x0, x1, rfl⟩ : ∃ (x0 : Fin 1) (x1 : Fin 1024), y = ix2 x0 x1 := ⟨y 0, y 1, eq_ix2 y⟩
  rcases hc with ⟨h0, rfl⟩ | ⟨h0, rfl⟩
  · rw [outsAt0_A m c t h0 h0 h0]
    dsimp only
    frame_open
    simp (disch := decide) only [↓ View.readCov_skip, ↓ View.readCov_cons_toLoadRect, ↓ View.readCov_fill]
    frame_out
    refine (pay25_at (iblk m c 3 t) (iblk m c 0 t) (iblk m c 1 t) (iblk m c 2 t) (iblk m c 4 t) (iblk m c 5 t) _ x0 x1).trans ?_
    refine congrArg (· + _) ?_
    pointwise [k0_pay3]
  · rw [outsAt0_B m c t h0 h0 h0]
    dsimp only
    frame_out
    exact pay25_at (iblk m c 3 t) (iblk m c 0 t) (iblk m c 1 t) (iblk m c 2 t) (iblk m c 4 t) (iblk m c 5 t) _ x0 x1

/-- What a point adds to the final scale's gradient. -/
theorem step10 (c : Dev nD) (t : Fin cfg0.N) (y : S1x1024.Idx) (A : EReal)
    (hc : (t.val % 16 = 0 ∧ A = 0) ∨ (¬ t.val % 16 = 0 ∧ A = (outsAt0 m c (t.val - 1) (Nat.lt_of_le_of_lt (Nat.sub_le _ _) t.isLt)).2.2.2.2.1 y)) :
    ((outsAt0 m c t.val t.isLt).2.2.2.2.1 y : EReal) = A + ∑ k : Fin 512, finRow m c (512 * t.val + k.val) (y 1).val := by
  have e : ∀ k : Fin 512, finRow m c (512 * t.val + k.val) (y 1).val
      = dhead (xB (iblk m c 0 t) (iblk m c 1 t) (iblk m c 2 t) (iblk m c 4 t) k.val) (at2 (n := 512) (m := 1024) (iblk m c 3 t) k.val) (at2 (n := 1) (m := 1024) (iblk m c 5 t) 0) (y 1).val
        * (xB (iblk m c 0 t) (iblk m c 1 t) (iblk m c 2 t) (iblk m c 4 t) k.val (y 1).val * nrm (xB (iblk m c 0 t) (iblk m c 1 t) (iblk m c 2 t) (iblk m c 4 t) k.val)) :=
    fun k => by simp only [xB, finRow, xV, pV, zV, tV, sV, fV, row0 m c t _ k.isLt, row1 m c t _ k.isLt, row2 m c t _ k.isLt, row3 m c t _ k.isLt, row4, row5]
  simp only [e]
  obtain ⟨x0, x1, rfl⟩ : ∃ (x0 : Fin 1) (x1 : Fin 1024), y = ix2 x0 x1 := ⟨y 0, y 1, eq_ix2 y⟩
  rcases hc with ⟨h0, rfl⟩ | ⟨h0, rfl⟩
  · rw [outsAt0_A m c t h0 h0 h0]
    dsimp only
    frame_open
    simp (disch := decide) only [↓ View.readCov_skip, ↓ View.readCov_cons_toLoadRect, ↓ View.readCov_fill]
    frame_out
    refine (pay26_at (iblk m c 3 t) (iblk m c 0 t) (iblk m c 1 t) (iblk m c 2 t) (iblk m c 4 t) (iblk m c 5 t) _ x0 x1).trans ?_
    refine congrArg (· + _) ?_
    pointwise [k0_pay5]
  · rw [outsAt0_B m c t h0 h0 h0]
    dsimp only
    frame_out
    exact pay26_at (iblk m c 3 t) (iblk m c 0 t) (iblk m c 1 t) (iblk m c 2 t) (iblk m c 4 t) (iblk m c 5 t) _ x0 x1

/-- What a point adds to the embedding's scale's gradient. -/
theorem step11 (c : Dev nD) (t : Fin cfg0.N) (y : S1x1024.Idx) (A : EReal)
    (hc : (t.val % 16 = 0 ∧ A = 0) ∨ (¬ t.val % 16 = 0 ∧ A = (outsAt0 m c (t.val - 1) (Nat.lt_of_le_of_lt (Nat.sub_le _ _) t.isLt)).2.2.2.2.2 y)) :
    ((outsAt0 m c t.val t.isLt).2.2.2.2.2 y : EReal) = A + ∑ k : Fin 512, postRow m c (512 * t.val + k.val) (y 1).val := by
  have e : ∀ k : Fin 512, postRow m c (512 * t.val + k.val) (y 1).val
      = dpn (xB (iblk m c 0 t) (iblk m c 1 t) (iblk m c 2 t) (iblk m c 4 t) k.val) (at2 (n := 512) (m := 1024) (iblk m c 3 t) k.val) (at2 (n := 1) (m := 1024) (iblk m c 5 t) 0)
          (at2 (n := 512) (m := 1024) (iblk m c 1 t) k.val) (y 1).val
        * (at2 (n := 512) (m := 1024) (iblk m c 2 t) k.val (y 1).val * nrm (at2 (n := 512) (m := 1024) (iblk m c 2 t) k.val)) :=
    fun k => by simp only [xB, postRow, xV, pV, zV, tV, sV, fV, row0 m c t _ k.isLt, row1 m c t _ k.isLt, row2 m c t _ k.isLt, row3 m c t _ k.isLt, row4, row5]
  simp only [e]
  obtain ⟨x0, x1, rfl⟩ : ∃ (x0 : Fin 1) (x1 : Fin 1024), y = ix2 x0 x1 := ⟨y 0, y 1, eq_ix2 y⟩
  rcases hc with ⟨h0, rfl⟩ | ⟨h0, rfl⟩
  · rw [outsAt0_A m c t h0 h0 h0]
    dsimp only
    frame_open
    simp (disch := decide) only [↓ View.readCov_skip, ↓ View.readCov_cons_toLoadRect, ↓ View.readCov_fill]
    frame_out
    refine (pay27_at (iblk m c 3 t) (iblk m c 0 t) (iblk m c 1 t) (iblk m c 2 t) (iblk m c 4 t) (iblk m c 5 t) _ x0 x1).trans ?_
    refine congrArg (· + _) ?_
    pointwise [k0_pay7]
  · rw [outsAt0_B m c t h0 h0 h0]
    dsimp only
    frame_out
    exact pay27_at (iblk m c 3 t) (iblk m c 0 t) (iblk m c 1 t) (iblk m c 2 t) (iblk m c 4 t) (iblk m c 5 t) _ x0 x1

/-- The residual stream's gradient as the kernel leaves it. -/
theorem final6 (c : Dev nD) : ((dats m 0 c).arrAt 6 cfg0.N : S8192x1024.Idx → Elt Ideal _)
    = fun i => dx (xV m c (i 0).val) (tV m c (i 0).val) (fV m c) (i 1).val := by
  refine (dats m 0 c).arrAt_eq_of_covers 6 _ (by decide +kernel) fun t _ y => ?_
  blk_simp
  rw [after0_6]
  refine (congrArg (outsAt0 m c t.val t.isLt).1 (eq_ix2 y)).trans ((out6 m c t (y 0) (y 1)).trans ?_)
  refine congrArg₂ (fun r l => dx (xV m c r) (tV m c r) (fV m c) l) ?_ ?_
  · blk_point [idx t]
    exact Nat.mul_comm _ _
  · blk_point [idx t]

/-- The gate's input's gradient as the kernel leaves it. -/
theorem final7 (c : Dev nD) : ((dats m 0 c).arrAt 7 cfg0.N : S8192x1024.Idx → Elt Ideal _)
    = fun i => dpre (xV m c (i 0).val) (tV m c (i 0).val) (fV m c) (pV m c (i 0).val) (zV m c (i 0).val) (sV m c) (i 1).val := by
  refine (dats m 0 c).arrAt_eq_of_covers 7 _ (by decide +kernel) fun t _ y => ?_
  blk_simp
  rw [after0_7]
  refine (congrArg (outsAt0 m c t.val t.isLt).2.1 (eq_ix2 y)).trans ((out7 m c t (y 0) (y 1)).trans ?_)
  refine congrArg₂ (fun r l => dpre (xV m c r) (tV m c r) (fV m c) (pV m c r) (zV m c r) (sV m c) l) ?_ ?_
  · blk_point [idx t]
    exact Nat.mul_comm _ _
  · blk_point [idx t]

/-- The embedding's gradient as the kernel leaves it. -/
theorem final8 (c : Dev nD) : ((dats m 0 c).arrAt 8 cfg0.N : S8192x1024.Idx → Elt Ideal _)
    = fun i => dz (xV m c (i 0).val) (tV m c (i 0).val) (fV m c) (pV m c (i 0).val) (zV m c (i 0).val) (sV m c) (i 1).val := by
  refine (dats m 0 c).arrAt_eq_of_covers 8 _ (by decide +kernel) fun t _ y => ?_
  blk_simp
  rw [after0_8]
  refine (congrArg (outsAt0 m c t.val t.isLt).2.2.1 (eq_ix2 y)).trans ((out8 m c t (y 0) (y 1)).trans ?_)
  refine congrArg₂ (fun r l => dz (xV m c r) (tV m c r) (fV m c) (pV m c r) (zV m c r) (sV m c) l) ?_ ?_
  · blk_point [idx t]
    exact Nat.mul_comm _ _
  · blk_point [idx t]

/-- The last grid point. -/
abbrev tLast : Fin cfg0.N := ⟨15, by decide +kernel⟩

/-- The loss's partial sums as the kernel leaves them. -/
theorem final9 (c : Dev nD) : ((dats m 0 c).arrAt 9 cfg0.N : S1x1024.Idx → Elt Ideal _)
    = fun i => ∑ p : Fin 16, (∑ k : Fin 512, lossRow m c (512 * p.val + k.val) (i 1).val) * Ideal.ofBits .f32 0x3A000000#32 := by
  refine (dats m 0 c).arrAt_eq_of_after_last 9 tLast (by decide +kernel) _ fun j => ?_
  rw [after0_9, Pipeline.eq_sum_fin_of_reset_step_apply_last (fun n h => (outsAt0 m c n h).2.2.2.1) 16 (fun _ => 0)
    (fun t j => (∑ k : Fin 512, lossRow m c (512 * t.val + k.val) (j 1).val) * Ideal.ofBits .f32 0x3A000000#32)
    (fun t h y => step9 m c t y 0 (.inl ⟨h, rfl⟩)) (fun t h y => step9 m c t y _ (.inr ⟨h, rfl⟩)) (le_of_eq N_0) tLast rfl]
  rw [zero_add]
  rfl

/-- The final scale's gradient as the kernel leaves it. -/
theorem final10 (c : Dev nD) : ((dats m 0 c).arrAt 10 cfg0.N : S1x1024.Idx → Elt Ideal _) = fun i => ∑ r : Fin 8192, finRow m c r.val (i 1).val := by
  refine (dats m 0 c).arrAt_eq_of_after_last 10 tLast (by decide +kernel) _ fun j => ?_
  rw [after0_10, Pipeline.eq_sum_fin_of_reset_step_apply_last (fun n h => (outsAt0 m c n h).2.2.2.2.1) 16 (fun _ => 0)
    (fun t j => ∑ k : Fin 512, finRow m c (512 * t.val + k.val) (j 1).val)
    (fun t h y => step10 m c t y 0 (.inl ⟨h, rfl⟩)) (fun t h y => step10 m c t y _ (.inr ⟨h, rfl⟩)) (le_of_eq N_0) tLast rfl]
  rw [zero_add]
  exact sum_blocks16 fun r => finRow m c r (j 1).val

/-- The embedding's scale's gradient as the kernel leaves it. -/
theorem final11 (c : Dev nD) : ((dats m 0 c).arrAt 11 cfg0.N : S1x1024.Idx → Elt Ideal _) = fun i => ∑ r : Fin 8192, postRow m c r.val (i 1).val := by
  refine (dats m 0 c).arrAt_eq_of_after_last 11 tLast (by decide +kernel) _ fun j => ?_
  rw [after0_11, Pipeline.eq_sum_fin_of_reset_step_apply_last (fun n h => (outsAt0 m c n h).2.2.2.2.2) 16 (fun _ => 0)
    (fun t j => ∑ k : Fin 512, postRow m c (512 * t.val + k.val) (j 1).val)
    (fun t h y => step11 m c t y 0 (.inl ⟨h, rfl⟩)) (fun t h y => step11 m c t y _ (.inr ⟨h, rfl⟩)) (le_of_eq N_0) tLast rfl]
  rw [zero_add]
  exact sum_blocks16 fun r => postRow m c r (j 1).val

end Cert.PleValue
end
-- ==== Proof.PleEq.lean ====
/-
# The per-layer embedding's backward with the head's loss: the reference, and the equation
-/
module

public import proofs.«01_k».proof.Proof.Gen.Reference4Ideal.Run
public import proofs.«01_k».proof.Proof.Gen.Pre_finite4
public import proofs.«01_k».proof.Proof.Sigmoid
public import proofs.«01_k».proof.Proof.Ple

@[expose] public section

set_option maxRecDepth 16384

noncomputable section

open Idealize.ShloMosaic Idealize.ShloMosaic.TcCoe Idealize.SL.Sem
open Cert.PoolValue (at2)
open Cert.RmsNorm (rm at2_of sum_blocks16)

namespace Cert.PleValue

/-- A value that is a real number. -/
def IsR (a : EReal) : Prop := ∃ y : ℝ, a = (y : EReal)

theorem IsR.mul {a b : EReal} (ha : IsR a) (hb : IsR b) : IsR (a * b) := by
  obtain ⟨x, rfl⟩ := ha; obtain ⟨y, rfl⟩ := hb; exact ⟨x * y, (EReal.coe_mul x y).symm⟩

theorem IsR.add {a b : EReal} (ha : IsR a) (hb : IsR b) : IsR (a + b) := by
  obtain ⟨x, rfl⟩ := ha; obtain ⟨y, rfl⟩ := hb; exact ⟨x + y, (EReal.coe_add x y).symm⟩

theorem IsR.sub {a b : EReal} (ha : IsR a) (hb : IsR b) : IsR (a - b) := by
  obtain ⟨x, rfl⟩ := ha; obtain ⟨y, rfl⟩ := hb; exact ⟨x - y, (EReal.coe_sub x y).symm⟩

/-- The word of two to the minus ten. -/
theorem word_2m10 : Ideal.ofBits .f32 0x3A800000#32 = ((1 / 1024 : ℝ) : EReal) := by
  have e1 : (0x3A800000#32).extractLsb' 31 1 = 0#1 := by decide
  have e2 : ((0x3A800000#32).extractLsb' 23 8).toNat = 117 := by decide
  have e3 : ((0x3A800000#32).extractLsb' 0 23).toNat = 0 := by decide
  simp only [Ideal.ofBits, Ideal.ieee, e1, e2, e3]
  norm_num

/-- The word of two to the minus eleven. -/
theorem word_2m11 : Ideal.ofBits .f32 0x3A000000#32 = ((1 / 2048 : ℝ) : EReal) := by
  have e1 : (0x3A000000#32).extractLsb' 31 1 = 0#1 := by decide
  have e2 : ((0x3A000000#32).extractLsb' 23 8).toNat = 116 := by decide
  have e3 : ((0x3A000000#32).extractLsb' 0 23).toNat = 0 := by decide
  simp only [Ideal.ofBits, Ideal.ieee, e1, e2, e3]
  norm_num

/-- The word of two. -/
theorem word_2 : Ideal.ofBits .f32 0x40000000#32 = ((2 : ℝ) : EReal) := by
  have e1 : (0x40000000#32).extractLsb' 31 1 = 0#1 := by decide
  have e2 : ((0x40000000#32).extractLsb' 23 8).toNat = 128 := by decide
  have e3 : ((0x40000000#32).extractLsb' 0 23).toNat = 0 := by decide
  simp only [Ideal.ofBits, Ideal.ieee, e1, e2, e3]
  norm_num

/-- The gate is the logistic function. -/
theorem gate_eq (a : EReal) : gate a = Ideal.div 1 (1 + Ideal.exp (-a)) := Cert.Math.sigmoid_eq a

/-- The gate of a real is real. -/
theorem gate_real {a : EReal} (ha : IsR a) : IsR (gate a) := by
  obtain ⟨x, rfl⟩ := ha
  rw [gate, Cert.Math.half_f32, ← EReal.coe_mul, Ideal.tanh_coe, ← EReal.coe_mul, ← EReal.coe_add]
  exact ⟨_, rfl⟩

/-- A row's mean square plus the small term. -/
def ms (x : ℕ → EReal) : EReal := rm (fun l => x l * x l) + Ideal.ofBits .f32 0x358637BD#32

/-- The correction of a row as the transpose of the plain norm computes it. -/
def corr (x h : ℕ → EReal) : EReal :=
  Ideal.div ((∑ k : Fin 1024, x k.val * h k.val) * (Ideal.ofBits .f32 0xBF000000#32 * Ideal.div (nrm x) (ms x))) (Ideal.ofBits .f32 0x44800000#32)

/-- A real row's reciprocal root mean square, as reals. -/
theorem nrm_facts (x : ℕ → ℝ) : ∃ ρ μ : ℝ, μ ≠ 0 ∧ ρ * ρ * μ = 1 ∧ ms (fun l => (x l : EReal)) = (μ : EReal) ∧ nrm (fun l => (x l : EReal)) = (ρ : EReal) := by
  obtain ⟨e, he, hw⟩ := NormMath.eps_word
  obtain ⟨ρ, μ, hμ, hρ, e1, e2⟩ := NormMath.rsqrt_mean (fun k : Fin 1024 => x k.val) 1024 e (by norm_num) he
  refine ⟨ρ, μ, hμ, hρ, ?_, ?_⟩
  · simp only [ms, rm, hw, NormMath.word_1024]; exact e1
  · simp only [nrm, rm, hw, NormMath.word_1024]; exact e2

theorem nrm_real {x : ℕ → EReal} (hx : ∀ l, IsR (x l)) : IsR (nrm x) := by
  choose o ho using hx
  obtain rfl : x = fun l => (o l : EReal) := funext ho
  obtain ⟨ρ, _, _, _, _, h⟩ := nrm_facts o
  exact ⟨ρ, h⟩

/-- The mean of a real row is real. -/
theorem rm_real {x : ℕ → EReal} (hx : ∀ l, IsR (x l)) : IsR (rm x) := by
  choose o ho using hx
  obtain rfl : x = fun l => (o l : EReal) := funext ho
  rw [rm, PoolMath.coe_sum, NormMath.word_1024, Ideal.div_coe (by norm_num), ← EReal.coe_mul]
  exact ⟨_, rfl⟩

theorem back_real {x h : ℕ → EReal} (hx : ∀ l, IsR (x l)) (hh : ∀ l, IsR (h l)) (l : ℕ) : IsR (back x h l) :=
  (nrm_real hx).mul ((hh l).sub (((hx l).mul (nrm_real hx)).mul (rm_real fun k => (hh k).mul ((hx k).mul (nrm_real hx)))))

/-- The kernel's form of a norm's backward is the transpose of the plain norm, over reals. -/
theorem back_eq {x h : ℕ → EReal} (hx : ∀ l, IsR (x l)) (hh : ∀ l, IsR (h l)) (l : ℕ) :
    h l * nrm x + x l * corr x h + corr x h * x l = back x h l := by
  choose o ho using hx
  obtain rfl : x = fun l => (o l : EReal) := funext ho
  choose d hd using hh
  obtain rfl : h = fun l => (d l : EReal) := funext hd
  obtain ⟨ρ, μ, hμ, hρ, e1, e2⟩ := nrm_facts o
  simp only [corr, back, rm, e1, e2, NormMath.word_1024, NormMath.neg_half_word]
  exact (NormMath.norm_back (fun k : Fin 1024 => o k.val) (fun k : Fin 1024 => d k.val) _ _ ρ μ 1024 (by norm_num) hμ hρ).symm

open Cert.Reference4Ideal Cert.Reference4Ideal.Gen

/-- The reference: the embedding, widened. -/
def v1 (a2 : FVec Ideal S8192x1024 .bf16) : FVec Ideal S8192x1024 .f32 :=
  extf .f32 a2 bitsLt_bf16_f32

/-- The reference: the gate. -/
def v7 (a1 : FVec Ideal S8192x1024 .bf16) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 a1 bitsLt_bf16_f32))))

/-- The reference: the mean square of the embedding plus the small term. -/
def v18 (a2 : FVec Ideal S8192x1024 .bf16) : FVec Ideal S8192x1 .f32 :=
  addf (Host.divf (broadcastInDim S8192x1 ![0] bcast_S8192_S8192x1_0 (Host.reduceAdd (mulf (v1 a2) (v1 a2)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The reference: its reciprocal root. -/
def v19 (a2 : FVec Ideal S8192x1024 .bf16) : FVec Ideal S8192x1 .f32 :=
  Host.rsqrt (v18 a2)

/-- The reference: the normed embedding. -/
def v24 (a2 : FVec Ideal S8192x1024 .bf16) : FVec Ideal S8192x1024 .f32 :=
  mulf (v1 a2) (broadcastInDim S8192x1024 ![0, 1] bcast_S8192x1_S8192x1024_0_1 (v19 a2))

/-- The reference: its scale as a row. -/
def v25 (a4 : FVec Ideal S1x1024 .f32) : FVec Ideal S1x1024 .f32 :=
  broadcastInDim S1x1024 ![1] bcast_S1024_S1x1024_1 (shapeCast _ a4 shapeCasts_S1x1024_S1024)

/-- The reference: the normed embedding, scaled. -/
def v27 (a2 : FVec Ideal S8192x1024 .bf16) (a4 : FVec Ideal S1x1024 .f32) : FVec Ideal S8192x1024 .f32 :=
  mulf (v24 a2) (broadcastInDim S8192x1024 ![0, 1] bcast_S1x1024_S8192x1024_0_1 (v25 a4))

/-- The reference: the residual stream after the embedding. -/
def v29 (a0 : FVec Ideal S8192x1024 .f32) (a1 : FVec Ideal S8192x1024 .bf16) (a2 : FVec Ideal S8192x1024 .bf16) (a4 : FVec Ideal S1x1024 .f32) : FVec Ideal S8192x1024 .f32 :=
  addf a0 (mulf (v7 a1) (v27 a2 a4))

/-- The reference: the mean square of the residual stream plus the small term. -/
def v36 (a0 : FVec Ideal S8192x1024 .f32) (a1 : FVec Ideal S8192x1024 .bf16) (a2 : FVec Ideal S8192x1024 .bf16) (a4 : FVec Ideal S1x1024 .f32) : FVec Ideal S8192x1 .f32 :=
  addf (Host.divf (broadcastInDim S8192x1 ![0] bcast_S8192_S8192x1_0 (Host.reduceAdd (mulf (v29 a0 a1 a2 a4) (v29 a0 a1 a2 a4)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The reference: its reciprocal root. -/
def v37 (a0 : FVec Ideal S8192x1024 .f32) (a1 : FVec Ideal S8192x1024 .bf16) (a2 : FVec Ideal S8192x1024 .bf16) (a4 : FVec Ideal S1x1024 .f32) : FVec Ideal S8192x1 .f32 :=
  Host.rsqrt (v36 a0 a1 a2 a4)

/-- The reference: the normed residual stream. -/
def v42 (a0 : FVec Ideal S8192x1024 .f32) (a1 : FVec Ideal S8192x1024 .bf16) (a2 : FVec Ideal S8192x1024 .bf16) (a4 : FVec Ideal S1x1024 .f32) : FVec Ideal S8192x1024 .f32 :=
  mulf (v29 a0 a1 a2 a4) (broadcastInDim S8192x1024 ![0, 1] bcast_S8192x1_S8192x1024_0_1 (v37 a0 a1 a2 a4))

/-- The reference: the final scale as a row. -/
def v43 (a5 : FVec Ideal S1024 .f32) : FVec Ideal S1x1024 .f32 :=
  broadcastInDim S1x1024 ![1] bcast_S1024_S1x1024_1 a5

/-- The reference: the prediction's error. -/
def v46 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .f32 :=
  subf (mulf (v42 a0 a1 a2 a4) (broadcastInDim S8192x1024 ![0, 1] bcast_S1x1024_S8192x1024_0_1 (v43 a5))) a3

/-- The reference: the loss. -/
def v54 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S_ .f32 :=
  mulf (constant S_ .f32 0x3F000000#32) (Host.reduceAdd (Host.divf (Host.reduceAdd (mulf (v46 a0 a1 a2 a3 a4 a5) (v46 a0 a1 a2 a3 a4 a5)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)

/-- The reference: the loss's gradient at the head. -/
def v60 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (v46 a0 a1 a2 a3 a4 a5))

/-- The reference: that gradient times the final scale. -/
def v65 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .f32 :=
  mulf (v60 a0 a1 a2 a3 a4 a5) (broadcastInDim S8192x1024 ![0, 1] bcast_S1x1024_S8192x1024_0_1 (v43 a5))

/-- The reference: the final norm's correction. -/
def v76 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .f32 :=
  broadcastInDim S8192x1024 ![0] bcast_S8192_S8192x1024_0 (Host.reduceAdd (Host.divf (mulf (shapeCast _ (Host.reduceAdd (mulf (v29 a0 a1 a2 a4) (v65 a0 a1 a2 a3 a4 a5)) (constant S_ .f32 0x00000000#32) reducesTo_S8192x1024_S8192_d1 h_S_) shapeCasts_S8192_S8192x1) (mulf (broadcastInDim S8192x1 ![] bcast_S_S8192x1 (constant S_ .f32 0xBF000000#32)) (Host.divf (v37 a0 a1 a2 a4) (v36 a0 a1 a2 a4)))) (broadcastInDim S8192x1 ![] bcast_S_S8192x1 (constant S_ .f32 0x44800000#32))) (constant S_ .f32 0x00000000#32) reducesTo_S8192x1_S8192_d1 h_S_)

/-- The reference: the residual stream's gradient. -/
def v80 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .f32 :=
  addf (addf (mulf (v65 a0 a1 a2 a3 a4 a5) (broadcastInDim S8192x1024 ![0, 1] bcast_S8192x1_S8192x1024_0_1 (v37 a0 a1 a2 a4))) (mulf (v29 a0 a1 a2 a4) (v76 a0 a1 a2 a3 a4 a5))) (mulf (v76 a0 a1 a2 a3 a4 a5) (v29 a0 a1 a2 a4))

/-- The reference: the gradient of the normed embedding, scaled. -/
def v81 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .f32 :=
  mulf (v7 a1) (v80 a0 a1 a2 a3 a4 a5)

/-- The reference: that gradient times the scale. -/
def v87 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .f32 :=
  mulf (v81 a0 a1 a2 a3 a4 a5) (broadcastInDim S8192x1024 ![0, 1] bcast_S1x1024_S8192x1024_0_1 (v25 a4))

/-- The reference: the embedding's norm's correction. -/
def v98 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .f32 :=
  broadcastInDim S8192x1024 ![0] bcast_S8192_S8192x1024_0 (Host.reduceAdd (Host.divf (mulf (shapeCast _ (Host.reduceAdd (mulf (v1 a2) (v87 a0 a1 a2 a3 a4 a5)) (constant S_ .f32 0x00000000#32) reducesTo_S8192x1024_S8192_d1 h_S_) shapeCasts_S8192_S8192x1) (mulf (broadcastInDim S8192x1 ![] bcast_S_S8192x1 (constant S_ .f32 0xBF000000#32)) (Host.divf (v19 a2) (v18 a2)))) (broadcastInDim S8192x1 ![] bcast_S_S8192x1 (constant S_ .f32 0x44800000#32))) (constant S_ .f32 0x00000000#32) reducesTo_S8192x1_S8192_d1 h_S_)

/-- The reference: the embedding's scale's gradient. -/
def v103 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S1x1024 .f32 :=
  broadcastInDim S1x1024 ![1] bcast_S1024_S1x1024_1 (Host.reduceAdd (shapeCast _ (Host.reduceAdd (mulf (v24 a2) (v81 a0 a1 a2 a3 a4 a5)) (constant S_ .f32 0x00000000#32) reducesTo_S8192x1024_S1024_d0 h_S_) shapeCasts_S1024_S1x1024) (constant S_ .f32 0x00000000#32) reducesTo_S1x1024_S1024_d0 h_S_)

/-- The reference: the gate's input's gradient. -/
def v105 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .bf16 :=
  truncf .bf16 (mulf (mulf (v80 a0 a1 a2 a3 a4 a5) (v27 a2 a4)) (mulf (v7 a1) (subf (broadcastInDim S8192x1024 ![] bcast_S_S8192x1024 (constant S_ .f32 0x3F800000#32)) (v7 a1)))) bitsLt_bf16_f32

/-- The reference: the embedding's gradient. -/
def v106 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S8192x1024 .bf16 :=
  truncf .bf16 (addf (addf (mulf (v87 a0 a1 a2 a3 a4 a5) (broadcastInDim S8192x1024 ![0, 1] bcast_S8192x1_S8192x1024_0_1 (v19 a2))) (mulf (v1 a2) (v98 a0 a1 a2 a3 a4 a5))) (mulf (v98 a0 a1 a2 a3 a4 a5) (v1 a2))) bitsLt_bf16_f32

/-- The reference: the final scale's gradient. -/
def v107 (a0 : FVec Ideal S8192x1024 .f32) (a1 : FVec Ideal S8192x1024 .bf16) (a2 : FVec Ideal S8192x1024 .bf16) (a3 : FVec Ideal S8192x1024 .f32) (a4 : FVec Ideal S1x1024 .f32) (a5 : FVec Ideal S1024 .f32) : FVec Ideal S1x1024 .f32 :=
  shapeCast _ (Host.reduceAdd (shapeCast _ (Host.reduceAdd (mulf (v42 a0 a1 a2 a4) (v60 a0 a1 a2 a3 a4 a5)) (constant S_ .f32 0x00000000#32) reducesTo_S8192x1024_S1024_d0 h_S_) shapeCasts_S1024_S1x1024) (constant S_ .f32 0x00000000#32) reducesTo_S1x1024_S1024_d0 h_S_) shapeCasts_S1024_S1x1024

/-- The final scale as a row of numbers. -/
abbrev fR (a5 : FVec Ideal S1024 .f32) : ℕ → EReal := at2 (shapeCast S1x1024 a5 shapeCasts_S1024_S1x1024) 0

theorem v1_at (Z : FVec Ideal S8192x1024 .bf16) (r : Fin 8192) (l : Fin 1024) : (v1 Z (ix2 r l) : EReal) = at2 Z r.val l.val :=
  (at2_of Z r l).symm

theorem v7_at (P : FVec Ideal S8192x1024 .bf16) (r : Fin 8192) (l : Fin 1024) : (v7 P (ix2 r l) : EReal) = gate (at2 P r.val l.val) := by
  rw [gate_eq, at2_of, ← Ideal.ofBits_one_f32]
  pointwise [v7]

theorem v18_at (Z : FVec Ideal S8192x1024 .bf16) (r : Fin 8192) (z : Fin 1) : (v18 Z (ix2 r z) : EReal) = ms (at2 Z r.val) := by
  simp only [ms, rm, ← v1_at]
  pointwise [v18]

theorem v19_at (Z : FVec Ideal S8192x1024 .bf16) (r : Fin 8192) (z : Fin 1) : (v19 Z (ix2 r z) : EReal) = nrm (at2 Z r.val) := by
  show _ = Ideal.rsqrt (ms (at2 Z r.val))
  rw [← v18_at Z r z]
  pointwise [v19]

theorem v24_at (Z : FVec Ideal S8192x1024 .bf16) (r : Fin 8192) (l : Fin 1024) : (v24 Z (ix2 r l) : EReal) = at2 Z r.val l.val * nrm (at2 Z r.val) := by
  rw [← v1_at, ← v19_at Z r 0]
  pointwise [v24]

theorem v25_at (p : FVec Ideal S1x1024 .f32) (z : Fin 1) (l : Fin 1024) : (v25 p (ix2 z l) : EReal) = at2 p 0 l.val := by
  rw [show at2 p 0 l.val = p (ix2 0 l) from at2_of p 0 l]
  pointwise [v25]

theorem v43_at (f : FVec Ideal S1024 .f32) (z : Fin 1) (l : Fin 1024) : (v43 f (ix2 z l) : EReal) = fR f l.val := by
  rw [show fR f l.val = shapeCast S1x1024 f shapeCasts_S1024_S1x1024 (ix2 0 l) from at2_of _ 0 l]
  pointwise [v43]

theorem v27_at (Z : FVec Ideal S8192x1024 .bf16) (p : FVec Ideal S1x1024 .f32) (r : Fin 8192) (l : Fin 1024) :
    (v27 Z p (ix2 r l) : EReal) = at2 Z r.val l.val * nrm (at2 Z r.val) * at2 p 0 l.val := by
  rw [← v24_at, ← v25_at p 0]
  pointwise [v27]

variable (X : FVec Ideal S8192x1024 .f32) (P Z : FVec Ideal S8192x1024 .bf16) (T : FVec Ideal S8192x1024 .f32) (p : FVec Ideal S1x1024 .f32) (f : FVec Ideal S1024 .f32)

/-- The residual stream's row after the embedding. -/
abbrev xR (r : ℕ) : ℕ → EReal := x4 (at2 X r) (at2 P r) (at2 Z r) (at2 p 0)

theorem v29_at (r : Fin 8192) (l : Fin 1024) : (v29 X P Z p (ix2 r l) : EReal) = xR X P Z p r.val l.val := by
  rw [xR, x4, ← v27_at, ← v7_at, at2_of]
  pointwise [v29]

theorem v36_at (r : Fin 8192) (z : Fin 1) : (v36 X P Z p (ix2 r z) : EReal) = ms (xR X P Z p r.val) := by
  simp only [ms, rm, ← v29_at]
  pointwise [v36]

theorem v37_at (r : Fin 8192) (z : Fin 1) : (v37 X P Z p (ix2 r z) : EReal) = nrm (xR X P Z p r.val) := by
  show _ = Ideal.rsqrt (ms (xR X P Z p r.val))
  rw [← v36_at X P Z p r z]
  pointwise [v37]

theorem v42_at (r : Fin 8192) (l : Fin 1024) : (v42 X P Z p (ix2 r l) : EReal) = xR X P Z p r.val l.val * nrm (xR X P Z p r.val) := by
  rw [← v29_at, ← v37_at X P Z p r 0]
  pointwise [v42]

theorem v46_at (r : Fin 8192) (l : Fin 1024) : (v46 X P Z T p f (ix2 r l) : EReal) = err (xR X P Z p r.val) (at2 T r.val) (fR f) l.val := by
  rw [err, ← v42_at, ← v43_at f 0, at2_of]
  pointwise [v46]

theorem v60_at (r : Fin 8192) (l : Fin 1024) : (v60 X P Z T p f (ix2 r l) : EReal) = dhead (xR X P Z p r.val) (at2 T r.val) (fR f) l.val := by
  have h : (v60 X P Z T p f (ix2 r l) : EReal) = Ideal.div (Ideal.ofBits .f32 0x3F000000#32 * Ideal.ofBits .f32 0x3F800000#32) (Ideal.ofBits .f32 0x44800000#32)
      * (Ideal.ofBits .f32 0x40000000#32 * v46 X P Z T p f (ix2 r l)) := by
    pointwise [v60]
  rw [h, dhead, v46_at, word_2m10, word_2, Cert.Math.half_f32, NormMath.word_1, NormMath.word_1024, Ideal.div_coe (by norm_num),
    ← mul_assoc, ← EReal.coe_mul, ← EReal.coe_mul, ← EReal.coe_mul, mul_comm]
  norm_num

theorem v65_at (r : Fin 8192) (l : Fin 1024) :
    (v65 X P Z T p f (ix2 r l) : EReal) = dhead (xR X P Z p r.val) (at2 T r.val) (fR f) l.val * fR f l.val := by
  rw [← v60_at, ← v43_at f 0]
  pointwise [v65]

theorem v76_at (r : Fin 8192) (l : Fin 1024) : (v76 X P Z T p f (ix2 r l) : EReal)
    = corr (xR X P Z p r.val) (fun l => dhead (xR X P Z p r.val) (at2 T r.val) (fR f) l * fR f l) := by
  simp only [corr, ← v65_at, ← v37_at X P Z p r 0, ← v36_at X P Z p r 0]
  simp only [← v29_at]
  pointwise [v76]
  rw [Fin.sum_univ_one]

/-- Every argument's entries are real numbers. -/
structure Reals : Prop where
  X : ∀ r l, IsR (at2 X r l)
  P : ∀ r l, IsR (at2 P r l)
  Z : ∀ r l, IsR (at2 Z r l)
  T : ∀ r l, IsR (at2 T r l)
  p : ∀ l, IsR (at2 p 0 l)
  f : ∀ l, IsR (fR f l)

variable (hR : Reals X P Z T p f)
include hR

theorem xR_real (r l : ℕ) : IsR (xR X P Z p r l) :=
  (hR.X r l).add ((gate_real (hR.P r l)).mul (((hR.Z r l).mul (nrm_real (hR.Z r))).mul (hR.p l)))

theorem err_real (r l : ℕ) : IsR (err (xR X P Z p r) (at2 T r) (fR f) l) :=
  (((xR_real X P Z T p f hR r l).mul (nrm_real (xR_real X P Z T p f hR r))).mul (hR.f l)).sub (hR.T r l)

theorem dhead_real (r l : ℕ) : IsR (dhead (xR X P Z p r) (at2 T r) (fR f) l * fR f l) :=
  ((err_real X P Z T p f hR r l).mul ⟨_, word_2m10⟩).mul (hR.f l)

theorem dpn_real (r l : ℕ) : IsR (dpn (xR X P Z p r) (at2 T r) (fR f) (at2 P r) l * at2 p 0 l) :=
  ((back_real (xR_real X P Z T p f hR r) (dhead_real X P Z T p f hR r) l).mul (gate_real (hR.P r l))).mul (hR.p l)

/-- The residual stream's gradient, read: the kernel's form. -/
theorem v80_at (r : Fin 8192) (l : Fin 1024) : (v80 X P Z T p f (ix2 r l) : EReal) = dx (xR X P Z p r.val) (at2 T r.val) (fR f) l.val := by
  rw [dx, ← back_eq (xR_real X P Z T p f hR r.val) (dhead_real X P Z T p f hR r.val) l.val]
  simp only [← v76_at X P Z T p f r l]
  rw [← v65_at, ← v37_at X P Z p r 0, ← v29_at]
  pointwise [v80]

theorem v81_at (r : Fin 8192) (l : Fin 1024) : (v81 X P Z T p f (ix2 r l) : EReal) = dpn (xR X P Z p r.val) (at2 T r.val) (fR f) (at2 P r.val) l.val := by
  rw [dpn, ← v80_at X P Z T p f hR, ← v7_at, mul_comm]
  pointwise [v81]

theorem v87_at (r : Fin 8192) (l : Fin 1024) :
    (v87 X P Z T p f (ix2 r l) : EReal) = dpn (xR X P Z p r.val) (at2 T r.val) (fR f) (at2 P r.val) l.val * at2 p 0 l.val := by
  rw [← v81_at X P Z T p f hR, ← v25_at p 0]
  pointwise [v87]

theorem v98_at (r : Fin 8192) (l : Fin 1024) : (v98 X P Z T p f (ix2 r l) : EReal)
    = corr (at2 Z r.val) (fun l => dpn (xR X P Z p r.val) (at2 T r.val) (fR f) (at2 P r.val) l * at2 p 0 l) := by
  simp only [corr, ← v87_at X P Z T p f hR, ← v19_at Z r 0, ← v18_at Z r 0]
  simp only [← v1_at]
  pointwise [v98]
  rw [Fin.sum_univ_one]

/-- The embedding's gradient, read: the kernel's form. -/
theorem v106_at (r : Fin 8192) (l : Fin 1024) : (v106 X P Z T p f (ix2 r l) : EReal)
    = dz (xR X P Z p r.val) (at2 T r.val) (fR f) (at2 P r.val) (at2 Z r.val) (at2 p 0) l.val := by
  rw [dz, ← back_eq (hR.Z r.val) (dpn_real X P Z T p f hR r.val) l.val]
  simp only [← v98_at X P Z T p f hR r l]
  rw [← v87_at X P Z T p f hR, ← v19_at Z r 0, ← v1_at]
  pointwise [v106]

/-- The gate's input's gradient, read: the kernel's form. -/
theorem v105_at (r : Fin 8192) (l : Fin 1024) : (v105 X P Z T p f (ix2 r l) : EReal)
    = dpre (xR X P Z p r.val) (at2 T r.val) (fR f) (at2 P r.val) (at2 Z r.val) (at2 p 0) l.val := by
  rw [dpre, ← v80_at X P Z T p f hR, ← v27_at, ← v7_at, mul_assoc (_ * _)]
  pointwise [v105]

/-- The embedding's scale's gradient, read: the kernel's form. -/
theorem v103_at (z : Fin 1) (l : Fin 1024) : (v103 X P Z T p f (ix2 z l) : EReal)
    = ∑ r : Fin 8192, dpn (xR X P Z p r.val) (at2 T r.val) (fR f) (at2 P r.val) l.val * (at2 Z r.val l.val * nrm (at2 Z r.val)) := by
  simp only [← v81_at X P Z T p f hR, ← v24_at]
  pointwise [v103]
  rw [Fin.sum_univ_one]
  exact Fintype.sum_congr (M := EReal) _ _ fun r => mul_comm _ _

omit hR in
/-- The final scale's gradient, read: the kernel's form. -/
theorem v107_at (z : Fin 1) (l : Fin 1024) : (v107 X P Z T p f (ix2 z l) : EReal)
    = ∑ r : Fin 8192, dhead (xR X P Z p r.val) (at2 T r.val) (fR f) l.val * (xR X P Z p r.val l.val * nrm (xR X P Z p r.val)) := by
  simp only [← v60_at, ← v42_at]
  pointwise [v107]
  rw [Fin.sum_univ_one]
  exact Fintype.sum_congr (M := EReal) _ _ fun r => mul_comm _ _

/-- The loss, read: the kernel's partial sums, summed. -/
theorem v54_at (i : S_.Idx) : (v54 X P Z T p f i : EReal)
    = ∑ l : Fin 1024, ∑ b : Fin 16, (∑ k : Fin 512, err (xR X P Z p (512 * b.val + k.val)) (at2 T (512 * b.val + k.val)) (fR f) l.val
        * err (xR X P Z p (512 * b.val + k.val)) (at2 T (512 * b.val + k.val)) (fR f) l.val) * Ideal.ofBits .f32 0x3A000000#32 := by
  have h : (v54 X P Z T p f i : EReal) = Ideal.ofBits .f32 0x3F000000#32
      * ∑ r : Fin 8192, Ideal.div (∑ l : Fin 1024, err (xR X P Z p r.val) (at2 T r.val) (fR f) l.val * err (xR X P Z p r.val) (at2 T r.val) (fR f) l.val) (Ideal.ofBits .f32 0x44800000#32) := by
    simp only [← v46_at]
    pointwise [v54]
  rw [h]
  have hr := err_real X P Z T p f hR
  choose o ho using hr
  simp only [ho, Cert.Math.half_f32, NormMath.word_1024, word_2m11, Ideal.div_coe (show (1024 : ℝ) ≠ 0 by norm_num), ← EReal.coe_mul, PoolMath.coe_sum]
  refine congrArg (fun z : ℝ => (z : EReal)) ?_
  have s : ∀ l : Fin 1024, ∑ b : Fin 16, ∑ k : Fin 512, o (512 * b.val + k.val) l.val * o (512 * b.val + k.val) l.val = ∑ r : Fin 8192, o r.val l.val * o r.val l.val := by
    intro l
    have h := Fin.sum_univ_univ_mul_add 16 512 fun r => o r l.val * o r l.val
    simp only [Nat.mul_comm _ 512] at h
    exact h
  simp only [← Finset.sum_mul, s]
  rw [Finset.sum_comm]
  ring

end Cert.PleValue

namespace Cert.PleRun

open Cert.PleValue
open Cert.Kernel4Ideal Cert.Kernel4Ideal.Gen

variable (m : (ℓ : Loc nD τ sig) → Buf (Elt Ideal) ℓ) (ρ : Dev nD → PrngReg)

/-- The final scale as the kernel sees it: the preparing line reshapes it. -/
theorem entry_f (c : Dev nD) : fV m c = fR (m ((c : Thread nD τ).loc main_arg5)) := by
  refine congrArg (fun z => at2 (n := 1) (m := 1024) z 0) ?_
  show StableHlo.after hostOps0 _ _ = _
  after_results_simp <;> rfl

/-- The loss's partial sums, summed by the closing lines. -/
theorem tail_loss (c : Dev nD) : Pipeline.afterTail₀ cfgs (dats m) 0 (V0 m) [hostOps1] c main_v2
    = fun _ => ∑ l : Fin 1024, ∑ b : Fin 16, (∑ k : Fin 512, lossRow m c (512 * b.val + k.val) l.val) * Ideal.ofBits .f32 0x3A000000#32 := by
  have h9 : Pipeline.withArrays (cfgs 0).spec c (V0 m c) (fun w => (dats m 0 c).arrAt w (cfgs 0).N) (Proc.devRef .tc main_v1_3)
      = fun i : S1x1024.Idx => ∑ b : Fin 16, (∑ k : Fin 512, lossRow m c (512 * b.val + k.val) (i 1).val) * Ideal.ofBits .f32 0x3A000000#32 :=
    (Pipeline.withArrays_arr spec0 (by decide) c (V0 m c) (fun w => (dats m 0 c).arrAt w (cfgs 0).N) 9).trans (final9 m c)
  funext i
  show StableHlo.after hostOps1 _ _ _ = _
  after_results_simp
  rw [h9]
  pointwise []
  rw [Fin.sum_univ_one]

/-- The kernel runs and leaves these results. -/
theorem run4 : θ_run defs (onTc (τ := τ) (main (F := Ideal))) ⟨m, fun _ => 0, ρ⟩ (fun r => ∀ c : Dev nD,
      r.2.mem ((c.tc : Thread nD τ).loc main_v2) = Pipeline.afterTail₀ cfgs (dats m) 0 (V0 m) [hostOps1] c main_v2
      ∧ r.2.mem ((c.tc : Thread nD τ).loc main_v1_0) = (dats m 0 c).arrAt 6 cfg0.N
      ∧ r.2.mem ((c.tc : Thread nD τ).loc main_v1_1) = (dats m 0 c).arrAt 7 cfg0.N
      ∧ r.2.mem ((c.tc : Thread nD τ).loc main_v1_2) = (dats m 0 c).arrAt 8 cfg0.N
      ∧ r.2.mem ((c.tc : Thread nD τ).loc main_v1_5) = (dats m 0 c).arrAt 11 cfg0.N
      ∧ r.2.mem ((c.tc : Thread nD τ).loc main_v1_4) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v2 (Pipeline.mem_restRefs_of main_v2 (by decide) (by decide)),
      (h c).1 6, (h c).1 7, (h c).1 8, (h c).1 11, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩) (run_main m ρ)

/-- Under the precondition every argument is an array of real numbers. -/
theorem pre_real (X : FVec Ideal Cert.Reference4Ideal.S8192x1024 .f32) (P Z : FVec Ideal Cert.Reference4Ideal.S8192x1024 .bf16)
    (T : FVec Ideal Cert.Reference4Ideal.S8192x1024 .f32) (p : FVec Ideal Cert.Reference4Ideal.S1x1024 .f32) (f : FVec Ideal Cert.Reference4Ideal.S1024 .f32)
    (h : (Cert.Pre_finite4.fn (F := Ideal) X P Z T p f).1 = (fun _ => 1#1) ∧ (Cert.Pre_finite4.fn (F := Ideal) X P Z T p f).2.1 = (fun _ => 1#1)
      ∧ (Cert.Pre_finite4.fn (F := Ideal) X P Z T p f).2.2.1 = (fun _ => 1#1) ∧ (Cert.Pre_finite4.fn (F := Ideal) X P Z T p f).2.2.2.1 = (fun _ => 1#1)
      ∧ (Cert.Pre_finite4.fn (F := Ideal) X P Z T p f).2.2.2.2.1 = (fun _ => 1#1) ∧ (Cert.Pre_finite4.fn (F := Ideal) X P Z T p f).2.2.2.2.2 = (fun _ => 1#1)) :
    Reals X P Z T p f := by
  obtain ⟨x, hx⟩ := NormMath.at2_real X fun i => Cert.PoolRef.real_of_abs _ (Cert.PoolRef.below_top _ (congrFun h.1 i))
  obtain ⟨q, hq⟩ := NormMath.at2_real P fun i => Cert.PoolRef.real_of_abs _ (Cert.PoolRef.below_top _ (congrFun h.2.1 i))
  obtain ⟨z, hz⟩ := NormMath.at2_real Z fun i => Cert.PoolRef.real_of_abs _ (Cert.PoolRef.below_top _ (congrFun h.2.2.1 i))
  obtain ⟨t, ht⟩ := NormMath.at2_real T fun i => Cert.PoolRef.real_of_abs _ (Cert.PoolRef.below_top _ (congrFun h.2.2.2.1 i))
  obtain ⟨s, hs⟩ := NormMath.at2_real p fun i => Cert.PoolRef.real_of_abs _ (Cert.PoolRef.below_top _ (congrFun h.2.2.2.2.1 i))
  obtain ⟨g, hg⟩ := NormMath.at2_real (shapeCast Cert.Reference4Ideal.S1x1024 f Cert.Reference4Ideal.Gen.shapeCasts_S1024_S1x1024)
    fun i => Cert.PoolRef.real_of_abs _ (Cert.PoolRef.below_top _ (congrFun h.2.2.2.2.2 _))
  exact ⟨fun r l => ⟨_, hx r l⟩, fun r l => ⟨_, hq r l⟩, fun r l => ⟨_, hz r l⟩, fun r l => ⟨_, ht r l⟩, fun l => ⟨_, hs 0 l⟩, fun l => ⟨_, hg 0 l⟩⟩

end Cert.PleRun

namespace Cert.Proof

open Cert.PleValue Cert.PleRun

/-- This reference runs, leaves its arguments, and ends quiet. -/
theorem frameRef4 : Cert.quiescent_Reference4Ideal (hReference4Ideal := Cert.Reference4Ideal.Gen.facts) := by
  intro m g _
  exact (θ_run Cert.Reference4Ideal.defs _ _).mono
    (fun r h => ⟨fun c => (h c).2.2.2.2.2.2, sem_eq_zero_of_no_sems (by decide) r.2⟩)
    (Cert.Reference4Ideal.Value.run (F := Ideal) m g)

set_option maxHeartbeats 1000000 in
/-- From finite arguments this backward call returns what the transpose of the plain forward pass returns. -/
theorem algebraic4 : Cert.algebraic_Kernel4Ideal_Reference4Ideal_pre_finite4
    (hKernel4Ideal := Cert.Kernel4Ideal.Gen.facts) (hReference4Ideal := Cert.Reference4Ideal.Gen.facts) (hPre_finite4 := Cert.Pre_finite4.Gen.facts) := by
  intro m g m' g' hpre hagree
  refine ⟨_, _, _, _, _, _, run4 m g, ?_⟩
  refine (θ_run Cert.Reference4Ideal.defs _ _).mono (fun r h c => ?_) (Cert.Reference4Ideal.Value.run (F := Ideal) m' g')
  have hR := pre_real _ _ _ _ _ _ (hpre c)
  obtain ⟨h0, h1, h2, h3, h4, h5⟩ := hagree c
  rw [← h0, ← h1, ← h2, ← h3, ← h4, ← h5] at hR
  have ex : ∀ r, xV m c r = xR _ _ _ _ r := fun r => by rw [xV, pV, zV, sV, Cert.Kernel4Ideal.Gen.V_main_arg0, Cert.Kernel4Ideal.Gen.V_main_arg1, Cert.Kernel4Ideal.Gen.V_main_arg2, Cert.Kernel4Ideal.Gen.V_main_arg4, ← h0, ← h1, ← h2, ← h4]
  have ef : fV m c = _ := (entry_f m c).trans (by rw [← h5])
  have et : ∀ r, tV m c r = _ := fun r => by rw [tV, Cert.Kernel4Ideal.Gen.V_main_arg3, ← h3]
  have ep : ∀ r, pV m c r = _ := fun r => by rw [pV, Cert.Kernel4Ideal.Gen.V_main_arg1, ← h1]
  have ez : ∀ r, zV m c r = _ := fun r => by rw [zV, Cert.Kernel4Ideal.Gen.V_main_arg2, ← h2]
  have es : sV m c = at2 (n := 1) (m := 1024) (m' ((c : Thread Cert.Reference4Ideal.nD Cert.Reference4Ideal.τ).loc Cert.Reference4Ideal.main_arg4)) 0 := by rw [sV, Cert.Kernel4Ideal.Gen.V_main_arg4, ← h4]
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [tail_loss]
    simp only [lossRow, ex, et, ef]
    funext i
    exact v54_at _ _ _ _ _ _ hR i
  · rw [final6]
    simp only [ex, et, ef]
    funext i
    exact (congrArg (v80 _ _ _ _ _ _) (eq_ix2 i)).trans (v80_at _ _ _ _ _ _ hR (i 0) (i 1))
  · rw [final7]
    simp only [ex, et, ef, ep, ez, es]
    funext i
    exact (congrArg (v105 _ _ _ _ _ _) (eq_ix2 i)).trans (v105_at _ _ _ _ _ _ hR (i 0) (i 1))
  · rw [final8]
    simp only [ex, et, ef, ep, ez, es]
    funext i
    exact (congrArg (v106 _ _ _ _ _ _) (eq_ix2 i)).trans (v106_at _ _ _ _ _ _ hR (i 0) (i 1))
  · rw [final11]
    simp only [postRow, ex, et, ef, ep, ez]
    funext i
    exact (congrArg (v103 _ _ _ _ _ _) (eq_ix2 i)).trans (v103_at _ _ _ _ _ _ hR (i 0) (i 1))
  · rw [final10]
    simp only [finRow, ex, et, ef]
    funext i
    exact (congrArg (v107 _ _ _ _ _ _) (eq_ix2 i)).trans (v107_at _ _ _ _ _ _ (i 0) (i 1))

end Cert.Proof
end
-- ==== Proof.PleNorm.lean ====
/-
# The per-layer embedding's norm backward: the kernel's values
-/
module

public import proofs.«01_k».proof.Proof.Gen.Kernel5Ideal.Value
public import proofs.«01_k».proof.Proof.RmsNorm

@[expose] public section

set_option maxRecDepth 16384

noncomputable section

open Idealize.ShloMosaic Idealize.ShloMosaic.TcCoe Idealize.SL.Sem
open Idealize.ShloMosaic.Pipeline (Dat)
open Cert.PoolValue (at2)
open Cert.RmsNorm

namespace Cert.PleNorm

open Cert.Kernel5Ideal Cert.Kernel5Ideal.Gen

variable (m : (ℓ : Loc nD τ sig) → Buf (Elt Ideal) ℓ)

/-- The gradient leaving the product: rows of `D` against rows of `W`. -/
def prod (D W : ℕ → ℕ → EReal) (r l : ℕ) : EReal := ∑ k : Fin 1024, D r k.val * W l k.val

/-- The block's product. -/
theorem pay3_at (D W : FVec Ideal S1024x1024 .bf16) (x0 x1 : Fin 1024) :
    (k0_pay3 (F := Ideal) D W (ix2 x0 x1) : EReal) = prod (at2 D) (at2 W) x0.val x1.val := by
  simp only [prod, at2_of]
  pointwise [k0_pay3]

/-- The reciprocal root mean squares of a block. -/
theorem pay4_at (X : FVec Ideal S1024x1024 .f32) (x0 : Fin 1024) (z : Fin 1) :
    (k0_pay4 (F := Ideal) X (ix2 x0 z) : EReal) = rW (at2 X) x0.val := by
  simp only [rW, rm, at2_of]
  pointwise [k0_pay4]

/-- The block's gradient of the norm's input. -/
theorem pay6_at (D W : FVec Ideal S1024x1024 .bf16) (X E : FVec Ideal S1024x1024 .f32) (G : FVec Ideal S1x1024 .f32) (x0 x1 : Fin 1024) :
    (k0_pay6 (F := Ideal) D W X G E (ix2 x0 x1) : EReal) = dxA (prod (at2 D) (at2 W)) (at2 X) (at2 E) (at2 G 0) x0.val x1.val := by
  simp only [dxA, rm, ← pay3_at, ← pay4_at X _ 0, at2_of, show ∀ l : Fin 1024, at2 G 0 l.val = G (ix2 0 l) from at2_of G 0]
  pointwise [k0_pay6, k0_pay5]

/-- The half of it. -/
theorem pay7_at (D W : FVec Ideal S1024x1024 .bf16) (X E : FVec Ideal S1024x1024 .f32) (G : FVec Ideal S1x1024 .f32) (x0 x1 : Fin 1024) :
    (k0_pay7 (F := Ideal) D W X G E (ix2 x0 x1) : EReal)
      = dxA (prod (at2 D) (at2 W)) (at2 X) (at2 E) (at2 G 0) x0.val x1.val * Ideal.ofBits .f32 0x3F000000#32 := by
  rw [← pay6_at]
  pointwise [k0_pay7]

/-- The accumulator after a block. -/
theorem pay2_at (D W : FVec Ideal S1024x1024 .bf16) (X : FVec Ideal S1024x1024 .f32) (A : FVec Ideal S1x1024 .f32) (x0 : Fin 1) (x1 : Fin 1024) :
    (k0_pay2 (F := Ideal) (k0_pay8 D W X) A (ix2 x0 x1) : EReal) = A (ix2 x0 x1) + ∑ r : Fin 1024, dgA (prod (at2 D) (at2 W)) (at2 X) r.val x1.val := by
  simp only [dgA, ← pay3_at, ← pay4_at X _ 0, at2_of]
  pointwise [k0_pay2, k0_pay8, k0_pay5]

/-- Which block each window shows at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

/-- A row of the incoming gradient's block. -/
theorem row0 (c : Dev nD) (t : Fin cfg0.N) (r : ℕ) (hr : r < 1024) :
    at2 (n := 1024) (m := 1024) (iblk m c 0 t) r = at2 (n := 8192) (m := 1024) (V m c main_arg0) (1024 * t.val + r) :=
  row_of _ _ _ _ hr (by have := lt_of_lt_of_eq t.isLt N_0; omega) fun x0 x1 => by blk_point [iblk, idx t]

/-- The weights. -/
theorem row1 (c : Dev nD) (t : Fin cfg0.N) :
    at2 (n := 1024) (m := 1024) (iblk m c 1 t) = at2 (n := 1024) (m := 1024) (V m c main_v1) :=
  congrArg at2 (funext fun z => by blk_point [iblk, idx t])

/-- A row of the norm's input's block. -/
theorem row2 (c : Dev nD) (t : Fin cfg0.N) (r : ℕ) (hr : r < 1024) :
    at2 (n := 1024) (m := 1024) (iblk m c 2 t) r = at2 (n := 8192) (m := 1024) (V m c main_arg2) (1024 * t.val + r) :=
  row_of _ _ _ _ hr (by have := lt_of_lt_of_eq t.isLt N_0; omega) fun x0 x1 => by blk_point [iblk, idx t]

/-- A row of the residual's gradient's block. -/
theorem row3 (c : Dev nD) (t : Fin cfg0.N) (r : ℕ) (hr : r < 1024) :
    at2 (n := 1024) (m := 1024) (iblk m c 3 t) r = at2 (n := 8192) (m := 1024) (V m c main_arg3) (1024 * t.val + r) :=
  row_of _ _ _ _ hr (by have := lt_of_lt_of_eq t.isLt N_0; omega) fun x0 x1 => by blk_point [iblk, idx t]

/-- The scale. -/
theorem row4 (c : Dev nD) (t : Fin cfg0.N) :
    at2 (n := 1) (m := 1024) (iblk m c 4 t) = at2 (n := 1) (m := 1024) (V m c main_arg4) :=
  congrArg at2 (funext fun z => by blk_point [iblk, idx t])

/-- The gradient leaving the product, over the whole arrays. -/
abbrev hh (c : Dev nD) : ℕ → ℕ → EReal := prod (at2 (n := 8192) (m := 1024) (V m c main_arg0)) (at2 (n := 1024) (m := 1024) (V m c main_v1))

/-- The gradient of the norm's input, over the whole arrays. -/
abbrev dx (c : Dev nD) : ℕ → ℕ → EReal :=
  dxA (hh m c) (at2 (n := 8192) (m := 1024) (V m c main_arg2)) (at2 (n := 8192) (m := 1024) (V m c main_arg3)) (at2 (n := 1) (m := 1024) (V m c main_arg4) 0)

/-- The block's gradient of the norm's input is its rows of the whole one. -/
theorem blockDx (c : Dev nD) (t : Fin cfg0.N) (r l : ℕ) (hr : r < 1024) :
    dxA (prod (at2 (n := 1024) (m := 1024) (iblk m c 0 t)) (at2 (n := 1024) (m := 1024) (iblk m c 1 t))) (at2 (n := 1024) (m := 1024) (iblk m c 2 t))
      (at2 (n := 1024) (m := 1024) (iblk m c 3 t)) (at2 (n := 1) (m := 1024) (iblk m c 4 t) 0) r l = dx m c (1024 * t.val + r) l := by
  simp only [dx, hh, dxA, rW, rm, prod, row0 m c t r hr, row1, row2 m c t r hr, row3 m c t r hr, row4]

/-- What the body leaves in the block of the gradient of the norm's input. -/
theorem out5 (c : Dev nD) (t : Fin cfg0.N) (x0 x1 : Fin 1024) :
    ((outsAt0 m c t.val t.isLt).1 (ix2 x0 x1) : EReal) = dx m c (1024 * t.val + x0.val) x1.val := by
  rw [← blockDx m c t _ _ x0.isLt]
  by_cases h0 : t.val % 8 = 0
  · rw [outsAt0_A m c t h0]
    frame_out
    exact pay6_at _ _ _ _ _ _ _
  · rw [outsAt0_B m c t h0]
    frame_out
    exact pay6_at _ _ _ _ _ _ _

/-- What the body leaves in the block of its half. -/
theorem out6 (c : Dev nD) (t : Fin cfg0.N) (x0 x1 : Fin 1024) :
    ((outsAt0 m c t.val t.isLt).2.1 (ix2 x0 x1) : EReal) = dx m c (1024 * t.val + x0.val) x1.val * Ideal.ofBits .f32 0x3F000000#32 := by
  rw [← blockDx m c t _ _ x0.isLt]
  by_cases h0 : t.val % 8 = 0
  · rw [outsAt0_A m c t h0]
    dsimp only
    frame_out
    exact pay7_at _ _ _ _ _ _ _
  · rw [outsAt0_B m c t h0]
    dsimp only
    frame_out
    exact pay7_at _ _ _ _ _ _ _

/-- What a point adds to the accumulated gradient of the norm's scale. -/
theorem step7 (c : Dev nD) (t : Fin cfg0.N) (y : S1x1024.Idx) (A : EReal)
    (hc : (t.val % 8 = 0 ∧ A = 0) ∨ (¬ t.val % 8 = 0 ∧ A = (outsAt0 m c (t.val - 1) (Nat.lt_of_le_of_lt (Nat.sub_le _ _) t.isLt)).2.2 y)) :
    ((outsAt0 m c t.val t.isLt).2.2 y : EReal)
      = A + ∑ k : Fin 1024, dgA (hh m c) (at2 (n := 8192) (m := 1024) (V m c main_arg2)) (1024 * t.val + k.val) (y 1).val := by
  have e : (∑ k : Fin 1024, dgA (prod (at2 (n := 1024) (m := 1024) (iblk m c 0 t)) (at2 (n := 1024) (m := 1024) (iblk m c 1 t))) (at2 (n := 1024) (m := 1024) (iblk m c 2 t)) k.val (y 1).val : EReal)
      = ∑ k : Fin 1024, dgA (hh m c) (at2 (n := 8192) (m := 1024) (V m c main_arg2)) (1024 * t.val + k.val) (y 1).val :=
    Fintype.sum_congr (M := EReal) _ _ fun k => by
      simp only [hh, dgA, rW, rm, prod, row0 m c t _ k.isLt, row1, row2 m c t _ k.isLt]
  rw [← e]
  obtain ⟨x0, x1, rfl⟩ : ∃ (x0 : Fin 1) (x1 : Fin 1024), y = ix2 x0 x1 := ⟨y 0, y 1, eq_ix2 y⟩
  rcases hc with ⟨h0, rfl⟩ | ⟨h0, rfl⟩
  · rw [outsAt0_A m c t h0]
    dsimp only
    frame_open
    simp (disch := decide) only [↓ View.readCov_skip, ↓ View.readCov_cons_toLoadRect, ↓ View.readCov_fill]
    frame_out
    refine (pay2_at (iblk m c 0 t) (iblk m c 1 t) (iblk m c 2 t) _ x0 x1).trans ?_
    refine congrArg (· + _) ?_
    pointwise [k0_pay1]
  · rw [outsAt0_B m c t h0]
    dsimp only
    frame_out
    exact pay2_at (iblk m c 0 t) (iblk m c 1 t) (iblk m c 2 t) _ x0 x1

/-- The gradient of the norm's input as the kernel leaves it. -/
theorem final5 (c : Dev nD) : ((dats m 0 c).arrAt 5 cfg0.N : S8192x1024.Idx → Elt Ideal _) = fun i => dx m c (i 0).val (i 1).val := by
  refine (dats m 0 c).arrAt_eq_of_covers 5 _ (by decide +kernel) fun t _ y => ?_
  blk_simp
  rw [after0_5]
  refine (congrArg (outsAt0 m c t.val t.isLt).1 (eq_ix2 y)).trans ((out5 m c t (y 0) (y 1)).trans ?_)
  refine congrArg₂ (dx m c) ?_ ?_
  · blk_point [idx t]
    exact Nat.mul_comm _ _
  · blk_point [idx t]

/-- Its half as the kernel leaves it. -/
theorem final6 (c : Dev nD) : ((dats m 0 c).arrAt 6 cfg0.N : S8192x1024.Idx → Elt Ideal _)
    = fun i => dx m c (i 0).val (i 1).val * Ideal.ofBits .f32 0x3F000000#32 := by
  refine (dats m 0 c).arrAt_eq_of_covers 6 _ (by decide +kernel) fun t _ y => ?_
  blk_simp
  rw [after0_6]
  refine (congrArg (outsAt0 m c t.val t.isLt).2.1 (eq_ix2 y)).trans ((out6 m c t (y 0) (y 1)).trans ?_)
  refine congrArg₂ (fun r l => dx m c r l * _) ?_ ?_
  · blk_point [idx t]
    exact Nat.mul_comm _ _
  · blk_point [idx t]

/-- The last grid point. -/
abbrev tLast : Fin cfg0.N := ⟨7, by decide +kernel⟩

/-- The gradient of the norm's scale as the kernel leaves it. -/
theorem final7 (c : Dev nD) : ((dats m 0 c).arrAt 7 cfg0.N : S1x1024.Idx → Elt Ideal _)
    = fun i => ∑ r : Fin 8192, dgA (hh m c) (at2 (n := 8192) (m := 1024) (V m c main_arg2)) r.val (i 1).val := by
  refine (dats m 0 c).arrAt_eq_of_after_last 7 tLast (by decide +kernel) _ fun j => ?_
  rw [after0_7, Pipeline.eq_sum_fin_of_reset_step_apply_last (fun n h => (outsAt0 m c n h).2.2) 8 (fun _ => 0)
    (fun t j => ∑ k : Fin 1024, dgA (hh m c) (at2 (n := 8192) (m := 1024) (V m c main_arg2)) (1024 * t.val + k.val) (j 1).val)
    (fun t h y => step7 m c t y 0 (.inl ⟨h, rfl⟩)) (fun t h y => step7 m c t y _ (.inr ⟨h, rfl⟩)) (le_of_eq N_0) tLast rfl]
  rw [zero_add]
  exact Cert.PoolValue.sum_blocks fun r => dgA (hh m c) (at2 (n := 8192) (m := 1024) (V m c main_arg2)) r (j 1).val

end Cert.PleNorm
end
-- ==== Proof.PleNormEq.lean ====
/-
# The per-layer embedding's norm backward: the reference, and the equation
-/
module

public import proofs.«01_k».proof.Proof.Gen.Reference5Ideal.Run
public import proofs.«01_k».proof.Proof.Gen.Pre_finite5
public import proofs.«01_k».proof.Proof.PleNorm

@[expose] public section

set_option maxRecDepth 16384

noncomputable section

open Idealize.ShloMosaic Idealize.ShloMosaic.TcCoe Idealize.SL.Sem
open Cert.PoolValue (at2)
open Cert.RmsNorm

namespace Cert.PleNorm

/-- The weights as a matrix. -/
def wMat (w : FVec Ideal Cert.Reference5Ideal.S1x1024x1024 .f32) : FVec Ideal Cert.Reference5Ideal.S1024x1024 .f32 :=
  shapeCast _ w Cert.Reference5Ideal.Gen.shapeCasts_S1x1024x1024_S1024x1024

/-- The reference's gradient that enters the norm. -/
def refH (D : FVec Ideal Cert.Reference5Ideal.S8192x1024 .bf16) (w : FVec Ideal Cert.Reference5Ideal.S1x1024x1024 .f32) : FVec Ideal Cert.Reference5Ideal.S8192x1024 .f32 :=
  Host.dotGeneral Cert.Reference5Ideal.dot_S8192x1024_S1024x1024_S8192x1024_1_1_0_0_n_n none (extf .f32 D Cert.Reference5Ideal.Gen.bitsLt_bf16_f32) (wMat w)

/-- That gradient, read. -/
theorem refH_at (D : FVec Ideal Cert.Reference5Ideal.S8192x1024 .bf16) (w : FVec Ideal Cert.Reference5Ideal.S1x1024x1024 .f32) (r : Fin 8192) (l : Fin 1024) :
    (refH D w (ix2 r l) : EReal) = prod (at2 D) (at2 (wMat w)) r.val l.val := by
  simp only [prod, at2_of]
  pointwise [refH]

/-- The reference's gradient of the norm's input, from real arguments. -/
theorem ref_dx (D : FVec Ideal Cert.Reference5Ideal.S8192x1024 .bf16) (w : FVec Ideal Cert.Reference5Ideal.S1x1024x1024 .f32)
    (X E : FVec Ideal Cert.Reference5Ideal.S8192x1024 .f32) (G : FVec Ideal Cert.Reference5Ideal.S1x1024 .f32)
    (r0 : ∃ o : ℕ → ℕ → ℝ, ∀ r l, at2 D r l = (o r l : EReal)) (r1 : ∃ o : ℕ → ℕ → ℝ, ∀ r l, at2 (wMat w) r l = (o r l : EReal))
    (r2 : ∃ o : ℕ → ℕ → ℝ, ∀ r l, at2 X r l = (o r l : EReal)) (r4 : ∃ o : ℕ → ℕ → ℝ, ∀ r l, at2 G r l = (o r l : EReal)) :
    refDx (refH D w) X E G = fun i => dxA (prod (at2 D) (at2 (wMat w))) (at2 X) (at2 E) (at2 G 0) (i 0).val (i 1).val :=
  dx_eq (refH D w) X E G (prod (at2 D) (at2 (wMat w))) (refH_at D w) (dot_real (at2 D) (at2 (wMat w)) 1024 r0 r1) r2 r4

/-- The weights as the kernel sees them: the preparing lines reshape them and round them to the narrow format. -/
theorem entry_w (m : (ℓ : Loc Cert.Kernel5Ideal.nD Cert.Kernel5Ideal.τ Cert.Kernel5Ideal.sig) → Buf (Elt Ideal) ℓ) (c : Dev Cert.Kernel5Ideal.nD) :
    at2 (n := 1024) (m := 1024) (Cert.Kernel5Ideal.Gen.V m c Cert.Kernel5Ideal.main_v1)
      = at2 (wMat (m ((c : Thread Cert.Kernel5Ideal.nD Cert.Kernel5Ideal.τ).loc Cert.Kernel5Ideal.main_arg1))) := by
  refine congrArg (at2 (n := 1024) (m := 1024)) ?_
  show StableHlo.after Cert.Kernel5Ideal.Gen.hostOps0 _ _ = _
  after_results_simp <;> rfl

/-- Under the precondition every argument is an array of real numbers. -/
theorem pre_real (a0 : FVec Ideal Cert.Reference5Ideal.S8192x1024 .bf16) (a1 : FVec Ideal Cert.Reference5Ideal.S1x1024x1024 .f32)
    (a2 a3 : FVec Ideal Cert.Reference5Ideal.S8192x1024 .f32) (a4 : FVec Ideal Cert.Reference5Ideal.S1x1024 .f32)
    (h : (Cert.Pre_finite5.fn (F := Ideal) a0 a1 a2 a3 a4).1 = (fun _ => 1#1) ∧ (Cert.Pre_finite5.fn (F := Ideal) a0 a1 a2 a3 a4).2.1 = (fun _ => 1#1)
      ∧ (Cert.Pre_finite5.fn (F := Ideal) a0 a1 a2 a3 a4).2.2.1 = (fun _ => 1#1) ∧ (Cert.Pre_finite5.fn (F := Ideal) a0 a1 a2 a3 a4).2.2.2.1 = (fun _ => 1#1)
      ∧ (Cert.Pre_finite5.fn (F := Ideal) a0 a1 a2 a3 a4).2.2.2.2 = (fun _ => 1#1)) :
    (∃ o : ℕ → ℕ → ℝ, ∀ r l, at2 a0 r l = (o r l : EReal)) ∧ (∃ o : ℕ → ℕ → ℝ, ∀ r l, at2 (wMat a1) r l = (o r l : EReal))
      ∧ (∃ o : ℕ → ℕ → ℝ, ∀ r l, at2 a2 r l = (o r l : EReal)) ∧ (∃ o : ℕ → ℕ → ℝ, ∀ r l, at2 a4 r l = (o r l : EReal)) :=
  ⟨NormMath.at2_real _ fun i => Cert.PoolRef.real_of_abs _ (Cert.PoolRef.below_top _ (congrFun h.1 i)),
    NormMath.at2_real _ fun i => Cert.PoolRef.real_of_abs _ (Cert.PoolRef.below_top _ (congrFun h.2.1 _)),
    NormMath.at2_real _ fun i => Cert.PoolRef.real_of_abs _ (Cert.PoolRef.below_top _ (congrFun h.2.2.1 i)),
    NormMath.at2_real _ fun i => Cert.PoolRef.real_of_abs _ (Cert.PoolRef.below_top _ (congrFun h.2.2.2.2 i))⟩

end Cert.PleNorm

namespace Cert.Proof

open Cert.PleNorm

/-- This norm's reference runs, leaves its arguments, and ends quiet. -/
theorem frameRef5 : Cert.quiescent_Reference5Ideal (hReference5Ideal := Cert.Reference5Ideal.Gen.facts) := by
  intro m g _
  exact (θ_run Cert.Reference5Ideal.defs _ _).mono
    (fun r h => ⟨fun c => (h c).2.2.2, sem_eq_zero_of_no_sems (by decide) r.2⟩)
    (Cert.Reference5Ideal.Value.run (F := Ideal) m g)

/-- From finite arguments this norm's backward call returns what the transpose of the plain forward pass returns. -/
theorem algebraic5 : Cert.algebraic_Kernel5Ideal_Reference5Ideal_pre_finite5
    (hKernel5Ideal := Cert.Kernel5Ideal.Gen.facts) (hReference5Ideal := Cert.Reference5Ideal.Gen.facts) (hPre_finite5 := Cert.Pre_finite5.Gen.facts) := by
  pair_intro
  · run_from Cert.Kernel5Ideal.Gen.run_main m g
  · run_from Cert.Reference5Ideal.Value.run m' g'
    all_goals
      have h0 := (hagree c).1
      have h1 := (hagree c).2.1
      have h2 := (hagree c).2.2.1
      have h3 := (hagree c).2.2.2.1
      have h4 := (hagree c).2.2.2.2
      obtain ⟨r0, r1, r2, r4⟩ := pre_real _ _ _ _ _ (hpre c)
      rw [← h0] at r0
      rw [← h1] at r1
      rw [← h2] at r2
      rw [← h4] at r4
      have hD := ref_dx _ _ _ (m' ((c : Thread Cert.Reference5Ideal.nD Cert.Reference5Ideal.τ).loc Cert.Reference5Ideal.main_arg3)) _ r0 r1 r2 r4
    · refine Eq.trans ?_ (final5 m c).symm
      rw [dx, hh, entry_w, Cert.Kernel5Ideal.Gen.V_main_arg0, Cert.Kernel5Ideal.Gen.V_main_arg2, Cert.Kernel5Ideal.Gen.V_main_arg3, Cert.Kernel5Ideal.Gen.V_main_arg4,
        ← h0, ← h1, ← h2, ← h3, ← h4]
      exact hD
    · refine Eq.trans ?_ (final6 m c).symm
      rw [dx, hh, entry_w, Cert.Kernel5Ideal.Gen.V_main_arg0, Cert.Kernel5Ideal.Gen.V_main_arg2, Cert.Kernel5Ideal.Gen.V_main_arg3, Cert.Kernel5Ideal.Gen.V_main_arg4,
        ← h0, ← h1, ← h2, ← h3, ← h4]
      funext i
      exact (refHalf_at _ i).trans (congrArg (fun z : EReal => z * (_ : EReal)) (congrFun hD i))
    · refine Eq.trans ?_ (final7 m c).symm
      rw [hh, entry_w, Cert.Kernel5Ideal.Gen.V_main_arg0, Cert.Kernel5Ideal.Gen.V_main_arg2, ← h0, ← h1, ← h2]
      exact dg_eq (refH _ _) _ _ (refH_at _ _)

end Cert.Proof
end
-- ==== Proof.FfnNorm.lean ====
/-
# The feed-forward's norm backward: the kernel's values
-/
module

public import proofs.«01_k».proof.Proof.Gen.Kernel6Ideal.Value
public import proofs.«01_k».proof.Proof.RmsNorm

@[expose] public section

set_option maxRecDepth 16384

noncomputable section

open Idealize.ShloMosaic Idealize.ShloMosaic.TcCoe Idealize.SL.Sem
open Idealize.ShloMosaic.Pipeline (Dat)
open Cert.PoolValue (at2)
open Cert.RmsNorm

namespace Cert.FfnNorm

open Cert.Kernel6Ideal Cert.Kernel6Ideal.Gen

variable (m : (ℓ : Loc nD τ sig) → Buf (Elt Ideal) ℓ)

/-- The gradient leaving the two products: rows of each gradient against rows of its weights. -/
def prods (D W D' W' : ℕ → ℕ → EReal) (r l : ℕ) : EReal := (∑ k : Fin 2816, D r k.val * W l k.val) + ∑ k : Fin 2816, D' r k.val * W' l k.val

/-- The block's products. -/
theorem pay4_at (D D' : FVec Ideal S512x2816 .bf16) (W W' : FVec Ideal S2816x1024 .bf16) (x0 : Fin 512) (x1 : Fin 1024) :
    (k0_pay4 (F := Ideal) D W D' W' (ix2 x0 x1) : EReal) = prods (at2 D) (fun l k => at2 W k l) (at2 D') (fun l k => at2 W' k l) x0.val x1.val := by
  simp only [prods, at2_of]
  pointwise [k0_pay4]

/-- The reciprocal root mean squares of a block. -/
theorem pay5_at (X : FVec Ideal S512x1024 .f32) (x0 : Fin 512) (z : Fin 1) :
    (k0_pay5 (F := Ideal) X (ix2 x0 z) : EReal) = rW (at2 X) x0.val := by
  simp only [rW, rm, at2_of]
  pointwise [k0_pay5]

/-- The block's gradient of the norm's input. -/
theorem pay7_at (D D' : FVec Ideal S512x2816 .bf16) (W W' : FVec Ideal S2816x1024 .bf16) (X E : FVec Ideal S512x1024 .f32) (G : FVec Ideal S1x1024 .f32)
    (x0 : Fin 512) (x1 : Fin 1024) :
    (k0_pay7 (F := Ideal) D W D' W' X G E (ix2 x0 x1) : EReal)
      = dxA (prods (at2 D) (fun l k => at2 W k l) (at2 D') (fun l k => at2 W' k l)) (at2 X) (at2 E) (at2 G 0) x0.val x1.val := by
  simp only [dxA, rm, ← pay4_at, ← pay5_at X _ 0, at2_of, show ∀ l : Fin 1024, at2 G 0 l.val = G (ix2 0 l) from at2_of G 0]
  pointwise [k0_pay7, k0_pay6]

/-- Its copy in the narrow format. -/
theorem pay1_at (D D' : FVec Ideal S512x2816 .bf16) (W W' : FVec Ideal S2816x1024 .bf16) (X E : FVec Ideal S512x1024 .f32) (G : FVec Ideal S1x1024 .f32)
    (x0 : Fin 512) (x1 : Fin 1024) :
    (k0_pay1 (F := Ideal) (k0_pay7 D W D' W' X G E) (ix2 x0 x1) : EReal)
      = dxA (prods (at2 D) (fun l k => at2 W k l) (at2 D') (fun l k => at2 W' k l)) (at2 X) (at2 E) (at2 G 0) x0.val x1.val := by
  rw [← pay7_at]
  refine Eq.trans ?_ (mul_one _)
  refine Eq.trans ?_ (congrArg (fun z : EReal => (_ : EReal) * z) Ideal.ofBits_one_f32)
  pointwise [k0_pay1]

/-- The accumulator after a block. -/
theorem pay3_at (D D' : FVec Ideal S512x2816 .bf16) (W W' : FVec Ideal S2816x1024 .bf16) (X : FVec Ideal S512x1024 .f32) (A : FVec Ideal S1x1024 .f32)
    (x0 : Fin 1) (x1 : Fin 1024) :
    (k0_pay3 (F := Ideal) (k0_pay4 D W D' W') (k0_pay6 X) A (ix2 x0 x1) : EReal)
      = A (ix2 x0 x1) + ∑ r : Fin 512, dgA (prods (at2 D) (fun l k => at2 W k l) (at2 D') (fun l k => at2 W' k l)) (at2 X) r.val x1.val := by
  simp only [dgA, ← pay4_at, ← pay5_at X _ 0, at2_of]
  pointwise [k0_pay3, k0_pay6]

/-- Which block each window shows at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

/-- A row of the first gradient's block. -/
theorem row0 (c : Dev nD) (t : Fin cfg0.N) (r : ℕ) (hr : r < 512) :
    at2 (n := 512) (m := 2816) (iblk m c 0 t) r = at2 (n := 8192) (m := 2816) (V m c main_arg0) (512 * t.val + r) :=
  row_of _ _ _ _ hr (by have := lt_of_lt_of_eq t.isLt N_0; omega) fun x0 x1 => by blk_point [iblk, idx t]

/-- The first weights. -/
theorem row1 (c : Dev nD) (t : Fin cfg0.N) : at2 (n := 2816) (m := 1024) (iblk m c 1 t) = at2 (n := 2816) (m := 1024) (V m c main_v2) :=
  congrArg at2 (funext fun z => by blk_point [iblk, idx t])

/-- A row of the second gradient's block. -/
theorem row2 (c : Dev nD) (t : Fin cfg0.N) (r : ℕ) (hr : r < 512) :
    at2 (n := 512) (m := 2816) (iblk m c 2 t) r = at2 (n := 8192) (m := 2816) (V m c main_arg1) (512 * t.val + r) :=
  row_of _ _ _ _ hr (by have := lt_of_lt_of_eq t.isLt N_0; omega) fun x0 x1 => by blk_point [iblk, idx t]

/-- The second weights. -/
theorem row3 (c : Dev nD) (t : Fin cfg0.N) : at2 (n := 2816) (m := 1024) (iblk m c 3 t) = at2 (n := 2816) (m := 1024) (V m c main_v5) :=
  congrArg at2 (funext fun z => by blk_point [iblk, idx t])

/-- A row of the norm's input's block. -/
theorem row4 (c : Dev nD) (t : Fin cfg0.N) (r : ℕ) (hr : r < 512) :
    at2 (n := 512) (m := 1024) (iblk m c 4 t) r = at2 (n := 8192) (m := 1024) (V m c main_arg4) (512 * t.val + r) :=
  row_of _ _ _ _ hr (by have := lt_of_lt_of_eq t.isLt N_0; omega) fun x0 x1 => by blk_point [iblk, idx t]

/-- A row of the residual's gradient's block. -/
theorem row5 (c : Dev nD) (t : Fin cfg0.N) (r : ℕ) (hr : r < 512) :
    at2 (n := 512) (m := 1024) (iblk m c 5 t) r = at2 (n := 8192) (m := 1024) (V m c main_arg5) (512 * t.val + r) :=
  row_of _ _ _ _ hr (by have := lt_of_lt_of_eq t.isLt N_0; omega) fun x0 x1 => by blk_point [iblk, idx t]

/-- The scale. -/
theorem row6 (c : Dev nD) (t : Fin cfg0.N) : at2 (n := 1) (m := 1024) (iblk m c 6 t) = at2 (n := 1) (m := 1024) (V m c main_arg6) :=
  congrArg at2 (funext fun z => by blk_point [iblk, idx t])

/-- The gradient leaving the products, over the whole arrays. -/
abbrev hh (c : Dev nD) : ℕ → ℕ → EReal :=
  prods (at2 (n := 8192) (m := 2816) (V m c main_arg0)) (fun l k => at2 (n := 2816) (m := 1024) (V m c main_v2) k l)
    (at2 (n := 8192) (m := 2816) (V m c main_arg1)) (fun l k => at2 (n := 2816) (m := 1024) (V m c main_v5) k l)

/-- That gradient over a block. -/
abbrev hb (c : Dev nD) (t : Fin cfg0.N) : ℕ → ℕ → EReal :=
  prods (at2 (n := 512) (m := 2816) (iblk m c 0 t)) (fun l k => at2 (n := 2816) (m := 1024) (iblk m c 1 t) k l)
    (at2 (n := 512) (m := 2816) (iblk m c 2 t)) (fun l k => at2 (n := 2816) (m := 1024) (iblk m c 3 t) k l)

/-- The gradient of the norm's input, over the whole arrays. -/
abbrev dx (c : Dev nD) : ℕ → ℕ → EReal :=
  dxA (hh m c) (at2 (n := 8192) (m := 1024) (V m c main_arg4)) (at2 (n := 8192) (m := 1024) (V m c main_arg5)) (at2 (n := 1) (m := 1024) (V m c main_arg6) 0)

/-- The block's gradient of the norm's input is its rows of the whole one. -/
theorem blockDx (c : Dev nD) (t : Fin cfg0.N) (r l : ℕ) (hr : r < 512) :
    dxA (hb m c t) (at2 (n := 512) (m := 1024) (iblk m c 4 t)) (at2 (n := 512) (m := 1024) (iblk m c 5 t)) (at2 (n := 1) (m := 1024) (iblk m c 6 t) 0) r l
      = dx m c (512 * t.val + r) l := by
  simp only [dx, hh, hb, dxA, rW, rm, prods, row0 m c t r hr, row1, row2 m c t r hr, row3, row4 m c t r hr, row5 m c t r hr, row6]

/-- What the body leaves in the block of the gradient of the norm's input. -/
theorem out7 (c : Dev nD) (t : Fin cfg0.N) (x0 : Fin 512) (x1 : Fin 1024) :
    ((outsAt0 m c t.val t.isLt).1 (ix2 x0 x1) : EReal) = dx m c (512 * t.val + x0.val) x1.val := by
  rw [← blockDx m c t _ _ x0.isLt]
  by_cases h0 : t.val % 16 = 0
  · rw [outsAt0_A m c t h0]
    frame_out
    exact pay7_at (iblk m c 0 t) (iblk m c 2 t) (iblk m c 1 t) (iblk m c 3 t) _ _ _ _ _
  · rw [outsAt0_B m c t h0]
    frame_out
    exact pay7_at (iblk m c 0 t) (iblk m c 2 t) (iblk m c 1 t) (iblk m c 3 t) _ _ _ _ _

/-- What the body leaves in the block of its copy. -/
theorem out8 (c : Dev nD) (t : Fin cfg0.N) (x0 : Fin 512) (x1 : Fin 1024) :
    ((outsAt0 m c t.val t.isLt).2.1 (ix2 x0 x1) : EReal) = dx m c (512 * t.val + x0.val) x1.val := by
  rw [← blockDx m c t _ _ x0.isLt]
  by_cases h0 : t.val % 16 = 0
  · rw [outsAt0_A m c t h0]
    dsimp only
    frame_out
    exact pay1_at (iblk m c 0 t) (iblk m c 2 t) (iblk m c 1 t) (iblk m c 3 t) _ _ _ _ _
  · rw [outsAt0_B m c t h0]
    dsimp only
    frame_out
    exact pay1_at (iblk m c 0 t) (iblk m c 2 t) (iblk m c 1 t) (iblk m c 3 t) _ _ _ _ _

/-- What a point adds to the accumulated gradient of the norm's scale. -/
theorem step9 (c : Dev nD) (t : Fin cfg0.N) (y : S1x1024.Idx) (A : EReal)
    (hc : (t.val % 16 = 0 ∧ A = 0) ∨ (¬ t.val % 16 = 0 ∧ A = (outsAt0 m c (t.val - 1) (Nat.lt_of_le_of_lt (Nat.sub_le _ _) t.isLt)).2.2 y)) :
    ((outsAt0 m c t.val t.isLt).2.2 y : EReal)
      = A + ∑ k : Fin 512, dgA (hh m c) (at2 (n := 8192) (m := 1024) (V m c main_arg4)) (512 * t.val + k.val) (y 1).val := by
  have e : (∑ k : Fin 512, dgA (hb m c t) (at2 (n := 512) (m := 1024) (iblk m c 4 t)) k.val (y 1).val : EReal)
      = ∑ k : Fin 512, dgA (hh m c) (at2 (n := 8192) (m := 1024) (V m c main_arg4)) (512 * t.val + k.val) (y 1).val :=
    Fintype.sum_congr (M := EReal) _ _ fun k => by
      simp only [hh, hb, dgA, rW, rm, prods, row0 m c t _ k.isLt, row1, row2 m c t _ k.isLt, row3, row4 m c t _ k.isLt]
  rw [← e]
  obtain ⟨x0, x1, rfl⟩ : ∃ (x0 : Fin 1) (x1 : Fin 1024), y = ix2 x0 x1 := ⟨y 0, y 1, eq_ix2 y⟩
  rcases hc with ⟨h0, rfl⟩ | ⟨h0, rfl⟩
  · rw [outsAt0_A m c t h0]
    dsimp only
    frame_open
    simp (disch := decide) only [↓ View.readCov_skip, ↓ View.readCov_cons_toLoadRect, ↓ View.readCov_fill]
    frame_out
    refine (pay3_at (iblk m c 0 t) (iblk m c 2 t) (iblk m c 1 t) (iblk m c 3 t) (iblk m c 4 t) _ x0 x1).trans ?_
    refine congrArg (· + _) ?_
    pointwise [k0_pay2]
  · rw [outsAt0_B m c t h0]
    dsimp only
    frame_out
    exact pay3_at (iblk m c 0 t) (iblk m c 2 t) (iblk m c 1 t) (iblk m c 3 t) (iblk m c 4 t) _ x0 x1

/-- The gradient of the norm's input as the kernel leaves it. -/
theorem final7 (c : Dev nD) : ((dats m 0 c).arrAt 7 cfg0.N : S8192x1024.Idx → Elt Ideal _) = fun i => dx m c (i 0).val (i 1).val := by
  refine (dats m 0 c).arrAt_eq_of_covers 7 _ (by decide +kernel) fun t _ y => ?_
  blk_simp
  rw [after0_7]
  refine (congrArg (outsAt0 m c t.val t.isLt).1 (eq_ix2 y)).trans ((out7 m c t (y 0) (y 1)).trans ?_)
  refine congrArg₂ (dx m c) ?_ ?_
  · blk_point [idx t]
    exact Nat.mul_comm _ _
  · blk_point [idx t]

/-- Its copy as the kernel leaves it. -/
theorem final8 (c : Dev nD) : ((dats m 0 c).arrAt 8 cfg0.N : S8192x1024.Idx → Elt Ideal _) = fun i => dx m c (i 0).val (i 1).val := by
  refine (dats m 0 c).arrAt_eq_of_covers 8 _ (by decide +kernel) fun t _ y => ?_
  blk_simp
  rw [after0_8]
  refine (congrArg (outsAt0 m c t.val t.isLt).2.1 (eq_ix2 y)).trans ((out8 m c t (y 0) (y 1)).trans ?_)
  refine congrArg₂ (dx m c) ?_ ?_
  · blk_point [idx t]
    exact Nat.mul_comm _ _
  · blk_point [idx t]

/-- The last grid point. -/
abbrev tLast : Fin cfg0.N := ⟨15, by decide +kernel⟩

/-- The gradient of the norm's scale as the kernel leaves it. -/
theorem final9 (c : Dev nD) : ((dats m 0 c).arrAt 9 cfg0.N : S1x1024.Idx → Elt Ideal _)
    = fun i => ∑ r : Fin 8192, dgA (hh m c) (at2 (n := 8192) (m := 1024) (V m c main_arg4)) r.val (i 1).val := by
  refine (dats m 0 c).arrAt_eq_of_after_last 9 tLast (by decide +kernel) _ fun j => ?_
  rw [after0_9, Pipeline.eq_sum_fin_of_reset_step_apply_last (fun n h => (outsAt0 m c n h).2.2) 16 (fun _ => 0)
    (fun t j => ∑ k : Fin 512, dgA (hh m c) (at2 (n := 8192) (m := 1024) (V m c main_arg4)) (512 * t.val + k.val) (j 1).val)
    (fun t h y => step9 m c t y 0 (.inl ⟨h, rfl⟩)) (fun t h y => step9 m c t y _ (.inr ⟨h, rfl⟩)) (le_of_eq N_0) tLast rfl]
  rw [zero_add]
  exact sum_blocks16 fun r => dgA (hh m c) (at2 (n := 8192) (m := 1024) (V m c main_arg4)) r (j 1).val

end Cert.FfnNorm
end
-- ==== Proof.FfnNormEq.lean ====
/-
# The feed-forward's norm backward: the reference, and the equation
-/
module

public import proofs.«01_k».proof.Proof.Gen.Reference6Ideal.Run
public import proofs.«01_k».proof.Proof.Gen.Pre_finite6
public import proofs.«01_k».proof.Proof.FfnNorm

@[expose] public section

set_option maxRecDepth 16384

noncomputable section

open Idealize.ShloMosaic Idealize.ShloMosaic.TcCoe Idealize.SL.Sem
open Cert.PoolValue (at2)
open Cert.RmsNorm

namespace Cert.FfnNorm

/-- One layer's weights as a matrix. -/
def wMat (w : FVec Ideal Cert.Reference6Ideal.S1x1024x2816 .f32) : FVec Ideal Cert.Reference6Ideal.S1024x2816 .f32 :=
  shapeCast _ w Cert.Reference6Ideal.Gen.shapeCasts_S1x1024x2816_S1024x2816

/-- The reference's gradient that enters the norm. -/
def refH (D D' : FVec Ideal Cert.Reference6Ideal.S8192x2816 .bf16) (w w' : FVec Ideal Cert.Reference6Ideal.S1x1024x2816 .f32) : FVec Ideal Cert.Reference6Ideal.S8192x1024 .f32 :=
  addf (Host.dotGeneral Cert.Reference6Ideal.dot_S8192x2816_S1024x2816_S8192x1024_1_1_0_0_n_n none (extf .f32 D' Cert.Reference6Ideal.Gen.bitsLt_bf16_f32) (wMat w'))
    (Host.dotGeneral Cert.Reference6Ideal.dot_S8192x2816_S1024x2816_S8192x1024_1_1_0_0_n_n none (extf .f32 D Cert.Reference6Ideal.Gen.bitsLt_bf16_f32) (wMat w))

/-- That gradient, read. -/
theorem refH_at (D D' : FVec Ideal Cert.Reference6Ideal.S8192x2816 .bf16) (w w' : FVec Ideal Cert.Reference6Ideal.S1x1024x2816 .f32) (r : Fin 8192) (l : Fin 1024) :
    (refH D D' w w' (ix2 r l) : EReal) = prods (at2 D) (at2 (wMat w)) (at2 D') (at2 (wMat w')) r.val l.val := by
  simp only [prods, at2_of]
  refine Eq.trans ?_ (add_comm _ _)
  pointwise [refH]

/-- The reference's gradient of the norm's input, from real arguments. -/
theorem ref_dx (D D' : FVec Ideal Cert.Reference6Ideal.S8192x2816 .bf16) (w w' : FVec Ideal Cert.Reference6Ideal.S1x1024x2816 .f32)
    (X E : FVec Ideal Cert.Reference6Ideal.S8192x1024 .f32) (G : FVec Ideal Cert.Reference6Ideal.S1x1024 .f32)
    (r0 : ∃ o : ℕ → ℕ → ℝ, ∀ r l, at2 D r l = (o r l : EReal)) (r1 : ∃ o : ℕ → ℕ → ℝ, ∀ r l, at2 D' r l = (o r l : EReal))
    (r2 : ∃ o : ℕ → ℕ → ℝ, ∀ r l, at2 (wMat w) r l = (o r l : EReal)) (r3 : ∃ o : ℕ → ℕ → ℝ, ∀ r l, at2 (wMat w') r l = (o r l : EReal))
    (r4 : ∃ o : ℕ → ℕ → ℝ, ∀ r l, at2 X r l = (o r l : EReal)) (r6 : ∃ o : ℕ → ℕ → ℝ, ∀ r l, at2 G r l = (o r l : EReal)) :
    refDx (refH D D' w w') X E G = fun i => dxA (prods (at2 D) (at2 (wMat w)) (at2 D') (at2 (wMat w'))) (at2 X) (at2 E) (at2 G 0) (i 0).val (i 1).val :=
  dx_eq (refH D D' w w') X E G (prods (at2 D) (at2 (wMat w)) (at2 D') (at2 (wMat w'))) (refH_at D D' w w')
    (add_real _ _ (dot_real (at2 D) (at2 (wMat w)) 2816 r0 r2) (dot_real (at2 D') (at2 (wMat w')) 2816 r1 r3)) r4 r6

/-- The first weights as the kernel sees them: the preparing lines transpose them and round them to the narrow format. -/
theorem entry_w (m : (ℓ : Loc Cert.Kernel6Ideal.nD Cert.Kernel6Ideal.τ Cert.Kernel6Ideal.sig) → Buf (Elt Ideal) ℓ) (c : Dev Cert.Kernel6Ideal.nD) :
    (fun l k => at2 (n := 2816) (m := 1024) (Cert.Kernel6Ideal.Gen.V m c Cert.Kernel6Ideal.main_v2) k l)
      = at2 (wMat (m ((c : Thread Cert.Kernel6Ideal.nD Cert.Kernel6Ideal.τ).loc Cert.Kernel6Ideal.main_arg2))) := by
  refine at2_flip _ _ fun x0 x1 => ?_
  show StableHlo.after Cert.Kernel6Ideal.Gen.hostOps0 _ _ _ = _
  after_results_simp
  pointwise [wMat]

/-- The second weights as the kernel sees them. -/
theorem entry_w' (m : (ℓ : Loc Cert.Kernel6Ideal.nD Cert.Kernel6Ideal.τ Cert.Kernel6Ideal.sig) → Buf (Elt Ideal) ℓ) (c : Dev Cert.Kernel6Ideal.nD) :
    (fun l k => at2 (n := 2816) (m := 1024) (Cert.Kernel6Ideal.Gen.V m c Cert.Kernel6Ideal.main_v5) k l)
      = at2 (wMat (m ((c : Thread Cert.Kernel6Ideal.nD Cert.Kernel6Ideal.τ).loc Cert.Kernel6Ideal.main_arg3))) := by
  refine at2_flip _ _ fun x0 x1 => ?_
  show StableHlo.after Cert.Kernel6Ideal.Gen.hostOps0 _ _ _ = _
  after_results_simp
  pointwise [wMat]

/-- Under the precondition every argument is an array of real numbers. -/
theorem pre_real (a0 a1 : FVec Ideal Cert.Reference6Ideal.S8192x2816 .bf16) (a2 a3 : FVec Ideal Cert.Reference6Ideal.S1x1024x2816 .f32)
    (a4 a5 : FVec Ideal Cert.Reference6Ideal.S8192x1024 .f32) (a6 : FVec Ideal Cert.Reference6Ideal.S1x1024 .f32)
    (h : (Cert.Pre_finite6.fn (F := Ideal) a0 a1 a2 a3 a4 a5 a6).1 = (fun _ => 1#1) ∧ (Cert.Pre_finite6.fn (F := Ideal) a0 a1 a2 a3 a4 a5 a6).2.1 = (fun _ => 1#1)
      ∧ (Cert.Pre_finite6.fn (F := Ideal) a0 a1 a2 a3 a4 a5 a6).2.2.1 = (fun _ => 1#1) ∧ (Cert.Pre_finite6.fn (F := Ideal) a0 a1 a2 a3 a4 a5 a6).2.2.2.1 = (fun _ => 1#1)
      ∧ (Cert.Pre_finite6.fn (F := Ideal) a0 a1 a2 a3 a4 a5 a6).2.2.2.2.1 = (fun _ => 1#1) ∧ (Cert.Pre_finite6.fn (F := Ideal) a0 a1 a2 a3 a4 a5 a6).2.2.2.2.2.1 = (fun _ => 1#1)
      ∧ (Cert.Pre_finite6.fn (F := Ideal) a0 a1 a2 a3 a4 a5 a6).2.2.2.2.2.2 = (fun _ => 1#1)) :
    (∃ o : ℕ → ℕ → ℝ, ∀ r l, at2 a0 r l = (o r l : EReal)) ∧ (∃ o : ℕ → ℕ → ℝ, ∀ r l, at2 a1 r l = (o r l : EReal))
      ∧ (∃ o : ℕ → ℕ → ℝ, ∀ r l, at2 (wMat a2) r l = (o r l : EReal)) ∧ (∃ o : ℕ → ℕ → ℝ, ∀ r l, at2 (wMat a3) r l = (o r l : EReal))
      ∧ (∃ o : ℕ → ℕ → ℝ, ∀ r l, at2 a4 r l = (o r l : EReal)) ∧ (∃ o : ℕ → ℕ → ℝ, ∀ r l, at2 a6 r l = (o r l : EReal)) :=
  ⟨NormMath.at2_real _ fun i => Cert.PoolRef.real_of_abs _ (Cert.PoolRef.below_top _ (congrFun h.1 i)),
    NormMath.at2_real _ fun i => Cert.PoolRef.real_of_abs _ (Cert.PoolRef.below_top _ (congrFun h.2.1 i)),
    NormMath.at2_real _ fun i => Cert.PoolRef.real_of_abs _ (Cert.PoolRef.below_top _ (congrFun h.2.2.1 _)),
    NormMath.at2_real _ fun i => Cert.PoolRef.real_of_abs _ (Cert.PoolRef.below_top _ (congrFun h.2.2.2.1 _)),
    NormMath.at2_real _ fun i => Cert.PoolRef.real_of_abs _ (Cert.PoolRef.below_top _ (congrFun h.2.2.2.2.1 i)),
    NormMath.at2_real _ fun i => Cert.PoolRef.real_of_abs _ (Cert.PoolRef.below_top _ (congrFun h.2.2.2.2.2.2 i))⟩

end Cert.FfnNorm

namespace Cert.Proof

open Cert.FfnNorm

/-- This norm's reference runs, leaves its arguments, and ends quiet. -/
theorem frameRef6 : Cert.quiescent_Reference6Ideal (hReference6Ideal := Cert.Reference6Ideal.Gen.facts) := by
  intro m g _
  exact (θ_run Cert.Reference6Ideal.defs _ _).mono
    (fun r h => ⟨fun c => (h c).2.2.2, sem_eq_zero_of_no_sems (by decide) r.2⟩)
    (Cert.Reference6Ideal.Value.run (F := Ideal) m g)

/-- The reference's first result by its parts. -/
theorem ref_res0 (m : (ℓ : Loc Cert.Reference6Ideal.nD Cert.Reference6Ideal.τ Cert.Reference6Ideal.sig) → Buf (Elt Ideal) ℓ) (c : Dev Cert.Reference6Ideal.nD) :
    Cert.Reference6Ideal.Value.res_main_v46 (F := Ideal) m c = refDx (refH (m ((c : Thread Cert.Reference6Ideal.nD Cert.Reference6Ideal.τ).loc Cert.Reference6Ideal.main_arg0))
      (m ((c : Thread Cert.Reference6Ideal.nD Cert.Reference6Ideal.τ).loc Cert.Reference6Ideal.main_arg1)) (m ((c : Thread Cert.Reference6Ideal.nD Cert.Reference6Ideal.τ).loc Cert.Reference6Ideal.main_arg2))
      (m ((c : Thread Cert.Reference6Ideal.nD Cert.Reference6Ideal.τ).loc Cert.Reference6Ideal.main_arg3))) (m ((c : Thread Cert.Reference6Ideal.nD Cert.Reference6Ideal.τ).loc Cert.Reference6Ideal.main_arg4))
      (m ((c : Thread Cert.Reference6Ideal.nD Cert.Reference6Ideal.τ).loc Cert.Reference6Ideal.main_arg5)) (m ((c : Thread Cert.Reference6Ideal.nD Cert.Reference6Ideal.τ).loc Cert.Reference6Ideal.main_arg6)) := by
  unfold Cert.Reference6Ideal.Value.res_main_v46 refDx refM refG refMs refH wMat
  rfl

set_option maxHeartbeats 1000000 in
/-- From finite arguments this norm's backward call returns what the transpose of the plain forward pass returns. -/
theorem algebraic6 : Cert.algebraic_Kernel6Ideal_Reference6Ideal_pre_finite6
    (hKernel6Ideal := Cert.Kernel6Ideal.Gen.facts) (hReference6Ideal := Cert.Reference6Ideal.Gen.facts) (hPre_finite6 := Cert.Pre_finite6.Gen.facts) := by
  pair_intro
  · run_from Cert.Kernel6Ideal.Gen.run_main m g
  · run_from Cert.Reference6Ideal.Value.run m' g'
    all_goals
      have h0 := (hagree c).1
      have h1 := (hagree c).2.1
      have h2 := (hagree c).2.2.1
      have h3 := (hagree c).2.2.2.1
      have h4 := (hagree c).2.2.2.2.1
      have h5 := (hagree c).2.2.2.2.2.1
      have h6 := (hagree c).2.2.2.2.2.2
      obtain ⟨r0, r1, r2, r3, r4, r6⟩ := pre_real _ _ _ _ _ _ _ (hpre c)
      rw [← h0] at r0
      rw [← h1] at r1
      rw [← h2] at r2
      rw [← h3] at r3
      rw [← h4] at r4
      rw [← h6] at r6
      have hD := ref_dx _ _ _ _ _ (m' ((c : Thread Cert.Reference6Ideal.nD Cert.Reference6Ideal.τ).loc Cert.Reference6Ideal.main_arg5)) _ r0 r1 r2 r3 r4 r6
    · refine Eq.trans ?_ (final7 m c).symm
      rw [dx, hh, entry_w, entry_w', Cert.Kernel6Ideal.Gen.V_main_arg0, Cert.Kernel6Ideal.Gen.V_main_arg1, Cert.Kernel6Ideal.Gen.V_main_arg4,
        Cert.Kernel6Ideal.Gen.V_main_arg5, Cert.Kernel6Ideal.Gen.V_main_arg6, ← h0, ← h1, ← h2, ← h3, ← h4, ← h5, ← h6]
      exact (ref_res0 m' c).trans hD
    · refine Eq.trans ?_ (final8 m c).symm
      rw [dx, hh, entry_w, entry_w', Cert.Kernel6Ideal.Gen.V_main_arg0, Cert.Kernel6Ideal.Gen.V_main_arg1, Cert.Kernel6Ideal.Gen.V_main_arg4,
        Cert.Kernel6Ideal.Gen.V_main_arg5, Cert.Kernel6Ideal.Gen.V_main_arg6, ← h0, ← h1, ← h2, ← h3, ← h4, ← h5, ← h6]
      funext i
      exact (copy_at _ i).trans (congrFun hD i)
    · refine Eq.trans ?_ (final9 m c).symm
      rw [hh, entry_w, entry_w', Cert.Kernel6Ideal.Gen.V_main_arg0, Cert.Kernel6Ideal.Gen.V_main_arg1, Cert.Kernel6Ideal.Gen.V_main_arg4, ← h0, ← h1, ← h2, ← h3, ← h4]
      exact dg_eq (refH _ _ _ _) _ _ (refH_at _ _ _ _)

end Cert.Proof
end
-- ==== Proof.MixNorm.lean ====
/-
# The mixer's norm backward: the kernel's values
-/
module

public import proofs.«01_k».proof.Proof.Gen.Kernel7Ideal.Value
public import proofs.«01_k».proof.Proof.RmsNorm

@[expose] public section

set_option maxRecDepth 16384

noncomputable section

open Idealize.ShloMosaic Idealize.ShloMosaic.TcCoe Idealize.SL.Sem
open Idealize.ShloMosaic.Pipeline (Dat)
open Cert.PoolValue (at2)
open Cert.RmsNorm

namespace Cert.MixNorm

open Cert.Kernel7Ideal Cert.Kernel7Ideal.Gen

variable (m : (ℓ : Loc nD τ sig) → Buf (Elt Ideal) ℓ)

/-- The gradient leaving the five products: rows of each gradient against rows of its stretch of the weights. -/
def prods (D0 W0 D1 W1 D2 W2 D3 W3 D4 W4 : ℕ → ℕ → EReal) (r l : ℕ) : EReal :=
  (∑ k : Fin 3072, D0 r k.val * W0 k.val l) + (∑ k : Fin 1024, D1 r k.val * W1 k.val l) + (∑ k : Fin 512, D2 r k.val * W2 k.val l)
    + (∑ k : Fin 1024, D3 r k.val * W3 k.val l) + ∑ k : Fin 1024, D4 r k.val * W4 k.val l

/-- The block's products. -/
theorem pay7_at (D0 : FVec Ideal S512x3072 .bf16) (W0 : FVec Ideal S3072x1024 .bf16) (D1 : FVec Ideal S512x1024 .bf16) (W1 : FVec Ideal S1024x1024 .bf16) (D2 : FVec Ideal S512x512 .bf16) (W2 : FVec Ideal S512x1024 .bf16)
    (D3 : FVec Ideal S512x1024 .bf16) (W3 : FVec Ideal S1024x1024 .bf16) (D4 : FVec Ideal S512x1024 .bf16) (W4 : FVec Ideal S1024x1024 .bf16)
    (x0 : Fin 512) (x1 : Fin 1024) :
    (k0_pay7 (F := Ideal) D0 W0 D1 W1 D2 W2 D3 W3 D4 W4 (ix2 x0 x1) : EReal)
      = prods (at2 D0) (at2 W0) (at2 D1) (at2 W1) (at2 D2) (at2 W2) (at2 D3) (at2 W3) (at2 D4) (at2 W4) x0.val x1.val := by
  simp only [prods, at2_of]
  pointwise [k0_pay7]

/-- The reciprocal root mean squares of a block. -/
theorem pay1_at (X : FVec Ideal S512x1024 .f32) (x0 : Fin 512) (z : Fin 1) :
    (k0_pay1 (F := Ideal) (k0_pay8 X) (ix2 x0 z) : EReal) = rW (at2 X) x0.val := by
  simp only [rW, rm, at2_of]
  pointwise [k0_pay1, k0_pay8]

/-- The block's gradient of the norm's input. -/
theorem pay3_at (H X E : FVec Ideal S512x1024 .f32) (G : FVec Ideal S1x1024 .f32) (x0 : Fin 512) (x1 : Fin 1024) :
    (k0_pay3 (F := Ideal) H X (k0_pay8 X) G E (ix2 x0 x1) : EReal) = dxA (at2 H) (at2 X) (at2 E) (at2 G 0) x0.val x1.val := by
  simp only [dxA, rm, ← pay1_at X _ 0, at2_of, show ∀ l : Fin 1024, at2 G 0 l.val = G (ix2 0 l) from at2_of G 0]
  pointwise [k0_pay3, k0_pay2]

/-- The half of it. -/
theorem pay4_at (H X E : FVec Ideal S512x1024 .f32) (G : FVec Ideal S1x1024 .f32) (x0 : Fin 512) (x1 : Fin 1024) :
    (k0_pay4 (F := Ideal) H X (k0_pay8 X) G E (ix2 x0 x1) : EReal)
      = dxA (at2 H) (at2 X) (at2 E) (at2 G 0) x0.val x1.val * Ideal.ofBits .f32 0x3F000000#32 := by
  rw [← pay3_at]
  pointwise [k0_pay4]

/-- The accumulator after a block. -/
theorem pay6_at (H X : FVec Ideal S512x1024 .f32) (A : FVec Ideal S1x1024 .f32) (x0 : Fin 1) (x1 : Fin 1024) :
    (k0_pay6 (F := Ideal) H X (k0_pay8 X) A (ix2 x0 x1) : EReal) = A (ix2 x0 x1) + ∑ r : Fin 512, dgA (at2 H) (at2 X) r.val x1.val := by
  simp only [dgA, ← pay1_at X _ 0, at2_of]
  pointwise [k0_pay6, k0_pay2]

/-- Which block each window shows at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] ∧ win0_7.index t = ![t.val, 0]
    ∧ win0_8.index t = ![0, 0] ∧ win0_9.index t = ![t.val, 0] ∧ win0_10.index t = ![t.val, 0] ∧ win0_11.index t = ![0, 0] :=
  (by decide +kernel : ∀ t : Fin grid0.N, _)

/-- A row of the first gradient's block. -/
theorem row0 (c : Dev nD) (t : Fin cfg0.N) (r : ℕ) (hr : r < 512) :
    at2 (n := 512) (m := 3072) (iblk m c 0 t) r = at2 (n := 8192) (m := 3072) (V m c main_arg0) (512 * t.val + r) :=
  row_of _ _ _ _ hr (by have := lt_of_lt_of_eq t.isLt N_0; omega) fun x0 x1 => by blk_point [iblk, idx t]

/-- A row of the second gradient's block. -/
theorem row1 (c : Dev nD) (t : Fin cfg0.N) (r : ℕ) (hr : r < 512) :
    at2 (n := 512) (m := 1024) (iblk m c 1 t) r = at2 (n := 8192) (m := 1024) (V m c main_arg1) (512 * t.val + r) :=
  row_of _ _ _ _ hr (by have := lt_of_lt_of_eq t.isLt N_0; omega) fun x0 x1 => by blk_point [iblk, idx t]

/-- A row of the third gradient's block. -/
theorem row2 (c : Dev nD) (t : Fin cfg0.N) (r : ℕ) (hr : r < 512) :
    at2 (n := 512) (m := 512) (iblk m c 2 t) r = at2 (n := 8192) (m := 512) (V m c main_arg2) (512 * t.val + r) :=
  row_of _ _ _ _ hr (by have := lt_of_lt_of_eq t.isLt N_0; omega) fun x0 x1 => by blk_point [iblk, idx t]

/-- A row of the fourth gradient's block. -/
theorem row3 (c : Dev nD) (t : Fin cfg0.N) (r : ℕ) (hr : r < 512) :
    at2 (n := 512) (m := 1024) (iblk m c 3 t) r = at2 (n := 8192) (m := 1024) (V m c main_arg3) (512 * t.val + r) :=
  row_of _ _ _ _ hr (by have := lt_of_lt_of_eq t.isLt N_0; omega) fun x0 x1 => by blk_point [iblk, idx t]

/-- A row of the fifth gradient's block. -/
theorem row4 (c : Dev nD) (t : Fin cfg0.N) (r : ℕ) (hr : r < 512) :
    at2 (n := 512) (m := 1024) (iblk m c 4 t) r = at2 (n := 8192) (m := 1024) (V m c main_arg4) (512 * t.val + r) :=
  row_of _ _ _ _ hr (by have := lt_of_lt_of_eq t.isLt N_0; omega) fun x0 x1 => by blk_point [iblk, idx t]

/-- The weights. -/
theorem row5 (c : Dev nD) (t : Fin cfg0.N) : at2 (n := 6656) (m := 1024) (iblk m c 5 t) = at2 (n := 6656) (m := 1024) (V m c main_v2) :=
  congrArg at2 (funext fun z => by blk_point [iblk, idx t])

/-- A row of the norm's input's block. -/
theorem row6 (c : Dev nD) (t : Fin cfg0.N) (r : ℕ) (hr : r < 512) :
    at2 (n := 512) (m := 1024) (iblk m c 6 t) r = at2 (n := 8192) (m := 1024) (V m c main_arg6) (512 * t.val + r) :=
  row_of _ _ _ _ hr (by have := lt_of_lt_of_eq t.isLt N_0; omega) fun x0 x1 => by blk_point [iblk, idx t]

/-- A row of the residual's gradient's block. -/
theorem row7 (c : Dev nD) (t : Fin cfg0.N) (r : ℕ) (hr : r < 512) :
    at2 (n := 512) (m := 1024) (iblk m c 7 t) r = at2 (n := 8192) (m := 1024) (V m c main_arg7) (512 * t.val + r) :=
  row_of _ _ _ _ hr (by have := lt_of_lt_of_eq t.isLt N_0; omega) fun x0 x1 => by blk_point [iblk, idx t]

/-- The scale. -/
theorem row8 (c : Dev nD) (t : Fin cfg0.N) : at2 (n := 1) (m := 1024) (iblk m c 8 t) = at2 (n := 1) (m := 1024) (V m c main_arg8) :=
  congrArg at2 (funext fun z => by blk_point [iblk, idx t])

/-- The gradient leaving the products, over the whole arrays. -/
abbrev hh (c : Dev nD) : ℕ → ℕ → EReal :=
  prods (at2 (n := 8192) (m := 3072) (V m c main_arg0)) (fun k => at2 (n := 6656) (m := 1024) (V m c main_v2) k)
    (at2 (n := 8192) (m := 1024) (V m c main_arg1)) (fun k => at2 (n := 6656) (m := 1024) (V m c main_v2) (3072 + k))
    (at2 (n := 8192) (m := 512) (V m c main_arg2)) (fun k => at2 (n := 6656) (m := 1024) (V m c main_v2) (4096 + k))
    (at2 (n := 8192) (m := 1024) (V m c main_arg3)) (fun k => at2 (n := 6656) (m := 1024) (V m c main_v2) (4608 + k))
    (at2 (n := 8192) (m := 1024) (V m c main_arg4)) (fun k => at2 (n := 6656) (m := 1024) (V m c main_v2) (5632 + k))

/-- The weights' rows from `o` on, as the body loads them. -/
theorem at2_ld {n : ℕ} (W : FVec Ideal S6656x1024 .bf16) (o : ℕ) (h : ∀ a, (![o, 0] : Fin 2 → ℕ) a + (![n, 1024] : Fin 2 → ℕ) a ≤ S6656x1024.size a)
    (k l : ℕ) (hk : k < n) :
    at2 (n := n) (m := 1024) (@View.ld (Elt Ideal) S6656x1024 .bf16 W (Rect.unit (s := S6656x1024) ![o, 0] ![n, 1024] h)) k l = at2 W (o + k) l := by
  have h0 : o + n ≤ 6656 := h 0
  by_cases hl : l < 1024
  · rw [at2, at2, dif_pos ⟨hk, hl⟩, dif_pos ⟨by omega, hl⟩]
    refine congrArg W (funext fun a => ?_)
    match a with
    | 0 => exact Fin.ext (by simp)
    | 1 => exact Fin.ext (by simp)
  · rw [at2, at2, dif_neg (fun h => hl h.2), dif_neg (fun h => hl h.2)]

/-- The gradient leaving the products over a block, as the body computes it. -/
abbrev hB (c : Dev nD) (t : Fin cfg0.N) : FVec Ideal S512x1024 .f32 :=
  k0_pay7 (F := Ideal) (iblk m c 0 t) (@View.ld (Elt Ideal) S6656x1024 .bf16 (iblk m c 5 t) (Rect.unit (s := S6656x1024) ![0, 0] ![3072, 1024] inb_S6656x1024_S3072x1024_0_0))
    (iblk m c 1 t) (@View.ld (Elt Ideal) S6656x1024 .bf16 (iblk m c 5 t) (Rect.unit (s := S6656x1024) ![3072, 0] ![1024, 1024] inb_S6656x1024_S1024x1024_3072_0))
    (iblk m c 2 t) (@View.ld (Elt Ideal) S6656x1024 .bf16 (iblk m c 5 t) (Rect.unit (s := S6656x1024) ![4096, 0] ![512, 1024] inb_S6656x1024_S512x1024_4096_0))
    (iblk m c 3 t) (@View.ld (Elt Ideal) S6656x1024 .bf16 (iblk m c 5 t) (Rect.unit (s := S6656x1024) ![4608, 0] ![1024, 1024] inb_S6656x1024_S1024x1024_4608_0))
    (iblk m c 4 t) (@View.ld (Elt Ideal) S6656x1024 .bf16 (iblk m c 5 t) (Rect.unit (s := S6656x1024) ![5632, 0] ![1024, 1024] inb_S6656x1024_S1024x1024_5632_0))

/-- It is the block's rows of the whole one. -/
theorem hB_at (c : Dev nD) (t : Fin cfg0.N) (r : Fin 512) (l : Fin 1024) : at2 (hB m c t) r.val l.val = hh m c (512 * t.val + r.val) l.val := by
  refine (at2_of _ r l).trans ((pay7_at (iblk m c 0 t) _ (iblk m c 1 t) _ (iblk m c 2 t) _ (iblk m c 3 t) _ (iblk m c 4 t) _ r l).trans ?_)
  have e := row5 m c t
  simp only [hh, prods, at2_ld _ _ _ _ _ (Fin.isLt _), e, row0 m c t _ r.isLt, row1 m c t _ r.isLt, row2 m c t _ r.isLt, row3 m c t _ r.isLt,
    row4 m c t _ r.isLt, Nat.zero_add]

/-- The gradient of the norm's input, over the whole arrays. -/
abbrev dx (c : Dev nD) : ℕ → ℕ → EReal :=
  dxA (hh m c) (at2 (n := 8192) (m := 1024) (V m c main_arg6)) (at2 (n := 8192) (m := 1024) (V m c main_arg7)) (at2 (n := 1) (m := 1024) (V m c main_arg8) 0)

/-- The block's gradient of the norm's input is its rows of the whole one. -/
theorem blockDx (c : Dev nD) (t : Fin cfg0.N) (r : Fin 512) (l : Fin 1024) :
    dxA (at2 (hB m c t)) (at2 (n := 512) (m := 1024) (iblk m c 6 t)) (at2 (n := 512) (m := 1024) (iblk m c 7 t)) (at2 (n := 1) (m := 1024) (iblk m c 8 t) 0) r.val l.val
      = dx m c (512 * t.val + r.val) l.val := by
  simp only [dx, dxA, rW, rm, hB_at, row6 m c t r.val r.isLt, row7 m c t r.val r.isLt, row8]

/-- What the body leaves in the block of the gradient of the norm's input. -/
theorem out9 (c : Dev nD) (t : Fin cfg0.N) (x0 : Fin 512) (x1 : Fin 1024) :
    ((outsAt0 m c t.val t.isLt).1 (ix2 x0 x1) : EReal) = dx m c (512 * t.val + x0.val) x1.val := by
  rw [← blockDx m c t x0 x1]
  by_cases h0 : t.val % 16 = 0
  · rw [outsAt0_A m c t h0]
    frame_out
    exact pay3_at (hB m c t) _ _ _ _ _
  · rw [outsAt0_B m c t h0]
    frame_out
    exact pay3_at (hB m c t) _ _ _ _ _

/-- What the body leaves in the block of its half. -/
theorem out10 (c : Dev nD) (t : Fin cfg0.N) (x0 : Fin 512) (x1 : Fin 1024) :
    ((outsAt0 m c t.val t.isLt).2.1 (ix2 x0 x1) : EReal) = dx m c (512 * t.val + x0.val) x1.val * Ideal.ofBits .f32 0x3F000000#32 := by
  rw [← blockDx m c t x0 x1]
  by_cases h0 : t.val % 16 = 0
  · rw [outsAt0_A m c t h0]
    dsimp only
    frame_out
    exact pay4_at (hB m c t) _ _ _ _ _
  · rw [outsAt0_B m c t h0]
    dsimp only
    frame_out
    exact pay4_at (hB m c t) _ _ _ _ _

/-- What a point adds to the accumulated gradient of the norm's scale. -/
theorem step11 (c : Dev nD) (t : Fin cfg0.N) (y : S1x1024.Idx) (A : EReal)
    (hc : (t.val % 16 = 0 ∧ A = 0) ∨ (¬ t.val % 16 = 0 ∧ A = (outsAt0 m c (t.val - 1) (Nat.lt_of_le_of_lt (Nat.sub_le _ _) t.isLt)).2.2 y)) :
    ((outsAt0 m c t.val t.isLt).2.2 y : EReal)
      = A + ∑ k : Fin 512, dgA (hh m c) (at2 (n := 8192) (m := 1024) (V m c main_arg6)) (512 * t.val + k.val) (y 1).val := by
  have e : (∑ k : Fin 512, dgA (at2 (hB m c t)) (at2 (n := 512) (m := 1024) (iblk m c 6 t)) k.val (y 1).val : EReal)
      = ∑ k : Fin 512, dgA (hh m c) (at2 (n := 8192) (m := 1024) (V m c main_arg6)) (512 * t.val + k.val) (y 1).val :=
    Fintype.sum_congr (M := EReal) _ _ fun k => by
      simp only [dgA, rW, rm, hB_at m c t k (y 1), row6 m c t _ k.isLt]
  rw [← e]
  obtain ⟨x0, x1, rfl⟩ : ∃ (x0 : Fin 1) (x1 : Fin 1024), y = ix2 x0 x1 := ⟨y 0, y 1, eq_ix2 y⟩
  rcases hc with ⟨h0, rfl⟩ | ⟨h0, rfl⟩
  · rw [outsAt0_A m c t h0]
    dsimp only
    frame_open
    simp (disch := decide) only [↓ View.readCov_skip, ↓ View.readCov_cons_toLoadRect, ↓ View.readCov_fill]
    frame_out
    refine (pay6_at (hB m c t) (iblk m c 6 t) _ x0 x1).trans ?_
    refine congrArg (· + _) ?_
    pointwise [k0_pay5]
  · rw [outsAt0_B m c t h0]
    dsimp only
    frame_out
    exact pay6_at (hB m c t) (iblk m c 6 t) _ x0 x1

/-- The gradient of the norm's input as the kernel leaves it. -/
theorem final9 (c : Dev nD) : ((dats m 0 c).arrAt 9 cfg0.N : S8192x1024.Idx → Elt Ideal _) = fun i => dx m c (i 0).val (i 1).val := by
  refine (dats m 0 c).arrAt_eq_of_covers 9 _ (by decide +kernel) fun t _ y => ?_
  blk_simp
  rw [after0_9]
  refine (congrArg (outsAt0 m c t.val t.isLt).1 (eq_ix2 y)).trans ((out9 m c t (y 0) (y 1)).trans ?_)
  refine congrArg₂ (dx m c) ?_ ?_
  · blk_point [idx t]
    exact Nat.mul_comm _ _
  · blk_point [idx t]

/-- Its half as the kernel leaves it. -/
theorem final10 (c : Dev nD) : ((dats m 0 c).arrAt 10 cfg0.N : S8192x1024.Idx → Elt Ideal _) = fun i => dx m c (i 0).val (i 1).val * Ideal.ofBits .f32 0x3F000000#32 := by
  refine (dats m 0 c).arrAt_eq_of_covers 10 _ (by decide +kernel) fun t _ y => ?_
  blk_simp
  rw [after0_10]
  refine (congrArg (outsAt0 m c t.val t.isLt).2.1 (eq_ix2 y)).trans ((out10 m c t (y 0) (y 1)).trans ?_)
  refine congrArg₂ (fun r l => dx m c r l * _) ?_ ?_
  · blk_point [idx t]
    exact Nat.mul_comm _ _
  · blk_point [idx t]

/-- The last grid point. -/
abbrev tLast : Fin cfg0.N := ⟨15, by decide +kernel⟩

/-- The gradient of the norm's scale as the kernel leaves it. -/
theorem final11 (c : Dev nD) : ((dats m 0 c).arrAt 11 cfg0.N : S1x1024.Idx → Elt Ideal _)
    = fun i => ∑ r : Fin 8192, dgA (hh m c) (at2 (n := 8192) (m := 1024) (V m c main_arg6)) r.val (i 1).val := by
  refine (dats m 0 c).arrAt_eq_of_after_last 11 tLast (by decide +kernel) _ fun j => ?_
  rw [after0_11, Pipeline.eq_sum_fin_of_reset_step_apply_last (fun n h => (outsAt0 m c n h).2.2) 16 (fun _ => 0)
    (fun t j => ∑ k : Fin 512, dgA (hh m c) (at2 (n := 8192) (m := 1024) (V m c main_arg6)) (512 * t.val + k.val) (j 1).val)
    (fun t h y => step11 m c t y 0 (.inl ⟨h, rfl⟩)) (fun t h y => step11 m c t y _ (.inr ⟨h, rfl⟩)) (le_of_eq N_0) tLast rfl]
  rw [zero_add]
  exact sum_blocks16 fun r => dgA (hh m c) (at2 (n := 8192) (m := 1024) (V m c main_arg6)) r (j 1).val

end Cert.MixNorm
end
-- ==== Proof.MixNormEq.lean ====
/-
# The mixer's norm backward: the reference, and the equation
-/
module

public import proofs.«01_k».proof.Proof.Gen.Reference7Ideal.Run
public import proofs.«01_k».proof.Proof.Gen.Pre_finite7
public import proofs.«01_k».proof.Proof.MixNorm

@[expose] public section

set_option maxRecDepth 16384

noncomputable section

open Idealize.ShloMosaic Idealize.ShloMosaic.TcCoe Idealize.SL.Sem
open Cert.PoolValue (at2)
open Cert.RmsNorm

namespace Cert.MixRef

open Cert.Reference7Ideal Cert.Reference7Ideal.Gen
open Cert.MixNorm (prods)

/-- The weights as a matrix. -/
def wMat (w : FVec Ideal S1x1024x6656 .f32) : FVec Ideal S1024x6656 .f32 := shapeCast _ w shapeCasts_S1x1024x6656_S1024x6656

/-- The five gradients beside each other, as the transpose of the slices writes it. -/
def refPad (D0 : FVec Ideal S8192x3072 .bf16) (D1 : FVec Ideal S8192x1024 .bf16) (D2 : FVec Ideal S8192x512 .bf16) (D3 D4 : FVec Ideal S8192x1024 .bf16) : FVec Ideal S8192x6656 .f32 :=
  addf (addf (addf (addf (pad S8192x6656 ![0, 5632] ![0, 0] ![0, 0] (extf .f32 D4 bitsLt_bf16_f32) (constant S_ .f32 0x00000000#32) pads_S8192x1024_S8192x6656_000_563200 h_S_)
    (pad S8192x6656 ![0, 4608] ![0, 1024] ![0, 0] (extf .f32 D3 bitsLt_bf16_f32) (constant S_ .f32 0x00000000#32) pads_S8192x1024_S8192x6656_000_460810240 h_S_))
    (pad S8192x6656 ![0, 4096] ![0, 2048] ![0, 0] (extf .f32 D2 bitsLt_bf16_f32) (constant S_ .f32 0x00000000#32) pads_S8192x512_S8192x6656_000_409620480 h_S_))
    (pad S8192x6656 ![0, 3072] ![0, 2560] ![0, 0] (extf .f32 D1 bitsLt_bf16_f32) (constant S_ .f32 0x00000000#32) pads_S8192x1024_S8192x6656_000_307225600 h_S_))
    (pad S8192x6656 ![0, 0] ![0, 3584] ![0, 0] (extf .f32 D0 bitsLt_bf16_f32) (constant S_ .f32 0x00000000#32) pads_S8192x3072_S8192x6656_000_035840 h_S_)

/-- The reference's gradient that enters the norm. -/
def refH (D0 : FVec Ideal S8192x3072 .bf16) (D1 : FVec Ideal S8192x1024 .bf16) (D2 : FVec Ideal S8192x512 .bf16) (D3 D4 : FVec Ideal S8192x1024 .bf16) (w : FVec Ideal S1x1024x6656 .f32) : FVec Ideal S8192x1024 .f32 :=
  Host.dotGeneral dot_S8192x6656_S1024x6656_S8192x1024_1_1_0_0_n_n none (refPad D0 D1 D2 D3 D4) (wMat w)

/-- A piece that starts at column `o`, read at a column. -/
def piece (A : ℕ → EReal) (o k : ℕ) : EReal := if o ≤ k then A (k - o) else 0

/-- The five gradients beside each other, read. -/
theorem refPad_at (D0 : FVec Ideal S8192x3072 .bf16) (D1 : FVec Ideal S8192x1024 .bf16) (D2 : FVec Ideal S8192x512 .bf16) (D3 D4 : FVec Ideal S8192x1024 .bf16) (r : Fin 8192) (k : Fin 6656) :
    (refPad D0 D1 D2 D3 D4 (ix2 r k) : EReal) = piece (at2 D4 r.val) 5632 k.val + piece (at2 D3 r.val) 4608 k.val + piece (at2 D2 r.val) 4096 k.val
      + piece (at2 D1 r.val) 3072 k.val + at2 D0 r.val k.val := by
  have hr := r.isLt
  have e : ∀ (n o : ℕ) (D : (⟨2, ![8192, n]⟩ : Shape).Idx → EReal), piece (at2 D r.val) o k.val = if h : o ≤ k.val ∧ k.val - o < n then D (ix2 r ⟨k.val - o, h.2⟩) else 0 := by
    intro n o D
    unfold piece at2
    by_cases h1 : o ≤ k.val
    · by_cases h2 : k.val - o < n
      · rw [if_pos h1, dif_pos ⟨hr, h2⟩, dif_pos ⟨h1, h2⟩]
      · rw [if_pos h1, dif_neg (fun h => h2 h.2), dif_neg (fun h => h2 h.2)]
    · rw [if_neg h1, dif_neg (fun h => h1 h.1)]
  have e0 : at2 D0 r.val k.val = if h : k.val < 3072 then D0 (ix2 r ⟨k.val, h⟩) else 0 := by
    unfold at2
    by_cases h : k.val < 3072
    · rw [dif_pos ⟨hr, h⟩, dif_pos h]
    · rw [dif_neg (fun g => h g.2), dif_neg h]
  rw [e 1024, e 1024, e 512, e 1024, e0]
  pointwise [refPad]

/-- A piece before it starts. -/
theorem piece_lt (A : ℕ → EReal) (o k : ℕ) (h : k < o) : piece A o k = 0 := if_neg (by omega)

/-- A piece after it ends. -/
theorem piece_ge {n : ℕ} (D : (⟨2, ![8192, n]⟩ : Shape).Idx → EReal) (r o k : ℕ) (h : o + n ≤ k) : piece (at2 D r) o k = 0 := by
  unfold piece
  split_ifs
  · rw [at2, dif_neg (fun g => by have := g.2; omega)]
  · rfl

/-- A piece from where it starts. -/
theorem piece_add (A : ℕ → EReal) (o k : ℕ) : piece A o (o + k) = A k := by
  rw [piece, if_pos (by omega), Nat.add_sub_cancel_left]

/-- A matrix outside its columns. -/
theorem at2_out {n k : ℕ} (D : (⟨2, ![n, k]⟩ : Shape).Idx → EReal) (r l : ℕ) (h : k ≤ l) : at2 D r l = 0 := by
  rw [at2, dif_neg (fun g => by have := g.2; omega)]

/-- A sum over the columns, stretch by stretch. -/
theorem sum_stretches (f : ℕ → EReal) : ∑ k : Fin 6656, f k.val = (∑ k : Fin 3072, f k.val) + (∑ k : Fin 1024, f (3072 + k.val)) + (∑ k : Fin 512, f (4096 + k.val))
    + (∑ k : Fin 1024, f (4608 + k.val)) + ∑ k : Fin 1024, f (5632 + k.val) := by
  simp only [← Finset.sum_range, ← Finset.sum_range (fun k => f (3072 + k)), ← Finset.sum_range (fun k => f (4096 + k)), ← Finset.sum_range (fun k => f (4608 + k)),
    ← Finset.sum_range (fun k => f (5632 + k))]
  rw [show 6656 = 5632 + 1024 from rfl, Finset.sum_range_add, show 5632 = 4608 + 1024 from rfl, Finset.sum_range_add, show 4608 = 4096 + 512 from rfl, Finset.sum_range_add,
    show 4096 = 3072 + 1024 from rfl, Finset.sum_range_add]

/-- The reference's gradient that enters the norm, read. -/
theorem refH_at (D0 : FVec Ideal S8192x3072 .bf16) (D1 : FVec Ideal S8192x1024 .bf16) (D2 : FVec Ideal S8192x512 .bf16) (D3 D4 : FVec Ideal S8192x1024 .bf16) (w : FVec Ideal S1x1024x6656 .f32) (r : Fin 8192) (l : Fin 1024) :
    (refH D0 D1 D2 D3 D4 w (ix2 r l) : EReal) = prods (at2 D0) (fun k l => at2 (wMat w) l k) (at2 D1) (fun k l => at2 (wMat w) l (3072 + k)) (at2 D2) (fun k l => at2 (wMat w) l (4096 + k)) (at2 D3) (fun k l => at2 (wMat w) l (4608 + k)) (at2 D4) (fun k l => at2 (wMat w) l (5632 + k)) r.val l.val := by
  have e : (refH D0 D1 D2 D3 D4 w (ix2 r l) : EReal) = ∑ k : Fin 6656, (fun k : ℕ => (piece (at2 D4 r.val) 5632 k + piece (at2 D3 r.val) 4608 k + piece (at2 D2 r.val) 4096 k
      + piece (at2 D1 r.val) 3072 k + at2 D0 r.val k) * at2 (wMat w) l.val k) k.val := by
    simp only [← refPad_at, at2_of]
    pointwise [refH]
  refine e.trans ((sum_stretches (fun k : ℕ => (piece (at2 D4 r.val) 5632 k + piece (at2 D3 r.val) 4608 k + piece (at2 D2 r.val) 4096 k
      + piece (at2 D1 r.val) 3072 k + at2 D0 r.val k) * at2 (wMat w) l.val k)).trans ?_)
  rw [prods]
  refine congrArg₂ (· + ·) (congrArg₂ (· + ·) (congrArg₂ (· + ·) (congrArg₂ (· + ·) ?_ ?_) ?_) ?_) ?_ <;>
    refine Fintype.sum_congr (M := EReal) _ _ fun k => ?_ <;> have hk := k.isLt
  · simp only [piece_lt _ _ _ (show k.val < 5632 by omega), piece_lt _ _ _ (show k.val < 4608 by omega), piece_lt _ _ _ (show k.val < 4096 by omega),
      piece_lt _ _ _ (show k.val < 3072 by omega), zero_add]
  · simp only [piece_lt _ _ _ (show 3072 + k.val < 5632 by omega), piece_lt _ _ _ (show 3072 + k.val < 4608 by omega), piece_lt _ _ _ (show 3072 + k.val < 4096 by omega),
      piece_add, at2_out D0 r.val _ (show 3072 ≤ 3072 + k.val by omega), zero_add, add_zero]
  · simp only [piece_lt _ _ _ (show 4096 + k.val < 5632 by omega), piece_lt _ _ _ (show 4096 + k.val < 4608 by omega), piece_add,
      piece_ge D1 r.val _ _ (show 3072 + 1024 ≤ 4096 + k.val by omega), at2_out D0 r.val _ (show 3072 ≤ 4096 + k.val by omega), zero_add, add_zero]
  · simp only [piece_lt _ _ _ (show 4608 + k.val < 5632 by omega), piece_add, piece_ge D2 r.val _ _ (show 4096 + 512 ≤ 4608 + k.val by omega),
      piece_ge D1 r.val _ _ (show 3072 + 1024 ≤ 4608 + k.val by omega), at2_out D0 r.val _ (show 3072 ≤ 4608 + k.val by omega), zero_add, add_zero]
  · simp only [piece_add, piece_ge D3 r.val _ _ (show 4608 + 1024 ≤ 5632 + k.val by omega), piece_ge D2 r.val _ _ (show 4096 + 512 ≤ 5632 + k.val by omega),
      piece_ge D1 r.val _ _ (show 3072 + 1024 ≤ 5632 + k.val by omega), at2_out D0 r.val _ (show 3072 ≤ 5632 + k.val by omega), add_zero]

/-- The reference's gradient of the norm's input, from real arguments. -/
theorem ref_dx (D0 : FVec Ideal S8192x3072 .bf16) (D1 : FVec Ideal S8192x1024 .bf16) (D2 : FVec Ideal S8192x512 .bf16) (D3 D4 : FVec Ideal S8192x1024 .bf16) (w : FVec Ideal S1x1024x6656 .f32)
    (X E : FVec Ideal S8192x1024 .f32) (G : FVec Ideal S1x1024 .f32) (r0 : ∃ o : ℕ → ℕ → ℝ, ∀ r l, at2 D0 r l = (o r l : EReal)) (r1 : ∃ o : ℕ → ℕ → ℝ, ∀ r l, at2 D1 r l = (o r l : EReal)) (r2 : ∃ o : ℕ → ℕ → ℝ, ∀ r l, at2 D2 r l = (o r l : EReal)) (r3 : ∃ o : ℕ → ℕ → ℝ, ∀ r l, at2 D3 r l = (o r l : EReal)) (r4 : ∃ o : ℕ → ℕ → ℝ, ∀ r l, at2 D4 r l = (o r l : EReal)) (r5 : ∃ o : ℕ → ℕ → ℝ, ∀ r l, at2 (wMat w) r l = (o r l : EReal)) (r6 : ∃ o : ℕ → ℕ → ℝ, ∀ r l, at2 X r l = (o r l : EReal)) (r8 : ∃ o : ℕ → ℕ → ℝ, ∀ r l, at2 G r l = (o r l : EReal)) :
    refDx (refH D0 D1 D2 D3 D4 w) X E G = fun i => dxA (prods (at2 D0) (fun k l => at2 (wMat w) l k) (at2 D1) (fun k l => at2 (wMat w) l (3072 + k)) (at2 D2) (fun k l => at2 (wMat w) l (4096 + k)) (at2 D3) (fun k l => at2 (wMat w) l (4608 + k)) (at2 D4) (fun k l => at2 (wMat w) l (5632 + k))) (at2 X) (at2 E) (at2 G 0) (i 0).val (i 1).val := by
  refine dx_eq (refH D0 D1 D2 D3 D4 w) X E G (prods (at2 D0) (fun k l => at2 (wMat w) l k) (at2 D1) (fun k l => at2 (wMat w) l (3072 + k)) (at2 D2) (fun k l => at2 (wMat w) l (4096 + k)) (at2 D3) (fun k l => at2 (wMat w) l (4608 + k)) (at2 D4) (fun k l => at2 (wMat w) l (5632 + k))) (refH_at D0 D1 D2 D3 D4 w) ?_ r6 r8
  obtain ⟨o, ho⟩ := r5
  exact add_real _ _ (add_real _ _ (add_real _ _ (add_real _ _ (dot_real (at2 D0) (at2 (wMat w)) 3072 r0 ⟨o, ho⟩)
    (dot_real (at2 D1) (fun l k => at2 (wMat w) l (3072 + k)) 1024 r1 ⟨_, fun l k => ho l (3072 + k)⟩))
    (dot_real (at2 D2) (fun l k => at2 (wMat w) l (4096 + k)) 512 r2 ⟨_, fun l k => ho l (4096 + k)⟩))
    (dot_real (at2 D3) (fun l k => at2 (wMat w) l (4608 + k)) 1024 r3 ⟨_, fun l k => ho l (4608 + k)⟩))
    (dot_real (at2 D4) (fun l k => at2 (wMat w) l (5632 + k)) 1024 r4 ⟨_, fun l k => ho l (5632 + k)⟩)

/-- The weights as the kernel sees them: the preparing lines transpose them and round them to the narrow format. -/
theorem entry_w (m : (ℓ : Loc Cert.Kernel7Ideal.nD Cert.Kernel7Ideal.τ Cert.Kernel7Ideal.sig) → Buf (Elt Ideal) ℓ) (c : Dev Cert.Kernel7Ideal.nD) :
    at2 (n := 6656) (m := 1024) (Cert.Kernel7Ideal.Gen.V m c Cert.Kernel7Ideal.main_v2)
      = fun k l => at2 (wMat (m ((c : Thread Cert.Kernel7Ideal.nD Cert.Kernel7Ideal.τ).loc Cert.Kernel7Ideal.main_arg5))) l k := by
  have h := at2_flip (wMat (m ((c : Thread Cert.Kernel7Ideal.nD Cert.Kernel7Ideal.τ).loc Cert.Kernel7Ideal.main_arg5))) (Cert.Kernel7Ideal.Gen.V m c Cert.Kernel7Ideal.main_v2) fun x0 x1 => by
    show StableHlo.after Cert.Kernel7Ideal.Gen.hostOps0 _ _ _ = _
    after_results_simp
    pointwise [wMat]
  exact congrArg (fun f : ℕ → ℕ → EReal => fun k l => f l k) h

/-- Under the precondition every argument is an array of real numbers. -/
theorem pre_real (a0 : FVec Ideal S8192x3072 .bf16) (a1 : FVec Ideal S8192x1024 .bf16) (a2 : FVec Ideal S8192x512 .bf16) (a3 a4 : FVec Ideal S8192x1024 .bf16)
    (a5 : FVec Ideal S1x1024x6656 .f32) (a6 a7 : FVec Ideal S8192x1024 .f32) (a8 : FVec Ideal S1x1024 .f32)
    (h : (Cert.Pre_finite7.fn (F := Ideal) a0 a1 a2 a3 a4 a5 a6 a7 a8).1 = (fun _ => 1#1)
      ∧ (Cert.Pre_finite7.fn (F := Ideal) a0 a1 a2 a3 a4 a5 a6 a7 a8).2.1 = (fun _ => 1#1)
      ∧ (Cert.Pre_finite7.fn (F := Ideal) a0 a1 a2 a3 a4 a5 a6 a7 a8).2.2.1 = (fun _ => 1#1)
      ∧ (Cert.Pre_finite7.fn (F := Ideal) a0 a1 a2 a3 a4 a5 a6 a7 a8).2.2.2.1 = (fun _ => 1#1)
      ∧ (Cert.Pre_finite7.fn (F := Ideal) a0 a1 a2 a3 a4 a5 a6 a7 a8).2.2.2.2.1 = (fun _ => 1#1)
      ∧ (Cert.Pre_finite7.fn (F := Ideal) a0 a1 a2 a3 a4 a5 a6 a7 a8).2.2.2.2.2.1 = (fun _ => 1#1)
      ∧ (Cert.Pre_finite7.fn (F := Ideal) a0 a1 a2 a3 a4 a5 a6 a7 a8).2.2.2.2.2.2.1 = (fun _ => 1#1)
      ∧ (Cert.Pre_finite7.fn (F := Ideal) a0 a1 a2 a3 a4 a5 a6 a7 a8).2.2.2.2.2.2.2.1 = (fun _ => 1#1)
      ∧ (Cert.Pre_finite7.fn (F := Ideal) a0 a1 a2 a3 a4 a5 a6 a7 a8).2.2.2.2.2.2.2.2 = (fun _ => 1#1)) :
    (∃ o : ℕ → ℕ → ℝ, ∀ r l, at2 a0 r l = (o r l : EReal))
      ∧ (∃ o : ℕ → ℕ → ℝ, ∀ r l, at2 a1 r l = (o r l : EReal))
      ∧ (∃ o : ℕ → ℕ → ℝ, ∀ r l, at2 a2 r l = (o r l : EReal))
      ∧ (∃ o : ℕ → ℕ → ℝ, ∀ r l, at2 a3 r l = (o r l : EReal))
      ∧ (∃ o : ℕ → ℕ → ℝ, ∀ r l, at2 a4 r l = (o r l : EReal))
      ∧ (∃ o : ℕ → ℕ → ℝ, ∀ r l, at2 (wMat a5) r l = (o r l : EReal))
      ∧ (∃ o : ℕ → ℕ → ℝ, ∀ r l, at2 a6 r l = (o r l : EReal))
      ∧ (∃ o : ℕ → ℕ → ℝ, ∀ r l, at2 a8 r l = (o r l : EReal)) :=
  ⟨NormMath.at2_real _ fun i => Cert.PoolRef.real_of_abs _ (Cert.PoolRef.below_top _ (congrFun h.1 i)),
    NormMath.at2_real _ fun i => Cert.PoolRef.real_of_abs _ (Cert.PoolRef.below_top _ (congrFun h.2.1 i)),
    NormMath.at2_real _ fun i => Cert.PoolRef.real_of_abs _ (Cert.PoolRef.below_top _ (congrFun h.2.2.1 i)),
    NormMath.at2_real _ fun i => Cert.PoolRef.real_of_abs _ (Cert.PoolRef.below_top _ (congrFun h.2.2.2.1 i)),
    NormMath.at2_real _ fun i => Cert.PoolRef.real_of_abs _ (Cert.PoolRef.below_top _ (congrFun h.2.2.2.2.1 i)),
    NormMath.at2_real _ fun i => Cert.PoolRef.real_of_abs _ (Cert.PoolRef.below_top _ (congrFun h.2.2.2.2.2.1 _)),
    NormMath.at2_real _ fun i => Cert.PoolRef.real_of_abs _ (Cert.PoolRef.below_top _ (congrFun h.2.2.2.2.2.2.1 i)),
    NormMath.at2_real _ fun i => Cert.PoolRef.real_of_abs _ (Cert.PoolRef.below_top _ (congrFun h.2.2.2.2.2.2.2.2 i))⟩

end Cert.MixRef

namespace Cert.Proof

open Cert.MixNorm Cert.MixRef

/-- This norm's reference runs, leaves its arguments, and ends quiet. -/
theorem frameRef7 : Cert.quiescent_Reference7Ideal (hReference7Ideal := Cert.Reference7Ideal.Gen.facts) := by
  intro m g _
  exact (θ_run Cert.Reference7Ideal.defs _ _).mono
    (fun r h => ⟨fun c => (h c).2.2.2, sem_eq_zero_of_no_sems (by decide) r.2⟩)
    (Cert.Reference7Ideal.Value.run (F := Ideal) m g)

/-- The reference's first result by its parts. -/
theorem ref_res7 (m : (ℓ : Loc Cert.Reference7Ideal.nD Cert.Reference7Ideal.τ Cert.Reference7Ideal.sig) → Buf (Elt Ideal) ℓ) (c : Dev Cert.Reference7Ideal.nD) :
    Cert.Reference7Ideal.Value.res_main_v59 (F := Ideal) m c = refDx (refH (m ((c : Thread Cert.Reference7Ideal.nD Cert.Reference7Ideal.τ).loc Cert.Reference7Ideal.main_arg0)) (m ((c : Thread Cert.Reference7Ideal.nD Cert.Reference7Ideal.τ).loc Cert.Reference7Ideal.main_arg1)) (m ((c : Thread Cert.Reference7Ideal.nD Cert.Reference7Ideal.τ).loc Cert.Reference7Ideal.main_arg2)) (m ((c : Thread Cert.Reference7Ideal.nD Cert.Reference7Ideal.τ).loc Cert.Reference7Ideal.main_arg3)) (m ((c : Thread Cert.Reference7Ideal.nD Cert.Reference7Ideal.τ).loc Cert.Reference7Ideal.main_arg4)) (m ((c : Thread Cert.Reference7Ideal.nD Cert.Reference7Ideal.τ).loc Cert.Reference7Ideal.main_arg5))) (m ((c : Thread Cert.Reference7Ideal.nD Cert.Reference7Ideal.τ).loc Cert.Reference7Ideal.main_arg6)) (m ((c : Thread Cert.Reference7Ideal.nD Cert.Reference7Ideal.τ).loc Cert.Reference7Ideal.main_arg7)) (m ((c : Thread Cert.Reference7Ideal.nD Cert.Reference7Ideal.τ).loc Cert.Reference7Ideal.main_arg8)) := by
  unfold Cert.Reference7Ideal.Value.res_main_v59 refDx refM refG refMs refH refPad wMat
  rfl

set_option maxHeartbeats 1000000 in
/-- From finite arguments this norm's backward call returns what the transpose of the plain forward pass returns. -/
theorem algebraic7 : Cert.algebraic_Kernel7Ideal_Reference7Ideal_pre_finite7
    (hKernel7Ideal := Cert.Kernel7Ideal.Gen.facts) (hReference7Ideal := Cert.Reference7Ideal.Gen.facts) (hPre_finite7 := Cert.Pre_finite7.Gen.facts) := by
  pair_intro
  · run_from Cert.Kernel7Ideal.Gen.run_main m g
  · run_from Cert.Reference7Ideal.Value.run m' g'
    all_goals
      have h0 := (hagree c).1
      have h1 := (hagree c).2.1
      have h2 := (hagree c).2.2.1
      have h3 := (hagree c).2.2.2.1
      have h4 := (hagree c).2.2.2.2.1
      have h5 := (hagree c).2.2.2.2.2.1
      have h6 := (hagree c).2.2.2.2.2.2.1
      have h7 := (hagree c).2.2.2.2.2.2.2.1
      have h8 := (hagree c).2.2.2.2.2.2.2.2
      obtain ⟨r0, r1, r2, r3, r4, r5, r6, r8⟩ := pre_real _ _ _ _ _ _ _ _ _ (hpre c)
      rw [← h0] at r0
      rw [← h1] at r1
      rw [← h2] at r2
      rw [← h3] at r3
      rw [← h4] at r4
      rw [← h5] at r5
      rw [← h6] at r6
      rw [← h8] at r8
      have hD := ref_dx _ _ _ _ _ _ _ (m' ((c : Thread Cert.Reference7Ideal.nD Cert.Reference7Ideal.τ).loc Cert.Reference7Ideal.main_arg7)) _ r0 r1 r2 r3 r4 r5 r6 r8
    · refine Eq.trans ?_ (final9 m c).symm
      rw [dx, hh, entry_w, Cert.Kernel7Ideal.Gen.V_main_arg0, Cert.Kernel7Ideal.Gen.V_main_arg1, Cert.Kernel7Ideal.Gen.V_main_arg2, Cert.Kernel7Ideal.Gen.V_main_arg3, Cert.Kernel7Ideal.Gen.V_main_arg4, Cert.Kernel7Ideal.Gen.V_main_arg6, Cert.Kernel7Ideal.Gen.V_main_arg7, Cert.Kernel7Ideal.Gen.V_main_arg8, ← h0, ← h1, ← h2, ← h3, ← h4, ← h5, ← h6, ← h7, ← h8]
      exact (ref_res7 m' c).trans hD
    · refine Eq.trans ?_ (final10 m c).symm
      rw [dx, hh, entry_w, Cert.Kernel7Ideal.Gen.V_main_arg0, Cert.Kernel7Ideal.Gen.V_main_arg1, Cert.Kernel7Ideal.Gen.V_main_arg2, Cert.Kernel7Ideal.Gen.V_main_arg3, Cert.Kernel7Ideal.Gen.V_main_arg4, Cert.Kernel7Ideal.Gen.V_main_arg6, Cert.Kernel7Ideal.Gen.V_main_arg7, Cert.Kernel7Ideal.Gen.V_main_arg8, ← h0, ← h1, ← h2, ← h3, ← h4, ← h5, ← h6, ← h7, ← h8]
      funext i
      exact (refHalf_at _ i).trans (congrArg (fun z : EReal => z * (_ : EReal)) (congrFun hD i))
    · refine Eq.trans ?_ (final11 m c).symm
      rw [hh, entry_w, Cert.Kernel7Ideal.Gen.V_main_arg0, Cert.Kernel7Ideal.Gen.V_main_arg1, Cert.Kernel7Ideal.Gen.V_main_arg2, Cert.Kernel7Ideal.Gen.V_main_arg3, Cert.Kernel7Ideal.Gen.V_main_arg4, Cert.Kernel7Ideal.Gen.V_main_arg6, ← h0, ← h1, ← h2, ← h3, ← h4, ← h5, ← h6]
      exact dg_eq (refH _ _ _ _ _ _) _ _ (refH_at _ _ _ _ _ _)

end Cert.Proof
end
-- ==== Proof.MidA.lean ====
/-
# The gated linear unit's forward and backward: what the two launches leave

The first launch keeps the gate's two factors of the backward pass, the second multiplies them with the gradient that
enters. Both walk the hidden columns in eleven chunks of 256; a chunk's value does not depend on the chunk.
-/
module

public import proofs.«01_k».proof.Proof.RmsNorm
public import proofs.«01_k».proof.Proof.Gen.Kernel8Ideal.Frame

@[expose] public section

set_option maxRecDepth 16384

noncomputable section

open Idealize.ShloMosaic Idealize.ShloMosaic.TcCoe Idealize.SL.Sem
open Cert.PoolValue (at2)
open Cert.RmsNorm (at2_of)

namespace Cert.MidValue

open Cert.Kernel8Ideal Cert.Kernel8Ideal.Gen

/-- Row `r` of `X` times row `l` of `W`. -/
def dotW (X W : ℕ → ℕ → EReal) (r l : ℕ) : EReal := ∑ k : Fin 1024, X r k.val * W l k.val

/-- The logistic gate, as the body writes it. -/
def sg (a : EReal) : EReal :=
  Ideal.ofBits .f32 0x3F000000#32 * Ideal.tanh (Ideal.ofBits .f32 0x3F000000#32 * a) + Ideal.ofBits .f32 0x3F000000#32

/-- The gated product's derivative by the gate's input. -/
def gA (a b : EReal) : EReal := b * (sg a + a * sg a * (Ideal.ofBits .f32 0x3F800000#32 - sg a))

/-- The gated product's derivative by the other factor. -/
def gB (a : EReal) : EReal := a * sg a

/-- The weights' rows from `o` on, as the body loads them. -/
theorem at2_ld (W : FVec Ideal S2816x1024 .bf16) (o : ℕ) (h : ∀ a, (![o, 0] : Fin 2 → ℕ) a + S256x1024.size a ≤ S2816x1024.size a)
    (j : Fin 256) (k : Fin 1024) :
    @View.ld (Elt Ideal) S2816x1024 .bf16 W (Rect.unit (s := S2816x1024) ![o, 0] S256x1024.size h) (ix2 j k) = at2 (n := 2816) (m := 1024) W (o + j.val) k.val := by
  have h0 : o + 256 ≤ 2816 := h 0
  have hj := j.isLt
  rw [at2, dif_pos ⟨by omega, k.isLt⟩]
  refine congrArg W (funext fun a => ?_)
  match a with
  | 0 => exact Fin.ext (by simp)
  | 1 => exact Fin.ext (by simp)

/-- A tile's columns from `o` on, as the body loads them. -/
theorem at2_cols (D : FVec Ideal S512x2816 .bf16) (o : ℕ) (h : ∀ a, (![0, o] : Fin 2 → ℕ) a + S512x256.size a ≤ S512x2816.size a)
    (r : Fin 512) (j : Fin 256) :
    @View.ld (Elt Ideal) S512x2816 .bf16 D (Rect.unit (s := S512x2816) ![0, o] S512x256.size h) (ix2 r j) = at2 (n := 512) (m := 2816) D r.val (o + j.val) := by
  have h0 : o + 256 ≤ 2816 := h 1
  have hj := j.isLt
  rw [at2, dif_pos ⟨r.isLt, by omega⟩]
  refine congrArg D (funext fun a => ?_)
  match a with
  | 0 => exact Fin.ext (by simp)
  | 1 => exact Fin.ext (by simp)

/-- The rows' block, loaded whole. -/
theorem at2_rows (X : FVec Ideal S512x1024 .bf16) (r : Fin 512) (k : Fin 1024) :
    @View.ld (Elt Ideal) S512x1024 .bf16 X r0_0 (ix2 r k) = at2 (n := 512) (m := 1024) X r.val k.val := by
  rw [at2_of]
  refine congrArg X (funext fun a => ?_)
  match a with
  | 0 => exact Fin.ext (by simp)
  | 1 => exact Fin.ext (by simp)

/-- A chunk's product with the first weights. -/
theorem pay4_at (X : FVec Ideal S512x1024 .bf16) (W1 : FVec Ideal S2816x1024 .bf16) (o : ℕ) (h : ∀ a, (![o, 0] : Fin 2 → ℕ) a + S256x1024.size a ≤ S2816x1024.size a) (r : Fin 512) (j : Fin 256) :
    k0_pay4 (@View.ld (Elt Ideal) S512x1024 .bf16 X r0_0) (@View.ld (Elt Ideal) S2816x1024 .bf16 W1 (Rect.unit (s := S2816x1024) ![o, 0] S256x1024.size h)) (ix2 r j) = (dotW (at2 (n := 512) (m := 1024) X) (at2 (n := 2816) (m := 1024) W1) r.val (o + j.val) : EReal) := by
  rw [dotW]
  simp only [← at2_ld W1 o h j, ← at2_rows]
  pointwise [k0_pay4]

/-- A chunk's product with the other weights. -/
theorem pay5_at (X : FVec Ideal S512x1024 .bf16) (W1 : FVec Ideal S2816x1024 .bf16) (o : ℕ) (h : ∀ a, (![o, 0] : Fin 2 → ℕ) a + S256x1024.size a ≤ S2816x1024.size a) (r : Fin 512) (j : Fin 256) :
    k0_pay5 (@View.ld (Elt Ideal) S512x1024 .bf16 X r0_0) (@View.ld (Elt Ideal) S2816x1024 .bf16 W1 (Rect.unit (s := S2816x1024) ![o, 0] S256x1024.size h)) (ix2 r j) = (dotW (at2 (n := 512) (m := 1024) X) (at2 (n := 2816) (m := 1024) W1) r.val (o + j.val) : EReal) := by
  rw [dotW]
  simp only [← at2_ld W1 o h j, ← at2_rows]
  pointwise [k0_pay5]

/-- A chunk of the gradient behind the second product. -/
theorem pay15_at (X : FVec Ideal S512x1024 .bf16) (W1 : FVec Ideal S2816x1024 .bf16) (o : ℕ) (h : ∀ a, (![o, 0] : Fin 2 → ℕ) a + S256x1024.size a ≤ S2816x1024.size a) (r : Fin 512) (j : Fin 256) :
    k1_pay5 (@View.ld (Elt Ideal) S512x1024 .bf16 X r1_0) (@View.ld (Elt Ideal) S2816x1024 .bf16 W1 (Rect.unit (s := S2816x1024) ![o, 0] S256x1024.size h)) (ix2 r j) = (dotW (at2 (n := 512) (m := 1024) X) (at2 (n := 2816) (m := 1024) W1) r.val (o + j.val) : EReal) := by
  rw [dotW]
  simp only [← at2_ld W1 o h j, ← at2_rows]
  pointwise [k1_pay5]

/-- The gate over a chunk. -/
theorem pay6_at (X : FVec Ideal S512x1024 .bf16) (W1 : FVec Ideal S2816x1024 .bf16) (o : ℕ) (h : ∀ a, (![o, 0] : Fin 2 → ℕ) a + S256x1024.size a ≤ S2816x1024.size a) (r : Fin 512) (j : Fin 256) :
    k0_pay6 (@View.ld (Elt Ideal) S512x1024 .bf16 X r0_0) (@View.ld (Elt Ideal) S2816x1024 .bf16 W1 (Rect.unit (s := S2816x1024) ![o, 0] S256x1024.size h)) (ix2 r j) = (sg (dotW (at2 (n := 512) (m := 1024) X) (at2 (n := 2816) (m := 1024) W1) r.val (o + j.val)) : EReal) := by
  rw [sg, ← pay4_at X W1 o h r j]
  pointwise [k0_pay6]

/-- The gated input over a chunk. -/
theorem pay7_at (X : FVec Ideal S512x1024 .bf16) (W1 : FVec Ideal S2816x1024 .bf16) (o : ℕ) (h : ∀ a, (![o, 0] : Fin 2 → ℕ) a + S256x1024.size a ≤ S2816x1024.size a) (r : Fin 512) (j : Fin 256) :
    k0_pay7 (@View.ld (Elt Ideal) S512x1024 .bf16 X r0_0) (@View.ld (Elt Ideal) S2816x1024 .bf16 W1 (Rect.unit (s := S2816x1024) ![o, 0] S256x1024.size h)) (ix2 r j) = (gB (dotW (at2 (n := 512) (m := 1024) X) (at2 (n := 2816) (m := 1024) W1) r.val (o + j.val)) : EReal) := by
  rw [gB, ← pay6_at X W1 o h r j, ← pay4_at X W1 o h r j]
  pointwise [k0_pay7]

/-- The derivative by the gate's input over a chunk. -/
theorem pay8_at (X : FVec Ideal S512x1024 .bf16) (W1 W3 : FVec Ideal S2816x1024 .bf16) (o : ℕ) (h : ∀ a, (![o, 0] : Fin 2 → ℕ) a + S256x1024.size a ≤ S2816x1024.size a) (r : Fin 512) (j : Fin 256) :
    k0_pay8 (@View.ld (Elt Ideal) S512x1024 .bf16 X r0_0) (@View.ld (Elt Ideal) S2816x1024 .bf16 W1 (Rect.unit (s := S2816x1024) ![o, 0] S256x1024.size h)) (@View.ld (Elt Ideal) S512x1024 .bf16 X r0_0) (@View.ld (Elt Ideal) S2816x1024 .bf16 W3 (Rect.unit (s := S2816x1024) ![o, 0] S256x1024.size h)) (ix2 r j)
      = (gA (dotW (at2 (n := 512) (m := 1024) X) (at2 (n := 2816) (m := 1024) W1) r.val (o + j.val))
          (dotW (at2 (n := 512) (m := 1024) X) (at2 (n := 2816) (m := 1024) W3) r.val (o + j.val)) : EReal) := by
  have e := pay7_at X W1 o h r j
  rw [gB] at e
  rw [gA, ← e, ← pay6_at X W1 o h r j, ← pay5_at X W3 o h r j]
  pointwise [k0_pay8]

/-- The derivative by the other factor over a chunk. -/
theorem pay9_at (X : FVec Ideal S512x1024 .bf16) (W1 : FVec Ideal S2816x1024 .bf16) (o : ℕ) (h : ∀ a, (![o, 0] : Fin 2 → ℕ) a + S256x1024.size a ≤ S2816x1024.size a) (r : Fin 512) (j : Fin 256) :
    k0_pay9 (@View.ld (Elt Ideal) S512x1024 .bf16 X r0_0) (@View.ld (Elt Ideal) S2816x1024 .bf16 W1 (Rect.unit (s := S2816x1024) ![o, 0] S256x1024.size h)) (ix2 r j) = (gB (dotW (at2 (n := 512) (m := 1024) X) (at2 (n := 2816) (m := 1024) W1) r.val (o + j.val)) : EReal) := by
  rw [← pay7_at X W1 o h r j]
  pointwise [k0_pay9]

/-- A chunk of the second launch's first result. -/
theorem pay16_at (X : FVec Ideal S512x1024 .bf16) (W1 : FVec Ideal S2816x1024 .bf16) (D : FVec Ideal S512x2816 .bf16) (o : ℕ) (h : ∀ a, (![o, 0] : Fin 2 → ℕ) a + S256x1024.size a ≤ S2816x1024.size a)
    (h' : ∀ a, (![0, o] : Fin 2 → ℕ) a + S512x256.size a ≤ S512x2816.size a) (r : Fin 512) (j : Fin 256) :
    k1_pay6 (@View.ld (Elt Ideal) S512x1024 .bf16 X r1_0) (@View.ld (Elt Ideal) S2816x1024 .bf16 W1 (Rect.unit (s := S2816x1024) ![o, 0] S256x1024.size h)) (@View.ld (Elt Ideal) S512x2816 .bf16 D (Rect.unit (s := S512x2816) ![0, o] S512x256.size h')) (ix2 r j)
      = (dotW (at2 (n := 512) (m := 1024) X) (at2 (n := 2816) (m := 1024) W1) r.val (o + j.val) * at2 (n := 512) (m := 2816) D r.val (o + j.val) : EReal) := by
  rw [← pay15_at X W1 o h r j, ← at2_cols D o h' r j]
  pointwise [k1_pay6]

/-- A chunk of the second launch's other result. -/
theorem pay17_at (X : FVec Ideal S512x1024 .bf16) (W1 : FVec Ideal S2816x1024 .bf16) (D : FVec Ideal S512x2816 .bf16) (o : ℕ) (h : ∀ a, (![o, 0] : Fin 2 → ℕ) a + S256x1024.size a ≤ S2816x1024.size a)
    (h' : ∀ a, (![0, o] : Fin 2 → ℕ) a + S512x256.size a ≤ S512x2816.size a) (r : Fin 512) (j : Fin 256) :
    k1_pay7 (@View.ld (Elt Ideal) S512x1024 .bf16 X r1_0) (@View.ld (Elt Ideal) S2816x1024 .bf16 W1 (Rect.unit (s := S2816x1024) ![o, 0] S256x1024.size h)) (@View.ld (Elt Ideal) S512x2816 .bf16 D (Rect.unit (s := S512x2816) ![0, o] S512x256.size h')) (ix2 r j)
      = (dotW (at2 (n := 512) (m := 1024) X) (at2 (n := 2816) (m := 1024) W1) r.val (o + j.val) * at2 (n := 512) (m := 2816) D r.val (o + j.val) : EReal) := by
  rw [← pay15_at X W1 o h r j, ← at2_cols D o h' r j]
  pointwise [k1_pay7]

/-- The chunk's value at a place of the tile. -/
theorem chunk0_3 (X : FVec Ideal S512x1024 .bf16) (W1 W3 : FVec Ideal S2816x1024 .bf16) (o : ℕ) (h : ∀ a, (![o, 0] : Fin 2 → ℕ) a + S256x1024.size a ≤ S2816x1024.size a)
    (x : S512x256.Idx) (p q : ℕ) (hp : p = (x 0).val) (hq : q = o + (x 1).val) :
    k0_pay8 (@View.ld (Elt Ideal) S512x1024 .bf16 X r0_0) (@View.ld (Elt Ideal) S2816x1024 .bf16 W1 (Rect.unit (s := S2816x1024) ![o, 0] S256x1024.size h)) (@View.ld (Elt Ideal) S512x1024 .bf16 X r0_0) (@View.ld (Elt Ideal) S2816x1024 .bf16 W3 (Rect.unit (s := S2816x1024) ![o, 0] S256x1024.size h)) x = (gA (dotW (at2 (n := 512) (m := 1024) X) (at2 (n := 2816) (m := 1024) W1) p q) (dotW (at2 (n := 512) (m := 1024) X) (at2 (n := 2816) (m := 1024) W3) p q) : EReal) := by
  rw [hp, hq]
  exact (congrArg (k0_pay8 (@View.ld (Elt Ideal) S512x1024 .bf16 X r0_0) (@View.ld (Elt Ideal) S2816x1024 .bf16 W1 (Rect.unit (s := S2816x1024) ![o, 0] S256x1024.size h)) (@View.ld (Elt Ideal) S512x1024 .bf16 X r0_0) (@View.ld (Elt Ideal) S2816x1024 .bf16 W3 (Rect.unit (s := S2816x1024) ![o, 0] S256x1024.size h))) (eq_ix2 x)).trans (pay8_at X W1 W3 o h (x 0) (x 1))

/-- The first launch leaves the derivative by the gate's input. -/
theorem out0_3_at (X : FVec Ideal S512x1024 .bf16) (W1 W3 : FVec Ideal S2816x1024 .bf16) (y : S512x2816.Idx) :
    out0_3 (F := Ideal) X W1 W3 y = (gA (dotW (at2 (n := 512) (m := 1024) X) (at2 (n := 2816) (m := 1024) W1) (y 0).val (y 1).val) (dotW (at2 (n := 512) (m := 1024) X) (at2 (n := 2816) (m := 1024) W3) (y 0).val (y 1).val) : EReal) := by
  rw [out0_3]
  canon_tiles x h <;> first | exact chunk0_3 X W1 W3 _ _ x _ _ h0 h1 | exact chunk0_3 X W1 W3 _ _ x _ _ h0 (h1.trans (Nat.zero_add _).symm)

/-- The chunk's value at a place of the tile. -/
theorem chunk0_4 (X : FVec Ideal S512x1024 .bf16) (W1 : FVec Ideal S2816x1024 .bf16) (o : ℕ) (h : ∀ a, (![o, 0] : Fin 2 → ℕ) a + S256x1024.size a ≤ S2816x1024.size a)
    (x : S512x256.Idx) (p q : ℕ) (hp : p = (x 0).val) (hq : q = o + (x 1).val) :
    k0_pay9 (@View.ld (Elt Ideal) S512x1024 .bf16 X r0_0) (@View.ld (Elt Ideal) S2816x1024 .bf16 W1 (Rect.unit (s := S2816x1024) ![o, 0] S256x1024.size h)) x = (gB (dotW (at2 (n := 512) (m := 1024) X) (at2 (n := 2816) (m := 1024) W1) p q) : EReal) := by
  rw [hp, hq]
  exact (congrArg (k0_pay9 (@View.ld (Elt Ideal) S512x1024 .bf16 X r0_0) (@View.ld (Elt Ideal) S2816x1024 .bf16 W1 (Rect.unit (s := S2816x1024) ![o, 0] S256x1024.size h))) (eq_ix2 x)).trans (pay9_at X W1 o h (x 0) (x 1))

/-- The first launch leaves the derivative by the other factor. -/
theorem out0_4_at (X : FVec Ideal S512x1024 .bf16) (W1 W3 : FVec Ideal S2816x1024 .bf16) (y : S512x2816.Idx) :
    out0_4 (F := Ideal) X W1 W3 y = (gB (dotW (at2 (n := 512) (m := 1024) X) (at2 (n := 2816) (m := 1024) W1) (y 0).val (y 1).val) : EReal) := by
  rw [out0_4]
  canon_tiles x h <;> first | exact chunk0_4 X W1 _ _ x _ _ h0 h1 | exact chunk0_4 X W1 _ _ x _ _ h0 (h1.trans (Nat.zero_add _).symm)

/-- The chunk's value at a place of the tile. -/
theorem chunk1_4 (X : FVec Ideal S512x1024 .bf16) (W1 : FVec Ideal S2816x1024 .bf16) (D : FVec Ideal S512x2816 .bf16) (o : ℕ) (h : ∀ a, (![o, 0] : Fin 2 → ℕ) a + S256x1024.size a ≤ S2816x1024.size a) (h' : ∀ a, (![0, o] : Fin 2 → ℕ) a + S512x256.size a ≤ S512x2816.size a)
    (x : S512x256.Idx) (p q : ℕ) (hp : p = (x 0).val) (hq : q = o + (x 1).val) :
    k1_pay6 (@View.ld (Elt Ideal) S512x1024 .bf16 X r1_0) (@View.ld (Elt Ideal) S2816x1024 .bf16 W1 (Rect.unit (s := S2816x1024) ![o, 0] S256x1024.size h)) (@View.ld (Elt Ideal) S512x2816 .bf16 D (Rect.unit (s := S512x2816) ![0, o] S512x256.size h')) x = (dotW (at2 (n := 512) (m := 1024) X) (at2 (n := 2816) (m := 1024) W1) p q * at2 (n := 512) (m := 2816) D p q : EReal) := by
  rw [hp, hq]
  exact (congrArg (k1_pay6 (@View.ld (Elt Ideal) S512x1024 .bf16 X r1_0) (@View.ld (Elt Ideal) S2816x1024 .bf16 W1 (Rect.unit (s := S2816x1024) ![o, 0] S256x1024.size h)) (@View.ld (Elt Ideal) S512x2816 .bf16 D (Rect.unit (s := S512x2816) ![0, o] S512x256.size h'))) (eq_ix2 x)).trans (pay16_at X W1 D o h h' (x 0) (x 1))

/-- The second launch leaves the gradient of the gate's input. -/
theorem out1_4_at (X : FVec Ideal S512x1024 .bf16) (W1 : FVec Ideal S2816x1024 .bf16) (D E : FVec Ideal S512x2816 .bf16) (y : S512x2816.Idx) :
    out1_4 (F := Ideal) X W1 D E y = (dotW (at2 (n := 512) (m := 1024) X) (at2 (n := 2816) (m := 1024) W1) (y 0).val (y 1).val * at2 (n := 512) (m := 2816) D (y 0).val (y 1).val : EReal) := by
  rw [out1_4]
  canon_tiles x h <;> first | exact chunk1_4 X W1 D _ _ _ x _ _ h0 h1 | exact chunk1_4 X W1 D _ _ _ x _ _ h0 (h1.trans (Nat.zero_add _).symm)

/-- The chunk's value at a place of the tile. -/
theorem chunk1_5 (X : FVec Ideal S512x1024 .bf16) (W1 : FVec Ideal S2816x1024 .bf16) (D : FVec Ideal S512x2816 .bf16) (o : ℕ) (h : ∀ a, (![o, 0] : Fin 2 → ℕ) a + S256x1024.size a ≤ S2816x1024.size a) (h' : ∀ a, (![0, o] : Fin 2 → ℕ) a + S512x256.size a ≤ S512x2816.size a)
    (x : S512x256.Idx) (p q : ℕ) (hp : p = (x 0).val) (hq : q = o + (x 1).val) :
    k1_pay7 (@View.ld (Elt Ideal) S512x1024 .bf16 X r1_0) (@View.ld (Elt Ideal) S2816x1024 .bf16 W1 (Rect.unit (s := S2816x1024) ![o, 0] S256x1024.size h)) (@View.ld (Elt Ideal) S512x2816 .bf16 D (Rect.unit (s := S512x2816) ![0, o] S512x256.size h')) x = (dotW (at2 (n := 512) (m := 1024) X) (at2 (n := 2816) (m := 1024) W1) p q * at2 (n := 512) (m := 2816) D p q : EReal) := by
  rw [hp, hq]
  exact (congrArg (k1_pay7 (@View.ld (Elt Ideal) S512x1024 .bf16 X r1_0) (@View.ld (Elt Ideal) S2816x1024 .bf16 W1 (Rect.unit (s := S2816x1024) ![o, 0] S256x1024.size h)) (@View.ld (Elt Ideal) S512x2816 .bf16 D (Rect.unit (s := S512x2816) ![0, o] S512x256.size h'))) (eq_ix2 x)).trans (pay17_at X W1 D o h h' (x 0) (x 1))

/-- The second launch leaves the gradient of the other factor. -/
theorem out1_5_at (X : FVec Ideal S512x1024 .bf16) (W1 : FVec Ideal S2816x1024 .bf16) (D E : FVec Ideal S512x2816 .bf16) (y : S512x2816.Idx) :
    out1_5 (F := Ideal) X W1 E D y = (dotW (at2 (n := 512) (m := 1024) X) (at2 (n := 2816) (m := 1024) W1) (y 0).val (y 1).val * at2 (n := 512) (m := 2816) D (y 0).val (y 1).val : EReal) := by
  rw [out1_5]
  canon_tiles x h <;> first | exact chunk1_5 X W1 D _ _ _ x _ _ h0 h1 | exact chunk1_5 X W1 D _ _ _ x _ _ h0 (h1.trans (Nat.zero_add _).symm)

end Cert.MidValue

end
-- ==== Proof.MidRun.lean ====
/- What the gated unit's two launches leave at their end, of the arguments at launch. -/
module

public import proofs.«01_k».proof.Proof.MidA
public import Idealize.ShloMosaic.Lib.Pipeline.ValueKit
public import Idealize.ShloMosaic.Lib.Claim

@[expose] public section

set_option maxRecDepth 16384

noncomputable section

namespace Cert.MidValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen
open Cert.PoolValue (at2)
open Cert.RmsNorm (at2_of row_of)

section Blocks

variable (V : (c : Dev nD) → (b : Ref sig .tc) → Buf (Elt Ideal) ((c : Thread nD τ).loc b))

/-- The first launch's blocks. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The second launch's blocks. -/
theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![t.val, 0] :=
  (by decide +kernel : ∀ t : Fin grid1.N, _)

/-- A row of the first launch's block of the hidden states. -/
theorem rowX0 (c : Dev nD) (t : Fin cfg0.N) (r : ℕ) (hr : r < 512) :
    at2 (n := 512) (m := 1024) (iblk0 V c 0 t) r = at2 (n := 8192) (m := 1024) (V c main_arg0) (512 * t.val + r) :=
  row_of _ _ _ _ hr (by have := lt_of_lt_of_eq t.isLt N_0; omega) fun x0 x1 => by blk_point [iblk0, idx0 t]

/-- The gate's weights. -/
theorem wts1 (c : Dev nD) (t : Fin cfg0.N) : at2 (n := 2816) (m := 1024) (iblk0 V c 1 t) = at2 (n := 2816) (m := 1024) (V c main_v2) :=
  congrArg at2 (funext fun z => by blk_point [iblk0, idx0 t])

/-- The other factor's weights. -/
theorem wts3 (c : Dev nD) (t : Fin cfg0.N) : at2 (n := 2816) (m := 1024) (iblk0 V c 2 t) = at2 (n := 2816) (m := 1024) (V c main_v5) :=
  congrArg at2 (funext fun z => by blk_point [iblk0, idx0 t])

/-- A row of the second launch's block of the gradient that enters. -/
theorem rowX1 (c : Dev nD) (t : Fin cfg1.N) (r : ℕ) (hr : r < 512) :
    at2 (n := 512) (m := 1024) (iblk1 V c 0 t) r = at2 (n := 8192) (m := 1024) (V c main_arg4) (512 * t.val + r) :=
  row_of _ _ _ _ hr (by have := lt_of_lt_of_eq t.isLt N_1; omega) fun x0 x1 => by blk_point [iblk1, idx1 t]

/-- The second product's weights. -/
theorem wts2 (c : Dev nD) (t : Fin cfg1.N) : at2 (n := 2816) (m := 1024) (iblk1 V c 1 t) = at2 (n := 2816) (m := 1024) (V c main_v8) :=
  congrArg at2 (funext fun z => by blk_point [iblk1, idx1 t])

/-- A row of the block of the first derivative. -/
theorem rowA (c : Dev nD) (t : Fin cfg1.N) (r : ℕ) (hr : r < 512) :
    at2 (n := 512) (m := 2816) (iblk1 V c 2 t) r = at2 (n := 8192) (m := 2816) (V c main_v6_0) (512 * t.val + r) :=
  row_of _ _ _ _ hr (by have := lt_of_lt_of_eq t.isLt N_1; omega) fun x0 x1 => by blk_point [iblk1, idx1 t]

/-- A row of the block of the second derivative. -/
theorem rowB (c : Dev nD) (t : Fin cfg1.N) (r : ℕ) (hr : r < 512) :
    at2 (n := 512) (m := 2816) (iblk1 V c 3 t) r = at2 (n := 8192) (m := 2816) (V c main_v6_1) (512 * t.val + r) :=
  row_of _ _ _ _ hr (by have := lt_of_lt_of_eq t.isLt N_1; omega) fun x0 x1 => by blk_point [iblk1, idx1 t]

/-- The gate's input over the whole arrays. -/
abbrev aA (c : Dev nD) : ℕ → ℕ → EReal := dotW (at2 (n := 8192) (m := 1024) (V c main_arg0)) (at2 (n := 2816) (m := 1024) (V c main_v2))

/-- The other factor over the whole arrays. -/
abbrev bA (c : Dev nD) : ℕ → ℕ → EReal := dotW (at2 (n := 8192) (m := 1024) (V c main_arg0)) (at2 (n := 2816) (m := 1024) (V c main_v5))

/-- The gradient behind the second product over the whole arrays. -/
abbrev dA (c : Dev nD) : ℕ → ℕ → EReal := dotW (at2 (n := 8192) (m := 1024) (V c main_arg4)) (at2 (n := 2816) (m := 1024) (V c main_v8))

/-- The first launch's first result: the derivative by the gate's input. -/
theorem final0_3 (c : Dev nD) : ((dat0 V c).arrAt 3 cfg0.N : S8192x2816.Idx → Elt Ideal _) = fun i => gA (aA V c (i 0).val (i 1).val) (bA V c (i 0).val (i 1).val) := by
  refine (dat0 V c).arrAt_eq_of_covers 3 _ (by decide +kernel) fun t _ y => ?_
  blk_simp
  rw [after0_3]
  refine (out0_3_at _ _ _ y).trans ?_
  have hy : (y 0).val < 512 := (y 0).isLt
  simp only [dotW, rowX0 V c t _ hy, wts1, wts3]
  refine congrArg₂ (fun r l => gA (aA V c r l) (bA V c r l)) ?_ ?_
  · blk_point [idx0 t]
    exact Nat.mul_comm _ _
  · blk_point [idx0 t]

/-- The first launch's second result: the derivative by the other factor. -/
theorem final0_4 (c : Dev nD) : ((dat0 V c).arrAt 4 cfg0.N : S8192x2816.Idx → Elt Ideal _) = fun i => gB (aA V c (i 0).val (i 1).val) := by
  refine (dat0 V c).arrAt_eq_of_covers 4 _ (by decide +kernel) fun t _ y => ?_
  blk_simp
  rw [after0_4]
  refine (out0_4_at _ _ _ y).trans ?_
  have hy : (y 0).val < 512 := (y 0).isLt
  simp only [dotW, rowX0 V c t _ hy, wts1]
  refine congrArg₂ (fun r l => gB (aA V c r l)) ?_ ?_
  · blk_point [idx0 t]
    exact Nat.mul_comm _ _
  · blk_point [idx0 t]

/-- The second launch's first result. -/
theorem final1_4 (c : Dev nD) : ((dat1 V c).arrAt 4 cfg1.N : S8192x2816.Idx → Elt Ideal _) = fun i => dA V c (i 0).val (i 1).val * at2 (n := 8192) (m := 2816) (V c main_v6_0) (i 0).val (i 1).val := by
  refine (dat1 V c).arrAt_eq_of_covers 4 _ (by decide +kernel) fun t _ y => ?_
  blk_simp
  rw [after1_4]
  refine (out1_4_at _ _ _ _ y).trans ?_
  have hy : (y 0).val < 512 := (y 0).isLt
  simp only [dotW, rowX1 V c t _ hy, wts2, rowA V c t _ hy]
  refine congrArg₂ (fun r l => dA V c r l * at2 (n := 8192) (m := 2816) (V c main_v6_0) r l) ?_ ?_
  · blk_point [idx1 t]
    exact Nat.mul_comm _ _
  · blk_point [idx1 t]

/-- The second launch's second result. -/
theorem final1_5 (c : Dev nD) : ((dat1 V c).arrAt 5 cfg1.N : S8192x2816.Idx → Elt Ideal _) = fun i => dA V c (i 0).val (i 1).val * at2 (n := 8192) (m := 2816) (V c main_v6_1) (i 0).val (i 1).val := by
  refine (dat1 V c).arrAt_eq_of_covers 5 _ (by decide +kernel) fun t _ y => ?_
  blk_simp
  rw [after1_5]
  refine (out1_5_at _ _ _ _ y).trans ?_
  have hy : (y 0).val < 512 := (y 0).isLt
  simp only [dotW, rowX1 V c t _ hy, wts2, rowB V c t _ hy]
  refine congrArg₂ (fun r l => dA V c r l * at2 (n := 8192) (m := 2816) (V c main_v6_1) r l) ?_ ?_
  · blk_point [idx1 t]
    exact Nat.mul_comm _ _
  · blk_point [idx1 t]

end Blocks

local notation "𝕄" => MT nD τ sig Unit (Elt Ideal) ℕ (UR sig nD τ) ℕ

variable (m : (ℓ : Loc nD τ sig) → Buf (Elt Ideal) ℓ) (ρ : Dev nD → PrngReg)

/-- Weights as the first launch gets them: turned, in the narrow format. -/
def wT (W : FVec Ideal S1x1024x2816 .f32) : FVec Ideal S2816x1024 .bf16 :=
  truncf .bf16 (transpose S2816x1024 [1, 0] (shapeCast S1024x2816 W shapeCasts_S1x1024x2816_S1024x2816) transposes_S1024x2816_S2816x1024_1_0) bitsLt_bf16_f32

/-- Weights as the second launch gets them. -/
def wN (W : FVec Ideal S1x2816x1024 .f32) : FVec Ideal S2816x1024 .bf16 :=
  truncf .bf16 (shapeCast S2816x1024 W shapeCasts_S1x2816x1024_S2816x1024) bitsLt_bf16_f32

/-- The gate's input, from the arguments. -/
def aF (h : FVec Ideal S8192x1024 .bf16) (W : FVec Ideal S1x1024x2816 .f32) : ℕ → ℕ → EReal :=
  dotW (at2 (n := 8192) (m := 1024) h) (at2 (n := 2816) (m := 1024) (wT W))

/-- The gradient behind the second product, from the arguments. -/
def dF (d : FVec Ideal S8192x1024 .bf16) (W : FVec Ideal S1x2816x1024 .f32) : ℕ → ℕ → EReal :=
  dotW (at2 (n := 8192) (m := 1024) d) (at2 (n := 2816) (m := 1024) (wN W))

theorem entry_w1 (c : Dev nD) : V1 m ρ c main_v2 = wT (m ((c : Thread nD τ).loc main_arg1)) := by
  show StableHlo.after hostOps0 (W0 m ρ c) _ = _
  after_results_simp
  rfl

theorem entry_w3 (c : Dev nD) : V1 m ρ c main_v5 = wT (m ((c : Thread nD τ).loc main_arg2)) := by
  show StableHlo.after hostOps0 (W0 m ρ c) _ = _
  after_results_simp
  rfl

theorem entry_w2 (c : Dev nD) : V3 m ρ c main_v8 = wN (m ((c : Thread nD τ).loc main_arg3)) := by
  refine Eq.trans ?_ (congrArg wN (W2_args m ρ c main_arg3 (by decide)))
  show StableHlo.after hostOps1 (W2 m ρ c) _ = _
  after_results_simp
  rfl

theorem entry_h (c : Dev nD) : V1 m ρ c main_arg0 = m ((c : Thread nD τ).loc main_arg0) :=
  W1_args m ρ c main_arg0 (by decide)

theorem entry_d (c : Dev nD) : V3 m ρ c main_arg4 = m ((c : Thread nD τ).loc main_arg4) :=
  W3_args m ρ c main_arg4 (by decide)

/-- The first derivative at the second launch's entry. -/
theorem entry_ga (c : Dev nD) (r : Fin 8192) (l : Fin 2816) :
    at2 (n := 8192) (m := 2816) (V3 m ρ c main_v6_0) r.val l.val = gA (aF (m ((c : Thread nD τ).loc main_arg0)) (m ((c : Thread nD τ).loc main_arg1)) r.val l.val) (aF (m ((c : Thread nD τ).loc main_arg0)) (m ((c : Thread nD τ).loc main_arg2)) r.val l.val) := by
  rw [at2_of]
  refine (congrFun ((W3_of m ρ c main_v6_0 (by decide)).trans ((W2_arr m ρ c 3).trans (final0_3 (V1 m ρ) c))) _).trans ?_
  rw [aF, aF, aA, bA, entry_h, entry_w1, entry_w3]
  rfl

/-- The second derivative at the second launch's entry. -/
theorem entry_gb (c : Dev nD) (r : Fin 8192) (l : Fin 2816) :
    at2 (n := 8192) (m := 2816) (V3 m ρ c main_v6_1) r.val l.val = gB (aF (m ((c : Thread nD τ).loc main_arg0)) (m ((c : Thread nD τ).loc main_arg1)) r.val l.val) := by
  rw [at2_of]
  refine (congrFun ((W3_of m ρ c main_v6_1 (by decide)).trans ((W2_arr m ρ c 4).trans (final0_4 (V1 m ρ) c))) _).trans ?_
  rw [aF, aA, entry_h, entry_w1]
  rfl

/-- The gradient of the gate's input. -/
def da (c : Dev nD) : FVec Ideal S8192x2816 .bf16 := fun i =>
  dF (m ((c : Thread nD τ).loc main_arg4)) (m ((c : Thread nD τ).loc main_arg3)) (i 0).val (i 1).val * gA (aF (m ((c : Thread nD τ).loc main_arg0)) (m ((c : Thread nD τ).loc main_arg1)) (i 0).val (i 1).val) (aF (m ((c : Thread nD τ).loc main_arg0)) (m ((c : Thread nD τ).loc main_arg2)) (i 0).val (i 1).val)

/-- The gradient of the other factor. -/
def db (c : Dev nD) : FVec Ideal S8192x2816 .bf16 := fun i =>
  dF (m ((c : Thread nD τ).loc main_arg4)) (m ((c : Thread nD τ).loc main_arg3)) (i 0).val (i 1).val * gB (aF (m ((c : Thread nD τ).loc main_arg0)) (m ((c : Thread nD τ).loc main_arg1)) (i 0).val (i 1).val)

theorem end_a (c : Dev nD) : W4 m ρ c main_v9_0 = da m c := by
  refine (W4_arr m ρ c 4).trans ((final1_4 (V3 m ρ) c).trans (funext fun i => ?_))
  rw [entry_ga m ρ c (i 0) (i 1), da, dF, dA, entry_d, entry_w2]

theorem end_b (c : Dev nD) : W4 m ρ c main_v9_1 = db m c := by
  refine (W4_arr m ρ c 5).trans ((final1_5 (V3 m ρ) c).trans (funext fun i => ?_))
  rw [entry_gb m ρ c (i 0) (i 1), db, dF, dA, entry_d, entry_w2]

set_option backward.isDefEq.respectTransparency.types false in
/-- The call ends with the two gradients in its result arrays and its arguments unchanged. -/
theorem run8 : θ_run defs (onTc (τ := τ) (main (F := Ideal))) ⟨m, fun _ => 0, ρ⟩ (fun r => (∀ c : Dev nD,
      r.2.mem ((c.tc : Thread nD τ).loc main_v9_0) = da m c
      ∧ r.2.mem ((c.tc : Thread nD τ).loc main_v9_1) = db m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c =>
      ⟨(h c _ (mem_uc main_v9_0 (by decide))).trans (end_a m ρ c),
       (h c _ (mem_uc main_v9_1 (by decide))).trans (end_b m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩, funext fun g => hz g (.inr (no_unscoped g.2))⟩)

end Cert.MidValue

end
-- ==== Proof.MidEq.lean ====
/-
# The gated linear unit's backward: the reference, and the equation
-/
module

public import proofs.«01_k».proof.Proof.Gen.Reference8Ideal.Run
public import proofs.«01_k».proof.Proof.Gen.Pre_finite8
public import proofs.«01_k».proof.Proof.PleEq
public import proofs.«01_k».proof.Proof.MidRun

@[expose] public section

set_option maxRecDepth 16384

noncomputable section

open Idealize.ShloMosaic Idealize.ShloMosaic.TcCoe Idealize.SL.Sem
open Cert.PoolValue (at2)
open Cert.RmsNorm (at2_of)

namespace Cert.MidRef

open Cert.Reference8Ideal Cert.Reference8Ideal.Gen
open Cert.MidValue (dotW sg gA gB aF dF wT wN)
open Cert.PleValue (IsR)

/-- The gate's input, as the reference writes it. -/
def v3 (a0 : FVec Ideal S8192x1024 .bf16) (a1 : FVec Ideal S1x1024x2816 .f32) : FVec Ideal S8192x2816 .f32 :=
  Host.dotGeneral dot_S8192x1024_S1024x2816_S8192x2816_1_0_0_1_n_n none (extf .f32 a0 bitsLt_bf16_f32) (shapeCast _ a1 shapeCasts_S1x1024x2816_S1024x2816)

/-- The other factor, as the reference writes it. -/
def v5 (a0 : FVec Ideal S8192x1024 .bf16) (a2 : FVec Ideal S1x1024x2816 .f32) : FVec Ideal S8192x2816 .f32 :=
  Host.dotGeneral dot_S8192x1024_S1024x2816_S8192x2816_1_0_0_1_n_n none (extf .f32 a0 bitsLt_bf16_f32) (shapeCast _ a2 shapeCasts_S1x1024x2816_S1024x2816)

/-- The gate, as the reference writes it. -/
def v6_2 (a0 : FVec Ideal S8192x1024 .bf16) (a1 : FVec Ideal S1x1024x2816 .f32) : FVec Ideal S8192x2816 .f32 :=
  Host.divf ((broadcastInDim S8192x2816 ![] bcast_S_S8192x2816) (constant S_ .f32 0x3F800000#32)) (addf ((broadcastInDim S8192x2816 ![] bcast_S_S8192x2816) (constant S_ .f32 0x3F800000#32)) (Host.exp (Host.negf (v3 a0 a1))))

/-- The gradient behind the second product, as the reference writes it. -/
def v10 (a3 : FVec Ideal S1x2816x1024 .f32) (a4 : FVec Ideal S8192x1024 .bf16) : FVec Ideal S8192x2816 .f32 :=
  Host.dotGeneral dot_S8192x1024_S2816x1024_S8192x2816_1_1_0_0_n_n none (extf .f32 a4 bitsLt_bf16_f32) (shapeCast _ a3 shapeCasts_S1x2816x1024_S2816x1024)

/-- The gradient of the gate's input, as the reference writes it. -/
def v14 (a0 : FVec Ideal S8192x1024 .bf16) (a1 : FVec Ideal S1x1024x2816 .f32) (a2 : FVec Ideal S1x1024x2816 .f32) (a3 : FVec Ideal S1x2816x1024 .f32) (a4 : FVec Ideal S8192x1024 .bf16) : FVec Ideal S8192x2816 .bf16 :=
  truncf .bf16 (addf (mulf (mulf (v10 a3 a4) (v5 a0 a2)) (v6_2 a0 a1)) (mulf (mulf (v3 a0 a1) (mulf (v10 a3 a4) (v5 a0 a2))) (mulf (v6_2 a0 a1) (subf ((broadcastInDim S8192x2816 ![] bcast_S_S8192x2816) (constant S_ .f32 0x3F800000#32)) (v6_2 a0 a1))))) bitsLt_bf16_f32

/-- The gradient of the other factor, as the reference writes it. -/
def v15 (a0 : FVec Ideal S8192x1024 .bf16) (a1 : FVec Ideal S1x1024x2816 .f32) (a3 : FVec Ideal S1x2816x1024 .f32) (a4 : FVec Ideal S8192x1024 .bf16) : FVec Ideal S8192x2816 .bf16 :=
  truncf .bf16 (mulf (mulf (v3 a0 a1) (v6_2 a0 a1)) (v10 a3 a4)) bitsLt_bf16_f32

theorem v3_at (a0 : FVec Ideal S8192x1024 .bf16) (a1 : FVec Ideal S1x1024x2816 .f32) (r : Fin 8192) (l : Fin 2816) :
    v3 a0 a1 (ix2 r l) = (aF a0 a1 r.val l.val : EReal) := by
  rw [aF, dotW]
  simp only [at2_of]
  pointwise [v3, wT]

theorem v5_at (a0 : FVec Ideal S8192x1024 .bf16) (a2 : FVec Ideal S1x1024x2816 .f32) (r : Fin 8192) (l : Fin 2816) :
    v5 a0 a2 (ix2 r l) = (aF a0 a2 r.val l.val : EReal) := v3_at a0 a2 r l

theorem v10_at (a3 : FVec Ideal S1x2816x1024 .f32) (a4 : FVec Ideal S8192x1024 .bf16) (r : Fin 8192) (l : Fin 2816) :
    v10 a3 a4 (ix2 r l) = (dF a4 a3 r.val l.val : EReal) := by
  rw [dF, dotW]
  simp only [at2_of]
  pointwise [v10, wN]

theorem v6_at (a0 : FVec Ideal S8192x1024 .bf16) (a1 : FVec Ideal S1x1024x2816 .f32) (r : Fin 8192) (l : Fin 2816) :
    v6_2 a0 a1 (ix2 r l) = (sg (aF a0 a1 r.val l.val) : EReal) := by
  rw [sg, Cert.Math.sigmoid_eq, ← v3_at, ← Ideal.ofBits_one_f32]
  pointwise [v6_2]

theorem v15_at (a0 : FVec Ideal S8192x1024 .bf16) (a1 : FVec Ideal S1x1024x2816 .f32) (a3 : FVec Ideal S1x2816x1024 .f32) (a4 : FVec Ideal S8192x1024 .bf16)
    (r : Fin 8192) (l : Fin 2816) :
    v15 a0 a1 a3 a4 (ix2 r l) = (dF a4 a3 r.val l.val * gB (aF a0 a1 r.val l.val) : EReal) := by
  rw [gB, mul_comm (dF a4 a3 r.val l.val) _, ← v6_at, ← v10_at, ← v3_at]
  pointwise [v15]

/-- Over the reals the two ways of writing the gate's derivative agree. -/
theorem ga_eq {a b d : EReal} (ha : IsR a) (hb : IsR b) (hd : IsR d) :
    d * gA a b = d * b * sg a + a * (d * b) * (sg a * (Ideal.ofBits .f32 0x3F800000#32 - sg a)) := by
  obtain ⟨s, hs⟩ : IsR (sg a) := Cert.PleValue.gate_real ha
  obtain ⟨x, rfl⟩ := ha
  obtain ⟨y, rfl⟩ := hb
  obtain ⟨z, rfl⟩ := hd
  rw [gA, hs, NormMath.word_1]
  simp only [← EReal.coe_mul, ← EReal.coe_sub, ← EReal.coe_add]
  exact congrArg _ (by ring)

theorem v14_at (a0 : FVec Ideal S8192x1024 .bf16) (a1 a2 : FVec Ideal S1x1024x2816 .f32) (a3 : FVec Ideal S1x2816x1024 .f32) (a4 : FVec Ideal S8192x1024 .bf16)
    (r : Fin 8192) (l : Fin 2816) (ha : IsR (aF a0 a1 r.val l.val)) (hb : IsR (aF a0 a2 r.val l.val)) (hd : IsR (dF a4 a3 r.val l.val)) :
    v14 a0 a1 a2 a3 a4 (ix2 r l) = (dF a4 a3 r.val l.val * gA (aF a0 a1 r.val l.val) (aF a0 a2 r.val l.val) : EReal) := by
  rw [ga_eq ha hb hd, ← v6_at, ← v10_at, ← v3_at, ← v5_at]
  pointwise [v14]
  rfl

/-- A product of real matrices is real. -/
theorem dotW_real {n k : ℕ} (X : (⟨2, ![n, 1024]⟩ : Shape).Idx → EReal) (W : (⟨2, ![k, 1024]⟩ : Shape).Idx → EReal) (hX : ∀ i, IsR (X i)) (hW : ∀ i, IsR (W i)) (r l : ℕ) :
    IsR (dotW (at2 X) (at2 W) r l) := by
  obtain ⟨x, hx⟩ := NormMath.at2_real X hX
  obtain ⟨w, hw⟩ := NormMath.at2_real W hW
  simp only [dotW, hx, hw, ← EReal.coe_mul, PoolMath.coe_sum]
  exact ⟨_, rfl⟩

theorem pre_real (a0 : FVec Ideal S8192x1024 .bf16) (a1 a2 : FVec Ideal S1x1024x2816 .f32) (a3 : FVec Ideal S1x2816x1024 .f32) (a4 : FVec Ideal S8192x1024 .bf16)
    (h : (Cert.Pre_finite8.fn (F := Ideal) a0 a1 a2 a3 a4).1 = (fun _ => 1#1) ∧ (Cert.Pre_finite8.fn (F := Ideal) a0 a1 a2 a3 a4).2.1 = (fun _ => 1#1)
      ∧ (Cert.Pre_finite8.fn (F := Ideal) a0 a1 a2 a3 a4).2.2.1 = (fun _ => 1#1) ∧ (Cert.Pre_finite8.fn (F := Ideal) a0 a1 a2 a3 a4).2.2.2.1 = (fun _ => 1#1)
      ∧ (Cert.Pre_finite8.fn (F := Ideal) a0 a1 a2 a3 a4).2.2.2.2 = (fun _ => 1#1)) (r l : ℕ) :
    IsR (aF a0 a1 r l) ∧ IsR (aF a0 a2 r l) ∧ IsR (dF a4 a3 r l) := by
  obtain ⟨h0, h1, h2, h3, h4⟩ := h
  have r0 : ∀ i, IsR (a0 i) := fun i => Cert.PoolRef.real_of_abs _ (Cert.PoolRef.below_top _ (congrFun h0 i))
  have r1 : ∀ i, IsR (a1 i) := fun i => Cert.PoolRef.real_of_abs _ (Cert.PoolRef.below_top _ (congrFun h1 i))
  have r2 : ∀ i, IsR (a2 i) := fun i => Cert.PoolRef.real_of_abs _ (Cert.PoolRef.below_top _ (congrFun h2 i))
  have r3 : ∀ i, IsR (a3 i) := fun i => Cert.PoolRef.real_of_abs _ (Cert.PoolRef.below_top _ (congrFun h3 i))
  have r4 : ∀ i, IsR (a4 i) := fun i => Cert.PoolRef.real_of_abs _ (Cert.PoolRef.below_top _ (congrFun h4 i))
  exact ⟨dotW_real _ _ r0 (fun i => r1 _) r l, dotW_real _ _ r0 (fun i => r2 _) r l, dotW_real _ _ r4 (fun i => r3 _) r l⟩

end Cert.MidRef

namespace Cert.Proof

open Cert.MidRef Cert.MidValue

/-- The gated unit's reference runs, leaves its arguments, and ends quiet. -/
theorem frameRef8 : Cert.quiescent_Reference8Ideal (hReference8Ideal := Cert.Reference8Ideal.Gen.facts) := by
  intro m g _
  exact (θ_run Cert.Reference8Ideal.defs _ _).mono
    (fun r h => ⟨fun c => (h c).2.2, sem_eq_zero_of_no_sems (by decide) r.2⟩)
    (Cert.Reference8Ideal.Value.run (F := Ideal) m g)

set_option maxHeartbeats 1000000 in
/-- From finite arguments the gated unit's backward call returns what the transpose of the plain forward pass returns. -/
theorem algebraic8 : Cert.algebraic_Kernel8Ideal_Reference8Ideal_pre_finite8
    (hKernel8Ideal := Cert.Kernel8Ideal.Gen.facts) (hReference8Ideal := Cert.Reference8Ideal.Gen.facts) (hPre_finite8 := Cert.Pre_finite8.Gen.facts) := by
  intro m g m' g' hpre hagree
  refine ⟨_, _, (θ_run Cert.Kernel8Ideal.defs _ _).mono (fun _ h c => h.1 c) (run8 m g), ?_⟩
  refine (θ_run Cert.Reference8Ideal.defs _ _).mono (fun r h c => ?_) (Cert.Reference8Ideal.Value.run (F := Ideal) m' g')
  have hR := pre_real _ _ _ _ _ (hpre c)
  obtain ⟨h0, h1, h2, h3, h4⟩ := hagree c
  rw [← h0, ← h1, ← h2, ← h3, ← h4] at hR
  refine ⟨(h c).1.trans ?_, (h c).2.1.trans ?_, (h c).2.2⟩
  · unfold da
    rw [← h0, ← h1, ← h2, ← h3, ← h4]
    funext i
    exact (congrArg (v14 _ _ _ _ _) (eq_ix2 i)).trans (v14_at _ _ _ _ _ (i 0) (i 1) (hR _ _).1 (hR _ _).2.1 (hR _ _).2.2)
  · unfold db
    rw [← h0, ← h1, ← h3, ← h4]
    funext i
    exact (congrArg (v15 _ _ _ _) (eq_ix2 i)).trans (v15_at _ _ _ _ (i 0) (i 1))

end Cert.Proof

end
-- ==== Proof.HgrnA.lean ====
/-
# The gated recurrence's forward call: its run, and what its buffers hold
-/
module

public import proofs.«01_k».proof.Proof.Gen.Kernel9Ideal.Frame
public import proofs.«01_k».proof.Proof.Gen.Kernel9Ideal.Loops
public import Idealize.ShloMosaic.Lib.Claim

@[expose] public section

set_option maxRecDepth 16384

noncomputable section

namespace Cert.Kernel9Ideal.Hgrn

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a trip writes depends on the three inputs and on the state it finds, not on what it finds in the
    outputs or in the two other scratch buffers: those it reads back only where it has stored. -/
theorem trip_lists (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (arg8 : Memref sig .tc .vmem S8x128x128 .f32) (harg8 : arg8.IsWhole)
    (arg9 : Memref sig .tc .vmem S64x1024 .f32) (harg9 : arg9.IsWhole)
    (arg10 : Memref sig .tc .vmem S8x64x64 .f32) (harg10 : arg10.IsWhole)
    (v3 v4 : Vec F S1x1024 .f32) (v18 : IVec S64x1024 32)
    (X2 : BufTy.Contents (Elt F) arg2.view.ty) (X3 : BufTy.Contents (Elt F) arg3.view.ty) (X4 : BufTy.Contents (Elt F) arg4.view.ty)
    (k : Fin k0_t1_loop.trips)
    (f6 f6' : BufTy.Contents (Elt F) arg6.view.ty) (f7 f7' : BufTy.Contents (Elt F) arg7.view.ty)
    (f8 : BufTy.Contents (Elt F) arg8.view.ty) (f9 f9' : BufTy.Contents (Elt F) arg9.view.ty)
    (f10 f10' : BufTy.Contents (Elt F) arg10.view.ty) :
    tripL_k0_t1 (F := F) Variants.none c none i arg2 harg2 arg3 harg3 arg4 harg4 arg5 harg5 arg6 harg6 arg7 harg7 arg8 harg8 arg9 harg9 arg10 harg10 v3 v4 v18 X2 X3 X4 k f6 f7 f8 f9 f10
      = tripL_k0_t1 (F := F) Variants.none c none i arg2 harg2 arg3 harg3 arg4 harg4 arg5 harg5 arg6 harg6 arg7 harg7 arg8 harg8 arg9 harg9 arg10 harg10 v3 v4 v18 X2 X3 X4 k f6' f7' f8 f9' f10' := by
  unfold tripL_k0_t1 trip_k0_t1
  rfl

/-- So do the pieces of all the trips before `k`. -/
theorem pb_lists (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (arg8 : Memref sig .tc .vmem S8x128x128 .f32) (harg8 : arg8.IsWhole)
    (arg9 : Memref sig .tc .vmem S64x1024 .f32) (harg9 : arg9.IsWhole)
    (arg10 : Memref sig .tc .vmem S8x64x64 .f32) (harg10 : arg10.IsWhole)
    (v3 v4 : Vec F S1x1024 .f32) (v18 : IVec S64x1024 32)
    (X2 : BufTy.Contents (Elt F) arg2.view.ty) (X3 : BufTy.Contents (Elt F) arg3.view.ty) (X4 : BufTy.Contents (Elt F) arg4.view.ty)
    (f6 f6' : BufTy.Contents (Elt F) arg6.view.ty) (f7 f7' : BufTy.Contents (Elt F) arg7.view.ty)
    (f8 : BufTy.Contents (Elt F) arg8.view.ty) (f9 f9' : BufTy.Contents (Elt F) arg9.view.ty)
    (f10 f10' : BufTy.Contents (Elt F) arg10.view.ty) (k : ℕ) :
    pb_k0_t1 (F := F) Variants.none c none i arg2 harg2 arg3 harg3 arg4 harg4 arg5 harg5 arg6 harg6 arg7 harg7 arg8 harg8 arg9 harg9 arg10 harg10 v3 v4 v18 X2 X3 X4 f6 f7 f8 f9 f10 k
      = pb_k0_t1 (F := F) Variants.none c none i arg2 harg2 arg3 harg3 arg4 harg4 arg5 harg5 arg6 harg6 arg7 harg7 arg8 harg8 arg9 harg9 arg10 harg10 v3 v4 v18 X2 X3 X4 f6' f7' f8 f9' f10' k := by
  induction k with
  | zero => rfl
  | succ k ih =>
    rw [pb_k0_t1.eq_2, pb_k0_t1.eq_2, ← ih]
    unfold pb_k0_t1Step
    by_cases h : k < k0_t1_loop.trips
    · rw [dif_pos h, dif_pos h]
      dsimp only
      generalize pb_k0_t1 (F := F) Variants.none c none i arg2 harg2 arg3 harg3 arg4 harg4 arg5 harg5 arg6 harg6 arg7 harg7 arg8 harg8 arg9 harg9 arg10 harg10 v3 v4 v18 X2 X3 X4 f6 f7 f8 f9 f10 k = p
      exact congrArg (fun z : _ × _ × _ × _ × _ => (z.1 ++ p.1, z.2.1 ++ p.2.1, z.2.2.1 ++ p.2.2.1, z.2.2.2.1 ++ p.2.2.2.1, z.2.2.2.2 ++ p.2.2.2.2))
        (trip_lists c i arg2 harg2 arg3 harg3 arg4 harg4 arg5 harg5 arg6 harg6 arg7 harg7 arg8 harg8 arg9 harg9 arg10 harg10 v3 v4 v18 X2 X3 X4 ⟨k, h⟩ _ _ _ _ _ _ _ _ _)
    · rw [dif_neg h, dif_neg h]

/-- What the eight trips of one grid point write, of the two results and the three scratch buffers, from the four
    input blocks and the state `G8` the loop is entered with. -/
abbrev pieces (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (arg8 : Memref sig .tc .vmem S8x128x128 .f32) (harg8 : arg8.IsWhole)
    (arg9 : Memref sig .tc .vmem S64x1024 .f32) (harg9 : arg9.IsWhole)
    (arg10 : Memref sig .tc .vmem S8x64x64 .f32) (harg10 : arg10.IsWhole)
    (x2 x3 x4 : Vec F S512x1024 .bf16) (x5 : Vec F S2x1024 .f32) (G8 : BufTy.Contents (Elt F) arg8.view.ty) :
    List (View.Piece (Elt F) S512x1024 .bf16) × List (View.Piece (Elt F) S8x8x128x128 .f32) × List (View.Piece (Elt F) S8x128x128 .f32)
      × List (View.Piece (Elt F) S64x1024 .f32) × List (View.Piece (Elt F) S8x64x64 .f32) :=
  pb_k0_t1 (F := F) Variants.none c none i arg2 harg2 arg3 harg3 arg4 harg4 arg5 harg5 arg6 harg6 arg7 harg7 arg8 harg8 arg9 harg9 arg10 harg10
    (View.readAt (Elt F) arg5.view (Rect.unit (s := S2x1024) ![1, 0] S1x1024.size inb_S2x1024_S1x1024_1_0).toLoadRect (harg5.unread x5))
    (View.readAt (Elt F) arg5.view (Rect.unit (s := S2x1024) ![0, 0] S1x1024.size inb_S2x1024_S1x1024_0_0).toLoadRect (harg5.unread x5))
    (iota .tc S64x1024 32 [0] iota_S64x1024_d0_w32) (harg2.unread x2) (harg3.unread x3) (harg4.unread x4)
    arg6.view.junk arg7.view.junk G8 arg9.view.junk arg10.view.junk 8

/-- The state the first point starts the loop with: zero. -/
abbrev zeroed (arg8 : Memref sig .tc .vmem S8x128x128 .f32) : BufTy.Contents (Elt F) arg8.view.ty :=
  arg8.view.writes (Elt F) arg8.view.junk [⟨Rect.unit (s := S8x128x128) ![0, 0, 0] S8x128x128.size inb_S8x128x128_S8x128x128_0_0_0, k0_pay1 (F := F)⟩]

set_option maxHeartbeats 1000000 in
/-- The body at a first point: the state is zeroed, then the eight trips run. -/
theorem run_first (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (arg8 : Memref sig .tc .vmem S8x128x128 .f32) (harg8 : arg8.IsWhole)
    (arg9 : Memref sig .tc .vmem S64x1024 .f32) (harg9 : arg9.IsWhole)
    (arg10 : Memref sig .tc .vmem S8x64x64 .f32) (harg10 : arg10.IsWhole)
    (h0 : (Scalar.cmpi .ne (Scalar.extui (Scalar.cmpi .eq (BitVec.ofNat 32 (i 1).val) 0#32)) 0#32) = 1#1)
    (x2 x3 x4 : Vec F S512x1024 .bf16) (x5 : Vec F S2x1024 .f32) (G8 : BufTy.Contents (Elt F) arg8.view.ty)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (arg8.view.loc (c : Thread nD τ) ↦[arg8.view.set]{fullShare} G8)
        ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ (∃ f, (arg6.view.loc (c : Thread nD τ) ↦[arg6.view.set]{fullShare} arg6.view.writes (Elt F) f (pieces c i arg2 harg2 arg3 harg3 arg4 harg4 arg5 harg5 arg6 harg6 arg7 harg7 arg8 harg8 arg9 harg9 arg10 harg10 x2 x3 x4 x5 (zeroed arg8)).1))
            ∗ (∃ f, (arg7.view.loc (c : Thread nD τ) ↦[arg7.view.set]{fullShare} arg7.view.writes (Elt F) f (pieces c i arg2 harg2 arg3 harg3 arg4 harg4 arg5 harg5 arg6 harg6 arg7 harg7 arg8 harg8 arg9 harg9 arg10 harg10 x2 x3 x4 x5 (zeroed arg8)).2.1))
            ∗ (arg8.view.loc (c : Thread nD τ) ↦[arg8.view.set]{fullShare} arg8.view.writes (Elt F) (zeroed arg8) (pieces c i arg2 harg2 arg3 harg3 arg4 harg4 arg5 harg5 arg6 harg6 arg7 harg7 arg8 harg8 arg9 harg9 arg10 harg10 x2 x3 x4 x5 (zeroed arg8)).2.2.1)
            ∗ (∃ d, owns (c : Thread nD τ) arg9 fullShare d) ∗ (∃ d, owns (c : Thread nD τ) arg10 fullShare d)) -∗ K ⟨⟩))
      ⊢ wp frame (wpE (defs₀ (F := F)) Variants.none c none) E (cc0_hgrn_fwd i arg2 harg2 arg3 harg3 arg4 harg4 arg5 harg5 arg6 harg6 arg7 harg7 arg8 harg8 arg9 harg9 arg10 harg10) K := by
  simp only [cc0_hgrn_fwd_eq_skeleton]; unfold cc0_hgrn_fwd_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, H8, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5
  sl_exec (disch := first | sl_exact h0)
  sl_step
  rw [View.writes_append]
  unfold pieces
  rw [pb_lists c i arg2 harg2 arg3 harg3 arg4 harg4 arg5 harg5 arg6 harg6 arg7 harg7 arg8 harg8 arg9 harg9 arg10 harg10 _ _ _ _ _ _ arg6.view.junk f6 arg7.view.junk f7 _ arg9.view.junk f9 arg10.view.junk f10]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]; · iexists _; iexact H6
  isplitl [H7]; · iexists _; iexact H7
  isplitl [H8]; · iexact H8
  isplitl [H9]
  · iexists _; iexists _; isplitr
    swap; · iexact H9
    ipureintro; rfl
  iexists _; iexists _; isplitr
  swap; · iexact H10
  ipureintro; rfl

/-- The body at a later point: the eight trips run from the state found. -/
theorem run_next (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (arg8 : Memref sig .tc .vmem S8x128x128 .f32) (harg8 : arg8.IsWhole)
    (arg9 : Memref sig .tc .vmem S64x1024 .f32) (harg9 : arg9.IsWhole)
    (arg10 : Memref sig .tc .vmem S8x64x64 .f32) (harg10 : arg10.IsWhole)
    (h0 : ¬ (Scalar.cmpi .ne (Scalar.extui (Scalar.cmpi .eq (BitVec.ofNat 32 (i 1).val) 0#32)) 0#32) = 1#1)
    (x2 x3 x4 : Vec F S512x1024 .bf16) (x5 : Vec F S2x1024 .f32) (G8 : BufTy.Contents (Elt F) arg8.view.ty)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (arg8.view.loc (c : Thread nD τ) ↦[arg8.view.set]{fullShare} G8)
        ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ (∃ f, (arg6.view.loc (c : Thread nD τ) ↦[arg6.view.set]{fullShare} arg6.view.writes (Elt F) f (pieces c i arg2 harg2 arg3 harg3 arg4 harg4 arg5 harg5 arg6 harg6 arg7 harg7 arg8 harg8 arg9 harg9 arg10 harg10 x2 x3 x4 x5 (G8)).1))
            ∗ (∃ f, (arg7.view.loc (c : Thread nD τ) ↦[arg7.view.set]{fullShare} arg7.view.writes (Elt F) f (pieces c i arg2 harg2 arg3 harg3 arg4 harg4 arg5 harg5 arg6 harg6 arg7 harg7 arg8 harg8 arg9 harg9 arg10 harg10 x2 x3 x4 x5 (G8)).2.1))
            ∗ (arg8.view.loc (c : Thread nD τ) ↦[arg8.view.set]{fullShare} arg8.view.writes (Elt F) (G8) (pieces c i arg2 harg2 arg3 harg3 arg4 harg4 arg5 harg5 arg6 harg6 arg7 harg7 arg8 harg8 arg9 harg9 arg10 harg10 x2 x3 x4 x5 (G8)).2.2.1)
            ∗ (∃ d, owns (c : Thread nD τ) arg9 fullShare d) ∗ (∃ d, owns (c : Thread nD τ) arg10 fullShare d)) -∗ K ⟨⟩))
      ⊢ wp frame (wpE (defs₀ (F := F)) Variants.none c none) E (cc0_hgrn_fwd i arg2 harg2 arg3 harg3 arg4 harg4 arg5 harg5 arg6 harg6 arg7 harg7 arg8 harg8 arg9 harg9 arg10 harg10) K := by
  simp only [cc0_hgrn_fwd_eq_skeleton]; unfold cc0_hgrn_fwd_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, H8, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5
  sl_exec (disch := first | sl_exact h0)
  sl_step
  unfold pieces
  rw [pb_lists c i arg2 harg2 arg3 harg3 arg4 harg4 arg5 harg5 arg6 harg6 arg7 harg7 arg8 harg8 arg9 harg9 arg10 harg10 _ _ _ _ _ _ arg6.view.junk f6 arg7.view.junk f7 _ arg9.view.junk f9 arg10.view.junk f10]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]; · iexists _; iexact H6
  isplitl [H7]; · iexists _; iexact H7
  isplitl [H8]; · iexact H8
  isplitl [H9]
  · iexists _; iexists _; isplitr
    swap; · iexact H9
    ipureintro; rfl
  iexists _; iexists _; isplitr
  swap; · iexact H10
  ipureintro; rfl

/-- The pieces of the first result cover its block: a chunk of 64 rows for each trip. -/
theorem cover_o (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (arg8 : Memref sig .tc .vmem S8x128x128 .f32) (harg8 : arg8.IsWhole)
    (arg9 : Memref sig .tc .vmem S64x1024 .f32) (harg9 : arg9.IsWhole)
    (arg10 : Memref sig .tc .vmem S8x64x64 .f32) (harg10 : arg10.IsWhole)
    (x2 x3 x4 : Vec F S512x1024 .bf16) (x5 : Vec F S2x1024 .f32) (G8 : BufTy.Contents (Elt F) arg8.view.ty) (y : S512x1024.Idx) :
    ∃ pc ∈ (pieces c i arg2 harg2 arg3 harg3 arg4 harg4 arg5 harg5 arg6 harg6 arg7 harg7 arg8 harg8 arg9 harg9 arg10 harg10 x2 x3 x4 x5 G8).1, y ∈ pc.1.set :=
  View.cover_of_tiledL (pieces c i arg2 harg2 arg3 harg3 arg4 harg4 arg5 harg5 arg6 harg6 arg7 harg7 arg8 harg8 arg9 harg9 arg10 harg10 x2 x3 x4 x5 G8).1 S64x1024.size (by sl_kernel_rfl) y

/-- The pieces of the second result cover its block: a head's state for each head and trip. -/
theorem cover_st (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (arg8 : Memref sig .tc .vmem S8x128x128 .f32) (harg8 : arg8.IsWhole)
    (arg9 : Memref sig .tc .vmem S64x1024 .f32) (harg9 : arg9.IsWhole)
    (arg10 : Memref sig .tc .vmem S8x64x64 .f32) (harg10 : arg10.IsWhole)
    (x2 x3 x4 : Vec F S512x1024 .bf16) (x5 : Vec F S2x1024 .f32) (G8 : BufTy.Contents (Elt F) arg8.view.ty) (y : S8x8x128x128.Idx) :
    ∃ pc ∈ (pieces c i arg2 harg2 arg3 harg3 arg4 harg4 arg5 harg5 arg6 harg6 arg7 harg7 arg8 harg8 arg9 harg9 arg10 harg10 x2 x3 x4 x5 G8).2.1, y ∈ pc.1.set :=
  View.cover_of_tiledL (pieces c i arg2 harg2 arg3 harg3 arg4 harg4 arg5 harg5 arg6 harg6 arg7 harg7 arg8 harg8 arg9 harg9 arg10 harg10 x2 x3 x4 x5 G8).2.1 S1x1x128x128.size (by sl_kernel_rfl) y

variable (m : (ℓ : Loc nD τ sig) → Buf (Elt F) ℓ) (ρ : Dev nD → PrngReg)

/-- The state's scratch buffer, a whole buffer of the kernel's own. -/
abbrev stM : Memref sig .tc .vmem S8x128x128 .f32 := Memref.whole cc0_scratch0

/-- The pieces of point `t`, from the state `G` it starts its loop with. -/
def piecesAt (c : Dev nD) (t : Fin cfg0.N) (G : BufTy.Contents (Elt F) stM.view.ty) :
    List (View.Piece (Elt F) S512x1024 .bf16) × List (View.Piece (Elt F) S8x8x128x128 .f32) × List (View.Piece (Elt F) S8x128x128 .f32)
      × List (View.Piece (Elt F) S64x1024 .f32) × List (View.Piece (Elt F) S8x64x64 .f32) :=
  pieces c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (X0_0 m c t) (X0_1 m c t) (X0_2 m c t) (iblk m c 3 t) G

/-- The state point `n` starts its loop with: zero at the first point, what the point before left at a later one. -/
def stateAt (c : Dev nD) : ℕ → BufTy.Contents (Elt F) (stM).view.ty
  | 0 => zeroed stM
  | n + 1 => if h : n < cfg0.N then stM.view.writes (Elt F) (stateAt c n) (piecesAt m c ⟨n, h⟩ (stateAt c n)).2.2.1 else stateAt c n

/-- The state after point `t` is the one the next point starts with. -/
theorem stateAt_succ (c : Dev nD) (t : Fin cfg0.N) :
    stateAt m c (t.val + 1) = stM.view.writes (Elt F) (stateAt m c t.val) (piecesAt m c t (stateAt m c t.val)).2.2.1 := by
  rw [stateAt, dif_pos t.isLt]

/-- The output block's staging buffer. -/
abbrev VO4 : View sig .tc .vmem S512x1024 .bf16 := (Memref.whole cc0_stg4_0 : Memref sig .tc .vmem S512x1024 .bf16).view
/-- The states block's staging buffer. -/
abbrev VO5 : View sig .tc .vmem S8x8x128x128 .f32 := (Memref.whole cc0_stg5_0 : Memref sig .tc .vmem S8x8x128x128 .f32).view

/-- What point `t` leaves of the first result, -/
def outO (c : Dev nD) (t : Fin cfg0.N) : Vec F S512x1024 .bf16 :=
  VO4.read (Elt F) (VO4.writes (Elt F) VO4.junk (piecesAt m c t (stateAt m c t.val)).1)
/-- and of the second. -/
def outS (c : Dev nD) (t : Fin cfg0.N) : Vec F S8x8x128x128 .f32 :=
  VO5.read (Elt F) (VO5.writes (Elt F) VO5.junk (piecesAt m c t (stateAt m c t.val)).2.1)

/-- What is held between the points: the state's buffer, from the first point on at the state the next point starts
    with, the two other scratch buffers at anything, and the generator register. -/
def held (c : Dev nD) (n : ℕ) : sProp 𝕄 :=
  iprop(((∃ f : BufTy.Contents (Elt F) stM.view.ty, ⌜n ≠ 0 → f = stateAt m c n⌝ ∗ (stM.view.loc (c : Thread nD τ) ↦[stM.view.set]{fullShare} f))
      ∗ (∃ d, owns (c : Thread nD τ) (Memref.whole cc0_scratch1 : Memref sig .tc .vmem S64x1024 .f32) fullShare d)
      ∗ (∃ d, owns (c : Thread nD τ) (Memref.whole cc0_scratch2 : Memref sig .tc .vmem S8x64x64 .f32) fullShare d))
    ∗ (∃ r, prngReg c r))

/-- The pipeline's proof data: the arrays as launched, the inputs' blocks left in place, the results' as computed. -/
def dats (p : Fin 1) (c : Dev nD) : Dat τ (Elt F) Unit ℕ (UR sig nD τ) ℕ (cfgs p) c := match p with
  | ⟨0, _⟩ =>
  { A := fun w => V m c (Pipeline.arrRef spec0 w)
    after := fun w t => match w with
      | ⟨0, _⟩ => X0_0 m c t
      | ⟨1, _⟩ => X0_1 m c t
      | ⟨2, _⟩ => X0_2 m c t
      | ⟨3, _⟩ => iblk m c 3 t
      | ⟨4, _⟩ => outO m c t
      | ⟨5, _⟩ => outS m c t
    Φ := fun n => held m c n.val
    q := fun w => Pipeline.shareOf spec0 w
    owed := fun _ => 0 }

/-- What window 0 holds after a point. -/
theorem after_0 (c : Dev nD) (t : Fin cfg0.N) : (dats m 0 c).after 0 t = X0_0 m c t := by dsimp only [dats]
/-- What window 1 holds after a point. -/
theorem after_1 (c : Dev nD) (t : Fin cfg0.N) : (dats m 0 c).after 1 t = X0_1 m c t := by dsimp only [dats]
/-- What window 2 holds after a point. -/
theorem after_2 (c : Dev nD) (t : Fin cfg0.N) : (dats m 0 c).after 2 t = X0_2 m c t := by dsimp only [dats]
/-- What window 3 holds after a point. -/
theorem after_3 (c : Dev nD) (t : Fin cfg0.N) : (dats m 0 c).after 3 t = iblk m c 3 t := by dsimp only [dats]
/-- What window 4 holds after a point. -/
theorem after_4 (c : Dev nD) (t : Fin cfg0.N) : (dats m 0 c).after 4 t = outO m c t := by dsimp only [dats]
/-- What window 5 holds after a point. -/
theorem after_5 (c : Dev nD) (t : Fin cfg0.N) : (dats m 0 c).after 5 t = outS m c t := by dsimp only [dats]
/-- The arrays the windows lie in, at the launch. -/
theorem A_eq (c : Dev nD) (w : Fin cfg0.W) : (dats m 0 c).A w = V m c (Pipeline.arrRef spec0 w) := by dsimp only [dats]
/-- What window 0 holds before a point's body. -/
theorem before_0 (c : Dev nD) (t : Fin cfg0.N) (d) : (dats m 0 c).before 0 t d = X0_0 m c t :=
  before0_0_of m (dats m 0 c) (A_eq m c 0) (after_0 m c) t d
/-- What window 1 holds before a point's body. -/
theorem before_1 (c : Dev nD) (t : Fin cfg0.N) (d) : (dats m 0 c).before 1 t d = X0_1 m c t :=
  before0_1_of m (dats m 0 c) (A_eq m c 1) (after_1 m c) t d
/-- What window 2 holds before a point's body. -/
theorem before_2 (c : Dev nD) (t : Fin cfg0.N) (d) : (dats m 0 c).before 2 t d = X0_2 m c t :=
  before0_2_of m (dats m 0 c) (A_eq m c 2) (after_2 m c) t d
/-- What window 3 holds before a point's body. -/
theorem before_3 (c : Dev nD) (t : Fin cfg0.N) (d) : (dats m 0 c).before 3 t d = iblk m c 3 t :=
  before0_3_of m (dats m 0 c) (A_eq m c 3) (after_3 m c) t d

/-- Before the first point the scratch buffers hold anything, -/
theorem held_zero (c : Dev nD) : (Pipeline.ΦA spec0 c : sProp 𝕄) ⊢ held m c 0 := by
  unfold Pipeline.ΦA held
  rw [scopedRest0_eq]
  simp only [owns_whole, View.set_whole, Memref.view_whole]
  iintro ⟨⟨⟨%f, HS⟩, HT, HU⟩, Hg⟩
  isplitl [HS HT HU]
  · isplitl [HS]
    · iexists _; isplitr
      swap; · iexact HS
      ipureintro; exact fun h => absurd rfl h
    isplitl [HT]; · iexact HT
    iexact HU
  iexact Hg

/-- and after any point what they hold may be forgotten. -/
theorem held_end (c : Dev nD) (n : ℕ) : held m c n ⊢ (Pipeline.ΦA spec0 c : sProp 𝕄) := by
  unfold Pipeline.ΦA held
  rw [scopedRest0_eq]
  simp only [owns_whole, View.set_whole, Memref.view_whole]
  iintro ⟨⟨⟨%f, %hf, HS⟩, HT, HU⟩, Hg⟩
  isplitl [HS HT HU]
  · isplitl [HS]
    · iexists _; iexact HS
    isplitl [HT]; · iexact HT
    iexact HU
  iexact Hg

/-- The state is zeroed at the first point alone. -/
theorem first_iff : ∀ t : Fin cfg0.N, (Scalar.cmpi .ne (Scalar.extui (Scalar.cmpi .eq (BitVec.ofNat 32 (grid0.coords t 1).val) 0#32)) 0#32) = 1#1 ↔ t.val = 0 :=
  (by decide +kernel : ∀ t : Fin grid0.N, (Scalar.cmpi .ne (Scalar.extui (Scalar.cmpi .eq (BitVec.ofNat 32 (grid0.coords t 1).val) 0#32)) 0#32) = 1#1 ↔ t.val = 0)

/-- What the body is called with at point `t`, -/
def before (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def after (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point takes the one to the other. -/
theorem sound_body (c : Dev nD) (t : Fin cfg0.N) :
    before m c t ⊢ wp frame (wpE (defs₀ (F := F)) Variants.none c none) Set.univ (bodyAt0 t) (fun _ => after m c t) := by
  unfold before after bodyAt0
  simp only [before_0, before_1, before_2, before_3]
  rw [show (dats m 0 c).owesAt () t.succ = (dats m 0 c).owesAt () t.castSucc from rfl,
    after_0, after_1, after_2, after_3, after_4, after_5,
    show (dats m 0 c).Φ t.castSucc = held m c t.val from rfl, show (dats m 0 c).Φ t.succ = held m c (t.val + 1) from rfl]
  unfold held outO outS piecesAt
  iintro ⟨⟨⟨⟨%f, %hf, HS⟩, ⟨%fT, HT⟩, ⟨%fU, HU⟩⟩, Hg⟩, Ho, ⟨%d0, H0⟩, ⟨%d1, H1⟩, ⟨%d2, H2⟩, ⟨%d3, H3⟩, ⟨%d4, H4⟩, ⟨%d5, H5⟩⟩
  by_cases ht : t.val = 0
  · have hst : stateAt m c t.val = zeroed stM := by rw [ht, stateAt]
    rw [hst]
    iapply ((run_first c (grid0.coords t) _ _ _ _ _ _ _ _ _ _ _ _ _ _ _ _ _ _ ((first_iff t).mpr ht) (X0_0 m c t) (X0_1 m c t) (X0_2 m c t) (iblk m c 3 t) f) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    isplitl [HT]
    · iexists _; iexact HT
    isplitl [HU]
    · iexists _; iexact HU
    iintro ⟨H0, H1, H2, H3, ⟨%e4, H4⟩, ⟨%e5, H5⟩, HS, ⟨%dT, HT⟩, ⟨%dU, HU⟩⟩
    isplitl [HS HT HU Hg]
    · isplitl [HS HT HU]
      · isplitl [HS]
        · iexists _; isplitr
          swap; · iexact HS
          ipureintro; intro _; rw [stateAt_succ]; rw [hst]; rfl
        isplitl [HT]
        · iexists _; iexact HT
        iexists _; iexact HU
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_o c _ _ _ _ _ _ _ _ _ _ _ _ _ _ _ _ _ _ _ _ _ _ _ _)
    unfold owns; iexists _; isplitr
    swap; · iexact H5
    ipureintro; exact View.read_writes_of_cover _ _ _ _ _ (cover_st c _ _ _ _ _ _ _ _ _ _ _ _ _ _ _ _ _ _ _ _ _ _ _ _)
  · have hst : f = stateAt m c t.val := hf ht
    rw [← hst]
    iapply ((run_next c (grid0.coords t) _ _ _ _ _ _ _ _ _ _ _ _ _ _ _ _ _ _ (fun h => ht ((first_iff t).mp h)) (X0_0 m c t) (X0_1 m c t) (X0_2 m c t) (iblk m c 3 t) f) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    isplitl [HT]
    · iexists _; iexact HT
    isplitl [HU]
    · iexists _; iexact HU
    iintro ⟨H0, H1, H2, H3, ⟨%e4, H4⟩, ⟨%e5, H5⟩, HS, ⟨%dT, HT⟩, ⟨%dU, HU⟩⟩
    isplitl [HS HT HU Hg]
    · isplitl [HS HT HU]
      · isplitl [HS]
        · iexists _; isplitr
          swap; · iexact HS
          ipureintro; intro _; rw [stateAt_succ]; rw [← hst]; rfl
        isplitl [HT]
        · iexists _; iexact HT
        iexists _; iexact HU
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_o c _ _ _ _ _ _ _ _ _ _ _ _ _ _ _ _ _ _ _ _ _ _ _ _)
    unfold owns; iexists _; isplitr
    swap; · iexact H5
    ipureintro; exact View.read_writes_of_cover _ _ _ _ _ (cover_st c _ _ _ _ _ _ _ _ _ _ _ _ _ _ _ _ _ _ _ _ _ _ _ _)

/-- What the pipeline calls at point `t` is the body at its buffers. -/
theorem body_row (t : Fin cfg0.N) : defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: every weakly fair execution ends, with the arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := held_zero m) (hout := fun c => held_end m c _)

/-- The same run without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.Kernel9Ideal.Hgrn

end
-- ==== Proof.HgrnFrame.lean ====
/-
# The gated recurrence's forward call before idealizing: the same text, so the same frame
-/
module

public import proofs.«01_k».proof.Proof.HgrnA
public import proofs.«01_k».proof.Proof.Gen.Kernel9.Frame
@[expose] public section
noncomputable section
namespace Cert.Kernel9.Hgrn
open Cert.Kernel9 Cert.Kernel9.Gen
open Idealize.ShloMosaic Idealize.ShloMosaic.TcCoe Idealize.ShloMosaic.Tactic
open Idealize.SL Idealize.SL.RA Idealize.SL.BI
open Idealize.SL.Sem
variable {F : FTy → Type} [FloatOps F]
variable (m : (ℓ : Loc nD τ sig) → Buf (Elt F) ℓ) (ρ : Dev nD → PrngReg)

set_option backward.isDefEq.respectTransparency.types false in
/-- The two programs have the same bodies. -/
theorem defs₀_eq : Cert.Kernel9.defs₀ (F := F) = Cert.Kernel9Ideal.defs₀ (F := F) := by
  unfold Cert.Kernel9.defs₀ Cert.Kernel9Ideal.defs₀
  refine congrArg Defs.onTc (funext fun l => funext fun a => ?_)
  match l, a with
  | 0, (t, s) => rfl
set_option backward.isDefEq.respectTransparency.types false in
/-- And the same functions. -/
theorem defs_eq : Cert.Kernel9.defs (F := F) = Cert.Kernel9Ideal.defs (F := F) := by
  unfold Cert.Kernel9.defs Cert.Kernel9Ideal.defs
  rw [defs₀_eq]
  rfl
set_option backward.isDefEq.respectTransparency.types false in
/-- And the same main function. -/
theorem main_eq : Cert.Kernel9.main (F := F) = Cert.Kernel9Ideal.main (F := F) := rfl
set_option backward.isDefEq.respectTransparency.types false in
/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.Kernel9Ideal.Hgrn.frame (F := F) m ρ
end Cert.Kernel9.Hgrn
end
-- ==== Proof.HgrnB.lean ====
/-
# The gated recurrence's forward call: the payloads among the reals
-/
module

public import proofs.«01_k».proof.Proof.HgrnA
public import proofs.«01_k».proof.Proof.NormMath
public import proofs.«01_k».proof.Proof.PoolMath
public import proofs.«01_k».proof.Proof.Sigmoid

@[expose] public section

set_option maxRecDepth 16384

noncomputable section

open Idealize.ShloMosaic Idealize.ShloMosaic.TcCoe Idealize.SL.Sem

namespace Cert.HgrnValue

/-- A matrix whose entries are the reals `x`. -/
abbrev Is2 {n k : ℕ} (X : (⟨2, ![n, k]⟩ : Shape).Idx → EReal) (x : ℕ → ℕ → ℝ) : Prop :=
  ∀ (r : Fin n) (l : Fin k), X (ix2 r l) = ((x r.val l.val : ℝ) : EReal)

/-- The logistic function. -/
def sg (x : ℝ) : ℝ := (1 + Real.exp (-x))⁻¹

/-- The decay of a column, from its floor and the gate's input. -/
def fg (b x : ℝ) : ℝ := b + (1 - b) * sg x

/-- The log decays of a chunk, summed down to a row. -/
def cum (lf : ℕ → ℕ → ℝ) (r l : ℕ) : ℝ := ∑ s : Fin 64, if s.val ≤ r then lf s.val l else 0

/-- A head's product of two rows: the head's columns begin at `o`. -/
def dotc (x y : ℕ → ℕ → ℝ) (o r s : ℕ) : ℝ := ∑ c : Fin 128, x r (o + c.val) * y s (o + c.val)

/-- A head's output: the scores up to the row against the values, and the decayed query against the state. -/
def outc (a v q s : ℕ → ℕ → ℝ) (o r l : ℕ) : ℝ :=
  (∑ t : Fin 64, (if t.val ≤ r then a r t.val else 0) * v t.val (o + l)) + ∑ c : Fin 128, q r (o + c.val) * s l c.val

/-- A head's next state. -/
def stc (s v d e : ℕ → ℕ → ℝ) (o a b : ℕ) : ℝ := s a b * e 0 (o + b) + ∑ r : Fin 64, v r.val (o + a) * d r.val (o + b)

open Cert.Kernel9Ideal Cert.Kernel9Ideal.Gen

/-- The gate lies strictly between zero and one. -/
theorem sg_pos (x : ℝ) : 0 < sg x ∧ sg x < 1 := by
  have := Real.exp_pos (-x)
  rw [sg]
  exact ⟨by positivity, inv_lt_one_of_one_lt₀ (by linarith)⟩

/-- The decay is positive. -/
theorem fg_pos {b : ℝ} (hb : 0 < b ∧ b < 1) (x : ℝ) : 0 < fg b x := by
  have := sg_pos x
  rw [fg]
  nlinarith [mul_pos (sub_pos.2 hb.2) this.1]

/-- The gate, in the half-angle form the kernel computes. -/
theorem tanh_sg (x : ℝ) : Ideal.ofBits .f32 0x3F000000#32 * Ideal.tanh (Ideal.ofBits .f32 0x3F000000#32 * (x : EReal))
      + Ideal.ofBits .f32 0x3F000000#32 = ((sg x : ℝ) : EReal) := by
  rw [Cert.Math.half_f32, ← EReal.coe_mul, Ideal.tanh_coe, ← EReal.coe_mul, ← EReal.coe_add, Cert.Math.tanh_half_real, sg]

/-- Comparing two rows as words. -/
theorem sge_word : ∀ r s : Fin 64, IntOp.cmpi .sge (BitVec.ofNat 32 r.val) (BitVec.ofNat 32 s.val) = if s.val ≤ r.val then 1#1 else 0#1 := by
  decide +kernel

/-- A choice by that comparison. -/
theorem sel_sge (r s : Fin 64) (a b : EReal) :
    Scalar.select (IntOp.cmpi .sge (BitVec.ofNat 32 r.val) (BitVec.ofNat 32 s.val)) a b = if s.val ≤ r.val then a else b := by
  rw [sge_word]
  split_ifs <;> rfl

/-- Whether a row lies in the lower half, as words. -/
theorem slt_word32 : ∀ r : Fin 64, IntOp.cmpi .slt (BitVec.ofNat 32 r.val) 32#32 = if r.val < 32 then 1#1 else 0#1 := by
  decide +kernel

/-- Every row is one of the sixty-four. -/
theorem slt_word64 : ∀ r : Fin 64, IntOp.cmpi .slt (BitVec.ofNat 32 r.val) 64#32 = 1#1 := by
  decide +kernel

/-- The word that stands for minus infinity is finite. -/
theorem low_word : ∃ y : ℝ, Ideal.ofBits .f32 0xF149F2CA#32 = (y : EReal) := by
  have e1 : (0xF149F2CA#32).extractLsb' 31 1 = 1#1 := by decide
  have e2 : ((0xF149F2CA#32).extractLsb' 23 8).toNat = 226 := by decide
  have e3 : ((0xF149F2CA#32).extractLsb' 0 23).toNat = 4846282 := by decide
  simp only [Ideal.ofBits, Ideal.ieee, e1, e2, e3]
  norm_num
  exact ⟨_, rfl⟩

/-- The decay's floor, from the two rows of bounds. -/
theorem pay2_is {v3 v4 : FVec Ideal S1x1024 .f32} {a b : ℕ → ℕ → ℝ} (h3 : Is2 v3 a) (h4 : Is2 v4 b) :
    Is2 (k0_pay2 (F := Ideal) v3 v4) (fun _ l => (1 + Real.exp (a 0 l - b 0 l))⁻¹) := by
  intro r l
  obtain rfl := Subsingleton.elim r 0
  have p := Real.exp_pos (a 0 l.val - b 0 l.val)
  pointwise [k0_pay2]
  simp only [h3, h4, Fin.val_zero, ← EReal.coe_sub, Ideal.exp_coe]
  rw [← EReal.coe_one, ← EReal.coe_add, Ideal.div_coe (by positivity), ← EReal.coe_mul, one_mul, one_div]

/-- The queries: the input times its gate. -/
theorem pay7_is {X : FVec Ideal S64x1024 .bf16} {x : ℕ → ℕ → ℝ} (h : Is2 X x) : Is2 (k0_pay7 (F := Ideal) X) (fun r l => x r l * sg (x r l)) := by
  intro r l
  pointwise [k0_pay7]
  simp only [h, tanh_sg, ← EReal.coe_mul]

/-- The decays. -/
theorem pay8_is {B : FVec Ideal S1x1024 .f32} {X : FVec Ideal S64x1024 .bf16} {b x : ℕ → ℕ → ℝ} (hB : Is2 B b) (h : Is2 X x) :
    Is2 (k0_pay8 (F := Ideal) B X) (fun r l => fg (b 0 l) (x r l)) := by
  intro r l
  pointwise [k0_pay8]
  have hb := hB 0 l
  simp only [h, tanh_sg]
  erw [hb]
  rw [← EReal.coe_one, ← EReal.coe_sub, ← EReal.coe_mul, ← EReal.coe_add, fg]
  rfl

/-- The keys. -/
theorem pay9_is {B : FVec Ideal S1x1024 .f32} {X : FVec Ideal S64x1024 .bf16} {b x : ℕ → ℕ → ℝ} (hB : Is2 B b) (h : Is2 X x) :
    Is2 (k0_pay9 (F := Ideal) B X) (fun r l => 1 - fg (b 0 l) (x r l)) := by
  intro r l
  have := pay8_is hB h r l
  pointwise [k0_pay9]
  rw [this, ← EReal.coe_one, ← EReal.coe_sub]

/-- The lower triangle of ones. -/
theorem pay4_is : Is2 (k0_pay4 (F := Ideal)) (fun r s => if s ≤ r then 1 else 0) := by
  intro r s
  pointwise [k0_pay4, k0_pay3]
  rw [sel_sge]
  split_ifs <;> rfl

/-- The log decays summed down by the triangle. -/
theorem pay10_is {B : FVec Ideal S1x1024 .f32} {X : FVec Ideal S64x1024 .bf16} {b x : ℕ → ℕ → ℝ} (hB : Is2 B b) (h : Is2 X x)
    (hb : ∀ l, 0 < b 0 l ∧ b 0 l < 1) :
    Is2 (k0_pay10 (F := Ideal) B (k0_pay4 (F := Ideal)) X) (cum fun r l => Real.log (fg (b 0 l) (x r l))) := by
  intro r l
  have h8 : ∀ s : Fin 64, Ideal.log (k0_pay8 (F := Ideal) B X (ix2 s l)) = ((Real.log (fg (b 0 l.val) (x s.val l.val)) : ℝ) : EReal) := fun s => by
    rw [pay8_is hB h s l, Ideal.log_coe, if_neg (not_le.2 (fg_pos (hb _) _))]
  have h4 := pay4_is r
  pointwise [k0_pay10]
  simp only [h8, h4, ← EReal.coe_sub, ← EReal.coe_mul, Cert.PoolMath.coe_sum, ← EReal.coe_add, zero_add]
  refine congrArg _ ?_
  simp only [cum, sub_self, mul_zero, Finset.sum_const_zero, add_zero, ite_mul, one_mul, zero_mul]

/-- The queries decayed from the chunk's start. -/
theorem pay30_is {Q G : FVec Ideal S64x1024 .f32} {q g : ℕ → ℕ → ℝ} (hQ : Is2 Q q) (hG : Is2 G g) :
    Is2 (k0_pay30 (F := Ideal) Q G) (fun r l => q r l * Real.exp (g r l)) := by
  intro r l
  pointwise [k0_pay30, k0_pay29]
  rw [hQ ⟨r.val, by omega⟩ l, hG ⟨r.val, by omega⟩ l, Ideal.exp_coe, ← EReal.coe_mul]

/-- The keys the lower half meets. -/
theorem pay32_is {K G : FVec Ideal S64x1024 .f32} {k g : ℕ → ℕ → ℝ} {w : ℝ} (hw : Ideal.ofBits .f32 0xF149F2CA#32 = (w : EReal)) (hK : Is2 K k) (hG : Is2 G g) :
    Is2 (k0_pay32 (F := Ideal) K G (k0_pay29 (F := Ideal)) (k0_pay31 (iota .tc S64x1024 32 [0] iota_S64x1024_d0_w32)))
       (fun r l => k r l * if r < 32 then Real.exp (-g r l) else Real.exp w) := by
  intro r l
  pointwise [k0_pay32, k0_pay31, k0_pay29]
  rw [slt_word32, hK, hG, hw]
  split_ifs
  · change _ * Ideal.exp (0 - _) = _
    rw [← EReal.coe_zero, ← EReal.coe_sub, Ideal.exp_coe, ← EReal.coe_mul, zero_sub]
  · change _ * Ideal.exp (w : EReal) = _
    rw [Ideal.exp_coe, ← EReal.coe_mul]

/-- The queries decayed from a given row. -/
theorem pay42_is {Q G : FVec Ideal S64x1024 .f32} {R : FVec Ideal S1x1024 .f32} {q g t : ℕ → ℕ → ℝ} (hQ : Is2 Q q) (hG : Is2 G g) (hR : Is2 R t) :
    Is2 (k0_pay42 (F := Ideal) Q G R) (fun r l => q (32 + r) l * Real.exp (g (32 + r) l - t 0 l)) := by
  intro r l
  pointwise [k0_pay42]
  rw [hQ ⟨32 + r.val, by omega⟩ l, hG ⟨32 + r.val, by omega⟩ l, hR 0 l, ← EReal.coe_sub, Ideal.exp_coe, ← EReal.coe_mul]
  rfl

/-- The keys grown to a given row. -/
theorem pay43_is {K G : FVec Ideal S64x1024 .f32} {R : FVec Ideal S1x1024 .f32} {k g t : ℕ → ℕ → ℝ} (hK : Is2 K k) (hG : Is2 G g) (hR : Is2 R t) :
    Is2 (k0_pay43 (F := Ideal) (iota .tc S64x1024 32 [0] iota_S64x1024_d0_w32) K G R) (fun r l => k r l * Real.exp (t 0 l - g r l)) := by
  intro r l
  pointwise [k0_pay43]
  rw [slt_word64, hK, hG, hR 0 l]
  change _ * Ideal.exp (_ - _) = _
  rw [← EReal.coe_sub, Ideal.exp_coe, ← EReal.coe_mul]
  rfl

/-- A product of the lower half's scores. -/
theorem pay33_is {K G : FVec Ideal S64x1024 .f32} {R : FVec Ideal S1x1024 .f32} {X : FVec Ideal S32x1024 .bf16} {M : IVec S64x1024 1} {x y : ℕ → ℕ → ℝ}
    (hX : Is2 X x) (hY : Is2 (k0_pay32 K G R M) y) (z : Fin 1) (r : Fin 32) (s : Fin 64) :
    (k0_pay33 (F := Ideal) K G R X M (ix3 z r s) : EReal) = ((dotc x y 0 r.val s.val : ℝ) : EReal) := by
  pointwise [k0_pay33]
  simp only [hX, hY, dotc, ← EReal.coe_mul, Cert.PoolMath.coe_sum, zero_add]

/-- A product of the lower half's scores. -/
theorem pay34_is {K G : FVec Ideal S64x1024 .f32} {R : FVec Ideal S1x1024 .f32} {X : FVec Ideal S32x1024 .bf16} {M : IVec S64x1024 1} {x y : ℕ → ℕ → ℝ}
    (hX : Is2 X x) (hY : Is2 (k0_pay32 K G R M) y) (z : Fin 1) (r : Fin 32) (s : Fin 64) :
    (k0_pay34 (F := Ideal) K G R X M (ix3 z r s) : EReal) = ((dotc x y 128 r.val s.val : ℝ) : EReal) := by
  pointwise [k0_pay34]
  simp only [hX, hY, dotc, ← EReal.coe_mul, Cert.PoolMath.coe_sum, zero_add]

/-- A product of the lower half's scores. -/
theorem pay35_is {K G : FVec Ideal S64x1024 .f32} {R : FVec Ideal S1x1024 .f32} {X : FVec Ideal S32x1024 .bf16} {M : IVec S64x1024 1} {x y : ℕ → ℕ → ℝ}
    (hX : Is2 X x) (hY : Is2 (k0_pay32 K G R M) y) (z : Fin 1) (r : Fin 32) (s : Fin 64) :
    (k0_pay35 (F := Ideal) K G R X M (ix3 z r s) : EReal) = ((dotc x y 256 r.val s.val : ℝ) : EReal) := by
  pointwise [k0_pay35]
  simp only [hX, hY, dotc, ← EReal.coe_mul, Cert.PoolMath.coe_sum, zero_add]

/-- A product of the lower half's scores. -/
theorem pay36_is {K G : FVec Ideal S64x1024 .f32} {R : FVec Ideal S1x1024 .f32} {X : FVec Ideal S32x1024 .bf16} {M : IVec S64x1024 1} {x y : ℕ → ℕ → ℝ}
    (hX : Is2 X x) (hY : Is2 (k0_pay32 K G R M) y) (z : Fin 1) (r : Fin 32) (s : Fin 64) :
    (k0_pay36 (F := Ideal) K G R X M (ix3 z r s) : EReal) = ((dotc x y 384 r.val s.val : ℝ) : EReal) := by
  pointwise [k0_pay36]
  simp only [hX, hY, dotc, ← EReal.coe_mul, Cert.PoolMath.coe_sum, zero_add]

/-- A product of the lower half's scores. -/
theorem pay38_is {K G : FVec Ideal S64x1024 .f32} {R : FVec Ideal S1x1024 .f32} {X : FVec Ideal S32x1024 .bf16} {M : IVec S64x1024 1} {x y : ℕ → ℕ → ℝ}
    (hX : Is2 X x) (hY : Is2 (k0_pay32 K G R M) y) (z : Fin 1) (r : Fin 32) (s : Fin 64) :
    (k0_pay38 (F := Ideal) (k0_pay37 K G R X M) (ix3 z r s) : EReal) = ((dotc x y 512 r.val s.val : ℝ) : EReal) := by
  pointwise [k0_pay38, k0_pay37]
  simp only [hX, hY, dotc, ← EReal.coe_mul, Cert.PoolMath.coe_sum, zero_add]

/-- A product of the lower half's scores. -/
theorem pay39_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay39 (F := Ideal) X Y (ix3 z r s) : EReal) = ((dotc x y 640 r.val s.val : ℝ) : EReal) := by
  pointwise [k0_pay39]
  simp only [hX, hY, dotc, ← EReal.coe_mul, Cert.PoolMath.coe_sum, zero_add]

/-- A product of the lower half's scores. -/
theorem pay40_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay40 (F := Ideal) X Y (ix3 z r s) : EReal) = ((dotc x y 768 r.val s.val : ℝ) : EReal) := by
  pointwise [k0_pay40]
  simp only [hX, hY, dotc, ← EReal.coe_mul, Cert.PoolMath.coe_sum, zero_add]

/-- A product of the lower half's scores. -/
theorem pay41_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay41 (F := Ideal) X Y (ix3 z r s) : EReal) = ((dotc x y 896 r.val s.val : ℝ) : EReal) := by
  pointwise [k0_pay41]
  simp only [hX, hY, dotc, ← EReal.coe_mul, Cert.PoolMath.coe_sum, zero_add]

/-- A product of the upper half's scores. -/
theorem pay47_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay47 (F := Ideal) X Y (ix3 z r s) : EReal) = ((dotc x y 128 r.val s.val : ℝ) : EReal) := by
  pointwise [k0_pay47]
  simp only [hX, hY, dotc, ← EReal.coe_mul, Cert.PoolMath.coe_sum, zero_add]

/-- A product of the upper half's scores. -/
theorem pay48_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay48 (F := Ideal) X Y (ix3 z r s) : EReal) = ((dotc x y 256 r.val s.val : ℝ) : EReal) := by
  pointwise [k0_pay48]
  simp only [hX, hY, dotc, ← EReal.coe_mul, Cert.PoolMath.coe_sum, zero_add]

/-- A product of the upper half's scores. -/
theorem pay49_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay49 (F := Ideal) X Y (ix3 z r s) : EReal) = ((dotc x y 384 r.val s.val : ℝ) : EReal) := by
  pointwise [k0_pay49]
  simp only [hX, hY, dotc, ← EReal.coe_mul, Cert.PoolMath.coe_sum, zero_add]

/-- A product of the upper half's scores. -/
theorem pay50_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay50 (F := Ideal) X Y (ix3 z r s) : EReal) = ((dotc x y 512 r.val s.val : ℝ) : EReal) := by
  pointwise [k0_pay50]
  simp only [hX, hY, dotc, ← EReal.coe_mul, Cert.PoolMath.coe_sum, zero_add]

/-- A product of the upper half's scores. -/
theorem pay53_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay53 (F := Ideal) X Y (ix3 z r s) : EReal) = ((dotc x y 768 r.val s.val : ℝ) : EReal) := by
  pointwise [k0_pay53]
  simp only [hX, hY, dotc, ← EReal.coe_mul, Cert.PoolMath.coe_sum, zero_add]

/-- A product of the upper half's scores. -/
theorem pay54_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay54 (F := Ideal) X Y (ix3 z r s) : EReal) = ((dotc x y 896 r.val s.val : ℝ) : EReal) := by
  pointwise [k0_pay54]
  simp only [hX, hY, dotc, ← EReal.coe_mul, Cert.PoolMath.coe_sum, zero_add]

/-- A product of the upper half's scores. -/
theorem pay52_is {X : FVec Ideal S32x1024 .bf16} {Y : FVec Ideal S64x1024 .bf16} {x y : ℕ → ℕ → ℝ}
    (hX : Is2 X x) (hY : Is2 Y y) (z : Fin 1) (r : Fin 32) (s : Fin 64) :
    (k0_pay52 (F := Ideal) (k0_pay51 X Y) (ix3 z r s) : EReal) = ((dotc x y 640 r.val s.val : ℝ) : EReal) := by
  pointwise [k0_pay52, k0_pay51]
  simp only [hX, hY, dotc, ← EReal.coe_mul, Cert.PoolMath.coe_sum, zero_add]

/-- The scores' mask and the first head's product. -/
theorem pay46_is {Q K G : FVec Ideal S64x1024 .f32} {R : FVec Ideal S1x1024 .f32} {W : IVec S64x1024 32} {x y : ℕ → ℕ → ℝ}
    (hX : Is2 (k0_pay42 (F := Ideal) Q G R) x) (hY : Is2 (k0_pay43 (F := Ideal) W K G R) y) (z : Fin 1) (r : Fin 32) (s : Fin 64) :
    (k0_pay46 (F := Ideal) (k0_pay44 Q G R) (k0_pay45 W K G R) (constant S32x64 .f32 0x00000000#32) (ix3 z r s) : EReal) = ((dotc x y 0 r.val s.val : ℝ) : EReal) := by
  pointwise [k0_pay46, k0_pay44, k0_pay45]
  simp only [hX, hY, dotc, ← EReal.coe_mul, Cert.PoolMath.coe_sum, zero_add]

/-- The decayed queries, rounded. -/
theorem pay55_is {Q G : FVec Ideal S64x1024 .f32} {q g : ℕ → ℕ → ℝ} (hQ : Is2 Q q) (hG : Is2 G g) :
    Is2 (k0_pay55 (F := Ideal) Q G) (fun r l => q r l * Real.exp (g r l)) := by
  intro r l
  pointwise [k0_pay55]
  rw [hQ, hG, Ideal.exp_coe, ← EReal.coe_mul]

/-- A head's output. -/
theorem pay56_is {Q G : FVec Ideal S64x1024 .f32} {V : FVec Ideal S64x1024 .bf16} {A : FVec Ideal S1x64x64 .f32} {S : FVec Ideal S128x128 .f32} {v q s a : ℕ → ℕ → ℝ}
    (hV : Is2 V v) (hQ : Is2 (k0_pay55 (F := Ideal) Q G) q) (hS : Is2 S s) (hA : ∀ (z : Fin 1) (r t : Fin 64), A (ix3 z r t) = ((a r.val t.val : ℝ) : EReal)) :
    Is2 (k0_pay56 (F := Ideal) k0_pay3 Q G S V A) (outc a v q s 0) := by
  intro r l
  pointwise [k0_pay56, k0_pay3]
  simp only [sel_sge, hV, hQ, hS, hA, outc, ite_mul, zero_mul, ← EReal.coe_mul, Cert.PoolMath.coe_ite, Cert.PoolMath.coe_sum, zero_add, ← EReal.coe_add]

/-- A head's output. -/
theorem pay60_is {Q G : FVec Ideal S64x1024 .f32} {V : FVec Ideal S64x1024 .bf16} {A : FVec Ideal S1x64x64 .f32} {S : FVec Ideal S128x128 .f32} {v q s a : ℕ → ℕ → ℝ}
    (hV : Is2 V v) (hQ : Is2 (k0_pay55 (F := Ideal) Q G) q) (hS : Is2 S s) (hA : ∀ (z : Fin 1) (r t : Fin 64), A (ix3 z r t) = ((a r.val t.val : ℝ) : EReal)) :
    Is2 (k0_pay60 (F := Ideal) (k0_pay57 k0_pay3 V A) (k0_pay58 Q G) (k0_pay59 S) (constant S64x128 .f32 0x00000000#32)) (outc a v q s 128) := by
  intro r l
  pointwise [k0_pay60, k0_pay57, k0_pay58, k0_pay59, k0_pay3]
  simp only [sel_sge, hV, hQ, hS, hA, outc, ite_mul, zero_mul, ← EReal.coe_mul, Cert.PoolMath.coe_ite, Cert.PoolMath.coe_sum, zero_add, ← EReal.coe_add]

/-- A head's output. -/
theorem pay61_is {V Q : FVec Ideal S64x1024 .bf16} {A : FVec Ideal S1x64x64 .f32} {S : FVec Ideal S128x128 .f32} {v q s a : ℕ → ℕ → ℝ}
    (hV : Is2 V v) (hQ : Is2 Q q) (hS : Is2 S s) (hA : ∀ (z : Fin 1) (r t : Fin 64), A (ix3 z r t) = ((a r.val t.val : ℝ) : EReal)) :
    Is2 (k0_pay61 (F := Ideal) k0_pay3 S V Q A) (outc a v q s 256) := by
  intro r l
  pointwise [k0_pay61, k0_pay3]
  simp only [sel_sge, hV, hQ, hS, hA, outc, ite_mul, zero_mul, ← EReal.coe_mul, Cert.PoolMath.coe_ite, Cert.PoolMath.coe_sum, zero_add, ← EReal.coe_add]

/-- A head's output. -/
theorem pay62_is {V Q : FVec Ideal S64x1024 .bf16} {A : FVec Ideal S1x64x64 .f32} {S : FVec Ideal S128x128 .f32} {v q s a : ℕ → ℕ → ℝ}
    (hV : Is2 V v) (hQ : Is2 Q q) (hS : Is2 S s) (hA : ∀ (z : Fin 1) (r t : Fin 64), A (ix3 z r t) = ((a r.val t.val : ℝ) : EReal)) :
    Is2 (k0_pay62 (F := Ideal) k0_pay3 S V Q A) (outc a v q s 384) := by
  intro r l
  pointwise [k0_pay62, k0_pay3]
  simp only [sel_sge, hV, hQ, hS, hA, outc, ite_mul, zero_mul, ← EReal.coe_mul, Cert.PoolMath.coe_ite, Cert.PoolMath.coe_sum, zero_add, ← EReal.coe_add]

/-- A head's output. -/
theorem pay63_is {V Q : FVec Ideal S64x1024 .bf16} {A : FVec Ideal S1x64x64 .f32} {S : FVec Ideal S128x128 .f32} {v q s a : ℕ → ℕ → ℝ}
    (hV : Is2 V v) (hQ : Is2 Q q) (hS : Is2 S s) (hA : ∀ (z : Fin 1) (r t : Fin 64), A (ix3 z r t) = ((a r.val t.val : ℝ) : EReal)) :
    Is2 (k0_pay63 (F := Ideal) k0_pay3 S V Q A) (outc a v q s 512) := by
  intro r l
  pointwise [k0_pay63, k0_pay3]
  simp only [sel_sge, hV, hQ, hS, hA, outc, ite_mul, zero_mul, ← EReal.coe_mul, Cert.PoolMath.coe_ite, Cert.PoolMath.coe_sum, zero_add, ← EReal.coe_add]

/-- The eight heads' outputs side by side. -/
theorem pay66_is {S5 S6 S7 : FVec Ideal S128x128 .f32} {V Q : FVec Ideal S64x1024 .bf16} {O0 O1 O2 O3 O4 : FVec Ideal S64x128 .f32}
    {A5 A6 A7 : FVec Ideal S1x64x64 .f32} {v q : ℕ → ℕ → ℝ} {s a : ℕ → ℕ → ℕ → ℝ} (hV : Is2 V v) (hQ : Is2 Q q)
    (h0 : Is2 O0 (outc (a 0) v q (s 0) 0)) (h1 : Is2 O1 (outc (a 1) v q (s 1) 128)) (h2 : Is2 O2 (outc (a 2) v q (s 2) 256))
    (h3 : Is2 O3 (outc (a 3) v q (s 3) 384)) (h4 : Is2 O4 (outc (a 4) v q (s 4) 512))
    (hS5 : Is2 S5 (s 5)) (hS6 : Is2 S6 (s 6)) (hS7 : Is2 S7 (s 7))
    (hA5 : ∀ (z : Fin 1) (r t : Fin 64), A5 (ix3 z r t) = ((a 5 r.val t.val : ℝ) : EReal))
    (hA6 : ∀ (z : Fin 1) (r t : Fin 64), A6 (ix3 z r t) = ((a 6 r.val t.val : ℝ) : EReal))
    (hA7 : ∀ (z : Fin 1) (r t : Fin 64), A7 (ix3 z r t) = ((a 7 r.val t.val : ℝ) : EReal)) :
    Is2 (k0_pay66 (F := Ideal) k0_pay3 S5 S6 S7 V Q O0 O1 O2 O3 O4 (k0_pay64 A5) k0_pay65 A6 A7)
      (fun r l => outc (a (l / 128)) v q (s (l / 128)) (128 * (l / 128)) r (l % 128)) := by
  intro r l
  have hl := l.isLt
  pointwise [k0_pay66, k0_pay3, k0_pay64, k0_pay65]
  by_cases c0 : l.val < 128
  · rw [dif_pos c0, show l.val / 128 = 0 by omega]
    rw [h0 r ⟨l.val, c0⟩, show l.val % 128 = l.val by omega]
  rw [dif_neg c0]
  by_cases c1 : l.val - 128 < 128
  · rw [dif_pos c1, show l.val / 128 = 1 by omega]
    rw [h1 r ⟨l.val - 128, c1⟩, show l.val % 128 = l.val - 128 by omega]
  rw [dif_neg c1]
  by_cases c2 : l.val - 128 - 128 < 128
  · rw [dif_pos c2, show l.val / 128 = 2 by omega]
    rw [h2 r ⟨l.val - 128 - 128, c2⟩, show l.val % 128 = l.val - 128 - 128 by omega]
  rw [dif_neg c2]
  by_cases c3 : l.val - 128 - 128 - 128 < 128
  · rw [dif_pos c3, show l.val / 128 = 3 by omega]
    rw [h3 r ⟨l.val - 128 - 128 - 128, c3⟩, show l.val % 128 = l.val - 128 - 128 - 128 by omega]
  rw [dif_neg c3]
  by_cases c4 : l.val - 128 - 128 - 128 - 128 < 128
  · rw [dif_pos c4, show l.val / 128 = 4 by omega]
    rw [h4 r ⟨l.val - 128 - 128 - 128 - 128, c4⟩, show l.val % 128 = l.val - 128 - 128 - 128 - 128 by omega]
  rw [dif_neg c4]
  by_cases c5 : l.val - 128 - 128 - 128 - 128 - 128 < 128
  · rw [dif_pos c5, show l.val / 128 = 5 by omega]
    rw [show l.val % 128 = l.val - 128 - 128 - 128 - 128 - 128 by omega]
    simp only [sel_sge, hV, hQ, hS5, hA5, outc, ite_mul, zero_mul, ← EReal.coe_mul, Cert.PoolMath.coe_ite, Cert.PoolMath.coe_sum, zero_add, ← EReal.coe_add]
  rw [dif_neg c5]
  by_cases c6 : l.val - 128 - 128 - 128 - 128 - 128 - 128 < 128
  · rw [dif_pos c6, show l.val / 128 = 6 by omega]
    rw [show l.val % 128 = l.val - 128 - 128 - 128 - 128 - 128 - 128 by omega]
    simp only [sel_sge, hV, hQ, hS6, hA6, outc, ite_mul, zero_mul, ← EReal.coe_mul, Cert.PoolMath.coe_ite, Cert.PoolMath.coe_sum, zero_add, ← EReal.coe_add]
  rw [dif_neg c6]
  rw [show l.val / 128 = 7 by omega, show l.val % 128 = l.val - 128 - 128 - 128 - 128 - 128 - 128 - 128 by omega]
  simp only [sel_sge, hV, hQ, hS7, hA7, outc, ite_mul, zero_mul, ← EReal.coe_mul, Cert.PoolMath.coe_ite, Cert.PoolMath.coe_sum, zero_add, ← EReal.coe_add]

/-- The keys decayed to the chunk's end. -/
theorem pay67_is {K G : FVec Ideal S64x1024 .f32} {R : FVec Ideal S1x1024 .f32} {k g t : ℕ → ℕ → ℝ} (hK : Is2 K k) (hG : Is2 G g) (hR : Is2 R t) :
    Is2 (k0_pay67 (F := Ideal) K G R) (fun r l => k r l * Real.exp (t 0 l - g r l)) := by
  intro r l
  pointwise [k0_pay67]
  rw [hK, hG, hR 0 l, ← EReal.coe_sub, Ideal.exp_coe, ← EReal.coe_mul]
  rfl

/-- The chunk's whole decay. -/
theorem pay68_is {R : FVec Ideal S1x1024 .f32} {t : ℕ → ℕ → ℝ} (hR : Is2 R t) : Is2 (k0_pay68 (F := Ideal) R) (fun r l => Real.exp (t r l)) := by
  intro r l
  obtain rfl := Subsingleton.elim r 0
  pointwise [k0_pay68]
  rw [hR, Ideal.exp_coe]
  rfl

/-- A head's next state. -/
theorem pay70_is {V D : FVec Ideal S64x1024 .bf16} {E : FVec Ideal S1x1024 .f32} {S : FVec Ideal S128x128 .f32} {v d e s : ℕ → ℕ → ℝ}
    (hV : Is2 V v) (hD : Is2 D d) (hE : Is2 (k0_pay68 (F := Ideal) E) e) (hS : Is2 S s) (z : Fin 1) (a b : Fin 128) :
    (k0_pay70 (F := Ideal) S V D (k0_pay69 E) (ix3 z a b) : EReal) = ((stc s v d e 0 a.val b.val : ℝ) : EReal) := by
  pointwise [k0_pay70, k0_pay69]
  have hE' := hE 0
  simp only [Fin.val_zero] at hE'
  simp only [hV, hD, hE', hS, stc, ← EReal.coe_mul, Cert.PoolMath.coe_sum, zero_add, ← EReal.coe_add]

/-- A head's next state. -/
theorem pay71_is {V D : FVec Ideal S64x1024 .bf16} {E : FVec Ideal S1x1024 .f32} {S : FVec Ideal S128x128 .f32} {v d e s : ℕ → ℕ → ℝ}
    (hV : Is2 V v) (hD : Is2 D d) (hE : Is2 E e) (hS : Is2 S s) (z : Fin 1) (a b : Fin 128) :
    (k0_pay71 (F := Ideal) S V D E (ix3 z a b) : EReal) = ((stc s v d e 128 a.val b.val : ℝ) : EReal) := by
  pointwise [k0_pay71]
  have hE' := hE 0
  simp only [Fin.val_zero] at hE'
  simp only [hV, hD, hE', hS, stc, ← EReal.coe_mul, Cert.PoolMath.coe_sum, zero_add, ← EReal.coe_add]

/-- A head's next state. -/
theorem pay72_is {V D : FVec Ideal S64x1024 .bf16} {E : FVec Ideal S1x1024 .f32} {S : FVec Ideal S128x128 .f32} {v d e s : ℕ → ℕ → ℝ}
    (hV : Is2 V v) (hD : Is2 D d) (hE : Is2 E e) (hS : Is2 S s) (z : Fin 1) (a b : Fin 128) :
    (k0_pay72 (F := Ideal) S V D E (ix3 z a b) : EReal) = ((stc s v d e 256 a.val b.val : ℝ) : EReal) := by
  pointwise [k0_pay72]
  have hE' := hE 0
  simp only [Fin.val_zero] at hE'
  simp only [hV, hD, hE', hS, stc, ← EReal.coe_mul, Cert.PoolMath.coe_sum, zero_add, ← EReal.coe_add]

/-- A head's next state. -/
theorem pay73_is {V D : FVec Ideal S64x1024 .bf16} {E : FVec Ideal S1x1024 .f32} {S : FVec Ideal S128x128 .f32} {v d e s : ℕ → ℕ → ℝ}
    (hV : Is2 V v) (hD : Is2 D d) (hE : Is2 E e) (hS : Is2 S s) (z : Fin 1) (a b : Fin 128) :
    (k0_pay73 (F := Ideal) S V D E (ix3 z a b) : EReal) = ((stc s v d e 384 a.val b.val : ℝ) : EReal) := by
  pointwise [k0_pay73]
  have hE' := hE 0
  simp only [Fin.val_zero] at hE'
  simp only [hV, hD, hE', hS, stc, ← EReal.coe_mul, Cert.PoolMath.coe_sum, zero_add, ← EReal.coe_add]

/-- A head's next state. -/
theorem pay76_is {V D : FVec Ideal S64x1024 .bf16} {E : FVec Ideal S1x1024 .f32} {S : FVec Ideal S128x128 .f32} {v d e s : ℕ → ℕ → ℝ}
    (hV : Is2 V v) (hD : Is2 D d) (hE : Is2 E e) (hS : Is2 S s) (z : Fin 1) (a b : Fin 128) :
    (k0_pay76 (F := Ideal) S V D E (ix3 z a b) : EReal) = ((stc s v d e 640 a.val b.val : ℝ) : EReal) := by
  pointwise [k0_pay76]
  have hE' := hE 0
  simp only [Fin.val_zero] at hE'
  simp only [hV, hD, hE', hS, stc, ← EReal.coe_mul, Cert.PoolMath.coe_sum, zero_add, ← EReal.coe_add]

/-- A head's next state. -/
theorem pay77_is {V D : FVec Ideal S64x1024 .bf16} {E : FVec Ideal S1x1024 .f32} {S : FVec Ideal S128x128 .f32} {v d e s : ℕ → ℕ → ℝ}
    (hV : Is2 V v) (hD : Is2 D d) (hE : Is2 E e) (hS : Is2 S s) (z : Fin 1) (a b : Fin 128) :
    (k0_pay77 (F := Ideal) S V D E (ix3 z a b) : EReal) = ((stc s v d e 768 a.val b.val : ℝ) : EReal) := by
  pointwise [k0_pay77]
  have hE' := hE 0
  simp only [Fin.val_zero] at hE'
  simp only [hV, hD, hE', hS, stc, ← EReal.coe_mul, Cert.PoolMath.coe_sum, zero_add, ← EReal.coe_add]

/-- A head's next state. -/
theorem pay75_is {V D : FVec Ideal S64x1024 .bf16} {E : FVec Ideal S1x1024 .f32} {S : FVec Ideal S128x128 .f32} {v d e s : ℕ → ℕ → ℝ}
    (hV : Is2 V v) (hD : Is2 D d) (hE : Is2 E e) (hS : Is2 S s) (z : Fin 1) (a b : Fin 128) :
    (k0_pay75 (F := Ideal) S V D (k0_pay74 E) (ix3 z a b) : EReal) = ((stc s v d e 512 a.val b.val : ℝ) : EReal) := by
  pointwise [k0_pay75, k0_pay74]
  have hE' := hE 0
  simp only [Fin.val_zero] at hE'
  simp only [hV, hD, hE', hS, stc, ← EReal.coe_mul, Cert.PoolMath.coe_sum, zero_add, ← EReal.coe_add]

/-- A product of the lower half's scores. -/
theorem pay5_is {V D : FVec Ideal S64x1024 .bf16} {E : FVec Ideal S1x1024 .f32} {S : FVec Ideal S128x128 .f32} {v d e s : ℕ → ℕ → ℝ}
    (hV : Is2 V v) (hD : Is2 D d) (hE : Is2 E e) (hS : Is2 S s) (z : Fin 1) (a b : Fin 128) :
    (k0_pay5 (F := Ideal) (k0_pay78 S E) (k0_pay79 V) (k0_pay80 D) (constant S128x128 .f32 0x00000000#32) (ix3 z a b) : EReal) = ((stc s v d e 896 a.val b.val : ℝ) : EReal) := by
  pointwise [k0_pay5, k0_pay78, k0_pay79, k0_pay80]
  have hE' := hE 0
  simp only [Fin.val_zero] at hE'
  simp only [hV, hD, hE', hS, stc, ← EReal.coe_mul, Cert.PoolMath.coe_sum, zero_add, ← EReal.coe_add]

end Cert.HgrnValue

end
-- ==== Proof.HgrnC.lean ====
/-
# The gated recurrence's forward call: one trip of the body's loop
-/
module

public import proofs.«01_k».proof.Proof.HgrnB

@[expose] public section

set_option maxRecDepth 16384

noncomputable section

open Idealize.ShloMosaic Idealize.ShloMosaic.TcCoe Idealize.ShloMosaic.Tactic Idealize.SL.Sem

namespace Cert.HgrnValue

open Cert.Kernel9Ideal Cert.Kernel9Ideal.Gen

/-- A chunk's queries, from the block of their inputs. -/
def qc (P : ℕ → ℕ → ℝ) (k r l : ℕ) : ℝ := P (64 * k + r) l * sg (P (64 * k + r) l)

/-- A chunk's keys. -/
def kc (b P : ℕ → ℕ → ℝ) (k r l : ℕ) : ℝ := 1 - fg (b 0 l) (P (64 * k + r) l)

/-- A chunk's log decays, summed down to a row. -/
def gc (b P : ℕ → ℕ → ℝ) (k : ℕ) : ℕ → ℕ → ℝ := cum fun r l => Real.log (fg (b 0 l) (P (64 * k + r) l))

/-- A chunk's queries, decayed. -/
def qe (b P P' : ℕ → ℕ → ℝ) (k r l : ℕ) : ℝ := qc P k r l * Real.exp (gc b P' k r l)

/-- The queries of its upper half, decayed from its thirty-second row. -/
def qh (b P P' : ℕ → ℕ → ℝ) (k r l : ℕ) : ℝ := qc P k (32 + r) l * Real.exp (gc b P' k (32 + r) l - gc b P' k 31 l)

/-- The keys its lower half meets. -/
def kl (w : ℝ) (b P : ℕ → ℕ → ℝ) (k r l : ℕ) : ℝ := kc b P k r l * if r < 32 then Real.exp (-gc b P k r l) else Real.exp w

/-- The keys its upper half meets. -/
def kh (b P : ℕ → ℕ → ℝ) (k r l : ℕ) : ℝ := kc b P k r l * Real.exp (gc b P k 31 l - gc b P k r l)

/-- The keys decayed to the chunk's end. -/
def kd (b P : ℕ → ℕ → ℝ) (k r l : ℕ) : ℝ := kc b P k r l * Real.exp (gc b P k 63 l - gc b P k r l)

/-- The decay of a whole chunk. -/
def dc (b P : ℕ → ℕ → ℝ) (k _r l : ℕ) : ℝ := Real.exp (gc b P k 63 l)

/-- The scores as the kernel forms them, before the mask. -/
def raw (w : ℝ) (b P P' : ℕ → ℕ → ℝ) (k h r s : ℕ) : ℝ :=
  if r < 32 then dotc (qe b P P' k) (kl w b P' k) (128 * h) r s else dotc (qh b P P' k) (kh b P' k) (128 * h) (r - 32) s

/-- A chunk's rows of a block of values. -/
def vc (P : ℕ → ℕ → ℝ) (k r l : ℕ) : ℝ := P (64 * k + r) l

/-- Where a trip's rows begin. -/
theorem off1_eq : ∀ k : Fin k0_t1_loop.trips, k0_off1 k = ![64 * k.val, 0] := by decide +kernel

/-- There are eight trips. -/
theorem trips_lt (k : Fin k0_t1_loop.trips) : k.val < 8 := lt_of_lt_of_eq k.isLt (by decide +kernel)

variable (arg2 : Memref sig .tc .vmem S512x1024 .bf16) (arg3 : Memref sig .tc .vmem S512x1024 .bf16)
    (arg4 : Memref sig .tc .vmem S512x1024 .bf16) (arg8 : Memref sig .tc .vmem S8x128x128 .f32)
    (arg9 : Memref sig .tc .vmem S64x1024 .f32) (arg10 : Memref sig .tc .vmem S8x64x64 .f32)
    (v3 v4 : Vec Ideal S1x1024 .f32)
    (X2 : BufTy.Contents (Elt Ideal) arg2.view.ty) (X3 : BufTy.Contents (Elt Ideal) arg3.view.ty) (X4 : BufTy.Contents (Elt Ideal) arg4.view.ty)
    (f8 : BufTy.Contents (Elt Ideal) arg8.view.ty) (k : Fin k0_t1_loop.trips)
    {P2 P3 P4 b : ℕ → ℕ → ℝ} {w : ℝ} {s : ℕ → ℕ → ℕ → ℝ}

/-- The row numbers the mask compares. -/
abbrev rows : IVec S64x1024 32 := iota .tc S64x1024 32 [0] iota_S64x1024_d0_w32

/-- A trip's load reads the rows of its chunk. -/
theorem load_is (arg : Memref sig .tc .vmem S512x1024 .bf16) (X : BufTy.Contents (Elt Ideal) arg.view.ty) {P : ℕ → ℕ → ℝ}
    (h : Is2 (arg.view.read (Elt Ideal) X) P) (hb : ∀ a, (k0_off1 k) a + S64x1024.size a ≤ S512x1024.size a) :
    Is2 (View.readAt (Elt Ideal) arg.view (Rect.unit (s := S512x1024) (k0_off1 k) S64x1024.size hb).toLoadRect X) (vc P k.val) := by
  intro r l
  have hk := trips_lt k
  have hr := r.isLt
  rw [View.readAt_apply, vc]
  refine Eq.trans (congrArg _ ?_) (h ⟨64 * k.val + r.val, by omega⟩ l)
  have e0 : k0_off1 k 0 = 64 * k.val := congrFun (off1_eq k) 0
  have e1 : k0_off1 k 1 = 0 := congrFun (off1_eq k) 1
  funext a
  refine Fin.ext ?_
  fin_cases a
  · show k0_off1 k 0 + 1 * r.val = 64 * k.val + r.val
    omega
  · show k0_off1 k 1 + 1 * l.val = l.val
    omega

/-- The values at a trip. -/
theorem r_is (h4 : Is2 (arg4.view.read (Elt Ideal) X4) P4) : Is2 (trip_k0_t1.sl.r_5 (F := Ideal) arg4 X4 k) (vc P4 k.val) := by
  unfold trip_k0_t1.sl.r_5 trip_k0_t1.sl.r
  intro r l
  pointwise [k0_pay28, k0_pay6]
  exact load_is k arg4 X4 h4 _ r l

/-- The queries at a trip. -/
theorem r_1_is (h2 : Is2 (arg2.view.read (Elt Ideal) X2) P2) : Is2 (trip_k0_t1.sl.r_1 (F := Ideal) arg2 X2 k) (qc P2 k.val) := by
  unfold trip_k0_t1.sl.r_1
  exact pay7_is (load_is k arg2 X2 h2 _)

/-- The keys at a trip. -/
theorem r_2_is (hb : Is2 (k0_pay2 (F := Ideal) v3 v4) b) (h3 : Is2 (arg3.view.read (Elt Ideal) X3) P3) :
    Is2 (trip_k0_t1.sl.r_2 (F := Ideal) arg3 v3 v4 X3 k) (kc b P3 k.val) := by
  unfold trip_k0_t1.sl.r_2
  exact pay9_is hb (load_is k arg3 X3 h3 _)

/-- The running log decays at a trip. -/
theorem r_3_is (hb : Is2 (k0_pay2 (F := Ideal) v3 v4) b) (hp : ∀ l, 0 < b 0 l ∧ b 0 l < 1) (h3 : Is2 (arg3.view.read (Elt Ideal) X3) P3) :
    Is2 (trip_k0_t1.sl.r_3 (F := Ideal) arg3 v3 v4 X3 k) (gc b P3 k.val) := by
  unfold trip_k0_t1.sl.r_3
  exact pay10_is hb (load_is k arg3 X3 h3 _) hp

/-- The running log decay at the lower half's last row. -/
theorem v179_is (hb : Is2 (k0_pay2 (F := Ideal) v3 v4) b) (hp : ∀ l, 0 < b 0 l ∧ b 0 l < 1) (h3 : Is2 (arg3.view.read (Elt Ideal) X3) P3) :
    Is2 (trip_k0_t1.sl.v179 (F := Ideal) arg3 arg9 v3 v4 X3 k) (fun _ l => gc b P3 k.val 31 l) := by
  intro z l
  have h := r_3_is arg3 v3 v4 X3 k hb hp h3 ⟨31, by omega⟩ l
  unfold trip_k0_t1.sl.v179 trip_k0_t1.sl.HW_arg9_1
  rw [View.readCov_fill _ _ _ _ _ (by intro a; fin_cases a <;> rfl)]
  unfold trip_k0_t1.sl.v64
  obtain rfl := Subsingleton.elim z 0
  pointwise [k0_pay11]
  exact h

/-- The running log decay at the last row. -/
theorem v339_is (hb : Is2 (k0_pay2 (F := Ideal) v3 v4) b) (hp : ∀ l, 0 < b 0 l ∧ b 0 l < 1) (h3 : Is2 (arg3.view.read (Elt Ideal) X3) P3) :
    Is2 (trip_k0_t1.sl.v339 (F := Ideal) arg3 arg9 v3 v4 X3 k) (fun _ l => gc b P3 k.val 63 l) := by
  intro z l
  have h := r_3_is arg3 v3 v4 X3 k hb hp h3 ⟨63, by omega⟩ l
  unfold trip_k0_t1.sl.v339 trip_k0_t1.sl.HW_arg9_1
  rw [View.readCov_fill _ _ _ _ _ (by intro a; fin_cases a <;> rfl)]
  unfold trip_k0_t1.sl.v64
  obtain rfl := Subsingleton.elim z 0
  pointwise [k0_pay11]
  exact h

/-- The lower half's queries. -/
theorem r_6_is (hb : Is2 (k0_pay2 (F := Ideal) v3 v4) b) (hp : ∀ l, 0 < b 0 l ∧ b 0 l < 1) (h2 : Is2 (arg2.view.read (Elt Ideal) X2) P2) (h3 : Is2 (arg3.view.read (Elt Ideal) X3) P3) :
    Is2 (k0_pay30 (F := Ideal) (trip_k0_t1.sl.r_1 arg2 X2 k) (trip_k0_t1.sl.r_3 arg3 v3 v4 X3 k)) (qe b P2 P3 k.val) :=
  pay30_is (r_1_is arg2 X2 k h2) (r_3_is arg3 v3 v4 X3 k hb hp h3)

/-- The lower half's keys. -/
theorem r_7_is (hw : Ideal.ofBits .f32 0xF149F2CA#32 = (w : EReal)) (hb : Is2 (k0_pay2 (F := Ideal) v3 v4) b) (hp : ∀ l, 0 < b 0 l ∧ b 0 l < 1) (h3 : Is2 (arg3.view.read (Elt Ideal) X3) P3) :
    Is2 (k0_pay32 (F := Ideal) (trip_k0_t1.sl.r_2 arg3 v3 v4 X3 k) (trip_k0_t1.sl.r_3 arg3 v3 v4 X3 k) k0_pay29 (k0_pay31 rows)) (kl w b P3 k.val) :=
  pay32_is hw (r_2_is arg3 v3 v4 X3 k hb h3) (r_3_is arg3 v3 v4 X3 k hb hp h3)

/-- The upper half's queries. -/
theorem r_9_is (hb : Is2 (k0_pay2 (F := Ideal) v3 v4) b) (hp : ∀ l, 0 < b 0 l ∧ b 0 l < 1) (h2 : Is2 (arg2.view.read (Elt Ideal) X2) P2) (h3 : Is2 (arg3.view.read (Elt Ideal) X3) P3) :
    Is2 (k0_pay42 (F := Ideal) (trip_k0_t1.sl.r_1 arg2 X2 k) (trip_k0_t1.sl.r_3 arg3 v3 v4 X3 k) (trip_k0_t1.sl.v179 arg3 arg9 v3 v4 X3 k)) (qh b P2 P3 k.val) :=
  pay42_is (r_1_is arg2 X2 k h2) (r_3_is arg3 v3 v4 X3 k hb hp h3) (v179_is arg3 arg9 v3 v4 X3 k hb hp h3)

/-- The upper half's keys. -/
theorem r_10_is (hb : Is2 (k0_pay2 (F := Ideal) v3 v4) b) (hp : ∀ l, 0 < b 0 l ∧ b 0 l < 1) (h3 : Is2 (arg3.view.read (Elt Ideal) X3) P3) :
    Is2 (k0_pay43 (F := Ideal) rows (trip_k0_t1.sl.r_2 arg3 v3 v4 X3 k) (trip_k0_t1.sl.r_3 arg3 v3 v4 X3 k) (trip_k0_t1.sl.v179 arg3 arg9 v3 v4 X3 k)) (kh b P3 k.val) :=
  pay43_is (r_2_is arg3 v3 v4 X3 k hb h3) (r_3_is arg3 v3 v4 X3 k hb hp h3) (v179_is arg3 arg9 v3 v4 X3 k hb hp h3)

/-- The decayed queries. -/
theorem r_14_is (hb : Is2 (k0_pay2 (F := Ideal) v3 v4) b) (hp : ∀ l, 0 < b 0 l ∧ b 0 l < 1) (h2 : Is2 (arg2.view.read (Elt Ideal) X2) P2) (h3 : Is2 (arg3.view.read (Elt Ideal) X3) P3) :
    Is2 (k0_pay55 (F := Ideal) (trip_k0_t1.sl.r_1 arg2 X2 k) (trip_k0_t1.sl.r_3 arg3 v3 v4 X3 k)) (qe b P2 P3 k.val) :=
  pay55_is (r_1_is arg2 X2 k h2) (r_3_is arg3 v3 v4 X3 k hb hp h3)

/-- The keys decayed to the end. -/
theorem r_24_is (hb : Is2 (k0_pay2 (F := Ideal) v3 v4) b) (hp : ∀ l, 0 < b 0 l ∧ b 0 l < 1) (h3 : Is2 (arg3.view.read (Elt Ideal) X3) P3) :
    Is2 (k0_pay67 (F := Ideal) (trip_k0_t1.sl.r_2 arg3 v3 v4 X3 k) (trip_k0_t1.sl.r_3 arg3 v3 v4 X3 k) (trip_k0_t1.sl.v339 arg3 arg9 v3 v4 X3 k)) (kd b P3 k.val) :=
  pay67_is (r_2_is arg3 v3 v4 X3 k hb h3) (r_3_is arg3 v3 v4 X3 k hb hp h3) (v339_is arg3 arg9 v3 v4 X3 k hb hp h3)

/-- The whole decay. -/
theorem r_25_is (hb : Is2 (k0_pay2 (F := Ideal) v3 v4) b) (hp : ∀ l, 0 < b 0 l ∧ b 0 l < 1) (h3 : Is2 (arg3.view.read (Elt Ideal) X3) P3) :
    Is2 (k0_pay68 (F := Ideal) (trip_k0_t1.sl.v339 arg3 arg9 v3 v4 X3 k)) (dc b P3 k.val) :=
  pay68_is (v339_is arg3 arg9 v3 v4 X3 k hb hp h3)

/-- The scores' buffer, as a function of its index. -/
def rawG (w : ℝ) (b P P' : ℕ → ℕ → ℝ) (k : ℕ) (y : S8x64x64.Idx) : EReal := ((raw w b P P' k (y 0).val (y 1).val (y 2).val : ℝ) : EReal)

/-- A head's scores of the lower half are its block of the buffer. -/
theorem piece_lo (k h : ℕ) (inb : ∀ a, (![h, 0, 0] : Fin 3 → ℕ) a + S1x32x64.size a ≤ S8x64x64.size a)
    (Z : (Rect.unit (s := S8x64x64) ![h, 0, 0] S1x32x64.size inb).shape.Idx → EReal)
    (hZ : ∀ (z : Fin 1) (r : Fin 32) (t : Fin 64), Z (ix3 z r t) = ((dotc (qe b P2 P3 k) (kl w b P3 k) (128 * h) r.val t.val : ℝ) : EReal)) :
    ∀ x, Z x = rawG w b P2 P3 k ((Rect.unit (s := S8x64x64) ![h, 0, 0] S1x32x64.size inb).emb x) := by
  intro x
  have hx0 : (x 0).val < 1 := (x 0).isLt
  have hx1 : (x 1).val < 32 := (x 1).isLt
  refine (congrArg Z (eq_ix3 x)).trans ((hZ (x 0) (x 1) (x 2)).trans ?_)
  have e0 : ((Rect.unit (s := S8x64x64) ![h, 0, 0] S1x32x64.size inb).emb x 0).val = h := by
    show h + 1 * (x 0).val = h
    omega
  have e1 : ((Rect.unit (s := S8x64x64) ![h, 0, 0] S1x32x64.size inb).emb x 1).val = 0 + (x 1).val := by
    show 0 + 1 * (x 1).val = 0 + (x 1).val
    omega
  have e2 : ((Rect.unit (s := S8x64x64) ![h, 0, 0] S1x32x64.size inb).emb x 2).val = (x 2).val := by
    show 0 + 1 * (x 2).val = (x 2).val
    omega
  rw [rawG, e0, e1, e2, raw, if_pos (by omega), Nat.zero_add]

/-- A head's scores of the upper half are. -/
theorem piece_hi (k h : ℕ) (inb : ∀ a, (![h, 32, 0] : Fin 3 → ℕ) a + S1x32x64.size a ≤ S8x64x64.size a)
    (Z : (Rect.unit (s := S8x64x64) ![h, 32, 0] S1x32x64.size inb).shape.Idx → EReal)
    (hZ : ∀ (z : Fin 1) (r : Fin 32) (t : Fin 64), Z (ix3 z r t) = ((dotc (qh b P2 P3 k) (kh b P3 k) (128 * h) r.val t.val : ℝ) : EReal)) :
    ∀ x, Z x = rawG w b P2 P3 k ((Rect.unit (s := S8x64x64) ![h, 32, 0] S1x32x64.size inb).emb x) := by
  intro x
  have hx0 : (x 0).val < 1 := (x 0).isLt
  have hx1 : (x 1).val < 32 := (x 1).isLt
  refine (congrArg Z (eq_ix3 x)).trans ((hZ (x 0) (x 1) (x 2)).trans ?_)
  have e0 : ((Rect.unit (s := S8x64x64) ![h, 32, 0] S1x32x64.size inb).emb x 0).val = h := by
    show h + 1 * (x 0).val = h
    omega
  have e1 : ((Rect.unit (s := S8x64x64) ![h, 32, 0] S1x32x64.size inb).emb x 1).val = 32 + (x 1).val := by
    show 32 + 1 * (x 1).val = 32 + (x 1).val
    omega
  have e2 : ((Rect.unit (s := S8x64x64) ![h, 32, 0] S1x32x64.size inb).emb x 2).val = (x 2).val := by
    show 0 + 1 * (x 2).val = (x 2).val
    omega
  rw [rawG, e0, e1, e2, raw, if_neg (by omega), Nat.add_sub_cancel_left]

/-- The pieces written of the scores' buffer are blocks of the scores. -/
theorem scores_of (hw : Ideal.ofBits .f32 0xF149F2CA#32 = (w : EReal)) (hb : Is2 (k0_pay2 (F := Ideal) v3 v4) b) (hp : ∀ l, 0 < b 0 l ∧ b 0 l < 1) (h2 : Is2 (arg2.view.read (Elt Ideal) X2) P2) (h3 : Is2 (arg3.view.read (Elt Ideal) X3) P3) :
    View.PiecesOf (Val := Elt Ideal) (e := .f32) (rawG w b P2 P3 k.val) (trip_k0_t1.sl.HW_arg10_16 (F := Ideal) arg2 arg3 arg9 v3 v4 rows X2 X3 k) := by
  have k6 := r_6_is arg2 arg3 v3 v4 X2 X3 k hb hp h2 h3
  have k7 := r_7_is arg3 v3 v4 X3 k hw hb hp h3
  have k9 := r_9_is arg2 arg3 arg9 v3 v4 X2 X3 k hb hp h2 h3
  have k10 := r_10_is arg3 arg9 v3 v4 X3 k hb hp h3
  simp only [trip_k0_t1.sl.HW_arg10_16]
  exact ⟨piece_hi k.val 7 inb_S8x64x64_S1x32x64_7_32_0 _ fun z r t => pay54_is k9 k10 z r t,
    piece_hi k.val 6 inb_S8x64x64_S1x32x64_6_32_0 _ fun z r t => pay53_is k9 k10 z r t,
    piece_hi k.val 5 inb_S8x64x64_S1x32x64_5_32_0 _ fun z r t => pay52_is k9 k10 z r t,
    piece_hi k.val 4 inb_S8x64x64_S1x32x64_4_32_0 _ fun z r t => pay50_is k9 k10 z r t,
    piece_hi k.val 3 inb_S8x64x64_S1x32x64_3_32_0 _ fun z r t => pay49_is k9 k10 z r t,
    piece_hi k.val 2 inb_S8x64x64_S1x32x64_2_32_0 _ fun z r t => pay48_is k9 k10 z r t,
    piece_hi k.val 1 inb_S8x64x64_S1x32x64_1_32_0 _ fun z r t => pay47_is k9 k10 z r t,
    piece_hi k.val 0 inb_S8x64x64_S1x32x64_0_32_0 _ fun z r t => pay46_is k9 k10 z r t,
    piece_lo k.val 7 inb_S8x64x64_S1x32x64_7_0_0 _ fun z r t => pay41_is k6 k7 z r t,
    piece_lo k.val 6 inb_S8x64x64_S1x32x64_6_0_0 _ fun z r t => pay40_is k6 k7 z r t,
    piece_lo k.val 5 inb_S8x64x64_S1x32x64_5_0_0 _ fun z r t => pay39_is k6 k7 z r t,
    piece_lo k.val 4 inb_S8x64x64_S1x32x64_4_0_0 _ fun z r t => pay38_is k6 k7 z r t,
    piece_lo k.val 3 inb_S8x64x64_S1x32x64_3_0_0 _ fun z r t => pay36_is k6 k7 z r t,
    piece_lo k.val 2 inb_S8x64x64_S1x32x64_2_0_0 _ fun z r t => pay35_is k6 k7 z r t,
    piece_lo k.val 1 inb_S8x64x64_S1x32x64_1_0_0 _ fun z r t => pay34_is k6 k7 z r t,
    piece_lo k.val 0 inb_S8x64x64_S1x32x64_0_0_0 _ fun z r t => pay33_is k6 k7 z r t, trivial⟩

/-- They cover it. -/
theorem scores_cover (y : S8x64x64.Idx) : ∃ p ∈ trip_k0_t1.sl.HW_arg10_16 (F := Ideal) arg2 arg3 arg9 v3 v4 rows X2 X3 k, y ∈ p.1.set :=
  View.cover_of_tiledL (trip_k0_t1.sl.HW_arg10_16 (F := Ideal) arg2 arg3 arg9 v3 v4 rows X2 X3 k) S1x32x64.size (by sl_kernel_rfl) y

/-- A head's scores, read back. -/
theorem scores_is (hw : Ideal.ofBits .f32 0xF149F2CA#32 = (w : EReal)) (hb : Is2 (k0_pay2 (F := Ideal) v3 v4) b) (hp : ∀ l, 0 < b 0 l ∧ b 0 l < 1) (h2 : Is2 (arg2.view.read (Elt Ideal) X2) P2) (h3 : Is2 (arg3.view.read (Elt Ideal) X3) P3) (h : ℕ) (inb : ∀ a, (![h, 0, 0] : Fin 3 → ℕ) a + S1x64x64.size a ≤ S8x64x64.size a) (z : Fin 1) (r t : Fin 64) :
    arg10.view.readCov (trip_k0_t1.sl.HW_arg10_16 (F := Ideal) arg2 arg3 arg9 v3 v4 rows X2 X3 k) (Rect.unit (s := S8x64x64) ![h, 0, 0] S1x64x64.size inb).toLoadRect (ix3 z r t)
      = ((raw w b P2 P3 k.val h r.val t.val : ℝ) : EReal) := by
  rw [View.readCov_eq_canon']
  have hc := View.canon_append_of_piecesOf (Val := Elt Ideal) (e := .f32) (rawG w b P2 P3 k.val) [] _ (scores_of arg2 arg3 arg9 v3 v4 X2 X3 k hw hb hp h2 h3)
    ((Rect.unit (s := S8x64x64) ![h, 0, 0] S1x64x64.size inb).toLoadRect.idx (ix3 z r t)) (scores_cover arg2 arg3 arg9 v3 v4 X2 X3 k _)
  rw [List.append_nil] at hc
  refine hc.trans ?_
  have hz := z.isLt
  have e0 : ((Rect.unit (s := S8x64x64) ![h, 0, 0] S1x64x64.size inb).toLoadRect.idx (ix3 z r t) 0).val = h := by
    show h + 1 * z.val = h
    omega
  have e1 : ((Rect.unit (s := S8x64x64) ![h, 0, 0] S1x64x64.size inb).toLoadRect.idx (ix3 z r t) 1).val = r.val := by
    show 0 + 1 * r.val = r.val
    omega
  have e2 : ((Rect.unit (s := S8x64x64) ![h, 0, 0] S1x64x64.size inb).toLoadRect.idx (ix3 z r t) 2).val = t.val := by
    show 0 + 1 * t.val = t.val
    omega
  rw [rawG, e0, e1, e2]

/-- A head's state, read from the state's buffer. -/
theorem state_is (hs : ∀ (h : Fin 8) (a c : Fin 128), arg8.view.read (Elt Ideal) f8 (ix3 h a c) = ((s h.val a.val c.val : ℝ) : EReal))
    (h : Fin 8) (inb : ∀ a, (![h.val, 0, 0] : Fin 3 → ℕ) a + S1x128x128.size a ≤ S8x128x128.size a) (z : Fin 1) (a c : Fin 128) :
    View.readAt (Elt Ideal) arg8.view (Rect.unit (s := S8x128x128) ![h.val, 0, 0] S1x128x128.size inb).toLoadRect f8 (ix3 z a c) = ((s h.val a.val c.val : ℝ) : EReal) := by
  rw [View.readAt_apply]
  refine Eq.trans (congrArg _ ?_) (hs h a c)
  have hz := z.isLt
  funext i
  refine Fin.ext ?_
  fin_cases i
  · show h.val + 1 * z.val = h.val
    omega
  · show 0 + 1 * a.val = a.val
    omega
  · show 0 + 1 * c.val = c.val
    omega

/-- The state of head 0 a trip loads. -/
theorem v66_is (hs : ∀ (h : Fin 8) (a c : Fin 128), arg8.view.read (Elt Ideal) f8 (ix3 h a c) = ((s h.val a.val c.val : ℝ) : EReal)) :
    Is2 (trip_k0_t1.sl.v66 (F := Ideal) arg8 f8) (s 0) := by
  intro a c
  unfold trip_k0_t1.sl.v66
  pointwise
  exact state_is arg8 f8 hs 0 _ 0 a c

/-- The state of head 1 a trip loads. -/
theorem v68_is (hs : ∀ (h : Fin 8) (a c : Fin 128), arg8.view.read (Elt Ideal) f8 (ix3 h a c) = ((s h.val a.val c.val : ℝ) : EReal)) :
    Is2 (trip_k0_t1.sl.v68 (F := Ideal) arg8 f8) (s 1) := by
  intro a c
  unfold trip_k0_t1.sl.v68
  pointwise
  exact state_is arg8 f8 hs 1 _ 0 a c

/-- The state of head 2 a trip loads. -/
theorem v70_is (hs : ∀ (h : Fin 8) (a c : Fin 128), arg8.view.read (Elt Ideal) f8 (ix3 h a c) = ((s h.val a.val c.val : ℝ) : EReal)) :
    Is2 (trip_k0_t1.sl.v70 (F := Ideal) arg8 f8) (s 2) := by
  intro a c
  unfold trip_k0_t1.sl.v70
  pointwise
  exact state_is arg8 f8 hs 2 _ 0 a c

/-- The state of head 3 a trip loads. -/
theorem v72_is (hs : ∀ (h : Fin 8) (a c : Fin 128), arg8.view.read (Elt Ideal) f8 (ix3 h a c) = ((s h.val a.val c.val : ℝ) : EReal)) :
    Is2 (trip_k0_t1.sl.v72 (F := Ideal) arg8 f8) (s 3) := by
  intro a c
  unfold trip_k0_t1.sl.v72
  pointwise
  exact state_is arg8 f8 hs 3 _ 0 a c

/-- The state of head 4 a trip loads. -/
theorem v74_is (hs : ∀ (h : Fin 8) (a c : Fin 128), arg8.view.read (Elt Ideal) f8 (ix3 h a c) = ((s h.val a.val c.val : ℝ) : EReal)) :
    Is2 (trip_k0_t1.sl.v74 (F := Ideal) arg8 f8) (s 4) := by
  intro a c
  unfold trip_k0_t1.sl.v74
  pointwise
  exact state_is arg8 f8 hs 4 _ 0 a c

/-- The state of head 5 a trip loads. -/
theorem v76_is (hs : ∀ (h : Fin 8) (a c : Fin 128), arg8.view.read (Elt Ideal) f8 (ix3 h a c) = ((s h.val a.val c.val : ℝ) : EReal)) :
    Is2 (trip_k0_t1.sl.v76 (F := Ideal) arg8 f8) (s 5) := by
  intro a c
  unfold trip_k0_t1.sl.v76
  pointwise
  exact state_is arg8 f8 hs 5 _ 0 a c

/-- The state of head 6 a trip loads. -/
theorem v78_is (hs : ∀ (h : Fin 8) (a c : Fin 128), arg8.view.read (Elt Ideal) f8 (ix3 h a c) = ((s h.val a.val c.val : ℝ) : EReal)) :
    Is2 (trip_k0_t1.sl.v78 (F := Ideal) arg8 f8) (s 6) := by
  intro a c
  unfold trip_k0_t1.sl.v78
  pointwise
  exact state_is arg8 f8 hs 6 _ 0 a c

/-- The state of head 7 a trip loads. -/
theorem v80_is (hs : ∀ (h : Fin 8) (a c : Fin 128), arg8.view.read (Elt Ideal) f8 (ix3 h a c) = ((s h.val a.val c.val : ℝ) : EReal)) :
    Is2 (trip_k0_t1.sl.v80 (F := Ideal) arg8 f8) (s 7) := by
  intro a c
  unfold trip_k0_t1.sl.v80
  pointwise
  exact state_is arg8 f8 hs 7 _ 0 a c

/-- The outputs of a chunk's rows, from the state `s` before it. -/
def outF (w : ℝ) (b P2 P3 P4 : ℕ → ℕ → ℝ) (s : ℕ → ℕ → ℕ → ℝ) (k r l : ℕ) : ℝ :=
  outc (raw w b P2 P3 k (l / 128)) (vc P4 k) (qe b P2 P3 k) (s (l / 128)) (128 * (l / 128)) r (l % 128)

/-- The state after a chunk. -/
def nextS (b P3 P4 : ℕ → ℕ → ℝ) (s : ℕ → ℕ → ℕ → ℝ) (k h a c : ℕ) : ℝ := stc (s h) (vc P4 k) (kd b P3 k) (dc b P3 k) (128 * h) a c

/-- The first result's block, from the states before its chunks. -/
def gO (w : ℝ) (b P2 P3 P4 : ℕ → ℕ → ℝ) (SS : ℕ → ℕ → ℕ → ℕ → ℝ) (y : S512x1024.Idx) : EReal :=
  ((outF w b P2 P3 P4 (SS ((y 0).val / 64)) ((y 0).val / 64) ((y 0).val % 64) (y 1).val : ℝ) : EReal)

/-- The second result's block. -/
def gS (SS : ℕ → ℕ → ℕ → ℕ → ℝ) (y : S8x8x128x128.Idx) : EReal := ((SS (y 1).val (y 0).val (y 2).val (y 3).val : ℝ) : EReal)

/-- The state's buffer after a chunk. -/
def gN (b P3 P4 : ℕ → ℕ → ℝ) (s : ℕ → ℕ → ℕ → ℝ) (k : ℕ) (y : S8x128x128.Idx) : EReal := ((nextS b P3 P4 s k (y 0).val (y 1).val (y 2).val : ℝ) : EReal)

/-- The output rows a trip stores. -/
theorem out_is (hw : Ideal.ofBits .f32 0xF149F2CA#32 = (w : EReal)) (hb : Is2 (k0_pay2 (F := Ideal) v3 v4) b) (hp : ∀ l, 0 < b 0 l ∧ b 0 l < 1) (h2 : Is2 (arg2.view.read (Elt Ideal) X2) P2) (h3 : Is2 (arg3.view.read (Elt Ideal) X3) P3) (h4 : Is2 (arg4.view.read (Elt Ideal) X4) P4) (hs : ∀ (h : Fin 8) (a c : Fin 128), arg8.view.read (Elt Ideal) f8 (ix3 h a c) = ((s h.val a.val c.val : ℝ) : EReal)) :
    Is2 (k0_pay66 (F := Ideal) k0_pay3 (trip_k0_t1.sl.v76 arg8 f8) (trip_k0_t1.sl.v78 arg8 f8) (trip_k0_t1.sl.v80 arg8 f8)
      (trip_k0_t1.sl.r_5 arg4 X4 k) (trip_k0_t1.sl.r_14 arg2 arg3 v3 v4 X2 X3 k)
      (trip_k0_t1.sl.r_15 arg2 arg3 arg4 arg8 arg9 arg10 v3 v4 rows X2 X3 X4 k f8)
      (trip_k0_t1.sl.r_19 arg2 arg3 arg4 arg8 arg9 arg10 v3 v4 rows X2 X3 X4 k f8)
      (trip_k0_t1.sl.r_20 arg2 arg3 arg4 arg8 arg9 arg10 v3 v4 rows X2 X3 X4 k f8)
      (trip_k0_t1.sl.r_21 arg2 arg3 arg4 arg8 arg9 arg10 v3 v4 rows X2 X3 X4 k f8)
      (trip_k0_t1.sl.r_22 arg2 arg3 arg4 arg8 arg9 arg10 v3 v4 rows X2 X3 X4 k f8)
      (trip_k0_t1.sl.r_23 arg2 arg3 arg9 arg10 v3 v4 rows X2 X3 k) k0_pay65
      (trip_k0_t1.sl.v313 arg2 arg3 arg9 arg10 v3 v4 rows X2 X3 k) (trip_k0_t1.sl.v324 arg2 arg3 arg9 arg10 v3 v4 rows X2 X3 k))
      (outF w b P2 P3 P4 s k.val) := by
  have k5 := r_is arg4 X4 k h4
  have k14 := r_14_is arg2 arg3 v3 v4 X2 X3 k hb hp h2 h3
  exact pay66_is (a := raw w b P2 P3 k.val) k5 k14
    (pay56_is k5 k14 (v66_is arg8 f8 hs) (fun z r t => scores_is arg2 arg3 arg9 arg10 v3 v4 X2 X3 k hw hb hp h2 h3 0 inb_S8x64x64_S1x64x64_0_0_0 z r t))
    (pay60_is k5 k14 (v68_is arg8 f8 hs) (fun z r t => scores_is arg2 arg3 arg9 arg10 v3 v4 X2 X3 k hw hb hp h2 h3 1 inb_S8x64x64_S1x64x64_1_0_0 z r t))
    (pay61_is k5 k14 (v70_is arg8 f8 hs) (fun z r t => scores_is arg2 arg3 arg9 arg10 v3 v4 X2 X3 k hw hb hp h2 h3 2 inb_S8x64x64_S1x64x64_2_0_0 z r t))
    (pay62_is k5 k14 (v72_is arg8 f8 hs) (fun z r t => scores_is arg2 arg3 arg9 arg10 v3 v4 X2 X3 k hw hb hp h2 h3 3 inb_S8x64x64_S1x64x64_3_0_0 z r t))
    (pay63_is k5 k14 (v74_is arg8 f8 hs) (fun z r t => scores_is arg2 arg3 arg9 arg10 v3 v4 X2 X3 k hw hb hp h2 h3 4 inb_S8x64x64_S1x64x64_4_0_0 z r t))
    (v76_is arg8 f8 hs) (v78_is arg8 f8 hs) (v80_is arg8 f8 hs)
    (fun z r t => scores_is arg2 arg3 arg9 arg10 v3 v4 X2 X3 k hw hb hp h2 h3 5 inb_S8x64x64_S1x64x64_5_0_0 z r t)
    (fun z r t => scores_is arg2 arg3 arg9 arg10 v3 v4 X2 X3 k hw hb hp h2 h3 6 inb_S8x64x64_S1x64x64_6_0_0 z r t)
    (fun z r t => scores_is arg2 arg3 arg9 arg10 v3 v4 X2 X3 k hw hb hp h2 h3 7 inb_S8x64x64_S1x64x64_7_0_0 z r t)

/-- A chunk's outputs are its rows of the block. -/
theorem piece_o {SS : ℕ → ℕ → ℕ → ℕ → ℝ} (inb : ∀ a, (k0_off1 k) a + S64x1024.size a ≤ S512x1024.size a)
    (Z : (Rect.unit (s := S512x1024) (k0_off1 k) S64x1024.size inb).shape.Idx → EReal)
    (hZ : ∀ (r : Fin 64) (l : Fin 1024), Z (ix2 r l) = ((outF w b P2 P3 P4 (SS k.val) k.val r.val l.val : ℝ) : EReal)) :
    ∀ x, Z x = gO w b P2 P3 P4 SS ((Rect.unit (s := S512x1024) (k0_off1 k) S64x1024.size inb).emb x) := by
  intro x
  have hx0 : (x 0).val < 64 := (x 0).isLt
  refine (congrArg Z (eq_ix2 x)).trans ((hZ (x 0) (x 1)).trans ?_)
  have e0 : k0_off1 k 0 = 64 * k.val := congrFun (off1_eq k) 0
  have e1 : k0_off1 k 1 = 0 := congrFun (off1_eq k) 1
  have a0 : ((Rect.unit (s := S512x1024) (k0_off1 k) S64x1024.size inb).emb x 0).val = 64 * k.val + (x 0).val := by
    show k0_off1 k 0 + 1 * (x 0).val = _
    omega
  have a1 : ((Rect.unit (s := S512x1024) (k0_off1 k) S64x1024.size inb).emb x 1).val = (x 1).val := by
    show k0_off1 k 1 + 1 * (x 1).val = _
    omega
  rw [gO, a0, a1, show (64 * k.val + (x 0).val) / 64 = k.val by omega, show (64 * k.val + (x 0).val) % 64 = (x 0).val by omega]

/-- What a trip writes of the first result is its chunk's rows of the block. -/
theorem trip_o (c : Dev nD) (i : grid0.Coords)
    (harg2 : arg2.IsWhole) (harg3 : arg3.IsWhole) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (harg8 : arg8.IsWhole) (harg9 : arg9.IsWhole) (harg10 : arg10.IsWhole)
    (f6 : BufTy.Contents (Elt Ideal) arg6.view.ty) (f7 : BufTy.Contents (Elt Ideal) arg7.view.ty)
    (f9 : BufTy.Contents (Elt Ideal) arg9.view.ty) (f10 : BufTy.Contents (Elt Ideal) arg10.view.ty)
    {SS : ℕ → ℕ → ℕ → ℕ → ℝ} (hw : Ideal.ofBits .f32 0xF149F2CA#32 = (w : EReal)) (hb : Is2 (k0_pay2 (F := Ideal) v3 v4) b) (hp : ∀ l, 0 < b 0 l ∧ b 0 l < 1) (h2 : Is2 (arg2.view.read (Elt Ideal) X2) P2) (h3 : Is2 (arg3.view.read (Elt Ideal) X3) P3) (h4 : Is2 (arg4.view.read (Elt Ideal) X4) P4) (hs : ∀ (h : Fin 8) (a c : Fin 128), arg8.view.read (Elt Ideal) f8 (ix3 h a c) = ((SS k.val h.val a.val c.val : ℝ) : EReal)) :
    View.PiecesOf (Val := Elt Ideal) (e := .bf16) (gO w b P2 P3 P4 SS) (tripL_k0_t1 (F := Ideal) Variants.none c none i arg2 harg2 arg3 harg3 arg4 harg4 arg5 harg5 arg6 harg6 arg7 harg7 arg8 harg8 arg9 harg9 arg10 harg10 v3 v4 rows X2 X3 X4 k f6 f7 f8 f9 f10).1 := by
  unfold tripL_k0_t1 trip_k0_t1
  dsimp only
  exact ⟨piece_o k (k0_off1_inb k) _ (out_is arg2 arg3 arg4 arg8 arg9 arg10 v3 v4 X2 X3 X4 f8 k hw hb hp h2 h3 h4 hs), trivial⟩

/-- Where head 0's state is stored at a trip. -/
theorem off2_eq : ∀ k : Fin k0_t1_loop.trips, k0_off2 k = ![0, k.val, 0, 0] := by decide +kernel

/-- Where head 1's state is stored at a trip. -/
theorem off3_eq : ∀ k : Fin k0_t1_loop.trips, k0_off3 k = ![1, k.val, 0, 0] := by decide +kernel

/-- Where head 2's state is stored at a trip. -/
theorem off4_eq : ∀ k : Fin k0_t1_loop.trips, k0_off4 k = ![2, k.val, 0, 0] := by decide +kernel

/-- Where head 3's state is stored at a trip. -/
theorem off5_eq : ∀ k : Fin k0_t1_loop.trips, k0_off5 k = ![3, k.val, 0, 0] := by decide +kernel

/-- Where head 4's state is stored at a trip. -/
theorem off6_eq : ∀ k : Fin k0_t1_loop.trips, k0_off6 k = ![4, k.val, 0, 0] := by decide +kernel

/-- Where head 5's state is stored at a trip. -/
theorem off7_eq : ∀ k : Fin k0_t1_loop.trips, k0_off7 k = ![5, k.val, 0, 0] := by decide +kernel

/-- Where head 6's state is stored at a trip. -/
theorem off8_eq : ∀ k : Fin k0_t1_loop.trips, k0_off8 k = ![6, k.val, 0, 0] := by decide +kernel

/-- Where head 7's state is stored at a trip. -/
theorem off9_eq : ∀ k : Fin k0_t1_loop.trips, k0_off9 k = ![7, k.val, 0, 0] := by decide +kernel

/-- A head's state before a chunk is its block of the second result. -/
theorem piece_s {SS : ℕ → ℕ → ℕ → ℕ → ℝ} (k h : ℕ) (off : Fin 4 → ℕ) (ho : off = ![h, k, 0, 0]) (inb : ∀ a, off a + S1x1x128x128.size a ≤ S8x8x128x128.size a)
    (Z : (Rect.unit (s := S8x8x128x128) off S1x1x128x128.size inb).shape.Idx → EReal)
    (hZ : ∀ (z y : Fin 1) (a c : Fin 128), Z (ix4 z y a c) = ((SS k h a.val c.val : ℝ) : EReal)) :
    ∀ x, Z x = gS SS ((Rect.unit (s := S8x8x128x128) off S1x1x128x128.size inb).emb x) := by
  subst ho
  intro x
  have hx0 : (x 0).val < 1 := (x 0).isLt
  have hx1 : (x 1).val < 1 := (x 1).isLt
  refine (congrArg Z (eq_ix4 x)).trans ((hZ (x 0) (x 1) (x 2) (x 3)).trans ?_)
  have e0 : ((Rect.unit (s := S8x8x128x128) ![h, k, 0, 0] S1x1x128x128.size inb).emb x 0).val = h := by
    show h + 1 * (x 0).val = h
    omega
  have e1 : ((Rect.unit (s := S8x8x128x128) ![h, k, 0, 0] S1x1x128x128.size inb).emb x 1).val = k := by
    show k + 1 * (x 1).val = k
    omega
  have e2 : ((Rect.unit (s := S8x8x128x128) ![h, k, 0, 0] S1x1x128x128.size inb).emb x 2).val = (x 2).val := by
    show 0 + 1 * (x 2).val = (x 2).val
    omega
  have e3 : ((Rect.unit (s := S8x8x128x128) ![h, k, 0, 0] S1x1x128x128.size inb).emb x 3).val = (x 3).val := by
    show 0 + 1 * (x 3).val = (x 3).val
    omega
  rw [gS, e0, e1, e2, e3]

/-- The state of head 0 a trip stores. -/
theorem sp0_is (hs : ∀ (h : Fin 8) (a c : Fin 128), arg8.view.read (Elt Ideal) f8 (ix3 h a c) = ((s h.val a.val c.val : ℝ) : EReal)) (z y : Fin 1) (a c : Fin 128) : trip_k0_t1.sl.v84 (F := Ideal) arg8 f8 (ix4 z y a c) = ((s 0 a.val c.val : ℝ) : EReal) := by
  unfold trip_k0_t1.sl.v84
  pointwise [k0_pay20, k0_pay12]
  exact v66_is arg8 f8 hs a c

/-- The state of head 1 a trip stores. -/
theorem sp1_is (hs : ∀ (h : Fin 8) (a c : Fin 128), arg8.view.read (Elt Ideal) f8 (ix3 h a c) = ((s h.val a.val c.val : ℝ) : EReal)) (z y : Fin 1) (a c : Fin 128) : trip_k0_t1.sl.v88 (F := Ideal) arg8 f8 (ix4 z y a c) = ((s 1 a.val c.val : ℝ) : EReal) := by
  unfold trip_k0_t1.sl.v88
  pointwise [k0_pay21, k0_pay13]
  exact v68_is arg8 f8 hs a c

/-- The state of head 2 a trip stores. -/
theorem sp2_is (hs : ∀ (h : Fin 8) (a c : Fin 128), arg8.view.read (Elt Ideal) f8 (ix3 h a c) = ((s h.val a.val c.val : ℝ) : EReal)) (z y : Fin 1) (a c : Fin 128) : k0_pay22 (F := Ideal) (trip_k0_t1.sl.v70 arg8 f8) (ix4 z y a c) = ((s 2 a.val c.val : ℝ) : EReal) := by
  pointwise [k0_pay22]
  exact v70_is arg8 f8 hs a c

/-- The state of head 3 a trip stores. -/
theorem sp3_is (hs : ∀ (h : Fin 8) (a c : Fin 128), arg8.view.read (Elt Ideal) f8 (ix3 h a c) = ((s h.val a.val c.val : ℝ) : EReal)) (z y : Fin 1) (a c : Fin 128) : k0_pay23 (F := Ideal) (trip_k0_t1.sl.v72 arg8 f8) (ix4 z y a c) = ((s 3 a.val c.val : ℝ) : EReal) := by
  pointwise [k0_pay23]
  exact v72_is arg8 f8 hs a c

/-- The state of head 4 a trip stores. -/
theorem sp4_is (hs : ∀ (h : Fin 8) (a c : Fin 128), arg8.view.read (Elt Ideal) f8 (ix3 h a c) = ((s h.val a.val c.val : ℝ) : EReal)) (z y : Fin 1) (a c : Fin 128) : k0_pay24 (F := Ideal) (trip_k0_t1.sl.v74 arg8 f8) (ix4 z y a c) = ((s 4 a.val c.val : ℝ) : EReal) := by
  pointwise [k0_pay24]
  exact v74_is arg8 f8 hs a c

/-- The state of head 5 a trip stores. -/
theorem sp5_is (hs : ∀ (h : Fin 8) (a c : Fin 128), arg8.view.read (Elt Ideal) f8 (ix3 h a c) = ((s h.val a.val c.val : ℝ) : EReal)) (z y : Fin 1) (a c : Fin 128) : k0_pay25 (F := Ideal) (trip_k0_t1.sl.v76 arg8 f8) (ix4 z y a c) = ((s 5 a.val c.val : ℝ) : EReal) := by
  pointwise [k0_pay25]
  exact v76_is arg8 f8 hs a c

/-- The state of head 6 a trip stores. -/
theorem sp6_is (hs : ∀ (h : Fin 8) (a c : Fin 128), arg8.view.read (Elt Ideal) f8 (ix3 h a c) = ((s h.val a.val c.val : ℝ) : EReal)) (z y : Fin 1) (a c : Fin 128) : k0_pay26 (F := Ideal) (trip_k0_t1.sl.v78 arg8 f8) (ix4 z y a c) = ((s 6 a.val c.val : ℝ) : EReal) := by
  pointwise [k0_pay26]
  exact v78_is arg8 f8 hs a c

/-- The state of head 7 a trip stores. -/
theorem sp7_is (hs : ∀ (h : Fin 8) (a c : Fin 128), arg8.view.read (Elt Ideal) f8 (ix3 h a c) = ((s h.val a.val c.val : ℝ) : EReal)) (z y : Fin 1) (a c : Fin 128) : k0_pay27 (F := Ideal) (trip_k0_t1.sl.v80 arg8 f8) (ix4 z y a c) = ((s 7 a.val c.val : ℝ) : EReal) := by
  pointwise [k0_pay27]
  exact v80_is arg8 f8 hs a c

/-- What a trip writes of the second result is the state before its chunk. -/
theorem trip_s (c : Dev nD) (i : grid0.Coords)
    (harg2 : arg2.IsWhole) (harg3 : arg3.IsWhole) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (harg8 : arg8.IsWhole) (harg9 : arg9.IsWhole) (harg10 : arg10.IsWhole)
    (f6 : BufTy.Contents (Elt Ideal) arg6.view.ty) (f7 : BufTy.Contents (Elt Ideal) arg7.view.ty)
    (f9 : BufTy.Contents (Elt Ideal) arg9.view.ty) (f10 : BufTy.Contents (Elt Ideal) arg10.view.ty)
    {SS : ℕ → ℕ → ℕ → ℕ → ℝ} (hs : ∀ (h : Fin 8) (a c : Fin 128), arg8.view.read (Elt Ideal) f8 (ix3 h a c) = ((SS k.val h.val a.val c.val : ℝ) : EReal)) :
    View.PiecesOf (Val := Elt Ideal) (e := .f32) (gS SS) (tripL_k0_t1 (F := Ideal) Variants.none c none i arg2 harg2 arg3 harg3 arg4 harg4 arg5 harg5 arg6 harg6 arg7 harg7 arg8 harg8 arg9 harg9 arg10 harg10 v3 v4 rows X2 X3 X4 k f6 f7 f8 f9 f10).2.1 := by
  unfold tripL_k0_t1 trip_k0_t1
  dsimp only
  exact ⟨piece_s k.val 7 _ (off9_eq k) (k0_off9_inb k) _ (fun z y a c => sp7_is arg8 f8 hs z y a c),
    piece_s k.val 6 _ (off8_eq k) (k0_off8_inb k) _ (fun z y a c => sp6_is arg8 f8 hs z y a c),
    piece_s k.val 5 _ (off7_eq k) (k0_off7_inb k) _ (fun z y a c => sp5_is arg8 f8 hs z y a c),
    piece_s k.val 4 _ (off6_eq k) (k0_off6_inb k) _ (fun z y a c => sp4_is arg8 f8 hs z y a c),
    piece_s k.val 3 _ (off5_eq k) (k0_off5_inb k) _ (fun z y a c => sp3_is arg8 f8 hs z y a c),
    piece_s k.val 2 _ (off4_eq k) (k0_off4_inb k) _ (fun z y a c => sp2_is arg8 f8 hs z y a c),
    piece_s k.val 1 _ (off3_eq k) (k0_off3_inb k) _ (fun z y a c => sp1_is arg8 f8 hs z y a c),
    piece_s k.val 0 _ (off2_eq k) (k0_off2_inb k) _ (fun z y a c => sp0_is arg8 f8 hs z y a c), trivial⟩

/-- A head's next state is its block of the buffer. -/
theorem piece_st (k h : ℕ) (inb : ∀ a, (![h, 0, 0] : Fin 3 → ℕ) a + S1x128x128.size a ≤ S8x128x128.size a)
    (Z : (Rect.unit (s := S8x128x128) ![h, 0, 0] S1x128x128.size inb).shape.Idx → EReal)
    (hZ : ∀ (z : Fin 1) (a c : Fin 128), Z (ix3 z a c) = ((stc (s h) (vc P4 k) (kd b P3 k) (dc b P3 k) (128 * h) a.val c.val : ℝ) : EReal)) :
    ∀ x, Z x = gN b P3 P4 s k ((Rect.unit (s := S8x128x128) ![h, 0, 0] S1x128x128.size inb).emb x) := by
  intro x
  have hx0 : (x 0).val < 1 := (x 0).isLt
  refine (congrArg Z (eq_ix3 x)).trans ((hZ (x 0) (x 1) (x 2)).trans ?_)
  have e0 : ((Rect.unit (s := S8x128x128) ![h, 0, 0] S1x128x128.size inb).emb x 0).val = h := by
    show h + 1 * (x 0).val = h
    omega
  have e1 : ((Rect.unit (s := S8x128x128) ![h, 0, 0] S1x128x128.size inb).emb x 1).val = (x 1).val := by
    show 0 + 1 * (x 1).val = (x 1).val
    omega
  have e2 : ((Rect.unit (s := S8x128x128) ![h, 0, 0] S1x128x128.size inb).emb x 2).val = (x 2).val := by
    show 0 + 1 * (x 2).val = (x 2).val
    omega
  rw [gN, e0, e1, e2, nextS]

/-- What a trip writes of the state's buffer is the state after its chunk. -/
theorem trip_n (c : Dev nD) (i : grid0.Coords)
    (harg2 : arg2.IsWhole) (harg3 : arg3.IsWhole) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (harg8 : arg8.IsWhole) (harg9 : arg9.IsWhole) (harg10 : arg10.IsWhole)
    (f6 : BufTy.Contents (Elt Ideal) arg6.view.ty) (f7 : BufTy.Contents (Elt Ideal) arg7.view.ty)
    (f9 : BufTy.Contents (Elt Ideal) arg9.view.ty) (f10 : BufTy.Contents (Elt Ideal) arg10.view.ty)
    (hb : Is2 (k0_pay2 (F := Ideal) v3 v4) b) (hp : ∀ l, 0 < b 0 l ∧ b 0 l < 1) (h3 : Is2 (arg3.view.read (Elt Ideal) X3) P3) (h4 : Is2 (arg4.view.read (Elt Ideal) X4) P4) (hs : ∀ (h : Fin 8) (a c : Fin 128), arg8.view.read (Elt Ideal) f8 (ix3 h a c) = ((s h.val a.val c.val : ℝ) : EReal)) :
    View.PiecesOf (Val := Elt Ideal) (e := .f32) (gN b P3 P4 s k.val) (tripL_k0_t1 (F := Ideal) Variants.none c none i arg2 harg2 arg3 harg3 arg4 harg4 arg5 harg5 arg6 harg6 arg7 harg7 arg8 harg8 arg9 harg9 arg10 harg10 v3 v4 rows X2 X3 X4 k f6 f7 f8 f9 f10).2.2.1 := by
  have k5 := r_is arg4 X4 k h4
  have k24 := r_24_is arg3 arg9 v3 v4 X3 k hb hp h3
  have k25 := r_25_is arg3 arg9 v3 v4 X3 k hb hp h3
  unfold tripL_k0_t1 trip_k0_t1
  dsimp only
  exact ⟨piece_st k.val 7 inb_S8x128x128_S1x128x128_7_0_0 _ (fun z a c => pay5_is k5 k24 k25 (v80_is arg8 f8 hs) z a c),
    piece_st k.val 6 inb_S8x128x128_S1x128x128_6_0_0 _ (fun z a c => pay77_is k5 k24 k25 (v78_is arg8 f8 hs) z a c),
    piece_st k.val 5 inb_S8x128x128_S1x128x128_5_0_0 _ (fun z a c => pay76_is k5 k24 k25 (v76_is arg8 f8 hs) z a c),
    piece_st k.val 4 inb_S8x128x128_S1x128x128_4_0_0 _ (fun z a c => pay75_is k5 k24 k25 (v74_is arg8 f8 hs) z a c),
    piece_st k.val 3 inb_S8x128x128_S1x128x128_3_0_0 _ (fun z a c => pay73_is k5 k24 k25 (v72_is arg8 f8 hs) z a c),
    piece_st k.val 2 inb_S8x128x128_S1x128x128_2_0_0 _ (fun z a c => pay72_is k5 k24 k25 (v70_is arg8 f8 hs) z a c),
    piece_st k.val 1 inb_S8x128x128_S1x128x128_1_0_0 _ (fun z a c => pay71_is k5 k24 k25 (v68_is arg8 f8 hs) z a c),
    piece_st k.val 0 inb_S8x128x128_S1x128x128_0_0_0 _ (fun z a c => pay70_is k5 k24 k25 (v66_is arg8 f8 hs) z a c), trivial⟩

/-- So the buffer holds it then. -/
theorem trip_next (c : Dev nD) (i : grid0.Coords)
    (harg2 : arg2.IsWhole) (harg3 : arg3.IsWhole) (harg4 : arg4.IsWhole)
    (arg5 : Memref sig .tc .vmem S2x1024 .f32) (harg5 : arg5.IsWhole)
    (arg6 : Memref sig .tc .vmem S512x1024 .bf16) (harg6 : arg6.IsWhole)
    (arg7 : Memref sig .tc .vmem S8x8x128x128 .f32) (harg7 : arg7.IsWhole)
    (harg8 : arg8.IsWhole) (harg9 : arg9.IsWhole) (harg10 : arg10.IsWhole)
    (f6 : BufTy.Contents (Elt Ideal) arg6.view.ty) (f7 : BufTy.Contents (Elt Ideal) arg7.view.ty)
    (f9 : BufTy.Contents (Elt Ideal) arg9.view.ty) (f10 : BufTy.Contents (Elt Ideal) arg10.view.ty)
    (hb : Is2 (k0_pay2 (F := Ideal) v3 v4) b) (hp : ∀ l, 0 < b 0 l ∧ b 0 l < 1) (h3 : Is2 (arg3.view.read (Elt Ideal) X3) P3) (h4 : Is2 (arg4.view.read (Elt Ideal) X4) P4) (hs : ∀ (h : Fin 8) (a c : Fin 128), arg8.view.read (Elt Ideal) f8 (ix3 h a c) = ((s h.val a.val c.val : ℝ) : EReal))
    (h : Fin 8) (a d : Fin 128) :
    arg8.view.read (Elt Ideal) (arg8.view.writes (Elt Ideal) f8 (tripL_k0_t1 (F := Ideal) Variants.none c none i arg2 harg2 arg3 harg3 arg4 harg4 arg5 harg5 arg6 harg6 arg7 harg7 arg8 harg8 arg9 harg9 arg10 harg10 v3 v4 rows X2 X3 X4 k f6 f7 f8 f9 f10).2.2.1) (ix3 h a d) = ((nextS b P3 P4 s k.val h.val a.val d.val : ℝ) : EReal) := by
  refine View.read_writes_apply_of_pieces (Val := Elt Ideal) arg8.view f8 (gN b P3 P4 s k.val) _
    (trip_n arg2 arg3 arg4 arg8 arg9 arg10 v3 v4 X2 X3 X4 f8 k c i harg2 harg3 harg4 arg5 harg5 arg6 harg6 arg7 harg7 harg8 harg9 harg10 f6 f7 f9 f10 hb hp h3 h4 hs).mem _ ?_
  refine View.cover_of_tiledL (tripL_k0_t1 (F := Ideal) Variants.none c none i arg2 harg2 arg3 harg3 arg4 harg4 arg5 harg5 arg6 harg6 arg7 harg7 arg8 harg8 arg9 harg9 arg10 harg10 v3 v4 rows X2 X3 X4 k f6 f7 f8 f9 f10).2.2.1 S1x128x128.size ?_ _
  unfold tripL_k0_t1 trip_k0_t1
  dsimp only
  sl_kernel_rfl

end Cert.HgrnValue

end
-- ==== Proof.HgRefA.lean ====
module

public import proofs.«01_k».proof.Proof.Gen.Reference9Ideal.Run
public import proofs.«01_k».proof.Proof.HgrnC
public import proofs.«01_k».proof.Proof.PoolMath
public import proofs.«01_k».proof.Proof.NormMath
public import proofs.«01_k».proof.Proof.PleEq

/-! What the reference of the gated recurrence carries into its loop over the chunks. -/

@[expose] public section

set_option maxRecDepth 16384

noncomputable section

open Idealize.ShloMosaic Idealize.ShloMosaic.TcCoe Idealize.ShloMosaic.Tactic Idealize.SL.Sem

namespace Cert.HgrnRef

open Cert.Reference9Ideal Cert.Reference9Ideal.Gen Cert.HgrnValue

/-- The exponentials of the two rows of lower bounds, less their maximum. -/
def smE (a1 : FVec Ideal S2x1024 .f32) : FVec Ideal S2x1024 .f32 :=
  Host.exp (subf a1 (broadcastInDim S2x1024 ![0, 1] bcast_S1x1024_S2x1024_0_1 (broadcastInDim S1x1024 ![1] bcast_S1024_S1x1024_1
    (maximumf (broadcastInDim S1024 ![] bcast_S_S1024 (constant S_ .f32 0xFF800000#32))
      (Host.reduce FloatOps.maximumf a1 (constant S_ .f32 0xFF800000#32) reducesTo_S2x1024_S1024_d0 h_S_)))))

/-- Their softmax over the two rows. -/
def smV (a1 : FVec Ideal S2x1024 .f32) : FVec Ideal S2x1024 .f32 :=
  Host.divf (smE a1) (broadcastInDim S2x1024 ![0, 1] bcast_S1x1024_S2x1024_0_1 (broadcastInDim S1x1024 ![1] bcast_S1024_S1x1024_1
    (Host.reduceAdd (smE a1) (constant S_ .f32 0x00000000#32) reducesTo_S2x1024_S1024_d0 h_S_)))

/-- The first row of its running sum: the lower bound on the decay. -/
def lbV (a1 : FVec Ideal S2x1024 .f32) : FVec Ideal S1024 .f32 :=
  shapeCast S1024 (extractStridedSlice S1x1024 ![0, 0] (Host.reduceWindowAdd ![2, 1] ![1, 1] ![1, 0] ![0, 0] (smV a1)
    (broadcastInDim S_ ![] bcast_S_S_ (constant S_ .f32 0x00000000#32)) reduceWindows_S2x1024_S2x1024_w2s1p1_0_w1s1p0_0 h_S_)
    slices_S2x1024_S1x1024_0_0) shapeCasts_S1x1024_S1024

/-- The columns the queries are made of. -/
def colQ (a0 : FVec Ideal S8192x6656 .bf16) : FVec Ideal S8192x1024 .f32 :=
  extf .f32 (extractStridedSlice S8192x1024 ![0, 0] a0 slices_S8192x6656_S8192x1024_0_0) bitsLt_bf16_f32

/-- The columns the decays are made of. -/
def colG (a0 : FVec Ideal S8192x6656 .bf16) : FVec Ideal S8192x1024 .f32 :=
  extf .f32 (extractStridedSlice S8192x1024 ![0, 1024] a0 slices_S8192x6656_S8192x1024_0_1024) bitsLt_bf16_f32

/-- The columns of the values. -/
def colV (a0 : FVec Ideal S8192x6656 .bf16) : FVec Ideal S8192x1024 .f32 :=
  extf .f32 (extractStridedSlice S8192x1024 ![0, 2048] a0 slices_S8192x6656_S8192x1024_0_2048) bitsLt_bf16_f32

/-- All ones. -/
def ones : FVec Ideal S8192x1024 .f32 := broadcastInDim S8192x1024 ![] bcast_S_S8192x1024 (constant S_ .f32 0x3F800000#32)

/-- The logistic function, as the host computes it. -/
def sigV (x : FVec Ideal S8192x1024 .f32) : FVec Ideal S8192x1024 .f32 := Host.divf ones (addf ones (Host.exp (Host.negf x)))

/-- A row of 1024 on every row. -/
def rowsV (x : FVec Ideal S1024 .f32) : FVec Ideal S8192x1024 .f32 :=
  broadcastInDim S8192x1024 ![0, 1] bcast_S1x1024_S8192x1024_0_1 (broadcastInDim S1x1024 ![1] bcast_S1024_S1x1024_1 x)

/-- The decays. -/
def fV (a0 : FVec Ideal S8192x6656 .bf16) (a1 : FVec Ideal S2x1024 .f32) : FVec Ideal S8192x1024 .f32 :=
  addf (rowsV (lbV a1)) (mulf (rowsV (subf (broadcastInDim S1024 ![] bcast_S_S1024 (constant S_ .f32 0x3F800000#32)) (lbV a1))) (sigV (colG a0)))

/-- Rows cut in chunks and columns in heads. -/
def lay (x : FVec Ideal S8192x1024 .f32) : FVec Ideal S128x1x8x64x128 .f32 :=
  transpose S128x1x8x64x128 [1, 0, 3, 2, 4] (shapeCast S1x128x64x8x128 (shapeCast S1x8192x8x128 x shapeCasts_S8192x1024_S1x8192x8x128)
    shapeCasts_S1x8192x8x128_S1x128x64x8x128) transposes_S1x128x64x8x128_S128x1x8x64x128_1_0_3_2_4

/-- The causal mask. -/
def tri : S64x64x1.Idx → BitVec 1 :=
  broadcastInDim S64x64x1 ![0, 1] bcast_S64x64_S64x64x1_0_1 (select (cmpi .sge (addi (iotaInDim S64x64 32 0)
    (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)))

/-- The queries' inputs through their gate. -/
def qV (a0 : FVec Ideal S8192x6656 .bf16) : FVec Ideal S8192x1024 .f32 := mulf (colQ a0) (sigV (colQ a0))

section Entry

open Cert.Reference9Ideal.Value

variable (m : (ℓ : Loc nD τ sig) → Buf (Elt Ideal) ℓ)

/-- The queries at the loop's entry. -/
theorem entry0 (c : Dev nD) : StableHlo.entryContents (preI (F := Ideal)) m c (Proc.devRef .tc main_v56_0) = lay (qV (m (c.tc.loc main_arg0))) := by
  simp only [StableHlo.entryContents, StableHlo.afterL_cons, StableHlo.afterL_nil]
  after_reads_simp
  rfl

/-- The keys. -/
theorem entry1 (c : Dev nD) : StableHlo.entryContents (preI (F := Ideal)) m c (Proc.devRef .tc main_v56_1)
    = lay (subf ones (fV (m (c.tc.loc main_arg0)) (m (c.tc.loc main_arg1)))) := by
  simp only [StableHlo.entryContents, StableHlo.afterL_cons, StableHlo.afterL_nil]
  after_reads_simp
  rfl

/-- The values. -/
theorem entry2 (c : Dev nD) : StableHlo.entryContents (preI (F := Ideal)) m c (Proc.devRef .tc main_v56_2) = lay (colV (m (c.tc.loc main_arg0))) := by
  simp only [StableHlo.entryContents, StableHlo.afterL_cons, StableHlo.afterL_nil]
  after_reads_simp
  rfl

/-- The log decays. -/
theorem entry3 (c : Dev nD) : StableHlo.entryContents (preI (F := Ideal)) m c (Proc.devRef .tc main_v56_3)
    = lay (Host.log (fV (m (c.tc.loc main_arg0)) (m (c.tc.loc main_arg1)))) := by
  simp only [StableHlo.entryContents, StableHlo.afterL_cons, StableHlo.afterL_nil]
  after_reads_simp
  rfl

/-- The mask. -/
theorem entry4 (c : Dev nD) : StableHlo.entryContents (preI (F := Ideal)) m c (Proc.devRef .tc main_v56_4) = tri := by
  simp only [StableHlo.entryContents, StableHlo.afterL_cons, StableHlo.afterL_nil]
  after_reads_simp
  rfl

/-- The state is zero. -/
theorem entry6 (c : Dev nD) : StableHlo.entryContents (preI (F := Ideal)) m c (Proc.devRef .tc main_v56_6)
    = broadcastInDim S1x8x128x128 ![] bcast_S_S1x8x128x128 (constant (F := Ideal) S_ .f32 0x00000000#32) := by
  simp only [StableHlo.entryContents, StableHlo.afterL_cons, StableHlo.afterL_nil]
  after_reads_simp
  rfl

end Entry

end Cert.HgrnRef
-- ==== Proof.HgrnD.lean ====
/-
# The gated recurrence's forward call: the eight trips, and the whole array
-/
module

public import proofs.«01_k».proof.Proof.HgrnC
public import proofs.«01_k».proof.Proof.HgrnA

@[expose] public section

set_option maxRecDepth 16384

noncomputable section

open Idealize.ShloMosaic Idealize.ShloMosaic.TcCoe Idealize.ShloMosaic.Tactic Idealize.SL.Sem

namespace Cert.HgrnValue

open Cert.Kernel9Ideal Cert.Kernel9Ideal.Gen

variable {P2 P3 P4 Q2 Q3 Q4 b : ℕ → ℕ → ℝ} {w : ℝ} {s : ℕ → ℕ → ℕ → ℝ}

/-- The state before each chunk, from the first. -/
def runS (b P3 P4 : ℕ → ℕ → ℝ) (s : ℕ → ℕ → ℕ → ℝ) : ℕ → ℕ → ℕ → ℕ → ℝ
  | 0 => s
  | k + 1 => nextS b P3 P4 (runS b P3 P4 s k) k

/-- The pieces are of `G`: each is what `G` holds where it lies. -/
abbrev AllOf {S : Shape} {e : EltTy} (G : S.Idx → Elt Ideal e) (L : List (View.Piece (Elt Ideal) S e)) : Prop :=
  ∀ p ∈ L, ∀ x : p.1.shape.Idx, p.2 x = G (p.1.emb x)

/-- Two lists of pieces of one array, joined. -/
theorem AllOf.append {S : Shape} {e : EltTy} {G : S.Idx → Elt Ideal e} {L L' : List (View.Piece (Elt Ideal) S e)} (h : AllOf G L) (h' : AllOf G L') : AllOf G (L ++ L') := fun p hp => by
  rcases List.mem_append.mp hp with hp | hp
  · exact h p hp
  · exact h' p hp

/-- After the trips before `k` the two results' pieces and the state's buffer are as computed. -/
theorem pb_is (c : Dev nD) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S2x1024 .f32) (harg5 : arg5.IsWhole)
    (arg6 : Memref sig .tc .vmem S512x1024 .bf16) (harg6 : arg6.IsWhole) (arg7 : Memref sig .tc .vmem S8x8x128x128 .f32) (harg7 : arg7.IsWhole)
    (arg8 : Memref sig .tc .vmem S8x128x128 .f32) (harg8 : arg8.IsWhole) (arg9 : Memref sig .tc .vmem S64x1024 .f32) (harg9 : arg9.IsWhole)
    (arg10 : Memref sig .tc .vmem S8x64x64 .f32) (harg10 : arg10.IsWhole)
    (v3 v4 : Vec Ideal S1x1024 .f32)
    (X2 : BufTy.Contents (Elt Ideal) arg2.view.ty) (X3 : BufTy.Contents (Elt Ideal) arg3.view.ty) (X4 : BufTy.Contents (Elt Ideal) arg4.view.ty)
    (f6 : BufTy.Contents (Elt Ideal) arg6.view.ty) (f7 : BufTy.Contents (Elt Ideal) arg7.view.ty) (f8 : BufTy.Contents (Elt Ideal) arg8.view.ty)
    (f9 : BufTy.Contents (Elt Ideal) arg9.view.ty) (f10 : BufTy.Contents (Elt Ideal) arg10.view.ty)
    (hw : Ideal.ofBits .f32 0xF149F2CA#32 = (w : EReal)) (hb : Is2 (k0_pay2 (F := Ideal) v3 v4) b) (hp : ∀ l, 0 < b 0 l ∧ b 0 l < 1)
    (h2 : Is2 (arg2.view.read (Elt Ideal) X2) P2) (h3 : Is2 (arg3.view.read (Elt Ideal) X3) P3) (h4 : Is2 (arg4.view.read (Elt Ideal) X4) P4)
    (hs : ∀ (h : Fin 8) (a c : Fin 128), arg8.view.read (Elt Ideal) f8 (ix3 h a c) = ((s h.val a.val c.val : ℝ) : EReal)) (k : ℕ) (hk : k ≤ k0_t1_loop.trips) :
    AllOf (e := .bf16) (gO w b P2 P3 P4 (runS b P3 P4 s)) (pb_k0_t1 (F := Ideal) Variants.none c none i arg2 harg2 arg3 harg3 arg4 harg4 arg5 harg5 arg6 harg6 arg7 harg7 arg8 harg8 arg9 harg9 arg10 harg10 v3 v4 rows X2 X3 X4 f6 f7 f8 f9 f10 k).1
    ∧ AllOf (e := .f32) (gS (runS b P3 P4 s)) (pb_k0_t1 (F := Ideal) Variants.none c none i arg2 harg2 arg3 harg3 arg4 harg4 arg5 harg5 arg6 harg6 arg7 harg7 arg8 harg8 arg9 harg9 arg10 harg10 v3 v4 rows X2 X3 X4 f6 f7 f8 f9 f10 k).2.1
    ∧ ∀ (h : Fin 8) (a d : Fin 128), arg8.view.read (Elt Ideal) (arg8.view.writes (Elt Ideal) f8 (pb_k0_t1 (F := Ideal) Variants.none c none i arg2 harg2 arg3 harg3 arg4 harg4 arg5 harg5 arg6 harg6 arg7 harg7 arg8 harg8 arg9 harg9 arg10 harg10 v3 v4 rows X2 X3 X4 f6 f7 f8 f9 f10 k).2.2.1) (ix3 h a d) = ((runS b P3 P4 s k h.val a.val d.val : ℝ) : EReal) := by
  induction k with
  | zero => exact ⟨fun p hp => absurd hp List.not_mem_nil, fun p hp => absurd hp List.not_mem_nil, hs⟩
  | succ k ih =>
    obtain ⟨i1, i2, i3⟩ := ih (by omega)
    have hk' : k < k0_t1_loop.trips := hk
    rw [pb_k0_t1.eq_2]
    unfold pb_k0_t1Step
    rw [dif_pos hk']
    dsimp only
    generalize pb_k0_t1 (F := Ideal) Variants.none c none i arg2 harg2 arg3 harg3 arg4 harg4 arg5 harg5 arg6 harg6 arg7 harg7 arg8 harg8 arg9 harg9 arg10 harg10 v3 v4 rows X2 X3 X4 f6 f7 f8 f9 f10 k = p at i1 i2 i3 ⊢
    refine ⟨AllOf.append ?_ i1, AllOf.append ?_ i2, fun h a d => ?_⟩
    · exact (trip_o arg2 arg3 arg4 arg8 arg9 arg10 v3 v4 X2 X3 X4 _ ⟨k, hk'⟩ c i harg2 harg3 harg4 arg5 harg5 arg6 harg6 arg7 harg7 harg8 harg9 harg10 _ _ _ _ hw hb hp h2 h3 h4 i3).mem
    · exact (trip_s arg2 arg3 arg4 arg8 arg9 arg10 v3 v4 X2 X3 X4 _ ⟨k, hk'⟩ c i harg2 harg3 harg4 arg5 harg5 arg6 harg6 arg7 harg7 harg8 harg9 harg10 _ _ _ _ i3).mem
    · rw [View.writes_append]
      exact trip_next arg2 arg3 arg4 arg8 arg9 arg10 v3 v4 X2 X3 X4 _ ⟨k, hk'⟩ c i harg2 harg3 harg4 arg5 harg5 arg6 harg6 arg7 harg7 harg8 harg9 harg10 _ _ _ _ hb hp h3 h4 i3 h a d

/-- A block's chunk is the whole array's. -/
theorem vc_at {P Q : ℕ → ℕ → ℝ} {t : ℕ} (h : ∀ r l, P r l = Q (512 * t + r) l) (k : ℕ) : vc P k = vc Q (8 * t + k) := by
  funext r l
  rw [vc, vc, h]
  exact congrArg (fun n => Q n l) (by omega)

/-- A block's queries, in the whole array. -/
theorem qc_at {P Q : ℕ → ℕ → ℝ} {t : ℕ} (h : ∀ r l, P r l = Q (512 * t + r) l) (k : ℕ) : qc P k = qc Q (8 * t + k) := by
  funext r l
  rw [qc, qc, h, show 512 * t + (64 * k + r) = 64 * (8 * t + k) + r by omega]

/-- A block's keys, in the whole array. -/
theorem kc_at {P Q : ℕ → ℕ → ℝ} {t : ℕ} (h : ∀ r l, P r l = Q (512 * t + r) l) (k : ℕ) : kc b P k = kc b Q (8 * t + k) := by
  funext r l
  rw [kc, kc, h, show 512 * t + (64 * k + r) = 64 * (8 * t + k) + r by omega]

/-- A block's running log decays, in the whole array. -/
theorem gc_at {P Q : ℕ → ℕ → ℝ} {t : ℕ} (h : ∀ r l, P r l = Q (512 * t + r) l) (k : ℕ) : gc b P k = gc b Q (8 * t + k) := by
  rw [gc, gc]
  refine congrArg cum (funext fun r => funext fun l => ?_)
  rw [h, show 512 * t + (64 * k + r) = 64 * (8 * t + k) + r by omega]

/-- A block's step of the state, in the whole array. -/
theorem next_at {t : ℕ} (h3 : ∀ r l, P3 r l = Q3 (512 * t + r) l) (h4 : ∀ r l, P4 r l = Q4 (512 * t + r) l) (k : ℕ) :
    nextS b P3 P4 s k = nextS b Q3 Q4 s (8 * t + k) := by
  funext h a c
  have e1 : kd b P3 k = kd b Q3 (8 * t + k) := by
    funext r l
    rw [kd, kd, gc_at h3, kc_at h3]
  have e2 : dc b P3 k = dc b Q3 (8 * t + k) := by
    funext r l
    rw [dc, dc, gc_at h3]
  rw [nextS, nextS, e1, e2, vc_at h4]

/-- A block's output, in the whole array. -/
theorem outF_at {t : ℕ} (h2 : ∀ r l, P2 r l = Q2 (512 * t + r) l) (h3 : ∀ r l, P3 r l = Q3 (512 * t + r) l) (h4 : ∀ r l, P4 r l = Q4 (512 * t + r) l) (k r l : ℕ) :
    outF w b P2 P3 P4 s k r l = outF w b Q2 Q3 Q4 s (8 * t + k) r l := by
  have e1 : qe b P2 P3 k = qe b Q2 Q3 (8 * t + k) := by
    funext r l
    rw [qe, qe, gc_at h3, qc_at h2]
  have e2 : qh b P2 P3 k = qh b Q2 Q3 (8 * t + k) := by
    funext r l
    rw [qh, qh, gc_at h3, qc_at h2]
  have e3 : kl w b P3 k = kl w b Q3 (8 * t + k) := by
    funext r l
    rw [kl, kl, gc_at h3, kc_at h3]
  have e4 : kh b P3 k = kh b Q3 (8 * t + k) := by
    funext r l
    rw [kh, kh, gc_at h3, kc_at h3]
  have e5 : raw w b P2 P3 k (l / 128) = raw w b Q2 Q3 (8 * t + k) (l / 128) := by
    funext r s
    rw [raw, raw, e1, e2, e3, e4]
  rw [outF, outF, e1, e5, vc_at h4]

/-- The state of the whole recurrence before each chunk. -/
def stG (b Q3 Q4 : ℕ → ℕ → ℝ) : ℕ → ℕ → ℕ → ℕ → ℝ := runS b Q3 Q4 fun _ _ _ => 0

/-- A block's states continue the whole run's. -/
theorem runS_at {t : ℕ} (h3 : ∀ r l, P3 r l = Q3 (512 * t + r) l) (h4 : ∀ r l, P4 r l = Q4 (512 * t + r) l) (k : ℕ) :
    runS b P3 P4 (stG b Q3 Q4 (8 * t)) k = stG b Q3 Q4 (8 * t + k) := by
  induction k with
  | zero => rfl
  | succ k ih =>
    rw [runS, ih, next_at h3 h4]
    rfl

end Cert.HgrnValue

end
-- ==== Proof.HgrnE.lean ====
/-
# The gated recurrence's forward call: the launch's two results
-/
module

public import proofs.«01_k».proof.Proof.HgrnD

@[expose] public section

set_option maxRecDepth 16384

noncomputable section

open Idealize.ShloMosaic Idealize.ShloMosaic.TcCoe Idealize.ShloMosaic.Tactic Idealize.SL.Sem

namespace Cert.HgrnValue

open Cert.Kernel9Ideal Cert.Kernel9Ideal.Gen Cert.Kernel9Ideal.Hgrn

/-- The floor of the forget gates, from the two rows of its logits. -/
def bL (L : ℕ → ℕ → ℝ) (_r l : ℕ) : ℝ := (1 + Real.exp (L 1 l - L 0 l))⁻¹

/-- The floor lies strictly between zero and one. -/
theorem bL_pos (L : ℕ → ℕ → ℝ) (l : ℕ) : 0 < bL L 0 l ∧ bL L 0 l < 1 := by
  have h := Real.exp_pos (L 1 l - L 0 l)
  refine ⟨inv_pos.mpr (by linarith), inv_lt_one_of_one_lt₀ (by linarith)⟩

/-- Where the windows' blocks lie. -/
theorem idx : ∀ t : Fin cfg0.N, win0_0.index t 0 = t.val ∧ win0_0.index t 1 = 0 ∧ win0_1.index t 0 = t.val ∧ win0_1.index t 1 = 1 ∧ win0_2.index t 0 = t.val ∧ win0_2.index t 1 = 2 ∧ win0_3.index t 0 = 0 ∧ win0_3.index t 1 = 0
    ∧ win0_4.index t 0 = t.val ∧ win0_4.index t 1 = 0 ∧ win0_5.index t 0 = 0 ∧ win0_5.index t 1 = t.val ∧ win0_5.index t 2 = 0 ∧ win0_5.index t 3 = 0 := (by decide +kernel : ∀ t : Fin grid0.N, _)

variable (m : (ℓ : Loc nD τ sig) → Buf (Elt Ideal) ℓ) (c : Dev nD) {p L : ℕ → ℕ → ℝ} {w : ℝ}

/-- The projection's first three blocks of columns are real. -/
abbrev IsP (X : S8192x6656.Idx → EReal) (p : ℕ → ℕ → ℝ) : Prop := ∀ (r : Fin 8192) (l : Fin 6656), l.val < 3072 → X (ix2 r l) = ((p r.val l.val : ℝ) : EReal)

/-- The queries' block of columns. -/
theorem col0 (hp : IsP (m (c.tc.loc main_arg0)) p) (t : Fin cfg0.N) : Is2 (X0_0 m c t) (fun r l => p (512 * t.val + r) (0 + l)) := by
  have ht : t.val < 16 := t.isLt
  intro r l
  have hr := r.isLt
  have hl := l.isLt
  refine Eq.trans ?_ (hp ⟨512 * t.val + r.val, by omega⟩ ⟨0 + l.val, by omega⟩ (by dsimp only; omega))
  rw [X0_0]
  unfold Pipeline.Window.fill
  rw [dif_pos (moved0_0 t _)]
  blk_point [iblk, V, idx t]

/-- The decays' block of columns. -/
theorem col1 (hp : IsP (m (c.tc.loc main_arg0)) p) (t : Fin cfg0.N) : Is2 (X0_1 m c t) (fun r l => p (512 * t.val + r) (1024 + l)) := by
  have ht : t.val < 16 := t.isLt
  intro r l
  have hr := r.isLt
  have hl := l.isLt
  refine Eq.trans ?_ (hp ⟨512 * t.val + r.val, by omega⟩ ⟨1024 + l.val, by omega⟩ (by dsimp only; omega))
  rw [X0_1]
  unfold Pipeline.Window.fill
  rw [dif_pos (moved0_1 t _)]
  blk_point [iblk, V, idx t]

/-- The values' block of columns. -/
theorem col2 (hp : IsP (m (c.tc.loc main_arg0)) p) (t : Fin cfg0.N) : Is2 (X0_2 m c t) (fun r l => p (512 * t.val + r) (2048 + l)) := by
  have ht : t.val < 16 := t.isLt
  intro r l
  have hr := r.isLt
  have hl := l.isLt
  refine Eq.trans ?_ (hp ⟨512 * t.val + r.val, by omega⟩ ⟨2048 + l.val, by omega⟩ (by dsimp only; omega))
  rw [X0_2]
  unfold Pipeline.Window.fill
  rw [dif_pos (moved0_2 t _)]
  blk_point [iblk, V, idx t]

/-- The block of bounds. -/
theorem rowL (hL : Is2 (m (c.tc.loc main_arg1)) L) (t : Fin cfg0.N) : Is2 (iblk m c 3 t) L := by
  intro r l
  refine Eq.trans ?_ (hL r l)
  blk_point [iblk, V, idx t]

/-- The floor the body computes. -/
theorem floor_is (hL : Is2 (m (c.tc.loc main_arg1)) L) (t : Fin cfg0.N) (arg5 : Memref sig .tc .vmem S2x1024 .f32) (harg5 : arg5.IsWhole) :
    Is2 (k0_pay2 (F := Ideal) (View.readAt (Elt Ideal) arg5.view (Rect.unit (s := S2x1024) ![1, 0] S1x1024.size inb_S2x1024_S1x1024_1_0).toLoadRect (harg5.unread (iblk m c 3 t)))
    (View.readAt (Elt Ideal) arg5.view (Rect.unit (s := S2x1024) ![0, 0] S1x1024.size inb_S2x1024_S1x1024_0_0).toLoadRect (harg5.unread (iblk m c 3 t)))) (bL L) := by
  have h1 : Is2 (View.readAt (Elt Ideal) arg5.view (Rect.unit (s := S2x1024) ![1, 0] S1x1024.size inb_S2x1024_S1x1024_1_0).toLoadRect (harg5.unread (iblk m c 3 t))) (fun _ l => L 1 l) := by
    intro r l
    have hr := r.isLt
    rw [View.readAt_apply, harg5.read_unread]
    refine Eq.trans (congrArg _ ?_) (rowL m c hL t 1 l)
    funext a
    fin_cases a
    · exact Fin.ext (by show 1 + 1 * r.val = 1; omega)
    · exact Fin.ext (by show 0 + 1 * l.val = l.val; omega)
  have h0 : Is2 (View.readAt (Elt Ideal) arg5.view (Rect.unit (s := S2x1024) ![0, 0] S1x1024.size inb_S2x1024_S1x1024_0_0).toLoadRect (harg5.unread (iblk m c 3 t))) (fun _ l => L 0 l) := by
    intro r l
    have hr := r.isLt
    rw [View.readAt_apply, harg5.read_unread]
    refine Eq.trans (congrArg _ ?_) (rowL m c hL t 0 l)
    funext a
    fin_cases a
    · exact Fin.ext (by show 0 + 1 * r.val = 0; omega)
    · exact Fin.ext (by show 0 + 1 * l.val = l.val; omega)
  exact pay2_is (a := fun _ l => L 1 l) (b := fun _ l => L 0 l) h1 h0

/-- What a point's trips write, from the state it finds. -/
theorem point_is (hp : IsP (m (c.tc.loc main_arg0)) p) (hL : Is2 (m (c.tc.loc main_arg1)) L) (hw : Ideal.ofBits .f32 0xF149F2CA#32 = (w : EReal)) (t : Fin cfg0.N) (G : BufTy.Contents (Elt Ideal) stM.view.ty)
    (hs : ∀ (h : Fin 8) (a d : Fin 128), stM.view.read (Elt Ideal) G (ix3 h a d) = ((stG (bL L) (fun r l => p r (1024 + l)) (fun r l => p r (2048 + l)) (8 * t.val) h.val a.val d.val : ℝ) : EReal)) :
    AllOf (e := .bf16) (gO w (bL L) (fun r l => p (512 * t.val + r) (0 + l)) (fun r l => p (512 * t.val + r) (1024 + l)) (fun r l => p (512 * t.val + r) (2048 + l))
      fun k => stG (bL L) (fun r l => p r (1024 + l)) (fun r l => p r (2048 + l)) (8 * t.val + k)) (piecesAt m c t G).1
    ∧ AllOf (e := .f32) (gS fun k => stG (bL L) (fun r l => p r (1024 + l)) (fun r l => p r (2048 + l)) (8 * t.val + k)) (piecesAt m c t G).2.1
    ∧ ∀ (h : Fin 8) (a d : Fin 128), stM.view.read (Elt Ideal) (stM.view.writes (Elt Ideal) G (piecesAt m c t G).2.2.1) (ix3 h a d)
      = ((stG (bL L) (fun r l => p r (1024 + l)) (fun r l => p r (2048 + l)) (8 * t.val + 8) h.val a.val d.val : ℝ) : EReal) := by
  have e : runS (bL L) (fun r l => p (512 * t.val + r) (1024 + l)) (fun r l => p (512 * t.val + r) (2048 + l)) (stG (bL L) (fun r l => p r (1024 + l)) (fun r l => p r (2048 + l)) (8 * t.val))
      = fun k => stG (bL L) (fun r l => p r (1024 + l)) (fun r l => p r (2048 + l)) (8 * t.val + k) :=
    funext fun k => runS_at (t := t.val) (Q3 := fun r l => p r (1024 + l)) (Q4 := fun r l => p r (2048 + l)) (fun _ _ => rfl) (fun _ _ => rfl) k
  have ht : (8 : ℕ) ≤ k0_t1_loop.trips := by decide +kernel
  unfold piecesAt pieces
  have key := pb_is c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _) (Memref.whole cc0_scratch2) (Memref.isWhole_whole _)
    (View.readAt (Elt Ideal) (st0_3 t).view (Rect.unit (s := S2x1024) ![1, 0] S1x1024.size inb_S2x1024_S1x1024_1_0).toLoadRect ((hstage0_3 ((cfg0.slots t 3).cast nbuf0_3)).unread (iblk m c 3 t)))
    (View.readAt (Elt Ideal) (st0_3 t).view (Rect.unit (s := S2x1024) ![0, 0] S1x1024.size inb_S2x1024_S1x1024_0_0).toLoadRect ((hstage0_3 ((cfg0.slots t 3).cast nbuf0_3)).unread (iblk m c 3 t)))
    ((hstage0_0 ((cfg0.slots t 0).cast nbuf0_0)).unread (X0_0 m c t)) ((hstage0_1 ((cfg0.slots t 1).cast nbuf0_1)).unread (X0_1 m c t)) ((hstage0_2 ((cfg0.slots t 2).cast nbuf0_2)).unread (X0_2 m c t))
    (st0_4 t).view.junk (st0_5 t).view.junk G (Memref.whole cc0_scratch1 : Memref sig .tc .vmem S64x1024 .f32).view.junk (Memref.whole cc0_scratch2 : Memref sig .tc .vmem S8x64x64 .f32).view.junk
    hw (floor_is m c hL t _ _) (bL_pos L) (by rw [Memref.IsWhole.read_unread]; exact col0 m c hp t) (by rw [Memref.IsWhole.read_unread]; exact col1 m c hp t) (by rw [Memref.IsWhole.read_unread]; exact col2 m c hp t) hs 8 ht
  rw [e] at key
  exact key

/-- The state starts at zero. -/
theorem zero_pay (x : S8x128x128.Idx) : k0_pay1 (F := Ideal) x = ((0 : ℝ) : EReal) := by
  refine Eq.trans ?_ Ideal.ofBits_zero_f32
  pointwise [k0_pay1]

/-- The state each point starts with. -/
theorem state_at (hp : IsP (m (c.tc.loc main_arg0)) p) (hL : Is2 (m (c.tc.loc main_arg1)) L) (n : ℕ) (hn : n ≤ 16) (h : Fin 8) (a d : Fin 128) :
    stM.view.read (Elt Ideal) (stateAt m c n) (ix3 h a d) = ((stG (bL L) (fun r l => p r (1024 + l)) (fun r l => p r (2048 + l)) (8 * n) h.val a.val d.val : ℝ) : EReal) := by
  induction n generalizing h a d with
  | zero =>
    rw [stateAt, stG, runS]
    refine View.read_writes_apply_of_pieces (Val := Elt Ideal) stM.view _ (fun _ => ((0 : ℝ) : EReal)) _ ?_ _ ?_
    · intro q hq x
      obtain rfl := List.mem_singleton.mp hq
      exact zero_pay x
    · exact View.cover_of_tiledL _ S8x128x128.size (by sl_kernel_rfl) _
  | succ n ih =>
    have hn' : n < cfg0.N := hn
    obtain ⟨w, hw⟩ := low_word
    have e := stateAt_succ m c ⟨n, hn'⟩
    dsimp only at e
    rw [e]
    exact (point_is m c hp hL hw ⟨n, hn'⟩ (stateAt m c n) (ih (by omega))).2.2 h a d

/-- What a point leaves of the first result. -/
theorem outO_at (hp : IsP (m (c.tc.loc main_arg0)) p) (hL : Is2 (m (c.tc.loc main_arg1)) L) (hw : Ideal.ofBits .f32 0xF149F2CA#32 = (w : EReal)) (t : Fin cfg0.N) (r : Fin 512) (l : Fin 1024) :
    outO m c t (ix2 r l) = ((outF w (bL L) p (fun r l => p r (1024 + l)) (fun r l => p r (2048 + l)) (stG (bL L) (fun r l => p r (1024 + l)) (fun r l => p r (2048 + l)) (8 * t.val + r.val / 64))
      (8 * t.val + r.val / 64) (r.val % 64) l.val : ℝ) : EReal) := by
  refine (View.read_writes_apply_of_pieces (Val := Elt Ideal) VO4 _ _ _ (point_is m c hp hL hw t (stateAt m c t.val) (state_at m c hp hL t.val (le_of_lt t.isLt))).1 _ (cover_o _ _ _ _ _ _ _ _ _ _ _ _ _ _ _ _ _ _ _ _ _ _ _ _ _ _)).trans ?_
  rw [gO]
  exact congrArg (fun z : ℝ => (z : EReal)) (outF_at (t := t.val) (Q2 := p) (Q3 := fun r l => p r (1024 + l)) (Q4 := fun r l => p r (2048 + l)) (fun r l => by rw [Nat.zero_add]) (fun _ _ => rfl) (fun _ _ => rfl) (r.val / 64) (r.val % 64) l.val)

/-- What it leaves of the second. -/
theorem outS_at (hp : IsP (m (c.tc.loc main_arg0)) p) (hL : Is2 (m (c.tc.loc main_arg1)) L) (t : Fin cfg0.N) (h k : Fin 8) (a d : Fin 128) :
    outS m c t (ix4 h k a d) = ((stG (bL L) (fun r l => p r (1024 + l)) (fun r l => p r (2048 + l)) (8 * t.val + k.val) h.val a.val d.val : ℝ) : EReal) := by
  obtain ⟨w, hw⟩ := low_word
  exact View.read_writes_apply_of_pieces (Val := Elt Ideal) VO5 _ _ _ (point_is m c hp hL hw t (stateAt m c t.val) (state_at m c hp hL t.val (le_of_lt t.isLt))).2.1 _ (cover_st _ _ _ _ _ _ _ _ _ _ _ _ _ _ _ _ _ _ _ _ _ _ _ _ _ _)

/-- The first result: every chunk's outputs, from the state before it. -/
theorem final_o (hp : IsP (m (c.tc.loc main_arg0)) p) (hL : Is2 (m (c.tc.loc main_arg1)) L) (hw : Ideal.ofBits .f32 0xF149F2CA#32 = (w : EReal)) : ((dats m 0 c).arrAt 4 cfg0.N : S8192x1024.Idx → Elt Ideal .bf16) = fun i =>
    ((outF w (bL L) p (fun r l => p r (1024 + l)) (fun r l => p r (2048 + l)) (stG (bL L) (fun r l => p r (1024 + l)) (fun r l => p r (2048 + l)) ((i 0).val / 64))
      ((i 0).val / 64) ((i 0).val % 64) (i 1).val : ℝ) : EReal) := by
  refine (dats m 0 c).arrAt_eq_of_covers 4 _ (by decide +kernel) fun t _ y => ?_
  blk_simp
  rw [after_4]
  have hy : (y 0).val < 512 := (y 0).isLt
  refine (congrArg (outO m c t) (eq_ix2 y)).trans ((outO_at m c hp hL hw t (y 0) (y 1)).trans ?_)
  obtain ⟨e0, e1⟩ : win0_4.index t 0 = t.val ∧ win0_4.index t 1 = 0 := by simp only [idx t, and_self]
  rw [e0, e1, Nat.zero_mul, Nat.zero_add, show (t.val * 512 + (y 0).val) / 64 = 8 * t.val + (y 0).val / 64 by omega, show (t.val * 512 + (y 0).val) % 64 = (y 0).val % 64 by omega]

/-- The second result: the state before each chunk. -/
theorem final_s (hp : IsP (m (c.tc.loc main_arg0)) p) (hL : Is2 (m (c.tc.loc main_arg1)) L) : ((dats m 0 c).arrAt 5 cfg0.N : S8x128x128x128.Idx → Elt Ideal .f32) = fun i =>
    ((stG (bL L) (fun r l => p r (1024 + l)) (fun r l => p r (2048 + l)) (i 1).val (i 0).val (i 2).val (i 3).val : ℝ) : EReal) := by
  refine (dats m 0 c).arrAt_eq_of_covers 5 _ (by decide +kernel) fun t _ y => ?_
  blk_simp
  rw [after_5]
  refine (congrArg (outS m c t) (eq_ix4 y)).trans ((outS_at m c hp hL t (y 0) (y 1) (y 2) (y 3)).trans ?_)
  obtain ⟨e0, e1, e2, e3⟩ : win0_5.index t 0 = 0 ∧ win0_5.index t 1 = t.val ∧ win0_5.index t 2 = 0 ∧ win0_5.index t 3 = 0 := by simp only [idx t, and_self]
  rw [e0, e1, e2, e3]
  simp only [Nat.zero_mul, Nat.zero_add, Nat.mul_comm t.val 8]

end Cert.HgrnValue

end
-- ==== Proof.HgRefB.lean ====
module

public import proofs.«01_k».proof.Proof.HgRefA
public import proofs.«01_k».proof.Proof.HgrnE
public import proofs.«01_k».proof.Proof.PoolRef

/-! Those values at an index, among the reals. -/

@[expose] public section

set_option maxRecDepth 16384

noncomputable section

open Idealize.ShloMosaic Idealize.ShloMosaic.TcCoe Idealize.ShloMosaic.Tactic Idealize.SL.Sem

namespace Cert.HgrnRef

open Cert.Reference9Ideal Cert.Reference9Ideal.Gen Cert.HgrnValue

/-- The word of minus infinity. -/
theorem neg_inf : Ideal.ofBits .f32 0xFF800000#32 = (⊥ : EReal) := by
  have e1 : (0xFF800000#32).extractLsb' 31 1 = 1#1 := by decide
  have e2 : ((0xFF800000#32).extractLsb' 23 8).toNat = 255 := by decide
  have e3 : ((0xFF800000#32).extractLsb' 0 23).toNat = 0 := by decide
  simp [Ideal.ofBits, Ideal.ieee, e1, e2, e3]

/-- The gate of a finite value. -/
theorem sigV_at (x : FVec Ideal S8192x1024 .f32) (r : Fin 8192) (l : Fin 1024) (y : ℝ) (h : x (ix2 r l) = (y : EReal)) :
    sigV x (ix2 r l) = ((sg y : ℝ) : EReal) := by
  unfold sigV ones
  pointwise []
  rw [h]
  exact Ideal.logistic_coe y

/-- A chunk's row and a head's lane, in the flat array. -/
theorem lay_at (x : FVec Ideal S8192x1024 .f32) (n : Fin 128) (a : Fin 1) (h : Fin 8) (t : Fin 64) (d : Fin 128) :
    lay x (ix5 n a h t d) = x (ix2 (⟨64 * n.val + t.val, by omega⟩ : Fin 8192) (⟨128 * h.val + d.val, by omega⟩ : Fin 1024)) := by
  unfold lay
  pointwise []
  congr 2 <;> exact Fin.ext (by simp only []; omega)

/-- The maximum of a column of the bounds is finite. -/
theorem fold_max (x : Fin 2 → EReal) (y z : ℝ) (h0 : x 0 = y) (h1 : x 1 = z) :
    Finset.fold max (⊥ : EReal) x Finset.univ = ((max y z : ℝ) : EReal) := by
  rw [show (Finset.univ : Finset (Fin 2)) = {0, 1} from rfl, Finset.fold_insert (by decide), Finset.fold_singleton, h0, h1,
    max_eq_left (bot_le : (⊥ : EReal) ≤ (z : EReal))]
  exact (EReal.coe_strictMono.monotone.map_max).symm

/-- The exponentials. -/
theorem smE_at {L : ℕ → ℕ → ℝ} (a1 : FVec Ideal S2x1024 .f32) (hL : Is2 a1 L) (l : Fin 1024) :
    ∃ M : ℝ, ∀ r : Fin 2, smE a1 (ix2 r l) = ((Real.exp (L r l - M) : ℝ) : EReal) := by
  refine ⟨max (L 0 l) (L 1 l), fun r => ?_⟩
  have e := fold_max (fun x => a1 (ix2 x l)) (L 0 l) (L 1 l) (hL 0 l) (hL 1 l)
  rw [← neg_inf] at e
  have key : ∀ r : Fin 2, Ideal.exp (a1 (ix2 r l) - max (Ideal.ofBits FTy.f32 0xFF800000#32)
      (Finset.fold max (Ideal.ofBits FTy.f32 0xFF800000#32) (fun x => a1 (ix2 x l)) Finset.univ))
      = ((Real.exp (L r l - max (L 0 l) (L 1 l)) : ℝ) : EReal) := fun r => by
    rw [e, neg_inf, max_eq_right bot_le, hL r l, ← EReal.coe_sub, Ideal.exp_coe]
  rw [← key r]
  unfold smE
  pointwise []

/-- A softmax over two, from the difference. -/
theorem softmax_row (a b M : ℝ) : Real.exp (a - M) * (1 / (Real.exp (a - M) + Real.exp (b - M))) = (1 + Real.exp (b - a))⁻¹ := by
  have h0 := Real.exp_pos (a - M)
  have h1 := Real.exp_pos (b - M)
  have e : Real.exp (b - a) = Real.exp (b - M) / Real.exp (a - M) := by
    rw [← Real.exp_sub]
    congr 1
    ring
  rw [e, mul_one_div, ← one_div, div_eq_div_iff (by positivity) (by positivity)]
  field_simp

/-- The first row of a softmax over two rows. -/
theorem smV_at {L : ℕ → ℕ → ℝ} (a1 : FVec Ideal S2x1024 .f32) (hL : Is2 a1 L) (l : Fin 1024) :
    smV a1 (ix2 0 l) = ((bL L 0 l : ℝ) : EReal) := by
  obtain ⟨M, hM⟩ := smE_at a1 hL l
  have e : smV a1 (ix2 0 l) = Ideal.div (smE a1 (ix2 0 l)) (smE a1 (ix2 0 l) + smE a1 (ix2 1 l)) := by
    rw [← Fin.sum_univ_two fun x => smE a1 (ix2 x l)]
    unfold smV
    pointwise []
  rw [e, hM 0, hM 1, ← EReal.coe_add, Ideal.div_coe (by positivity), ← EReal.coe_mul]
  exact congrArg (fun z : ℝ => (z : EReal)) (softmax_row _ _ M)

/-- The first row of a running sum over two rows. -/
theorem first_row (h : (⟨2, ![2, 1024]⟩ : Shape).ReduceWindows ![2, 1] ![1, 1] ![1, 0] ![0, 0] ⟨2, ![2, 1024]⟩)
    (x : (⟨2, ![2, 1024]⟩ : Shape).Idx → EReal) (l : Fin 1024) :
    Ideal.hostReduceWindowAdd ![2, 1] ![1, 1] ![1, 0] ![0, 0] h x 0 (ix2 (0 : Fin 2) l) = x (ix2 (0 : Fin 2) l) := by
  rw [Cert.PoolMath.window_sum, zero_add, Finset.sum_eq_single (ix2 (1 : Fin 2) (0 : Fin 1) : (⟨2, ![2, 1]⟩ : Shape).Idx)]
  · rw [dif_pos]
    · congr 1
      funext b
      fin_cases b <;> apply Fin.ext <;> simp [ix2]
    · intro b
      fin_cases b <;> simp [ix2]
  · intro k _ hk
    rw [dif_neg]
    intro hin
    have h0 := (hin 0).1
    apply hk
    funext b
    fin_cases b
    · apply Fin.ext
      have := (k 0).isLt
      simp [ix2] at h0 this ⊢
      omega
    · exact Subsingleton.elim (α := Fin 1) _ _
  · intro h
    exact absurd (Finset.mem_univ _) h

/-- The running sums start at zero. -/
theorem zero_first : (broadcastInDim S_ ![] bcast_S_S_ (constant (F := Ideal) S_ .f32 0x00000000#32)) (Shape.Idx.first h_S_) = (0 : EReal) :=
  Ideal.ofBits_zero_f32

/-- The lower bound on the decay. -/
theorem lbV_at {L : ℕ → ℕ → ℝ} (a1 : FVec Ideal S2x1024 .f32) (hL : Is2 a1 L) (l : Fin 1024) :
    lbV a1 (ix1 l) = ((bL L 0 l : ℝ) : EReal) := by
  rw [← smV_at a1 hL l, ← first_row reduceWindows_S2x1024_S2x1024_w2s1p1_0_w1s1p0_0 (smV a1) l,
    ← Cert.PoolRef.host_window ![2, 1] ![1, 1] ![1, 0] ![0, 0] (smV a1) (broadcastInDim S_ ![] bcast_S_S_ (constant S_ .f32 0x00000000#32))
      reduceWindows_S2x1024_S2x1024_w2s1p1_0_w1s1p0_0 h_S_ 0 zero_first]
  unfold lbV
  pointwise []

/-- The decays. -/
theorem fV_at {p L : ℕ → ℕ → ℝ} (a0 : FVec Ideal S8192x6656 .bf16) (a1 : FVec Ideal S2x1024 .f32) (hp : IsP a0 p) (hL : Is2 a1 L)
    (r : Fin 8192) (l : Fin 1024) : fV a0 a1 (ix2 r l) = ((fg (bL L 0 l) (p r (1024 + l)) : ℝ) : EReal) := by
  have hg : colG a0 (ix2 r l) = ((p r (1024 + l) : ℝ) : EReal) := by
    rw [← hp r (⟨1024 + l.val, by omega⟩ : Fin 6656) (by simp only []; omega)]
    unfold colG
    pointwise []
  have e : fV a0 a1 (ix2 r l) = lbV a1 (ix1 l) + (1 - lbV a1 (ix1 l)) * sigV (colG a0) (ix2 r l) := by
    unfold fV rowsV
    pointwise []
  rw [e, lbV_at a1 hL l, sigV_at _ r l _ hg, ← EReal.coe_one, ← EReal.coe_sub, ← EReal.coe_mul, ← EReal.coe_add]
  rfl

/-- The queries. -/
theorem qV_at {p : ℕ → ℕ → ℝ} (a0 : FVec Ideal S8192x6656 .bf16) (hp : IsP a0 p)
    (r : Fin 8192) (l : Fin 1024) : qV a0 (ix2 r l) = ((p r l * sg (p r l) : ℝ) : EReal) := by
  have hg : colQ a0 (ix2 r l) = ((p r l : ℝ) : EReal) := by
    rw [← hp r (⟨l.val, by omega⟩ : Fin 6656) (by simp only []; omega)]
    unfold colQ
    pointwise []
  have e : qV a0 (ix2 r l) = colQ a0 (ix2 r l) * sigV (colQ a0) (ix2 r l) := by
    unfold qV
    pointwise []
  rw [e, sigV_at _ r l _ hg, hg, ← EReal.coe_mul]

/-- The values. -/
theorem colV_at {p : ℕ → ℕ → ℝ} (a0 : FVec Ideal S8192x6656 .bf16) (hp : IsP a0 p)
    (r : Fin 8192) (l : Fin 1024) : colV a0 (ix2 r l) = ((p r (2048 + l) : ℝ) : EReal) := by
  rw [← hp r (⟨2048 + l.val, by omega⟩ : Fin 6656) (by simp only []; omega)]
  unfold colV
  pointwise []

/-- The causal mask, row by column. -/
theorem tri_at (r s : Fin 64) (a : Fin 1) : tri (ix3 r s a) = if s.val ≤ r.val then 1#1 else 0#1 := by
  have key : ∀ r s : Fin 64, Scalar.select (IntOp.cmpi CmpIPredicate.sge (IntOp.addi (BitVec.ofNat 32 r.val) 0#32) (BitVec.ofNat 32 s.val)) 1#1 0#1
      = if s.val ≤ r.val then 1#1 else 0#1 := by decide +kernel
  rw [← key r s]
  unfold tri
  pointwise []

/-- A carried array of chunks, chunk by row by flat lane. -/
def Is5 (X : S128x1x8x64x128.Idx → EReal) (x : ℕ → ℕ → ℕ → ℝ) : Prop :=
  ∀ (n : Fin 128) (h : Fin 8) (t : Fin 64) (d : Fin 128), X (ix5 n 0 h t d) = ((x n t (128 * h + d) : ℝ) : EReal)

/-- A chunk, row by flat lane. -/
def Is4 (X : S1x8x64x128.Idx → EReal) (x : ℕ → ℕ → ℝ) : Prop :=
  ∀ (h : Fin 8) (t : Fin 64) (d : Fin 128), X (ix4 0 h t d) = ((x t (128 * h + d) : ℝ) : EReal)

/-- A state, head by value by key. -/
def IsS (X : S1x8x128x128.Idx → EReal) (s : ℕ → ℕ → ℕ → ℝ) : Prop :=
  ∀ (h : Fin 8) (a b : Fin 128), X (ix4 0 h a b) = ((s h b a : ℝ) : EReal)

/-- An array cut in chunks, from its flat values. -/
theorem lay_is (x : FVec Ideal S8192x1024 .f32) (y : ℕ → ℕ → ℝ) (h : ∀ (r : Fin 8192) (l : Fin 1024), x (ix2 r l) = ((y r l : ℝ) : EReal)) :
    Is5 (lay x) fun n t l => y (64 * n + t) l := fun n a t d => (lay_at x n 0 a t d).trans (h _ _)

/-- The four carried inputs. -/
theorem ent_q {p : ℕ → ℕ → ℝ} (a0 : FVec Ideal S8192x6656 .bf16) (hp : IsP a0 p) : Is5 (lay (qV a0)) (qc p) :=
  lay_is _ (fun r l => p r l * sg (p r l)) (qV_at a0 hp)

/-- The values, of a chunk's rows. -/
theorem ent_v {p : ℕ → ℕ → ℝ} (a0 : FVec Ideal S8192x6656 .bf16) (hp : IsP a0 p) : Is5 (lay (colV a0)) (vc fun r l => p r (2048 + l)) :=
  lay_is _ (fun r l => p r (2048 + l)) (colV_at a0 hp)

/-- The keys, of a chunk's rows. -/
theorem ent_k {p L : ℕ → ℕ → ℝ} (a0 : FVec Ideal S8192x6656 .bf16) (a1 : FVec Ideal S2x1024 .f32) (hp : IsP a0 p) (hL : Is2 a1 L) :
    Is5 (lay (subf ones (fV a0 a1))) (kc (bL L) fun r l => p r (1024 + l)) :=
  lay_is _ (fun r l => 1 - fg (bL L 0 l) (p r (1024 + l))) fun r l => by
    have e : subf ones (fV a0 a1) (ix2 r l) = 1 - fV a0 a1 (ix2 r l) := by
      unfold ones
      pointwise []
    rw [e, fV_at a0 a1 hp hL, ← EReal.coe_one, ← EReal.coe_sub]

/-- The log decays, of a chunk's rows. -/
theorem ent_f {p L : ℕ → ℕ → ℝ} (a0 : FVec Ideal S8192x6656 .bf16) (a1 : FVec Ideal S2x1024 .f32) (hp : IsP a0 p) (hL : Is2 a1 L) :
    Is5 (lay (Host.log (fV a0 a1))) (fun k r l => Real.log (fg (bL L 0 l) (p (64 * k + r) (1024 + l)))) :=
  lay_is _ (fun r l => Real.log (fg (bL L 0 l) (p r (1024 + l)))) fun r l => by
    have e : Host.log (fV a0 a1) (ix2 r l) = Ideal.log (fV a0 a1 (ix2 r l)) := by
      pointwise []
    have hf : 0 < fg (bL L 0 l) (p r (1024 + l)) := fg_pos (bL_pos L l) _
    rw [e, fV_at a0 a1 hp hL, Ideal.log_coe, if_neg (not_le.mpr hf)]

end Cert.HgrnRef
-- ==== Proof.HgrnF.lean ====
module

public import proofs.«01_k».proof.Proof.HgrnD

/-! The chunk's scores as one sum over the lanes, with every decay taken between its own two rows. -/

@[expose] public section

noncomputable section

namespace Cert.HgrnValue

/-- A score of the lower triangle, with its decay between the two rows. -/
theorem raw_eq (w : ℝ) (b P P' : ℕ → ℕ → ℝ) (k h r s : ℕ) (hs : s ≤ r) :
    raw w b P P' k h r s = ∑ c : Fin 128, qc P k r (128 * h + c) * kc b P' k s (128 * h + c)
      * Real.exp (gc b P' k r (128 * h + c) - gc b P' k s (128 * h + c)) := by
  unfold raw
  by_cases h32 : r < 32
  · rw [if_pos h32]
    unfold dotc qe kl
    refine Finset.sum_congr rfl fun c _ => ?_
    rw [if_pos (lt_of_le_of_lt hs h32), sub_eq_add_neg, Real.exp_add]
    ring
  · rw [if_neg h32]
    unfold dotc qh kh
    refine Finset.sum_congr rfl fun c _ => ?_
    rw [show 32 + (r - 32) = r by omega,
      show gc b P' k r (128 * h + c) - gc b P' k s (128 * h + c) = (gc b P' k r (128 * h + c) - gc b P' k 31 (128 * h + c))
        + (gc b P' k 31 (128 * h + c) - gc b P' k s (128 * h + c)) by ring, Real.exp_add]
    ring
end Cert.HgrnValue
-- ==== Proof.HgRefC.lean ====
module

public import proofs.«01_k».proof.Proof.HgRefB
public import proofs.«01_k».proof.Proof.HgrnF
public import Idealize.ShloMosaic.Lib.DynamicIndex

/-! One trip of the reference's loop, among the reals. -/

@[expose] public section

set_option maxRecDepth 16384

noncomputable section

open Idealize.ShloMosaic Idealize.ShloMosaic.TcCoe Idealize.ShloMosaic.Tactic Idealize.SL.Sem

namespace Cert.HgrnRef

open Cert.Reference9Ideal Cert.Reference9Ideal.Gen Cert.HgrnValue Cert.Reference9Ideal.Value

/-- A shifted window's sum is the sum of what comes no later. -/
theorem shift_sum (X : ℕ → EReal) (r : Fin 64) :
    (∑ s : Fin 64, if 63 ≤ r.val + s.val then X (r.val + s.val - 63) else 0) = ∑ s : Fin 64, if s.val ≤ r.val then X s.val else 0 := by
  have hr := r.isLt
  refine Finset.sum_bij_ne_zero (fun s _ _ => (⟨r.val + s.val - 63, by omega⟩ : Fin 64)) (fun _ _ _ => Finset.mem_univ _) ?_ ?_ ?_
  · intro s _ hs s' _ hs' e
    have h : 63 ≤ r.val + s.val := by
      by_contra hc
      exact hs (if_neg hc)
    have h' : 63 ≤ r.val + s'.val := by
      by_contra hc
      exact hs' (if_neg hc)
    have := congrArg Fin.val e
    exact Fin.ext (by simp only [] at this; omega)
  · intro k _ hk
    have h : k.val ≤ r.val := by
      by_contra hc
      exact hk (if_neg hc)
    rw [if_pos h] at hk
    have e : r.val + (k.val + 63 - r.val) - 63 = k.val := by omega
    refine ⟨⟨k.val + 63 - r.val, by omega⟩, Finset.mem_univ _, ?_, Fin.ext e⟩
    rw [if_pos (by simp only []; omega)]
    show X (r.val + (k.val + 63 - r.val) - 63) ≠ 0
    rw [e]
    exact hk
  · intro s _ hs
    have h : 63 ≤ r.val + s.val := by
      by_contra hc
      exact hs (if_neg hc)
    rw [if_pos h, if_pos (by simp only []; have := s.isLt; omega)]

/-- A window along the third of four axes is indexed by its third coordinate. -/
def win3 : (⟨4, ![1, 1, 64, 1]⟩ : Shape).Idx ≃ Fin 64 where
  toFun k := k 2
  invFun s := ix4 (0 : Fin 1) (0 : Fin 1) s (0 : Fin 1)
  left_inv k := by
    funext a
    fin_cases a
    · exact Subsingleton.elim (α := Fin 1) _ _
    · exact Subsingleton.elim (α := Fin 1) _ _
    · rfl
    · exact Subsingleton.elim (α := Fin 1) _ _
  right_inv s := rfl

/-- The running sum down a chunk's rows. -/
theorem cum_rows (h : (⟨4, ![1, 8, 64, 128]⟩ : Shape).ReduceWindows ![1, 1, 64, 1] ![1, 1, 1, 1] ![0, 0, 63, 0] ![0, 0, 0, 0] ⟨4, ![1, 8, 64, 128]⟩)
    (x : (⟨4, ![1, 8, 64, 128]⟩ : Shape).Idx → EReal) (y : ℕ → ℕ → ℝ) (hx : Is4 x y) (g : Fin 8) (r : Fin 64) (l : Fin 128) :
    Ideal.hostReduceWindowAdd ![1, 1, 64, 1] ![1, 1, 1, 1] ![0, 0, 63, 0] ![0, 0, 0, 0] h x 0 (ix4 (0 : Fin 1) g r l)
      = ((cum y r (128 * g + l) : ℝ) : EReal) := by
  rw [Cert.PoolMath.window_sum, zero_add, ← Equiv.sum_comp win3.symm]
  have e := shift_sum (fun s => ((y s (128 * g + l) : ℝ) : EReal)) r
  unfold cum
  rw [← Cert.PoolMath.coe_sum]
  simp only [← Cert.PoolMath.coe_ite]
  refine Eq.trans (Finset.sum_congr rfl fun s _ => ?_) e
  rw [show win3.symm s = ix4 (0 : Fin 1) (0 : Fin 1) s (0 : Fin 1) from rfl]
  have hr := r.isLt
  have hss := s.isLt
  by_cases hs : 63 ≤ r.val + s.val
  · rw [if_pos hs, dif_pos]
    · rw [← hx g (⟨r.val + s.val - 63, by omega⟩ : Fin 64) l]
      congr 1
      funext b
      fin_cases b <;> apply Fin.ext <;> simp [ix4]
    · intro b
      fin_cases b <;> simp [ix4] <;> omega
  · rw [if_neg hs, dif_neg]
    intro hin
    have := (hin 2).1
    simp [ix4] at this
    exact hs this

/-- The chunk a carried array holds at the counter. -/
theorem pick (V : Valuation τ sig (Elt Ideal)) (n : Fin 128) (hc : V (Proc.devRef .tc main_v56_5) = fun _ => BitVec.ofNat 32 n.val)
    {X : S128x1x8x64x128.Idx → EReal} {x : ℕ → ℕ → ℕ → ℝ} (hX : Is5 X x) :
    Is4 (shapeCast S1x8x64x128 (Host.dynamicSlice S1x1x8x64x128 X (fun k => (((![V (Proc.devRef .tc main_v56_5), constantI S_ 32 0#32,
      constantI S_ 32 0#32, constantI S_ 32 0#32, constantI S_ 32 0#32] : Fin 5 → (⟨S_, .i32⟩ : BufTy).Contents (Elt Ideal))) k (Shape.Idx.first h_S_)).toInt)
      sliceFits_S128x1x8x64x128_S1x1x8x64x128) shapeCasts_S1x1x8x64x128_S1x8x64x128) (x n) := fun h t d => by
  have hn := n.isLt
  rw [Host.dynamicSlice_eq_extractStridedSlice S1x1x8x64x128 X _ ![n.val, 0, 0, 0, 0] _
    ⟨rfl, fun a => by fin_cases a <;> simp <;> omega⟩ (fun a => by
      rw [hc]
      fin_cases a
      · exact toInt_ofNat_of_lt (by omega)
      all_goals rfl)]
  rw [← hX n h t d]
  pointwise []

/-- What is put at the counter. -/
theorem put_o (V : Valuation τ sig (Elt Ideal)) (n : Fin 128) (hc : V (Proc.devRef .tc main_v56_5) = fun _ => BitVec.ofNat 32 n.val)
    (X : S128x1x8x64x128.Idx → EReal) (U : S1x1x8x64x128.Idx → EReal) (n' : Fin 128) (h : Fin 8) (t : Fin 64) (d : Fin 128) :
    Host.dynamicUpdateSlice X U (fun k => (((![V (Proc.devRef .tc main_v56_5), constantI S_ 32 0#32,
      constantI S_ 32 0#32, constantI S_ 32 0#32, constantI S_ 32 0#32] : Fin 5 → (⟨S_, .i32⟩ : BufTy).Contents (Elt Ideal))) k (Shape.Idx.first h_S_)).toInt)
      updateFits_S128x1x8x64x128_S1x1x8x64x128 (ix5 n' 0 h t d) = if n' = n then U (ix5 0 0 h t d) else X (ix5 n' 0 h t d) := by
  have hn := n.isLt
  rw [Host.dynamicUpdateSlice_eq_updateSlice X U _ _ ![n.val, 0, 0, 0, 0] (fun a => by
      rw [hc]
      fin_cases a
      · show (min (max (BitVec.ofNat 32 n.val).toInt 0) ((128 - 1 : ℕ) : ℤ)).toNat = n.val
        rw [toInt_ofNat_of_lt (by omega)]
        omega
      all_goals rfl) ⟨rfl, fun a => by fin_cases a <;> simp <;> omega⟩]
  pointwise []
  by_cases e : n' = n
  · subst e
    rw [dif_pos ⟨le_refl _, Nat.lt_succ_self _⟩, if_pos rfl]
    congr 2
    exact Fin.ext (Nat.sub_self _)
  · rw [dif_neg (fun h => e (Fin.ext (by omega))), if_neg e]

/-- The log decays' running sum at the counter. -/
theorem run_is (V : Valuation τ sig (Elt Ideal)) (n : Fin 128) (hc : V (Proc.devRef .tc main_v56_5) = fun _ => BitVec.ofNat 32 n.val)
    {f : ℕ → ℕ → ℕ → ℝ} (h3 : Is5 (V (Proc.devRef .tc main_v56_3)) f) : Is4 (res_main_while0b_v67 V) (cum (f n)) := fun h t d => by
  rw [← cum_rows reduceWindows_S1x8x64x128_S1x8x64x128_w1s1p0_0_w1s1p0_0_w64s1p63_0_w1s1p0_0 _ _ (pick V n hc h3) h t d]
  exact Cert.PoolRef.host_window _ _ _ _ _ _ _ h_S_ 0 zero_first _

/-- The state after a chunk, from the chunk's keys, running log decays and values. -/
def stV (K G W : FVec Ideal S1x8x64x128 .f32) (S : FVec Ideal S1x8x128x128 .f32) : FVec Ideal S1x8x128x128 .f32 :=
  addf (mulf (broadcastInDim S1x8x128x128 ![0, 1, 2, 3] bcast_S1x8x128x1_S1x8x128x128_0_1_2_3 (broadcastInDim S1x8x128x1 ![0, 1, 2]
      bcast_S1x8x128_S1x8x128x1_0_1_2 (Host.exp (shapeCast S1x8x128 (extractStridedSlice S1x8x1x128 ![0, 0, 63, 0] G
        slices_S1x8x64x128_S1x8x1x128_0_0_63_0) shapeCasts_S1x8x1x128_S1x8x128)))) S)
    (Host.dotGeneral dot_S1x8x64x128_S1x8x64x128_S1x8x128x128_2_2_3_3_01_01 none (mulf K (Host.exp (subf (broadcastInDim S1x8x64x128 ![0, 1, 2, 3]
      bcast_S1x8x1x128_S1x8x64x128_0_1_2_3 (extractStridedSlice S1x8x1x128 ![0, 0, 63, 0] G slices_S1x8x64x128_S1x8x1x128_0_0_63_0)) G))) W)

/-- The masked scores of a chunk. -/
def scV (M : S64x64x1.Idx → BitVec 1) (Q K G : FVec Ideal S1x8x64x128 .f32) : FVec Ideal S1x8x64x64 .f32 :=
  Host.reduceAdd (mulf (mulf (broadcastInDim S1x8x64x64x128 ![0, 1, 2, 3, 4] bcast_S1x8x64x1x128_S1x8x64x64x128_0_1_2_3_4
      (broadcastInDim S1x8x64x1x128 ![0, 1, 2, 4] bcast_S1x8x64x128_S1x8x64x1x128_0_1_2_4 Q))
      (broadcastInDim S1x8x64x64x128 ![0, 1, 2, 3, 4] bcast_S1x8x1x64x128_S1x8x64x64x128_0_1_2_3_4
        (broadcastInDim S1x8x1x64x128 ![0, 1, 3, 4] bcast_S1x8x64x128_S1x8x1x64x128_0_1_3_4 K)))
    (Host.exp (select (broadcastInDim S1x8x64x64x128 ![2, 3, 4] bcast_S64x64x1_S1x8x64x64x128_2_3_4 M)
      (subf (broadcastInDim S1x8x64x64x128 ![0, 1, 2, 3, 4] bcast_S1x8x64x1x128_S1x8x64x64x128_0_1_2_3_4
          (broadcastInDim S1x8x64x1x128 ![0, 1, 2, 4] bcast_S1x8x64x128_S1x8x64x1x128_0_1_2_4 G))
        (broadcastInDim S1x8x64x64x128 ![0, 1, 2, 3, 4] bcast_S1x8x1x64x128_S1x8x64x64x128_0_1_2_3_4
          (broadcastInDim S1x8x1x64x128 ![0, 1, 3, 4] bcast_S1x8x64x128_S1x8x1x64x128_0_1_3_4 G)))
      (broadcastInDim S1x8x64x64x128 ![] bcast_S_S1x8x64x64x128 (id (constant S_ .f32 0xFF800000#32))))))
    (constant S_ .f32 0x00000000#32) reducesTo_S1x8x64x64x128_S1x8x64x64_d4 h_S_

/-- A chunk's output. -/
def ouV (M : S64x64x1.Idx → BitVec 1) (Q K G W : FVec Ideal S1x8x64x128 .f32) (S : FVec Ideal S1x8x128x128 .f32) : FVec Ideal S1x8x64x128 .f32 :=
  addf (Host.dotGeneral dot_S1x8x64x64_S1x8x64x128_S1x8x64x128_3_2_2_3_01_01 none (scV M Q K G) W)
    (Host.dotGeneral dot_S1x8x64x128_S1x8x128x128_S1x8x64x128_3_2_2_3_01_01 none (mulf Q (Host.exp G)) S)

/-- The state at an index, among the reals. -/
theorem stV_is {K G W : FVec Ideal S1x8x64x128 .f32} {S : FVec Ideal S1x8x128x128 .f32} {k g v : ℕ → ℕ → ℝ} {s : ℕ → ℕ → ℕ → ℝ}
    (hK : Is4 K k) (hG : Is4 G g) (hW : Is4 W v) (hS : IsS S s) :
    IsS (stV K G W S) fun h a b => stc (s h) v (fun t l => k t l * Real.exp (g 63 l - g t l)) (fun _ l => Real.exp (g 63 l)) (128 * h) a b := fun h a b => by
  have e : stV K G W S (ix4 0 h a b) = Ideal.exp (G (ix4 0 h 63 a)) * S (ix4 0 h a b)
      + ∑ t : Fin 64, (K (ix4 0 h t a) * Ideal.exp (G (ix4 0 h 63 a) - G (ix4 0 h t a))) * W (ix4 0 h t b) := by
    unfold stV
    pointwise []
  have h63 : G (ix4 0 h 63 a) = ((g 63 (128 * h + a) : ℝ) : EReal) := hG h 63 a
  rw [e, h63, hS h a b, Ideal.exp_coe, ← EReal.coe_mul]
  rw [Finset.sum_congr rfl fun t _ => show (K (ix4 0 h t a) * Ideal.exp (((g 63 (128 * h + a) : ℝ) : EReal) - G (ix4 0 h t a))) * W (ix4 0 h t b)
      = ((v t (128 * h + b) * (k t (128 * h + a) * Real.exp (g 63 (128 * h + a) - g t (128 * h + a))) : ℝ) : EReal) by
    rw [hK h t a, hG h t a, hW h t b, ← EReal.coe_sub, Ideal.exp_coe, ← EReal.coe_mul, ← EReal.coe_mul]
    exact congrArg (fun z : ℝ => (z : EReal)) (mul_comm _ _)]
  rw [Cert.PoolMath.coe_sum, ← EReal.coe_add]
  refine congrArg (fun z : ℝ => (z : EReal)) ?_
  unfold stc
  exact congrArg₂ (fun x y : ℝ => x + y) (mul_comm _ _) rfl

/-- The scores at an index, among the reals. -/
theorem scV_at {Q K G : FVec Ideal S1x8x64x128 .f32} {q k g : ℕ → ℕ → ℝ} (hQ : Is4 Q q) (hK : Is4 K k) (hG : Is4 G g)
    (h : Fin 8) (t s : Fin 64) : scV tri Q K G (ix4 0 h t s) = ((if s.val ≤ t.val then
      ∑ c : Fin 128, q t (128 * h + c) * k s (128 * h + c) * Real.exp (g t (128 * h + c) - g s (128 * h + c)) else 0 : ℝ) : EReal) := by
  have e : scV tri Q K G (ix4 0 h t s) = ∑ c : Fin 128, Q (ix4 0 h t c) * K (ix4 0 h s c)
      * Ideal.exp (Scalar.select (tri (ix3 t s 0)) (G (ix4 0 h t c) - G (ix4 0 h s c)) (Ideal.ofBits .f32 0xFF800000#32)) := by
    unfold scV
    pointwise []
    rfl
  rw [e, tri_at]
  by_cases hs : s.val ≤ t.val
  · rw [if_pos hs, if_pos hs, ← Cert.PoolMath.coe_sum]
    refine Finset.sum_congr rfl fun c _ => ?_
    rw [show ∀ x y : EReal, Scalar.select (1#1) x y = x from fun _ _ => rfl, hQ h t c, hK h s c, hG h t c, hG h s c, ← EReal.coe_sub, Ideal.exp_coe,
      ← EReal.coe_mul, ← EReal.coe_mul]
  · rw [if_neg hs, if_neg hs]
    refine Finset.sum_eq_zero fun c _ => ?_
    rw [show ∀ x y : EReal, Scalar.select (0#1) x y = y from fun _ _ => rfl, neg_inf, Ideal.exp_bot, mul_zero]

/-- The output at an index, among the reals. -/
theorem ouV_at {Q K G W : FVec Ideal S1x8x64x128 .f32} {S : FVec Ideal S1x8x128x128 .f32} {q k g v : ℕ → ℕ → ℝ} {s : ℕ → ℕ → ℕ → ℝ}
    (hQ : Is4 Q q) (hK : Is4 K k) (hG : Is4 G g) (hW : Is4 W v) (hS : IsS S s) (h : Fin 8) (t : Fin 64) (d : Fin 128) :
    ouV tri Q K G W S (ix4 0 h t d) = ((outc (fun r s => ∑ c : Fin 128, q r (128 * h + c) * k s (128 * h + c) * Real.exp (g r (128 * h + c) - g s (128 * h + c)))
      v (fun r l => q r l * Real.exp (g r l)) (s h) (128 * h) t d : ℝ) : EReal) := by
  have e : ouV tri Q K G W S (ix4 0 h t d) = (∑ s : Fin 64, scV tri Q K G (ix4 0 h t s) * W (ix4 0 h s d))
      + ∑ c : Fin 128, (Q (ix4 0 h t c) * Ideal.exp (G (ix4 0 h t c))) * S (ix4 0 h c d) := by
    unfold ouV
    pointwise []
  rw [e]
  rw [Finset.sum_congr rfl fun s _ => show scV tri Q K G (ix4 0 h t s) * W (ix4 0 h s d) = _ by
      rw [scV_at hQ hK hG h t s, hW h s d, ← EReal.coe_mul],
    Finset.sum_congr rfl fun c _ => show (Q (ix4 0 h t c) * Ideal.exp (G (ix4 0 h t c))) * S (ix4 0 h c d) = _ by
      rw [hQ h t c, hG h t c, hS h c d, Ideal.exp_coe, ← EReal.coe_mul, ← EReal.coe_mul],
    Cert.PoolMath.coe_sum, Cert.PoolMath.coe_sum, ← EReal.coe_add]
  rfl

/-- What is put at the counter, of the states. -/
theorem put_s (V : Valuation τ sig (Elt Ideal)) (n : Fin 128) (hc : V (Proc.devRef .tc main_v56_5) = fun _ => BitVec.ofNat 32 n.val)
    (X : S128x1x8x128x128.Idx → EReal) (U : S1x1x8x128x128.Idx → EReal) (n' : Fin 128) (h : Fin 8) (t : Fin 128) (d : Fin 128) :
    Host.dynamicUpdateSlice X U (fun k => (((![V (Proc.devRef .tc main_v56_5), constantI S_ 32 0#32,
      constantI S_ 32 0#32, constantI S_ 32 0#32, constantI S_ 32 0#32] : Fin 5 → (⟨S_, .i32⟩ : BufTy).Contents (Elt Ideal))) k (Shape.Idx.first h_S_)).toInt)
      updateFits_S128x1x8x128x128_S1x1x8x128x128 (ix5 n' 0 h t d) = if n' = n then U (ix5 0 0 h t d) else X (ix5 n' 0 h t d) := by
  have hn := n.isLt
  rw [Host.dynamicUpdateSlice_eq_updateSlice X U _ _ ![n.val, 0, 0, 0, 0] (fun a => by
      rw [hc]
      fin_cases a
      · show (min (max (BitVec.ofNat 32 n.val).toInt 0) ((128 - 1 : ℕ) : ℤ)).toNat = n.val
        rw [toInt_ofNat_of_lt (by omega)]
        omega
      all_goals rfl) ⟨rfl, fun a => by fin_cases a <;> simp <;> omega⟩]
  pointwise []
  by_cases e : n' = n
  · subst e
    rw [dif_pos ⟨le_refl _, Nat.lt_succ_self _⟩, if_pos rfl]
    congr 2
    exact Fin.ext (Nat.sub_self _)
  · rw [dif_neg (fun h => e (Fin.ext (by omega))), if_neg e]

/-- One trip's output array. -/
theorem step8_eq (V : Valuation τ sig (Elt Ideal)) : step_main_v56_8 V = Host.dynamicUpdateSlice (V (Proc.devRef .tc main_v56_8))
    (broadcastInDim S1x1x8x64x128 ![1, 2, 3, 4] bcast_S1x8x64x128_S1x1x8x64x128_1_2_3_4 (ouV (V (Proc.devRef .tc main_v56_4)) (res_main_while0b_v63 V)
    (res_main_while0b_v64 V) (res_main_while0b_v67 V) (res_main_while0b_v65 V) (V (Proc.devRef .tc main_v56_6))))
    (fun k => (((![V (Proc.devRef .tc main_v56_5), constantI S_ 32 0#32,
      constantI S_ 32 0#32, constantI S_ 32 0#32, constantI S_ 32 0#32] : Fin 5 → (⟨S_, .i32⟩ : BufTy).Contents (Elt Ideal))) k (Shape.Idx.first h_S_)).toInt)
      updateFits_S128x1x8x64x128_S1x1x8x64x128 := by
  unfold step_main_v56_8 ouV scV
  rfl

/-- One trip's output array, index by index. -/
theorem step8_at (V : Valuation τ sig (Elt Ideal)) (n : Fin 128) (hc : V (Proc.devRef .tc main_v56_5) = fun _ => BitVec.ofNat 32 n.val)
    (n' : Fin 128) (h : Fin 8) (t : Fin 64) (d : Fin 128) :
    step_main_v56_8 V (ix5 n' 0 h t d) = if n' = n then
      ouV (V (Proc.devRef .tc main_v56_4)) (res_main_while0b_v63 V) (res_main_while0b_v64 V) (res_main_while0b_v67 V) (res_main_while0b_v65 V) (V (Proc.devRef .tc main_v56_6)) (ix4 0 h t d)
      else V (Proc.devRef .tc main_v56_8) (ix5 n' 0 h t d) := by
  rw [step8_eq]
  refine (put_o V n hc _ _ n' h t d).trans ?_
  refine if_congr Iff.rfl ?_ rfl
  pointwise []

/-- One trip's array of states. -/
theorem step7_at (V : Valuation τ sig (Elt Ideal)) (n : Fin 128) (hc : V (Proc.devRef .tc main_v56_5) = fun _ => BitVec.ofNat 32 n.val)
    (n' : Fin 128) (h : Fin 8) (t : Fin 128) (d : Fin 128) :
    step_main_v56_7 V (ix5 n' 0 h t d) = if n' = n then V (Proc.devRef .tc main_v56_6) (ix4 0 h t d)
      else V (Proc.devRef .tc main_v56_7) (ix5 n' 0 h t d) := by
  refine (put_s V n hc _ _ n' h t d).trans ?_
  refine if_congr Iff.rfl ?_ rfl
  pointwise []

end Cert.HgrnRef
-- ==== Proof.HgRefD.lean ====
module

public import proofs.«01_k».proof.Proof.HgRefC

/-! The reference's loop over the chunks, and its two results. -/

@[expose] public section

set_option maxRecDepth 16384

noncomputable section

open Idealize.ShloMosaic Idealize.ShloMosaic.TcCoe Idealize.ShloMosaic.Tactic Idealize.SL.Sem

namespace Cert.HgrnRef

open Cert.Reference9Ideal Cert.Reference9Ideal.Gen Cert.HgrnValue Cert.Reference9Ideal.Value

/-- What the loop carries after `n` trips. -/
structure Inv (w : ℝ) (b P2 P3 P4 : ℕ → ℕ → ℝ) (n : ℕ) (V : Valuation τ sig (Elt Ideal)) : Prop where
  ctr : V (Proc.devRef .tc main_v56_5) = fun _ => BitVec.ofNat 32 n
  q : Is5 (V (Proc.devRef .tc main_v56_0)) (qc P2)
  k : Is5 (V (Proc.devRef .tc main_v56_1)) (kc b P3)
  v : Is5 (V (Proc.devRef .tc main_v56_2)) (vc P4)
  f : Is5 (V (Proc.devRef .tc main_v56_3)) fun k r l => Real.log (fg (b 0 l) (P3 (64 * k + r) l))
  mask : V (Proc.devRef .tc main_v56_4) = tri
  s : IsS (V (Proc.devRef .tc main_v56_6)) (stG b P3 P4 n)
  sts : ∀ n' : Fin 128, n'.val < n → ∀ (h : Fin 8) (x y : Fin 128), V (Proc.devRef .tc main_v56_7) (ix5 n' 0 h x y) = ((stG b P3 P4 n' h y x : ℝ) : EReal)
  os : ∀ n' : Fin 128, n'.val < n → ∀ (h : Fin 8) (t : Fin 64) (d : Fin 128), V (Proc.devRef .tc main_v56_8) (ix5 n' 0 h t d)
    = ((outF w b P2 P3 P4 (stG b P3 P4 n') n' t (128 * h + d) : ℝ) : EReal)

/-- The kernel's output of a chunk is the one with every decay taken between its own two rows. -/
theorem outF_ref (w : ℝ) (b P2 P3 P4 : ℕ → ℕ → ℝ) (s : ℕ → ℕ → ℕ → ℝ) (k t h d : ℕ) (hd : d < 128) :
    outF w b P2 P3 P4 s k t (128 * h + d) = outc (fun r s => ∑ c : Fin 128, qc P2 k r (128 * h + c) * kc b P3 k s (128 * h + c)
      * Real.exp (gc b P3 k r (128 * h + c) - gc b P3 k s (128 * h + c))) (vc P4 k) (fun r l => qc P2 k r l * Real.exp (gc b P3 k r l)) (s h) (128 * h) t d := by
  unfold outF
  rw [show (128 * h + d) / 128 = h by omega, show (128 * h + d) % 128 = d by omega]
  unfold outc
  refine congrArg₂ (fun x y : ℝ => x + y) (Finset.sum_congr rfl fun s _ => ?_) rfl
  by_cases hs : s.val ≤ t
  · rw [if_pos hs, if_pos hs, raw_eq w b P2 P3 k h t s.val hs]
  · rw [if_neg hs, if_neg hs]

/-- One trip. -/
theorem inv_step {w : ℝ} {b P2 P3 P4 : ℕ → ℕ → ℝ} (n : Fin 128) {V : Valuation τ sig (Elt Ideal)} (H : Inv w b P2 P3 P4 n.val V) :
    Inv w b P2 P3 P4 (n.val + 1) (STEP V) := by
  have hq : Is4 (res_main_while0b_v63 V) (qc P2 n) := pick V n H.ctr H.q
  have hk : Is4 (res_main_while0b_v64 V) (kc b P3 n) := pick V n H.ctr H.k
  have hv : Is4 (res_main_while0b_v65 V) (vc P4 n) := pick V n H.ctr H.v
  have hg : Is4 (res_main_while0b_v67 V) (gc b P3 n) := run_is V n H.ctr H.f
  refine ⟨?_, ?_, ?_, ?_, ?_, ?_, ?_, ?_, ?_⟩
  · rw [STEP_main_v56_5]
    unfold step_main_v56_5
    rw [H.ctr]
    funext i
    show BitVec.ofNat 32 n.val + 1#32 = _
    rw [BitVec.ofNat_add]
  · rw [STEP_main_v56_0]; exact H.q
  · rw [STEP_main_v56_1]; exact H.k
  · rw [STEP_main_v56_2]; exact H.v
  · rw [STEP_main_v56_3]; exact H.f
  · rw [STEP_main_v56_4]; exact H.mask
  · rw [STEP_main_v56_6]
    exact stV_is hk hg hv H.s
  · intro n' hn' h x y
    rw [STEP_main_v56_7, step7_at V n H.ctr]
    by_cases e : n' = n
    · subst e
      rw [if_pos rfl]
      exact H.s h x y
    · rw [if_neg e]
      exact H.sts n' (by have : n'.val ≠ n.val := fun h => e (Fin.ext h); omega) h x y
  · intro n' hn' h t d
    rw [STEP_main_v56_8, step8_at V n H.ctr]
    by_cases e : n' = n
    · subst e
      rw [if_pos rfl, H.mask, outF_ref _ _ _ _ _ _ _ _ _ _ d.isLt]
      exact ouV_at hq hk hg hv H.s h t d
    · rw [if_neg e]
      exact H.os n' (by have : n'.val ≠ n.val := fun h => e (Fin.ext h); omega) h t d

/-- All of them. -/
theorem inv_iter {w : ℝ} {b P2 P3 P4 : ℕ → ℕ → ℝ} {V : Valuation τ sig (Elt Ideal)} (H : Inv w b P2 P3 P4 0 V) :
    ∀ n, n ≤ 128 → Inv w b P2 P3 P4 n (STEP^[n] V)
  | 0, _ => H
  | n + 1, hn => by
    rw [Function.iterate_succ_apply']
    exact inv_step (⟨n, by omega⟩ : Fin 128) (inv_iter H n (by omega))

/-- The loop's entry. -/
theorem inv_entry (m : (ℓ : Loc nD τ sig) → Buf (Elt Ideal) ℓ) (c : Dev nD) {w : ℝ} {p L : ℕ → ℕ → ℝ}
    (hp : IsP (m (c.tc.loc main_arg0)) p) (hL : Is2 (m (c.tc.loc main_arg1)) L) :
    Inv w (bL L) p (fun r l => p r (1024 + l)) (fun r l => p r (2048 + l)) 0 (StableHlo.entryContents (preI (F := Ideal)) m c) := by
  refine ⟨ctr_entry m c, ?_, ?_, ?_, ?_, entry4 m c, ?_, fun n' h => absurd h (Nat.not_lt_zero _), fun n' h => absurd h (Nat.not_lt_zero _)⟩
  · rw [entry0]; exact ent_q _ hp
  · rw [entry1]; exact ent_k _ _ hp hL
  · rw [entry2]; exact ent_v _ hp
  · rw [entry3]; exact ent_f _ _ hp hL
  · rw [entry6]
    exact fun h a b => Ideal.ofBits_zero_f32

/-- The first result, at an index. -/
theorem out_o {w : ℝ} {b P2 P3 P4 : ℕ → ℕ → ℝ} {V : Valuation τ sig (Elt Ideal)} (H : Inv w b P2 P3 P4 128 V) (r : Fin 8192) (l : Fin 1024) :
    out_main_v60 V (ix2 r l) = ((outF w b P2 P3 P4 (stG b P3 P4 (r.val / 64)) (r.val / 64) (r.val % 64) l.val : ℝ) : EReal) := by
  have e := H.os (⟨r.val / 64, by omega⟩ : Fin 128) (by simp only []; omega) (⟨l.val / 128, by omega⟩ : Fin 8) (⟨r.val % 64, by omega⟩ : Fin 64) (⟨l.val % 128, by omega⟩ : Fin 128)
  rw [show 128 * (l.val / 128) + l.val % 128 = l.val by omega] at e
  rw [← e]
  unfold out_main_v60
  pointwise []
  done

/-- The second result, at an index. -/
theorem out_s {w : ℝ} {b P2 P3 P4 : ℕ → ℕ → ℝ} {V : Valuation τ sig (Elt Ideal)} (H : Inv w b P2 P3 P4 128 V) (h : Fin 8) (n x y : Fin 128) :
    out_main_v62 V (ix4 h n x y) = ((stG b P3 P4 n h x y : ℝ) : EReal) := by
  rw [← H.sts n n.isLt h y x]
  unfold out_main_v62
  pointwise []
  done

end Cert.HgrnRef
-- ==== Proof.HgrnEq.lean ====
/-
# The gated recurrence's forward call: the equation
-/
module

public import proofs.«01_k».proof.Proof.Gen.Pre_finite9
public import proofs.«01_k».proof.Proof.HgRefD

@[expose] public section

set_option maxRecDepth 16384

noncomputable section

open Idealize.ShloMosaic Idealize.ShloMosaic.TcCoe Idealize.SL.Sem
open Cert.PoolValue (at2)
open Cert.RmsNorm (at2_of)

namespace Cert.HgrnRef

open Cert.HgrnValue

/-- The finiteness the precondition gives, of the columns the recurrence reads. -/
theorem pre_real (a0 : FVec Ideal Cert.Pre_finite9.S8192x6656 .bf16) (a1 : FVec Ideal Cert.Pre_finite9.S2x1024 .f32)
    (h : (Cert.Pre_finite9.fn (F := Ideal) a0 a1).1 = (fun _ => 1#1) ∧ (Cert.Pre_finite9.fn (F := Ideal) a0 a1).2 = (fun _ => 1#1)) :
    ∃ p L : ℕ → ℕ → ℝ, IsP a0 p ∧ Is2 a1 L := by
  refine ⟨fun r l => (at2 a0 r l).toReal, fun r l => (at2 a1 r l).toReal, fun r l hl => ?_, fun r l => ?_⟩
  · have hr : Cert.PleValue.IsR (extf .f32 (extractStridedSlice Cert.Pre_finite9.S8192x3072 ![0, 0] a0 Cert.Pre_finite9.Gen.slices_S8192x6656_S8192x3072_0_0)
        Cert.Pre_finite9.Gen.bitsLt_bf16_f32 (ix2 r (⟨l.val, hl⟩ : Fin 3072))) :=
      Cert.PoolRef.real_of_abs _ (Cert.PoolRef.below_top _ (congrFun h.1 _))
    have e : extf .f32 (extractStridedSlice Cert.Pre_finite9.S8192x3072 ![0, 0] a0 Cert.Pre_finite9.Gen.slices_S8192x6656_S8192x3072_0_0)
        Cert.Pre_finite9.Gen.bitsLt_bf16_f32 (ix2 r (⟨l.val, hl⟩ : Fin 3072)) = a0 (ix2 r l) := by
      pointwise []
    rw [e] at hr
    obtain ⟨y, hy⟩ := hr
    show a0 (ix2 r l) = (((at2 a0 r.val l.val).toReal : ℝ) : EReal)
    rw [at2_of a0 r l, hy, EReal.toReal_coe]
  · obtain ⟨y, hy⟩ : Cert.PleValue.IsR (a1 (ix2 r l)) := Cert.PoolRef.real_of_abs _ (Cert.PoolRef.below_top _ (congrFun h.2 _))
    show a1 (ix2 r l) = (((at2 a1 r.val l.val).toReal : ℝ) : EReal)
    rw [at2_of a1 r l, hy, EReal.toReal_coe]

end Cert.HgrnRef

namespace Cert.Proof

open Cert.HgrnRef Cert.HgrnValue

/-- The kernel's two results and its arguments at the end of a run. -/
theorem run9 (m : (ℓ : Loc Cert.Kernel9Ideal.nD Cert.Kernel9Ideal.τ Cert.Kernel9Ideal.sig) → Buf (Elt Ideal) ℓ) (g : Dev Cert.Kernel9Ideal.nD → PrngReg) :
    θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
      r.2.mem ((c.tc : Thread Cert.Kernel9Ideal.nD Cert.Kernel9Ideal.τ).loc Cert.Kernel9Ideal.main_v0_0) = (Cert.Kernel9Ideal.Hgrn.dats m 0 c).arrAt 4 Cert.Kernel9Ideal.cfg0.N
      ∧ r.2.mem ((c.tc : Thread Cert.Kernel9Ideal.nD Cert.Kernel9Ideal.τ).loc Cert.Kernel9Ideal.main_v0_1) = (Cert.Kernel9Ideal.Hgrn.dats m 0 c).arrAt 5 Cert.Kernel9Ideal.cfg0.N
      ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)) :=
  (θ_run Cert.Kernel9Ideal.defs _ _).mono (fun r h c => ⟨(h.1 c).1 4, (h.1 c).1 5, h.2.1 c⟩)
    (θ_run_and (Cert.Kernel9Ideal.Hgrn.run_main m g) (Cert.Kernel9Ideal.Hgrn.frame m g))

/-- The reference of the recurrence runs, from any arguments, and leaves them unchanged. -/
theorem frameRef9 : Cert.quiescent_Reference9Ideal (hReference9Ideal := Cert.Reference9Ideal.Gen.facts) := by
  intro m g _
  exact (θ_run Cert.Reference9Ideal.defs _ _).mono
    (fun r h => ⟨fun c => (h c).2.2, sem_eq_zero_of_no_sems (by decide) r.2⟩)
    (Cert.Reference9Ideal.Value.run (F := Ideal) m g)

set_option maxHeartbeats 1000000 in
/-- From finite arguments the chunked recurrence returns what the plain chunk-by-chunk loop returns. -/
theorem algebraic9 : Cert.algebraic_Kernel9Ideal_Reference9Ideal_pre_finite9
    (hKernel9Ideal := Cert.Kernel9Ideal.Gen.facts) (hReference9Ideal := Cert.Reference9Ideal.Gen.facts) (hPre_finite9 := Cert.Pre_finite9.Gen.facts) := by
  intro m g m' g' hpre hagree
  refine ⟨_, _, run9 m g, ?_⟩
  refine (θ_run Cert.Reference9Ideal.defs _ _).mono (fun r h c => ?_) (Cert.Reference9Ideal.Value.run (F := Ideal) m' g')
  obtain ⟨p, L, hp, hL⟩ := pre_real _ _ (hpre c)
  obtain ⟨w, hw⟩ := low_word
  obtain ⟨h0, h1⟩ := hagree c
  have hp' : IsP (m' (c.tc.loc Cert.Reference9Ideal.main_arg0)) p := by rw [h0]; exact hp
  have hL' : Is2 (m' (c.tc.loc Cert.Reference9Ideal.main_arg1)) L := by rw [h1]; exact hL
  have H := inv_iter (inv_entry m' c (w := w) hp' hL') 128 (le_refl _)
  refine ⟨(h c).1.trans ?_, (h c).2.1.trans ?_, (h c).2.2⟩
  · rw [final_o m c hp hL hw]
    funext i
    exact (congrArg (Cert.Reference9Ideal.Value.out_main_v60 _) (eq_ix2 i)).trans (out_o H (i 0) (i 1))
  · rw [final_s m c hp hL]
    funext i
    exact (congrArg (Cert.Reference9Ideal.Value.out_main_v62 _) (eq_ix4 i)).trans (out_s H (i 0) (i 1) (i 2) (i 3))

end Cert.Proof

end
-- ==== Proof.MergeF.lean ====
/-
# The gates' forward call: `sigmoid ga * ya + sigmoid gb * yb`
-/
module

public import proofs.«01_k».proof.Proof.Gen.Kernel10Ideal.Value
public import proofs.«01_k».proof.Proof.Gen.Reference10Ideal.Run
public import proofs.«01_k».proof.Proof.Sigmoid
public import proofs.«01_k».proof.Proof.Merge
public import proofs.«01_k».proof.Proof.PoolB
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.MergeFwd

open Cert.Kernel10Ideal Cert.Kernel10Ideal.Gen

variable (m : (ℓ : Loc nD τ sig) → Buf (Elt Ideal) ℓ)

open Cert.MergeValue (gate)

/-- The gated sum. -/
def out (P : FVec Ideal S8192x6656 .bf16) (A B : FVec Ideal S8192x1024 .bf16) : FVec Ideal S8192x1024 .bf16 := fun i =>
  gate 4608 (by decide) P (i 0) (i 1) * A i + gate 5632 (by decide) P (i 0) (i 1) * B i

/-- The windows' block indices at each point of the grid. -/
theorem idx : ∀ t : Fin cfg0.N, win0_0.index t = ![t.val % 4, 9 + t.val / 4] ∧ win0_1.index t = ![t.val % 4, 11 + t.val / 4]
    ∧ win0_2.index t = ![t.val % 4, t.val / 4] ∧ win0_3.index t = ![t.val % 4, t.val / 4] ∧ win0_4.index t = ![t.val % 4, t.val / 4] :=
  (by decide +kernel : ∀ t : Fin grid0.N, _)

/-- What the call stores is the gated sum. -/
theorem final4 (c : Dev nD) : (dats m 0 c).arrAt 4 (cfgs 0).N
    = out (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, out, gate, Cert.Math.sigmoid_eq]
  refine congrArg₂ (fun a b : EReal => a + b) (congrArg₂ (fun a b : EReal => a * b) ?_ ?_) (congrArg₂ (fun a b : EReal => a * b) ?_ ?_) <;>
    blk_point [iblk, V, idx t]

end Cert.MergeFwd

namespace Cert.Proof

/-- The plain gated sum runs to the end and leaves the arguments unchanged. -/
theorem frameRef10 : Cert.quiescent_Reference10Ideal (hReference10Ideal := Cert.Reference10Ideal.Gen.facts) := by
  intro m g _
  exact (θ_run Cert.Reference10Ideal.defs _ _).mono
    (fun r h => ⟨fun c => (h c).2, sem_eq_zero_of_no_sems (by decide) r.2⟩)
    (Cert.Reference10Ideal.Value.run (F := Ideal) m g)

/-- The kernel's gated sum is the plain one, whatever the arguments. -/
theorem algebraic10 : Cert.algebraic_Kernel10Ideal_Reference10Ideal
    (hKernel10Ideal := Cert.Kernel10Ideal.Gen.facts) (hReference10Ideal := Cert.Reference10Ideal.Gen.facts) := by
  pair_intro
  · run_from Cert.Kernel10Ideal.Gen.run_main m g
  · run_from Cert.Reference10Ideal.Value.run m' g'
    refine Eq.trans ?_ (MergeFwd.final4 m c).symm
    funext i; pointwise [MergeFwd.out, MergeValue.gate]

end Cert.Proof

end
-- ==== Proof.PostF.lean ====
/-
# The head norm's forward call
-/
module

public import proofs.«01_k».proof.Proof.Gen.Kernel11Ideal.Value
public import proofs.«01_k».proof.Proof.Gen.Reference11Ideal.Run
public import proofs.«01_k».proof.Proof.Post
public import proofs.«01_k».proof.Proof.PostEq
public import proofs.«01_k».proof.Proof.RmsNorm
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.PostFwd

open Cert.Kernel11Ideal Cert.Kernel11Ideal.Gen

variable (m : (ℓ : Loc nD τ sig) → Buf (Elt Ideal) ℓ)

open Cert.PostValue (hm rAt sg heads at2_of gate)

/-- The normalised head, scaled and gated. -/
def out (O P : ℕ → ℕ → EReal) (G : ℕ → EReal) (r l : ℕ) : EReal := O r l * rAt O r l * G l * (P r l * sg (P r l))

/-- The block's value. -/
theorem pay1_at (X P : FVec Ideal S512x1024 .bf16) (G : FVec Ideal S1x1024 .f32) (x0 : Fin 512) (x1 : Fin 1024) :
    (k0_pay1 (F := Ideal) (k0_pay2 X) (k0_pay3 P) G (k0_pay4 X) (k0_pay5 X) (k0_pay6 X) (k0_pay7 X) (k0_pay8 X) (k0_pay9 X) (k0_pay10 X) (ix2 x0 x1) : EReal)
      = out (at2 X) (at2 P) (at2 G 0) x0.val x1.val := by
  rw [out, rAt, hm, ← heads (fun b => Ideal.div (∑ k : Fin 128, at2 X x0.val (b + k.val) * at2 X x0.val (b + k.val)) (Ideal.ofBits .f32 0x43000000#32)) x1.val x1.isLt,
    at2_of X x0 _ x1.isLt, at2_of P x0 _ x1.isLt, show (0 : ℕ) = (0 : Fin 1).val from rfl, at2_of G 0 _ x1.isLt]
  pointwise [k0_pay1, k0_pay2, k0_pay3, k0_pay5, k0_pay6, k0_pay7, k0_pay8, k0_pay9, k0_pay10, k0_pay4, sg]
  refine congrArg (fun z : EReal => (_ : EReal) * Ideal.rsqrt (z + (_ : EReal)) * (_ : EReal) * (_ : EReal)) ?_
  split_ifs <;> refine congrArg (fun z => Ideal.div z _) (Fintype.sum_congr (M := EReal) _ _ fun k => ?_) <;>
    (rw [at2_of X x0 _ (by omega)]; try simp only [Nat.zero_add])

/-- The windows' block indices at each point of the grid. -/
theorem idx : ∀ t : Fin cfg0.N, win0_0.index t = ![t.val, 0] ∧ win0_1.index t = ![t.val, 3] ∧ win0_2.index t = ![0, 0] ∧ win0_3.index t = ![t.val, 0] :=
  (by decide +kernel : ∀ t : Fin grid0.N, _)

/-- A row of the block of the recurrence's output. -/
theorem row0 (c : Dev nD) (t : Fin cfg0.N) (r : ℕ) (hr : r < 512) :
    at2 (n := 512) (m := 1024) (iblk m c 0 t) r = at2 (n := 8192) (m := 1024) (m ((c : Thread nD τ).loc main_arg0)) (512 * t.val + r) :=
  Cert.RmsNorm.row_of _ _ _ _ hr (by have := lt_of_lt_of_eq t.isLt N_0; omega) fun x0 x1 => by blk_point [iblk, V, idx t]

/-- A row of the block of the output gate. -/
theorem row1 (c : Dev nD) (t : Fin cfg0.N) (r : ℕ) (hr : r < 512) :
    at2 (n := 512) (m := 1024) (X0_1 m c t) r = gate (m ((c : Thread nD τ).loc main_arg1)) (512 * t.val + r) := by
  have ht : t.val < 16 := t.isLt
  funext l
  by_cases hl : l < 1024
  · rw [at2, gate, if_pos hl, at2, dif_pos ⟨hr, hl⟩, dif_pos ⟨by omega, by omega⟩, X0_1]
    unfold Pipeline.Window.fill
    rw [dif_pos (moved0_1 t _)]
    blk_point [iblk, V, idx t]
  · rw [at2, gate, dif_neg (fun h => hl h.2), if_neg hl]

/-- The scale. -/
theorem row2 (c : Dev nD) (t : Fin cfg0.N) :
    at2 (n := 1) (m := 1024) (iblk m c 2 t) = at2 (n := 1) (m := 1024) (m ((c : Thread nD τ).loc main_arg2)) :=
  congrArg at2 (funext fun z => by blk_point [iblk, V, idx t])

/-- The gated head norm as the kernel leaves it. -/
theorem final3 (c : Dev nD) : ((dats m 0 c).arrAt 3 cfg0.N : S8192x1024.Idx → Elt Ideal _)
    = fun i => out (at2 (m ((c : Thread nD τ).loc main_arg0))) (gate (m ((c : Thread nD τ).loc main_arg1))) (at2 (m ((c : Thread nD τ).loc main_arg2)) 0) (i 0).val (i 1).val := by
  refine (dats m 0 c).arrAt_eq_of_covers 3 _ (by decide +kernel) fun t _ y => ?_
  blk_simp
  rw [after0_3, outsAt0]; frame_out
  refine (congrArg (k0_pay1 (F := Ideal) _ _ _ _ _ _ _ _ _ _) (eq_ix2 y)).trans ((pay1_at _ _ _ (y 0) (y 1)).trans ?_)
  simp only [out, rAt, hm, row0 m c t _ (y 0).isLt, row1 m c t _ (y 0).isLt, row2]
  refine congrArg₂ (out _ _ _) ?_ ?_
  · blk_point [idx t]
    exact Nat.mul_comm _ _
  · blk_point [idx t]

end Cert.PostFwd

namespace Cert.PostFwd

open Cert.Reference3Ideal Cert.Reference3Ideal.Gen Cert.PostValue Cert.PostRef

/-- The reference's value. -/
def refOut (o : FVec Ideal S8192x1024 .bf16) (p : FVec Ideal S8192x6656 .bf16) (g : FVec Ideal S1x1024 .f32) : FVec Ideal S8192x1024 .bf16 :=
  truncf .bf16 (shapeCast _ (mulf (mulf (mulf (v4 o) (broadcastInDim S8192x8x128 ![0, 1, 2] bcast_S8192x8x1_S8192x8x128_0_1_2 (v12 o)))
    (broadcastInDim S8192x8x128 ![0, 1, 2] bcast_S1x8x128_S8192x8x128_0_1_2 (broadcastInDim S1x8x128 ![1, 2] bcast_S8x128_S1x8x128_1_2 (v18 g))))
    (mulf (v22 p) (v23_2 p))) shapeCasts_S8192x8x128_S8192x1024) bitsLt_bf16_f32

/-- It is the kernel's. -/
theorem refOut_at (o : FVec Ideal S8192x1024 .bf16) (p : FVec Ideal S8192x6656 .bf16) (g : FVec Ideal S1x1024 .f32) (r : Fin 8192) (l : Fin 1024) :
    (refOut o p g (ix2 r l) : EReal) = out (at2 o) (gate p) (at2 g 0) r.val l.val := by
  have h := v12_at o r (⟨l.val / 128, by omega⟩ : Fin 8) 0
  rw [out, rAt, hm, show at2 g 0 l.val = g (ix2 0 l) from at2_of g 0 _ l.isLt, ← h]
  pointwise [refOut, v18, v23_at, v4_at, v22_at]
  simp only [Nat.div_add_mod']

end Cert.PostFwd

namespace Cert.Proof

/-- The plain head norm runs to the end and leaves the arguments unchanged. -/
theorem frameRef11 : Cert.quiescent_Reference11Ideal (hReference11Ideal := Cert.Reference11Ideal.Gen.facts) := by
  intro m g _
  exact (θ_run Cert.Reference11Ideal.defs _ _).mono
    (fun r h => ⟨fun c => (h c).2, sem_eq_zero_of_no_sems (by decide) r.2⟩)
    (Cert.Reference11Ideal.Value.run (F := Ideal) m g)

/-- The kernel's gated head norm is the plain one, whatever the arguments. -/
theorem algebraic11 : Cert.algebraic_Kernel11Ideal_Reference11Ideal
    (hKernel11Ideal := Cert.Kernel11Ideal.Gen.facts) (hReference11Ideal := Cert.Reference11Ideal.Gen.facts) := by
  pair_intro
  · run_from Cert.Kernel11Ideal.Gen.run_main m g
  · run_from Cert.Reference11Ideal.Value.run m' g'
    refine Eq.trans ?_ (PostFwd.final3 m c).symm
    funext i
    rw [eq_ix2 i]
    exact PostFwd.refOut_at _ _ _ (i 0) (i 1)

end Cert.Proof

end
-- ==== Proof.RmsF.lean ====
/-
# The norm's forward call
-/
module

public import proofs.«01_k».proof.Proof.Gen.Kernel12Ideal.Value
public import proofs.«01_k».proof.Proof.Gen.Reference12Ideal.Run
public import proofs.«01_k».proof.Proof.RmsNorm
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.RmsFwd

open Cert.Kernel12Ideal Cert.Kernel12Ideal.Gen

variable (m : (ℓ : Loc nD τ sig) → Buf (Elt Ideal) ℓ)

open Cert.RmsNorm (rW rm at2_of)

/-- The normalised row, scaled. -/
def nrm (X : ℕ → ℕ → EReal) (G : ℕ → EReal) (r l : ℕ) : EReal := X r l * rW X r * G l

/-- The same at an index. -/
theorem nrm_at {n : ℕ} (X : (⟨2, ![n, 1024]⟩ : Shape).Idx → EReal) (G : (⟨2, ![1, 1024]⟩ : Shape).Idx → EReal) (r : Fin n) (l : Fin 1024) :
    nrm (at2 X) (at2 G 0) r.val l.val = X (ix2 r l) * Ideal.rsqrt (Ideal.div (∑ k : Fin 1024, X (ix2 r k) * X (ix2 r k)) (Ideal.ofBits .f32 0x44800000#32)
      + Ideal.ofBits .f32 0x358637BD#32) * G (ix2 0 l) := by
  simp only [nrm, rW, rm, at2_of, show (0 : ℕ) = (0 : Fin 1).val from rfl]

/-- The block's norm. -/
theorem pay1_at (X : FVec Ideal S512x1024 .f32) (G : FVec Ideal S1x1024 .f32) (x0 : Fin 512) (x1 : Fin 1024) :
    (k0_pay1 (F := Ideal) X G (ix2 x0 x1) : EReal) = nrm (at2 X) (at2 G 0) x0.val x1.val := by
  simp only [nrm, rW, rm, at2_of, show (0 : ℕ) = (0 : Fin 1).val from rfl]
  pointwise [k0_pay1]

/-- The windows' block indices at each point of the grid. -/
theorem idx : ∀ t : Fin cfg0.N, win0_0.index t = ![t.val, 0] ∧ win0_1.index t = ![0, 0] ∧ win0_2.index t = ![t.val, 0] :=
  (by decide +kernel : ∀ t : Fin grid0.N, _)

/-- A row of the block. -/
theorem row0 (c : Dev nD) (t : Fin cfg0.N) (r : ℕ) (hr : r < 512) :
    at2 (n := 512) (m := 1024) (iblk m c 0 t) r = at2 (n := 8192) (m := 1024) (m ((c : Thread nD τ).loc main_arg0)) (512 * t.val + r) :=
  Cert.RmsNorm.row_of _ _ _ _ hr (by have := lt_of_lt_of_eq t.isLt N_0; omega) fun x0 x1 => by blk_point [iblk, V, idx t]

/-- The scale. -/
theorem row1 (c : Dev nD) (t : Fin cfg0.N) :
    at2 (n := 1) (m := 1024) (iblk m c 1 t) = at2 (n := 1) (m := 1024) (m ((c : Thread nD τ).loc main_arg1)) :=
  congrArg at2 (funext fun z => by blk_point [iblk, V, idx t])

/-- The norm as the kernel leaves it. -/
theorem final2 (c : Dev nD) : ((dats m 0 c).arrAt 2 cfg0.N : S8192x1024.Idx → Elt Ideal _)
    = fun i => nrm (at2 (m ((c : Thread nD τ).loc main_arg0))) (at2 (m ((c : Thread nD τ).loc main_arg1)) 0) (i 0).val (i 1).val := by
  refine (dats m 0 c).arrAt_eq_of_covers 2 _ (by decide +kernel) fun t _ y => ?_
  blk_simp
  rw [after0_2]; frame_out
  refine (congrArg (k0_pay1 (F := Ideal) _ _) (eq_ix2 y)).trans ((pay1_at _ _ (y 0) (y 1)).trans ?_)
  simp only [nrm, rW, rm, row0 m c t _ (y 0).isLt, row1]
  refine congrArg₂ (nrm _ _) ?_ ?_
  · blk_point [idx t]
    exact Nat.mul_comm _ _
  · blk_point [idx t]

end Cert.RmsFwd

namespace Cert.Proof

/-- The plain norm runs to the end and leaves the arguments unchanged. -/
theorem frameRef12 : Cert.quiescent_Reference12Ideal (hReference12Ideal := Cert.Reference12Ideal.Gen.facts) := by
  intro m g _
  exact (θ_run Cert.Reference12Ideal.defs _ _).mono
    (fun r h => ⟨fun c => (h c).2, sem_eq_zero_of_no_sems (by decide) r.2⟩)
    (Cert.Reference12Ideal.Value.run (F := Ideal) m g)

/-- The kernel's norm is the plain one, whatever the arguments. -/
theorem algebraic12 : Cert.algebraic_Kernel12Ideal_Reference12Ideal
    (hKernel12Ideal := Cert.Kernel12Ideal.Gen.facts) (hReference12Ideal := Cert.Reference12Ideal.Gen.facts) := by
  pair_intro
  · run_from Cert.Kernel12Ideal.Gen.run_main m g
  · run_from Cert.Reference12Ideal.Value.run m' g'
    refine Eq.trans ?_ (RmsFwd.final2 m c).symm
    funext i
    refine Eq.trans ?_ (RmsFwd.nrm_at (n := 8192) _ _ (i 0) (i 1)).symm
    pointwise []

end Cert.Proof

end
-- ==== Proof.DownF.lean ====
/-
# The feed-forward layer's second product, with the residual and the next norm
-/
module

public import proofs.«01_k».proof.Proof.Gen.Kernel13Ideal.Value
public import proofs.«01_k».proof.Proof.Gen.Reference13Ideal.Run
public import proofs.«01_k».proof.Proof.MidEq
public import proofs.«01_k».proof.Proof.RmsF
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.DownFwd

open Cert.Kernel13Ideal Cert.Kernel13Ideal.Gen

variable (m : (ℓ : Loc nD τ sig) → Buf (Elt Ideal) ℓ)

/-- The residual and the scaled product, over rows of length `K`. -/
def res (K : ℕ) (s : EReal) (S W X : ℕ → ℕ → EReal) (r l : ℕ) : EReal := X r l + s * ∑ k : Fin K, S r k.val * W k.val l

open Cert.RmsNorm (at2_of)
open Cert.RmsFwd (nrm)

/-- A chunk of the residual and the scaled product. -/
theorem pay3_at (S : FVec Ideal S1024x2816 .bf16) (W : FVec Ideal S2816x1024 .bf16) (X : FVec Ideal S1024x1024 .f32) (o : ℕ)
    (h : ∀ a, (![0, o] : Fin 2 → ℕ) a + S1024x256.size a ≤ S1024x1024.size a) (h' : ∀ a, (![0, o] : Fin 2 → ℕ) a + S2816x256.size a ≤ S2816x1024.size a) (r : Fin 1024) (j : Fin 256) :
    k0_pay3 (F := Ideal) (@View.ld (Elt Ideal) S1024x1024 .f32 X (Rect.unit (s := S1024x1024) ![0, o] S1024x256.size h)) S (@View.ld (Elt Ideal) S2816x1024 .bf16 W (Rect.unit (s := S2816x1024) ![0, o] S2816x256.size h')) (ix2 r j)
      = res 2816 (Ideal.ofBits .f32 0x3F000000#32) (at2 S) (at2 W) (at2 X) r.val (o + j.val) := by
  have h0 : o + 256 ≤ 1024 := h 1
  have hX := at2_of X r ⟨o + j.val, by omega⟩
  have hW := fun k : Fin 2816 => at2_of W k ⟨o + j.val, by omega⟩
  simp only [res, at2_of S, hX, hW]
  pointwise [k0_pay3]

/-- The chunk's value at a place of the block. -/
theorem chunk (S : FVec Ideal S1024x2816 .bf16) (W : FVec Ideal S2816x1024 .bf16) (X : FVec Ideal S1024x1024 .f32) (o : ℕ)
    (h : ∀ a, (![0, o] : Fin 2 → ℕ) a + S1024x256.size a ≤ S1024x1024.size a) (h' : ∀ a, (![0, o] : Fin 2 → ℕ) a + S2816x256.size a ≤ S2816x1024.size a)
    (x : S1024x256.Idx) (p q : ℕ) (hp : p = (x 0).val) (hq : q = o + (x 1).val) :
    k0_pay3 (F := Ideal) (@View.ld (Elt Ideal) S1024x1024 .f32 X (Rect.unit (s := S1024x1024) ![0, o] S1024x256.size h)) S (@View.ld (Elt Ideal) S2816x1024 .bf16 W (Rect.unit (s := S2816x1024) ![0, o] S2816x256.size h')) x
      = res 2816 (Ideal.ofBits .f32 0x3F000000#32) (at2 S) (at2 W) (at2 X) p q := by
  rw [hp, hq]
  exact (congrArg (k0_pay3 (F := Ideal) _ _ _) (eq_ix2 x)).trans (pay3_at S W X o h h' (x 0) (x 1))

/-- The windows' block indices at each point of the grid. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- A row of the first factor's block. -/
theorem row0 (c : Dev nD) (t : Fin cfg0.N) (r : ℕ) (hr : r < 1024) :
    at2 (n := 1024) (m := 2816) (iblk m c 0 t) r = at2 (n := 8192) (m := 2816) (m ((c : Thread nD τ).loc main_arg0)) (1024 * t.val + r) :=
  Cert.RmsNorm.row_of _ _ _ _ hr (by have := lt_of_lt_of_eq t.isLt N_0; omega) fun x0 x1 => by blk_point [iblk, V, idx t]

/-- A row of the residual's block. -/
theorem row2 (c : Dev nD) (t : Fin cfg0.N) (r : ℕ) (hr : r < 1024) :
    at2 (n := 1024) (m := 1024) (iblk m c 2 t) r = at2 (n := 8192) (m := 1024) (m ((c : Thread nD τ).loc main_arg2)) (1024 * t.val + r) :=
  Cert.RmsNorm.row_of _ _ _ _ hr (by have := lt_of_lt_of_eq t.isLt N_0; omega) fun x0 x1 => by blk_point [iblk, V, idx t]

/-- The weights as the launch gets them. -/
def wN (W : FVec Ideal S1x2816x1024 .f32) : FVec Ideal S2816x1024 .bf16 :=
  truncf .bf16 (shapeCast S2816x1024 W shapeCasts_S1x2816x1024_S2816x1024) bitsLt_bf16_f32

/-- The weights at the launch's entry. -/
theorem entry_w (c : Dev nD) : V m c main_v1 = wN (m ((c : Thread nD τ).loc main_arg1)) := by
  show StableHlo.after _ _ _ = _
  after_results_simp
  rfl

/-- The weights. -/
theorem wts (c : Dev nD) (t : Fin cfg0.N) : at2 (n := 2816) (m := 1024) (iblk m c 1 t) = at2 (wN (m ((c : Thread nD τ).loc main_arg1))) :=
  (congrArg at2 (funext fun z => by blk_point [iblk, idx t])).trans (congrArg at2 (entry_w m c))

/-- The norm's scale. -/
theorem scl (c : Dev nD) (t : Fin cfg0.N) : at2 (n := 1) (m := 1024) (iblk m c 3 t) = at2 (n := 1) (m := 1024) (m ((c : Thread nD τ).loc main_arg3)) :=
  congrArg at2 (funext fun z => by blk_point [iblk, V, idx t])

/-- The new residual, from the arguments. -/
def hid (s : FVec Ideal S8192x2816 .bf16) (W : FVec Ideal S1x2816x1024 .f32) (x : FVec Ideal S8192x1024 .f32) : ℕ → ℕ → EReal :=
  res 2816 (Ideal.ofBits .f32 0x3F000000#32) (at2 s) (at2 (wN W)) (at2 x)

/-- The residual's block at a point of the grid. -/
def blk (c : Dev nD) (t : Fin cfg0.N) : FVec Ideal S1024x1024 .f32 := fun y => res 2816 (Ideal.ofBits .f32 0x3F000000#32)
  (at2 (n := 1024) (m := 2816) (iblk m c 0 t)) (at2 (n := 2816) (m := 1024) (iblk m c 1 t)) (at2 (n := 1024) (m := 1024) (iblk m c 2 t)) (y 0).val (y 1).val

theorem blk_at (c : Dev nD) (t : Fin cfg0.N) (r : Fin 1024) (l : Fin 1024) :
    at2 (n := 1024) (m := 1024) (blk m c t) r.val l.val = hid (m ((c : Thread nD τ).loc main_arg0)) (m ((c : Thread nD τ).loc main_arg1)) (m ((c : Thread nD τ).loc main_arg2)) (1024 * t.val + r.val) l.val := by
  rw [at2_of, blk, hid]
  simp only [res, ix2_0, ix2_1, row0 m c t _ r.isLt, row2 m c t _ r.isLt, wts]

/-- The new residual as the kernel leaves it. -/
theorem final4 (c : Dev nD) : ((dats m 0 c).arrAt 4 cfg0.N : S8192x1024.Idx → Elt Ideal _)
    = fun i => hid (m ((c : Thread nD τ).loc main_arg0)) (m ((c : Thread nD τ).loc main_arg1)) (m ((c : Thread nD τ).loc main_arg2)) (i 0).val (i 1).val := by
  refine (dats m 0 c).arrAt_eq_of_covers 4 _ (by decide +kernel) fun t _ y => ?_
  blk_simp
  rw [after0_4]; dsimp only [outsAt0]; frame_out
  refine Eq.trans (b := blk m c t y) ?_ ?_
  · rw [blk]
    canon_tiles x h <;> first | exact chunk _ _ _ _ _ _ x _ _ h0 h1 | exact chunk _ _ _ _ _ _ x _ _ h0 (h1.trans (Nat.zero_add _).symm)
  refine (at2_of (blk m c t) (y 0) (y 1)).symm.trans ((blk_at m c t (y 0) (y 1)).trans ?_)
  refine congrArg₂ (hid _ _ _) ?_ ?_
  · blk_point [idx t]
    exact Nat.mul_comm _ _
  · blk_point [idx t]

/-- A full block's norm. -/
theorem pay2_at (X : FVec Ideal S1024x1024 .f32) (G : FVec Ideal S1x1024 .f32) (x0 : Fin 1024) (x1 : Fin 1024) :
    (k0_pay2 (F := Ideal) X G (ix2 x0 x1) : EReal) = nrm (at2 X) (at2 G 0) x0.val x1.val := by
  simp only [nrm, Cert.RmsNorm.rW, Cert.RmsNorm.rm, at2_of, show (0 : ℕ) = (0 : Fin 1).val from rfl]
  pointwise [k0_pay2]

/-- The norm as the kernel leaves it. -/
theorem final5 (c : Dev nD) : ((dats m 0 c).arrAt 5 cfg0.N : S8192x1024.Idx → Elt Ideal _)
    = fun i => nrm (hid (m ((c : Thread nD τ).loc main_arg0)) (m ((c : Thread nD τ).loc main_arg1)) (m ((c : Thread nD τ).loc main_arg2)))
        (at2 (m ((c : Thread nD τ).loc main_arg3)) 0) (i 0).val (i 1).val := by
  refine (dats m 0 c).arrAt_eq_of_covers 5 _ (by decide +kernel) fun t _ y => ?_
  blk_simp
  rw [after0_5]; dsimp only [outsAt0]; frame_out
  rw [View.readCov_eq_canon']
  refine Eq.trans (b := k0_pay2 (F := Ideal) (blk m c t) (iblk m c 3 t) y) (congrArg (fun X => k0_pay2 (F := Ideal) X (iblk m c 3 t) y) (funext fun z => ?_)) ?_
  · refine Eq.trans (b := blk m c t ((Rect.unit (s := S1024x1024) ![0, 0] S1024x1024.size inb_S1024x1024_S1024x1024_0_0).toLoadRect.idx z)) ?_ (congrArg (blk m c t) (funext fun a => ?_))
    · rw [blk]
      canon_tiles x h <;> first | exact chunk _ _ _ _ _ _ x _ _ h0 h1 | exact chunk _ _ _ _ _ _ x _ _ h0 (h1.trans (Nat.zero_add _).symm)
    · match a with
      | 0 => exact Fin.ext (by show 0 + 1 * (z 0).val = (z 0).val; omega)
      | 1 => exact Fin.ext (by show 0 + 1 * (z 1).val = (z 1).val; omega)
  refine (congrArg (k0_pay2 (F := Ideal) _ _) (eq_ix2 y)).trans ((pay2_at _ _ (y 0) (y 1)).trans ?_)
  refine Eq.trans (b := nrm (hid (m ((c : Thread nD τ).loc main_arg0)) (m ((c : Thread nD τ).loc main_arg1)) (m ((c : Thread nD τ).loc main_arg2)))
    (at2 (m ((c : Thread nD τ).loc main_arg3)) 0) (1024 * t.val + (y 0).val) (y 1).val) ?_ ?_
  · simp only [nrm, Cert.RmsNorm.rW, Cert.RmsNorm.rm, blk_at m c t (y 0), scl]
    exact congrArg (fun a : EReal => a * _ * _) (blk_at m c t (y 0) (y 1))
  refine congrArg₂ (nrm _ _) ?_ ?_
  · blk_point [idx t]
    exact Nat.mul_comm _ _
  · blk_point [idx t]

end Cert.DownFwd

namespace Cert.DownRef

open Cert.Reference13Ideal Cert.Reference13Ideal.Gen
open Cert.RmsNorm (at2_of rW rm)
open Cert.RmsFwd (nrm)
open Cert.DownFwd (res)
open Cert.DownFwd (hid wN)

/-- The norm of the rows, as the plain lines write it. -/
def normR (X : FVec Ideal S8192x1024 .f32) (G : FVec Ideal S1x1024 .f32) : FVec Ideal S8192x1024 .bf16 :=
  truncf .bf16 (mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ G shapeCasts_S1x1024_S1024)))) bitsLt_bf16_f32

/-- It is the norm of the values that stand in the array. -/
theorem normR_at (X : FVec Ideal S8192x1024 .f32) (G : FVec Ideal S1x1024 .f32) (H : ℕ → ℕ → EReal) (hX : ∀ (r : Fin 8192) (l : Fin 1024), (X (ix2 r l) : EReal) = H r.val l.val)
    (r : Fin 8192) (l : Fin 1024) : (normR X G (ix2 r l) : EReal) = nrm H (at2 G 0) r.val l.val := by
  simp only [nrm, rW, rm, ← hX, at2_of, show (0 : ℕ) = (0 : Fin 1).val from rfl]
  pointwise [normR]

/-- The new residual, as the plain lines write it. -/
def hidR (a0 : FVec Ideal S8192x2816 .bf16) (a1 : FVec Ideal S1x2816x1024 .f32) (a2 : FVec Ideal S8192x1024 .f32) : FVec Ideal S8192x1024 .f32 :=
  addf a2 (mulf (broadcastInDim S8192x1024 ![] bcast_S_S8192x1024 (constant S_ .f32 0x3F000000#32)) (Host.dotGeneral dot_S8192x2816_S2816x1024_S8192x1024_1_0_0_1_n_n none (extf .f32 a0 bitsLt_bf16_f32) (shapeCast _ a1 shapeCasts_S1x2816x1024_S2816x1024)))

theorem hidR_at (a0 : FVec Ideal S8192x2816 .bf16) (a1 : FVec Ideal S1x2816x1024 .f32) (a2 : FVec Ideal S8192x1024 .f32) (r : Fin 8192) (l : Fin 1024) :
    (hidR a0 a1 a2 (ix2 r l) : EReal) = hid a0 a1 a2 r.val l.val := by
  rw [hid, res]
  simp only [at2_of]
  pointwise [hidR, wN]

end Cert.DownRef

namespace Cert.DownFwd

end Cert.DownFwd

namespace Cert.Proof

/-- The plain lines run to the end and leave the arguments unchanged. -/
theorem frameRef13 : Cert.quiescent_Reference13Ideal (hReference13Ideal := Cert.Reference13Ideal.Gen.facts) := by
  intro m g _
  exact (θ_run Cert.Reference13Ideal.defs _ _).mono
    (fun r h => ⟨fun c => (h c).2.2, sem_eq_zero_of_no_sems (by decide) r.2⟩)
    (Cert.Reference13Ideal.Value.run (F := Ideal) m g)

/-- The kernel leaves the plain residual and its plain norm, whatever the arguments. -/
theorem algebraic13 : Cert.algebraic_Kernel13Ideal_Reference13Ideal
    (hKernel13Ideal := Cert.Kernel13Ideal.Gen.facts) (hReference13Ideal := Cert.Reference13Ideal.Gen.facts) := by
  pair_intro
  · run_from Cert.Kernel13Ideal.Gen.run_main m g
  · run_from Cert.Reference13Ideal.Value.run m' g'
    · refine Eq.trans ?_ (DownFwd.final4 m c).symm
      funext i
      rw [eq_ix2 i]
      exact DownRef.hidR_at _ _ _ (i 0) (i 1)
    · refine Eq.trans ?_ (DownFwd.final5 m c).symm
      funext i
      rw [eq_ix2 i]
      exact DownRef.normR_at (DownRef.hidR _ _ _) _ _ (DownRef.hidR_at _ _ _) (i 0) (i 1)

end Cert.Proof

end
-- ==== Proof.WoutF.lean ====
/-
# The mixer's last product, with the residual and the next norm
-/
module

public import proofs.«01_k».proof.Proof.Gen.Kernel14Ideal.Value
public import proofs.«01_k».proof.Proof.Gen.Reference14Ideal.Run
public import proofs.«01_k».proof.Proof.DownF
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.WoutFwd

open Cert.Kernel14Ideal Cert.Kernel14Ideal.Gen

variable (m : (ℓ : Loc nD τ sig) → Buf (Elt Ideal) ℓ)

open Cert.DownFwd (res)

open Cert.RmsNorm (at2_of)
open Cert.RmsFwd (nrm)

/-- A chunk of the residual and the scaled product. -/
theorem pay3_at (S : FVec Ideal S1024x1024 .bf16) (W : FVec Ideal S1024x1024 .bf16) (X : FVec Ideal S1024x1024 .f32) (o : ℕ)
    (h : ∀ a, (![0, o] : Fin 2 → ℕ) a + S1024x256.size a ≤ S1024x1024.size a) (h' : ∀ a, (![0, o] : Fin 2 → ℕ) a + S1024x256.size a ≤ S1024x1024.size a) (r : Fin 1024) (j : Fin 256) :
    k0_pay3 (F := Ideal) (@View.ld (Elt Ideal) S1024x1024 .f32 X (Rect.unit (s := S1024x1024) ![0, o] S1024x256.size h)) S (@View.ld (Elt Ideal) S1024x1024 .bf16 W (Rect.unit (s := S1024x1024) ![0, o] S1024x256.size h')) (ix2 r j)
      = res 1024 (Ideal.ofBits .f32 0x3F800000#32) (at2 S) (at2 W) (at2 X) r.val (o + j.val) := by
  have h0 : o + 256 ≤ 1024 := h 1
  have hX := at2_of X r ⟨o + j.val, by omega⟩
  have hW := fun k : Fin 1024 => at2_of W k ⟨o + j.val, by omega⟩
  simp only [res, at2_of S, hX, hW]
  pointwise [k0_pay3]

/-- The chunk's value at a place of the block. -/
theorem chunk (S : FVec Ideal S1024x1024 .bf16) (W : FVec Ideal S1024x1024 .bf16) (X : FVec Ideal S1024x1024 .f32) (o : ℕ)
    (h : ∀ a, (![0, o] : Fin 2 → ℕ) a + S1024x256.size a ≤ S1024x1024.size a) (h' : ∀ a, (![0, o] : Fin 2 → ℕ) a + S1024x256.size a ≤ S1024x1024.size a)
    (x : S1024x256.Idx) (p q : ℕ) (hp : p = (x 0).val) (hq : q = o + (x 1).val) :
    k0_pay3 (F := Ideal) (@View.ld (Elt Ideal) S1024x1024 .f32 X (Rect.unit (s := S1024x1024) ![0, o] S1024x256.size h)) S (@View.ld (Elt Ideal) S1024x1024 .bf16 W (Rect.unit (s := S1024x1024) ![0, o] S1024x256.size h')) x
      = res 1024 (Ideal.ofBits .f32 0x3F800000#32) (at2 S) (at2 W) (at2 X) p q := by
  rw [hp, hq]
  exact (congrArg (k0_pay3 (F := Ideal) _ _ _) (eq_ix2 x)).trans (pay3_at S W X o h h' (x 0) (x 1))

/-- The windows' block indices at each point of the grid. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- A row of the first factor's block. -/
theorem row0 (c : Dev nD) (t : Fin cfg0.N) (r : ℕ) (hr : r < 1024) :
    at2 (n := 1024) (m := 1024) (iblk m c 0 t) r = at2 (n := 8192) (m := 1024) (m ((c : Thread nD τ).loc main_arg0)) (1024 * t.val + r) :=
  Cert.RmsNorm.row_of _ _ _ _ hr (by have := lt_of_lt_of_eq t.isLt N_0; omega) fun x0 x1 => by blk_point [iblk, V, idx t]

/-- A row of the residual's block. -/
theorem row2 (c : Dev nD) (t : Fin cfg0.N) (r : ℕ) (hr : r < 1024) :
    at2 (n := 1024) (m := 1024) (iblk m c 2 t) r = at2 (n := 8192) (m := 1024) (m ((c : Thread nD τ).loc main_arg2)) (1024 * t.val + r) :=
  Cert.RmsNorm.row_of _ _ _ _ hr (by have := lt_of_lt_of_eq t.isLt N_0; omega) fun x0 x1 => by blk_point [iblk, V, idx t]

/-- The weights as the launch gets them. -/
def wN (W : FVec Ideal S1x1024x1024 .f32) : FVec Ideal S1024x1024 .bf16 :=
  truncf .bf16 (shapeCast S1024x1024 W shapeCasts_S1x1024x1024_S1024x1024) bitsLt_bf16_f32

/-- The weights at the launch's entry. -/
theorem entry_w (c : Dev nD) : V m c main_v1 = wN (m ((c : Thread nD τ).loc main_arg1)) := by
  show StableHlo.after _ _ _ = _
  after_results_simp
  rfl

/-- The weights. -/
theorem wts (c : Dev nD) (t : Fin cfg0.N) : at2 (n := 1024) (m := 1024) (iblk m c 1 t) = at2 (wN (m ((c : Thread nD τ).loc main_arg1))) :=
  (congrArg at2 (funext fun z => by blk_point [iblk, idx t])).trans (congrArg at2 (entry_w m c))

/-- The norm's scale. -/
theorem scl (c : Dev nD) (t : Fin cfg0.N) : at2 (n := 1) (m := 1024) (iblk m c 3 t) = at2 (n := 1) (m := 1024) (m ((c : Thread nD τ).loc main_arg3)) :=
  congrArg at2 (funext fun z => by blk_point [iblk, V, idx t])

/-- The new residual, from the arguments. -/
def hid (s : FVec Ideal S8192x1024 .bf16) (W : FVec Ideal S1x1024x1024 .f32) (x : FVec Ideal S8192x1024 .f32) : ℕ → ℕ → EReal :=
  res 1024 (Ideal.ofBits .f32 0x3F800000#32) (at2 s) (at2 (wN W)) (at2 x)

/-- The residual's block at a point of the grid. -/
def blk (c : Dev nD) (t : Fin cfg0.N) : FVec Ideal S1024x1024 .f32 := fun y => res 1024 (Ideal.ofBits .f32 0x3F800000#32)
  (at2 (n := 1024) (m := 1024) (iblk m c 0 t)) (at2 (n := 1024) (m := 1024) (iblk m c 1 t)) (at2 (n := 1024) (m := 1024) (iblk m c 2 t)) (y 0).val (y 1).val

theorem blk_at (c : Dev nD) (t : Fin cfg0.N) (r : Fin 1024) (l : Fin 1024) :
    at2 (n := 1024) (m := 1024) (blk m c t) r.val l.val = hid (m ((c : Thread nD τ).loc main_arg0)) (m ((c : Thread nD τ).loc main_arg1)) (m ((c : Thread nD τ).loc main_arg2)) (1024 * t.val + r.val) l.val := by
  rw [at2_of, blk, hid]
  simp only [res, ix2_0, ix2_1, row0 m c t _ r.isLt, row2 m c t _ r.isLt, wts]

/-- The new residual as the kernel leaves it. -/
theorem final4 (c : Dev nD) : ((dats m 0 c).arrAt 4 cfg0.N : S8192x1024.Idx → Elt Ideal _)
    = fun i => hid (m ((c : Thread nD τ).loc main_arg0)) (m ((c : Thread nD τ).loc main_arg1)) (m ((c : Thread nD τ).loc main_arg2)) (i 0).val (i 1).val := by
  refine (dats m 0 c).arrAt_eq_of_covers 4 _ (by decide +kernel) fun t _ y => ?_
  blk_simp
  rw [after0_4]; dsimp only [outsAt0]; frame_out
  refine Eq.trans (b := blk m c t y) ?_ ?_
  · rw [blk]
    canon_tiles x h <;> first | exact chunk _ _ _ _ _ _ x _ _ h0 h1 | exact chunk _ _ _ _ _ _ x _ _ h0 (h1.trans (Nat.zero_add _).symm)
  refine (at2_of (blk m c t) (y 0) (y 1)).symm.trans ((blk_at m c t (y 0) (y 1)).trans ?_)
  refine congrArg₂ (hid _ _ _) ?_ ?_
  · blk_point [idx t]
    exact Nat.mul_comm _ _
  · blk_point [idx t]

/-- A full block's norm. -/
theorem pay2_at (X : FVec Ideal S1024x1024 .f32) (G : FVec Ideal S1x1024 .f32) (x0 : Fin 1024) (x1 : Fin 1024) :
    (k0_pay2 (F := Ideal) X G (ix2 x0 x1) : EReal) = nrm (at2 X) (at2 G 0) x0.val x1.val := by
  simp only [nrm, Cert.RmsNorm.rW, Cert.RmsNorm.rm, at2_of, show (0 : ℕ) = (0 : Fin 1).val from rfl]
  pointwise [k0_pay2]

/-- The norm as the kernel leaves it. -/
theorem final5 (c : Dev nD) : ((dats m 0 c).arrAt 5 cfg0.N : S8192x1024.Idx → Elt Ideal _)
    = fun i => nrm (hid (m ((c : Thread nD τ).loc main_arg0)) (m ((c : Thread nD τ).loc main_arg1)) (m ((c : Thread nD τ).loc main_arg2)))
        (at2 (m ((c : Thread nD τ).loc main_arg3)) 0) (i 0).val (i 1).val := by
  refine (dats m 0 c).arrAt_eq_of_covers 5 _ (by decide +kernel) fun t _ y => ?_
  blk_simp
  rw [after0_5]; dsimp only [outsAt0]; frame_out
  rw [View.readCov_eq_canon']
  refine Eq.trans (b := k0_pay2 (F := Ideal) (blk m c t) (iblk m c 3 t) y) (congrArg (fun X => k0_pay2 (F := Ideal) X (iblk m c 3 t) y) (funext fun z => ?_)) ?_
  · refine Eq.trans (b := blk m c t ((Rect.unit (s := S1024x1024) ![0, 0] S1024x1024.size inb_S1024x1024_S1024x1024_0_0).toLoadRect.idx z)) ?_ (congrArg (blk m c t) (funext fun a => ?_))
    · rw [blk]
      canon_tiles x h <;> first | exact chunk _ _ _ _ _ _ x _ _ h0 h1 | exact chunk _ _ _ _ _ _ x _ _ h0 (h1.trans (Nat.zero_add _).symm)
    · match a with
      | 0 => exact Fin.ext (by show 0 + 1 * (z 0).val = (z 0).val; omega)
      | 1 => exact Fin.ext (by show 0 + 1 * (z 1).val = (z 1).val; omega)
  refine (congrArg (k0_pay2 (F := Ideal) _ _) (eq_ix2 y)).trans ((pay2_at _ _ (y 0) (y 1)).trans ?_)
  refine Eq.trans (b := nrm (hid (m ((c : Thread nD τ).loc main_arg0)) (m ((c : Thread nD τ).loc main_arg1)) (m ((c : Thread nD τ).loc main_arg2)))
    (at2 (m ((c : Thread nD τ).loc main_arg3)) 0) (1024 * t.val + (y 0).val) (y 1).val) ?_ ?_
  · simp only [nrm, Cert.RmsNorm.rW, Cert.RmsNorm.rm, blk_at m c t (y 0), scl]
    exact congrArg (fun a : EReal => a * _ * _) (blk_at m c t (y 0) (y 1))
  refine congrArg₂ (nrm _ _) ?_ ?_
  · blk_point [idx t]
    exact Nat.mul_comm _ _
  · blk_point [idx t]

end Cert.WoutFwd

namespace Cert.WoutRef

open Cert.Reference14Ideal Cert.Reference14Ideal.Gen
open Cert.RmsNorm (at2_of rW rm)
open Cert.RmsFwd (nrm)
open Cert.DownFwd (res)
open Cert.WoutFwd (hid wN)

/-- The new residual, as the plain lines write it. -/
def hidR (a0 : FVec Ideal S8192x1024 .bf16) (a1 : FVec Ideal S1x1024x1024 .f32) (a2 : FVec Ideal S8192x1024 .f32) : FVec Ideal S8192x1024 .f32 :=
  addf a2 (Host.dotGeneral dot_S8192x1024_S1024x1024_S8192x1024_1_0_0_1_n_n none (extf .f32 a0 bitsLt_bf16_f32) (shapeCast _ a1 shapeCasts_S1x1024x1024_S1024x1024))

theorem hidR_at (a0 : FVec Ideal S8192x1024 .bf16) (a1 : FVec Ideal S1x1024x1024 .f32) (a2 : FVec Ideal S8192x1024 .f32) (r : Fin 8192) (l : Fin 1024) :
    (hidR a0 a1 a2 (ix2 r l) : EReal) = hid a0 a1 a2 r.val l.val := by
  rw [hid, res, Ideal.ofBits_one_f32, one_mul]
  simp only [at2_of]
  pointwise [hidR, wN]

end Cert.WoutRef

namespace Cert.WoutFwd

end Cert.WoutFwd

namespace Cert.Proof

/-- The plain lines run to the end and leave the arguments unchanged. -/
theorem frameRef14 : Cert.quiescent_Reference14Ideal (hReference14Ideal := Cert.Reference14Ideal.Gen.facts) := by
  intro m g _
  exact (θ_run Cert.Reference14Ideal.defs _ _).mono
    (fun r h => ⟨fun c => (h c).2.2, sem_eq_zero_of_no_sems (by decide) r.2⟩)
    (Cert.Reference14Ideal.Value.run (F := Ideal) m g)

/-- The kernel leaves the plain residual and its plain norm, whatever the arguments. -/
theorem algebraic14 : Cert.algebraic_Kernel14Ideal_Reference14Ideal
    (hKernel14Ideal := Cert.Kernel14Ideal.Gen.facts) (hReference14Ideal := Cert.Reference14Ideal.Gen.facts) := by
  pair_intro
  · run_from Cert.Kernel14Ideal.Gen.run_main m g
  · run_from Cert.Reference14Ideal.Value.run m' g'
    · refine Eq.trans ?_ (WoutFwd.final4 m c).symm
      funext i
      rw [eq_ix2 i]
      exact WoutRef.hidR_at _ _ _ (i 0) (i 1)
    · refine Eq.trans ?_ (WoutFwd.final5 m c).symm
      funext i
      rw [eq_ix2 i]
      exact DownRef.normR_at (WoutRef.hidR _ _ _) _ _ (WoutRef.hidR_at _ _ _) (i 0) (i 1)

end Cert.Proof

end
-- ==== Proof.UpF.lean ====
/-
# The gated product's forward call
-/
module

public import proofs.«01_k».proof.Proof.Gen.Kernel15Ideal.Value
public import proofs.«01_k».proof.Proof.Gen.Reference15Ideal.Run
public import proofs.«01_k».proof.Proof.MidEq
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.UpFwd

open Cert.Kernel15Ideal Cert.Kernel15Ideal.Gen

variable (m : (ℓ : Loc nD τ sig) → Buf (Elt Ideal) ℓ)

open Cert.RmsNorm (at2_of)
open Cert.MidValue (dotW sg gB)

/-- The gated product over a chunk of columns. -/
theorem pay10_at (X : FVec Ideal S512x1024 .bf16) (W1 W3 : FVec Ideal S2816x1024 .bf16) (o : ℕ) (h : ∀ a, (![o, 0] : Fin 2 → ℕ) a + S256x1024.size a ≤ S2816x1024.size a) (r : Fin 512) (j : Fin 256) :
    k0_pay10 (F := Ideal) (@View.ld (Elt Ideal) S512x1024 .bf16 X r0_0) (@View.ld (Elt Ideal) S2816x1024 .bf16 W1 (Rect.unit (s := S2816x1024) ![o, 0] S256x1024.size h)) (@View.ld (Elt Ideal) S512x1024 .bf16 X r0_0) (@View.ld (Elt Ideal) S2816x1024 .bf16 W3 (Rect.unit (s := S2816x1024) ![o, 0] S256x1024.size h)) (ix2 r j)
      = (gB (dotW (at2 (n := 512) (m := 1024) X) (at2 (n := 2816) (m := 1024) W1) r.val (o + j.val)) * dotW (at2 (n := 512) (m := 1024) X) (at2 (n := 2816) (m := 1024) W3) r.val (o + j.val) : EReal) := by
  refine Eq.trans ?_ (congrArg₂ (fun a b : EReal => a * b) (Cert.MidValue.pay7_at X W1 o h r j) (Cert.MidValue.pay5_at X W3 o h r j))
  rfl

/-- The chunk's value at a place of the tile. -/
theorem chunk (X : FVec Ideal S512x1024 .bf16) (W1 W3 : FVec Ideal S2816x1024 .bf16) (o : ℕ) (h : ∀ a, (![o, 0] : Fin 2 → ℕ) a + S256x1024.size a ≤ S2816x1024.size a)
    (x : S512x256.Idx) (p q : ℕ) (hp : p = (x 0).val) (hq : q = o + (x 1).val) :
    k0_pay10 (F := Ideal) (@View.ld (Elt Ideal) S512x1024 .bf16 X r0_0) (@View.ld (Elt Ideal) S2816x1024 .bf16 W1 (Rect.unit (s := S2816x1024) ![o, 0] S256x1024.size h)) (@View.ld (Elt Ideal) S512x1024 .bf16 X r0_0) (@View.ld (Elt Ideal) S2816x1024 .bf16 W3 (Rect.unit (s := S2816x1024) ![o, 0] S256x1024.size h)) x
      = (gB (dotW (at2 (n := 512) (m := 1024) X) (at2 (n := 2816) (m := 1024) W1) p q) * dotW (at2 (n := 512) (m := 1024) X) (at2 (n := 2816) (m := 1024) W3) p q : EReal) := by
  rw [hp, hq]
  exact (congrArg (k0_pay10 (F := Ideal) _ _ _ _) (eq_ix2 x)).trans (pay10_at X W1 W3 o h (x 0) (x 1))

/-- What the body leaves in the result's block. -/
theorem out0_5_at (X : FVec Ideal S512x1024 .bf16) (W1 W3 : FVec Ideal S2816x1024 .bf16) (y : S512x2816.Idx) :
    out0_5 (F := Ideal) X W1 W3 y = (gB (dotW (at2 (n := 512) (m := 1024) X) (at2 (n := 2816) (m := 1024) W1) (y 0).val (y 1).val) * dotW (at2 (n := 512) (m := 1024) X) (at2 (n := 2816) (m := 1024) W3) (y 0).val (y 1).val : EReal) := by
  rw [out0_5]
  canon_tiles x h <;> first | exact chunk X W1 W3 _ _ x _ _ h0 h1 | exact chunk X W1 W3 _ _ x _ _ h0 (h1.trans (Nat.zero_add _).symm)

/-- The windows' block indices at each point of the grid. -/
theorem idx : ∀ t : Fin cfg0.N, win0_0.index t = ![t.val, 0] ∧ win0_1.index t = ![0, 0] ∧ win0_2.index t = ![0, 0] ∧ win0_5.index t = ![t.val, 0] :=
  (by decide +kernel : ∀ t : Fin grid0.N, _)

/-- A row of the hidden states' block. -/
theorem row0 (c : Dev nD) (t : Fin cfg0.N) (r : ℕ) (hr : r < 512) :
    at2 (n := 512) (m := 1024) (iblk m c 0 t) r = at2 (n := 8192) (m := 1024) (V m c main_arg0) (512 * t.val + r) :=
  Cert.RmsNorm.row_of _ _ _ _ hr (by have := lt_of_lt_of_eq t.isLt N_0; omega) fun x0 x1 => by blk_point [iblk, idx t]

/-- The gate's weights. -/
theorem wts1 (c : Dev nD) (t : Fin cfg0.N) : at2 (n := 2816) (m := 1024) (iblk m c 1 t) = at2 (n := 2816) (m := 1024) (V m c main_v2) :=
  congrArg at2 (funext fun z => by blk_point [iblk, idx t])

/-- The other factor's weights. -/
theorem wts3 (c : Dev nD) (t : Fin cfg0.N) : at2 (n := 2816) (m := 1024) (iblk m c 2 t) = at2 (n := 2816) (m := 1024) (V m c main_v5) :=
  congrArg at2 (funext fun z => by blk_point [iblk, idx t])

/-- The gate's weights at the launch's entry. -/
theorem entry_w1 (c : Dev nD) : V m c main_v2 = Cert.MidValue.wT (m ((c : Thread nD τ).loc main_arg1)) := by
  show StableHlo.after _ _ _ = _
  after_results_simp
  rfl

/-- The other factor's weights at the launch's entry. -/
theorem entry_w3 (c : Dev nD) : V m c main_v5 = Cert.MidValue.wT (m ((c : Thread nD τ).loc main_arg2)) := by
  show StableHlo.after _ _ _ = _
  after_results_simp
  rfl

/-- The gated product from the arguments. -/
def up (h : FVec Ideal S8192x1024 .bf16) (W1 W3 : FVec Ideal S1x1024x2816 .f32) (r l : ℕ) : EReal :=
  gB (Cert.MidValue.aF h W1 r l) * Cert.MidValue.aF h W3 r l

/-- The gated product as the kernel leaves it. -/
theorem final5 (c : Dev nD) : ((dats m 0 c).arrAt 5 cfg0.N : S8192x2816.Idx → Elt Ideal _)
    = fun i => up (m ((c : Thread nD τ).loc main_arg0)) (m ((c : Thread nD τ).loc main_arg1)) (m ((c : Thread nD τ).loc main_arg2)) (i 0).val (i 1).val := by
  refine (dats m 0 c).arrAt_eq_of_covers 5 _ (by decide +kernel) fun t _ y => ?_
  blk_simp
  rw [after0_5]
  refine (out0_5_at _ _ _ y).trans ?_
  have hy : (y 0).val < 512 := (y 0).isLt
  simp only [up, Cert.MidValue.aF, dotW, row0 m c t _ hy, wts1, wts3, entry_w1, entry_w3, V_main_arg0]
  refine congrArg₂ (up _ _ _) ?_ ?_
  · blk_point [idx t]
    exact Nat.mul_comm _ _
  · blk_point [idx t]

/-- The gated product as the plain lines write it. -/
theorem ref_at (a0 : FVec Ideal S8192x1024 .bf16) (a1 a2 : FVec Ideal S1x1024x2816 .f32) (r : Fin 8192) (l : Fin 2816) :
    (truncf .bf16 (mulf (mulf (Cert.MidRef.v3 a0 a1) (Cert.MidRef.v6_2 a0 a1)) (Cert.MidRef.v5 a0 a2)) bitsLt_bf16_f32 : FVec Ideal S8192x2816 .bf16) (ix2 r l)
      = up a0 a1 a2 r.val l.val := by
  rw [up, gB, ← Cert.MidRef.v6_at, ← Cert.MidRef.v3_at, ← Cert.MidRef.v5_at]
  pointwise []

end Cert.UpFwd

namespace Cert.Proof

/-- The plain gated product runs to the end and leaves the arguments unchanged. -/
theorem frameRef15 : Cert.quiescent_Reference15Ideal (hReference15Ideal := Cert.Reference15Ideal.Gen.facts) := by
  intro m g _
  exact (θ_run Cert.Reference15Ideal.defs _ _).mono
    (fun r h => ⟨fun c => (h c).2, sem_eq_zero_of_no_sems (by decide) r.2⟩)
    (Cert.Reference15Ideal.Value.run (F := Ideal) m g)

/-- The kernel's gated product is the plain one, whatever the arguments. -/
theorem algebraic15 : Cert.algebraic_Kernel15Ideal_Reference15Ideal
    (hKernel15Ideal := Cert.Kernel15Ideal.Gen.facts) (hReference15Ideal := Cert.Reference15Ideal.Gen.facts) := by
  pair_intro
  · run_from Cert.Kernel15Ideal.Gen.run_main m g
  · run_from Cert.Reference15Ideal.Value.run m' g'
    refine Eq.trans ?_ (UpFwd.final5 m c).symm
    funext i
    rw [eq_ix2 i]
    exact UpFwd.ref_at _ _ _ (i 0) (i 1)

end Cert.Proof

end
-- ==== Proof.PoolF.lean ====
/-
# The multi-scale pool's forward call: the trailing means, and their mix
-/
module

public import proofs.«01_k».proof.Proof.Gen.Kernel16Ideal.Value
public import proofs.«01_k».proof.Proof.Gen.Reference16Ideal.Run
public import proofs.«01_k».proof.Proof.Pool
public import proofs.«01_k».proof.Proof.RmsF
public import proofs.«01_k».proof.Proof.Gen.Pre_finite16
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.PoolFwd

open Cert.Kernel16Ideal Cert.Kernel16Ideal.Gen

variable (m : (ℓ : Loc nD τ sig) → Buf (Elt Ideal) ℓ)

open Cert.PoolValue (Uz pooledAt pooled cnt win cnt_word win_eq at3)

/-- The tile's place in the grid. -/
theorem coord : ∀ t : Fin cfg0.N, (grid0.coords t 0).val = t.val := (by decide +kernel : ∀ t : Fin grid0.N, _)

/-- A load of the scratch after its halo and its body were stored reads the function both are blocks of. -/
theorem read_ext (G : ℕ → ℕ → EReal) (H : S16x512.Idx → EReal) (B : S1024x512.Idx → EReal)
    (hH : ∀ x : S16x512.Idx, H x = G (x 0).val (x 1).val) (hB : ∀ x : S1024x512.Idx, B x = G (16 + (x 0).val) (x 1).val)
    (v : View sig .tc .vmem S1040x512 .f32) (i1 i2) (o cc : ℕ) (ho : o + 1024 ≤ 1040) (i3) (x : S1024x128.Idx) :
    v.readCov (Val := Elt Ideal) [⟨Rect.unit ![0, 0] ![16, 512] i1, H⟩, ⟨Rect.unit ![16, 0] ![1024, 512] i2, B⟩]
      (Rect.unit (s := S1040x512) ![o, cc] ![1024, 128] i3).toLoadRect x = G (o + (x 0).val) (cc + (x 1).val) := by
  rw [View.readCov_eq_canon']
  dsimp only
  rw [View.canon_apply_of_pieces (fun y : S1040x512.Idx => G (y 0).val (y 1).val)]
  · simp [LoadRect.idx_apply]
  · intro p hp y
    simp only [List.mem_cons, List.not_mem_nil, or_false] at hp
    rcases hp with rfl | rfl
    · refine (hH y).trans ?_
      simp [Rect.emb_apply]
    · refine (hB y).trans ?_
      simp [Rect.emb_apply]
  · have h0 := (x 0).isLt
    have h1 := (x 1).isLt
    have h3 := i3 1
    by_cases h : o + (x 0).val < 16
    · refine ⟨_, List.mem_cons_self, ?_⟩
      rw [Rect.mem_set_unit]
      intro a
      fin_cases a <;> simp [LoadRect.idx_apply] at h0 h1 h3 ⊢ <;> omega
    · refine ⟨_, List.mem_cons_of_mem _ List.mem_cons_self, ?_⟩
      rw [Rect.mem_set_unit]
      intro a
      fin_cases a <;> simp [LoadRect.idx_apply] at h0 h1 h3 ⊢ <;> omega

/-- The windows' block indices at each point of the grid. -/
theorem idx : ∀ t : Fin cfg0.N, win0_0.index t = ![t.val, 8] ∧ win0_1.index t = ![t.val * 64 - 1, 8]
    ∧ win0_2.index t = ![0, 0, 0] ∧ win0_3.index t = ![0, 0]
    ∧ win0_4.index t = ![t.val, 0] ∧ win0_5.index t = ![t.val, 0] :=
  (by decide +kernel : ∀ t : Fin grid0.N, _)

/-- What the launch puts before a tile in its scratch: the last sixteen rows of the tile before, zeros at the first. -/
theorem halo (c : Dev nD) (t : Fin cfg0.N) (x : S16x512.Idx) :
    k0_pay4 (F := Ideal) (grid0.coords t) (iblk m c 1 t) x = Uz (m ((c : Thread nD τ).loc main_arg0)) (1024 * t.val + (x 0).val) (x 1).val := by
  pointwise [k0_pay4]
  have h0 : (x 0).val < 16 := (x 0).isLt
  have h1 : (x 1).val < 512 := (x 1).isLt
  have ht : t.val < 8 := t.isLt
  rw [coord t]
  by_cases h : t.val = 0
  · rw [show Scalar.cmpi .sgt (BitVec.ofNat 32 t.val) 0#32 = 0#1 by rw [h]; rfl, ValueIdx.select_zero, Uz, dif_neg (by omega)]
  · have hc : ∀ n : Fin 8, n.val ≠ 0 → Scalar.cmpi .sgt (BitVec.ofNat 32 n.val) 0#32 = 1#1 := by decide
    rw [hc ⟨t.val, ht⟩ h, ValueIdx.select_one, Uz, dif_pos (by omega)]
    blk_point [iblk, V, idx t]

/-- The tile itself. -/
theorem tile (c : Dev nD) (t : Fin cfg0.N) (x : S1024x512.Idx) :
    iblk m c 0 t x = Uz (m ((c : Thread nD τ).loc main_arg0)) (1024 * t.val + (16 + (x 0).val)) (x 1).val := by
  have h0 : (x 0).val < 1024 := (x 0).isLt
  have h1 : (x 1).val < 512 := (x 1).isLt
  have ht : t.val < 8 := t.isLt
  rw [Uz, dif_pos (by omega)]
  blk_point [iblk, V, idx t]

/-- The tile in the scratch. -/
theorem body (c : Dev nD) (t : Fin cfg0.N) (x : S1024x512.Idx) :
    k0_pay3 (F := Ideal) (iblk m c 0 t) x = Uz (m ((c : Thread nD τ).loc main_arg0)) (1024 * t.val + (16 + (x 0).val)) (x 1).val := by
  refine Eq.trans ?_ (tile m c t x)
  pointwise [k0_pay3, k0_pay2]

/-- The pooled values are the kernel's first result. -/
theorem final4 (c : Dev nD) : ((dats m 0 c).arrAt 4 cfg0.N : S8192x512.Idx → Elt Ideal _) = pooled (m ((c : Thread nD τ).loc main_arg0)) := by
  refine (dats m 0 c).arrAt_eq_of_covers 4 _ (by decide +kernel) fun t _ y => ?_
  blk_simp
  rw [after0_4]; dsimp only [outsAt0]; frame_out
  have hr := fun o cc ho i3 x => read_ext (fun k l => Uz (m ((c : Thread nD τ).loc main_arg0)) (1024 * t.val + k) l) _ _ (halo m c t) (body m c t)
    (View.whole cc0_scratch0) inb_S1040x512_S16x512_0_0 inb_S1040x512_S1024x512_16_0 o cc ho i3 x
  have ht : t.val < 8 := t.isLt
  have hb := tile m c t
  have hp := fun x hx w hw => cnt_word t.val x w ht hx hw
  refine Eq.trans (b := pooledAt (m ((c : Thread nD τ).loc main_arg0)) (1024 * t.val + (y 0).val) (y 1).val) ?_ ?_
  · have hk := fun x n : ℕ => show 1024 * t.val + (n + x) = 1024 * t.val + x + n by omega
    canon_tiles x h
    · pointwise [k0_pay15, k0_pay14, k0_pay2, k0_pay5, hr, h0, h1, hb, coord t]
      rw [hp _ x0_lt 16 (by decide)]
      have hw := win_eq 384 (x 1).val 16 x1_lt rfl rfl
      try rw [Nat.zero_add] at hw
      simp only [pooledAt, cnt, hw, Finset.sum_range_succ, Finset.sum_range_zero, zero_add, hk, Nat.reduceSub]
    · pointwise [k0_pay12, k0_pay11, k0_pay2, k0_pay5, hr, h0, h1, hb, coord t]
      rw [hp _ x0_lt 8 (by decide)]
      have hw := win_eq 256 (x 1).val 8 x1_lt rfl rfl
      try rw [Nat.zero_add] at hw
      simp only [pooledAt, cnt, hw, Finset.sum_range_succ, Finset.sum_range_zero, zero_add, hk, Nat.reduceSub]
    · pointwise [k0_pay9, k0_pay2, k0_pay5, hr, h0, h1, hb, coord t]
      rw [hp _ x0_lt 4 (by decide)]
      have hw := win_eq 128 (x 1).val 4 x1_lt rfl rfl
      try rw [Nat.zero_add] at hw
      simp only [pooledAt, cnt, hw, Finset.sum_range_succ, Finset.sum_range_zero, zero_add, hk, Nat.reduceSub]
    · pointwise [k0_pay6, k0_pay2, k0_pay5, hr, h0, h1, hb, coord t]
      rw [hp _ x0_lt 2 (by decide)]
      have hw := win_eq 0 (x 1).val 2 x1_lt rfl rfl
      try rw [Nat.zero_add] at hw
      simp only [pooledAt, cnt, hw, Finset.sum_range_succ, Finset.sum_range_zero, zero_add, hk, Nat.reduceSub]
  · refine congrArg₂ (pooledAt _) ?_ ?_
    · blk_simp [idx t]
      omega
    · blk_simp [idx t]

/-- The matrices as the launch gets them. -/
abbrev stk (W : FVec Ideal S1x4x128x128 .f32) : FVec Ideal S4x128x128 .f32 := shapeCast S4x128x128 W shapeCasts_S1x4x128x128_S4x128x128

/-- The mixed values: each group's pooled columns through its matrix, scaled. -/
def mixedAt (P : FVec Ideal S8192x6656 .bf16) (W : FVec Ideal S4x128x128 .f32) (S : FVec Ideal S1x512 .f32) (r l : ℕ) : EReal :=
  (∑ k : Fin 128, pooledAt P r (128 * (l / 128) + k.val) * at3 W (l / 128) k.val (l % 128)) * at2 S 0 l

/-- The matrices at the launch's entry. -/
theorem entry_w (c : Dev nD) : V m c main_v0 = stk (m ((c : Thread nD τ).loc main_arg1)) := by
  show StableHlo.after _ _ _ = _
  after_results_simp
  rfl

/-- The matrices. -/
theorem wts (c : Dev nD) (t : Fin cfg0.N) (z : S4x128x128.Idx) : iblk m c 2 t z = stk (m ((c : Thread nD τ).loc main_arg1)) z :=
  (show iblk m c 2 t z = V m c main_v0 z by blk_point [iblk, idx t]).trans (congrFun (entry_w m c) z)

/-- The scale. -/
theorem scl (c : Dev nD) (t : Fin cfg0.N) (z : S1x512.Idx) : iblk m c 3 t z = m ((c : Thread nD τ).loc main_arg2) z := by
  blk_point [iblk, V, idx t]

/-- The mixed value at column `l` of the group at column `o`. -/
theorem mixed_group (P : FVec Ideal S8192x6656 .bf16) (W : FVec Ideal S4x128x128 .f32) (S : FVec Ideal S1x512 .f32) (r : ℕ) (g : Fin 4) (l : Fin 128) (o : ℕ) (ho : 128 * g.val = o) :
    mixedAt P W S r (o + l.val) = (∑ k : Fin 128, pooledAt P r (o + k.val) * W (ix3 g k l)) * S (ix2 0 ⟨o + l.val, by omega⟩) := by
  subst ho
  have hl := l.isLt
  have hg := g.isLt
  rw [mixedAt, show (128 * g.val + l.val) / 128 = g.val by omega, show (128 * g.val + l.val) % 128 = l.val by omega]
  refine congrArg₂ (fun a b : EReal => a * b) (Fintype.sum_congr (M := EReal) _ _ fun k => ?_) ?_
  · rw [at3, dif_pos ⟨g.isLt, k.isLt, l.isLt⟩]
  · exact Cert.RmsNorm.at2_of S 0 ⟨128 * g.val + l.val, by omega⟩

set_option maxHeartbeats 2000000 in
/-- The mixed values are the kernel's second result. -/
theorem final5 (c : Dev nD) : ((dats m 0 c).arrAt 5 cfg0.N : S8192x512.Idx → Elt Ideal _)
    = fun i => mixedAt (m ((c : Thread nD τ).loc main_arg0)) (stk (m ((c : Thread nD τ).loc main_arg1))) (m ((c : Thread nD τ).loc main_arg2)) (i 0).val (i 1).val := by
  refine (dats m 0 c).arrAt_eq_of_covers 5 _ (by decide +kernel) fun t _ y => ?_
  blk_simp
  rw [after0_5]; dsimp only [outsAt0]; frame_out
  have hr := fun o cc ho i3 x => read_ext (fun k l => Uz (m ((c : Thread nD τ).loc main_arg0)) (1024 * t.val + k) l) _ _ (halo m c t) (body m c t)
    (View.whole cc0_scratch0) inb_S1040x512_S16x512_0_0 inb_S1040x512_S1024x512_16_0 o cc ho i3 x
  have ht : t.val < 8 := t.isLt
  have hb := tile m c t
  have hp := fun x hx w hw => cnt_word t.val x w ht hx hw
  have hw := wts m c t
  have hs := scl m c t
  refine Eq.trans (b := mixedAt (m ((c : Thread nD τ).loc main_arg0)) (stk (m ((c : Thread nD τ).loc main_arg1))) (m ((c : Thread nD τ).loc main_arg2)) (1024 * t.val + (y 0).val) (y 1).val) ?_ ?_
  · have hk := fun x n : ℕ => show 1024 * t.val + (n + x) = 1024 * t.val + x + n by omega
    canon_tiles x h
    · have hx : (x 1).val < 128 := (x 1).isLt
      rw [h0, h1]
      pointwise [k0_pay1, k0_pay15, k0_pay14, k0_pay2, k0_pay5, hr, hb, hw, hs, coord t]
      rw [hp _ x0_lt 16 (by decide)]
      have hm := mixed_group (m ((c : Thread nD τ).loc main_arg0)) (stk (m ((c : Thread nD τ).loc main_arg1))) (m ((c : Thread nD τ).loc main_arg2)) (1024 * t.val + (x 0).val) 3 (x 1) 384 rfl
      try simp only [Nat.zero_add] at hm
      refine Eq.trans ?_ hm.symm
      refine congrArg₂ (fun a b : EReal => a * b) (Fintype.sum_congr (M := EReal) _ _ fun k => congrArg₂ (fun a b : EReal => a * b) ?_ ?_) ?_
      · have hw := win_eq 384 k.val 16 k.isLt rfl rfl
        try rw [Nat.zero_add] at hw
        simp only [pooledAt, cnt, hw, Finset.sum_range_succ, Finset.sum_range_zero, zero_add, hk, Nat.reduceSub]
      · first | rfl | pointwise [stk]
      · rfl
    · have hx : (x 1).val < 128 := (x 1).isLt
      rw [h0, h1]
      pointwise [k0_pay13, k0_pay12, k0_pay11, k0_pay2, k0_pay5, hr, hb, hw, hs, coord t]
      rw [hp _ x0_lt 8 (by decide)]
      have hm := mixed_group (m ((c : Thread nD τ).loc main_arg0)) (stk (m ((c : Thread nD τ).loc main_arg1))) (m ((c : Thread nD τ).loc main_arg2)) (1024 * t.val + (x 0).val) 2 (x 1) 256 rfl
      try simp only [Nat.zero_add] at hm
      refine Eq.trans ?_ hm.symm
      refine congrArg₂ (fun a b : EReal => a * b) (Fintype.sum_congr (M := EReal) _ _ fun k => congrArg₂ (fun a b : EReal => a * b) ?_ ?_) ?_
      · have hw := win_eq 256 k.val 8 k.isLt rfl rfl
        try rw [Nat.zero_add] at hw
        simp only [pooledAt, cnt, hw, Finset.sum_range_succ, Finset.sum_range_zero, zero_add, hk, Nat.reduceSub]
      · first | rfl | pointwise [stk]
      · rfl
    · have hx : (x 1).val < 128 := (x 1).isLt
      rw [h0, h1]
      pointwise [k0_pay10, k0_pay9, k0_pay2, k0_pay5, hr, hb, hw, hs, coord t]
      rw [hp _ x0_lt 4 (by decide)]
      have hm := mixed_group (m ((c : Thread nD τ).loc main_arg0)) (stk (m ((c : Thread nD τ).loc main_arg1))) (m ((c : Thread nD τ).loc main_arg2)) (1024 * t.val + (x 0).val) 1 (x 1) 128 rfl
      try simp only [Nat.zero_add] at hm
      refine Eq.trans ?_ hm.symm
      refine congrArg₂ (fun a b : EReal => a * b) (Fintype.sum_congr (M := EReal) _ _ fun k => congrArg₂ (fun a b : EReal => a * b) ?_ ?_) ?_
      · have hw := win_eq 128 k.val 4 k.isLt rfl rfl
        try rw [Nat.zero_add] at hw
        simp only [pooledAt, cnt, hw, Finset.sum_range_succ, Finset.sum_range_zero, zero_add, hk, Nat.reduceSub]
      · first | rfl | pointwise [stk]
      · rfl
    · have hx : (x 1).val < 128 := (x 1).isLt
      rw [h0, h1]
      pointwise [k0_pay8, k0_pay7, k0_pay6, k0_pay2, k0_pay5, hr, hb, hw, hs, coord t]
      rw [hp _ x0_lt 2 (by decide)]
      have hm := mixed_group (m ((c : Thread nD τ).loc main_arg0)) (stk (m ((c : Thread nD τ).loc main_arg1))) (m ((c : Thread nD τ).loc main_arg2)) (1024 * t.val + (x 0).val) 0 (x 1) 0 rfl
      try simp only [Nat.zero_add] at hm
      refine Eq.trans ?_ hm.symm
      refine congrArg₂ (fun a b : EReal => a * b) (Fintype.sum_congr (M := EReal) _ _ fun k => congrArg₂ (fun a b : EReal => a * b) ?_ ?_) ?_
      · have hw := win_eq 0 k.val 2 k.isLt rfl rfl
        try rw [Nat.zero_add] at hw
        simp only [pooledAt, cnt, hw, Finset.sum_range_succ, Finset.sum_range_zero, zero_add, hk, Nat.reduceSub]
      · first | rfl | pointwise [stk]
      · rfl
  · refine congrArg₂ (mixedAt _ _ _) ?_ ?_
    · blk_simp [idx t]
      omega
    · blk_simp [idx t]

end Cert.PoolFwd

namespace Cert.PoolFwdRef

open Cert.Reference2Ideal Cert.Reference2Ideal.Gen Cert.Reference2Ideal.Value
open Cert.PoolValue (pooled pooledAt)

/-- A host memory of the backward reference holding the forward call's arguments. -/
def val (P : FVec Ideal S8192x6656 .bf16) (W : FVec Ideal S1x4x128x128 .f32) (S : FVec Ideal S1x512 .f32) : Valuation τ sig (Elt Ideal) :=
  Function.update (Function.update (Function.update (fun _ => default) (Proc.devRef .tc main_arg1) P) (Proc.devRef .tc main_arg2) W) (Proc.devRef .tc main_arg3) S

variable (P : FVec Ideal S8192x6656 .bf16) (W : FVec Ideal S1x4x128x128 .f32) (S : FVec Ideal S1x512 .f32)

theorem val1 : val P W S (Proc.devRef .tc main_arg1) = P := by
  rw [val, Function.update_of_ne (by decide), Function.update_of_ne (by decide), Function.update_self]

theorem val2 : val P W S (Proc.devRef .tc main_arg2) = W := by
  rw [val, Function.update_of_ne (by decide), Function.update_self]

variable (m : (ℓ : Loc Cert.Reference16Ideal.nD Cert.Reference16Ideal.τ Cert.Reference16Ideal.sig) → Buf (Elt Ideal) ℓ)

/-- The two references pool alike. -/
theorem pooled_same (c : Dev Cert.Reference16Ideal.nD) (V : Valuation τ sig (Elt Ideal))
    (h1 : V (Proc.devRef .tc main_arg1) = m ((c.tc : Thread _ _).loc Cert.Reference16Ideal.main_arg0)) :
    Cert.Reference16Ideal.Value.res_main_v81 (F := Ideal) m c
      = truncf .bf16 (shapeCast S8192x512 (res_main_v79 V) (by decide)) bitsLt_bf16_f32 := by
  unfold Cert.Reference16Ideal.Value.res_main_v81
  rw [← h1]
  rfl

/-- The forward reference's second result, over the pooled array of the backward one. -/
theorem mixed_same (c : Dev Cert.Reference16Ideal.nD) (V : Valuation τ sig (Elt Ideal))
    (h1 : V (Proc.devRef .tc main_arg1) = m ((c.tc : Thread _ _).loc Cert.Reference16Ideal.main_arg0))
    (h2 : V (Proc.devRef .tc main_arg2) = m ((c.tc : Thread _ _).loc Cert.Reference16Ideal.main_arg1)) :
    Cert.Reference16Ideal.Value.res_main_v82 (F := Ideal) m c
      = truncf .bf16 (mulf (shapeCast S8192x512 (transpose S1x8192x4x128 [2, 3, 0, 1] (Host.dotGeneral (φ₁ := .f32) (φ₂ := .f32) dot_S4x128x128_S1x8192x4x128_S4x128x1x8192_1_3_2_01_0_2 none (res_main_v2 V) (res_main_v79 V)) transposes_S4x128x1x8192_S1x8192x4x128_2_3_0_1) (by decide))
          (broadcastInDim S8192x512 ![0, 1] Cert.Reference16Ideal.Facts₀.bcast_S1x512_S8192x512_0_1 (m ((c.tc : Thread _ _).loc Cert.Reference16Ideal.main_arg2)))) bitsLt_bf16_f32 := by
  unfold Cert.Reference16Ideal.Value.res_main_v82
  rw [← h1, ← h2]
  rfl

variable (V : Valuation τ sig (Elt Ideal))

open Cert.PoolRef (aP aW v79_at)

/-- The pooled array, stored. -/
theorem pooled_ref (hP : ∀ l, ∃ x : ℕ → ℝ, ∀ k, Cert.PoolValue.Uz (aP V) (k + 16) l = (x k : EReal)) :
    (truncf .bf16 (shapeCast S8192x512 (res_main_v79 V) (by decide)) bitsLt_bf16_f32 : FVec Ideal S8192x512 .bf16) = pooled (aP V) := by
  funext i
  have h79 := v79_at V hP
  have h0 : (i 0).val < 8192 := (i 0).isLt
  have h1 : (i 1).val < 512 := (i 1).isLt
  pointwise [pooled, h79]
  refine congrArg (pooledAt _ _) ?_
  omega

/-- The mixed array. -/
theorem mixed_ref (hP : ∀ l, ∃ x : ℕ → ℝ, ∀ k, Cert.PoolValue.Uz (aP V) (k + 16) l = (x k : EReal)) :
    (truncf .bf16 (mulf (shapeCast S8192x512 (transpose S1x8192x4x128 [2, 3, 0, 1] (Host.dotGeneral (φ₁ := .f32) (φ₂ := .f32) dot_S4x128x128_S1x8192x4x128_S4x128x1x8192_1_3_2_01_0_2 none (res_main_v2 V) (res_main_v79 V)) transposes_S4x128x1x8192_S1x8192x4x128_2_3_0_1) (by decide))
          (broadcastInDim S8192x512 ![0, 1] Cert.Reference16Ideal.Facts₀.bcast_S1x512_S8192x512_0_1 S)) bitsLt_bf16_f32 : FVec Ideal S8192x512 .bf16)
      = fun i => Cert.PoolFwd.mixedAt (aP V) (aW V) S (i 0).val (i 1).val := by
  funext i
  have h79 := v79_at V hP
  have h0 : (i 0).val < 8192 := (i 0).isLt
  have h1 : (i 1).val < 512 := (i 1).isLt
  pointwise [Cert.PoolFwd.mixedAt, h79]
  refine congrArg₂ (fun a b : EReal => a * b) (Fintype.sum_congr (M := EReal) _ _ fun k => ?_) ?_
  · rw [Cert.PoolValue.at3, dif_pos (by omega), mul_comm]
  · exact (Cert.RmsNorm.at2_of S 0 (i 1)).symm

/-- What the finiteness precondition says: the pool's columns are real. -/
theorem pre_real (h : Cert.Pre_finite16.fn (F := Ideal) P W S = (fun _ => 1#1)) :
    ∀ l, ∃ x : ℕ → ℝ, ∀ k, Cert.PoolValue.Uz P (k + 16) l = (x k : EReal) := by
  refine Cert.PoolRef.u_real P fun r l hl => Cert.PoolRef.real_of_abs _ ?_
  refine Cert.PoolRef.below_top _ (Eq.trans (congrArg (fun i => FloatOps.cmpf (F := Ideal) (φ := .f32) .olt (max (P i) (-(P i))) (Ideal.ofBits .f32 0x7F800000#32)) ?_)
    (congrFun h (ix2 r ⟨l, hl⟩)))
  funext a
  match a with
  | 0 => exact Fin.ext (Nat.zero_add _).symm
  | 1 => exact Fin.ext rfl

end Cert.PoolFwdRef

namespace Cert.Proof

open Cert.PoolFwdRef

/-- The reference of the pool's forward call runs, leaves its arguments, and ends quiet. -/
theorem frameRef16 : Cert.quiescent_Reference16Ideal (hReference16Ideal := Cert.Reference16Ideal.Gen.facts) := by
  intro m g _
  exact (θ_run Cert.Reference16Ideal.defs _ _).mono
    (fun r h => ⟨fun c => (h c).2.2, sem_eq_zero_of_no_sems (by decide) r.2⟩)
    (Cert.Reference16Ideal.Value.run (F := Ideal) m g)

/-- The pool's forward kernel stores the pooled and the mixed arrays of the plain pool, where its columns are finite. -/
theorem algebraic16 : Cert.algebraic_Kernel16Ideal_Reference16Ideal_pre_finite16
    (hKernel16Ideal := Cert.Kernel16Ideal.Gen.facts) (hReference16Ideal := Cert.Reference16Ideal.Gen.facts) (hPre_finite16 := Cert.Pre_finite16.Gen.facts) := by
  pair_intro
  · run_from Cert.Kernel16Ideal.Value.run_blocks m g
  · run_from Cert.Reference16Ideal.Value.run m' g'
    all_goals
      have hP := (hagree c).1
      have hW := (hagree c).2.1
      have hS := (hagree c).2.2
      have rP := Cert.PoolFwdRef.pre_real _ _ _ (hpre c)
      have v1 := val1 (m' (c.tc.loc Reference16Ideal.main_arg0)) (m' (c.tc.loc Reference16Ideal.main_arg1)) (m' (c.tc.loc Reference16Ideal.main_arg2))
      have v2 := val2 (m' (c.tc.loc Reference16Ideal.main_arg0)) (m' (c.tc.loc Reference16Ideal.main_arg1)) (m' (c.tc.loc Reference16Ideal.main_arg2))
      have aP : Cert.PoolRef.aP (val (m' (c.tc.loc Reference16Ideal.main_arg0)) (m' (c.tc.loc Reference16Ideal.main_arg1)) (m' (c.tc.loc Reference16Ideal.main_arg2))) = m (c.tc.loc Kernel16Ideal.main_arg0) := v1.trans hP
      rw [← aP] at rP
    · refine (pooled_same m' c _ v1).trans ((pooled_ref _ rP).trans ?_)
      rw [aP]
      exact (Cert.PoolFwd.final4 m c).symm
    · refine (mixed_same m' c _ v1 v2).trans ((mixed_ref _ _ rP).trans ?_)
      have aW : Cert.PoolRef.aW (val (m' (c.tc.loc Reference16Ideal.main_arg0)) (m' (c.tc.loc Reference16Ideal.main_arg1)) (m' (c.tc.loc Reference16Ideal.main_arg2))) = Cert.PoolFwd.stk (m (c.tc.loc Kernel16Ideal.main_arg1)) := congrArg Cert.PoolFwd.stk (v2.trans hW)
      rw [aP, aW, hS]
      exact (Cert.PoolFwd.final5 m c).symm

end Cert.Proof

end
-- ==== Proof.WinF.lean ====
/-
# The projection's product
-/
module

public import proofs.«01_k».proof.Proof.Gen.Kernel17Ideal.Value
public import proofs.«01_k».proof.Proof.Gen.Reference17Ideal.Run
public import proofs.«01_k».proof.Proof.MidA
public import proofs.«01_k».proof.Proof.RmsF
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.WinFwd

open Cert.Kernel17Ideal Cert.Kernel17Ideal.Gen

variable (m : (ℓ : Loc nD τ sig) → Buf (Elt Ideal) ℓ)

open Cert.RmsNorm (at2_of)
open Cert.MidValue (dotW)

/-- The product over a chunk of columns. -/
theorem pay1_at (X : FVec Ideal S512x1024 .bf16) (W : FVec Ideal S6656x1024 .bf16) (o : ℕ) (h : ∀ a, (![o, 0] : Fin 2 → ℕ) a + S512x1024.size a ≤ S6656x1024.size a) (r : Fin 512) (j : Fin 512) :
    k0_pay1 (F := Ideal) (@View.ld (Elt Ideal) S512x1024 .bf16 X r0_0) (@View.ld (Elt Ideal) S6656x1024 .bf16 W (Rect.unit (s := S6656x1024) ![o, 0] S512x1024.size h)) (ix2 r j) = dotW (at2 (n := 512) (m := 1024) X) (at2 (n := 6656) (m := 1024) W) r.val (o + j.val) := by
  have h0 : o + 512 ≤ 6656 := h 0
  have hW := fun k : Fin 1024 => at2_of W ⟨o + j.val, by omega⟩ k
  simp only [dotW, at2_of X, hW]
  pointwise [k0_pay1]

/-- The chunk's value at a place of the tile. -/
theorem chunk (X : FVec Ideal S512x1024 .bf16) (W : FVec Ideal S6656x1024 .bf16) (o : ℕ) (h : ∀ a, (![o, 0] : Fin 2 → ℕ) a + S512x1024.size a ≤ S6656x1024.size a)
    (x : S512x512.Idx) (p q : ℕ) (hp : p = (x 0).val) (hq : q = o + (x 1).val) :
    k0_pay1 (F := Ideal) (@View.ld (Elt Ideal) S512x1024 .bf16 X r0_0) (@View.ld (Elt Ideal) S6656x1024 .bf16 W (Rect.unit (s := S6656x1024) ![o, 0] S512x1024.size h)) x = dotW (at2 (n := 512) (m := 1024) X) (at2 (n := 6656) (m := 1024) W) p q := by
  rw [hp, hq]
  exact (congrArg (k0_pay1 (F := Ideal) _ _) (eq_ix2 x)).trans (pay1_at X W o h (x 0) (x 1))

/-- What the body leaves in the result's block. -/
theorem out0_2_at (X : FVec Ideal S512x1024 .bf16) (W : FVec Ideal S6656x1024 .bf16) (y : S512x6656.Idx) :
    out0_2 (F := Ideal) X W y = dotW (at2 (n := 512) (m := 1024) X) (at2 (n := 6656) (m := 1024) W) (y 0).val (y 1).val := by
  rw [out0_2]
  canon_tiles x h <;> first | exact chunk X W _ _ x _ _ h0 h1 | exact chunk X W _ _ x _ _ h0 (h1.trans (Nat.zero_add _).symm)

/-- The windows' block indices at each point of the grid. -/
theorem idx : ∀ t : Fin cfg0.N, win0_0.index t = ![t.val, 0] ∧ win0_1.index t = ![0, 0] ∧ win0_2.index t = ![t.val, 0] :=
  (by decide +kernel : ∀ t : Fin grid0.N, _)

/-- A row of the hidden states' block. -/
theorem row0 (c : Dev nD) (t : Fin cfg0.N) (r : ℕ) (hr : r < 512) :
    at2 (n := 512) (m := 1024) (iblk m c 0 t) r = at2 (n := 8192) (m := 1024) (V m c main_arg0) (512 * t.val + r) :=
  Cert.RmsNorm.row_of _ _ _ _ hr (by have := lt_of_lt_of_eq t.isLt N_0; omega) fun x0 x1 => by blk_point [iblk, idx t]

/-- The weights. -/
theorem wts (c : Dev nD) (t : Fin cfg0.N) : at2 (n := 6656) (m := 1024) (iblk m c 1 t) = at2 (n := 6656) (m := 1024) (V m c main_v2) :=
  congrArg at2 (funext fun z => by blk_point [iblk, idx t])

/-- The weights as the launch gets them. -/
def wT (W : FVec Ideal S1x1024x6656 .f32) : FVec Ideal S6656x1024 .bf16 :=
  truncf .bf16 (transpose S6656x1024 [1, 0] (shapeCast S1024x6656 W shapeCasts_S1x1024x6656_S1024x6656) transposes_S1024x6656_S6656x1024_1_0) bitsLt_bf16_f32

/-- The weights at the launch's entry. -/
theorem entry_w (c : Dev nD) : V m c main_v2 = wT (m ((c : Thread nD τ).loc main_arg1)) := by
  show StableHlo.after _ _ _ = _
  after_results_simp
  rfl

/-- The product from the arguments. -/
def prod (h : FVec Ideal S8192x1024 .bf16) (W : FVec Ideal S1x1024x6656 .f32) : ℕ → ℕ → EReal :=
  dotW (at2 (n := 8192) (m := 1024) h) (at2 (n := 6656) (m := 1024) (wT W))

/-- The product as the kernel leaves it. -/
theorem final2 (c : Dev nD) : ((dats m 0 c).arrAt 2 cfg0.N : S8192x6656.Idx → Elt Ideal _)
    = fun i => prod (m ((c : Thread nD τ).loc main_arg0)) (m ((c : Thread nD τ).loc main_arg1)) (i 0).val (i 1).val := by
  refine (dats m 0 c).arrAt_eq_of_covers 2 _ (by decide +kernel) fun t _ y => ?_
  blk_simp
  rw [after0_2]
  refine (out0_2_at _ _ y).trans ?_
  have hy : (y 0).val < 512 := (y 0).isLt
  simp only [prod, dotW, row0 m c t _ hy, wts, entry_w, V_main_arg0]
  refine congrArg₂ (prod _ _) ?_ ?_
  · blk_point [idx t]
    exact Nat.mul_comm _ _
  · blk_point [idx t]

/-- The product as the plain line writes it. -/
theorem ref_at (a0 : FVec Ideal S8192x1024 .bf16) (a1 : FVec Ideal S1x1024x6656 .f32) (r : Fin 8192) (l : Fin 6656) :
    (truncf .bf16 (Host.dotGeneral (φ₁ := .f32) (φ₂ := .f32) Cert.Reference17Ideal.dot_S8192x1024_S1024x6656_S8192x6656_1_0_0_1_n_n none (extf .f32 a0 bitsLt_bf16_f32)
      (shapeCast S1024x6656 a1 shapeCasts_S1x1024x6656_S1024x6656)) bitsLt_bf16_f32 : FVec Ideal S8192x6656 .bf16) (ix2 r l) = prod a0 a1 r.val l.val := by
  have hW := fun k : Fin 1024 => at2_of (wT a1) l k
  simp only [prod, dotW, at2_of a0, hW]
  pointwise [wT]

end Cert.WinFwd

namespace Cert.Proof

/-- The plain product runs to the end and leaves the arguments unchanged. -/
theorem frameRef17 : Cert.quiescent_Reference17Ideal (hReference17Ideal := Cert.Reference17Ideal.Gen.facts) := by
  intro m g _
  exact (θ_run Cert.Reference17Ideal.defs _ _).mono
    (fun r h => ⟨fun c => (h c).2, sem_eq_zero_of_no_sems (by decide) r.2⟩)
    (Cert.Reference17Ideal.Value.run (F := Ideal) m g)

/-- The kernel's product is the plain one, whatever the arguments. -/
theorem algebraic17 : Cert.algebraic_Kernel17Ideal_Reference17Ideal
    (hKernel17Ideal := Cert.Kernel17Ideal.Gen.facts) (hReference17Ideal := Cert.Reference17Ideal.Gen.facts) := by
  pair_intro
  · run_from Cert.Kernel17Ideal.Gen.run_main m g
  · run_from Cert.Reference17Ideal.Value.run m' g'
    refine Eq.trans ?_ (WinFwd.final2 m c).symm
    funext i
    rw [eq_ix2 i]
    exact WinFwd.ref_at _ _ (i 0) (i 1)

end Cert.Proof

end
-- ==== Proof.WinB.lean ====
/-
# The projection's weight gradient
-/
module

public import proofs.«01_k».proof.Proof.Gen.Kernel18Ideal.Value
public import proofs.«01_k».proof.Proof.Gen.Reference18Ideal.Run
public import proofs.«01_k».proof.Proof.RmsF
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PoolValue (at2)

namespace Cert.WinBwd

open Cert.Kernel18Ideal Cert.Kernel18Ideal.Gen

variable (m : (ℓ : Loc nD τ sig) → Buf (Elt Ideal) ℓ)

open Cert.RmsNorm (at2_of)

/-- The accumulated product with one block of rows added. -/
theorem pay2_at (A : FVec Ideal S1024x3072 .f32) (X : FVec Ideal S1024x1024 .bf16) (D : FVec Ideal S1024x3072 .bf16) (i : Fin 1024) (j : Fin 3072) :
    (k0_pay2 (F := Ideal) A X D (ix2 i j) : EReal)
      = (A (ix2 i j) : EReal) + ∑ k : Fin 1024, at2 (n := 1024) (m := 1024) X k.val i.val * at2 (n := 1024) (m := 3072) D k.val j.val := by
  simp only [at2_of X, at2_of D]
  pointwise [k0_pay2]

/-- The windows' block indices at each point of the grid. -/
theorem idx : ∀ t : Fin cfg0.N, win0_0.index t = ![t.val, 0] ∧ win0_1.index t = ![t.val, 0] ∧ win0_2.index t = ![0, 0] :=
  (by decide +kernel : ∀ t : Fin grid0.N, _)

/-- A row of the hidden states' block. -/
theorem row0 (c : Dev nD) (t : Fin cfg0.N) (r : ℕ) (hr : r < 1024) :
    at2 (n := 1024) (m := 1024) (iblk m c 0 t) r = at2 (n := 8192) (m := 1024) (V m c main_arg0) (1024 * t.val + r) :=
  Cert.RmsNorm.row_of _ _ _ _ hr (by have := lt_of_lt_of_eq t.isLt N_0; omega) fun x0 x1 => by blk_point [iblk, idx t]

/-- A row of the gradient's block. -/
theorem row1 (c : Dev nD) (t : Fin cfg0.N) (r : ℕ) (hr : r < 1024) :
    at2 (n := 1024) (m := 3072) (iblk m c 1 t) r = at2 (n := 8192) (m := 3072) (V m c main_arg1) (1024 * t.val + r) :=
  Cert.RmsNorm.row_of _ _ _ _ hr (by have := lt_of_lt_of_eq t.isLt N_0; omega) fun x0 x1 => by blk_point [iblk, idx t]

/-- One row's part of the product. -/
def term (c : Dev nD) (r i j : ℕ) : EReal :=
  at2 (n := 8192) (m := 1024) (V m c main_arg0) r i * at2 (n := 8192) (m := 3072) (V m c main_arg1) r j

/-- What a point adds to the accumulated product. -/
theorem step (c : Dev nD) (t : Fin cfg0.N) (y : S1024x3072.Idx) (A : EReal)
    (hc : (t.val % 8 = 0 ∧ A = 0) ∨ (¬ t.val % 8 = 0 ∧ A = (outsAt0 m c (t.val - 1) (Nat.lt_of_le_of_lt (Nat.sub_le _ _) t.isLt)).2 y)) :
    ((outsAt0 m c t.val t.isLt).2 y : EReal) = A + ∑ k : Fin 1024, term m c (1024 * t.val + k.val) (y 0).val (y 1).val := by
  have e : (∑ k : Fin 1024, at2 (n := 1024) (m := 1024) (iblk m c 0 t) k.val (y 0).val * at2 (n := 1024) (m := 3072) (iblk m c 1 t) k.val (y 1).val : EReal)
      = ∑ k : Fin 1024, term m c (1024 * t.val + k.val) (y 0).val (y 1).val :=
    Fintype.sum_congr (M := EReal) _ _ fun k => by
      rw [term, row0 m c t _ k.isLt, row1 m c t _ k.isLt]
  rw [← e]
  obtain ⟨x0, x1, rfl⟩ : ∃ (x0 : Fin 1024) (x1 : Fin 3072), y = ix2 x0 x1 := ⟨y 0, y 1, eq_ix2 y⟩
  rcases hc with ⟨h0, rfl⟩ | ⟨h0, rfl⟩
  · rw [outsAt0_A m c t h0 (by omega)]
    dsimp only
    frame_open
    simp (disch := decide) only [↓ View.readCov_skip, ↓ View.readCov_cons_toLoadRect, ↓ View.readCov_fill]
    frame_out
    refine (pay2_at _ (iblk m c 0 t) (iblk m c 1 t) x0 x1).trans ?_
    refine congrArg (· + _) ?_
    pointwise [k0_pay1]
  · by_cases h1 : t.val % 8 = 7
    · rw [outsAt0_C m c t h0 h1]
      dsimp only
      frame_out
      rw [read_unread_whole]
      exact pay2_at _ (iblk m c 0 t) (iblk m c 1 t) x0 x1
    · rw [outsAt0_B m c t h0 h1]
      dsimp only
      frame_out
      rw [read_unread_whole]
      exact pay2_at _ (iblk m c 0 t) (iblk m c 1 t) x0 x1

/-- A load of some columns of the scratch after it was stored whole. -/
theorem read_cols (B : S1024x3072.Idx → EReal) (v : View sig .tc .vmem S1024x3072 .f32) (i1) (cc : ℕ) (hcc : cc + 256 ≤ 3072) (i3) (x : S1024x256.Idx) :
    v.readCov (Val := Elt Ideal) [⟨Rect.unit ![0, 0] ![1024, 3072] i1, B⟩]
      (Rect.unit (s := S1024x3072) ![0, cc] ![1024, 256] i3).toLoadRect x
      = at2 (n := 1024) (m := 3072) B (x 0).val (cc + (x 1).val) := by
  have hB := fun y : S1024x3072.Idx => (congrArg B (eq_ix2 y)).trans (at2_of B (y 0) (y 1)).symm
  rw [View.readCov_eq_canon']
  dsimp only
  rw [View.canon_apply_of_pieces (fun y : S1024x3072.Idx => at2 (n := 1024) (m := 3072) B (y 0).val (y 1).val)]
  · simp [LoadRect.idx_apply]
  · intro p hp y
    simp only [List.mem_cons, List.not_mem_nil, or_false] at hp
    subst hp
    refine (hB y).trans ?_
    simp [Rect.emb_apply]
  · have h0 : (x 0).val < 1024 := (x 0).isLt
    have h1 : (x 1).val < 256 := (x 1).isLt
    refine ⟨_, List.mem_cons_self, ?_⟩
    rw [Rect.mem_set_unit]
    intro a
    match a with
    | 0 => simp [LoadRect.idx_apply]; omega
    | 1 => simp [LoadRect.idx_apply]; omega

/-- At the last point the result's block is the accumulated product turned over. -/
theorem out_last (c : Dev nD) (t : Fin cfg0.N) (h1 : t.val % 8 = 7) (y : S3072x1024.Idx) :
    ((outsAt0 m c t.val t.isLt).1 y : EReal) = at2 (n := 1024) (m := 3072) (outsAt0 m c t.val t.isLt).2 (y 1).val (y 0).val := by
  rw [outsAt0_C m c t (by omega) h1]
  dsimp only
  frame_out
  generalize k0_pay2 (F := Ideal) _ _ _ = B
  have hr := fun cc hcc i3 x => read_cols B (View.whole cc0_scratch0) inb_S1024x3072_S1024x3072_0_0 cc hcc i3 x
  canon_tiles x h
  all_goals
    rw [h0, h1]
    pointwise [k0_pay3, k0_pay4, k0_pay5, k0_pay6, k0_pay7, k0_pay8, k0_pay9, k0_pay10, k0_pay11, k0_pay12, k0_pay13, k0_pay14, hr]

/-- A sum over eight blocks of 1024 rows. -/
theorem sum_blocks8 (f : ℕ → EReal) : ∑ p : Fin 8, ∑ r : Fin 1024, f (1024 * p.val + r.val) = ∑ r : Fin 8192, f r.val := by
  have h := Fin.sum_univ_univ_mul_add 8 1024 f
  simp only [Nat.mul_comm _ 1024] at h
  exact h

/-- The last grid point. -/
abbrev tLast : Fin cfg0.N := ⟨7, by decide +kernel⟩

/-- The accumulated product after the last point. -/
theorem acc_last (c : Dev nD) (y : S1024x3072.Idx) :
    ((outsAt0 m c tLast.val tLast.isLt).2 y : EReal) = ∑ r : Fin 8192, term m c r.val (y 0).val (y 1).val := by
  rw [Pipeline.eq_sum_fin_of_reset_step_apply_last (fun n h => (outsAt0 m c n h).2) 8 (fun _ => 0)
    (fun t j => ∑ k : Fin 1024, term m c (1024 * t.val + k.val) (j 0).val (j 1).val)
    (fun t h y => step m c t y 0 (.inl ⟨h, rfl⟩)) (fun t h y => step m c t y _ (.inr ⟨h, rfl⟩)) (le_of_eq N_0) tLast rfl]
  rw [zero_add]
  exact sum_blocks8 fun r => term m c r (y 0).val (y 1).val

/-- The product from the arguments. -/
def prod (h : FVec Ideal S8192x1024 .bf16) (d : FVec Ideal S8192x3072 .bf16) (i j : ℕ) : EReal :=
  ∑ r : Fin 8192, at2 (n := 8192) (m := 3072) d r.val i * at2 (n := 8192) (m := 1024) h r.val j

/-- The gradient as the kernel leaves it. -/
theorem final2 (c : Dev nD) : ((dats m 0 c).arrAt 2 cfg0.N : S3072x1024.Idx → Elt Ideal _)
    = fun i => prod (m ((c : Thread nD τ).loc main_arg0)) (m ((c : Thread nD τ).loc main_arg1)) (i 0).val (i 1).val := by
  refine (dats m 0 c).arrAt_eq_of_after_last 2 tLast (by decide +kernel) _ fun j => ?_
  rw [after0_2]
  refine (out_last m c tLast rfl j).trans ((at2_of (n := 1024) (k := 3072) _ (j 1) (j 0)).trans ((acc_last m c _).trans ?_))
  rw [prod]
  refine Fintype.sum_congr (M := EReal) _ _ fun r => ?_
  rw [term, V_main_arg0, V_main_arg1]
  exact mul_comm _ _

/-- The gradient as the plain line writes it. -/
theorem ref_at (a0 : FVec Ideal S8192x1024 .bf16) (a1 : FVec Ideal S8192x3072 .bf16) (ht : S8192x3072.Transposes [1, 0] Cert.Reference18Ideal.S3072x8192) (i : Fin 3072) (j : Fin 1024) :
    (truncf .bf16 (Host.dotGeneral (φ₁ := .f32) (φ₂ := .f32) Cert.Reference18Ideal.dot_S3072x8192_S8192x1024_S3072x1024_1_0_0_1_n_n none
      (transpose Cert.Reference18Ideal.S3072x8192 [1, 0] (extf .f32 a1 bitsLt_bf16_f32) ht)
      (extf .f32 a0 bitsLt_bf16_f32)) bitsLt_bf16_f32 : FVec Ideal S3072x1024 .bf16) (ix2 i j) = prod a0 a1 i.val j.val := by
  simp only [prod, at2_of a0, at2_of a1]
  pointwise []

end Cert.WinBwd

namespace Cert.Proof

/-- The plain product runs to the end and leaves the arguments unchanged. -/
theorem frameRef18 : Cert.quiescent_Reference18Ideal (hReference18Ideal := Cert.Reference18Ideal.Gen.facts) := by
  intro m g _
  exact (θ_run Cert.Reference18Ideal.defs _ _).mono
    (fun r h => ⟨fun c => (h c).2, sem_eq_zero_of_no_sems (by decide) r.2⟩)
    (Cert.Reference18Ideal.Value.run (F := Ideal) m g)

/-- The kernel's gradient is the plain one, whatever the arguments. -/
theorem algebraic18 : Cert.algebraic_Kernel18Ideal_Reference18Ideal
    (hKernel18Ideal := Cert.Kernel18Ideal.Gen.facts) (hReference18Ideal := Cert.Reference18Ideal.Gen.facts) := by
  pair_intro
  · run_from Cert.Kernel18Ideal.Gen.run_main m g
  · run_from Cert.Reference18Ideal.Value.run m' g'
    refine Eq.trans ?_ (WinBwd.final2 m c).symm
    funext i
    rw [eq_ix2 i]
    exact WinBwd.ref_at _ _ _ (i 0) (i 1)

end Cert.Proof

end
-- ==== Proof.Adam.lean ====
/-
# The optimiser's call of `ffn1_w2`: the sum of the eight parts of its gradient, and the AdamW step
-/
module

public import proofs.«01_k».proof.Proof.Gen.Kernel19Ideal.Value
public import proofs.«01_k».proof.Proof.Gen.Reference19Ideal.Run
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Adam

open Cert.Kernel19Ideal Cert.Kernel19Ideal.Gen

variable (m : (ℓ : Loc nD τ sig) → Buf (Elt Ideal) ℓ)

/-- The word the plain step divides the first moment by. -/
theorem word_bias1 : Ideal.ofBits .f32 0x3F26BD02#32 = ((5463681 / 8388608 : ℝ) : EReal) := by
  simp [Ideal.ofBits, Ideal.ieee, -EReal.coe_mul]; norm_num

/-- The word the plain step divides the second moment by. -/
theorem word_bias2 : Ideal.ofBits .f32 0x3C231ACC#32 = ((2672307 / 268435456 : ℝ) : EReal) := by
  simp [Ideal.ofBits, Ideal.ieee, -EReal.coe_mul]; norm_num

/-- The kernel's constant for the first moment is the reciprocal of the plain step's divisor. -/
theorem inv_bias1 : Named.named (F := Ideal) Cert.Kernel19Ideal.κ "inv_bias1" (φ := .f32) 0x3FC48605#32
    = (((5463681 / 8388608)⁻¹ : ℝ) : EReal) :=
  IdealRules.named_const.ideal_named_scalar _ _ _ _ rfl

/-- The kernel's constant for the second moment likewise. -/
theorem inv_bias2 : Named.named (F := Ideal) Cert.Kernel19Ideal.κ "inv_bias2" (φ := .f32) 0x42C8E6D3#32
    = (((2672307 / 268435456)⁻¹ : ℝ) : EReal) :=
  IdealRules.named_const.ideal_named_scalar _ _ _ _ rfl

/-- The gradient: the eight parts, added in order. -/
def grad (P : FVec Ideal S8x352x1024 .bf16) (i : S352x1024.Idx) : EReal :=
  P (ix3 0 (i 0) (i 1)) + P (ix3 1 (i 0) (i 1)) + P (ix3 2 (i 0) (i 1)) + P (ix3 3 (i 0) (i 1))
    + P (ix3 4 (i 0) (i 1)) + P (ix3 5 (i 0) (i 1)) + P (ix3 6 (i 0) (i 1)) + P (ix3 7 (i 0) (i 1))

/-- The first moment, from its entry and the gradient. -/
def mom (a g : EReal) : EReal := Ideal.ofBits .f32 0x3F666666#32 * a + Ideal.ofBits .f32 0x3DCCCCCD#32 * g

/-- The second moment, from its entry and the gradient. -/
def vel (b g : EReal) : EReal := Ideal.ofBits .f32 0x3F7FBE77#32 * b + Ideal.ofBits .f32 0x3A83126F#32 * (g * g)

/-- The step, from the weight, the two moments and the gradient, with the two corrections as quotients. -/
def step (w a b g : EReal) : EReal := Ideal.ofBits .f32 0xBA83126F#32
  * (Ideal.div (Ideal.div (mom a g) (Ideal.ofBits .f32 0x3F26BD02#32))
      (Ideal.sqrt (Ideal.div (vel b g) (Ideal.ofBits .f32 0x3C231ACC#32)) + Ideal.ofBits .f32 0x322BCC77#32)
    + Ideal.ofBits .f32 0x3C23D70A#32 * w)

/-- The windows' block indices at each point of the grid. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The weight as the call receives it. -/
theorem host1 (c : Dev nD) : V m c main_v0 = shapeCast _ (m ((c : Thread nD τ).loc main_arg1)) shapeCasts_S1x352x1024_S352x1024 := by
  show StableHlo.after _ _ _ = _; after_results_simp; rfl

/-- The first moment as the call receives it. -/
theorem host2 (c : Dev nD) : V m c main_v1 = shapeCast _ (m ((c : Thread nD τ).loc main_arg2)) shapeCasts_S1x352x1024_S352x1024 := by
  show StableHlo.after _ _ _ = _; after_results_simp; rfl

/-- The second moment as the call receives it. -/
theorem host3 (c : Dev nD) : V m c main_v2 = shapeCast _ (m ((c : Thread nD τ).loc main_arg3)) shapeCasts_S1x352x1024_S352x1024 := by
  show StableHlo.after _ _ _ = _; after_results_simp; rfl

/-- A row of the block's array is a row of the whole one. -/
def row (t : Fin cfg0.N) (r : Fin 176) : Fin 352 := ⟨176 * t.val + r.val, by have := lt_of_lt_of_eq t.isLt N_0; omega⟩

/-- A part of the gradient, in the block. -/
theorem part_at (c : Dev nD) (t : Fin cfg0.N) (d : Fin 8) (r : Fin 176) (l : Fin 1024) :
    (iblk m c 0 t : S8x176x1024.Idx → EReal) (ix3 d r l) = m ((c : Thread nD τ).loc main_arg0) (ix3 d (row t r) l) := by
  blk_point [iblk, V_main_arg0, idx t, row]

/-- The weight, in the block. -/
theorem weight_at (c : Dev nD) (t : Fin cfg0.N) (r : Fin 176) (l : Fin 1024) :
    (iblk m c 1 t : S176x1024.Idx → EReal) (ix2 r l) = m ((c : Thread nD τ).loc main_arg1) (ix3 0 (row t r) l) := by
  blk_point [iblk, host1, idx t, row]

/-- The gradient, in the block. -/
theorem grad_at (c : Dev nD) (t : Fin cfg0.N) (r : Fin 176) (l : Fin 1024) :
    (k0_pay6 (F := Ideal) (iblk m c 0 t) (iblk m c 1 t) (iblk m c 2 t) (iblk m c 3 t) (ix2 r l) : EReal)
      = grad (m ((c : Thread nD τ).loc main_arg0)) (ix2 (row t r) l) := by
  pointwise [k0_pay6, k0_pay4, grad, part_at]

/-- The first moment's entry, in the block. -/
theorem mom_at (c : Dev nD) (t : Fin cfg0.N) (r : Fin 176) (l : Fin 1024) :
    (iblk m c 2 t : S176x1024.Idx → EReal) (ix2 r l) = m ((c : Thread nD τ).loc main_arg2) (ix3 0 (row t r) l) := by
  blk_point [iblk, host2, idx t, row]

/-- The second moment's entry, in the block. -/
theorem vel_at (c : Dev nD) (t : Fin cfg0.N) (r : Fin 176) (l : Fin 1024) :
    (iblk m c 3 t : S176x1024.Idx → EReal) (ix2 r l) = m ((c : Thread nD τ).loc main_arg3) (ix3 0 (row t r) l) := by
  blk_point [iblk, host3, idx t, row]

/-- What the kernel's first moment is. -/
theorem pay1_at (G : FVec Ideal S176x1024 .f32) (A : FVec Ideal S176x1024 .f32) (y : S176x1024.Idx) :
    (k0_pay1 (F := Ideal) G A y : EReal) = mom (A y) (G y) := by
  rw [eq_ix2 y]; pointwise [k0_pay1, mom]

/-- What the kernel's second moment is. -/
theorem pay2_at (G : FVec Ideal S176x1024 .f32) (B : FVec Ideal S176x1024 .f32) (y : S176x1024.Idx) :
    (k0_pay2 (F := Ideal) G B y : EReal) = vel (B y) (G y) := by
  rw [eq_ix2 y]; pointwise [k0_pay2, vel]

/-- What the kernel's step is: its products with the named reciprocals are the quotients. -/
theorem pay3_at (G W A B : FVec Ideal S176x1024 .f32) (y : S176x1024.Idx) :
    (k0_pay3 (F := Ideal) G (k0_pay5 W) A B y : EReal) = step (W y) (A y) (B y) (G y) := by
  have h1 : ∀ x : EReal, Ideal.div x (Ideal.ofBits .f32 0x3F26BD02#32) = x * (((5463681 / 8388608)⁻¹ : ℝ) : EReal) := fun x => by
    rw [word_bias1, Ideal.div_coe (by norm_num), one_div]
  have h2 : ∀ x : EReal, Ideal.div x (Ideal.ofBits .f32 0x3C231ACC#32) = x * (((2672307 / 268435456)⁻¹ : ℝ) : EReal) := fun x => by
    rw [word_bias2, Ideal.div_coe (by norm_num), one_div]
  simp only [step, h1, h2]
  rw [eq_ix2 y]
  pointwise [k0_pay3, k0_pay5, inv_bias1, inv_bias2, pay1_at, pay2_at]

/-- The gradient as the kernel leaves it. -/
theorem final4 (c : Dev nD) : ((dats m 0 c).arrAt 4 cfg0.N : S352x1024.Idx → Elt Ideal _)
    = grad (m ((c : Thread nD τ).loc main_arg0)) := by
  refine (dats m 0 c).arrAt_eq_of_covers 4 _ (by decide +kernel) fun t _ y => ?_
  blk_simp
  rw [after0_4]; frame_out
  refine (congrArg (k0_pay6 (F := Ideal) _ _ _ _) (eq_ix2 y)).trans ((grad_at m c t (y 0) (y 1)).trans (congrArg (grad _) ?_))
  blk_point [idx t, row]

/-- Equal arguments give equal steps. -/
theorem step_congr {w w' a a' b b' g g' : EReal} (hw : w = w') (ha : a = a') (hb : b = b') (hg : g = g') : step w a b g = step w' a' b' g' := by
  rw [hw, ha, hb, hg]

/-- The step at an index. -/
def stepAt (W A B : FVec Ideal S1x352x1024 .f32) (P : FVec Ideal S8x352x1024 .bf16) (i : S352x1024.Idx) : EReal :=
  step (W (ix3 0 (i 0) (i 1))) (A (ix3 0 (i 0) (i 1))) (B (ix3 0 (i 0) (i 1))) (grad P i)

/-- The first moment at an index. -/
def momAt (A : FVec Ideal S1x352x1024 .f32) (P : FVec Ideal S8x352x1024 .bf16) (i : S352x1024.Idx) : EReal :=
  mom (A (ix3 0 (i 0) (i 1))) (grad P i)

/-- The second moment at an index. -/
def velAt (B : FVec Ideal S1x352x1024 .f32) (P : FVec Ideal S8x352x1024 .bf16) (i : S352x1024.Idx) : EReal :=
  vel (B (ix3 0 (i 0) (i 1))) (grad P i)

/-- The step as the kernel leaves it. -/
theorem final5 (c : Dev nD) : ((dats m 0 c).arrAt 5 cfg0.N : S352x1024.Idx → Elt Ideal _)
    = stepAt (m ((c : Thread nD τ).loc main_arg1)) (m ((c : Thread nD τ).loc main_arg2)) (m ((c : Thread nD τ).loc main_arg3)) (m ((c : Thread nD τ).loc main_arg0)) := by
  refine (dats m 0 c).arrAt_eq_of_covers 5 _ (by decide +kernel) fun t _ y => ?_
  blk_simp
  rw [after0_5]; frame_out
  obtain ⟨r, l, rfl⟩ : ∃ (r : Fin 176) (l : Fin 1024), y = ix2 r l := ⟨y 0, y 1, eq_ix2 y⟩
  refine (pay3_at _ _ _ _ (ix2 r l)).trans ?_
  refine (show _ = stepAt (m ((c : Thread nD τ).loc main_arg1)) (m ((c : Thread nD τ).loc main_arg2)) (m ((c : Thread nD τ).loc main_arg3)) (m ((c : Thread nD τ).loc main_arg0)) (ix2 (row t r) l) from
    step_congr (weight_at m c t r l) (mom_at m c t r l) (vel_at m c t r l) (grad_at m c t r l)).trans (congrArg (stepAt _ _ _ _) ?_)
  blk_point [idx t, row]

/-- The first moment as the kernel leaves it. -/
theorem final6 (c : Dev nD) : ((dats m 0 c).arrAt 6 cfg0.N : S352x1024.Idx → Elt Ideal _)
    = momAt (m ((c : Thread nD τ).loc main_arg2)) (m ((c : Thread nD τ).loc main_arg0)) := by
  refine (dats m 0 c).arrAt_eq_of_covers 6 _ (by decide +kernel) fun t _ y => ?_
  blk_simp
  rw [after0_6]; frame_out
  obtain ⟨r, l, rfl⟩ : ∃ (r : Fin 176) (l : Fin 1024), y = ix2 r l := ⟨y 0, y 1, eq_ix2 y⟩
  refine (pay1_at _ _ (ix2 r l)).trans ?_
  refine (show _ = momAt (m ((c : Thread nD τ).loc main_arg2)) (m ((c : Thread nD τ).loc main_arg0)) (ix2 (row t r) l) from
    congrArg₂ mom (mom_at m c t r l) (grad_at m c t r l)).trans (congrArg (momAt _ _) ?_)
  blk_point [idx t, row]

/-- The second moment as the kernel leaves it. -/
theorem final7 (c : Dev nD) : ((dats m 0 c).arrAt 7 cfg0.N : S352x1024.Idx → Elt Ideal _)
    = velAt (m ((c : Thread nD τ).loc main_arg3)) (m ((c : Thread nD τ).loc main_arg0)) := by
  refine (dats m 0 c).arrAt_eq_of_covers 7 _ (by decide +kernel) fun t _ y => ?_
  blk_simp
  rw [after0_7]; frame_out
  obtain ⟨r, l, rfl⟩ : ∃ (r : Fin 176) (l : Fin 1024), y = ix2 r l := ⟨y 0, y 1, eq_ix2 y⟩
  refine (pay2_at _ _ (ix2 r l)).trans ?_
  refine (show _ = velAt (m ((c : Thread nD τ).loc main_arg3)) (m ((c : Thread nD τ).loc main_arg0)) (ix2 (row t r) l) from
    congrArg₂ vel (vel_at m c t r l) (grad_at m c t r l)).trans (congrArg (velAt _ _) ?_)
  blk_point [idx t, row]

/-- The sum of the parts, as the plain step writes it, is the sum in order. -/
theorem sum_parts (P : FVec Ideal S8x352x1024 .bf16) (r : Fin 352) (l : Fin 1024) :
    (∑ d : Fin 8, P (ix3 d r l) : EReal) = grad P (ix2 r l) := by
  rw [Fin.sum_univ_eight]; rfl

/-- The gradient as the plain step writes it. -/
theorem refGrad_at (P : FVec Ideal S8x352x1024 .bf16) (h : FTy.bits .bf16 < FTy.bits .f32) (h1 h2) (r : Fin 352) (l : Fin 1024) :
    (Host.reduceAdd (F := Ideal) (extf .f32 P h) (constant Cert.Reference19Ideal.S_ .f32 0x00000000#32) (axes := [0]) (t := S352x1024) h1 h2 (ix2 r l) : EReal)
      = grad P (ix2 r l) := by
  rw [← sum_parts]; pointwise []

end Cert.Adam

namespace Cert.AdamRef

open Cert.Reference19Ideal Cert.Reference19Ideal.Gen
open Cert.Adam (grad mom vel step momAt velAt stepAt)

/-- The plain first moment. -/
def momR (A : FVec Ideal S1x352x1024 .f32) (G : FVec Ideal S352x1024 .f32) : FVec Ideal S352x1024 .f32 :=
  addf (mulf (broadcastInDim S352x1024 ![] bcast_S_S352x1024 (constant S_ .f32 0x3F666666#32)) (shapeCast _ A shapeCasts_S1x352x1024_S352x1024)) (mulf (broadcastInDim S352x1024 ![] bcast_S_S352x1024 (constant S_ .f32 0x3DCCCCCD#32)) G)

/-- The plain second moment. -/
def velR (B : FVec Ideal S1x352x1024 .f32) (G : FVec Ideal S352x1024 .f32) : FVec Ideal S352x1024 .f32 :=
  addf (mulf (broadcastInDim S352x1024 ![] bcast_S_S352x1024 (constant S_ .f32 0x3F7FBE77#32)) (shapeCast _ B shapeCasts_S1x352x1024_S352x1024)) (mulf (broadcastInDim S352x1024 ![] bcast_S_S352x1024 (constant S_ .f32 0x3A83126F#32)) (mulf G G))

/-- The plain step. -/
def stepR (W A B : FVec Ideal S1x352x1024 .f32) (G : FVec Ideal S352x1024 .f32) : FVec Ideal S352x1024 .f32 :=
  mulf (broadcastInDim S352x1024 ![] bcast_S_S352x1024 (constant S_ .f32 0xBA83126F#32)) (addf (Host.divf (Host.divf (momR A G) (broadcastInDim S352x1024 ![] bcast_S_S352x1024 (constant S_ .f32 0x3F26BD02#32))) (addf (Host.sqrt (Host.divf (velR B G) (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) (shapeCast _ W shapeCasts_S1x352x1024_S352x1024)))

variable (W A B : FVec Ideal S1x352x1024 .f32) {P : FVec Ideal S8x352x1024 .bf16} {G : FVec Ideal S352x1024 .f32}

/-- The plain first moment at an index. -/
theorem momR_at (hG : ∀ r l, (G (ix2 r l) : EReal) = grad P (ix2 r l)) (r : Fin 352) (l : Fin 1024) :
    (momR A G (ix2 r l) : EReal) = momAt A P (ix2 r l) := by
  rw [momAt, ← hG]; pointwise [momR, mom]

/-- The plain second moment at an index. -/
theorem velR_at (hG : ∀ r l, (G (ix2 r l) : EReal) = grad P (ix2 r l)) (r : Fin 352) (l : Fin 1024) :
    (velR B G (ix2 r l) : EReal) = velAt B P (ix2 r l) := by
  rw [velAt, ← hG]; pointwise [velR, vel]

/-- The plain step at an index. -/
theorem stepR_at (hG : ∀ r l, (G (ix2 r l) : EReal) = grad P (ix2 r l)) (r : Fin 352) (l : Fin 1024) :
    (stepR W A B G (ix2 r l) : EReal) = stepAt W A B P (ix2 r l) := by
  rw [stepAt, ← hG]; pointwise [stepR, momR, velR, step, mom, vel, Ideal.hostUnary_sqrt_def, Host.sqrt]

end Cert.AdamRef

namespace Cert.Proof

/-- The plain step runs to the end and leaves the arguments unchanged. -/
theorem frameRef19 : Cert.quiescent_Reference19Ideal (hReference19Ideal := Cert.Reference19Ideal.Gen.facts) := by
  intro m g _
  exact (θ_run Cert.Reference19Ideal.defs _ _).mono
    (fun r h => ⟨fun c => (h c).2.2.2.2, sem_eq_zero_of_no_sems (by decide) r.2⟩)
    (Cert.Reference19Ideal.Value.run (F := Ideal) m g)

/-- The two named constants round to the words the kernel was written with. -/
theorem preserves19 : Cert.preserves_Kernel19_Kernel19Ideal :=
  ⟨IdealRules.named_const.statement Cert.Kernel19Ideal.κ "inv_bias1" .f32 0x3FC48605#32 (((5463681 / 8388608)⁻¹ : ℝ) : EReal) rfl,
    IdealRules.named_const.statement Cert.Kernel19Ideal.κ "inv_bias2" .f32 0x42C8E6D3#32 (((2672307 / 268435456)⁻¹ : ℝ) : EReal) rfl⟩

/-- The kernel's gradient, step and moments are the plain ones, whatever the arguments. -/
theorem algebraic19 : Cert.algebraic_Kernel19Ideal_Reference19Ideal
    (hKernel19Ideal := Cert.Kernel19Ideal.Gen.facts) (hReference19Ideal := Cert.Reference19Ideal.Gen.facts) := by
  intro m g m' g' _ hagree
  refine ⟨_, _, _, _, Cert.Kernel19Ideal.Value.run_blocks m g, ?_⟩
  refine (θ_run Cert.Reference19Ideal.defs _ _).mono (fun r h c => ?_) (Cert.Reference19Ideal.Value.run (F := Ideal) m' g')
  obtain ⟨h0, h1, h2, h3⟩ := hagree c
  obtain ⟨e0, e1, e2, e3, ha⟩ := h c
  rw [h0] at e0
  rw [h0, h1, h2, h3] at e1
  rw [h0, h2] at e2
  rw [h0, h3] at e3
  refine ⟨e0.trans ?_, e1.trans ?_, e2.trans ?_, e3.trans ?_, ha⟩
  · refine Eq.trans ?_ (Adam.final4 m c).symm
    funext i
    rw [eq_ix2 i]
    exact Adam.refGrad_at _ _ _ _ (i 0) (i 1)
  · refine Eq.trans ?_ (Adam.final5 m c).symm
    funext i
    rw [eq_ix2 i]
    exact AdamRef.stepR_at _ _ _ (Adam.refGrad_at _ _ _ _) (i 0) (i 1)
  · refine Eq.trans ?_ (Adam.final6 m c).symm
    funext i
    rw [eq_ix2 i]
    exact AdamRef.momR_at _ (Adam.refGrad_at _ _ _ _) (i 0) (i 1)
  · refine Eq.trans ?_ (Adam.final7 m c).symm
    funext i
    rw [eq_ix2 i]
    exact AdamRef.velR_at _ (Adam.refGrad_at _ _ _ _) (i 0) (i 1)

end Cert.Proof

end
-- ==== Proof.AdamS.lean ====
/-
# The optimiser's call for the small parameters, at a norm's scale and at the recurrence's bounds
-/
module

public import proofs.«01_k».proof.Proof.Gen.Kernel20Ideal.Value
public import proofs.«01_k».proof.Proof.Gen.Reference20Ideal.Run
public import proofs.«01_k».proof.Proof.Gen.Pre_finite20
public import proofs.«01_k».proof.Proof.Adam
public import proofs.«01_k».proof.Proof.HgRefB
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamS

open Cert.Kernel20Ideal Cert.Kernel20Ideal.Gen
open Cert.Adam (mom vel step word_bias1 word_bias2 step_congr)

variable (m : (ℓ : Loc nD τ sig) → Buf (Elt Ideal) ℓ)

/-- The named constants, in this kernel's table. -/
theorem inv_bias1 : Named.named (F := Ideal) Cert.Kernel20Ideal.κ "inv_bias1" (φ := .f32) 0x3FC48605#32
    = (((5463681 / 8388608)⁻¹ : ℝ) : EReal) :=
  IdealRules.named_const.ideal_named_scalar _ _ _ _ rfl

/-- The second of them. -/
theorem inv_bias2 : Named.named (F := Ideal) Cert.Kernel20Ideal.κ "inv_bias2" (φ := .f32) 0x42C8E6D3#32
    = (((2672307 / 268435456)⁻¹ : ℝ) : EReal) :=
  IdealRules.named_const.ideal_named_scalar _ _ _ _ rfl

/-- The quotient by the first correction. -/
theorem div_bias1 (x : EReal) : Ideal.div x (Ideal.ofBits .f32 0x3F26BD02#32) = x * (((5463681 / 8388608)⁻¹ : ℝ) : EReal) := by
  rw [word_bias1, Ideal.div_coe (by norm_num), one_div]

/-- The quotient by the second. -/
theorem div_bias2 (x : EReal) : Ideal.div x (Ideal.ofBits .f32 0x3C231ACC#32) = x * (((2672307 / 268435456)⁻¹ : ℝ) : EReal) := by
  rw [word_bias2, Ideal.div_coe (by norm_num), one_div]

/-- The eight parts, added in order. -/
def g1 (P : FVec Ideal S8x1x1024 .f32) (l : Fin 1024) : EReal :=
  P (ix3 0 0 l) + P (ix3 1 0 l) + P (ix3 2 0 l) + P (ix3 3 0 l) + P (ix3 4 0 l) + P (ix3 5 0 l) + P (ix3 6 0 l) + P (ix3 7 0 l)

/-- The first bound's share, from the difference of the two rows. -/
def s0 (W : FVec Ideal S2x1024 .f32) (l : Fin 1024) : EReal :=
  Ideal.div (Ideal.ofBits .f32 0x3F800000#32) (Ideal.ofBits .f32 0x3F800000#32 + Ideal.exp (W (ix2 1 l) - W (ix2 0 l)))

/-- The gradient of the bounds, as the kernel computes it. -/
def gB (P : FVec Ideal S8x1x1024 .f32) (W : FVec Ideal S2x1024 .f32) (r : Fin 2) (l : Fin 1024) : EReal :=
  Ideal.ofBits .f32 (if r = 0 then 0x3F800000#32 else 0xBF800000#32) * (g1 P l * s0 W l * (Ideal.ofBits .f32 0x3F800000#32 - s0 W l))

/-- The two gradients over their index sets. -/
def g1At (P : FVec Ideal S8x1x1024 .f32) (i : S1x1024.Idx) : EReal := g1 P (i 1)

/-- The bounds' gradient over its index set. -/
def gBAt (P : FVec Ideal S8x1x1024 .f32) (W : FVec Ideal S2x1024 .f32) (i : S2x1024.Idx) : EReal := gB P W (i 0) (i 1)

section

variable (x0 x1 : FVec Ideal S8x1x1024 .f32) (x2 : FVec Ideal S1x1024 .f32) (x3 : FVec Ideal S2x1024 .f32) (x4 : FVec Ideal S1x1024 .f32)
  (x5 : FVec Ideal S2x1024 .f32) (x6 : FVec Ideal S1x1024 .f32) (x7 : FVec Ideal S2x1024 .f32)

/-- The scale's gradient. -/
theorem pay13_at (l : Fin 1024) : (k0_pay13 (F := Ideal) x0 x1 x2 x3 x4 x5 x6 x7 (ix2 0 l) : EReal) = g1 x0 l := by
  pointwise [k0_pay13, k0_pay1, g1]

/-- The magnitude of the bounds' gradient. -/
theorem pay16_at (l : Fin 1024) : (k0_pay16 (F := Ideal) x0 x1 x2 x3 x4 x5 x6 x7 (ix2 0 l) : EReal)
    = g1 x1 l * s0 x3 l * (Ideal.ofBits .f32 0x3F800000#32 - s0 x3 l) := by
  pointwise [k0_pay16, k0_pay8, k0_pay6, g1, s0]

/-- The bounds' gradient. -/
theorem pay9_at (r : Fin 2) (l : Fin 1024) :
    (k0_pay9 (F := Ideal) (k0_pay15 x0 x1 x2 x3 x4 x5 x6 x7) (k0_pay16 x0 x1 x2 x3 x4 x5 x6 x7) (ix2 r l) : EReal) = gB x1 x3 r l := by
  rw [gB, ← pay16_at x0 x1 x2 x3 x4 x5 x6 x7]
  fin_cases r
  · pointwise [k0_pay9, k0_pay15, k0_pay7]
  · pointwise [k0_pay9, k0_pay15, k0_pay7]
    rw [show IntOp.cmpi .eq (1#32) 0#32 = 0#1 from by decide]; rfl

/-- The moments and the step of the scale. -/
theorem pay3_at (G A : FVec Ideal S1x1024 .f32) (y : S1x1024.Idx) :
    (k0_pay3 (F := Ideal) G (k0_pay2 A) (Ideal.ofBits .f32 0x3DCCCCCD#32) y : EReal) = mom (A y) (G y) := by
  rw [eq_ix2 y]; pointwise [k0_pay3, k0_pay2, mom]

/-- The second moment of the scale. -/
theorem pay4_at (G B : FVec Ideal S1x1024 .f32) (y : S1x1024.Idx) : (k0_pay4 (F := Ideal) G B y : EReal) = vel (B y) (G y) := by
  rw [eq_ix2 y]; pointwise [k0_pay4, vel]

/-- The step of the scale. -/
theorem pay5_at (G W A B : FVec Ideal S1x1024 .f32) (y : S1x1024.Idx) :
    (k0_pay5 (F := Ideal) G W B (k0_pay2 A) (Scalar.ofBits .f32 0x3DCCCCCD#32) y : EReal) = step (W y) (A y) (B y) (G y) := by
  simp only [step, div_bias1, div_bias2]
  rw [eq_ix2 y]
  pointwise [k0_pay5, inv_bias1, inv_bias2, pay3_at, pay4_at]

/-- The first moment of the bounds. -/
theorem pay10_at (A : FVec Ideal S2x1024 .f32) (r : Fin 2) (l : Fin 1024) :
    (k0_pay10 (F := Ideal) (k0_pay15 x0 x1 x2 x3 x4 x5 x6 x7) (k0_pay16 x0 x1 x2 x3 x4 x5 x6 x7) A (ix2 r l) : EReal) = mom (A (ix2 r l)) (gB x1 x3 r l) := by
  rw [← pay9_at x0 x1 x2 x3 x4 x5 x6 x7]; pointwise [k0_pay10, mom]

/-- The second moment of the bounds. -/
theorem pay11_at (B : FVec Ideal S2x1024 .f32) (r : Fin 2) (l : Fin 1024) :
    (k0_pay11 (F := Ideal) (k0_pay15 x0 x1 x2 x3 x4 x5 x6 x7) (k0_pay16 x0 x1 x2 x3 x4 x5 x6 x7) B (ix2 r l) : EReal) = vel (B (ix2 r l)) (gB x1 x3 r l) := by
  rw [← pay9_at x0 x1 x2 x3 x4 x5 x6 x7]; pointwise [k0_pay11, vel]

/-- The step of the bounds. -/
theorem pay12_at (W A B : FVec Ideal S2x1024 .f32) (r : Fin 2) (l : Fin 1024) :
    (k0_pay12 (F := Ideal) W (k0_pay15 x0 x1 x2 x3 x4 x5 x6 x7) (k0_pay16 x0 x1 x2 x3 x4 x5 x6 x7) A B (ix2 r l) : EReal)
      = step (W (ix2 r l)) (A (ix2 r l)) (B (ix2 r l)) (gB x1 x3 r l) := by
  simp only [step, div_bias1, div_bias2]
  pointwise [k0_pay12, inv_bias1, inv_bias2, pay10_at, pay11_at]

end

/-- The windows' block indices. -/
theorem idx : ∀ t : Fin cfg0.N, (∀ a, win0_0.index t a = 0) ∧ (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0) ∧ (∀ a, win0_9.index t a = 0) ∧ (∀ a, win0_10.index t a = 0) ∧ (∀ a, win0_11.index t a = 0)
    ∧ (∀ a, win0_12.index t a = 0) ∧ (∀ a, win0_13.index t a = 0) ∧ (∀ a, win0_14.index t a = 0) ∧ (∀ a, win0_15.index t a = 0) :=
  (by decide +kernel : ∀ t : Fin grid0.N, _)

/-- A window's block is its whole array. -/
theorem blk (c : Dev nD) (t : Fin cfg0.N) : iblk m c 0 t = m (c.tc.loc main_arg0)
    ∧ iblk m c 1 t = m (c.tc.loc main_arg1)
    ∧ iblk m c 2 t = m (c.tc.loc main_arg2)
    ∧ iblk m c 3 t = m (c.tc.loc main_arg3)
    ∧ iblk m c 4 t = m (c.tc.loc main_arg4)
    ∧ iblk m c 5 t = m (c.tc.loc main_arg5)
    ∧ iblk m c 6 t = m (c.tc.loc main_arg6)
    ∧ iblk m c 7 t = m (c.tc.loc main_arg7) := by
  refine ⟨?_, ?_, ?_, ?_, ?_, ?_, ?_, ?_⟩ <;> funext i
  · blk_point [iblk, V_main_arg0, idx t]
  · blk_point [iblk, V_main_arg1, idx t]
  · blk_point [iblk, V_main_arg2, idx t]
  · blk_point [iblk, V_main_arg3, idx t]
  · blk_point [iblk, V_main_arg4, idx t]
  · blk_point [iblk, V_main_arg5, idx t]
  · blk_point [iblk, V_main_arg6, idx t]
  · blk_point [iblk, V_main_arg7, idx t]

/-- A load of a whole row, and of both. -/
theorem ld_row (x : Vec Ideal S1x1024 .f32) : @View.ld (Elt Ideal) S1x1024 .f32 x r0_8 = x := by
  funext y; rw [eq_ix2 y]; pointwise []
  exact congrArg x (by funext b; fin_cases b; exacts [Subsingleton.elim (α := Fin 1) _ _, rfl])

/-- The load of both rows. -/
theorem ld_rows (x : Vec Ideal S2x1024 .f32) : @View.ld (Elt Ideal) S2x1024 .f32 x r0_9 = x := by
  funext y; rw [eq_ix2 y]; pointwise []

/-- The scale's gradient as the kernel leaves it. -/
theorem final8 (c : Dev nD) : ((dats m 0 c).arrAt 8 cfg0.N : S1x1024.Idx → Elt Ideal _) = g1At (m (c.tc.loc main_arg0)) := by
  refine (dats m 0 c).arrAt_eq_of_covers 8 _ (by decide +kernel) fun t _ y => ?_
  blk_simp
  rw [after0_8]; frame_out
  simp only [blk, k0_pay14, ld_row, ld_rows]
  obtain ⟨r, l, rfl⟩ : ∃ (r : Fin 1) (l : Fin 1024), y = ix2 r l := ⟨y 0, y 1, eq_ix2 y⟩
  obtain rfl : r = 0 := Subsingleton.elim _ _
  refine (pay13_at _ _ _ _ _ _ _ _ l).trans ?_
  show g1At (m (c.tc.loc main_arg0)) (ix2 0 l) = _
  refine congrArg (g1At (m (c.tc.loc main_arg0))) ?_
  blk_point [idx t]

/-- The bounds' gradient as the kernel leaves it. -/
theorem final9 (c : Dev nD) : ((dats m 0 c).arrAt 9 cfg0.N : S2x1024.Idx → Elt Ideal _) = gBAt (m (c.tc.loc main_arg1)) (m (c.tc.loc main_arg3)) := by
  refine (dats m 0 c).arrAt_eq_of_covers 9 _ (by decide +kernel) fun t _ y => ?_
  blk_simp
  rw [after0_9]; frame_out
  simp only [blk, k0_pay14, ld_row, ld_rows]
  obtain ⟨r, l, rfl⟩ : ∃ (r : Fin 2) (l : Fin 1024), y = ix2 r l := ⟨y 0, y 1, eq_ix2 y⟩
  refine (pay9_at _ _ _ _ _ _ _ _ r l).trans ?_
  show gBAt (m (c.tc.loc main_arg1)) (m (c.tc.loc main_arg3)) (ix2 r l) = _
  refine congrArg (gBAt (m (c.tc.loc main_arg1)) (m (c.tc.loc main_arg3))) ?_
  blk_point [idx t]

/-- The scale's step. -/
theorem final10 (c : Dev nD) : ((dats m 0 c).arrAt 10 cfg0.N : S1x1024.Idx → Elt Ideal _) = fun i => step ((m (c.tc.loc main_arg2)) i) ((m (c.tc.loc main_arg4)) i) ((m (c.tc.loc main_arg6)) i) (g1At (m (c.tc.loc main_arg0)) i) := by
  refine (dats m 0 c).arrAt_eq_of_covers 10 _ (by decide +kernel) fun t _ y => ?_
  blk_simp
  rw [after0_10]; frame_out
  simp only [blk, k0_pay14, ld_row, ld_rows]
  obtain ⟨r, l, rfl⟩ : ∃ (r : Fin 1) (l : Fin 1024), y = ix2 r l := ⟨y 0, y 1, eq_ix2 y⟩
  obtain rfl : r = 0 := Subsingleton.elim _ _
  refine ((pay5_at _ _ _ _ _).trans (step_congr rfl rfl rfl (pay13_at _ _ _ _ _ _ _ _ l))).trans (congrArg (fun i : S1x1024.Idx => step ((m (c.tc.loc main_arg2)) i) ((m (c.tc.loc main_arg4)) i) ((m (c.tc.loc main_arg6)) i) (g1At (m (c.tc.loc main_arg0)) i)) (?_ : ix2 0 l = _))
  blk_point [idx t]

/-- The bounds' step. -/
theorem final11 (c : Dev nD) : ((dats m 0 c).arrAt 11 cfg0.N : S2x1024.Idx → Elt Ideal _) = fun i => step ((m (c.tc.loc main_arg3)) i) ((m (c.tc.loc main_arg5)) i) ((m (c.tc.loc main_arg7)) i) (gBAt (m (c.tc.loc main_arg1)) (m (c.tc.loc main_arg3)) i) := by
  refine (dats m 0 c).arrAt_eq_of_covers 11 _ (by decide +kernel) fun t _ y => ?_
  blk_simp
  rw [after0_11]; frame_out
  simp only [blk, k0_pay14, ld_row, ld_rows]
  obtain ⟨r, l, rfl⟩ : ∃ (r : Fin 2) (l : Fin 1024), y = ix2 r l := ⟨y 0, y 1, eq_ix2 y⟩
  refine (pay12_at _ _ _ _ _ _ _ _ _ _ _ r l).trans (congrArg (fun i : S2x1024.Idx => step ((m (c.tc.loc main_arg3)) i) ((m (c.tc.loc main_arg5)) i) ((m (c.tc.loc main_arg7)) i) (gBAt (m (c.tc.loc main_arg1)) (m (c.tc.loc main_arg3)) i)) (?_ : ix2 r l = _))
  blk_point [idx t]

/-- The scale's first moment. -/
theorem final12 (c : Dev nD) : ((dats m 0 c).arrAt 12 cfg0.N : S1x1024.Idx → Elt Ideal _) = fun i => mom ((m (c.tc.loc main_arg4)) i) (g1At (m (c.tc.loc main_arg0)) i) := by
  refine (dats m 0 c).arrAt_eq_of_covers 12 _ (by decide +kernel) fun t _ y => ?_
  blk_simp
  rw [after0_12]; frame_out
  simp only [blk, k0_pay14, ld_row, ld_rows]
  obtain ⟨r, l, rfl⟩ : ∃ (r : Fin 1) (l : Fin 1024), y = ix2 r l := ⟨y 0, y 1, eq_ix2 y⟩
  obtain rfl : r = 0 := Subsingleton.elim _ _
  refine ((pay3_at _ _ _).trans (congrArg (mom _) (pay13_at _ _ _ _ _ _ _ _ l))).trans (congrArg (fun i : S1x1024.Idx => mom ((m (c.tc.loc main_arg4)) i) (g1At (m (c.tc.loc main_arg0)) i)) (?_ : ix2 0 l = _))
  blk_point [idx t]

/-- The bounds' first moment. -/
theorem final13 (c : Dev nD) : ((dats m 0 c).arrAt 13 cfg0.N : S2x1024.Idx → Elt Ideal _) = fun i => mom ((m (c.tc.loc main_arg5)) i) (gBAt (m (c.tc.loc main_arg1)) (m (c.tc.loc main_arg3)) i) := by
  refine (dats m 0 c).arrAt_eq_of_covers 13 _ (by decide +kernel) fun t _ y => ?_
  blk_simp
  rw [after0_13]; frame_out
  simp only [blk, k0_pay14, ld_row, ld_rows]
  obtain ⟨r, l, rfl⟩ : ∃ (r : Fin 2) (l : Fin 1024), y = ix2 r l := ⟨y 0, y 1, eq_ix2 y⟩
  refine (pay10_at _ _ _ _ _ _ _ _ _ r l).trans (congrArg (fun i : S2x1024.Idx => mom ((m (c.tc.loc main_arg5)) i) (gBAt (m (c.tc.loc main_arg1)) (m (c.tc.loc main_arg3)) i)) (?_ : ix2 r l = _))
  blk_point [idx t]

/-- The scale's second moment. -/
theorem final14 (c : Dev nD) : ((dats m 0 c).arrAt 14 cfg0.N : S1x1024.Idx → Elt Ideal _) = fun i => vel ((m (c.tc.loc main_arg6)) i) (g1At (m (c.tc.loc main_arg0)) i) := by
  refine (dats m 0 c).arrAt_eq_of_covers 14 _ (by decide +kernel) fun t _ y => ?_
  blk_simp
  rw [after0_14]; frame_out
  simp only [blk, k0_pay14, ld_row, ld_rows]
  obtain ⟨r, l, rfl⟩ : ∃ (r : Fin 1) (l : Fin 1024), y = ix2 r l := ⟨y 0, y 1, eq_ix2 y⟩
  obtain rfl : r = 0 := Subsingleton.elim _ _
  refine ((pay4_at _ _ _).trans (congrArg (vel _) (pay13_at _ _ _ _ _ _ _ _ l))).trans (congrArg (fun i : S1x1024.Idx => vel ((m (c.tc.loc main_arg6)) i) (g1At (m (c.tc.loc main_arg0)) i)) (?_ : ix2 0 l = _))
  blk_point [idx t]

/-- The bounds' second moment. -/
theorem final15 (c : Dev nD) : ((dats m 0 c).arrAt 15 cfg0.N : S2x1024.Idx → Elt Ideal _) = fun i => vel ((m (c.tc.loc main_arg7)) i) (gBAt (m (c.tc.loc main_arg1)) (m (c.tc.loc main_arg3)) i) := by
  refine (dats m 0 c).arrAt_eq_of_covers 15 _ (by decide +kernel) fun t _ y => ?_
  blk_simp
  rw [after0_15]; frame_out
  simp only [blk, k0_pay14, ld_row, ld_rows]
  obtain ⟨r, l, rfl⟩ : ∃ (r : Fin 2) (l : Fin 1024), y = ix2 r l := ⟨y 0, y 1, eq_ix2 y⟩
  refine (pay11_at _ _ _ _ _ _ _ _ _ r l).trans (congrArg (fun i : S2x1024.Idx => vel ((m (c.tc.loc main_arg7)) i) (gBAt (m (c.tc.loc main_arg1)) (m (c.tc.loc main_arg3)) i)) (?_ : ix2 r l = _))
  blk_point [idx t]

end Cert.AdamS

namespace Cert.AdamSRef

open Cert.Reference20Ideal Cert.Reference20Ideal.Gen
open Cert.Adam (mom vel step)
open Cert.AdamS (g1 s0 gB)
open Cert.HgrnRef (smE smE_at)
open Cert.HgrnValue (Is2)
open Cert.PoolValue (at2)
open Cert.RmsNorm (at2_of)

/-- The sum of the parts. -/
def gF (P : FVec Ideal S8x1x1024 .f32) : FVec Ideal S1x1024 .f32 :=
  Host.reduceAdd P (constant S_ .f32 0x00000000#32) reducesTo_S8x1x1024_S1x1024_d0 h_S_

/-- The sum at a lane. -/
theorem gF_at (P : FVec Ideal S8x1x1024 .f32) (l : Fin 1024) : (gF P (ix2 0 l) : EReal) = g1 P l := by
  rw [show g1 P l = ∑ d : Fin 8, (P (ix3 d 0 l) : EReal) by rw [Fin.sum_univ_eight]; rfl]
  pointwise [gF]

/-- The gradient with a row of zeros below it. -/
def dP (P : FVec Ideal S8x1x1024 .f32) : FVec Ideal S2x1024 .f32 :=
  pad S2x1024 ![0, 0] ![1, 0] ![0, 0] (gF P) (constant S_ .f32 0x00000000#32) pads_S1x1024_S2x1024_010_000 h_S_

/-- The running sum's pull-back. -/
def dV (P : FVec Ideal S8x1x1024 .f32) : FVec Ideal S2x1024 .f32 :=
  Host.reduceWindowAdd ![2, 1] ![1, 1] ![0, 0] ![1, 0] (dP P) (broadcastInDim S_ ![] bcast_S_S_ (constant S_ .f32 0x00000000#32)) reduceWindows_S2x1024_S2x1024_w2s1p0_1_w1s1p0_0 h_S_

/-- The padded gradient's rows. -/
theorem dP0 (P : FVec Ideal S8x1x1024 .f32) (l : Fin 1024) : (dP P (ix2 0 l) : EReal) = g1 P l := by
  rw [← gF_at]; pointwise [dP]

/-- The row of zeros. -/
theorem dP1 (P : FVec Ideal S8x1x1024 .f32) (l : Fin 1024) : (dP P (ix2 1 l) : EReal) = 0 := by
  pointwise [dP]

/-- A sum over a row and the next one leaves an array whose second row is zero. -/
theorem two_rows (h : (⟨2, ![2, 1024]⟩ : Shape).ReduceWindows ![2, 1] ![1, 1] ![0, 0] ![1, 0] ⟨2, ![2, 1024]⟩)
    (x : (⟨2, ![2, 1024]⟩ : Shape).Idx → EReal) (hx : ∀ l : Fin 1024, x (ix2 (1 : Fin 2) l) = 0) (r : Fin 2) (l : Fin 1024) :
    Ideal.hostReduceWindowAdd ![2, 1] ![1, 1] ![0, 0] ![1, 0] h x 0 (ix2 r l) = x (ix2 r l) := by
  rw [Cert.PoolMath.window_sum, zero_add, Finset.sum_eq_single (ix2 (0 : Fin 2) (0 : Fin 1) : (⟨2, ![2, 1]⟩ : Shape).Idx)]
  · rw [dif_pos]
    · congr 1
      funext b
      fin_cases b <;> apply Fin.ext <;> simp [ix2]
    · intro b
      have := r.isLt
      fin_cases b <;> simp [ix2] <;> omega
  · intro k _ hk
    have hk0 : (k 0).val ≠ 0 := fun e => hk <| by
      funext b
      fin_cases b
      · exact Fin.ext e
      · exact Subsingleton.elim (α := Fin 1) _ _
    split
    · rename_i hin
      refine (congrArg x ?_).trans (hx l)
      have h0 := (hin 0).2
      have h1 := (k 1).isLt
      funext b
      fin_cases b <;> apply Fin.ext <;> simp [ix2] at h0 h1 ⊢ <;> omega
    · rfl
  · intro h
    exact absurd (Finset.mem_univ _) h

/-- The pull-back's rows. -/
theorem dV_at (P : FVec Ideal S8x1x1024 .f32) (r : Fin 2) (l : Fin 1024) : (dV P (ix2 r l) : EReal) = dP P (ix2 r l) := by
  rw [dV, Cert.PoolRef.host_window ![2, 1] ![1, 1] ![0, 0] ![1, 0] (dP P) (broadcastInDim S_ ![] bcast_S_S_ (constant S_ .f32 0x00000000#32))
    reduceWindows_S2x1024_S2x1024_w2s1p0_1_w1s1p0_0 h_S_ 0 Ideal.ofBits_zero_f32]
  exact two_rows _ _ (dP1 P) r l

/-- The softmax's pull-back, of any cotangent and exponentials. -/
def gV (D E : FVec Ideal S2x1024 .f32) : FVec Ideal S2x1024 .f32 :=
  mulf (addf (Host.divf D (broadcastInDim S2x1024 ![0, 1] bcast_S1x1024_S2x1024_0_1 (broadcastInDim S1x1024 ![1] bcast_S1024_S1x1024_1 (Host.reduceAdd E (constant S_ .f32 0x00000000#32) reducesTo_S2x1024_S1024_d0 h_S_)))) (broadcastInDim S2x1024 ![1] bcast_S1024_S2x1024_1 (Host.reduceAdd (Host.negf (shapeCast _ (Host.reduceAdd (mulf (mulf D (broadcastInDim S2x1024 ![0, 1] bcast_S1x1024_S2x1024_0_1 (Host.divf (broadcastInDim S1x1024 ![] bcast_S_S1x1024 (constant S_ .f32 0x3F800000#32)) (mulf (broadcastInDim S1x1024 ![1] bcast_S1024_S1x1024_1 (Host.reduceAdd E (constant S_ .f32 0x00000000#32) reducesTo_S2x1024_S1024_d0 h_S_)) (broadcastInDim S1x1024 ![1] bcast_S1024_S1x1024_1 (Host.reduceAdd E (constant S_ .f32 0x00000000#32) reducesTo_S2x1024_S1024_d0 h_S_)))))) E) (constant S_ .f32 0x00000000#32) reducesTo_S2x1024_S1024_d0 h_S_) shapeCasts_S1024_S1x1024)) (constant S_ .f32 0x00000000#32) reducesTo_S1x1024_S1024_d0 h_S_))) E

/-- The pull-back at an index. -/
theorem gV_at (D E : FVec Ideal S2x1024 .f32) (r : Fin 2) (l : Fin 1024) :
    (gV D E (ix2 r l) : EReal) = (Ideal.div (D (ix2 r l)) (E (ix2 0 l) + E (ix2 1 l))
      + -(D (ix2 0 l) * Ideal.div (Ideal.ofBits .f32 0x3F800000#32) ((E (ix2 0 l) + E (ix2 1 l)) * (E (ix2 0 l) + E (ix2 1 l))) * E (ix2 0 l)
        + D (ix2 1 l) * Ideal.div (Ideal.ofBits .f32 0x3F800000#32) ((E (ix2 0 l) + E (ix2 1 l)) * (E (ix2 0 l) + E (ix2 1 l))) * E (ix2 1 l))) * E (ix2 r l) := by
  rw [← Fin.sum_univ_two fun x => E (ix2 x l)]
  pointwise [gV]
  simp only [Fin.sum_univ_two, Fin.sum_univ_one]

/-- The words of one and of minus one. -/
theorem word_neg : Ideal.ofBits .f32 0xBF800000#32 = ((-1 : ℝ) : EReal) := by
  have e1 : (0xBF800000#32).extractLsb' 31 1 = 1#1 := by decide
  have e2 : ((0xBF800000#32).extractLsb' 23 8).toNat = 127 := by decide
  have e3 : ((0xBF800000#32).extractLsb' 0 23).toNat = 0 := by decide
  simp [Ideal.ofBits, Ideal.ieee, e1, e2, e3]
  norm_num [← EReal.coe_mul]

/-- The plain gradient of the bounds is the kernel's, of finite parts and weights. -/
theorem gR_at {L : ℕ → ℕ → ℝ} (P : FVec Ideal S8x1x1024 .f32) (W : FVec Ideal S2x1024 .f32) (hL : Is2 W L)
    (hP : ∀ l, ∃ g : ℝ, g1 P l = g) (r : Fin 2) (l : Fin 1024) : (gV (dV P) (smE W) (ix2 r l) : EReal) = gB P W r l := by
  obtain ⟨g, hg⟩ := hP l
  obtain ⟨M, hM⟩ := smE_at W hL l
  have hM0 : smE W (ix2 0 l) = ((Real.exp (L 0 l - M) : ℝ) : EReal) := hM 0
  have hM1 : smE W (ix2 1 l) = ((Real.exp (L 0 l - M) * Real.exp (L 1 l - L 0 l) : ℝ) : EReal) := by
    rw [← Real.exp_add, show L 0 l - M + (L 1 l - L 0 l) = L 1 l - M by ring]; exact hM 1
  have h0 : W (ix2 0 l) = ((L 0 l : ℝ) : EReal) := hL 0 l
  have h1 : W (ix2 1 l) = ((L 1 l : ℝ) : EReal) := hL 1 l
  have hs : s0 W l = (((1 + Real.exp (L 1 l - L 0 l))⁻¹ : ℝ) : EReal) := by
    rw [s0, h0, h1, ← EReal.coe_sub, Ideal.exp_coe, NormMath.word_1, ← EReal.coe_add, Ideal.div_coe (by positivity), ← EReal.coe_mul, one_mul, one_div]
  have ha := Real.exp_pos (L 0 l - M)
  have hq := Real.exp_pos (L 1 l - L 0 l)
  rw [gV_at, gB, hs, hg, dV_at, dV_at, dV_at, dP0, dP1, hg, hM0, hM1, NormMath.word_1]
  generalize Real.exp (L 0 l - M) = a at *
  generalize Real.exp (L 1 l - L 0 l) = q at *
  fin_cases r
  · simp only [Fin.zero_eta, Fin.mk_one, dP0, hg, hM0, if_true, NormMath.word_1]
    simp only [zero_mul, add_zero, ← EReal.coe_add, ← EReal.coe_mul, ← EReal.coe_sub, Ideal.div_coe (show a + a * q ≠ 0 by positivity),
      Ideal.div_coe (show (a + a * q) * (a + a * q) ≠ 0 by positivity), ← EReal.coe_neg]
    congr 1
    field_simp
    ring
  · simp only [Fin.mk_one, dP1, hM1, word_neg, if_neg (show ¬ (1 : Fin 2) = 0 by decide)]
    simp only [← EReal.coe_zero, zero_mul, add_zero, ← EReal.coe_add, ← EReal.coe_mul, ← EReal.coe_sub, Ideal.div_coe (show a + a * q ≠ 0 by positivity),
      Ideal.div_coe (show (a + a * q) * (a + a * q) ≠ 0 by positivity), ← EReal.coe_neg]
    congr 1
    field_simp
    ring

/-- The plain first moment. -/
def momR {S : Shape} (h : S_.BroadcastsInDim S ![]) (A G : FVec Ideal S .f32) : FVec Ideal S .f32 :=
  addf (mulf (broadcastInDim S ![] h (constant S_ .f32 0x3F666666#32)) A) (mulf (broadcastInDim S ![] h (constant S_ .f32 0x3DCCCCCD#32)) G)

/-- The plain second moment. -/
def velR {S : Shape} (h : S_.BroadcastsInDim S ![]) (B G : FVec Ideal S .f32) : FVec Ideal S .f32 :=
  addf (mulf (broadcastInDim S ![] h (constant S_ .f32 0x3F7FBE77#32)) B) (mulf (broadcastInDim S ![] h (constant S_ .f32 0x3A83126F#32)) (mulf G G))

/-- The plain step. -/
def stepR {S : Shape} (h : S_.BroadcastsInDim S ![]) (W A B G : FVec Ideal S .f32) : FVec Ideal S .f32 :=
  mulf (broadcastInDim S ![] h (constant S_ .f32 0xBA83126F#32)) (addf (Host.divf (Host.divf (momR h A G) (broadcastInDim S ![] h (constant S_ .f32 0x3F26BD02#32))) (addf (Host.sqrt (Host.divf (velR h B G) (broadcastInDim S ![] h (constant S_ .f32 0x3C231ACC#32)))) (broadcastInDim S ![] h (constant S_ .f32 0x322BCC77#32)))) (mulf (broadcastInDim S ![] h (constant S_ .f32 0x3C23D70A#32)) W))

section

variable {S : Shape} (h : S_.BroadcastsInDim S ![]) (W A B : FVec Ideal S .f32) {G : FVec Ideal S .f32} {g : S.Idx → EReal}

/-- The plain first moment at an index. -/
theorem momR_at (hG : ∀ i, (G i : EReal) = g i) (i : S.Idx) : (momR h A G i : EReal) = mom (A i) (g i) := by
  rw [← hG]; rfl

/-- The plain second moment at an index. -/
theorem velR_at (hG : ∀ i, (G i : EReal) = g i) (i : S.Idx) : (velR h B G i : EReal) = vel (B i) (g i) := by
  rw [← hG]; rfl

/-- The plain step at an index. -/
theorem stepR_at (hG : ∀ i, (G i : EReal) = g i) (i : S.Idx) : (stepR h W A B G i : EReal) = step (W i) (A i) (B i) (g i) := by
  rw [← hG]; rfl

end

/-- The plain gradient of the scale. -/
theorem gF_all (P : FVec Ideal S8x1x1024 .f32) (i : S1x1024.Idx) : (gF P i : EReal) = Cert.AdamS.g1At P i := by
  obtain ⟨r, l, rfl⟩ : ∃ (r : Fin 1) (l : Fin 1024), i = ix2 r l := ⟨i 0, i 1, eq_ix2 i⟩
  obtain rfl : r = 0 := Subsingleton.elim _ _
  exact gF_at P l

/-- The plain gradient of the bounds, under the precondition. -/
theorem gR_all (x0 P : FVec Ideal S8x1x1024 .f32) (x2 x4 x6 : FVec Ideal S1x1024 .f32) (W x5 x7 : FVec Ideal S2x1024 .f32)
    (h : (Cert.Pre_finite20.fn (F := Ideal) x0 P x2 W x4 x5 x6 x7).1 = (fun _ => 1#1) ∧ (Cert.Pre_finite20.fn (F := Ideal) x0 P x2 W x4 x5 x6 x7).2 = (fun _ => 1#1))
    (i : S2x1024.Idx) : (gV (dV P) (smE W) i : EReal) = Cert.AdamS.gBAt P W i := by
  have hp : ∀ i, ∃ y : ℝ, P i = (y : EReal) := fun i => Cert.PoolRef.real_of_abs _ (Cert.PoolRef.below_top _ (congrFun h.1 i))
  have hw : ∀ i, ∃ y : ℝ, W i = (y : EReal) := fun i => Cert.PoolRef.real_of_abs _ (Cert.PoolRef.below_top _ (congrFun h.2 i))
  choose p hp using hp
  choose w hw using hw
  obtain ⟨r, l, rfl⟩ : ∃ (r : Fin 2) (l : Fin 1024), i = ix2 r l := ⟨i 0, i 1, eq_ix2 i⟩
  refine gR_at (L := fun r l => (at2 W r l).toReal) P W (fun r l => ?_) (fun l => ?_) r l
  · show W (ix2 r l) = (((at2 W r.val l.val).toReal : ℝ) : EReal)
    rw [at2_of W r l, hw, EReal.toReal_coe]
  · simp only [g1, hp, ← EReal.coe_add]
    exact ⟨_, rfl⟩

end Cert.AdamSRef

namespace Cert.Proof

/-- The plain step runs to the end and leaves the arguments unchanged. -/
theorem frameRef20 : Cert.quiescent_Reference20Ideal (hReference20Ideal := Cert.Reference20Ideal.Gen.facts) := by
  intro m g _
  exact (θ_run Cert.Reference20Ideal.defs _ _).mono
    (fun r h => ⟨fun c => (h c).2.2.2.2.2.2.2.2, sem_eq_zero_of_no_sems (by decide) r.2⟩)
    (Cert.Reference20Ideal.Value.run (F := Ideal) m g)

/-- The two named constants round to the words the kernel was written with. -/
theorem preserves20 : Cert.preserves_Kernel20_Kernel20Ideal :=
  ⟨IdealRules.named_const.statement Cert.Kernel20Ideal.κ "inv_bias1" .f32 0x3FC48605#32 (((5463681 / 8388608)⁻¹ : ℝ) : EReal) rfl,
    IdealRules.named_const.statement Cert.Kernel20Ideal.κ "inv_bias2" .f32 0x42C8E6D3#32 (((2672307 / 268435456)⁻¹ : ℝ) : EReal) rfl⟩

open Cert.AdamSRef Cert.Reference20Ideal.Gen

/-- The kernel's gradients, steps and moments are the plain ones, of finite parts and weight of the bounds. -/
theorem algebraic20 : Cert.algebraic_Kernel20Ideal_Reference20Ideal_pre_finite20
    (hKernel20Ideal := Cert.Kernel20Ideal.Gen.facts) (hReference20Ideal := Cert.Reference20Ideal.Gen.facts)
    (hPre_finite20 := Cert.Pre_finite20.Gen.facts) := by
  intro m g m' g' hpre hagree
  refine ⟨_, _, _, _, _, _, _, _, Cert.Kernel20Ideal.Value.run_blocks m g, ?_⟩
  refine (θ_run Cert.Reference20Ideal.defs _ _).mono (fun r h c => ?_) (Cert.Reference20Ideal.Value.run (F := Ideal) m' g')
  obtain ⟨h0, h1, h2, h3, h4, h5, h6, h7⟩ := hagree c
  obtain ⟨e0, e1, e2, e3, e4, e5, e6, e7, ha⟩ := h c
  have hF := gF_all (m (c.tc.loc Cert.Kernel20Ideal.main_arg0))
  have hB := gR_all _ _ _ _ _ _ _ _ (hpre c)
  rw [h0] at e0
  rw [h1, h3] at e1
  rw [h0, h2, h4, h6] at e2
  rw [Cert.Reference20Ideal.Value.res_main_v93, h1, h3, h5, h7] at e3
  rw [h0, h4] at e4
  rw [h1, h3, h5] at e5
  rw [h0, h6] at e6
  rw [Cert.Reference20Ideal.Value.res_main_v80, h1, h3, h7] at e7
  refine ⟨e0.trans ?_, e1.trans ?_, e2.trans ?_, e3.trans ?_, e4.trans ?_, e5.trans ?_, e6.trans ?_, e7.trans ?_, ha⟩
  · exact (funext hF).trans (AdamS.final8 m c).symm
  · exact (funext hB).trans (AdamS.final9 m c).symm
  · exact (funext (stepR_at bcast_S_S1x1024 _ _ _ hF)).trans (AdamS.final10 m c).symm
  · exact (funext (stepR_at bcast_S_S2x1024 _ _ _ hB)).trans (AdamS.final11 m c).symm
  · exact (funext (momR_at bcast_S_S1x1024 _ hF)).trans (AdamS.final12 m c).symm
  · exact (funext (momR_at bcast_S_S2x1024 _ hB)).trans (AdamS.final13 m c).symm
  · exact (funext (velR_at bcast_S_S1x1024 _ hF)).trans (AdamS.final14 m c).symm
  · exact (funext (velR_at bcast_S_S2x1024 _ hB)).trans (AdamS.final15 m c).symm

end Cert.Proof

end
-- ==== Proof.lean ====
/- The claims of the certificate, assembled. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Pre_finite2
public import proofs.«01_k».proof.Proof.Gen.Pre_finite3
public import proofs.«01_k».proof.Proof.Gen.Pre_finite4
public import proofs.«01_k».proof.Proof.Gen.Pre_finite5
public import proofs.«01_k».proof.Proof.Gen.Pre_finite6
public import proofs.«01_k».proof.Proof.Gen.Pre_finite7
public import proofs.«01_k».proof.Proof.Gen.Pre_finite8
public import proofs.«01_k».proof.Proof.Gen.Pre_finite9
public import proofs.«01_k».proof.Proof.Gen.Pre_finite16
public import proofs.«01_k».proof.Proof.Gen.Pre_finite20
public import proofs.«01_k».proof.Proof.Gen.Kernel9.Loops
public import proofs.«01_k».proof.Proof.Gen.Kernel9Ideal.Loops
public import proofs.«01_k».proof.Proof.Merge
public import proofs.«01_k».proof.Proof.Pool
public import proofs.«01_k».proof.Proof.PostEq
public import proofs.«01_k».proof.Proof.PleEq
public import proofs.«01_k».proof.Proof.PleNormEq
public import proofs.«01_k».proof.Proof.FfnNormEq
public import proofs.«01_k».proof.Proof.MixNormEq
public import proofs.«01_k».proof.Proof.MidEq
public import proofs.«01_k».proof.Proof.HgrnFrame
public import proofs.«01_k».proof.Proof.HgrnEq
public import proofs.«01_k».proof.Proof.MergeF
public import proofs.«01_k».proof.Proof.PostF
public import proofs.«01_k».proof.Proof.RmsF
public import proofs.«01_k».proof.Proof.DownF
public import proofs.«01_k».proof.Proof.WoutF
public import proofs.«01_k».proof.Proof.UpF
public import proofs.«01_k».proof.Proof.PoolF
public import proofs.«01_k».proof.Proof.WinF
public import proofs.«01_k».proof.Proof.WinB
public import proofs.«01_k».proof.Proof.Adam
public import proofs.«01_k».proof.Proof.AdamS

@[expose] public section

noncomputable section

namespace Cert.Proof

open Idealize.ShloMosaic Idealize.SL.Sem Cert.Kernel

/-- Every claim of the certificate. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Pre_finite2.Gen.facts,
  Cert.Pre_finite3.Gen.facts,
  Cert.Pre_finite4.Gen.facts,
  Cert.Pre_finite5.Gen.facts,
  Cert.Pre_finite6.Gen.facts,
  Cert.Pre_finite7.Gen.facts,
  Cert.Pre_finite8.Gen.facts,
  Cert.Pre_finite9.Gen.facts,
  Cert.Pre_finite16.Gen.facts,
  Cert.Pre_finite20.Gen.facts,
  fun m ρ _ => Cert.Kernel.Gen.frame m ρ,
  fun m ρ _ => Cert.KernelIdeal.Gen.frame m ρ,
  frameRef1,
  fun m ρ _ => Cert.Kernel2.Gen.frame m ρ,
  fun m ρ _ => Cert.Kernel2Ideal.Gen.frame m ρ,
  fun m ρ _ => Cert.Kernel2Ideal.Gen.frame m ρ,
  frameRef2,
  fun m ρ _ => frameRef2 m ρ trivial,
  fun m ρ _ => Cert.Kernel3.Gen.frame m ρ,
  fun m ρ _ => Cert.Kernel3Ideal.Gen.frame m ρ,
  fun m ρ _ => Cert.Kernel3Ideal.Gen.frame m ρ,
  frameRef3,
  fun m ρ _ => frameRef3 m ρ trivial,
  fun m ρ _ => Cert.Kernel4.Gen.frame m ρ,
  fun m ρ _ => Cert.Kernel4Ideal.Gen.frame m ρ,
  fun m ρ _ => Cert.Kernel4Ideal.Gen.frame m ρ,
  frameRef4,
  fun m ρ _ => frameRef4 m ρ trivial,
  fun m ρ _ => Cert.Kernel5.Gen.frame m ρ,
  fun m ρ _ => Cert.Kernel5Ideal.Gen.frame m ρ,
  fun m ρ _ => Cert.Kernel5Ideal.Gen.frame m ρ,
  frameRef5,
  fun m ρ _ => frameRef5 m ρ trivial,
  fun m ρ _ => Cert.Kernel6.Gen.frame m ρ,
  fun m ρ _ => Cert.Kernel6Ideal.Gen.frame m ρ,
  fun m ρ _ => Cert.Kernel6Ideal.Gen.frame m ρ,
  frameRef6,
  fun m ρ _ => frameRef6 m ρ trivial,
  fun m ρ _ => Cert.Kernel7.Gen.frame m ρ,
  fun m ρ _ => Cert.Kernel7Ideal.Gen.frame m ρ,
  fun m ρ _ => Cert.Kernel7Ideal.Gen.frame m ρ,
  frameRef7,
  fun m ρ _ => frameRef7 m ρ trivial,
  fun m ρ _ => Cert.Kernel8.Gen.frame m ρ,
  fun m ρ _ => Cert.Kernel8Ideal.Gen.frame m ρ,
  fun m ρ _ => Cert.Kernel8Ideal.Gen.frame m ρ,
  frameRef8,
  fun m ρ _ => frameRef8 m ρ trivial,
  fun m ρ _ => Cert.Kernel9.Hgrn.frame m ρ,
  fun m ρ _ => Cert.Kernel9Ideal.Hgrn.frame m ρ,
  fun m ρ _ => Cert.Kernel9Ideal.Hgrn.frame m ρ,
  frameRef9,
  fun m ρ _ => frameRef9 m ρ trivial,
  fun m ρ _ => Cert.Kernel10.Gen.frame m ρ,
  fun m ρ _ => Cert.Kernel10Ideal.Gen.frame m ρ,
  frameRef10,
  fun m ρ _ => Cert.Kernel11.Gen.frame m ρ,
  fun m ρ _ => Cert.Kernel11Ideal.Gen.frame m ρ,
  frameRef11,
  fun m ρ _ => Cert.Kernel12.Gen.frame m ρ,
  fun m ρ _ => Cert.Kernel12Ideal.Gen.frame m ρ,
  frameRef12,
  fun m ρ _ => Cert.Kernel13.Gen.frame m ρ,
  fun m ρ _ => Cert.Kernel13Ideal.Gen.frame m ρ,
  frameRef13,
  fun m ρ _ => Cert.Kernel14.Gen.frame m ρ,
  fun m ρ _ => Cert.Kernel14Ideal.Gen.frame m ρ,
  frameRef14,
  fun m ρ _ => Cert.Kernel15.Gen.frame m ρ,
  fun m ρ _ => Cert.Kernel15Ideal.Gen.frame m ρ,
  frameRef15,
  fun m ρ _ => Cert.Kernel16.Gen.frame m ρ,
  fun m ρ _ => Cert.Kernel16Ideal.Gen.frame m ρ,
  fun m ρ _ => Cert.Kernel16Ideal.Gen.frame m ρ,
  frameRef16,
  fun m ρ _ => frameRef16 m ρ trivial,
  fun m ρ _ => Cert.Kernel17.Gen.frame m ρ,
  fun m ρ _ => Cert.Kernel17Ideal.Gen.frame m ρ,
  frameRef17,
  fun m ρ _ => Cert.Kernel18.Gen.frame m ρ,
  fun m ρ _ => Cert.Kernel18Ideal.Gen.frame m ρ,
  frameRef18,
  fun m ρ _ => Cert.Kernel19.Gen.frame m ρ,
  fun m ρ _ => Cert.Kernel19Ideal.Gen.frame m ρ,
  frameRef19,
  fun m ρ _ => Cert.Kernel20.Gen.frame m ρ,
  fun m ρ _ => Cert.Kernel20Ideal.Gen.frame m ρ,
  fun m ρ _ => Cert.Kernel20Ideal.Gen.frame m ρ,
  frameRef20,
  fun m ρ _ => frameRef20 m ρ trivial,
  trivial,
  algebraic1,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  trivial,
  algebraic15,
  trivial,
  algebraic16,
  trivial,
  algebraic17,
  trivial,
  algebraic18,
  preserves19,
  algebraic19,
  preserves20,
  algebraic20⟩

end Cert.Proof

end
